-- ==== Defs.lean ====
def Pre_Whole (m : (ℓ : Loc Cert.Whole.nD Cert.Whole.τ Cert.Whole.sig) → Buf (Elt Bits) ℓ) : Prop :=
  True

def Pre_WholeIdeal (m : (ℓ : Loc Cert.WholeIdeal.nD Cert.WholeIdeal.τ Cert.WholeIdeal.sig) → Buf (Elt Ideal) ℓ) : Prop :=
  True

def Pre_WholeRefIdeal (m : (ℓ : Loc Cert.WholeRefIdeal.nD Cert.WholeRefIdeal.τ Cert.WholeRefIdeal.sig) → Buf (Elt Ideal) ℓ) : Prop :=
  True

def Pre_Stats (m : (ℓ : Loc Cert.Stats.nD Cert.Stats.τ Cert.Stats.sig) → Buf (Elt Bits) ℓ) : Prop :=
  True

def Pre_StatsIdeal (m : (ℓ : Loc Cert.StatsIdeal.nD Cert.StatsIdeal.τ Cert.StatsIdeal.sig) → Buf (Elt Ideal) ℓ) : Prop :=
  True

def Pre_StatsRefIdeal (m : (ℓ : Loc Cert.StatsRefIdeal.nD Cert.StatsRefIdeal.τ Cert.StatsRefIdeal.sig) → Buf (Elt Ideal) ℓ) : Prop :=
  True

def Pre_Dgrad (m : (ℓ : Loc Cert.Dgrad.nD Cert.Dgrad.τ Cert.Dgrad.sig) → Buf (Elt Bits) ℓ) : Prop :=
  True

def Pre_DgradIdeal (m : (ℓ : Loc Cert.DgradIdeal.nD Cert.DgradIdeal.τ Cert.DgradIdeal.sig) → Buf (Elt Ideal) ℓ) : Prop :=
  True

def Pre_DgradRefIdeal (m : (ℓ : Loc Cert.DgradRefIdeal.nD Cert.DgradRefIdeal.τ Cert.DgradRefIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def quiescent_Whole [hWhole : Cert.Whole.Facts] : Prop :=
  ∀ (m : (ℓ : Loc Cert.Whole.nD Cert.Whole.τ Cert.Whole.sig) → Buf (Elt Bits) ℓ) (g : Dev Cert.Whole.nD → PrngReg), Pre_Whole m →
    θ_run (Cert.Whole.defs (F := Bits)) (onTc (τ := Cert.Whole.τ) (Cert.Whole.main (F := Bits))) ⟨m, fun _ => 0, g⟩ (fun r => (∀ c : Dev Cert.Whole.nD,
      r.2.mem ((c.tc : Thread Cert.Whole.nD Cert.Whole.τ).loc Cert.Whole.main_arg0) = m ((c.tc : Thread Cert.Whole.nD Cert.Whole.τ).loc Cert.Whole.main_arg0)
      ∧ r.2.mem ((c.tc : Thread Cert.Whole.nD Cert.Whole.τ).loc Cert.Whole.main_arg1) = m ((c.tc : Thread Cert.Whole.nD Cert.Whole.τ).loc Cert.Whole.main_arg1)
      ∧ r.2.mem ((c.tc : Thread Cert.Whole.nD Cert.Whole.τ).loc Cert.Whole.main_arg2) = m ((c.tc : Thread Cert.Whole.nD Cert.Whole.τ).loc Cert.Whole.main_arg2)
      ∧ r.2.mem ((c.tc : Thread Cert.Whole.nD Cert.Whole.τ).loc Cert.Whole.main_arg3) = m ((c.tc : Thread Cert.Whole.nD Cert.Whole.τ).loc Cert.Whole.main_arg3)
      ∧ r.2.mem ((c.tc : Thread Cert.Whole.nD Cert.Whole.τ).loc Cert.Whole.main_arg4) = m ((c.tc : Thread Cert.Whole.nD Cert.Whole.τ).loc Cert.Whole.main_arg4))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4))
      ∧ r.2.sem = fun _ => 0)

def quiescent_WholeRefIdeal [hWholeRefIdeal : Cert.WholeRefIdeal.Facts] : Prop :=
  ∀ (m : (ℓ : Loc Cert.WholeRefIdeal.nD Cert.WholeRefIdeal.τ Cert.WholeRefIdeal.sig) → Buf (Elt Ideal) ℓ) (g : Dev Cert.WholeRefIdeal.nD → PrngReg), Pre_WholeRefIdeal m →
    θ_run (Cert.WholeRefIdeal.defs (F := Ideal)) (onTc (τ := Cert.WholeRefIdeal.τ) (Cert.WholeRefIdeal.main (F := Ideal))) ⟨m, fun _ => 0, g⟩ (fun r => (∀ c : Dev Cert.WholeRefIdeal.nD,
      r.2.mem ((c.tc : Thread Cert.WholeRefIdeal.nD Cert.WholeRefIdeal.τ).loc Cert.WholeRefIdeal.main_arg0) = m ((c.tc : Thread Cert.WholeRefIdeal.nD Cert.WholeRefIdeal.τ).loc Cert.WholeRefIdeal.main_arg0)
      ∧ r.2.mem ((c.tc : Thread Cert.WholeRefIdeal.nD Cert.WholeRefIdeal.τ).loc Cert.WholeRefIdeal.main_arg1) = m ((c.tc : Thread Cert.WholeRefIdeal.nD Cert.WholeRefIdeal.τ).loc Cert.WholeRefIdeal.main_arg1)
      ∧ r.2.mem ((c.tc : Thread Cert.WholeRefIdeal.nD Cert.WholeRefIdeal.τ).loc Cert.WholeRefIdeal.main_arg2) = m ((c.tc : Thread Cert.WholeRefIdeal.nD Cert.WholeRefIdeal.τ).loc Cert.WholeRefIdeal.main_arg2)
      ∧ r.2.mem ((c.tc : Thread Cert.WholeRefIdeal.nD Cert.WholeRefIdeal.τ).loc Cert.WholeRefIdeal.main_arg3) = m ((c.tc : Thread Cert.WholeRefIdeal.nD Cert.WholeRefIdeal.τ).loc Cert.WholeRefIdeal.main_arg3)
      ∧ r.2.mem ((c.tc : Thread Cert.WholeRefIdeal.nD Cert.WholeRefIdeal.τ).loc Cert.WholeRefIdeal.main_arg4) = m ((c.tc : Thread Cert.WholeRefIdeal.nD Cert.WholeRefIdeal.τ).loc Cert.WholeRefIdeal.main_arg4))
      ∧ r.2.sem = fun _ => 0)

def quiescent_Stats [hStats : Cert.Stats.Facts] : Prop :=
  ∀ (m : (ℓ : Loc Cert.Stats.nD Cert.Stats.τ Cert.Stats.sig) → Buf (Elt Bits) ℓ) (g : Dev Cert.Stats.nD → PrngReg), Pre_Stats m →
    θ_run (Cert.Stats.defs (F := Bits)) (onTc (τ := Cert.Stats.τ) (Cert.Stats.main (F := Bits))) ⟨m, fun _ => 0, g⟩ (fun r => (∀ c : Dev Cert.Stats.nD,
      r.2.mem ((c.tc : Thread Cert.Stats.nD Cert.Stats.τ).loc Cert.Stats.main_arg0) = m ((c.tc : Thread Cert.Stats.nD Cert.Stats.τ).loc Cert.Stats.main_arg0)
      ∧ r.2.mem ((c.tc : Thread Cert.Stats.nD Cert.Stats.τ).loc Cert.Stats.main_arg1) = m ((c.tc : Thread Cert.Stats.nD Cert.Stats.τ).loc Cert.Stats.main_arg1)
      ∧ r.2.mem ((c.tc : Thread Cert.Stats.nD Cert.Stats.τ).loc Cert.Stats.main_arg2) = m ((c.tc : Thread Cert.Stats.nD Cert.Stats.τ).loc Cert.Stats.main_arg2))
      ∧ r.2.sem = fun _ => 0)

def quiescent_StatsIdeal [hStatsIdeal : Cert.StatsIdeal.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
      ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
      ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2))
      ∧ r.2.sem = fun _ => 0)

def quiescent_StatsRefIdeal [hStatsRefIdeal : Cert.StatsRefIdeal.Facts] : Prop :=
  ∀ (m : (ℓ : Loc Cert.StatsRefIdeal.nD Cert.StatsRefIdeal.τ Cert.StatsRefIdeal.sig) → Buf (Elt Ideal) ℓ) (g : Dev Cert.StatsRefIdeal.nD → PrngReg), Pre_StatsRefIdeal m →
    θ_run (Cert.StatsRefIdeal.defs (F := Ideal)) (onTc (τ := Cert.StatsRefIdeal.τ) (Cert.StatsRefIdeal.main (F := Ideal))) ⟨m, fun _ => 0, g⟩ (fun r => (∀ c : Dev Cert.StatsRefIdeal.nD,
      r.2.mem ((c.tc : Thread Cert.StatsRefIdeal.nD Cert.StatsRefIdeal.τ).loc Cert.StatsRefIdeal.main_arg0) = m ((c.tc : Thread Cert.StatsRefIdeal.nD Cert.StatsRefIdeal.τ).loc Cert.StatsRefIdeal.main_arg0)
      ∧ r.2.mem ((c.tc : Thread Cert.StatsRefIdeal.nD Cert.StatsRefIdeal.τ).loc Cert.StatsRefIdeal.main_arg1) = m ((c.tc : Thread Cert.StatsRefIdeal.nD Cert.StatsRefIdeal.τ).loc Cert.StatsRefIdeal.main_arg1)
      ∧ r.2.mem ((c.tc : Thread Cert.StatsRefIdeal.nD Cert.StatsRefIdeal.τ).loc Cert.StatsRefIdeal.main_arg2) = m ((c.tc : Thread Cert.StatsRefIdeal.nD Cert.StatsRefIdeal.τ).loc Cert.StatsRefIdeal.main_arg2))
      ∧ r.2.sem = fun _ => 0)

def quiescent_Dgrad [hDgrad : Cert.Dgrad.Facts] : Prop :=
  ∀ (m : (ℓ : Loc Cert.Dgrad.nD Cert.Dgrad.τ Cert.Dgrad.sig) → Buf (Elt Bits) ℓ) (g : Dev Cert.Dgrad.nD → PrngReg), Pre_Dgrad m →
    θ_run (Cert.Dgrad.defs (F := Bits)) (onTc (τ := Cert.Dgrad.τ) (Cert.Dgrad.main (F := Bits))) ⟨m, fun _ => 0, g⟩ (fun r => (∀ c : Dev Cert.Dgrad.nD,
      r.2.mem ((c.tc : Thread Cert.Dgrad.nD Cert.Dgrad.τ).loc Cert.Dgrad.main_arg0) = m ((c.tc : Thread Cert.Dgrad.nD Cert.Dgrad.τ).loc Cert.Dgrad.main_arg0)
      ∧ r.2.mem ((c.tc : Thread Cert.Dgrad.nD Cert.Dgrad.τ).loc Cert.Dgrad.main_arg1) = m ((c.tc : Thread Cert.Dgrad.nD Cert.Dgrad.τ).loc Cert.Dgrad.main_arg1)
      ∧ r.2.mem ((c.tc : Thread Cert.Dgrad.nD Cert.Dgrad.τ).loc Cert.Dgrad.main_arg2) = m ((c.tc : Thread Cert.Dgrad.nD Cert.Dgrad.τ).loc Cert.Dgrad.main_arg2)
      ∧ r.2.mem ((c.tc : Thread Cert.Dgrad.nD Cert.Dgrad.τ).loc Cert.Dgrad.main_arg3) = m ((c.tc : Thread Cert.Dgrad.nD Cert.Dgrad.τ).loc Cert.Dgrad.main_arg3)
      ∧ r.2.mem ((c.tc : Thread Cert.Dgrad.nD Cert.Dgrad.τ).loc Cert.Dgrad.main_arg4) = m ((c.tc : Thread Cert.Dgrad.nD Cert.Dgrad.τ).loc Cert.Dgrad.main_arg4)
      ∧ r.2.mem ((c.tc : Thread Cert.Dgrad.nD Cert.Dgrad.τ).loc Cert.Dgrad.main_arg5) = m ((c.tc : Thread Cert.Dgrad.nD Cert.Dgrad.τ).loc Cert.Dgrad.main_arg5)
      ∧ r.2.mem ((c.tc : Thread Cert.Dgrad.nD Cert.Dgrad.τ).loc Cert.Dgrad.main_arg6) = m ((c.tc : Thread Cert.Dgrad.nD Cert.Dgrad.τ).loc Cert.Dgrad.main_arg6)
      ∧ r.2.mem ((c.tc : Thread Cert.Dgrad.nD Cert.Dgrad.τ).loc Cert.Dgrad.main_arg7) = m ((c.tc : Thread Cert.Dgrad.nD Cert.Dgrad.τ).loc Cert.Dgrad.main_arg7)
      ∧ r.2.mem ((c.tc : Thread Cert.Dgrad.nD Cert.Dgrad.τ).loc Cert.Dgrad.main_arg8) = m ((c.tc : Thread Cert.Dgrad.nD Cert.Dgrad.τ).loc Cert.Dgrad.main_arg8))
      ∧ r.2.sem = fun _ => 0)

def quiescent_DgradIdeal [hDgradIdeal : Cert.DgradIdeal.Facts] : Prop :=
  ∀ (m : (ℓ : Loc Cert.DgradIdeal.nD Cert.DgradIdeal.τ Cert.DgradIdeal.sig) → Buf (Elt Ideal) ℓ) (g : Dev Cert.DgradIdeal.nD → PrngReg), Pre_DgradIdeal m →
    θ_run (Cert.DgradIdeal.defs (F := Ideal)) (onTc (τ := Cert.DgradIdeal.τ) (Cert.DgradIdeal.main (F := Ideal))) ⟨m, fun _ => 0, g⟩ (fun r => (∀ c : Dev Cert.DgradIdeal.nD,
      r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
      ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1)
      ∧ r.2.mem ((c.tc : Thread Cert.DgradIdeal.nD Cert.DgradIdeal.τ).loc Cert.DgradIdeal.main_arg2) = m ((c.tc : Thread Cert.DgradIdeal.nD Cert.DgradIdeal.τ).loc Cert.DgradIdeal.main_arg2)
      ∧ r.2.mem ((c.tc : Thread Cert.DgradIdeal.nD Cert.DgradIdeal.τ).loc Cert.DgradIdeal.main_arg3) = m ((c.tc : Thread Cert.DgradIdeal.nD Cert.DgradIdeal.τ).loc Cert.DgradIdeal.main_arg3)
      ∧ r.2.mem ((c.tc : Thread Cert.DgradIdeal.nD Cert.DgradIdeal.τ).loc Cert.DgradIdeal.main_arg4) = m ((c.tc : Thread Cert.DgradIdeal.nD Cert.DgradIdeal.τ).loc Cert.DgradIdeal.main_arg4)
      ∧ r.2.mem ((c.tc : Thread Cert.DgradIdeal.nD Cert.DgradIdeal.τ).loc Cert.DgradIdeal.main_arg5) = m ((c.tc : Thread Cert.DgradIdeal.nD Cert.DgradIdeal.τ).loc Cert.DgradIdeal.main_arg5)
      ∧ r.2.mem ((c.tc : Thread Cert.DgradIdeal.nD Cert.DgradIdeal.τ).loc Cert.DgradIdeal.main_arg6) = m ((c.tc : Thread Cert.DgradIdeal.nD Cert.DgradIdeal.τ).loc Cert.DgradIdeal.main_arg6)
      ∧ r.2.mem ((c.tc : Thread Cert.DgradIdeal.nD Cert.DgradIdeal.τ).loc Cert.DgradIdeal.main_arg7) = m ((c.tc : Thread Cert.DgradIdeal.nD Cert.DgradIdeal.τ).loc Cert.DgradIdeal.main_arg7)
      ∧ r.2.mem ((c.tc : Thread Cert.DgradIdeal.nD Cert.DgradIdeal.τ).loc Cert.DgradIdeal.main_arg8) = m ((c.tc : Thread Cert.DgradIdeal.nD Cert.DgradIdeal.τ).loc Cert.DgradIdeal.main_arg8))
      ∧ r.2.sem = fun _ => 0)

def quiescent_DgradRefIdeal [hDgradRefIdeal : Cert.DgradRefIdeal.Facts] : Prop :=
  ∀ (m : (ℓ : Loc Cert.DgradRefIdeal.nD Cert.DgradRefIdeal.τ Cert.DgradRefIdeal.sig) → Buf (Elt Ideal) ℓ) (g : Dev Cert.DgradRefIdeal.nD → PrngReg), Pre_DgradRefIdeal m →
    θ_run (Cert.DgradRefIdeal.defs (F := Ideal)) (onTc (τ := Cert.DgradRefIdeal.τ) (Cert.DgradRefIdeal.main (F := Ideal))) ⟨m, fun _ => 0, g⟩ (fun r => (∀ c : Dev Cert.DgradRefIdeal.nD,
      r.2.mem ((c.tc : Thread Cert.DgradRefIdeal.nD Cert.DgradRefIdeal.τ).loc Cert.DgradRefIdeal.main_arg0) = m ((c.tc : Thread Cert.DgradRefIdeal.nD Cert.DgradRefIdeal.τ).loc Cert.DgradRefIdeal.main_arg0)
      ∧ r.2.mem ((c.tc : Thread Cert.DgradRefIdeal.nD Cert.DgradRefIdeal.τ).loc Cert.DgradRefIdeal.main_arg1) = m ((c.tc : Thread Cert.DgradRefIdeal.nD Cert.DgradRefIdeal.τ).loc Cert.DgradRefIdeal.main_arg1)
      ∧ r.2.mem ((c.tc : Thread Cert.DgradRefIdeal.nD Cert.DgradRefIdeal.τ).loc Cert.DgradRefIdeal.main_arg2) = m ((c.tc : Thread Cert.DgradRefIdeal.nD Cert.DgradRefIdeal.τ).loc Cert.DgradRefIdeal.main_arg2)
      ∧ r.2.mem ((c.tc : Thread Cert.DgradRefIdeal.nD Cert.DgradRefIdeal.τ).loc Cert.DgradRefIdeal.main_arg3) = m ((c.tc : Thread Cert.DgradRefIdeal.nD Cert.DgradRefIdeal.τ).loc Cert.DgradRefIdeal.main_arg3)
      ∧ r.2.mem ((c.tc : Thread Cert.DgradRefIdeal.nD Cert.DgradRefIdeal.τ).loc Cert.DgradRefIdeal.main_arg4) = m ((c.tc : Thread Cert.DgradRefIdeal.nD Cert.DgradRefIdeal.τ).loc Cert.DgradRefIdeal.main_arg4)
      ∧ r.2.mem ((c.tc : Thread Cert.DgradRefIdeal.nD Cert.DgradRefIdeal.τ).loc Cert.DgradRefIdeal.main_arg5) = m ((c.tc : Thread Cert.DgradRefIdeal.nD Cert.DgradRefIdeal.τ).loc Cert.DgradRefIdeal.main_arg5)
      ∧ r.2.mem ((c.tc : Thread Cert.DgradRefIdeal.nD Cert.DgradRefIdeal.τ).loc Cert.DgradRefIdeal.main_arg6) = m ((c.tc : Thread Cert.DgradRefIdeal.nD Cert.DgradRefIdeal.τ).loc Cert.DgradRefIdeal.main_arg6)
      ∧ r.2.mem ((c.tc : Thread Cert.DgradRefIdeal.nD Cert.DgradRefIdeal.τ).loc Cert.DgradRefIdeal.main_arg7) = m ((c.tc : Thread Cert.DgradRefIdeal.nD Cert.DgradRefIdeal.τ).loc Cert.DgradRefIdeal.main_arg7)
      ∧ r.2.mem ((c.tc : Thread Cert.DgradRefIdeal.nD Cert.DgradRefIdeal.τ).loc Cert.DgradRefIdeal.main_arg8) = m ((c.tc : Thread Cert.DgradRefIdeal.nD Cert.DgradRefIdeal.τ).loc Cert.DgradRefIdeal.main_arg8))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1)
      ∧ r.2.mem ((c.tc : Thread Cert.Wgrad.nD Cert.Wgrad.τ).loc Cert.Wgrad.main_arg2) = m ((c.tc : Thread Cert.Wgrad.nD Cert.Wgrad.τ).loc Cert.Wgrad.main_arg2)
      ∧ r.2.mem ((c.tc : Thread Cert.Wgrad.nD Cert.Wgrad.τ).loc Cert.Wgrad.main_arg3) = m ((c.tc : Thread Cert.Wgrad.nD Cert.Wgrad.τ).loc Cert.Wgrad.main_arg3))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
      ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1)
      ∧ r.2.mem ((c.tc : Thread Cert.WgradRefIdeal.nD Cert.WgradRefIdeal.τ).loc Cert.WgradRefIdeal.main_arg2) = m ((c.tc : Thread Cert.WgradRefIdeal.nD Cert.WgradRefIdeal.τ).loc Cert.WgradRefIdeal.main_arg2)
      ∧ r.2.mem ((c.tc : Thread Cert.WgradRefIdeal.nD Cert.WgradRefIdeal.τ).loc Cert.WgradRefIdeal.main_arg3) = m ((c.tc : Thread Cert.WgradRefIdeal.nD Cert.WgradRefIdeal.τ).loc Cert.WgradRefIdeal.main_arg3))
      ∧ r.2.sem = fun _ => 0)

def preserves_Whole_WholeIdeal : Prop :=
  True

def algebraic_WholeIdeal_WholeRefIdeal [hWholeIdeal : Cert.WholeIdeal.Facts] [hWholeRefIdeal : Cert.WholeRefIdeal.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeRefIdeal.nD Cert.WholeRefIdeal.τ Cert.WholeRefIdeal.sig) → Buf (Elt Ideal) ℓ) (g' : Dev Cert.WholeRefIdeal.nD → PrngReg), Pre_WholeIdeal m →
    (∀ c : Dev Cert.WholeIdeal.nD,
      m' ((c.tc : Thread Cert.WholeRefIdeal.nD Cert.WholeRefIdeal.τ).loc Cert.WholeRefIdeal.main_arg0) = m ((c.tc : Thread Cert.WholeIdeal.nD Cert.WholeIdeal.τ).loc Cert.WholeIdeal.main_arg0)
      ∧ m' ((c.tc : Thread Cert.WholeRefIdeal.nD Cert.WholeRefIdeal.τ).loc Cert.WholeRefIdeal.main_arg1) = m ((c.tc : Thread Cert.WholeIdeal.nD Cert.WholeIdeal.τ).loc Cert.WholeIdeal.main_arg1)
      ∧ m' ((c.tc : Thread Cert.WholeRefIdeal.nD Cert.WholeRefIdeal.τ).loc Cert.WholeRefIdeal.main_arg2) = m ((c.tc : Thread Cert.WholeIdeal.nD Cert.WholeIdeal.τ).loc Cert.WholeIdeal.main_arg2)
      ∧ m' ((c.tc : Thread Cert.WholeRefIdeal.nD Cert.WholeRefIdeal.τ).loc Cert.WholeRefIdeal.main_arg3) = m ((c.tc : Thread Cert.WholeIdeal.nD Cert.WholeIdeal.τ).loc Cert.WholeIdeal.main_arg3)
      ∧ m' ((c.tc : Thread Cert.WholeRefIdeal.nD Cert.WholeRefIdeal.τ).loc Cert.WholeRefIdeal.main_arg4) = m ((c.tc : Thread Cert.WholeIdeal.nD Cert.WholeIdeal.τ).loc Cert.WholeIdeal.main_arg4)) →
    ∃ (v0 : (c : Dev Cert.WholeIdeal.nD) → Buf (Elt Ideal) ((c.tc : Thread Cert.WholeIdeal.nD Cert.WholeIdeal.τ).loc Cert.WholeIdeal.main_v1_0)) (v1 : (c : Dev Cert.WholeIdeal.nD) → Buf (Elt Ideal) ((c.tc : Thread Cert.WholeIdeal.nD Cert.WholeIdeal.τ).loc Cert.WholeIdeal.main_v2)) (v2 : (c : Dev Cert.WholeIdeal.nD) → Buf (Elt Ideal) ((c.tc : Thread Cert.WholeIdeal.nD Cert.WholeIdeal.τ).loc Cert.WholeIdeal.main_v1_1)) (v3 : (c : Dev Cert.WholeIdeal.nD) → Buf (Elt Ideal) ((c.tc : Thread Cert.WholeIdeal.nD Cert.WholeIdeal.τ).loc Cert.WholeIdeal.main_v1_2)) (v4 : (c : Dev Cert.WholeIdeal.nD) → Buf (Elt Ideal) ((c.tc : Thread Cert.WholeIdeal.nD Cert.WholeIdeal.τ).loc Cert.WholeIdeal.main_v0_3)) (v5 : (c : Dev Cert.WholeIdeal.nD) → Buf (Elt Ideal) ((c.tc : Thread Cert.WholeIdeal.nD Cert.WholeIdeal.τ).loc Cert.WholeIdeal.main_v1_3)) (v6 : (c : Dev Cert.WholeIdeal.nD) → Buf (Elt Ideal) ((c.tc : Thread Cert.WholeIdeal.nD Cert.WholeIdeal.τ).loc Cert.WholeIdeal.main_v0_4)),
      θ_run (Cert.WholeIdeal.defs (F := Ideal)) (onTc (τ := Cert.WholeIdeal.τ) (Cert.WholeIdeal.main (F := Ideal))) ⟨m, fun _ => 0, g⟩ (fun r => ∀ c : Dev Cert.WholeIdeal.nD,
          r.2.mem ((c.tc : Thread Cert.WholeIdeal.nD Cert.WholeIdeal.τ).loc Cert.WholeIdeal.main_v1_0) = v0 c
          ∧ r.2.mem ((c.tc : Thread Cert.WholeIdeal.nD Cert.WholeIdeal.τ).loc Cert.WholeIdeal.main_v2) = v1 c
          ∧ r.2.mem ((c.tc : Thread Cert.WholeIdeal.nD Cert.WholeIdeal.τ).loc Cert.WholeIdeal.main_v1_1) = v2 c
          ∧ r.2.mem ((c.tc : Thread Cert.WholeIdeal.nD Cert.WholeIdeal.τ).loc Cert.WholeIdeal.main_v1_2) = v3 c
          ∧ r.2.mem ((c.tc : Thread Cert.WholeIdeal.nD Cert.WholeIdeal.τ).loc Cert.WholeIdeal.main_v0_3) = v4 c
          ∧ r.2.mem ((c.tc : Thread Cert.WholeIdeal.nD Cert.WholeIdeal.τ).loc Cert.WholeIdeal.main_v1_3) = v5 c
          ∧ r.2.mem ((c.tc : Thread Cert.WholeIdeal.nD Cert.WholeIdeal.τ).loc Cert.WholeIdeal.main_v0_4) = v6 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
          ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
          ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4))
      ∧ θ_run (Cert.WholeRefIdeal.defs (F := Ideal)) (onTc (τ := Cert.WholeRefIdeal.τ) (Cert.WholeRefIdeal.main (F := Ideal))) ⟨m', fun _ => 0, g'⟩ (fun r => ∀ c : Dev Cert.WholeRefIdeal.nD,
          r.2.mem ((c.tc : Thread Cert.WholeRefIdeal.nD Cert.WholeRefIdeal.τ).loc Cert.WholeRefIdeal.main_v0_0) = v0 c
          ∧ r.2.mem ((c.tc : Thread Cert.WholeRefIdeal.nD Cert.WholeRefIdeal.τ).loc Cert.WholeRefIdeal.main_v0_1) = v1 c
          ∧ r.2.mem ((c.tc : Thread Cert.WholeRefIdeal.nD Cert.WholeRefIdeal.τ).loc Cert.WholeRefIdeal.main_v0_2) = v2 c
          ∧ r.2.mem ((c.tc : Thread Cert.WholeRefIdeal.nD Cert.WholeRefIdeal.τ).loc Cert.WholeRefIdeal.main_v0_3) = v3 c
          ∧ r.2.mem ((c.tc : Thread Cert.WholeRefIdeal.nD Cert.WholeRefIdeal.τ).loc Cert.WholeRefIdeal.main_v0_4) = v4 c
          ∧ r.2.mem ((c.tc : Thread Cert.WholeRefIdeal.nD Cert.WholeRefIdeal.τ).loc Cert.WholeRefIdeal.main_v0_5) = v5 c
          ∧ r.2.mem ((c.tc : Thread Cert.WholeRefIdeal.nD Cert.WholeRefIdeal.τ).loc Cert.WholeRefIdeal.main_v0_6) = v6 c
          ∧ r.2.mem ((c.tc : Thread Cert.WholeRefIdeal.nD Cert.WholeRefIdeal.τ).loc Cert.WholeRefIdeal.main_arg0) = m' ((c.tc : Thread Cert.WholeRefIdeal.nD Cert.WholeRefIdeal.τ).loc Cert.WholeRefIdeal.main_arg0)
          ∧ r.2.mem ((c.tc : Thread Cert.WholeRefIdeal.nD Cert.WholeRefIdeal.τ).loc Cert.WholeRefIdeal.main_arg1) = m' ((c.tc : Thread Cert.WholeRefIdeal.nD Cert.WholeRefIdeal.τ).loc Cert.WholeRefIdeal.main_arg1)
          ∧ r.2.mem ((c.tc : Thread Cert.WholeRefIdeal.nD Cert.WholeRefIdeal.τ).loc Cert.WholeRefIdeal.main_arg2) = m' ((c.tc : Thread Cert.WholeRefIdeal.nD Cert.WholeRefIdeal.τ).loc Cert.WholeRefIdeal.main_arg2)
          ∧ r.2.mem ((c.tc : Thread Cert.WholeRefIdeal.nD Cert.WholeRefIdeal.τ).loc Cert.WholeRefIdeal.main_arg3) = m' ((c.tc : Thread Cert.WholeRefIdeal.nD Cert.WholeRefIdeal.τ).loc Cert.WholeRefIdeal.main_arg3)
          ∧ r.2.mem ((c.tc : Thread Cert.WholeRefIdeal.nD Cert.WholeRefIdeal.τ).loc Cert.WholeRefIdeal.main_arg4) = m' ((c.tc : Thread Cert.WholeRefIdeal.nD Cert.WholeRefIdeal.τ).loc Cert.WholeRefIdeal.main_arg4))

def preserves_Stats_StatsIdeal : Prop :=
  True

def algebraic_StatsIdeal_StatsRefIdeal [hStatsIdeal : Cert.StatsIdeal.Facts] [hStatsRefIdeal : Cert.StatsRefIdeal.Facts] : Prop :=
  ∀ (m : (ℓ : Loc Cert.StatsIdeal.nD Cert.StatsIdeal.τ Cert.StatsIdeal.sig) → Buf (Elt Ideal) ℓ) (g : Dev Cert.StatsIdeal.nD → PrngReg)
    (m' : (ℓ : Loc Cert.StatsRefIdeal.nD Cert.StatsRefIdeal.τ Cert.StatsRefIdeal.sig) → Buf (Elt Ideal) ℓ) (g' : Dev Cert.StatsRefIdeal.nD → PrngReg), Pre_StatsIdeal m →
    (∀ c : Dev Cert.StatsIdeal.nD,
      m' ((c.tc : Thread Cert.StatsRefIdeal.nD Cert.StatsRefIdeal.τ).loc Cert.StatsRefIdeal.main_arg0) = m ((c.tc : Thread Cert.StatsIdeal.nD Cert.StatsIdeal.τ).loc Cert.StatsIdeal.main_arg0)
      ∧ m' ((c.tc : Thread Cert.StatsRefIdeal.nD Cert.StatsRefIdeal.τ).loc Cert.StatsRefIdeal.main_arg1) = m ((c.tc : Thread Cert.StatsIdeal.nD Cert.StatsIdeal.τ).loc Cert.StatsIdeal.main_arg1)
      ∧ m' ((c.tc : Thread Cert.StatsRefIdeal.nD Cert.StatsRefIdeal.τ).loc Cert.StatsRefIdeal.main_arg2) = m ((c.tc : Thread Cert.StatsIdeal.nD Cert.StatsIdeal.τ).loc Cert.StatsIdeal.main_arg2)) →
    ∃ (v0 : (c : Dev Cert.StatsIdeal.nD) → Buf (Elt Ideal) ((c.tc : Thread Cert.StatsIdeal.nD Cert.StatsIdeal.τ).loc Cert.StatsIdeal.main_v0_0)) (v1 : (c : Dev Cert.StatsIdeal.nD) → Buf (Elt Ideal) ((c.tc : Thread Cert.StatsIdeal.nD Cert.StatsIdeal.τ).loc Cert.StatsIdeal.main_v0_1)) (v2 : (c : Dev Cert.StatsIdeal.nD) → Buf (Elt Ideal) ((c.tc : Thread Cert.StatsIdeal.nD Cert.StatsIdeal.τ).loc Cert.StatsIdeal.main_v0_2)) (v3 : (c : Dev Cert.StatsIdeal.nD) → Buf (Elt Ideal) ((c.tc : Thread Cert.StatsIdeal.nD Cert.StatsIdeal.τ).loc Cert.StatsIdeal.main_v0_3)) (v4 : (c : Dev Cert.StatsIdeal.nD) → Buf (Elt Ideal) ((c.tc : Thread Cert.StatsIdeal.nD Cert.StatsIdeal.τ).loc Cert.StatsIdeal.main_v0_4)),
      θ_run (Cert.StatsIdeal.defs (F := Ideal)) (onTc (τ := Cert.StatsIdeal.τ) (Cert.StatsIdeal.main (F := Ideal))) ⟨m, fun _ => 0, g⟩ (fun r => ∀ c : Dev Cert.StatsIdeal.nD,
          r.2.mem ((c.tc : Thread Cert.StatsIdeal.nD Cert.StatsIdeal.τ).loc Cert.StatsIdeal.main_v0_0) = v0 c
          ∧ r.2.mem ((c.tc : Thread Cert.StatsIdeal.nD Cert.StatsIdeal.τ).loc Cert.StatsIdeal.main_v0_1) = v1 c
          ∧ r.2.mem ((c.tc : Thread Cert.StatsIdeal.nD Cert.StatsIdeal.τ).loc Cert.StatsIdeal.main_v0_2) = v2 c
          ∧ r.2.mem ((c.tc : Thread Cert.StatsIdeal.nD Cert.StatsIdeal.τ).loc Cert.StatsIdeal.main_v0_3) = v3 c
          ∧ r.2.mem ((c.tc : Thread Cert.StatsIdeal.nD Cert.StatsIdeal.τ).loc Cert.StatsIdeal.main_v0_4) = v4 c
          ∧ r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
          ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
          ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2))
      ∧ θ_run (Cert.StatsRefIdeal.defs (F := Ideal)) (onTc (τ := Cert.StatsRefIdeal.τ) (Cert.StatsRefIdeal.main (F := Ideal))) ⟨m', fun _ => 0, g'⟩ (fun r => ∀ c : Dev Cert.StatsRefIdeal.nD,
          r.2.mem ((c.tc : Thread Cert.StatsRefIdeal.nD Cert.StatsRefIdeal.τ).loc Cert.StatsRefIdeal.main_v0_0) = v0 c
          ∧ r.2.mem ((c.tc : Thread Cert.StatsRefIdeal.nD Cert.StatsRefIdeal.τ).loc Cert.StatsRefIdeal.main_v0_1) = v1 c
          ∧ r.2.mem ((c.tc : Thread Cert.StatsRefIdeal.nD Cert.StatsRefIdeal.τ).loc Cert.StatsRefIdeal.main_v0_2) = v2 c
          ∧ r.2.mem ((c.tc : Thread Cert.StatsRefIdeal.nD Cert.StatsRefIdeal.τ).loc Cert.StatsRefIdeal.main_v0_3) = v3 c
          ∧ r.2.mem ((c.tc : Thread Cert.StatsRefIdeal.nD Cert.StatsRefIdeal.τ).loc Cert.StatsRefIdeal.main_v0_4) = v4 c
          ∧ r.2.mem ((c.tc : Thread Cert.StatsRefIdeal.nD Cert.StatsRefIdeal.τ).loc Cert.StatsRefIdeal.main_arg0) = m' ((c.tc : Thread Cert.StatsRefIdeal.nD Cert.StatsRefIdeal.τ).loc Cert.StatsRefIdeal.main_arg0)
          ∧ r.2.mem ((c.tc : Thread Cert.StatsRefIdeal.nD Cert.StatsRefIdeal.τ).loc Cert.StatsRefIdeal.main_arg1) = m' ((c.tc : Thread Cert.StatsRefIdeal.nD Cert.StatsRefIdeal.τ).loc Cert.StatsRefIdeal.main_arg1)
          ∧ r.2.mem ((c.tc : Thread Cert.StatsRefIdeal.nD Cert.StatsRefIdeal.τ).loc Cert.StatsRefIdeal.main_arg2) = m' ((c.tc : Thread Cert.StatsRefIdeal.nD Cert.StatsRefIdeal.τ).loc Cert.StatsRefIdeal.main_arg2))

def preserves_Dgrad_DgradIdeal : Prop :=
  True

def algebraic_DgradIdeal_DgradRefIdeal [hDgradIdeal : Cert.DgradIdeal.Facts] [hDgradRefIdeal : Cert.DgradRefIdeal.Facts] : Prop :=
  ∀ (m : (ℓ : Loc Cert.DgradIdeal.nD Cert.DgradIdeal.τ Cert.DgradIdeal.sig) → Buf (Elt Ideal) ℓ) (g : Dev Cert.DgradIdeal.nD → PrngReg)
    (m' : (ℓ : Loc Cert.DgradRefIdeal.nD Cert.DgradRefIdeal.τ Cert.DgradRefIdeal.sig) → Buf (Elt Ideal) ℓ) (g' : Dev Cert.DgradRefIdeal.nD → PrngReg), Pre_DgradIdeal m →
    (∀ c : Dev Cert.DgradIdeal.nD,
      m' ((c.tc : Thread Cert.DgradRefIdeal.nD Cert.DgradRefIdeal.τ).loc Cert.DgradRefIdeal.main_arg0) = m ((c.tc : Thread Cert.DgradIdeal.nD Cert.DgradIdeal.τ).loc Cert.DgradIdeal.main_arg0)
      ∧ m' ((c.tc : Thread Cert.DgradRefIdeal.nD Cert.DgradRefIdeal.τ).loc Cert.DgradRefIdeal.main_arg1) = m ((c.tc : Thread Cert.DgradIdeal.nD Cert.DgradIdeal.τ).loc Cert.DgradIdeal.main_arg1)
      ∧ m' ((c.tc : Thread Cert.DgradRefIdeal.nD Cert.DgradRefIdeal.τ).loc Cert.DgradRefIdeal.main_arg2) = m ((c.tc : Thread Cert.DgradIdeal.nD Cert.DgradIdeal.τ).loc Cert.DgradIdeal.main_arg2)
      ∧ m' ((c.tc : Thread Cert.DgradRefIdeal.nD Cert.DgradRefIdeal.τ).loc Cert.DgradRefIdeal.main_arg3) = m ((c.tc : Thread Cert.DgradIdeal.nD Cert.DgradIdeal.τ).loc Cert.DgradIdeal.main_arg3)
      ∧ m' ((c.tc : Thread Cert.DgradRefIdeal.nD Cert.DgradRefIdeal.τ).loc Cert.DgradRefIdeal.main_arg4) = m ((c.tc : Thread Cert.DgradIdeal.nD Cert.DgradIdeal.τ).loc Cert.DgradIdeal.main_arg4)
      ∧ m' ((c.tc : Thread Cert.DgradRefIdeal.nD Cert.DgradRefIdeal.τ).loc Cert.DgradRefIdeal.main_arg5) = m ((c.tc : Thread Cert.DgradIdeal.nD Cert.DgradIdeal.τ).loc Cert.DgradIdeal.main_arg5)
      ∧ m' ((c.tc : Thread Cert.DgradRefIdeal.nD Cert.DgradRefIdeal.τ).loc Cert.DgradRefIdeal.main_arg6) = m ((c.tc : Thread Cert.DgradIdeal.nD Cert.DgradIdeal.τ).loc Cert.DgradIdeal.main_arg6)
      ∧ m' ((c.tc : Thread Cert.DgradRefIdeal.nD Cert.DgradRefIdeal.τ).loc Cert.DgradRefIdeal.main_arg7) = m ((c.tc : Thread Cert.DgradIdeal.nD Cert.DgradIdeal.τ).loc Cert.DgradIdeal.main_arg7)
      ∧ m' ((c.tc : Thread Cert.DgradRefIdeal.nD Cert.DgradRefIdeal.τ).loc Cert.DgradRefIdeal.main_arg8) = m ((c.tc : Thread Cert.DgradIdeal.nD Cert.DgradIdeal.τ).loc Cert.DgradIdeal.main_arg8)) →
    ∃ (v0 : (c : Dev Cert.DgradIdeal.nD) → Buf (Elt Ideal) ((c.tc : Thread Cert.DgradIdeal.nD Cert.DgradIdeal.τ).loc Cert.DgradIdeal.main_v0_0)) (v1 : (c : Dev Cert.DgradIdeal.nD) → Buf (Elt Ideal) ((c.tc : Thread Cert.DgradIdeal.nD Cert.DgradIdeal.τ).loc Cert.DgradIdeal.main_v0_1)) (v2 : (c : Dev Cert.DgradIdeal.nD) → Buf (Elt Ideal) ((c.tc : Thread Cert.DgradIdeal.nD Cert.DgradIdeal.τ).loc Cert.DgradIdeal.main_v0_2)) (v3 : (c : Dev Cert.DgradIdeal.nD) → Buf (Elt Ideal) ((c.tc : Thread Cert.DgradIdeal.nD Cert.DgradIdeal.τ).loc Cert.DgradIdeal.main_v0_3)),
      θ_run (Cert.DgradIdeal.defs (F := Ideal)) (onTc (τ := Cert.DgradIdeal.τ) (Cert.DgradIdeal.main (F := Ideal))) ⟨m, fun _ => 0, g⟩ (fun r => ∀ c : Dev Cert.DgradIdeal.nD,
          r.2.mem ((c.tc : Thread Cert.DgradIdeal.nD Cert.DgradIdeal.τ).loc Cert.DgradIdeal.main_v0_0) = v0 c
          ∧ r.2.mem ((c.tc : Thread Cert.DgradIdeal.nD Cert.DgradIdeal.τ).loc Cert.DgradIdeal.main_v0_1) = v1 c
          ∧ r.2.mem ((c.tc : Thread Cert.DgradIdeal.nD Cert.DgradIdeal.τ).loc Cert.DgradIdeal.main_v0_2) = v2 c
          ∧ r.2.mem ((c.tc : Thread Cert.DgradIdeal.nD Cert.DgradIdeal.τ).loc Cert.DgradIdeal.main_v0_3) = v3 c
          ∧ r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
          ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1)
          ∧ r.2.mem ((c.tc : Thread Cert.DgradIdeal.nD Cert.DgradIdeal.τ).loc Cert.DgradIdeal.main_arg2) = m ((c.tc : Thread Cert.DgradIdeal.nD Cert.DgradIdeal.τ).loc Cert.DgradIdeal.main_arg2)
          ∧ r.2.mem ((c.tc : Thread Cert.DgradIdeal.nD Cert.DgradIdeal.τ).loc Cert.DgradIdeal.main_arg3) = m ((c.tc : Thread Cert.DgradIdeal.nD Cert.DgradIdeal.τ).loc Cert.DgradIdeal.main_arg3)
          ∧ r.2.mem ((c.tc : Thread Cert.DgradIdeal.nD Cert.DgradIdeal.τ).loc Cert.DgradIdeal.main_arg4) = m ((c.tc : Thread Cert.DgradIdeal.nD Cert.DgradIdeal.τ).loc Cert.DgradIdeal.main_arg4)
          ∧ r.2.mem ((c.tc : Thread Cert.DgradIdeal.nD Cert.DgradIdeal.τ).loc Cert.DgradIdeal.main_arg5) = m ((c.tc : Thread Cert.DgradIdeal.nD Cert.DgradIdeal.τ).loc Cert.DgradIdeal.main_arg5)
          ∧ r.2.mem ((c.tc : Thread Cert.DgradIdeal.nD Cert.DgradIdeal.τ).loc Cert.DgradIdeal.main_arg6) = m ((c.tc : Thread Cert.DgradIdeal.nD Cert.DgradIdeal.τ).loc Cert.DgradIdeal.main_arg6)
          ∧ r.2.mem ((c.tc : Thread Cert.DgradIdeal.nD Cert.DgradIdeal.τ).loc Cert.DgradIdeal.main_arg7) = m ((c.tc : Thread Cert.DgradIdeal.nD Cert.DgradIdeal.τ).loc Cert.DgradIdeal.main_arg7)
          ∧ r.2.mem ((c.tc : Thread Cert.DgradIdeal.nD Cert.DgradIdeal.τ).loc Cert.DgradIdeal.main_arg8) = m ((c.tc : Thread Cert.DgradIdeal.nD Cert.DgradIdeal.τ).loc Cert.DgradIdeal.main_arg8))
      ∧ θ_run (Cert.DgradRefIdeal.defs (F := Ideal)) (onTc (τ := Cert.DgradRefIdeal.τ) (Cert.DgradRefIdeal.main (F := Ideal))) ⟨m', fun _ => 0, g'⟩ (fun r => ∀ c : Dev Cert.DgradRefIdeal.nD,
          r.2.mem ((c.tc : Thread Cert.DgradRefIdeal.nD Cert.DgradRefIdeal.τ).loc Cert.DgradRefIdeal.main_v0_0) = v0 c
          ∧ r.2.mem ((c.tc : Thread Cert.DgradRefIdeal.nD Cert.DgradRefIdeal.τ).loc Cert.DgradRefIdeal.main_v0_1) = v1 c
          ∧ r.2.mem ((c.tc : Thread Cert.DgradRefIdeal.nD Cert.DgradRefIdeal.τ).loc Cert.DgradRefIdeal.main_v0_2) = v2 c
          ∧ r.2.mem ((c.tc : Thread Cert.DgradRefIdeal.nD Cert.DgradRefIdeal.τ).loc Cert.DgradRefIdeal.main_v0_3) = v3 c
          ∧ r.2.mem ((c.tc : Thread Cert.DgradRefIdeal.nD Cert.DgradRefIdeal.τ).loc Cert.DgradRefIdeal.main_arg0) = m' ((c.tc : Thread Cert.DgradRefIdeal.nD Cert.DgradRefIdeal.τ).loc Cert.DgradRefIdeal.main_arg0)
          ∧ r.2.mem ((c.tc : Thread Cert.DgradRefIdeal.nD Cert.DgradRefIdeal.τ).loc Cert.DgradRefIdeal.main_arg1) = m' ((c.tc : Thread Cert.DgradRefIdeal.nD Cert.DgradRefIdeal.τ).loc Cert.DgradRefIdeal.main_arg1)
          ∧ r.2.mem ((c.tc : Thread Cert.DgradRefIdeal.nD Cert.DgradRefIdeal.τ).loc Cert.DgradRefIdeal.main_arg2) = m' ((c.tc : Thread Cert.DgradRefIdeal.nD Cert.DgradRefIdeal.τ).loc Cert.DgradRefIdeal.main_arg2)
          ∧ r.2.mem ((c.tc : Thread Cert.DgradRefIdeal.nD Cert.DgradRefIdeal.τ).loc Cert.DgradRefIdeal.main_arg3) = m' ((c.tc : Thread Cert.DgradRefIdeal.nD Cert.DgradRefIdeal.τ).loc Cert.DgradRefIdeal.main_arg3)
          ∧ r.2.mem ((c.tc : Thread Cert.DgradRefIdeal.nD Cert.DgradRefIdeal.τ).loc Cert.DgradRefIdeal.main_arg4) = m' ((c.tc : Thread Cert.DgradRefIdeal.nD Cert.DgradRefIdeal.τ).loc Cert.DgradRefIdeal.main_arg4)
          ∧ r.2.mem ((c.tc : Thread Cert.DgradRefIdeal.nD Cert.DgradRefIdeal.τ).loc Cert.DgradRefIdeal.main_arg5) = m' ((c.tc : Thread Cert.DgradRefIdeal.nD Cert.DgradRefIdeal.τ).loc Cert.DgradRefIdeal.main_arg5)
          ∧ r.2.mem ((c.tc : Thread Cert.DgradRefIdeal.nD Cert.DgradRefIdeal.τ).loc Cert.DgradRefIdeal.main_arg6) = m' ((c.tc : Thread Cert.DgradRefIdeal.nD Cert.DgradRefIdeal.τ).loc Cert.DgradRefIdeal.main_arg6)
          ∧ r.2.mem ((c.tc : Thread Cert.DgradRefIdeal.nD Cert.DgradRefIdeal.τ).loc Cert.DgradRefIdeal.main_arg7) = m' ((c.tc : Thread Cert.DgradRefIdeal.nD Cert.DgradRefIdeal.τ).loc Cert.DgradRefIdeal.main_arg7)
          ∧ r.2.mem ((c.tc : Thread Cert.DgradRefIdeal.nD Cert.DgradRefIdeal.τ).loc Cert.DgradRefIdeal.main_arg8) = m' ((c.tc : Thread Cert.DgradRefIdeal.nD Cert.DgradRefIdeal.τ).loc Cert.DgradRefIdeal.main_arg8))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)
      ∧ m' ((c.tc : Thread Cert.WgradRefIdeal.nD Cert.WgradRefIdeal.τ).loc Cert.WgradRefIdeal.main_arg2) = m ((c.tc : Thread Cert.WgradIdeal.nD Cert.WgradIdeal.τ).loc Cert.WgradIdeal.main_arg2)
      ∧ m' ((c.tc : Thread Cert.WgradRefIdeal.nD Cert.WgradRefIdeal.τ).loc Cert.WgradRefIdeal.main_arg3) = m ((c.tc : Thread Cert.WgradIdeal.nD Cert.WgradIdeal.τ).loc Cert.WgradIdeal.main_arg3)) →
    ∃ (v0 : (c : Dev Cert.WgradIdeal.nD) → Buf (Elt Ideal) ((c.tc : Thread Cert.WgradIdeal.nD Cert.WgradIdeal.τ).loc Cert.WgradIdeal.main_v0)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v0) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
          ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
          ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v0) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1)
          ∧ r.2.mem ((c.tc : Thread Cert.WgradRefIdeal.nD Cert.WgradRefIdeal.τ).loc Cert.WgradRefIdeal.main_arg2) = m' ((c.tc : Thread Cert.WgradRefIdeal.nD Cert.WgradRefIdeal.τ).loc Cert.WgradRefIdeal.main_arg2)
          ∧ r.2.mem ((c.tc : Thread Cert.WgradRefIdeal.nD Cert.WgradRefIdeal.τ).loc Cert.WgradRefIdeal.main_arg3) = m' ((c.tc : Thread Cert.WgradRefIdeal.nD Cert.WgradRefIdeal.τ).loc Cert.WgradRefIdeal.main_arg3))

def Claim : Prop :=
  ∃ (hWhole : Cert.Whole.Facts) (hWholeIdeal : Cert.WholeIdeal.Facts) (hWholeRefIdeal : Cert.WholeRefIdeal.Facts) (hStats : Cert.Stats.Facts) (hStatsIdeal : Cert.StatsIdeal.Facts) (hStatsRefIdeal : Cert.StatsRefIdeal.Facts) (hDgrad : Cert.Dgrad.Facts) (hDgradIdeal : Cert.DgradIdeal.Facts) (hDgradRefIdeal : Cert.DgradRefIdeal.Facts) (hWgrad : Cert.Wgrad.Facts) (hWgradIdeal : Cert.WgradIdeal.Facts) (hWgradRefIdeal : Cert.WgradRefIdeal.Facts),
    quiescent_Whole (hWhole := hWhole)
    ∧ quiescent_WholeIdeal (hWholeIdeal := hWholeIdeal)
    ∧ quiescent_WholeRefIdeal (hWholeRefIdeal := hWholeRefIdeal)
    ∧ quiescent_Stats (hStats := hStats)
    ∧ quiescent_StatsIdeal (hStatsIdeal := hStatsIdeal)
    ∧ quiescent_StatsRefIdeal (hStatsRefIdeal := hStatsRefIdeal)
    ∧ quiescent_Dgrad (hDgrad := hDgrad)
    ∧ quiescent_DgradIdeal (hDgradIdeal := hDgradIdeal)
    ∧ quiescent_DgradRefIdeal (hDgradRefIdeal := hDgradRefIdeal)
    ∧ quiescent_Wgrad (hWgrad := hWgrad)
    ∧ quiescent_WgradIdeal (hWgradIdeal := hWgradIdeal)
    ∧ quiescent_WgradRefIdeal (hWgradRefIdeal := hWgradRefIdeal)
    ∧ preserves_Whole_WholeIdeal
    ∧ algebraic_WholeIdeal_WholeRefIdeal (hWholeIdeal := hWholeIdeal) (hWholeRefIdeal := hWholeRefIdeal)
    ∧ preserves_Stats_StatsIdeal
    ∧ algebraic_StatsIdeal_StatsRefIdeal (hStatsIdeal := hStatsIdeal) (hStatsRefIdeal := hStatsRefIdeal)
    ∧ preserves_Dgrad_DgradIdeal
    ∧ algebraic_DgradIdeal_DgradRefIdeal (hDgradIdeal := hDgradIdeal) (hDgradRefIdeal := hDgradRefIdeal)
    ∧ preserves_Wgrad_WgradIdeal
    ∧ algebraic_WgradIdeal_WgradRefIdeal (hWgradIdeal := hWgradIdeal) (hWgradRefIdeal := hWgradRefIdeal)
-- ==== Whole.lean ====
abbrev S1536x7168 : Shape := ⟨2, ![1536, 7168]⟩
abbrev S1x7168 : Shape := ⟨2, ![1, 7168]⟩
abbrev S1 : Shape := ⟨1, ![1]⟩
abbrev S7168x2304 : Shape := ⟨2, ![7168, 2304]⟩
abbrev S1536x2304 : Shape := ⟨2, ![1536, 2304]⟩
abbrev S1536x128 : Shape := ⟨2, ![1536, 128]⟩
abbrev S256x7168 : Shape := ⟨2, ![256, 7168]⟩
abbrev S256x2304 : Shape := ⟨2, ![256, 2304]⟩
abbrev S256x128 : Shape := ⟨2, ![256, 128]⟩
abbrev S8x7168 : Shape := ⟨2, ![8, 7168]⟩
abbrev S8x2304 : Shape := ⟨2, ![8, 2304]⟩
abbrev S16x7168 : Shape := ⟨2, ![16, 7168]⟩
abbrev S16 : Shape := ⟨1, ![16]⟩
abbrev S16x1 : Shape := ⟨2, ![16, 1]⟩
abbrev S16x128 : Shape := ⟨2, ![16, 128]⟩
abbrev S16x2304 : Shape := ⟨2, ![16, 2304]⟩
abbrev S1x8x7168 : Shape := ⟨3, ![1, 8, 7168]⟩
abbrev S1x1x1 : Shape := ⟨3, ![1, 1, 1]⟩
abbrev S1x8x2304 : Shape := ⟨3, ![1, 8, 2304]⟩
abbrev S8x128 : Shape := ⟨2, ![8, 128]⟩
abbrev S1x8x128 : Shape := ⟨3, ![1, 8, 128]⟩
abbrev S1x1 : Shape := ⟨2, ![1, 1]⟩
abbrev S256x1 : Shape := ⟨2, ![256, 1]⟩
abbrev S512x2304 : Shape := ⟨2, ![512, 2304]⟩
abbrev S256x512 : Shape := ⟨2, ![256, 512]⟩
abbrev S1x512 : Shape := ⟨2, ![1, 512]⟩
abbrev S8x512 : Shape := ⟨2, ![8, 512]⟩
abbrev S32x8x512 : Shape := ⟨3, ![32, 8, 512]⟩
abbrev S256 : Shape := ⟨1, ![256]⟩
abbrev S7168 : Shape := ⟨1, ![7168]⟩
abbrev S1536x256 : Shape := ⟨2, ![1536, 256]⟩

abbrev nBuf : Space → Nat
  | .hbm => 15
  | .vmem => 31
  | .smem => 10
  | _ => 0

abbrev bufTy : (tb : Table) → Fin (tcTables nBuf tb) → BufTy
  | .hbm, ⟨0, _⟩ => ⟨S1536x7168, .bf16⟩
  | .hbm, ⟨1, _⟩ => ⟨S1x7168, .f32⟩
  | .hbm, ⟨2, _⟩ => ⟨S1, .f32⟩
  | .hbm, ⟨3, _⟩ => ⟨S7168x2304, .fp8e4m3⟩
  | .hbm, ⟨4, _⟩ => ⟨S1536x2304, .bf16⟩
  | .hbm, ⟨5, _⟩ => ⟨S1536x128, .f32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S1536x7168, .bf16⟩
  | .hbm, ⟨11, _⟩ => ⟨S1x7168, .f32⟩
  | .hbm, ⟨12, _⟩ => ⟨S1536x7168, .fp8e4m3⟩
  | .hbm, ⟨13, _⟩ => ⟨S1536x2304, .fp8e5m2⟩
  | .hbm, ⟨14, _⟩ => ⟨S7168x2304, .f32⟩
  | .local _ .vmem, ⟨0, _⟩ => ⟨S256x7168, .bf16⟩
  | .local _ .vmem, ⟨1, _⟩ => ⟨S256x7168, .bf16⟩
  | .local _ .vmem, ⟨2, _⟩ => ⟨S1x7168, .f32⟩
  | .local _ .vmem, ⟨3, _⟩ => ⟨S256x2304, .bf16⟩
  | .local _ .vmem, ⟨4, _⟩ => ⟨S256x2304, .bf16⟩
  | .local _ .vmem, ⟨5, _⟩ => ⟨S256x128, .f32⟩
  | .local _ .vmem, ⟨6, _⟩ => ⟨S256x128, .f32⟩
  | .local _ .vmem, ⟨7, _⟩ => ⟨S8x7168, .f32⟩
  | .local _ .vmem, ⟨8, _⟩ => ⟨S8x2304, .f32⟩
  | .local _ .vmem, ⟨9, _⟩ => ⟨S256x7168, .bf16⟩
  | .local _ .vmem, ⟨10, _⟩ => ⟨S256x7168, .bf16⟩
  | .local _ .vmem, ⟨11, _⟩ => ⟨S1x7168, .f32⟩
  | .local _ .vmem, ⟨12, _⟩ => ⟨S256x2304, .bf16⟩
  | .local _ .vmem, ⟨13, _⟩ => ⟨S256x2304, .bf16⟩
  | .local _ .vmem, ⟨14, _⟩ => ⟨S7168x2304, .fp8e4m3⟩
  | .local _ .vmem, ⟨15, _⟩ => ⟨S256x128, .f32⟩
  | .local _ .vmem, ⟨16, _⟩ => ⟨S256x128, .f32⟩
  | .local _ .vmem, ⟨17, _⟩ => ⟨S256x7168, .bf16⟩
  | .local _ .vmem, ⟨18, _⟩ => ⟨S256x7168, .bf16⟩
  | .local _ .vmem, ⟨19, _⟩ => ⟨S1x7168, .f32⟩
  | .local _ .vmem, ⟨20, _⟩ => ⟨S256x7168, .fp8e4m3⟩
  | .local _ .vmem, ⟨21, _⟩ => ⟨S256x7168, .fp8e4m3⟩
  | .local _ .vmem, ⟨22, _⟩ => ⟨S256x2304, .fp8e5m2⟩
  | .local _ .vmem, ⟨23, _⟩ => ⟨S256x2304, .fp8e5m2⟩
  | .local _ .vmem, ⟨24, _⟩ => ⟨S256x7168, .f32⟩
  | .local _ .vmem, ⟨25, _⟩ => ⟨S8x7168, .f32⟩
  | .local _ .vmem, ⟨26, _⟩ => ⟨S1536x256, .fp8e4m3⟩
  | .local _ .vmem, ⟨27, _⟩ => ⟨S1536x256, .fp8e4m3⟩
  | .local _ .vmem, ⟨28, _⟩ => ⟨S1536x2304, .fp8e5m2⟩
  | .local _ .vmem, ⟨29, _⟩ => ⟨S256x2304, .f32⟩
  | .local _ .vmem, ⟨30, _⟩ => ⟨S256x2304, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S1, .f32⟩
  | .local _ .smem, ⟨5, _⟩ => ⟨S1, .f32⟩
  | .local _ .smem, ⟨6, _⟩ => ⟨S1, .f32⟩
  | .local _ .smem, ⟨7, _⟩ => ⟨S1, .f32⟩
  | .local _ .smem, ⟨8, _⟩ => ⟨S1, .f32⟩
  | .local _ .smem, ⟨9, _⟩ => ⟨S1, .f32⟩
  | _, _ => ⟨S1536x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | .smem, ⟨9, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg8_1 : Ref sig .tc := ⟨.vmem, 16, rfl⟩
abbrev cc1_stg9_0 : Ref sig .tc := ⟨.vmem, 17, rfl⟩
abbrev cc1_stg9_1 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg11_1 : Ref sig .tc := ⟨.vmem, 21, rfl⟩
abbrev cc1_stg12_0 : Ref sig .tc := ⟨.vmem, 22, rfl⟩
abbrev cc1_stg12_1 : Ref sig .tc := ⟨.vmem, 23, rfl⟩
abbrev cc1_scratch0 : Ref sig .tc := ⟨.vmem, 24, rfl⟩
abbrev cc1_scratch1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg4_1 : Ref sig .tc := ⟨.vmem, 30, rfl⟩
abbrev cc0_stg4_0 : Ref sig .tc := ⟨.smem, 0, rfl⟩
abbrev cc0_stg5_0 : Ref sig .tc := ⟨.smem, 1, rfl⟩
abbrev cc0_stg6_0 : Ref sig .tc := ⟨.smem, 2, rfl⟩
abbrev cc0_stg7_0 : Ref sig .tc := ⟨.smem, 3, rfl⟩
abbrev cc1_stg0_0 : Ref sig .tc := ⟨.smem, 4, rfl⟩
abbrev cc1_stg1_0 : Ref sig .tc := ⟨.smem, 5, rfl⟩
abbrev cc1_stg2_0 : Ref sig .tc := ⟨.smem, 6, rfl⟩
abbrev cc1_stg3_0 : Ref sig .tc := ⟨.smem, 7, rfl⟩
abbrev cc2_stg0_0 : Ref sig .tc := ⟨.smem, 8, rfl⟩
abbrev cc2_stg1_0 : Ref sig .tc := ⟨.smem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem4_1 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem8_0 : DmaSem sig := 21
abbrev cc1_sem8_1 : DmaSem sig := 22
abbrev cc1_sem9_0 : DmaSem sig := 23
abbrev cc1_sem9_1 : DmaSem sig := 24
abbrev cc1_sem10_0 : DmaSem sig := 25
abbrev cc1_sem11_0 : DmaSem sig := 26
abbrev cc1_sem11_1 : DmaSem sig := 27
abbrev cc1_sem12_0 : DmaSem sig := 28
abbrev cc1_sem12_1 : DmaSem sig := 29
abbrev cc2_sem0_0 : DmaSem sig := 30
abbrev cc2_sem1_0 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem4_1 : DmaSem sig := 36

abbrev nD : Nat := 1
abbrev τ : Topo := Topo.v7x

variable {F : FTy → Type} [FloatOps F]

abbrev grid0 : Pipeline.Grid := ⟨1, ![6], ![false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg11 : BitVec 32 := Scf.iv c0_i32_1 c1_i32 k0_t1
  let c16_i32_4 : BitVec 32 := 16#32
  let v7 : BitVec 32 := Scalar.muli arg11 c16_i32_4
  v7
def k0_off1 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c16_i32_4 : BitVec 32 := 16#32
  let v7 : BitVec 32 := Scalar.muli arg11 c16_i32_4
  let v8 : BitVec 32 := v7
  let v9 : Index := Scalar.indexCast v8
  let c0 : Index := 0#32
  ![v9.toNat, 0]
def k0_off2 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c16_i32_4 : BitVec 32 := 16#32
  let v7 : BitVec 32 := Scalar.muli arg11 c16_i32_4
  let v8 : BitVec 32 := v7
  let v22 : Index := Scalar.indexCast v8
  let c0_7 : Index := 0#32
  ![v22.toNat, 0]
def k0_off3 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c16_i32_4 : BitVec 32 := 16#32
  let v7 : BitVec 32 := Scalar.muli arg11 c16_i32_4
  let v8 : BitVec 32 := v7
  let v35 : Index := Scalar.indexCast v8
  let c0_12 : Index := 0#32
  ![v35.toNat, 0]
def k0_cond2 (i : grid0.Coords) : BitVec 1 :=
  let arg0 : BitVec 32 := BitVec.ofNat 32 (i 0).val
  let c5_i32 : BitVec 32 := 5#32
  let v4 : BitVec 1 := Scalar.cmpi .eq arg0 c5_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![6], ![false]⟩

@[reducible] def k1_t1_loop : Scf.Loop 32 :=
  let c0_i32_49 : BitVec 32 := 0#32
  let c14_i32 : BitVec 32 := 14#32
  let v170 : BitVec 32 := Scalar.addi c0_i32_49 c14_i32
  let c1_i32_50 : BitVec 32 := 1#32
  ⟨c0_i32_49, v170, c1_i32_50⟩
def k1_mult1 (k1_t1 : Fin k1_t1_loop.trips) : BitVec 32 :=
  let c0_i32_49 : BitVec 32 := 0#32
  let c1_i32_50 : BitVec 32 := 1#32
  let arg16 : BitVec 32 := Scf.iv c0_i32_49 c1_i32_50 k1_t1
  let c512_i32 : BitVec 32 := 512#32
  let v180 : BitVec 32 := Scalar.muli arg16 c512_i32
  v180
def k1_off1 (k1_t1 : Fin k1_t1_loop.trips) : Fin 2 → Nat :=
  let c0_i32_49 : BitVec 32 := 0#32
  let c1_i32_50 : BitVec 32 := 1#32
  let arg16 : BitVec 32 := Scf.iv c0_i32_49 c1_i32_50 k1_t1
  let c512_i32 : BitVec 32 := 512#32
  let v180 : BitVec 32 := Scalar.muli arg16 c512_i32
  let v181 : BitVec 32 := v180
  let v184 : Index := Scalar.indexCast v181
  let c0_61 : Index := 0#32
  ![v184.toNat, 0]
def k1_off2 (k1_t1 : Fin k1_t1_loop.trips) : Fin 2 → Nat :=
  let c0_63 : Index := 0#32
  let c0_i32_49 : BitVec 32 := 0#32
  let c1_i32_50 : BitVec 32 := 1#32
  let arg16 : BitVec 32 := Scf.iv c0_i32_49 c1_i32_50 k1_t1
  let c512_i32 : BitVec 32 := 512#32
  let v180 : BitVec 32 := Scalar.muli arg16 c512_i32
  let v181 : BitVec 32 := v180
  let v189 : Index := Scalar.indexCast v181
  ![0, v189.toNat]
def k1_off3 (k1_t1 : Fin k1_t1_loop.trips) : Fin 2 → Nat :=
  let c0_64 : Index := 0#32
  let c0_i32_49 : BitVec 32 := 0#32
  let c1_i32_50 : BitVec 32 := 1#32
  let arg16 : BitVec 32 := Scf.iv c0_i32_49 c1_i32_50 k1_t1
  let c512_i32 : BitVec 32 := 512#32
  let v180 : BitVec 32 := Scalar.muli arg16 c512_i32
  let v181 : BitVec 32 := v180
  let v194 : Index := Scalar.indexCast v181
  ![0, v194.toNat]
def k1_off4 (k1_t1 : Fin k1_t1_loop.trips) : Fin 2 → Nat :=
  let c0_68 : Index := 0#32
  let c0_i32_49 : BitVec 32 := 0#32
  let c1_i32_50 : BitVec 32 := 1#32
  let arg16 : BitVec 32 := Scf.iv c0_i32_49 c1_i32_50 k1_t1
  let c512_i32 : BitVec 32 := 512#32
  let v180 : BitVec 32 := Scalar.muli arg16 c512_i32
  let v181 : BitVec 32 := v180
  let v208 : Index := Scalar.indexCast v181
  ![0, v208.toNat]
@[reducible] def k1_t2_loop : Scf.Loop 32 :=
  let c0_i32_54 : BitVec 32 := 0#32
  let c14_i32_55 : BitVec 32 := 14#32
  let v176 : BitVec 32 := Scalar.addi c0_i32_54 c14_i32_55
  let c1_i32_56 : BitVec 32 := 1#32
  ⟨c0_i32_54, v176, c1_i32_56⟩
def k1_mult2 (k1_t2 : Fin k1_t2_loop.trips) : BitVec 32 :=
  let c0_i32_54 : BitVec 32 := 0#32
  let c1_i32_56 : BitVec 32 := 1#32
  let arg16 : BitVec 32 := Scf.iv c0_i32_54 c1_i32_56 k1_t2
  let c512_i32 : BitVec 32 := 512#32
  let v180 : BitVec 32 := Scalar.muli arg16 c512_i32
  v180
def k1_off5 (k1_t2 : Fin k1_t2_loop.trips) : Fin 2 → Nat :=
  let c0_59 : Index := 0#32
  let c0_i32_54 : BitVec 32 := 0#32
  let c1_i32_56 : BitVec 32 := 1#32
  let arg16 : BitVec 32 := Scf.iv c0_i32_54 c1_i32_56 k1_t2
  let c512_i32 : BitVec 32 := 512#32
  let v180 : BitVec 32 := Scalar.muli arg16 c512_i32
  let v181 : BitVec 32 := v180
  let v182 : Index := Scalar.indexCast v181
  ![0, v182.toNat]
def k1_cond2 (i : grid1.Coords) : BitVec 1 :=
  let arg0 : BitVec 32 := BitVec.ofNat 32 (i 0).val
  let c5_i32 : BitVec 32 := 5#32
  let v177 : BitVec 1 := Scalar.cmpi .eq arg0 c5_i32
  let v178 : BitVec 32 := Scalar.extui v177
  let c0_i32_58 : BitVec 32 := 0#32
  let v179 : BitVec 1 := Scalar.cmpi .ne v178 c0_i32_58
  v179

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .smem S1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x7168 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x7168 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x2304 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S7168x2304 .fp8e4m3 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x7168 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x7168 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S256x7168 .fp8e4m3 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x2304 .fp8e5m2 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![28], ![false]⟩

def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .smem S1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .smem S1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1536x256 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1536x2304 .fp8e5m2 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x2304 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== WholeRefIdeal.lean ====
abbrev S1536x7168 : Shape := ⟨2, ![1536, 7168]⟩
abbrev S1x7168 : Shape := ⟨2, ![1, 7168]⟩
abbrev S1 : Shape := ⟨1, ![1]⟩
abbrev S7168x2304 : Shape := ⟨2, ![7168, 2304]⟩
abbrev S1536x2304 : Shape := ⟨2, ![1536, 2304]⟩
abbrev S1536 : Shape := ⟨1, ![1536]⟩
abbrev S1536x1 : Shape := ⟨2, ![1536, 1]⟩
abbrev S1x1536x7168 : Shape := ⟨3, ![1, 1536, 7168]⟩
abbrev S1x1x1 : Shape := ⟨3, ![1, 1, 1]⟩
abbrev S1x256 : Shape := ⟨2, ![1, 256]⟩
abbrev S1x1 : Shape := ⟨2, ![1, 1]⟩
abbrev S1x1536x2304 : Shape := ⟨3, ![1, 1536, 2304]⟩
abbrev S7168 : Shape := ⟨1, ![7168]⟩

abbrev nBuf : Space → Nat
  | .hbm => 12
  | .vmem => 9
  | .smem => 3
  | _ => 0

abbrev bufTy : (tb : Table) → Fin (tcTables nBuf tb) → BufTy
  | .hbm, ⟨0, _⟩ => ⟨S1536x7168, .bf16⟩
  | .hbm, ⟨1, _⟩ => ⟨S1x7168, .f32⟩
  | .hbm, ⟨2, _⟩ => ⟨S1, .f32⟩
  | .hbm, ⟨3, _⟩ => ⟨S7168x2304, .fp8e4m3⟩
  | .hbm, ⟨4, _⟩ => ⟨S1536x2304, .bf16⟩
  | .hbm, ⟨5, _⟩ => ⟨S1536x7168, .bf16⟩
  | .hbm, ⟨6, _⟩ => ⟨S7168x2304, .f32⟩
  | .hbm, ⟨7, _⟩ => ⟨S1x7168, .f32⟩
  | .hbm, ⟨8, _⟩ => ⟨S1536x7168, .fp8e4m3⟩
  | .hbm, ⟨9, _⟩ => ⟨S1, .f32⟩
  | .hbm, ⟨10, _⟩ => ⟨S1536x2304, .fp8e5m2⟩
  | .hbm, ⟨11, _⟩ => ⟨S1, .f32⟩
  | .local _ .vmem, ⟨0, _⟩ => ⟨S1536x7168, .bf16⟩
  | .local _ .vmem, ⟨1, _⟩ => ⟨S1x7168, .f32⟩
  | .local _ .vmem, ⟨2, _⟩ => ⟨S7168x2304, .fp8e4m3⟩
  | .local _ .vmem, ⟨3, _⟩ => ⟨S1536x2304, .bf16⟩
  | .local _ .vmem, ⟨4, _⟩ => ⟨S1536x7168, .bf16⟩
  | .local _ .vmem, ⟨5, _⟩ => ⟨S7168x2304, .f32⟩
  | .local _ .vmem, ⟨6, _⟩ => ⟨S1x7168, .f32⟩
  | .local _ .vmem, ⟨7, _⟩ => ⟨S1536x7168, .fp8e4m3⟩
  | .local _ .vmem, ⟨8, _⟩ => ⟨S1536x2304, .fp8e5m2⟩
  | .local _ .smem, ⟨0, _⟩ => ⟨S1, .f32⟩
  | .local _ .smem, ⟨1, _⟩ => ⟨S1, .f32⟩
  | .local _ .smem, ⟨2, _⟩ => ⟨S1, .f32⟩
  | _, _ => ⟨S1536x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg10_0 : Ref sig .tc := ⟨.vmem, 8, rfl⟩
abbrev cc0_stg2_0 : Ref sig .tc := ⟨.smem, 0, rfl⟩
abbrev cc0_stg9_0 : Ref sig .tc := ⟨.smem, 1, rfl⟩
abbrev cc0_stg11_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1536x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168x2304 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7168x2304 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x7168 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x7168 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x2304 .fp8e5m2 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .smem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Stats.lean ====
abbrev S1536x7168 : Shape := ⟨2, ![1536, 7168]⟩
abbrev S1x7168 : Shape := ⟨2, ![1, 7168]⟩
abbrev S1536x2304 : Shape := ⟨2, ![1536, 2304]⟩
abbrev S1536x128 : Shape := ⟨2, ![1536, 128]⟩
abbrev S1 : Shape := ⟨1, ![1]⟩
abbrev S256x7168 : Shape := ⟨2, ![256, 7168]⟩
abbrev S256x2304 : Shape := ⟨2, ![256, 2304]⟩
abbrev S256x128 : Shape := ⟨2, ![256, 128]⟩
abbrev S8x7168 : Shape := ⟨2, ![8, 7168]⟩
abbrev S8x2304 : Shape := ⟨2, ![8, 2304]⟩
abbrev S16x7168 : Shape := ⟨2, ![16, 7168]⟩
abbrev S16 : Shape := ⟨1, ![16]⟩
abbrev S16x1 : Shape := ⟨2, ![16, 1]⟩
abbrev S16x128 : Shape := ⟨2, ![16, 128]⟩
abbrev S16x2304 : Shape := ⟨2, ![16, 2304]⟩
abbrev S1x8x7168 : Shape := ⟨3, ![1, 8, 7168]⟩
abbrev S1x1x1 : Shape := ⟨3, ![1, 1, 1]⟩
abbrev S1x8x2304 : Shape := ⟨3, ![1, 8, 2304]⟩
abbrev S8x128 : Shape := ⟨2, ![8, 128]⟩
abbrev S1x8x128 : Shape := ⟨3, ![1, 8, 128]⟩

abbrev nBuf : Space → Nat
  | .hbm => 8
  | .vmem => 9
  | .smem => 4
  | _ => 0

abbrev bufTy : (tb : Table) → Fin (tcTables nBuf tb) → BufTy
  | .hbm, ⟨0, _⟩ => ⟨S1536x7168, .bf16⟩
  | .hbm, ⟨1, _⟩ => ⟨S1x7168, .f32⟩
  | .hbm, ⟨2, _⟩ => ⟨S1536x2304, .bf16⟩
  | .hbm, ⟨3, _⟩ => ⟨S1536x128, .f32⟩
  | .hbm, ⟨4, _⟩ => ⟨S1, .f32⟩
  | .hbm, ⟨5, _⟩ => ⟨S1, .f32⟩
  | .hbm, ⟨6, _⟩ => ⟨S1, .f32⟩
  | .hbm, ⟨7, _⟩ => ⟨S1, .f32⟩
  | .local _ .vmem, ⟨0, _⟩ => ⟨S256x7168, .bf16⟩
  | .local _ .vmem, ⟨1, _⟩ => ⟨S256x7168, .bf16⟩
  | .local _ .vmem, ⟨2, _⟩ => ⟨S1x7168, .f32⟩
  | .local _ .vmem, ⟨3, _⟩ => ⟨S256x2304, .bf16⟩
  | .local _ .vmem, ⟨4, _⟩ => ⟨S256x2304, .bf16⟩
  | .local _ .vmem, ⟨5, _⟩ => ⟨S256x128, .f32⟩
  | .local _ .vmem, ⟨6, _⟩ => ⟨S256x128, .f32⟩
  | .local _ .vmem, ⟨7, _⟩ => ⟨S8x7168, .f32⟩
  | .local _ .vmem, ⟨8, _⟩ => ⟨S8x2304, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S1536x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_stg4_0 : Ref sig .tc := ⟨.smem, 0, rfl⟩
abbrev cc0_stg5_0 : Ref sig .tc := ⟨.smem, 1, rfl⟩
abbrev cc0_stg6_0 : Ref sig .tc := ⟨.smem, 2, rfl⟩
abbrev cc0_stg7_0 : Ref sig .tc := ⟨.smem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![6], ![false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg11 : BitVec 32 := Scf.iv c0_i32_1 c1_i32 k0_t1
  let c16_i32_4 : BitVec 32 := 16#32
  let v7 : BitVec 32 := Scalar.muli arg11 c16_i32_4
  v7
def k0_off1 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c16_i32_4 : BitVec 32 := 16#32
  let v7 : BitVec 32 := Scalar.muli arg11 c16_i32_4
  let v8 : BitVec 32 := v7
  let v9 : Index := Scalar.indexCast v8
  let c0 : Index := 0#32
  ![v9.toNat, 0]
def k0_off2 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c16_i32_4 : BitVec 32 := 16#32
  let v7 : BitVec 32 := Scalar.muli arg11 c16_i32_4
  let v8 : BitVec 32 := v7
  let v22 : Index := Scalar.indexCast v8
  let c0_7 : Index := 0#32
  ![v22.toNat, 0]
def k0_off3 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c16_i32_4 : BitVec 32 := 16#32
  let v7 : BitVec 32 := Scalar.muli arg11 c16_i32_4
  let v8 : BitVec 32 := v7
  let v35 : Index := Scalar.indexCast v8
  let c0_12 : Index := 0#32
  ![v35.toNat, 0]
def k0_cond2 (i : grid0.Coords) : BitVec 1 :=
  let arg0 : BitVec 32 := BitVec.ofNat 32 (i 0).val
  let c5_i32 : BitVec 32 := 5#32
  let v4 : BitVec 1 := Scalar.cmpi .eq arg0 c5_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== StatsRefIdeal.lean ====
abbrev S1536x7168 : Shape := ⟨2, ![1536, 7168]⟩
abbrev S1x7168 : Shape := ⟨2, ![1, 7168]⟩
abbrev S1536x2304 : Shape := ⟨2, ![1536, 2304]⟩
abbrev S1536x128 : Shape := ⟨2, ![1536, 128]⟩
abbrev S1 : Shape := ⟨1, ![1]⟩
abbrev S1536 : Shape := ⟨1, ![1536]⟩
abbrev S1536x1 : Shape := ⟨2, ![1536, 1]⟩
abbrev S1x1536x7168 : Shape := ⟨3, ![1, 1536, 7168]⟩
abbrev S1x1x1 : Shape := ⟨3, ![1, 1, 1]⟩
abbrev S1x1536x2304 : Shape := ⟨3, ![1, 1536, 2304]⟩
abbrev S1x256 : Shape := ⟨2, ![1, 256]⟩
abbrev S1x1 : Shape := ⟨2, ![1, 1]⟩

abbrev nBuf : Space → Nat
  | .hbm => 8
  | .vmem => 4
  | .smem => 4
  | _ => 0

abbrev bufTy : (tb : Table) → Fin (tcTables nBuf tb) → BufTy
  | .hbm, ⟨0, _⟩ => ⟨S1536x7168, .bf16⟩
  | .hbm, ⟨1, _⟩ => ⟨S1x7168, .f32⟩
  | .hbm, ⟨2, _⟩ => ⟨S1536x2304, .bf16⟩
  | .hbm, ⟨3, _⟩ => ⟨S1536x128, .f32⟩
  | .hbm, ⟨4, _⟩ => ⟨S1, .f32⟩
  | .hbm, ⟨5, _⟩ => ⟨S1, .f32⟩
  | .hbm, ⟨6, _⟩ => ⟨S1, .f32⟩
  | .hbm, ⟨7, _⟩ => ⟨S1, .f32⟩
  | .local _ .vmem, ⟨0, _⟩ => ⟨S1536x7168, .bf16⟩
  | .local _ .vmem, ⟨1, _⟩ => ⟨S1x7168, .f32⟩
  | .local _ .vmem, ⟨2, _⟩ => ⟨S1536x2304, .bf16⟩
  | .local _ .vmem, ⟨3, _⟩ => ⟨S1536x128, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S1536x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.smem, 0, rfl⟩
abbrev cc0_stg5_0 : Ref sig .tc := ⟨.smem, 1, rfl⟩
abbrev cc0_stg6_0 : Ref sig .tc := ⟨.smem, 2, rfl⟩
abbrev cc0_stg7_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1536x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Dgrad.lean ====
abbrev S1 : Shape := ⟨1, ![1]⟩
abbrev S1536x7168 : Shape := ⟨2, ![1536, 7168]⟩
abbrev S1x7168 : Shape := ⟨2, ![1, 7168]⟩
abbrev S1536x2304 : Shape := ⟨2, ![1536, 2304]⟩
abbrev S7168x2304 : Shape := ⟨2, ![7168, 2304]⟩
abbrev S1536x128 : Shape := ⟨2, ![1536, 128]⟩
abbrev S256x7168 : Shape := ⟨2, ![256, 7168]⟩
abbrev S256x2304 : Shape := ⟨2, ![256, 2304]⟩
abbrev S256x128 : Shape := ⟨2, ![256, 128]⟩
abbrev S8x7168 : Shape := ⟨2, ![8, 7168]⟩
abbrev S8x128 : Shape := ⟨2, ![8, 128]⟩
abbrev S1x1 : Shape := ⟨2, ![1, 1]⟩
abbrev S256x1 : Shape := ⟨2, ![256, 1]⟩
abbrev S512x2304 : Shape := ⟨2, ![512, 2304]⟩
abbrev S256x512 : Shape := ⟨2, ![256, 512]⟩
abbrev S1x512 : Shape := ⟨2, ![1, 512]⟩
abbrev S8x512 : Shape := ⟨2, ![8, 512]⟩
abbrev S32x8x512 : Shape := ⟨3, ![32, 8, 512]⟩
abbrev S256 : Shape := ⟨1, ![256]⟩
abbrev S7168 : Shape := ⟨1, ![7168]⟩

abbrev nBuf : Space → Nat
  | .hbm => 13
  | .vmem => 17
  | .smem => 4
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S1, .f32⟩
  | .hbm, ⟨3, _⟩ => ⟨S1, .f32⟩
  | .hbm, ⟨4, _⟩ => ⟨S1536x7168, .bf16⟩
  | .hbm, ⟨5, _⟩ => ⟨S1x7168, .f32⟩
  | .hbm, ⟨6, _⟩ => ⟨S1536x2304, .bf16⟩
  | .hbm, ⟨7, _⟩ => ⟨S7168x2304, .fp8e4m3⟩
  | .hbm, ⟨8, _⟩ => ⟨S1536x128, .f32⟩
  | .hbm, ⟨9, _⟩ => ⟨S1536x7168, .bf16⟩
  | .hbm, ⟨10, _⟩ => ⟨S1x7168, .f32⟩
  | .hbm, ⟨11, _⟩ => ⟨S1536x7168, .fp8e4m3⟩
  | .hbm, ⟨12, _⟩ => ⟨S1536x2304, .fp8e5m2⟩
  | .local _ .vmem, ⟨0, _⟩ => ⟨S256x7168, .bf16⟩
  | .local _ .vmem, ⟨1, _⟩ => ⟨S256x7168, .bf16⟩
  | .local _ .vmem, ⟨2, _⟩ => ⟨S1x7168, .f32⟩
  | .local _ .vmem, ⟨3, _⟩ => ⟨S256x2304, .bf16⟩
  | .local _ .vmem, ⟨4, _⟩ => ⟨S256x2304, .bf16⟩
  | .local _ .vmem, ⟨5, _⟩ => ⟨S7168x2304, .fp8e4m3⟩
  | .local _ .vmem, ⟨6, _⟩ => ⟨S256x128, .f32⟩
  | .local _ .vmem, ⟨7, _⟩ => ⟨S256x128, .f32⟩
  | .local _ .vmem, ⟨8, _⟩ => ⟨S256x7168, .bf16⟩
  | .local _ .vmem, ⟨9, _⟩ => ⟨S256x7168, .bf16⟩
  | .local _ .vmem, ⟨10, _⟩ => ⟨S1x7168, .f32⟩
  | .local _ .vmem, ⟨11, _⟩ => ⟨S256x7168, .fp8e4m3⟩
  | .local _ .vmem, ⟨12, _⟩ => ⟨S256x7168, .fp8e4m3⟩
  | .local _ .vmem, ⟨13, _⟩ => ⟨S256x2304, .fp8e5m2⟩
  | .local _ .vmem, ⟨14, _⟩ => ⟨S256x2304, .fp8e5m2⟩
  | .local _ .vmem, ⟨15, _⟩ => ⟨S256x7168, .f32⟩
  | .local _ .vmem, ⟨16, _⟩ => ⟨S8x7168, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg4_0 : Ref sig .tc := ⟨.vmem, 0, rfl⟩
abbrev cc0_stg4_1 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg6_1 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg8_1 : Ref sig .tc := ⟨.vmem, 7, rfl⟩
abbrev cc0_stg9_0 : Ref sig .tc := ⟨.vmem, 8, rfl⟩
abbrev cc0_stg9_1 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg11_1 : Ref sig .tc := ⟨.vmem, 12, rfl⟩
abbrev cc0_stg12_0 : Ref sig .tc := ⟨.vmem, 13, rfl⟩
abbrev cc0_stg12_1 : Ref sig .tc := ⟨.vmem, 14, rfl⟩
abbrev cc0_scratch0 : Ref sig .tc := ⟨.vmem, 15, rfl⟩
abbrev cc0_scratch1 : Ref sig .tc := ⟨.vmem, 16, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![6], ![false]⟩

@[reducible] def k0_t1_loop : Scf.Loop 32 :=
  let c0_i32_49 : BitVec 32 := 0#32
  let c14_i32 : BitVec 32 := 14#32
  let v169 : BitVec 32 := Scalar.addi c0_i32_49 c14_i32
  let c1_i32_50 : BitVec 32 := 1#32
  ⟨c0_i32_49, v169, c1_i32_50⟩
def k0_mult1 (k0_t1 : Fin k0_t1_loop.trips) : BitVec 32 :=
  let c0_i32_49 : BitVec 32 := 0#32
  let c1_i32_50 : BitVec 32 := 1#32
  let arg16 : BitVec 32 := Scf.iv c0_i32_49 c1_i32_50 k0_t1
  let c512_i32 : BitVec 32 := 512#32
  let v179 : BitVec 32 := Scalar.muli arg16 c512_i32
  v179
def k0_off1 (k0_t1 : Fin k0_t1_loop.trips) : Fin 2 → Nat :=
  let c0_i32_49 : BitVec 32 := 0#32
  let c1_i32_50 : BitVec 32 := 1#32
  let arg16 : BitVec 32 := Scf.iv c0_i32_49 c1_i32_50 k0_t1
  let c512_i32 : BitVec 32 := 512#32
  let v179 : BitVec 32 := Scalar.muli arg16 c512_i32
  let v180 : BitVec 32 := v179
  let v183 : Index := Scalar.indexCast v180
  let c0_61 : Index := 0#32
  ![v183.toNat, 0]
def k0_off2 (k0_t1 : Fin k0_t1_loop.trips) : Fin 2 → Nat :=
  let c0_63 : Index := 0#32
  let c0_i32_49 : BitVec 32 := 0#32
  let c1_i32_50 : BitVec 32 := 1#32
  let arg16 : BitVec 32 := Scf.iv c0_i32_49 c1_i32_50 k0_t1
  let c512_i32 : BitVec 32 := 512#32
  let v179 : BitVec 32 := Scalar.muli arg16 c512_i32
  let v180 : BitVec 32 := v179
  let v188 : Index := Scalar.indexCast v180
  ![0, v188.toNat]
def k0_off3 (k0_t1 : Fin k0_t1_loop.trips) : Fin 2 → Nat :=
  let c0_64 : Index := 0#32
  let c0_i32_49 : BitVec 32 := 0#32
  let c1_i32_50 : BitVec 32 := 1#32
  let arg16 : BitVec 32 := Scf.iv c0_i32_49 c1_i32_50 k0_t1
  let c512_i32 : BitVec 32 := 512#32
  let v179 : BitVec 32 := Scalar.muli arg16 c512_i32
  let v180 : BitVec 32 := v179
  let v193 : Index := Scalar.indexCast v180
  ![0, v193.toNat]
def k0_off4 (k0_t1 : Fin k0_t1_loop.trips) : Fin 2 → Nat :=
  let c0_68 : Index := 0#32
  let c0_i32_49 : BitVec 32 := 0#32
  let c1_i32_50 : BitVec 32 := 1#32
  let arg16 : BitVec 32 := Scf.iv c0_i32_49 c1_i32_50 k0_t1
  let c512_i32 : BitVec 32 := 512#32
  let v179 : BitVec 32 := Scalar.muli arg16 c512_i32
  let v180 : BitVec 32 := v179
  let v207 : Index := Scalar.indexCast v180
  ![0, v207.toNat]
@[reducible] def k0_t2_loop : Scf.Loop 32 :=
  let c0_i32_54 : BitVec 32 := 0#32
  let c14_i32_55 : BitVec 32 := 14#32
  let v175 : BitVec 32 := Scalar.addi c0_i32_54 c14_i32_55
  let c1_i32_56 : BitVec 32 := 1#32
  ⟨c0_i32_54, v175, c1_i32_56⟩
def k0_mult2 (k0_t2 : Fin k0_t2_loop.trips) : BitVec 32 :=
  let c0_i32_54 : BitVec 32 := 0#32
  let c1_i32_56 : BitVec 32 := 1#32
  let arg16 : BitVec 32 := Scf.iv c0_i32_54 c1_i32_56 k0_t2
  let c512_i32 : BitVec 32 := 512#32
  let v179 : BitVec 32 := Scalar.muli arg16 c512_i32
  v179
def k0_off5 (k0_t2 : Fin k0_t2_loop.trips) : Fin 2 → Nat :=
  let c0_59 : Index := 0#32
  let c0_i32_54 : BitVec 32 := 0#32
  let c1_i32_56 : BitVec 32 := 1#32
  let arg16 : BitVec 32 := Scf.iv c0_i32_54 c1_i32_56 k0_t2
  let c512_i32 : BitVec 32 := 512#32
  let v179 : BitVec 32 := Scalar.muli arg16 c512_i32
  let v180 : BitVec 32 := v179
  let v181 : Index := Scalar.indexCast v180
  ![0, v181.toNat]
def k0_cond2 (i : grid0.Coords) : BitVec 1 :=
  let arg0 : BitVec 32 := BitVec.ofNat 32 (i 0).val
  let c5_i32 : BitVec 32 := 5#32
  let v176 : BitVec 1 := Scalar.cmpi .eq arg0 c5_i32
  let v177 : BitVec 32 := Scalar.extui v176
  let c0_i32_58 : BitVec 32 := 0#32
  let v178 : BitVec 1 := Scalar.cmpi .ne v177 c0_i32_58
  v178

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2304 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S7168x2304 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x7168 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x7168 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x7168 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2304 .fp8e5m2 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== DgradRefIdeal.lean ====
abbrev S1 : Shape := ⟨1, ![1]⟩
abbrev S1536x7168 : Shape := ⟨2, ![1536, 7168]⟩
abbrev S1x7168 : Shape := ⟨2, ![1, 7168]⟩
abbrev S1536x2304 : Shape := ⟨2, ![1536, 2304]⟩
abbrev S7168x2304 : Shape := ⟨2, ![7168, 2304]⟩
abbrev S1536x128 : Shape := ⟨2, ![1536, 128]⟩
abbrev S1536x1 : Shape := ⟨2, ![1536, 1]⟩
abbrev S1x256 : Shape := ⟨2, ![1, 256]⟩
abbrev S1x1 : Shape := ⟨2, ![1, 1]⟩
abbrev S1536 : Shape := ⟨1, ![1536]⟩
abbrev S7168 : Shape := ⟨1, ![7168]⟩

abbrev nBuf : Space → Nat
  | .hbm => 13
  | .vmem => 9
  | .smem => 4
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S1, .f32⟩
  | .hbm, ⟨3, _⟩ => ⟨S1, .f32⟩
  | .hbm, ⟨4, _⟩ => ⟨S1536x7168, .bf16⟩
  | .hbm, ⟨5, _⟩ => ⟨S1x7168, .f32⟩
  | .hbm, ⟨6, _⟩ => ⟨S1536x2304, .bf16⟩
  | .hbm, ⟨7, _⟩ => ⟨S7168x2304, .fp8e4m3⟩
  | .hbm, ⟨8, _⟩ => ⟨S1536x128, .f32⟩
  | .hbm, ⟨9, _⟩ => ⟨S1536x7168, .bf16⟩
  | .hbm, ⟨10, _⟩ => ⟨S1x7168, .f32⟩
  | .hbm, ⟨11, _⟩ => ⟨S1536x7168, .fp8e4m3⟩
  | .hbm, ⟨12, _⟩ => ⟨S1536x2304, .fp8e5m2⟩
  | .local _ .vmem, ⟨0, _⟩ => ⟨S1536x7168, .bf16⟩
  | .local _ .vmem, ⟨1, _⟩ => ⟨S1x7168, .f32⟩
  | .local _ .vmem, ⟨2, _⟩ => ⟨S1536x2304, .bf16⟩
  | .local _ .vmem, ⟨3, _⟩ => ⟨S7168x2304, .fp8e4m3⟩
  | .local _ .vmem, ⟨4, _⟩ => ⟨S1536x128, .f32⟩
  | .local _ .vmem, ⟨5, _⟩ => ⟨S1536x7168, .bf16⟩
  | .local _ .vmem, ⟨6, _⟩ => ⟨S1x7168, .f32⟩
  | .local _ .vmem, ⟨7, _⟩ => ⟨S1536x7168, .fp8e4m3⟩
  | .local _ .vmem, ⟨8, _⟩ => ⟨S1536x2304, .fp8e5m2⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg4_0 : Ref sig .tc := ⟨.vmem, 0, rfl⟩
abbrev cc0_stg5_0 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_stg9_0 : Ref sig .tc := ⟨.vmem, 5, rfl⟩
abbrev cc0_stg10_0 : Ref sig .tc := ⟨.vmem, 6, rfl⟩
abbrev cc0_stg11_0 : Ref sig .tc := ⟨.vmem, 7, rfl⟩
abbrev cc0_stg12_0 : Ref sig .tc := ⟨.vmem, 8, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x2304 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7168x2304 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x7168 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x7168 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1536x7168 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1536x2304 .fp8e5m2 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Wgrad.lean ====
abbrev S1 : Shape := ⟨1, ![1]⟩
abbrev S1536x7168 : Shape := ⟨2, ![1536, 7168]⟩
abbrev S1536x2304 : Shape := ⟨2, ![1536, 2304]⟩
abbrev S7168x2304 : Shape := ⟨2, ![7168, 2304]⟩
abbrev S1536x256 : Shape := ⟨2, ![1536, 256]⟩
abbrev S256x2304 : Shape := ⟨2, ![256, 2304]⟩

abbrev nBuf : Space → Nat
  | .hbm => 5
  | .vmem => 5
  | .smem => 2
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S1536x7168, .fp8e4m3⟩
  | .hbm, ⟨3, _⟩ => ⟨S1536x2304, .fp8e5m2⟩
  | .hbm, ⟨4, _⟩ => ⟨S7168x2304, .f32⟩
  | .local _ .vmem, ⟨0, _⟩ => ⟨S1536x256, .fp8e4m3⟩
  | .local _ .vmem, ⟨1, _⟩ => ⟨S1536x256, .fp8e4m3⟩
  | .local _ .vmem, ⟨2, _⟩ => ⟨S1536x2304, .fp8e5m2⟩
  | .local _ .vmem, ⟨3, _⟩ => ⟨S256x2304, .f32⟩
  | .local _ .vmem, ⟨4, _⟩ => ⟨S256x2304, .f32⟩
  | .local _ .smem, ⟨0, _⟩ => ⟨S1, .f32⟩
  | .local _ .smem, ⟨1, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![28], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1536x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x2304 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== WgradRefIdeal.lean ====
abbrev S1 : Shape := ⟨1, ![1]⟩
abbrev S1536x7168 : Shape := ⟨2, ![1536, 7168]⟩
abbrev S1536x2304 : Shape := ⟨2, ![1536, 2304]⟩
abbrev S7168x2304 : Shape := ⟨2, ![7168, 2304]⟩

abbrev nBuf : Space → Nat
  | .hbm => 5
  | .vmem => 3
  | .smem => 2
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S1536x7168, .fp8e4m3⟩
  | .hbm, ⟨3, _⟩ => ⟨S1536x2304, .fp8e5m2⟩
  | .hbm, ⟨4, _⟩ => ⟨S7168x2304, .f32⟩
  | .local _ .vmem, ⟨0, _⟩ => ⟨S1536x7168, .fp8e4m3⟩
  | .local _ .vmem, ⟨1, _⟩ => ⟨S1536x2304, .fp8e5m2⟩
  | .local _ .vmem, ⟨2, _⟩ => ⟨S7168x2304, .f32⟩
  | .local _ .smem, ⟨0, _⟩ => ⟨S1, .f32⟩
  | .local _ .smem, ⟨1, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x2304 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.RawStatsRuns.lean ====
/-
  What the module on the running of the statistics call starts from: the blocks its windows stage, read off the arrays
  as the call finds them (`V`, whatever they hold), when the conditions on the grid point hold, and the buffers
  it is handed.
-/
module

public import proofs.«01_k».proof.Proof.Gen.Whole.Launch
public import proofs.«01_k».proof.Proof.Gen.Whole.Skeleton
public import proofs.«01_k».proof.Proof.Gen.Whole.Loops
public import proofs.«01_k».proof.Proof.Gen.Whole.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Whole.R0

open Cert.Whole.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 6 = 0 :=
  (fun t => by
    have ht : t.val < 6 := Nat.lt_of_lt_of_eq t.isLt N_0
    have e0 : (grid0.coords t 0).val = t.val / 1 % 6 := Pipeline.Grid.coords_val t 0 (by decide) rfl
    simp only [cond0_0, e0]
    word_cmp
   : ∀ t : Fin grid0.N, cond0_0 (grid0.coords t) ↔ t.val % 6 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 6 = 5 :=
  (fun t => by
    have ht : t.val < 6 := Nat.lt_of_lt_of_eq t.isLt N_0
    have e0 : (grid0.coords t 0).val = t.val / 1 % 6 := Pipeline.Grid.coords_val t 0 (by decide) rfl
    simp only [cond0_1, k0_cond2, e0]
    word_cmp
   : ∀ t : Fin grid0.N, cond0_1 (grid0.coords t) ↔ t.val % 6 = 5)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an output stored at every point, under no condition). -/
theorem liveAt0_3 : ∀ t : Fin cfg0.N, cfg0.idle 3 (grid0.coords t) = false := fun _ => rfl
/-- At the points of case A the printed configuration (`Cfg.idle`) calls output 4 idle: the case stores nothing into it. -/
theorem idleAt0_4_A : ∀ t : Fin cfg0.N, cond0_0 (grid0.coords t) → ¬cond0_1 (grid0.coords t) → cfg0.idle 4 (grid0.coords t) = true := by decide +kernel
/-- At the points of case A the pipeline does not write output 4's block back. -/
theorem noFlush0_4_A : ∀ t : Fin cfg0.N, cond0_0 (grid0.coords t) → ¬cond0_1 (grid0.coords t) → (cfg0.win 4).flush t = false := by decide +kernel
/-- At the points of case B the printed configuration (`Cfg.idle`) calls output 4 idle: the case stores nothing into it. -/
theorem idleAt0_4_B : ∀ t : Fin cfg0.N, ¬cond0_0 (grid0.coords t) → ¬cond0_1 (grid0.coords t) → cfg0.idle 4 (grid0.coords t) = true := by decide +kernel
/-- At the points of case B the pipeline does not write output 4's block back. -/
theorem noFlush0_4_B : ∀ t : Fin cfg0.N, ¬cond0_0 (grid0.coords t) → ¬cond0_1 (grid0.coords t) → (cfg0.win 4).flush t = false := by decide +kernel
/-- At the points of case C the printed configuration (`Cfg.idle`) calls output 4 live: the case stores into it. -/
theorem liveAt0_4_C : ∀ t : Fin cfg0.N, ¬cond0_0 (grid0.coords t) → cond0_1 (grid0.coords t) → cfg0.idle 4 (grid0.coords t) = false := by decide +kernel
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel
/-- At the points of case A the printed configuration (`Cfg.idle`) calls output 7 idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cfg0.idle 7 (grid0.coords t) = false := by decide +kernel

/-! ## The kernel body on any staging memrefs: a subtype the run finds -/

abbrev VO0_3 : View sig .tc .vmem S256x128 .f32 := (Memref.whole cc0_stg3_0 : Memref sig .tc .vmem S256x128 .f32).view
abbrev VO0_4 : View sig .tc .smem S1 .f32 := (Memref.whole cc0_stg4_0 : Memref sig .tc .smem S1 .f32).view
abbrev VO0_5 : View sig .tc .smem S1 .f32 := (Memref.whole cc0_stg5_0 : Memref sig .tc .smem S1 .f32).view
abbrev VO0_6 : View sig .tc .smem S1 .f32 := (Memref.whole cc0_stg6_0 : Memref sig .tc .smem S1 .f32).view
abbrev VO0_7 : View sig .tc .smem S1 .f32 := (Memref.whole cc0_stg7_0 : Memref sig .tc .smem S1 .f32).view
/-- Each window's current staging memref at point `t`, spelled as the pipeline passes it (`bodyAt0`), and its wholeness. -/
abbrev ms0_0 (t : Fin cfg0.N) : Memref sig .tc .vmem S256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x7168 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2304 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S8x7168 .f32 := Memref.whole cc0_scratch0
abbrev scM0_1 : Memref sig .tc .vmem S8x2304 .f32 := Memref.whole cc0_scratch1
/-- The scratch `arg9` the kernel carries between points, as a view: what it holds is stated through it. -/
abbrev VS0_0 : View sig .tc .vmem S8x7168 .f32 := scM0_0.view
/-- The scratch `arg10` the kernel carries between points, as a view: what it holds is stated through it. -/
abbrev VS0_1 : View sig .tc .vmem S8x2304 .f32 := scM0_1.view

/-- What the call never looks at: every other scoped buffer, and the generator's register. -/
def restG (c : Dev nD) : sProp 𝕄 :=
  iprop(Pipeline.scopedRestBut (Ix := Unit) (Name := ℕ) (U := UR sig nD τ) (Lvl := ℕ) (Val := Elt F) spec0 c [cc0_scratch0, cc0_scratch1] ∗ (∃ r, prngReg c r))

/-- What the call is handed between points: its two scratch buffers at some contents, and the rest. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ restG c) := by
  unfold Pipeline.ΦA restG
  rw [Pipeline.scopedRest_split_of_list spec0 c [cc0_scratch0, cc0_scratch1] (by decide) (by decide)]
  simp only [scM0_0, scM0_1, owns_whole]
  exact equiv_iff.mp ⟨Idealize.SL.BI.sep_assoc, Idealize.SL.BI.sep_assoc'⟩

end Cert.Whole.R0

end
-- ==== Proof.RawStatsTrip.lean ====
/-
  What one grid point of the statistics call leaves in its buffers: the loop over the sixteen
  row tiles, as a function of the blocks read.
-/
module

public import proofs.«01_k».proof.Proof.RawStatsRuns
public import Idealize.ShloMosaic.Lib.Pipeline.Value
public import Idealize.ShloMosaic.Lib.VecWindow
public import Idealize.ShloMosaic.Lib.Pipeline.ValueKit
public import Idealize.ShloMosaic.Lib.Pointwise

@[expose] public section

set_option maxRecDepth 16384

noncomputable section

namespace Cert.Whole.R0

open Cert.Whole.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Row tiles -/

/-- The matrix whose row tiles of height 16 are `W`. -/
def tiled {C n : ℕ} {e : EltTy} (hn : n = 16) (W : Fin n → (⟨2, ![16, C]⟩ : Shape).Idx → Elt F e) :
    (⟨2, ![256, C]⟩ : Shape).Idx → Elt F e := fun i =>
  W ⟨(i 0 : ℕ) / 16, by have h : (i 0 : ℕ) < 256 := (i 0).isLt; omega⟩
    (ix2 ⟨(i 0 : ℕ) % 16, Nat.mod_lt _ (by decide)⟩ (i 1))

/-- Tiles stored one after the other: after `k` of them the first `16 * k` rows are the tiles', the rest as found. -/
theorem read_tiles {C n : ℕ} {e : EltTy} {κ : Kind} {sp : Space} (hn : n = 16) (v : View sig κ sp ⟨2, ![256, C]⟩ e)
    (G : v.ty.Contents (Elt F)) (off : Fin n → Fin 2 → ℕ) (hoff : ∀ k, off k = ![16 * k.val, 0])
    (inb : ∀ k (a : Fin 2), off k a + (![16, C] : Fin 2 → ℕ) a ≤ (⟨2, ![256, C]⟩ : Shape).size a)
    (W : Fin n → (⟨2, ![16, C]⟩ : Shape).Idx → Elt F e) (P : ℕ → List (View.Piece (Elt F) ⟨2, ![256, C]⟩ e)) (h0 : P 0 = [])
    (hs : ∀ k : Fin n, P (k.val + 1) = (⟨Rect.unit (s := ⟨2, ![256, C]⟩) (off k) ![16, C] (inb k), W k⟩ : View.Piece (Elt F) ⟨2, ![256, C]⟩ e) :: P k.val) :
    ∀ k ≤ n, ∀ i, v.read (Elt F) (v.writes (Elt F) G (P k)) i
      = if (i 0 : ℕ) < 16 * k then tiled hn W i else v.read (Elt F) G i := by
  intro k
  induction k with
  | zero => intro _ i; rw [h0, if_neg (by omega)]; rfl
  | succ k ih =>
    intro hk i
    have hk' : k < n := hk
    have ih := ih (le_of_lt hk')
    have e := hs ⟨k, hk'⟩
    simp only at e
    rw [e]
    have hi0 : (i 1 : ℕ) < C := (i 1).isLt
    by_cases hlt : (i 0 : ℕ) < 16 * k
    · rw [View.read_writes_cons_unit_of_not_mem v G (inb ⟨k, hk'⟩) _ _ i (hoff _) 0 (Or.inl (by show (i 0 : ℕ) < 16 * k; exact hlt)),
        ih i, if_pos hlt, if_pos (by omega)]
    · by_cases hlt2 : (i 0 : ℕ) < 16 * (k + 1)
      · rw [if_pos hlt2]
        have hd : (i 0 : ℕ) / 16 = k := by omega
        rw [View.read_writes_cons_unit_of_mem v G (inb ⟨k, hk'⟩) _ _ i
          (ix2 ⟨(i 0 : ℕ) % 16, Nat.mod_lt _ (by decide)⟩ (i 1)) (hoff _) (fun a => by
            match a with
            | ⟨0, _⟩ => show (i 0 : ℕ) = 16 * k + (i 0 : ℕ) % 16; omega
            | ⟨1, _⟩ => show (i 1 : ℕ) = 0 + (i 1 : ℕ); omega)]
        unfold tiled
        exact congrFun (congrArg W (Fin.ext hd.symm)) _
      · rw [View.read_writes_cons_unit_of_not_mem v G (inb ⟨k, hk'⟩) _ _ i (hoff _) 0
          (Or.inr (by show 16 * k + 16 ≤ (i 0 : ℕ); omega)), ih i, if_neg hlt, if_neg hlt2]

/-- All the tiles stored: the whole matrix. -/
theorem read_tiles_all {C n : ℕ} {e : EltTy} {κ : Kind} {sp : Space} (hn : n = 16) (v : View sig κ sp ⟨2, ![256, C]⟩ e)
    (G : v.ty.Contents (Elt F)) (off : Fin n → Fin 2 → ℕ) (hoff : ∀ k, off k = ![16 * k.val, 0])
    (inb : ∀ k (a : Fin 2), off k a + (![16, C] : Fin 2 → ℕ) a ≤ (⟨2, ![256, C]⟩ : Shape).size a)
    (W : Fin n → (⟨2, ![16, C]⟩ : Shape).Idx → Elt F e) (P : ℕ → List (View.Piece (Elt F) ⟨2, ![256, C]⟩ e)) (h0 : P 0 = [])
    (hs : ∀ k : Fin n, P (k.val + 1) = (⟨Rect.unit (s := ⟨2, ![256, C]⟩) (off k) ![16, C] (inb k), W k⟩ : View.Piece (Elt F) ⟨2, ![256, C]⟩ e) :: P k.val) :
    v.read (Elt F) (v.writes (Elt F) G (P n)) = tiled hn W := by
  funext i
  rw [read_tiles hn v G off hoff inb W P h0 hs n le_rfl i, if_pos]
  have h : (i 0 : ℕ) < 256 := (i 0).isLt
  omega

theorem trips1 : k0_t1_loop.trips = 16 := by decide +kernel

/-! ## What a point computes, from its blocks -/

/-- The tiles a trip loads. -/
def xT (x : Vec F S256x7168 .bf16) (k : Fin k0_t1_loop.trips) : Vec F S16x7168 .bf16 :=
  View.ld x (Rect.unit (s := S256x7168) (k0_off1 k) S16x7168.size (k0_off1_inb k))
def yT (y : Vec F S256x2304 .bf16) (k : Fin k0_t1_loop.trips) : Vec F S16x2304 .bf16 :=
  View.ld y (Rect.unit (s := S256x2304) (k0_off3 k) S16x2304.size (k0_off3_inb k))

/-- The inverse root mean squares of the point's rows. -/
def rB (x : Vec F S256x7168 .bf16) : Vec F S256x128 .f32 := tiled trips1 fun k => k0_pay5 (xT x k)

/-- The running maxima after `n` tiles. -/
def cmN (x : Vec F S256x7168 .bf16) (s : Vec F S8x7168 .f32) : ℕ → Vec F S8x7168 .f32
  | 0 => s
  | n + 1 => if h : n < k0_t1_loop.trips then k0_pay6 (xT x ⟨n, h⟩) (cmN x s n) else cmN x s n
def dmN (y : Vec F S256x2304 .bf16) (s : Vec F S8x2304 .f32) : ℕ → Vec F S8x2304 .f32
  | 0 => s
  | n + 1 => if h : n < k0_t1_loop.trips then k0_pay7 (yT y ⟨n, h⟩) (dmN y s n) else dmN y s n
def cmB (x : Vec F S256x7168 .bf16) (s : Vec F S8x7168 .f32) : Vec F S8x7168 .f32 := cmN x s k0_t1_loop.trips
def dmB (y : Vec F S256x2304 .bf16) (s : Vec F S8x2304 .f32) : Vec F S8x2304 .f32 := dmN y s k0_t1_loop.trips

/-- The four numbers the last point leaves. -/
def axB (cm : Vec F S8x7168 .f32) (g : Vec F S1x7168 .f32) : Vec F S1 .f32 := fun _ => k0_pay8 cm g
def ayB (dm : Vec F S8x2304 .f32) : Vec F S1 .f32 := fun _ => k0_pay9 dm
def sxB (cm : Vec F S8x7168 .f32) (g : Vec F S1x7168 .f32) : Vec F S1 .f32 := fun _ =>
  k0_pay16 (k0_pay14 (k0_pay10 cm g) (k0_pay11 cm g) (k0_pay12 cm g) k0_pay13) k0_pay15
def syB (dm : Vec F S8x2304 .f32) : Vec F S1 .f32 := fun _ =>
  k0_pay20 (k0_pay17 (k0_pay9 dm)) (k0_pay18 (k0_pay9 dm)) k0_pay19

/-! ## The loop leaves these -/

theorem hz2 : (![0, 0] : Fin 2 → Nat) = fun _ => 0 := funext fun a => by fin_cases a <;> rfl

section
variable (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S256x2304 .bf16) (harg3 : arg3.IsWhole) (arg4 : Memref sig .tc .vmem S256x128 .f32) (harg4 : arg4.IsWhole) (arg5 : Memref sig .tc .smem S1 .f32) (harg5 : arg5.IsWhole) (arg6 : Memref sig .tc .smem S1 .f32) (harg6 : arg6.IsWhole) (arg7 : Memref sig .tc .smem S1 .f32) (harg7 : arg7.IsWhole) (arg8 : Memref sig .tc .smem S1 .f32) (harg8 : arg8.IsWhole) (arg9 : Memref sig .tc .vmem S8x7168 .f32) (harg9 : arg9.IsWhole) (arg10 : Memref sig .tc .vmem S8x2304 .f32) (harg10 : arg10.IsWhole)
  (X1 : BufTy.Contents (Elt F) arg1.view.ty) (X3 : BufTy.Contents (Elt F) arg3.view.ty)

theorem tripL_eq (k : Fin k0_t1_loop.trips) (f4) (f9) (f10) :
    tripL_k0_t1 (F := F) Variants.none c none i arg1 harg1 arg2 harg2 arg3 harg3 arg4 harg4 arg5 harg5 arg6 harg6 arg7 harg7 arg8 harg8 arg9 harg9 arg10 harg10 X1 X3 k f4 f9 f10
      = ([⟨Rect.unit (s := S256x128) (k0_off2 k) ![16, 128] (k0_off2_inb k), k0_pay5 (xT (arg1.view.read (Elt F) X1) k)⟩],
         [⟨Rect.unit (s := S8x7168) ![0, 0] S8x7168.size inb_S8x7168_S8x7168_0_0, k0_pay6 (xT (arg1.view.read (Elt F) X1) k) (View.ld (arg9.view.read (Elt F) f9) (Rect.unit (s := S8x7168) ![0, 0] S8x7168.size inb_S8x7168_S8x7168_0_0))⟩],
         [⟨Rect.unit (s := S8x2304) ![0, 0] S8x2304.size inb_S8x2304_S8x2304_0_0, k0_pay7 (yT (arg3.view.read (Elt F) X3) k) (View.ld (arg10.view.read (Elt F) f10) (Rect.unit (s := S8x2304) ![0, 0] S8x2304.size inb_S8x2304_S8x2304_0_0))⟩]) := by
  unfold tripL_k0_t1 trip_k0_t1
  rfl

variable (G4 : BufTy.Contents (Elt F) arg4.view.ty) (G9 : BufTy.Contents (Elt F) arg9.view.ty) (G10 : BufTy.Contents (Elt F) arg10.view.ty)

theorem pb_r : arg4.view.read (Elt F) (arg4.view.writes (Elt F) G4 (pb_k0_t1 (F := F) Variants.none c none i arg1 harg1 arg2 harg2 arg3 harg3 arg4 harg4 arg5 harg5 arg6 harg6 arg7 harg7 arg8 harg8 arg9 harg9 arg10 harg10 X1 X3 G4 G9 G10 k0_t1_loop.trips).1)
      = rB (arg1.view.read (Elt F) X1) := by
  refine read_tiles_all trips1 arg4.view G4 k0_off2 k0_off2_eq k0_off2_inb _ (fun k => (pb_k0_t1 (F := F) Variants.none c none i arg1 harg1 arg2 harg2 arg3 harg3 arg4 harg4 arg5 harg5 arg6 harg6 arg7 harg7 arg8 harg8 arg9 harg9 arg10 harg10 X1 X3 G4 G9 G10 k).1) rfl fun k => ?_
  dsimp only
  rw [pb_k0_t1_succ, tripL_eq]
  rfl

theorem pb_cm (s : Vec F S8x7168 .f32) (h9 : arg9.view.read (Elt F) G9 = s) : ∀ k ≤ k0_t1_loop.trips,
    arg9.view.read (Elt F) (arg9.view.writes (Elt F) G9 (pb_k0_t1 (F := F) Variants.none c none i arg1 harg1 arg2 harg2 arg3 harg3 arg4 harg4 arg5 harg5 arg6 harg6 arg7 harg7 arg8 harg8 arg9 harg9 arg10 harg10 X1 X3 G4 G9 G10 k).2.1)
      = cmN (arg1.view.read (Elt F) X1) s k := by
  intro k
  induction k with
  | zero => intro _; exact h9
  | succ k ih =>
    intro hk
    rw [show k + 1 = (⟨k, hk⟩ : Fin k0_t1_loop.trips).val + 1 from rfl, pb_k0_t1_succ, tripL_eq]
    dsimp only [List.cons_append, List.nil_append]
    rw [View.read_writes_full, View.ld_unit_zero (S := S8x7168) hz2, ih (Nat.le_of_succ_le hk)]
    conv_rhs => unfold cmN
    rw [dif_pos (Nat.lt_of_succ_le hk)]

theorem pb_dm (s : Vec F S8x2304 .f32) (h10 : arg10.view.read (Elt F) G10 = s) : ∀ k ≤ k0_t1_loop.trips,
    arg10.view.read (Elt F) (arg10.view.writes (Elt F) G10 (pb_k0_t1 (F := F) Variants.none c none i arg1 harg1 arg2 harg2 arg3 harg3 arg4 harg4 arg5 harg5 arg6 harg6 arg7 harg7 arg8 harg8 arg9 harg9 arg10 harg10 X1 X3 G4 G9 G10 k).2.2)
      = dmN (arg3.view.read (Elt F) X3) s k := by
  intro k
  induction k with
  | zero => intro _; exact h10
  | succ k ih =>
    intro hk
    rw [show k + 1 = (⟨k, hk⟩ : Fin k0_t1_loop.trips).val + 1 from rfl, pb_k0_t1_succ, tripL_eq]
    dsimp only [List.cons_append, List.nil_append]
    rw [View.read_writes_full, View.ld_unit_zero (S := S8x2304) hz2, ih (Nat.le_of_succ_le hk)]
    conv_rhs => unfold dmN
    rw [dif_pos (Nat.lt_of_succ_le hk)]

/-- The maxima after the loop. -/
theorem cm_all (s : Vec F S8x7168 .f32) (h9 : arg9.view.read (Elt F) G9 = s) :
    arg9.view.read (Elt F) (arg9.view.writes (Elt F) G9 (pb_k0_t1 (F := F) Variants.none c none i arg1 harg1 arg2 harg2 arg3 harg3 arg4 harg4 arg5 harg5 arg6 harg6 arg7 harg7 arg8 harg8 arg9 harg9 arg10 harg10 X1 X3 G4 G9 G10 k0_t1_loop.trips).2.1)
      = cmB (arg1.view.read (Elt F) X1) s := pb_cm c i arg1 harg1 arg2 harg2 arg3 harg3 arg4 harg4 arg5 harg5 arg6 harg6 arg7 harg7 arg8 harg8 arg9 harg9 arg10 harg10 X1 X3 G4 G9 G10 s h9 _ le_rfl
theorem dm_all (s : Vec F S8x2304 .f32) (h10 : arg10.view.read (Elt F) G10 = s) :
    arg10.view.read (Elt F) (arg10.view.writes (Elt F) G10 (pb_k0_t1 (F := F) Variants.none c none i arg1 harg1 arg2 harg2 arg3 harg3 arg4 harg4 arg5 harg5 arg6 harg6 arg7 harg7 arg8 harg8 arg9 harg9 arg10 harg10 X1 X3 G4 G9 G10 k0_t1_loop.trips).2.2)
      = dmB (arg3.view.read (Elt F) X3) s := pb_dm c i arg1 harg1 arg2 harg2 arg3 harg3 arg4 harg4 arg5 harg5 arg6 harg6 arg7 harg7 arg8 harg8 arg9 harg9 arg10 harg10 X1 X3 G4 G9 G10 s h10 _ le_rfl
end

end Cert.Whole.R0

end
-- ==== Proof.RawStatsBody.lean ====
/-
  The body of the statistics call at any grid point and any floats: from what its buffers hold when it
  starts to what they hold when it ends, in the terms of the module on the loop.
-/
module

public import proofs.«01_k».proof.Proof.RawStatsTrip

@[expose] public section

set_option maxRecDepth 16384

noncomputable section

namespace Cert.Whole.R0

open Cert.Whole.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A whole store. -/
theorem whole9 {κ : Kind} {sp : Space} (v : View sig κ sp S8x7168 .f32) (f : v.ty.Contents (Elt F)) :
    v.read (Elt F) (v.writes (Elt F) f [⟨Rect.unit (s := S8x7168) ![0, 0] S8x7168.size inb_S8x7168_S8x7168_0_0, k0_pay1 (F := F)⟩]) = k0_pay1 :=
  View.read_writes_full _ _ _ _ _

theorem whole10 {κ : Kind} {sp : Space} (v : View sig κ sp S8x2304 .f32) (f : v.ty.Contents (Elt F)) :
    v.read (Elt F) (v.writes (Elt F) f [⟨Rect.unit (s := S8x2304) ![0, 0] S8x2304.size inb_S8x2304_S8x2304_0_0, k0_pay2 (F := F)⟩]) = k0_pay2 :=
  View.read_writes_full _ _ _ _ _

/-- The four numbers are of whole buffers. -/
theorem ax_of (u : Vec F S8x7168 .f32) (g : Vec F S1x7168 .f32) (U : Vec F S8x7168 .f32) (h : u = U) :
    axB (View.ld u (Rect.unit (s := S8x7168) ![0, 0] S8x7168.size inb_S8x7168_S8x7168_0_0)) (View.ld g (Rect.unit (s := S1x7168) ![0, 0] S1x7168.size inb_S1x7168_S1x7168_0_0)) = axB U g := by
  rw [View.ld_unit_zero (S := S8x7168) hz2, View.ld_unit_zero (S := S1x7168) hz2, h]
theorem sx_of (u : Vec F S8x7168 .f32) (g : Vec F S1x7168 .f32) (U : Vec F S8x7168 .f32) (h : u = U) :
    sxB (View.ld u (Rect.unit (s := S8x7168) ![0, 0] S8x7168.size inb_S8x7168_S8x7168_0_0)) (View.ld g (Rect.unit (s := S1x7168) ![0, 0] S1x7168.size inb_S1x7168_S1x7168_0_0)) = sxB U g := by
  rw [View.ld_unit_zero (S := S8x7168) hz2, View.ld_unit_zero (S := S1x7168) hz2, h]
theorem ay_of (u : Vec F S8x2304 .f32) (U : Vec F S8x2304 .f32) (h : u = U) :
    ayB (View.ld u (Rect.unit (s := S8x2304) ![0, 0] S8x2304.size inb_S8x2304_S8x2304_0_0)) = ayB U := by
  rw [View.ld_unit_zero (S := S8x2304) hz2, h]
theorem sy_of (u : Vec F S8x2304 .f32) (U : Vec F S8x2304 .f32) (h : u = U) :
    syB (View.ld u (Rect.unit (s := S8x2304) ![0, 0] S8x2304.size inb_S8x2304_S8x2304_0_0)) = syB U := by
  rw [View.ld_unit_zero (S := S8x2304) hz2, h]

set_option maxHeartbeats 4000000 in
theorem body (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S256x2304 .bf16) (harg3 : arg3.IsWhole) (arg4 : Memref sig .tc .vmem S256x128 .f32) (harg4 : arg4.IsWhole) (arg5 : Memref sig .tc .smem S1 .f32) (harg5 : arg5.IsWhole) (arg6 : Memref sig .tc .smem S1 .f32) (harg6 : arg6.IsWhole) (arg7 : Memref sig .tc .smem S1 .f32) (harg7 : arg7.IsWhole) (arg8 : Memref sig .tc .smem S1 .f32) (harg8 : arg8.IsWhole) (arg9 : Memref sig .tc .vmem S8x7168 .f32) (harg9 : arg9.IsWhole) (arg10 : Memref sig .tc .vmem S8x2304 .f32) (harg10 : arg10.IsWhole)
    (x0 : Vec F S256x7168 .bf16) (x1 : Vec F S1x7168 .f32) (x2 : Vec F S256x2304 .bf16) (y5 y6 y7 y8 : Vec F S1 .f32) (s : Vec F S8x7168 .f32) (s' : Vec F S8x2304 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare s ∗ owns (c : Thread nD τ) arg10 fullShare s' ∗ (iprop(owns (c : Thread nD τ) arg1 fullShare x0 ∗ owns (c : Thread nD τ) arg2 fullShare x1 ∗ owns (c : Thread nD τ) arg3 fullShare x2 ∗ owns (c : Thread nD τ) arg4 fullShare (rB x0) ∗ owns (c : Thread nD τ) arg5 fullShare (if cond0_1 i then axB (cmB x0 (if cond0_0 i then k0_pay1 else s)) x1 else y5) ∗ owns (c : Thread nD τ) arg6 fullShare (if cond0_1 i then ayB (dmB x2 (if cond0_0 i then k0_pay2 else s')) else y6) ∗ owns (c : Thread nD τ) arg7 fullShare (if cond0_1 i then sxB (cmB x0 (if cond0_0 i then k0_pay1 else s)) x1 else y7) ∗ owns (c : Thread nD τ) arg8 fullShare (if cond0_1 i then syB (dmB x2 (if cond0_0 i then k0_pay2 else s')) else y8) ∗ owns (c : Thread nD τ) arg9 fullShare (cmB x0 (if cond0_0 i then k0_pay1 else s)) ∗ owns (c : Thread nD τ) arg10 fullShare (dmB x2 (if cond0_0 i then k0_pay2 else s'))) -∗ K ⟨⟩))
      ⊢ wp frame (wpE (defs₀ (F := F)) Variants.none c none) E (cc0_stats i arg1 harg1 arg2 harg2 arg3 harg3 arg4 harg4 arg5 harg5 arg6 harg6 arg7 harg7 arg8 harg8 arg9 harg9 arg10 harg10) K := by
  by_cases hc0 : cond0_0 i <;> by_cases hc1 : cond0_1 i
  · simp only [if_pos hc0, if_pos hc1]
    simp only [cc0_stats_eq_skeleton]; unfold cc0_stats_skel
    simp only [k0_part4_eq_skeleton]
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    subst hf1 hf2 hf3 hf5 hf6 hf7 hf8 hf9 hf10
    sl_exec (disch := first | sl_exact hc0 | sl_exact hc1)
    sl_step
    iapply Hk
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; exact pb_r c i arg1 harg1 arg2 harg2 arg3 harg3 arg4 harg4 arg5 harg5 arg6 harg6 arg7 harg7 arg8 harg8 arg9 harg9 arg10 harg10 _ _ _ _ _
    isplitl [H5]
    · iexists _; isplitr; swap; · iexact H5
      ipureintro; exact (View.read_writes_full _ _ _ _ _).trans (ax_of _ _ _ (by rw [View.writes_append]; exact cm_all c i arg1 harg1 arg2 harg2 arg3 harg3 arg4 harg4 arg5 harg5 arg6 harg6 arg7 harg7 arg8 harg8 arg9 harg9 arg10 harg10 _ _ _ _ _ k0_pay1 (whole9 _ _)))
    isplitl [H6]
    · iexists _; isplitr; swap; · iexact H6
      ipureintro; exact (View.read_writes_full _ _ _ _ _).trans (ay_of _ _ (by rw [View.writes_append]; exact dm_all c i arg1 harg1 arg2 harg2 arg3 harg3 arg4 harg4 arg5 harg5 arg6 harg6 arg7 harg7 arg8 harg8 arg9 harg9 arg10 harg10 _ _ _ _ _ k0_pay2 (whole10 _ _)))
    isplitl [H7]
    · iexists _; isplitr; swap; · iexact H7
      ipureintro; exact (View.read_writes_full _ _ _ _ _).trans (sx_of _ _ _ (by rw [View.writes_append]; exact cm_all c i arg1 harg1 arg2 harg2 arg3 harg3 arg4 harg4 arg5 harg5 arg6 harg6 arg7 harg7 arg8 harg8 arg9 harg9 arg10 harg10 _ _ _ _ _ k0_pay1 (whole9 _ _)))
    isplitl [H8]
    · iexists _; isplitr; swap; · iexact H8
      ipureintro; exact (View.read_writes_full _ _ _ _ _).trans (sy_of _ _ (by rw [View.writes_append]; exact dm_all c i arg1 harg1 arg2 harg2 arg3 harg3 arg4 harg4 arg5 harg5 arg6 harg6 arg7 harg7 arg8 harg8 arg9 harg9 arg10 harg10 _ _ _ _ _ k0_pay2 (whole10 _ _)))
    isplitl [H9]
    · iexists _; isplitr; swap; · iexact H9
      ipureintro; exact (by rw [View.writes_append]; exact cm_all c i arg1 harg1 arg2 harg2 arg3 harg3 arg4 harg4 arg5 harg5 arg6 harg6 arg7 harg7 arg8 harg8 arg9 harg9 arg10 harg10 _ _ _ _ _ k0_pay1 (whole9 _ _))
    iexists _; isplitr; swap; · iexact H10
    ipureintro; exact (by rw [View.writes_append]; exact dm_all c i arg1 harg1 arg2 harg2 arg3 harg3 arg4 harg4 arg5 harg5 arg6 harg6 arg7 harg7 arg8 harg8 arg9 harg9 arg10 harg10 _ _ _ _ _ k0_pay2 (whole10 _ _))
  · simp only [if_pos hc0, if_neg hc1]
    simp only [cc0_stats_eq_skeleton]; unfold cc0_stats_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    subst hf1 hf2 hf3 hf5 hf6 hf7 hf8 hf9 hf10
    sl_exec (disch := first | sl_exact hc0 | sl_exact hc1)
    sl_step
    iapply Hk
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; exact pb_r c i arg1 harg1 arg2 harg2 arg3 harg3 arg4 harg4 arg5 harg5 arg6 harg6 arg7 harg7 arg8 harg8 arg9 harg9 arg10 harg10 _ _ _ _ _
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact (by rw [View.writes_append]; exact cm_all c i arg1 harg1 arg2 harg2 arg3 harg3 arg4 harg4 arg5 harg5 arg6 harg6 arg7 harg7 arg8 harg8 arg9 harg9 arg10 harg10 _ _ _ _ _ k0_pay1 (whole9 _ _))
    iexists _; isplitr; swap; · iexact H10
    ipureintro; exact (by rw [View.writes_append]; exact dm_all c i arg1 harg1 arg2 harg2 arg3 harg3 arg4 harg4 arg5 harg5 arg6 harg6 arg7 harg7 arg8 harg8 arg9 harg9 arg10 harg10 _ _ _ _ _ k0_pay2 (whole10 _ _))
  · simp only [if_neg hc0, if_pos hc1]
    simp only [cc0_stats_eq_skeleton]; unfold cc0_stats_skel
    simp only [k0_part4_eq_skeleton]
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    subst hf1 hf2 hf3 hf5 hf6 hf7 hf8 hf9 hf10
    sl_exec (disch := first | sl_exact hc0 | sl_exact hc1)
    sl_step
    iapply Hk
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; exact pb_r c i arg1 harg1 arg2 harg2 arg3 harg3 arg4 harg4 arg5 harg5 arg6 harg6 arg7 harg7 arg8 harg8 arg9 harg9 arg10 harg10 _ _ _ _ _
    isplitl [H5]
    · iexists _; isplitr; swap; · iexact H5
      ipureintro; exact (View.read_writes_full _ _ _ _ _).trans (ax_of _ _ _ (cm_all c i arg1 harg1 arg2 harg2 arg3 harg3 arg4 harg4 arg5 harg5 arg6 harg6 arg7 harg7 arg8 harg8 arg9 harg9 arg10 harg10 _ _ _ _ _ _ rfl))
    isplitl [H6]
    · iexists _; isplitr; swap; · iexact H6
      ipureintro; exact (View.read_writes_full _ _ _ _ _).trans (ay_of _ _ (dm_all c i arg1 harg1 arg2 harg2 arg3 harg3 arg4 harg4 arg5 harg5 arg6 harg6 arg7 harg7 arg8 harg8 arg9 harg9 arg10 harg10 _ _ _ _ _ _ rfl))
    isplitl [H7]
    · iexists _; isplitr; swap; · iexact H7
      ipureintro; exact (View.read_writes_full _ _ _ _ _).trans (sx_of _ _ _ (cm_all c i arg1 harg1 arg2 harg2 arg3 harg3 arg4 harg4 arg5 harg5 arg6 harg6 arg7 harg7 arg8 harg8 arg9 harg9 arg10 harg10 _ _ _ _ _ _ rfl))
    isplitl [H8]
    · iexists _; isplitr; swap; · iexact H8
      ipureintro; exact (View.read_writes_full _ _ _ _ _).trans (sy_of _ _ (dm_all c i arg1 harg1 arg2 harg2 arg3 harg3 arg4 harg4 arg5 harg5 arg6 harg6 arg7 harg7 arg8 harg8 arg9 harg9 arg10 harg10 _ _ _ _ _ _ rfl))
    isplitl [H9]
    · iexists _; isplitr; swap; · iexact H9
      ipureintro; exact (cm_all c i arg1 harg1 arg2 harg2 arg3 harg3 arg4 harg4 arg5 harg5 arg6 harg6 arg7 harg7 arg8 harg8 arg9 harg9 arg10 harg10 _ _ _ _ _ _ rfl)
    iexists _; isplitr; swap; · iexact H10
    ipureintro; exact (dm_all c i arg1 harg1 arg2 harg2 arg3 harg3 arg4 harg4 arg5 harg5 arg6 harg6 arg7 harg7 arg8 harg8 arg9 harg9 arg10 harg10 _ _ _ _ _ _ rfl)
  · simp only [if_neg hc0, if_neg hc1]
    simp only [cc0_stats_eq_skeleton]; unfold cc0_stats_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    subst hf1 hf2 hf3 hf5 hf6 hf7 hf8 hf9 hf10
    sl_exec (disch := first | sl_exact hc0 | sl_exact hc1)
    sl_step
    iapply Hk
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; exact pb_r c i arg1 harg1 arg2 harg2 arg3 harg3 arg4 harg4 arg5 harg5 arg6 harg6 arg7 harg7 arg8 harg8 arg9 harg9 arg10 harg10 _ _ _ _ _
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact (cm_all c i arg1 harg1 arg2 harg2 arg3 harg3 arg4 harg4 arg5 harg5 arg6 harg6 arg7 harg7 arg8 harg8 arg9 harg9 arg10 harg10 _ _ _ _ _ _ rfl)
    iexists _; isplitr; swap; · iexact H10
    ipureintro; exact (dm_all c i arg1 harg1 arg2 harg2 arg3 harg3 arg4 harg4 arg5 harg5 arg6 harg6 arg7 harg7 arg8 harg8 arg9 harg9 arg10 harg10 _ _ _ _ _ _ rfl)

end Cert.Whole.R0

end
-- ==== Proof.RawStatsFrame.lean ====
/-
The running of the statistics call point by point, at any floats: what every buffer holds after each of
the six grid points, that the call ends, that its argument arrays are left alone, and what its five result
arrays hold in the end.  The running maxima are carried from one point to the next;
`sAt` names them.
-/
module

public import proofs.«01_k».proof.Proof.RawStatsBody
public import Idealize.ShloMosaic.Lib.Claim

@[expose] public section

set_option maxRecDepth 16384

noncomputable section

namespace Cert.Whole.R0

open Cert.Whole.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The running maxima after point `n`. -/
def sAt (c : Dev nD) : (n : ℕ) → n < cfg0.N → Vec F S8x7168 .f32 × Vec F S8x2304 .f32
  | 0, hn => (cmB (iblk V c 0 ⟨0, hn⟩) k0_pay1, dmB (iblk V c 2 ⟨0, hn⟩) k0_pay2)
  | n + 1, hn => (cmB (iblk V c 0 ⟨n + 1, hn⟩) (sAt c n (Nat.lt_of_succ_lt hn)).1, dmB (iblk V c 2 ⟨n + 1, hn⟩) (sAt c n (Nat.lt_of_succ_lt hn)).2)

theorem sAt_zero (c : Dev nD) (t : Fin cfg0.N) (hz : t.val = 0) :
    sAt V c t.val t.isLt = (cmB (iblk V c 0 t) k0_pay1, dmB (iblk V c 2 t) k0_pay2) := by
  obtain ⟨n, hn⟩ := t
  cases n with
  | zero => rfl
  | succ n => exact absurd hz (Nat.succ_ne_zero n)

theorem sAt_pos (c : Dev nD) (t : Fin cfg0.N) (hz : t.val ≠ 0) :
    sAt V c t.val t.isLt = (cmB (iblk V c 0 t) (sAt V c (t.val - 1) (lt_of_le_of_lt (Nat.sub_le _ _) t.isLt)).1, dmB (iblk V c 2 t) (sAt V c (t.val - 1) (lt_of_le_of_lt (Nat.sub_le _ _) t.isLt)).2) := by
  obtain ⟨n, hn⟩ := t
  cases n with
  | zero => exact absurd rfl hz
  | succ n => rfl

/-- What is known between points: the carried maxima after the first point, anything before it. -/
def PhiS (c : Dev nD) : (n : ℕ) → n ≤ cfg0.N → sProp 𝕄
  | 0, _ => Pipeline.ΦA spec0 c
  | n + 1, hn => iprop(iprop(owns (c : Thread nD τ) scM0_0 fullShare (sAt V c n hn).1 ∗ owns (c : Thread nD τ) scM0_1 fullShare (sAt V c n hn).2) ∗ restG c)

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (sAt V c n hn).1 ∗ owns (c : Thread nD τ) scM0_1 fullShare (sAt V c n hn).2) ∗ restG c) := rfl

theorem PhiS_pos (c : Dev nD) (n : ℕ) (h : n ≤ cfg0.N) (hz : n ≠ 0) :
    PhiS V c n h = iprop(iprop(owns (c : Thread nD τ) scM0_0 fullShare (sAt V c (n - 1) (by omega)).1 ∗ owns (c : Thread nD τ) scM0_1 fullShare (sAt V c (n - 1) (by omega)).2) ∗ restG c) := by
  cases n with
  | zero => exact absurd rfl hz
  | succ n => rfl

/-- What each buffer holds after the body at each point. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => rB (iblk V c 0 t)
    | ⟨4, _⟩ => axB (sAt V c t.val t.isLt).1 (iblk V c 1 t)
    | ⟨5, _⟩ => ayB (sAt V c t.val t.isLt).2
    | ⟨6, _⟩ => sxB (sAt V c t.val t.isLt).1 (iblk V c 1 t)
    | ⟨7, _⟩ => syB (sAt V c t.val t.isLt).2
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; exact Pipeline.Dat.Φ_castSucc (PhiS V c) t

theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = rB (iblk V c 0 t) := by dsimp only [dat]
theorem after0_4 (c : Dev nD) (t : Fin cfg0.N) : (dat V c).after 4 t = axB (sAt V c t.val t.isLt).1 (iblk V c 1 t) := by dsimp only [dat]
theorem after0_5 (c : Dev nD) (t : Fin cfg0.N) : (dat V c).after 5 t = ayB (sAt V c t.val t.isLt).2 := by dsimp only [dat]
theorem after0_6 (c : Dev nD) (t : Fin cfg0.N) : (dat V c).after 6 t = sxB (sAt V c t.val t.isLt).1 (iblk V c 1 t) := by dsimp only [dat]
theorem after0_7 (c : Dev nD) (t : Fin cfg0.N) : (dat V c).after 7 t = syB (sAt V c t.val t.isLt).2 := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4000000 in
/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat V c).owesAt () t.succ = (dat V c).owesAt () t.castSucc from rfl]
  rw [show (dat V c).Φ t.succ = PhiS V c (t.val + 1) t.isLt from rfl, PhiS_succ]
  have hN : t.val < 6 := lt_of_lt_of_eq t.isLt (show cfg0.N = 6 from N_0)
  rw [show (dat V c).leavesExact 0 t = owns (c : Thread nD τ) (ms0_0 t) fullShare ((dat V c).after 0 t) from by
    unfold Dat.leavesExact; rw [liveAt0_0 t], after0_0]
  rw [show (dat V c).leavesExact 1 t = owns (c : Thread nD τ) (ms0_1 t) fullShare ((dat V c).after 1 t) from by
    unfold Dat.leavesExact; rw [liveAt0_1 t], after0_1]
  rw [show (dat V c).leavesExact 2 t = owns (c : Thread nD τ) (ms0_2 t) fullShare ((dat V c).after 2 t) from by
    unfold Dat.leavesExact; rw [liveAt0_2 t], after0_2]
  rw [show (dat V c).leavesExact 3 t = owns (c : Thread nD τ) (ms0_3 t) fullShare ((dat V c).after 3 t) from by
    unfold Dat.leavesExact; rw [liveAt0_3 t], after0_3]
  by_cases hz : t.val = 0
  · have h0 : t.val % 6 = 0 := by omega
    have h1 : ¬ t.val % 6 = 5 := by omega
    rw [PhiS_castSucc V c t, PhiS_zero V c _ _ hz, PhiA0_eq, sAt_zero V c t hz]
    have hc0 := (hcond0_0 t).mpr h0
    have hc1 : ¬ cond0_1 (grid0.coords t) := fun h => h1 ((hcond0_1 t).mp h)
    rw [Dat.leavesExact_idle (dat V c) 4 t (idleAt0_4_A t hc0 hc1) (noFlush0_4_A t hc0 hc1)]
    rw [Dat.leavesExact_idle (dat V c) 5 t (idleAt0_5_A t hc0 hc1) (noFlush0_5_A t hc0 hc1)]
    rw [Dat.leavesExact_idle (dat V c) 6 t (idleAt0_6_A t hc0 hc1) (noFlush0_6_A t hc0 hc1)]
    rw [Dat.leavesExact_idle (dat V c) 7 t (idleAt0_7_A t hc0 hc1) (noFlush0_7_A t hc0 hc1)]
    dsimp only
    iintro ⟨⟨⟨⟨%es0, HS0⟩, ⟨%es1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body c (grid0.coords t) _ _ _ _ _ _ _ _ _ _ _ _ _ _ _ _ _ _ _ _ (iblk V c 0 t) (iblk V c 1 t) (iblk V c 2 t) _ _ _ _ _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [H6]; · iexact H6
    isplitl [H7]; · iexact H7
    isplitl [HS0]; · iexact HS0
    isplitl [HS1]; · iexact HS1
    simp only [if_pos hc0, if_neg hc1]
    iintro ⟨H0, H1, H2, H3, H4, H5, H6, H7, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iexists _; iexact H7
  · have h0 : ¬ t.val % 6 = 0 := by omega
    by_cases h1 : t.val % 6 = 5
    · skip
      rw [PhiS_castSucc V c t, PhiS_pos V c _ _ hz, sAt_pos V c t hz]
      have hc0 : ¬ cond0_0 (grid0.coords t) := fun h => h0 ((hcond0_0 t).mp h)
      have hc1 : cond0_1 (grid0.coords t) := (hcond0_1 t).mpr h1
      rw [show (dat V c).leavesExact 4 t = owns (c : Thread nD τ) (ms0_4 t) fullShare ((dat V c).after 4 t) from by
        unfold Dat.leavesExact; rw [liveAt0_4_C t hc0 hc1], after0_4, sAt_pos V c t hz]
      rw [show (dat V c).leavesExact 5 t = owns (c : Thread nD τ) (ms0_5 t) fullShare ((dat V c).after 5 t) from by
        unfold Dat.leavesExact; rw [liveAt0_5_C t hc0 hc1], after0_5, sAt_pos V c t hz]
      rw [show (dat V c).leavesExact 6 t = owns (c : Thread nD τ) (ms0_6 t) fullShare ((dat V c).after 6 t) from by
        unfold Dat.leavesExact; rw [liveAt0_6_C t hc0 hc1], after0_6, sAt_pos V c t hz]
      rw [show (dat V c).leavesExact 7 t = owns (c : Thread nD τ) (ms0_7 t) fullShare ((dat V c).after 7 t) from by
        unfold Dat.leavesExact; rw [liveAt0_7_C t hc0 hc1], after0_7, sAt_pos V c t hz]
      dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body c (grid0.coords t) _ _ _ _ _ _ _ _ _ _ _ _ _ _ _ _ _ _ _ _ (iblk V c 0 t) (iblk V c 1 t) (iblk V c 2 t) _ _ _ _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [H6]; · iexact H6
      isplitl [H7]; · iexact H7
      isplitl [HS0]; · iexact HS0
      isplitl [HS1]; · iexact HS1
      simp only [if_neg hc0, if_pos hc1]
      iintro ⟨H0, H1, H2, H3, H4, H5, H6, H7, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · skip
      rw [PhiS_castSucc V c t, PhiS_pos V c _ _ hz, sAt_pos V c t hz]
      have hc0 : ¬ cond0_0 (grid0.coords t) := fun h => h0 ((hcond0_0 t).mp h)
      have hc1 : ¬ cond0_1 (grid0.coords t) := fun h => h1 ((hcond0_1 t).mp h)
      rw [Dat.leavesExact_idle (dat V c) 4 t (idleAt0_4_B t hc0 hc1) (noFlush0_4_B t hc0 hc1)]
      rw [Dat.leavesExact_idle (dat V c) 5 t (idleAt0_5_B t hc0 hc1) (noFlush0_5_B t hc0 hc1)]
      rw [Dat.leavesExact_idle (dat V c) 6 t (idleAt0_6_B t hc0 hc1) (noFlush0_6_B t hc0 hc1)]
      rw [Dat.leavesExact_idle (dat V c) 7 t (idleAt0_7_B t hc0 hc1) (noFlush0_7_B t hc0 hc1)]
      dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body c (grid0.coords t) _ _ _ _ _ _ _ _ _ _ _ _ _ _ _ _ _ _ _ _ (iblk V c 0 t) (iblk V c 1 t) (iblk V c 2 t) _ _ _ _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [H6]; · iexact H6
      isplitl [H7]; · iexact H7
      isplitl [HS0]; · iexact HS0
      isplitl [HS1]; · iexact HS1
      simp only [if_neg hc0, if_neg hc1]
      iintro ⟨H0, H1, H2, H3, H4, H5, H6, H7, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      iexists _; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the launch hands the region (`ΦA`) is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dat V c).Φ (Fin.last cfg0.N) ⊢ Pipeline.ΦA spec0 c :=
  Phi_out V c _ (by rw [Fin.val_last]; have : cfg0.N = 6 := N_0; omega)

end Cert.Whole.R0

end
-- ==== Proof.RawDgradRuns.lean ====
/-
  What the module on the running of the input gradient call starts from: the blocks its windows stage, read off the arrays
  as the call finds them (`V`, whatever they hold), when the conditions on the grid point hold, and the buffers
  it is handed.
-/
module

public import proofs.«01_k».proof.Proof.Gen.Whole.Launch
public import proofs.«01_k».proof.Proof.Gen.Whole.Skeleton
public import proofs.«01_k».proof.Proof.Gen.Whole.Loops
public import proofs.«01_k».proof.Proof.Gen.Whole.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Whole.R1

open Cert.Whole.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 6 = 0 :=
  (fun t => by
    have ht : t.val < 6 := Nat.lt_of_lt_of_eq t.isLt N_1
    have e0 : (grid1.coords t 0).val = t.val / 1 % 6 := Pipeline.Grid.coords_val t 0 (by decide) rfl
    simp only [cond1_0, e0]
    word_cmp
   : ∀ t : Fin grid1.N, cond1_0 (grid1.coords t) ↔ t.val % 6 = 0)

/-- The condition of the body's `scf.if` 1 (`k1_h2`), from the grid coordinates (the skeleton's scalar
    chain substituted). -/
abbrev cond1_1 (i : grid1.Coords) : Prop := k1_cond2 i = 1#1
/-- It holds at the last point only — by arithmetic of the point. -/
theorem hcond1_1 : ∀ t : Fin cfg1.N, cond1_1 (grid1.coords t) ↔ t.val % 6 = 5 :=
  (fun t => by
    have ht : t.val < 6 := Nat.lt_of_lt_of_eq t.isLt N_1
    have e0 : (grid1.coords t 0).val = t.val / 1 % 6 := Pipeline.Grid.coords_val t 0 (by decide) rfl
    simp only [cond1_1, k1_cond2, e0]
    word_cmp
   : ∀ t : Fin grid1.N, cond1_1 (grid1.coords t) ↔ t.val % 6 = 5)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an input). -/
theorem liveAt1_6 : ∀ t : Fin cfg1.N, cfg1.idle 6 (grid1.coords t) = false := fun _ => rfl
/-- Window 7 is never idle (an input). -/
theorem liveAt1_7 : ∀ t : Fin cfg1.N, cfg1.idle 7 (grid1.coords t) = false := fun _ => rfl
/-- Window 8 is never idle (an input). -/
theorem liveAt1_8 : ∀ t : Fin cfg1.N, cfg1.idle 8 (grid1.coords t) = false := fun _ => rfl
/-- Window 9 is never idle (an output stored at every point, under no condition). -/
theorem liveAt1_9 : ∀ t : Fin cfg1.N, cfg1.idle 9 (grid1.coords t) = false := fun _ => rfl
/-- Window 11 is never idle (an output stored at every point, under no condition). -/
theorem liveAt1_11 : ∀ t : Fin cfg1.N, cfg1.idle 11 (grid1.coords t) = false := fun _ => rfl
/-- Window 12 is never idle (an output stored at every point, under no condition). -/
theorem liveAt1_12 : ∀ t : Fin cfg1.N, cfg1.idle 12 (grid1.coords t) = false := fun _ => rfl
/-- At the points of case A the printed configuration (`Cfg.idle`) calls output 10 idle: the case stores nothing into it. -/
theorem idleAt1_10_A : ∀ t : Fin cfg1.N, cond1_0 (grid1.coords t) → ¬cond1_1 (grid1.coords t) → cfg1.idle 10 (grid1.coords t) = true := by decide +kernel
/-- At the points of case A the pipeline does not write output 10's block back. -/
theorem noFlush1_10_A : ∀ t : Fin cfg1.N, cond1_0 (grid1.coords t) → ¬cond1_1 (grid1.coords t) → (cfg1.win 10).flush t = false := by decide +kernel
/-- At the points of case B the printed configuration (`Cfg.idle`) calls output 10 idle: the case stores nothing into it. -/
theorem idleAt1_10_B : ∀ t : Fin cfg1.N, ¬cond1_0 (grid1.coords t) → ¬cond1_1 (grid1.coords t) → cfg1.idle 10 (grid1.coords t) = true := by decide +kernel
/-- At the points of case B the pipeline does not write output 10's block back. -/
theorem noFlush1_10_B : ∀ t : Fin cfg1.N, ¬cond1_0 (grid1.coords t) → ¬cond1_1 (grid1.coords t) → (cfg1.win 10).flush t = false := by decide +kernel
/-- At the points of case C the printed configuration (`Cfg.idle`) calls output 10 live: the case stores into it. -/
theorem liveAt1_10_C : ∀ t : Fin cfg1.N, ¬cond1_0 (grid1.coords t) → cond1_1 (grid1.coords t) → cfg1.idle 10 (grid1.coords t) = false := by decide +kernel

/-! ## The kernel body on any staging memrefs: a subtype the run finds -/

abbrev VO1_9 : View sig .tc .vmem S256x7168 .bf16 := (Memref.whole cc1_stg9_0 : Memref sig .tc .vmem S256x7168 .bf16).view
abbrev VO1_10 : View sig .tc .vmem S1x7168 .f32 := (Memref.whole cc1_stg10_0 : Memref sig .tc .vmem S1x7168 .f32).view
abbrev VO1_11 : View sig .tc .vmem S256x7168 .fp8e4m3 := (Memref.whole cc1_stg11_0 : Memref sig .tc .vmem S256x7168 .fp8e4m3).view
abbrev VO1_12 : View sig .tc .vmem S256x2304 .fp8e5m2 := (Memref.whole cc1_stg12_0 : Memref sig .tc .vmem S256x2304 .fp8e5m2).view
/-- Each window's current staging memref at point `t`, spelled as the pipeline passes it (`bodyAt1`), and its wholeness. -/
abbrev ms1_0 (t : Fin cfg1.N) : Memref sig .tc .smem S1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .smem S1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .smem S1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .smem S1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x7168 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x7168 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x2304 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S7168x2304 .fp8e4m3 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S256x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S256x7168 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x7168 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S256x7168 .fp8e4m3 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S256x2304 .fp8e5m2 := win1_12.stage (cfg1.slots t 12)
abbrev hs1_12 (t : Fin cfg1.N) : (ms1_12 t).IsWhole := hstage1_12 ((cfg1.slots t 12).cast nbuf1_12)
/-- The scratch operands: whole scoped buffers of the kernel's own, passed beside the windows. -/
abbrev scM1_0 : Memref sig .tc .vmem S256x7168 .f32 := Memref.whole cc1_scratch0
abbrev scM1_1 : Memref sig .tc .vmem S8x7168 .f32 := Memref.whole cc1_scratch1
/-- The scratch `arg15` the kernel carries between points, as a view: what it holds is stated through it. -/
abbrev VS1_1 : View sig .tc .vmem S8x7168 .f32 := scM1_1.view

/-- What the call never looks at: every other scoped buffer, and the generator's register. -/
def restG (c : Dev nD) : sProp 𝕄 :=
  iprop(Pipeline.scopedRestBut (Ix := Unit) (Name := ℕ) (U := UR sig nD τ) (Lvl := ℕ) (Val := Elt F) spec1 c [cc1_scratch0, cc1_scratch1] ∗ (∃ r, prngReg c r))

/-- What the call is handed between points: its two scratch buffers at some contents, and the rest. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d)) ∗ restG c) := by
  unfold Pipeline.ΦA restG
  rw [Pipeline.scopedRest_split_of_list spec1 c [cc1_scratch0, cc1_scratch1] (by decide) (by decide)]
  simp only [scM1_0, scM1_1, owns_whole]
  exact equiv_iff.mp ⟨Idealize.SL.BI.sep_assoc, Idealize.SL.BI.sep_assoc'⟩

end Cert.Whole.R1

end
-- ==== Proof.RawDgradTrip.lean ====
/-
  What one grid point of the input gradient call leaves in its buffers: the two loops over the fourteen
  column tiles, as functions of the blocks read.
-/
module

public import proofs.«01_k».proof.Proof.RawDgradRuns
public import Idealize.ShloMosaic.Lib.Pipeline.Value
public import Idealize.ShloMosaic.Lib.VecWindow
public import Idealize.ShloMosaic.Lib.Pipeline.ValueKit
public import Idealize.ShloMosaic.Lib.Pointwise

@[expose] public section

set_option maxRecDepth 16384

noncomputable section

namespace Cert.Whole.R1

open Cert.Whole.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Column tiles -/

/-- The matrix whose column tiles of width 512 are `W`. -/
def tiled {R n : ℕ} {e : EltTy} (hn : n = 14) (W : Fin n → (⟨2, ![R, 512]⟩ : Shape).Idx → Elt F e) :
    (⟨2, ![R, 7168]⟩ : Shape).Idx → Elt F e := fun i =>
  W ⟨(i 1 : ℕ) / 512, by have h : (i 1 : ℕ) < 7168 := (i 1).isLt; omega⟩
    (ix2 (i 0) ⟨(i 1 : ℕ) % 512, Nat.mod_lt _ (by decide)⟩)

/-- Tiles stored one after the other: after `k` of them the first `512 * k` columns are the tiles', the rest as found. -/
theorem read_tiles {R n : ℕ} {e : EltTy} {κ : Kind} {sp : Space} (hn : n = 14) (v : View sig κ sp ⟨2, ![R, 7168]⟩ e)
    (G : v.ty.Contents (Elt F)) (off : Fin n → Fin 2 → ℕ) (hoff : ∀ k, off k = ![0, 512 * k.val])
    (inb : ∀ k (a : Fin 2), off k a + (![R, 512] : Fin 2 → ℕ) a ≤ (⟨2, ![R, 7168]⟩ : Shape).size a)
    (W : Fin n → (⟨2, ![R, 512]⟩ : Shape).Idx → Elt F e) (P : ℕ → List (View.Piece (Elt F) ⟨2, ![R, 7168]⟩ e)) (h0 : P 0 = [])
    (hs : ∀ k : Fin n, (∀ i, 512 * k.val ≤ (i 1 : ℕ) → v.read (Elt F) (v.writes (Elt F) G (P k.val)) i = v.read (Elt F) G i) →
      P (k.val + 1) = (⟨Rect.unit (s := ⟨2, ![R, 7168]⟩) (off k) ![R, 512] (inb k), W k⟩ : View.Piece (Elt F) ⟨2, ![R, 7168]⟩ e) :: P k.val) :
    ∀ k ≤ n, ∀ i, v.read (Elt F) (v.writes (Elt F) G (P k)) i
      = if (i 1 : ℕ) < 512 * k then tiled hn W i else v.read (Elt F) G i := by
  intro k
  induction k with
  | zero => intro _ i; rw [h0, if_neg (by omega)]; rfl
  | succ k ih =>
    intro hk i
    have hk' : k < n := hk
    have ih := ih (le_of_lt hk')
    have e := hs ⟨k, hk'⟩ (fun i hi => by rw [ih i, if_neg (by simp only at hi; omega)])
    simp only at e
    rw [e]
    have hi0 : (i 0 : ℕ) < R := (i 0).isLt
    by_cases hlt : (i 1 : ℕ) < 512 * k
    · rw [View.read_writes_cons_unit_of_not_mem v G (inb ⟨k, hk'⟩) _ _ i (hoff _) 1 (Or.inl (by show (i 1 : ℕ) < 512 * k; exact hlt)),
        ih i, if_pos hlt, if_pos (by omega)]
    · by_cases hlt2 : (i 1 : ℕ) < 512 * (k + 1)
      · rw [if_pos hlt2]
        have hd : (i 1 : ℕ) / 512 = k := by omega
        rw [View.read_writes_cons_unit_of_mem v G (inb ⟨k, hk'⟩) _ _ i
          (ix2 (i 0) ⟨(i 1 : ℕ) % 512, Nat.mod_lt _ (by decide)⟩) (hoff _) (fun a => by
            match a with
            | ⟨0, _⟩ => show (i 0 : ℕ) = 0 + (i 0 : ℕ); omega
            | ⟨1, _⟩ => show (i 1 : ℕ) = 512 * k + (i 1 : ℕ) % 512; omega)]
        unfold tiled
        exact congrFun (congrArg W (Fin.ext hd.symm)) _
      · rw [View.read_writes_cons_unit_of_not_mem v G (inb ⟨k, hk'⟩) _ _ i (hoff _) 1
          (Or.inr (by show 512 * k + 512 ≤ (i 1 : ℕ); omega)), ih i, if_neg hlt, if_neg hlt2]

/-- All the tiles stored: the whole matrix. -/
theorem read_tiles_all {R n : ℕ} {e : EltTy} {κ : Kind} {sp : Space} (hn : n = 14) (v : View sig κ sp ⟨2, ![R, 7168]⟩ e)
    (G : v.ty.Contents (Elt F)) (off : Fin n → Fin 2 → ℕ) (hoff : ∀ k, off k = ![0, 512 * k.val])
    (inb : ∀ k (a : Fin 2), off k a + (![R, 512] : Fin 2 → ℕ) a ≤ (⟨2, ![R, 7168]⟩ : Shape).size a)
    (W : Fin n → (⟨2, ![R, 512]⟩ : Shape).Idx → Elt F e) (P : ℕ → List (View.Piece (Elt F) ⟨2, ![R, 7168]⟩ e)) (h0 : P 0 = [])
    (hs : ∀ k : Fin n, (∀ i, 512 * k.val ≤ (i 1 : ℕ) → v.read (Elt F) (v.writes (Elt F) G (P k.val)) i = v.read (Elt F) G i) →
      P (k.val + 1) = (⟨Rect.unit (s := ⟨2, ![R, 7168]⟩) (off k) ![R, 512] (inb k), W k⟩ : View.Piece (Elt F) ⟨2, ![R, 7168]⟩ e) :: P k.val) :
    v.read (Elt F) (v.writes (Elt F) G (P n)) = tiled hn W := by
  funext i
  rw [read_tiles hn v G off hoff inb W P h0 hs n le_rfl i, if_pos]
  have h : (i 1 : ℕ) < 7168 := (i 1).isLt
  omega

theorem trips1 : k1_t1_loop.trips = 14 := by decide +kernel
theorem trips2 : k1_t2_loop.trips = 14 := by decide +kernel

/-! ## What a point computes, from its blocks -/

/-- The number in a one-element buffer. -/
def scal (x : Vec F S1 .f32) : Elt F .f32 := View.ld x (Rect.unit (s := S1) ![0] S1.size inb_S1_S1_0) (Shape.Idx.first (numel1_S1.symm ▸ Nat.one_pos))

/-- The step of the input's codes, and the codes of the output gradient. -/
def vDown (a : Elt F .f32) : FVec F S1x1 .f32 := k1_pay15 (k1_pay11 a) (k1_pay12 a) (k1_pay13 a) (k1_pay14 a)
def dyB (a : Elt F .f32) (dy : Vec F S256x2304 .bf16) : Vec F S256x2304 .fp8e5m2 :=
  k1_pay23 (k1_pay16 a) (k1_pay19 (k1_pay16 a) k1_pay17 k1_pay18) (k1_pay20 (k1_pay16 a) k1_pay17 k1_pay18) (k1_pay21 (k1_pay16 a) k1_pay17 k1_pay18) dy

/-- The tiles a trip loads. -/
def wT (w : Vec F S7168x2304 .fp8e4m3) (k : Fin k1_t1_loop.trips) : Vec F S512x2304 .fp8e4m3 :=
  View.ld w (Rect.unit (s := S7168x2304) (k1_off1 k) S512x2304.size (k1_off1_inb k))
def xT (x : Vec F S256x7168 .bf16) (k : Fin k1_t1_loop.trips) : Vec F S256x512 .bf16 :=
  View.ld x (Rect.unit (s := S256x7168) (k1_off2 k) S256x512.size (k1_off2_inb k))
def gT (g : Vec F S1x7168 .f32) (k : Fin k1_t1_loop.trips) : Vec F S1x512 .f32 :=
  View.ld g (Rect.unit (s := S1x7168) (k1_off3 k) S1x512.size (k1_off3_inb k))
def sT (s : Vec F S8x7168 .f32) (k : Fin k1_t1_loop.trips) : Vec F S8x512 .f32 :=
  View.ld s (Rect.unit (s := S8x7168) (k1_off4 k) S8x512.size (k1_off4_inb k))
def xT2 (x : Vec F S256x7168 .bf16) (k : Fin k1_t2_loop.trips) : Vec F S256x512 .bf16 :=
  View.ld x (Rect.unit (s := S256x7168) (k1_off5 k) S256x512.size (k1_off5_inb k))
def rT2 (x : Vec F S256x7168 .f32) (k : Fin k1_t2_loop.trips) : Vec F S256x512 .f32 :=
  View.ld x (Rect.unit (s := S256x7168) (k1_off5 k) S256x512.size (k1_off5_inb k))

section
variable (x0 x1 x2 x3 : Vec F S1 .f32) (x4 : Vec F S256x7168 .bf16) (x5 : Vec F S1x7168 .f32) (x6 : Vec F S256x2304 .bf16) (x7 : Vec F S7168x2304 .fp8e4m3) (x8 : Vec F S256x128 .f32)

/-- The input's codes, the weighted gradient kept for the second loop, and the partial sums of gamma's gradient. -/
def xcB : Vec F S256x7168 .fp8e4m3 := tiled trips1 fun k => k1_pay6 (vDown (scal x0)) (k1_pay24 x8) (xT x4 k) (gT x5 k)
def rawB : Vec F S256x7168 .f32 := tiled trips1 fun k => k1_pay9 (k1_pay22 (scal x2) (scal x3)) (dyB (scal x1) x6) (wT x7 k) (gT x5 k)
def sumB (s : Vec F S8x7168 .f32) : Vec F S8x7168 .f32 := tiled trips1 fun k =>
  k1_pay7 (k1_pay22 (scal x2) (scal x3)) (k1_pay24 x8) (dyB (scal x1) x6) (wT x7 k) (xT x4 k) (sT s k)

/-- The row sums after `n` tiles, lane by lane. -/
def laneB : ℕ → FVec F S256x128 .f32
  | 0 => k1_pay25
  | n + 1 => if h : n < k1_t1_loop.trips then
      k1_pay1 (laneB n) (k1_pay5 (k1_pay24 x8) (xT x4 ⟨n, h⟩)) (k1_pay8 (k1_pay22 (scal x2) (scal x3)) (dyB (scal x1) x6) (wT x7 ⟨n, h⟩) (gT x5 ⟨n, h⟩))
    else laneB n

/-- The input gradient. -/
def dxB : Vec F S256x7168 .bf16 := tiled trips2 fun k =>
  k1_pay2 (k1_pay24 x8) (laneB x1 x2 x3 x4 x5 x6 x7 x8 k1_t1_loop.trips) (xT2 x4 k) (rT2 (rawB x1 x2 x3 x5 x6 x7) k)
end

/-! ## The loops leave these -/

section
variable (c : Dev nD) (i : grid1.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S256x7168 .bf16) (harg5 : arg5.IsWhole) (arg6 : Memref sig .tc .vmem S1x7168 .f32) (harg6 : arg6.IsWhole) (arg7 : Memref sig .tc .vmem S256x2304 .bf16) (harg7 : arg7.IsWhole) (arg8 : Memref sig .tc .vmem S7168x2304 .fp8e4m3) (harg8 : arg8.IsWhole) (arg9 : Memref sig .tc .vmem S256x128 .f32) (harg9 : arg9.IsWhole) (arg10 : Memref sig .tc .vmem S256x7168 .bf16) (harg10 : arg10.IsWhole) (arg11 : Memref sig .tc .vmem S1x7168 .f32) (harg11 : arg11.IsWhole) (arg12 : Memref sig .tc .vmem S256x7168 .fp8e4m3) (harg12 : arg12.IsWhole) (arg13 : Memref sig .tc .vmem S256x2304 .fp8e5m2) (harg13 : arg13.IsWhole) (arg14 : Memref sig .tc .vmem S256x7168 .f32) (harg14 : arg14.IsWhole) (arg15 : Memref sig .tc .vmem S8x7168 .f32) (harg15 : arg15.IsWhole)

theorem tripR_eq (v77 : FVec F S1x1 .f32) (v155 : F .f32) (v168 : FVec F S256x1 .f32) (ca cb : BitVec 32)
    (X5 : BufTy.Contents (Elt F) arg5.view.ty) (X6 : BufTy.Contents (Elt F) arg6.view.ty) (X8 : BufTy.Contents (Elt F) arg8.view.ty) (X13 : BufTy.Contents (Elt F) arg13.view.ty) (k : Fin k1_t1_loop.trips) (acc) (f12) (f14) (f15) :
    tripR_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v155 v168 ca cb X5 X6 X8 X13 k acc f12 f14 f15
      = k1_pay1 acc (k1_pay5 v168 (xT (arg5.view.read (Elt F) X5) k))
          (k1_pay8 v155 (View.ld (arg13.view.read (Elt F) X13) (Rect.unit (s := S256x2304) ![0, 0] S256x2304.size inb_S256x2304_S256x2304_0_0)) (wT (arg8.view.read (Elt F) X8) k) (gT (arg6.view.read (Elt F) X6) k)) := by
  unfold tripR_k1_t1 trip_k1_t1
  rfl

theorem tripL_eq (v77 : FVec F S1x1 .f32) (v155 : F .f32) (v168 : FVec F S256x1 .f32) (ca cb : BitVec 32)
    (X5 : BufTy.Contents (Elt F) arg5.view.ty) (X6 : BufTy.Contents (Elt F) arg6.view.ty) (X8 : BufTy.Contents (Elt F) arg8.view.ty) (X13 : BufTy.Contents (Elt F) arg13.view.ty) (k : Fin k1_t1_loop.trips) (acc) (f12) (f14) (f15) :
    tripL_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v155 v168 ca cb X5 X6 X8 X13 k acc f12 f14 f15
      = ([⟨Rect.unit (s := S256x7168) (k1_off2 k) ![256, 512] (k1_off2_inb k), k1_pay6 v77 v168 (xT (arg5.view.read (Elt F) X5) k) (gT (arg6.view.read (Elt F) X6) k)⟩],
         [⟨Rect.unit (s := S256x7168) (k1_off2 k) ![256, 512] (k1_off2_inb k), k1_pay9 v155 (View.ld (arg13.view.read (Elt F) X13) (Rect.unit (s := S256x2304) ![0, 0] S256x2304.size inb_S256x2304_S256x2304_0_0)) (wT (arg8.view.read (Elt F) X8) k) (gT (arg6.view.read (Elt F) X6) k)⟩],
         [⟨Rect.unit (s := S8x7168) (k1_off4 k) ![8, 512] (k1_off4_inb k), k1_pay7 v155 v168 (View.ld (arg13.view.read (Elt F) X13) (Rect.unit (s := S256x2304) ![0, 0] S256x2304.size inb_S256x2304_S256x2304_0_0)) (wT (arg8.view.read (Elt F) X8) k) (xT (arg5.view.read (Elt F) X5) k) (sT (arg15.view.read (Elt F) f15) k)⟩]) := by
  unfold tripL_k1_t1 trip_k1_t1
  rfl

theorem tripL2_eq (v167) (v170) (X5 : BufTy.Contents (Elt F) arg5.view.ty) (X14 : BufTy.Contents (Elt F) arg14.view.ty) (k : Fin k1_t2_loop.trips) :
    tripL_k1_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v167 v170 X5 X14 k
      = [⟨Rect.unit (s := S256x7168) (k1_off5 k) ![256, 512] (k1_off5_inb k), k1_pay2 v167 v170 (xT2 (arg5.view.read (Elt F) X5) k) (rT2 (arg14.view.read (Elt F) X14) k)⟩] := by
  unfold tripL_k1_t2 trip_k1_t2
  rfl

theorem hz2 : (![0, 0] : Fin 2 → Nat) = fun _ => 0 := funext fun a => by fin_cases a <;> rfl

theorem pb_dx (x4 : Vec F S256x7168 .bf16) (raw : Vec F S256x7168 .f32) (v167) (v170) (X5 : BufTy.Contents (Elt F) arg5.view.ty) (X14 : BufTy.Contents (Elt F) arg14.view.ty) (G10 : BufTy.Contents (Elt F) arg10.view.ty)
    (h5 : arg5.view.read (Elt F) X5 = x4) (h14 : arg14.view.read (Elt F) X14 = raw) :
    arg10.view.read (Elt F) (arg10.view.writes (Elt F) G10 (pb_k1_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v167 v170 X5 X14 k1_t2_loop.trips))
      = tiled trips2 fun k => k1_pay2 v167 v170 (xT2 x4 k) (rT2 raw k) := by
  refine read_tiles_all trips2 arg10.view G10 k1_off5 k1_off5_eq k1_off5_inb _ (fun k => pb_k1_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v167 v170 X5 X14 k) rfl fun k _ => ?_
  dsimp only
  rw [pb_k1_t2_succ, tripL2_eq, h5, h14]
  rfl
section
variable (x0 x1 x2 x3 : Vec F S1 .f32) (x4 : Vec F S256x7168 .bf16) (x5 : Vec F S1x7168 .f32) (x6 : Vec F S256x2304 .bf16) (x7 : Vec F S7168x2304 .fp8e4m3) (x8 : Vec F S256x128 .f32) (s : Vec F S8x7168 .f32)
  (v77 : FVec F S1x1 .f32) (v155 : F .f32) (v168 : FVec F S256x1 .f32) (ca cb : BitVec 32)
  (X5 : BufTy.Contents (Elt F) arg5.view.ty) (X6 : BufTy.Contents (Elt F) arg6.view.ty) (X8 : BufTy.Contents (Elt F) arg8.view.ty) (X13 : BufTy.Contents (Elt F) arg13.view.ty)
  (G12 : BufTy.Contents (Elt F) arg12.view.ty) (G14 : BufTy.Contents (Elt F) arg14.view.ty) (G15 : BufTy.Contents (Elt F) arg15.view.ty)
  (e77 : v77 = vDown (scal x0)) (e155 : v155 = k1_pay22 (scal x2) (scal x3)) (e168 : v168 = k1_pay24 x8)
  (h5 : arg5.view.read (Elt F) X5 = x4) (h6 : arg6.view.read (Elt F) X6 = x5) (h8 : arg8.view.read (Elt F) X8 = x7) (h13 : arg13.view.read (Elt F) X13 = dyB (scal x1) x6)

include e77 e155 e168 h5 h6 h8 h13

theorem st_lane : ∀ k ≤ k1_t1_loop.trips, (st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v155 v168 ca cb X5 X6 X8 X13 G12 G14 G15 k1_pay25 k).1 = laneB x1 x2 x3 x4 x5 x6 x7 x8 k := by
  intro k
  induction k with
  | zero => intro _; rfl
  | succ k ih =>
    intro hk
    have e := st_k1_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v155 v168 ca cb X5 X6 X8 X13 G12 G14 G15 k1_pay25 ⟨k, hk⟩
    simp only at e
    rw [e, tripR_eq]
    dsimp only
    rw [ih (Nat.le_of_succ_le hk), e155, e168, h5, h6, h8, h13, View.ld_unit_zero (S := S256x2304) hz2]
    conv_rhs => unfold laneB
    rw [dif_pos (Nat.lt_of_succ_le hk)]

theorem st_xc : arg12.view.read (Elt F) (arg12.view.writes (Elt F) G12 (st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v155 v168 ca cb X5 X6 X8 X13 G12 G14 G15 k1_pay25 k1_t1_loop.trips).2.1) = xcB x0 x4 x5 x8 := by
  refine read_tiles_all trips1 arg12.view G12 k1_off2 k1_off2_eq k1_off2_inb _ (fun k => (st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v155 v168 ca cb X5 X6 X8 X13 G12 G14 G15 k1_pay25 k).2.1) rfl fun k _ => ?_
  dsimp only
  rw [st_k1_t1_succ, tripL_eq, h5, h6]
  dsimp only [List.cons_append, List.nil_append]
  rw [e77, e168]

theorem st_raw : arg14.view.read (Elt F) (arg14.view.writes (Elt F) G14 (st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v155 v168 ca cb X5 X6 X8 X13 G12 G14 G15 k1_pay25 k1_t1_loop.trips).2.2.1) = rawB x1 x2 x3 x5 x6 x7 := by
  refine read_tiles_all trips1 arg14.view G14 k1_off2 k1_off2_eq k1_off2_inb _ (fun k => (st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v155 v168 ca cb X5 X6 X8 X13 G12 G14 G15 k1_pay25 k).2.2.1) rfl fun k _ => ?_
  dsimp only
  rw [st_k1_t1_succ, tripL_eq, h6, h8, h13, View.ld_unit_zero (S := S256x2304) hz2]
  dsimp only [List.cons_append, List.nil_append]
  rw [e155]

theorem st_sum (h15 : arg15.view.read (Elt F) G15 = s) : arg15.view.read (Elt F) (arg15.view.writes (Elt F) G15 (st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v155 v168 ca cb X5 X6 X8 X13 G12 G14 G15 k1_pay25 k1_t1_loop.trips).2.2.2) = sumB x1 x2 x3 x4 x6 x7 x8 s := by
  refine read_tiles_all trips1 arg15.view G15 k1_off4 k1_off4_eq k1_off4_inb _ (fun k => (st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v155 v168 ca cb X5 X6 X8 X13 G12 G14 G15 k1_pay25 k).2.2.2) rfl fun k hk => ?_
  dsimp only at hk ⊢
  rw [st_k1_t1_succ, tripL_eq, h5, h8, h13, View.ld_unit_zero (S := S256x2304) hz2]
  have e : sT (arg15.view.read (Elt F) (arg15.view.writes (Elt F) G15 (st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v155 v168 ca cb X5 X6 X8 X13 G12 G14 G15 k1_pay25 k.val).2.2.2)) k = sT s k := by
    funext j
    refine (hk _ ?_).trans (by rw [h15]; rfl)
    refine Nat.le_trans ?_ (Nat.le_of_eq (Rect.idx_unit_val (s := S8x7168) (k1_off4 k) S8x512.size (k1_off4_inb k) j 1).symm)
    exact Nat.le_trans (Nat.le_of_eq (congrFun (k1_off4_eq k) 1).symm) (Nat.le_add_right _ _)
  rw [e]
  dsimp only [List.cons_append, List.nil_append]
  rw [e155, e168]

theorem dx_all (G10 : BufTy.Contents (Elt F) arg10.view.ty) (v167) (v170) (e167 : v167 = v168)
    (e170 : v170 = (st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v155 v168 ca cb X5 X6 X8 X13 G12 G14 G15 k1_pay25 k1_t1_loop.trips).1) :
    arg10.view.read (Elt F) (arg10.view.writes (Elt F) G10 (pb_k1_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v167 v170 X5 (arg14.view.writes (Elt F) G14 (st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v155 v168 ca cb X5 X6 X8 X13 G12 G14 G15 k1_pay25 k1_t1_loop.trips).2.2.1) k1_t2_loop.trips))
      = dxB x1 x2 x3 x4 x5 x6 x7 x8 := by
  rw [e167, e170]
  rw [pb_dx c i arg1 harg1 arg2 harg2 arg3 harg3 arg4 harg4 arg5 harg5 arg6 harg6 arg7 harg7 arg8 harg8 arg9 harg9 arg10 harg10 arg11 harg11 arg12 harg12 arg13 harg13 arg14 harg14 arg15 harg15 x4 (rawB x1 x2 x3 x5 x6 x7) _ _ X5 _ G10 h5
    (st_raw c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 v77 v155 v168 ca cb X5 X6 X8 X13 G12 G14 G15 e77 e155 e168 h5 h6 h8 h13),
    st_lane c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 v77 v155 v168 ca cb X5 X6 X8 X13 G12 G14 G15 e77 e155 e168 h5 h6 h8 h13 _ le_rfl, e168]
  rfl
end

end

end Cert.Whole.R1

end
-- ==== Proof.RawDgradBody.lean ====
/-
  The body of the input gradient call at any grid point and any floats: from what its buffers hold when it
  starts to what they hold when it ends, in the terms of the module on the loops.
-/
module

public import proofs.«01_k».proof.Proof.RawDgradTrip

@[expose] public section

set_option maxRecDepth 16384

noncomputable section

namespace Cert.Whole.R1

open Cert.Whole.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Loads and stores of a whole buffer. -/
theorem whole9 {κ : Kind} {sp : Space} (v : View sig κ sp S256x128 .f32) (f : v.ty.Contents (Elt F)) :
    v.readAt (Elt F) (Rect.unit (s := S256x128) ![0, 0] S256x128.size inb_S256x128_S256x128_0_0).toLoadRect f = v.read (Elt F) f :=
  View.ld_unit_zero (S := S256x128) hz2 _ _

theorem whole13 {κ κ' : Kind} {sp sp' : Space} (v : View sig κ sp S256x2304 .fp8e5m2) (f : v.ty.Contents (Elt F)) (v' : View sig κ' sp' S256x2304 .bf16) (f' : v'.ty.Contents (Elt F)) (a : Elt F .f32) :
    v.read (Elt F) (v.writes (Elt F) f [⟨Rect.unit (s := S256x2304) ![0, 0] S256x2304.size inb_S256x2304_S256x2304_0_0,
      dyB a (v'.readAt (Elt F) (Rect.unit (s := S256x2304) ![0, 0] S256x2304.size inb_S256x2304_S256x2304_0_0).toLoadRect f')⟩]) = dyB a (v'.read (Elt F) f') :=
  (View.read_writes_full _ _ _ _ _).trans (congrArg (dyB a) (View.ld_unit_zero (S := S256x2304) hz2 _ _))

theorem whole15 {κ : Kind} {sp : Space} (v : View sig κ sp S8x7168 .f32) (f : v.ty.Contents (Elt F)) :
    v.read (Elt F) (v.writes (Elt F) f [⟨Rect.unit (s := S8x7168) ![0, 0] S8x7168.size inb_S8x7168_S8x7168_0_0, k1_pay10 (F := F)⟩]) = k1_pay10 :=
  View.read_writes_full _ _ _ _ _

set_option maxHeartbeats 4000000 in
theorem body (c : Dev nD) (i : grid1.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S256x7168 .bf16) (harg5 : arg5.IsWhole) (arg6 : Memref sig .tc .vmem S1x7168 .f32) (harg6 : arg6.IsWhole) (arg7 : Memref sig .tc .vmem S256x2304 .bf16) (harg7 : arg7.IsWhole) (arg8 : Memref sig .tc .vmem S7168x2304 .fp8e4m3) (harg8 : arg8.IsWhole) (arg9 : Memref sig .tc .vmem S256x128 .f32) (harg9 : arg9.IsWhole) (arg10 : Memref sig .tc .vmem S256x7168 .bf16) (harg10 : arg10.IsWhole) (arg11 : Memref sig .tc .vmem S1x7168 .f32) (harg11 : arg11.IsWhole) (arg12 : Memref sig .tc .vmem S256x7168 .fp8e4m3) (harg12 : arg12.IsWhole) (arg13 : Memref sig .tc .vmem S256x2304 .fp8e5m2) (harg13 : arg13.IsWhole) (arg14 : Memref sig .tc .vmem S256x7168 .f32) (harg14 : arg14.IsWhole) (arg15 : Memref sig .tc .vmem S8x7168 .f32) (harg15 : arg15.IsWhole)
    (x0 x1 x2 x3 : Vec F S1 .f32) (x4 : Vec F S256x7168 .bf16) (x5 : Vec F S1x7168 .f32) (x6 : Vec F S256x2304 .bf16) (x7 : Vec F S7168x2304 .fp8e4m3) (x8 : Vec F S256x128 .f32) (xi : Vec F S1x7168 .f32) (s : Vec F S8x7168 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi ∗ (∃ d, owns (c : Thread nD τ) arg12 fullShare d) ∗ (∃ d, owns (c : Thread nD τ) arg13 fullShare d) ∗ (∃ d, owns (c : Thread nD τ) arg14 fullShare d) ∗ owns (c : Thread nD τ) arg15 fullShare s ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (dxB x1 x2 x3 x4 x5 x6 x7 x8) ∗ owns (c : Thread nD τ) arg11 fullShare (if cond1_1 i then k1_pay3 (sumB x1 x2 x3 x4 x6 x7 x8 (if cond1_0 i then k1_pay10 else s)) else xi) ∗ owns (c : Thread nD τ) arg12 fullShare (xcB x0 x4 x5 x8) ∗ owns (c : Thread nD τ) arg13 fullShare (dyB (scal x1) x6) ∗ (∃ d, owns (c : Thread nD τ) arg14 fullShare d) ∗ owns (c : Thread nD τ) arg15 fullShare (sumB x1 x2 x3 x4 x6 x7 x8 (if cond1_0 i then k1_pay10 else s))) -∗ K ⟨⟩))
      ⊢ wp frame (wpE (defs₀ (F := F)) Variants.none c none) E (cc1_dgrad i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  by_cases hc0 : cond1_0 i <;> by_cases hc1 : cond1_1 i
  · simp only [if_pos hc0, if_pos hc1]
    simp only [cc1_dgrad_eq_skeleton]; unfold cc1_dgrad_skel
    simp only [k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%ds0, %fs0, -, HS0⟩, ⟨%fs1, %hfs1, HS1⟩, Hk⟩
    subst hf0 hf1 hf2 hf3 hf4 hf5 hf6 hf7 hf8 hf10 hfs1
    sl_exec (disch := first | sl_exact hc0 | sl_exact hc1)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact dx_all c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ rfl rfl (congrArg k1_pay24 (whole9 _ _)) rfl rfl rfl (whole13 _ _ _ _ _) _ _ _ rfl rfl
    isplitl [H10]
    · iexists _; isplitr; swap; · iexact H10
      ipureintro; exact (View.read_writes_full _ _ _ _ _).trans (congrArg k1_pay3 ((View.ld_unit_zero (S := S8x7168) hz2 _ _).trans (by rw [View.writes_append]; exact st_sum c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) k1_pay10 _ _ _ _ _ _ _ _ _ _ _ _ rfl rfl (congrArg k1_pay24 (whole9 _ _)) rfl rfl rfl (whole13 _ _ _ _ _) (whole15 _ _))))
    isplitl [H11]
    · iexists _; isplitr; swap; · iexact H11
      ipureintro; exact st_xc c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ rfl rfl (congrArg k1_pay24 (whole9 _ _)) rfl rfl rfl (whole13 _ _ _ _ _)
    isplitl [H12]
    · iexists _; isplitr; swap; · iexact H12
      ipureintro; exact whole13 _ _ _ _ _
    isplitl [HS0]
    · iexists _, _; isplitr; swap; · iexact HS0
      ipureintro; rfl
    iexists _; isplitr; swap; · iexact HS1
    ipureintro; exact by rw [View.writes_append]; exact st_sum c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) k1_pay10 _ _ _ _ _ _ _ _ _ _ _ _ rfl rfl (congrArg k1_pay24 (whole9 _ _)) rfl rfl rfl (whole13 _ _ _ _ _) (whole15 _ _)
  · simp only [if_pos hc0, if_neg hc1]
    simp only [cc1_dgrad_eq_skeleton]; unfold cc1_dgrad_skel
    simp only [k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%ds0, %fs0, -, HS0⟩, ⟨%fs1, %hfs1, HS1⟩, Hk⟩
    subst hf0 hf1 hf2 hf3 hf4 hf5 hf6 hf7 hf8 hf10 hfs1
    sl_exec (disch := first | sl_exact hc0 | sl_exact hc1)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact dx_all c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ rfl rfl (congrArg k1_pay24 (whole9 _ _)) rfl rfl rfl (whole13 _ _ _ _ _) _ _ _ rfl rfl
    isplitl [H10]
    · iexists _; isplitr; swap; · iexact H10
      ipureintro; rfl
    isplitl [H11]
    · iexists _; isplitr; swap; · iexact H11
      ipureintro; exact st_xc c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ rfl rfl (congrArg k1_pay24 (whole9 _ _)) rfl rfl rfl (whole13 _ _ _ _ _)
    isplitl [H12]
    · iexists _; isplitr; swap; · iexact H12
      ipureintro; exact whole13 _ _ _ _ _
    isplitl [HS0]
    · iexists _, _; isplitr; swap; · iexact HS0
      ipureintro; rfl
    iexists _; isplitr; swap; · iexact HS1
    ipureintro; exact by rw [View.writes_append]; exact st_sum c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) k1_pay10 _ _ _ _ _ _ _ _ _ _ _ _ rfl rfl (congrArg k1_pay24 (whole9 _ _)) rfl rfl rfl (whole13 _ _ _ _ _) (whole15 _ _)
  · simp only [if_neg hc0, if_pos hc1]
    simp only [cc1_dgrad_eq_skeleton]; unfold cc1_dgrad_skel
    simp only [k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%ds0, %fs0, -, HS0⟩, ⟨%fs1, %hfs1, HS1⟩, Hk⟩
    subst hf0 hf1 hf2 hf3 hf4 hf5 hf6 hf7 hf8 hf10 hfs1
    sl_exec (disch := first | sl_exact hc0 | sl_exact hc1)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact dx_all c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ rfl rfl (congrArg k1_pay24 (whole9 _ _)) rfl rfl rfl (whole13 _ _ _ _ _) _ _ _ rfl rfl
    isplitl [H10]
    · iexists _; isplitr; swap; · iexact H10
      ipureintro; exact (View.read_writes_full _ _ _ _ _).trans (congrArg k1_pay3 ((View.ld_unit_zero (S := S8x7168) hz2 _ _).trans (by exact st_sum c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) (arg15.view.read (Elt F) fs1) _ _ _ _ _ _ _ _ _ _ _ _ rfl rfl (congrArg k1_pay24 (whole9 _ _)) rfl rfl rfl (whole13 _ _ _ _ _) rfl)))
    isplitl [H11]
    · iexists _; isplitr; swap; · iexact H11
      ipureintro; exact st_xc c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ rfl rfl (congrArg k1_pay24 (whole9 _ _)) rfl rfl rfl (whole13 _ _ _ _ _)
    isplitl [H12]
    · iexists _; isplitr; swap; · iexact H12
      ipureintro; exact whole13 _ _ _ _ _
    isplitl [HS0]
    · iexists _, _; isplitr; swap; · iexact HS0
      ipureintro; rfl
    iexists _; isplitr; swap; · iexact HS1
    ipureintro; exact by exact st_sum c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) (arg15.view.read (Elt F) fs1) _ _ _ _ _ _ _ _ _ _ _ _ rfl rfl (congrArg k1_pay24 (whole9 _ _)) rfl rfl rfl (whole13 _ _ _ _ _) rfl
  · simp only [if_neg hc0, if_neg hc1]
    simp only [cc1_dgrad_eq_skeleton]; unfold cc1_dgrad_skel
    simp only [k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%ds0, %fs0, -, HS0⟩, ⟨%fs1, %hfs1, HS1⟩, Hk⟩
    subst hf0 hf1 hf2 hf3 hf4 hf5 hf6 hf7 hf8 hf10 hfs1
    sl_exec (disch := first | sl_exact hc0 | sl_exact hc1)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact dx_all c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ rfl rfl (congrArg k1_pay24 (whole9 _ _)) rfl rfl rfl (whole13 _ _ _ _ _) _ _ _ rfl rfl
    isplitl [H10]
    · iexists _; isplitr; swap; · iexact H10
      ipureintro; rfl
    isplitl [H11]
    · iexists _; isplitr; swap; · iexact H11
      ipureintro; exact st_xc c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ rfl rfl (congrArg k1_pay24 (whole9 _ _)) rfl rfl rfl (whole13 _ _ _ _ _)
    isplitl [H12]
    · iexists _; isplitr; swap; · iexact H12
      ipureintro; exact whole13 _ _ _ _ _
    isplitl [HS0]
    · iexists _, _; isplitr; swap; · iexact HS0
      ipureintro; rfl
    iexists _; isplitr; swap; · iexact HS1
    ipureintro; exact by exact st_sum c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) (arg15.view.read (Elt F) fs1) _ _ _ _ _ _ _ _ _ _ _ _ rfl rfl (congrArg k1_pay24 (whole9 _ _)) rfl rfl rfl (whole13 _ _ _ _ _) rfl

end Cert.Whole.R1

end
-- ==== Proof.RawDgradFrame.lean ====
/-
The running of the input gradient call point by point, at any floats: what every buffer holds after each of
the six grid points, that the call ends, that its argument arrays are left alone, and what its four result
arrays hold in the end.  The running sums for the gamma gradient are carried from one point to the next;
`sAt` names them.
-/
module

public import proofs.«01_k».proof.Proof.RawDgradBody
public import Idealize.ShloMosaic.Lib.Claim

@[expose] public section

set_option maxRecDepth 16384

noncomputable section

namespace Cert.Whole.R1

open Cert.Whole.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The running sums after point `n`. -/
def sAt (c : Dev nD) : (n : ℕ) → n < cfg1.N → Vec F S8x7168 .f32
  | 0, hn => sumB (iblk V c 1 ⟨0, hn⟩) (iblk V c 2 ⟨0, hn⟩) (iblk V c 3 ⟨0, hn⟩) (iblk V c 4 ⟨0, hn⟩) (iblk V c 6 ⟨0, hn⟩) (iblk V c 7 ⟨0, hn⟩) (iblk V c 8 ⟨0, hn⟩) k1_pay10
  | n + 1, hn => sumB (iblk V c 1 ⟨n + 1, hn⟩) (iblk V c 2 ⟨n + 1, hn⟩) (iblk V c 3 ⟨n + 1, hn⟩) (iblk V c 4 ⟨n + 1, hn⟩) (iblk V c 6 ⟨n + 1, hn⟩) (iblk V c 7 ⟨n + 1, hn⟩) (iblk V c 8 ⟨n + 1, hn⟩) (sAt c n (Nat.lt_of_succ_lt hn))

theorem sAt_zero (c : Dev nD) (t : Fin cfg1.N) (hz : t.val = 0) :
    sAt V c t.val t.isLt = sumB (iblk V c 1 t) (iblk V c 2 t) (iblk V c 3 t) (iblk V c 4 t) (iblk V c 6 t) (iblk V c 7 t) (iblk V c 8 t) k1_pay10 := by
  obtain ⟨n, hn⟩ := t
  cases n with
  | zero => rfl
  | succ n => exact absurd hz (Nat.succ_ne_zero n)

theorem sAt_pos (c : Dev nD) (t : Fin cfg1.N) (hz : t.val ≠ 0) :
    sAt V c t.val t.isLt = sumB (iblk V c 1 t) (iblk V c 2 t) (iblk V c 3 t) (iblk V c 4 t) (iblk V c 6 t) (iblk V c 7 t) (iblk V c 8 t) (sAt V c (t.val - 1) (lt_of_le_of_lt (Nat.sub_le _ _) t.isLt)) := by
  obtain ⟨n, hn⟩ := t
  cases n with
  | zero => exact absurd rfl hz
  | succ n => rfl

/-- What is known between points: the carried sums after the first point, anything before it. -/
def PhiS (c : Dev nD) : (n : ℕ) → n ≤ cfg1.N → sProp 𝕄
  | 0, _ => Pipeline.ΦA spec1 c
  | n + 1, hn => iprop(iprop((∃ d, owns (c : Thread nD τ) scM1_0 fullShare d) ∗ owns (c : Thread nD τ) scM1_1 fullShare (sAt V c n hn)) ∗ restG c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ d, owns (c : Thread nD τ) scM1_0 fullShare d) ∗ owns (c : Thread nD τ) scM1_1 fullShare (sAt V c n hn)) ∗ restG c) := rfl

theorem PhiS_pos (c : Dev nD) (n : ℕ) (h : n ≤ cfg1.N) (hz : n ≠ 0) :
    PhiS V c n h = iprop(iprop((∃ d, owns (c : Thread nD τ) scM1_0 fullShare d) ∗ owns (c : Thread nD τ) scM1_1 fullShare (sAt V c (n - 1) (by omega))) ∗ restG c) := by
  cases n with
  | zero => exact absurd rfl hz
  | succ n => rfl

/-- What each buffer holds after the body at each point. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => dxB (iblk V c 1 t) (iblk V c 2 t) (iblk V c 3 t) (iblk V c 4 t) (iblk V c 5 t) (iblk V c 6 t) (iblk V c 7 t) (iblk V c 8 t)
    | ⟨10, _⟩ => k1_pay3 (sAt V c t.val t.isLt)
    | ⟨11, _⟩ => xcB (iblk V c 0 t) (iblk V c 4 t) (iblk V c 5 t) (iblk V c 8 t)
    | ⟨12, _⟩ => dyB (scal (iblk V c 1 t)) (iblk V c 6 t)
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; exact Pipeline.Dat.Φ_castSucc (PhiS V c) t

theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = iblk V c 4 t := by dsimp only [dat]
theorem after1_5 (c : Dev nD) (t : Fin cfg1.N) : (dat V c).after 5 t = iblk V c 5 t := by dsimp only [dat]
theorem after1_6 (c : Dev nD) (t : Fin cfg1.N) : (dat V c).after 6 t = iblk V c 6 t := by dsimp only [dat]
theorem after1_7 (c : Dev nD) (t : Fin cfg1.N) : (dat V c).after 7 t = iblk V c 7 t := by dsimp only [dat]
theorem after1_8 (c : Dev nD) (t : Fin cfg1.N) : (dat V c).after 8 t = iblk V c 8 t := by dsimp only [dat]
theorem after1_9 (c : Dev nD) (t : Fin cfg1.N) : (dat V c).after 9 t = dxB (iblk V c 1 t) (iblk V c 2 t) (iblk V c 3 t) (iblk V c 4 t) (iblk V c 5 t) (iblk V c 6 t) (iblk V c 7 t) (iblk V c 8 t) := by dsimp only [dat]
theorem after1_10 (c : Dev nD) (t : Fin cfg1.N) : (dat V c).after 10 t = k1_pay3 (sAt V c t.val t.isLt) := by dsimp only [dat]
theorem after1_11 (c : Dev nD) (t : Fin cfg1.N) : (dat V c).after 11 t = xcB (iblk V c 0 t) (iblk V c 4 t) (iblk V c 5 t) (iblk V c 8 t) := by dsimp only [dat]
theorem after1_12 (c : Dev nD) (t : Fin cfg1.N) : (dat V c).after 12 t = dyB (scal (iblk V c 1 t)) (iblk V c 6 t) := by dsimp only [dat]

/-- Each input's current staging buffer holds its block at every point, fetched there or not (`beforeK_W_of`). -/
theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d
theorem before1_4 (c : Dev nD) (t : Fin cfg1.N) (d) : (dat V c).before 4 t d = iblk V c 4 t :=
  before1_4_of V (dat V c) (A_eq V c 4) (after1_4 V c) t d
theorem before1_5 (c : Dev nD) (t : Fin cfg1.N) (d) : (dat V c).before 5 t d = iblk V c 5 t :=
  before1_5_of V (dat V c) (A_eq V c 5) (after1_5 V c) t d
theorem before1_6 (c : Dev nD) (t : Fin cfg1.N) (d) : (dat V c).before 6 t d = iblk V c 6 t :=
  before1_6_of V (dat V c) (A_eq V c 6) (after1_6 V c) t d
theorem before1_7 (c : Dev nD) (t : Fin cfg1.N) (d) : (dat V c).before 7 t d = iblk V c 7 t :=
  before1_7_of V (dat V c) (A_eq V c 7) (after1_7 V c) t d
theorem before1_8 (c : Dev nD) (t : Fin cfg1.N) (d) : (dat V c).before 8 t d = iblk V c 8 t :=
  before1_8_of V (dat V c) (A_eq V c 8) (after1_8 V c) t d

/-! ## The body obligation, at a generic point -/

/-- What the body is called with at point `t` (Lib/Pipeline.lean `BodyObligation`'s precondition, the windows one by one), -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d))
    ∗ (∃ d, owns (c : Thread nD τ) (ms1_7 t) fullShare ((dat V c).before 7 t d))
    ∗ (∃ d, owns (c : Thread nD τ) (ms1_8 t) fullShare ((dat V c).before 8 t d))
    ∗ (∃ d, owns (c : Thread nD τ) (ms1_9 t) fullShare ((dat V c).before 9 t d))
    ∗ (∃ d, owns (c : Thread nD τ) (ms1_10 t) fullShare ((dat V c).before 10 t d))
    ∗ (∃ d, owns (c : Thread nD τ) (ms1_11 t) fullShare ((dat V c).before 11 t d))
    ∗ (∃ d, owns (c : Thread nD τ) (ms1_12 t) fullShare ((dat V c).before 12 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t)

set_option maxHeartbeats 4000000 in
/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6, before1_7, before1_8]
  rw [show (dat V c).owesAt () t.succ = (dat V c).owesAt () t.castSucc from rfl]
  rw [show (dat V c).Φ t.succ = PhiS V c (t.val + 1) t.isLt from rfl, PhiS_succ]
  have hN : t.val < 6 := lt_of_lt_of_eq t.isLt (show cfg1.N = 6 from N_1)
  rw [show (dat V c).leavesExact 0 t = owns (c : Thread nD τ) (ms1_0 t) fullShare ((dat V c).after 0 t) from by
    unfold Dat.leavesExact; rw [liveAt1_0 t], after1_0]
  rw [show (dat V c).leavesExact 1 t = owns (c : Thread nD τ) (ms1_1 t) fullShare ((dat V c).after 1 t) from by
    unfold Dat.leavesExact; rw [liveAt1_1 t], after1_1]
  rw [show (dat V c).leavesExact 2 t = owns (c : Thread nD τ) (ms1_2 t) fullShare ((dat V c).after 2 t) from by
    unfold Dat.leavesExact; rw [liveAt1_2 t], after1_2]
  rw [show (dat V c).leavesExact 3 t = owns (c : Thread nD τ) (ms1_3 t) fullShare ((dat V c).after 3 t) from by
    unfold Dat.leavesExact; rw [liveAt1_3 t], after1_3]
  rw [show (dat V c).leavesExact 4 t = owns (c : Thread nD τ) (ms1_4 t) fullShare ((dat V c).after 4 t) from by
    unfold Dat.leavesExact; rw [liveAt1_4 t], after1_4]
  rw [show (dat V c).leavesExact 5 t = owns (c : Thread nD τ) (ms1_5 t) fullShare ((dat V c).after 5 t) from by
    unfold Dat.leavesExact; rw [liveAt1_5 t], after1_5]
  rw [show (dat V c).leavesExact 6 t = owns (c : Thread nD τ) (ms1_6 t) fullShare ((dat V c).after 6 t) from by
    unfold Dat.leavesExact; rw [liveAt1_6 t], after1_6]
  rw [show (dat V c).leavesExact 7 t = owns (c : Thread nD τ) (ms1_7 t) fullShare ((dat V c).after 7 t) from by
    unfold Dat.leavesExact; rw [liveAt1_7 t], after1_7]
  rw [show (dat V c).leavesExact 8 t = owns (c : Thread nD τ) (ms1_8 t) fullShare ((dat V c).after 8 t) from by
    unfold Dat.leavesExact; rw [liveAt1_8 t], after1_8]
  rw [show (dat V c).leavesExact 9 t = owns (c : Thread nD τ) (ms1_9 t) fullShare ((dat V c).after 9 t) from by
    unfold Dat.leavesExact; rw [liveAt1_9 t], after1_9]
  rw [show (dat V c).leavesExact 11 t = owns (c : Thread nD τ) (ms1_11 t) fullShare ((dat V c).after 11 t) from by
    unfold Dat.leavesExact; rw [liveAt1_11 t], after1_11]
  rw [show (dat V c).leavesExact 12 t = owns (c : Thread nD τ) (ms1_12 t) fullShare ((dat V c).after 12 t) from by
    unfold Dat.leavesExact; rw [liveAt1_12 t], after1_12]
  by_cases hz : t.val = 0
  · have h0 : t.val % 6 = 0 := by omega
    have h1 : ¬ t.val % 6 = 5 := by omega
    rw [PhiS_castSucc V c t, PhiS_zero V c _ _ hz, PhiA1_eq, sAt_zero V c t hz]
    have hc0 := (hcond1_0 t).mpr h0
    have hc1 : ¬ cond1_1 (grid1.coords t) := fun h => h1 ((hcond1_1 t).mp h)
    rw [Dat.leavesExact_idle (dat V c) 10 t (idleAt1_10_A t hc0 hc1) (noFlush1_10_A t hc0 hc1)]
    iintro ⟨⟨⟨HS0, ⟨%s, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (body c (grid1.coords t) _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexists _; iexact H11
    isplitl [H12]; · iexists _; iexact H12
    isplitl [HS0]; · iexact HS0
    isplitl [HS1]; · iexact HS1
    simp only [if_pos hc0, if_neg hc1]
    iintro ⟨H0, H1, H2, H3, H4, H5, H6, H7, H8, H9, H10, H11, H12, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    iexact H12
  · have h0 : ¬ t.val % 6 = 0 := by omega
    by_cases h1 : t.val % 6 = 5
    · skip
      rw [PhiS_castSucc V c t, PhiS_pos V c _ _ hz, sAt_pos V c t hz]
      have hc0 : ¬ cond1_0 (grid1.coords t) := fun h => h0 ((hcond1_0 t).mp h)
      have hc1 : cond1_1 (grid1.coords t) := (hcond1_1 t).mpr h1
      rw [show (dat V c).leavesExact 10 t = owns (c : Thread nD τ) (ms1_10 t) fullShare ((dat V c).after 10 t) from by
        unfold Dat.leavesExact; rw [liveAt1_10_C t hc0 hc1], after1_10, sAt_pos V c t hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body c (grid1.coords t) _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexists _; iexact H11
      isplitl [H12]; · iexists _; iexact H12
      isplitl [HS0]; · iexact HS0
      isplitl [HS1]; · iexact HS1
      simp only [if_neg hc0, if_pos hc1]
      iintro ⟨H0, H1, H2, H3, H4, H5, H6, H7, H8, H9, H10, H11, H12, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · skip
      rw [PhiS_castSucc V c t, PhiS_pos V c _ _ hz, sAt_pos V c t hz]
      have hc0 : ¬ cond1_0 (grid1.coords t) := fun h => h0 ((hcond1_0 t).mp h)
      have hc1 : ¬ cond1_1 (grid1.coords t) := fun h => h1 ((hcond1_1 t).mp h)
      rw [Dat.leavesExact_idle (dat V c) 10 t (idleAt1_10_B t hc0 hc1) (noFlush1_10_B t hc0 hc1)]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body c (grid1.coords t) _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexists _; iexact H11
      isplitl [H12]; · iexists _; iexact H12
      isplitl [HS0]; · iexact HS0
      isplitl [HS1]; · iexact HS1
      simp only [if_neg hc0, if_neg hc1]
      iintro ⟨H0, H1, H2, H3, H4, H5, H6, H7, H8, H9, H10, H11, H12, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      iexact H12

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- What the launch hands the region (`ΦA`) is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA1_eq]
  iintro ⟨⟨HS0, HS1⟩, Hg⟩
  isplitl [HS0 HS1]
  · isplitl [HS0]
    · iexact HS0
    iexists _; iexact HS1
  iexact Hg

/-- The same after the last point. -/
theorem hout (c : Dev nD) : (dat V c).Φ (Fin.last cfg1.N) ⊢ Pipeline.ΦA spec1 c :=
  Phi_out V c _ (by rw [Fin.val_last]; have : cfg1.N = 6 := N_1; omega)

end Cert.Whole.R1

end
-- ==== Proof.RawWgradRuns.lean ====
/-
  What the module on the running of the weight gradient call starts from: the blocks its windows stage, read off the arrays
  as the call finds them (`V`, whatever they hold), when the conditions on the grid point hold, and the buffers
  it is handed.
-/
module

public import proofs.«01_k».proof.Proof.Gen.Whole.Launch
public import proofs.«01_k».proof.Proof.Gen.Whole.Skeleton
public import proofs.«01_k».proof.Proof.Gen.Whole.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Whole.R2

open Cert.Whole.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

abbrev VO2_4 : View sig .tc .vmem S256x2304 .f32 := (Memref.whole cc2_stg4_0 : Memref sig .tc .vmem S256x2304 .f32).view
/-- Each window's current staging memref at point `t`, spelled as the pipeline passes it (`bodyAt2`), and its wholeness. -/
abbrev ms2_0 (t : Fin cfg2.N) : Memref sig .tc .smem S1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .smem S1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1536x256 .fp8e4m3 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1536x2304 .fp8e5m2 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256x2304 .f32 := win2_4.stage (cfg2.slots t 4)
abbrev hs2_4 (t : Fin cfg2.N) : (ms2_4 t).IsWhole := hstage2_4 ((cfg2.slots t 4).cast nbuf2_4)

end Cert.Whole.R2

end
-- ==== Proof.RawWgradFrame.lean ====
/-
  The running of the weight gradient call point by point, at any floats, from arrays holding anything: the body's
  stores, what every buffer holds after each of the twenty-eight grid points, and that the body does what is said.
-/
module

public import proofs.«01_k».proof.Proof.RawWgradRuns
public import Idealize.ShloMosaic.Lib.Claim

@[expose] public section

set_option maxRecDepth 16384

noncomputable section

namespace Cert.Whole.R2

open Cert.Whole.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg1 : Memref sig .tc .smem S1 .f32) (harg1 : arg1.IsWhole) (arg2 : Memref sig .tc .smem S1 .f32) (harg2 : arg2.IsWhole) (arg3 : Memref sig .tc .vmem S1536x256 .fp8e4m3) (harg3 : arg3.IsWhole) (arg4 : Memref sig .tc .vmem S1536x2304 .fp8e5m2) (harg4 : arg4.IsWhole) (arg5 : Memref sig .tc .vmem S256x2304 .f32) (harg5 : arg5.IsWhole)
    (x0 : Vec F S1 .f32) (x1 : Vec F S1 .f32) (x2 : Vec F S1536x256 .fp8e4m3) (x3 : Vec F S1536x2304 .fp8e5m2) :
    { L4 : List (View.Piece (Elt F) S256x2304 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc2_wgrad i arg1 harg1 arg2 harg2 arg3 harg3 arg4 harg4 arg5 harg5) K } := by
  refine ⟨?_, fun E K => ?run⟩
  case run =>
    simp only [cc2_wgrad_eq_skeleton]; unfold cc2_wgrad_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

/-- The run's pieces for output 4 tile its block (1 store of `S256x2304`, checked by the kernel's evaluation: Lib/Ring.lean `Piece.tiledL`, linear in the pieces, through a loop's `@[irreducible]` trip theorem too), so they cover it. -/
theorem cover2_A_4 (c : Dev nD) (i : grid2.Coords) (arg1 : Memref sig .tc .smem S1 .f32) (harg1 : arg1.IsWhole) (arg2 : Memref sig .tc .smem S1 .f32) (harg2 : arg2.IsWhole) (arg3 : Memref sig .tc .vmem S1536x256 .fp8e4m3) (harg3 : arg3.IsWhole) (arg4 : Memref sig .tc .vmem S1536x2304 .fp8e5m2) (harg4 : arg4.IsWhole) (arg5 : Memref sig .tc .vmem S256x2304 .f32) (harg5 : arg5.IsWhole)
    (x0 : Vec F S1 .f32) (x1 : Vec F S1 .f32) (x2 : Vec F S1536x256 .fp8e4m3) (x3 : Vec F S1536x2304 .fp8e5m2) (y : S256x2304.Idx) :
    ∃ pc ∈ (kernelRun2_A c i arg1 harg1 arg2 harg2 arg3 harg3 arg4 harg4 arg5 harg5 x0 x1 x2 x3).1, y ∈ pc.1.set :=
  View.cover_of_tiledL (kernelRun2_A c i arg1 harg1 arg2 harg2 arg3 harg3 arg4 harg4 arg5 harg5 x0 x1 x2 x3).1 S256x2304.size (by sl_kernel_rfl) y

/-- What the run leaves in output 4's staging buffer: its pieces read back over junk. -/
def out2_A_4 (c : Dev nD) (i : grid2.Coords) (arg1 : Memref sig .tc .smem S1 .f32) (harg1 : arg1.IsWhole) (arg2 : Memref sig .tc .smem S1 .f32) (harg2 : arg2.IsWhole) (arg3 : Memref sig .tc .vmem S1536x256 .fp8e4m3) (harg3 : arg3.IsWhole) (arg4 : Memref sig .tc .vmem S1536x2304 .fp8e5m2) (harg4 : arg4.IsWhole) (arg5 : Memref sig .tc .vmem S256x2304 .f32) (harg5 : arg5.IsWhole)
    (x0 : Vec F S1 .f32) (x1 : Vec F S1 .f32) (x2 : Vec F S1536x256 .fp8e4m3) (x3 : Vec F S1536x2304 .fp8e5m2) : Vec F S256x2304 .f32 :=
  VO2_4.read (Elt F) (VO2_4.writes (Elt F) VO2_4.junk (kernelRun2_A c i arg1 harg1 arg2 harg2 arg3 harg3 arg4 harg4 arg5 harg5 x0 x1 x2 x3).1)

/-! ## What the outputs hold after each point -/

/-- What the outputs' staging buffers hold after the body at point `t`: the run's contents at
    the point's memrefs and input blocks. -/
def outsAt2 (c : Dev nD) (t : Fin cfg2.N) : Vec F S256x2304 .f32 :=
  out2_A_4 c (grid2.coords t) (ms2_0 t) (hs2_0 t) (ms2_1 t) (hs2_1 t) (ms2_2 t) (hs2_2 t) (ms2_3 t) (hs2_3 t) (ms2_4 t) (hs2_4 t) (iblk V c 0 t) (iblk V c 1 t) (iblk V c 2 t) (iblk V c 3 t)

/-! ## The pipeline's proof data -/

/-- The proof data of the one pipeline on core `c`: the arrays as the region finds them (`V`); after the body at
    point `t` each input's buffer at its block and the outputs' at `outsAt2`; the invariant the class's
    (Lib/Pipeline/Frame.lean `ΦA`: the scoped rest and the generator register); nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt2 V c t)
  Φ _ := Pipeline.ΦA spec2 c
  q _ := fullShare
  owed _ := 0

/-- The proof data's arrays are the region-entry contents: the proof data's definition projected (`dsimp`), so that
    `V` — a fold over @main's host prefix, long for some programs — is never unfolded to check it. -/
theorem A_eq (c : Dev nD) (w : Fin cfg2.W) : (dat V c).A w = V c (Pipeline.arrRef spec2 w) := by
  dsimp only [dat]

/-- What the body leaves, window by window (the proof data's `match` reduced by `dsimp`). -/
theorem after2_0 (c : Dev nD) (t : Fin cfg2.N) : (dat V c).after 0 t = iblk V c 0 t := by dsimp only [dat]
theorem after2_1 (c : Dev nD) (t : Fin cfg2.N) : (dat V c).after 1 t = iblk V c 1 t := by dsimp only [dat]
theorem after2_2 (c : Dev nD) (t : Fin cfg2.N) : (dat V c).after 2 t = iblk V c 2 t := by dsimp only [dat]
theorem after2_3 (c : Dev nD) (t : Fin cfg2.N) : (dat V c).after 3 t = iblk V c 3 t := by dsimp only [dat]
theorem after2_4 (c : Dev nD) (t : Fin cfg2.N) : (dat V c).after 4 t = (outsAt2 V c t) := by dsimp only [dat]

/-- Each input's current staging buffer holds its block at every point, fetched there or not (`beforeK_W_of`). -/
theorem before2_0 (c : Dev nD) (t : Fin cfg2.N) (d) : (dat V c).before 0 t d = iblk V c 0 t :=
  before2_0_of V (dat V c) (A_eq V c 0) (after2_0 V c) t d
theorem before2_1 (c : Dev nD) (t : Fin cfg2.N) (d) : (dat V c).before 1 t d = iblk V c 1 t :=
  before2_1_of V (dat V c) (A_eq V c 1) (after2_1 V c) t d
theorem before2_2 (c : Dev nD) (t : Fin cfg2.N) (d) : (dat V c).before 2 t d = iblk V c 2 t :=
  before2_2_of V (dat V c) (A_eq V c 2) (after2_2 V c) t d
theorem before2_3 (c : Dev nD) (t : Fin cfg2.N) (d) : (dat V c).before 3 t d = iblk V c 3 t :=
  before2_3_of V (dat V c) (A_eq V c 3) (after2_3 V c) t d

/-! ## The body obligation, at a generic point -/

/-- What the body is called with at point `t` (Lib/Pipeline.lean `BodyObligation`'s precondition, the windows one by one), -/
def bodyPre (c : Dev nD) (t : Fin cfg2.N) : sProp 𝕄 :=
  iprop((dat V c).Φ t.castSucc ∗ (dat V c).owesAt () t.castSucc
    ∗ (∃ d, owns (c : Thread nD τ) (ms2_0 t) fullShare ((dat V c).before 0 t d))
    ∗ (∃ d, owns (c : Thread nD τ) (ms2_1 t) fullShare ((dat V c).before 1 t d))
    ∗ (∃ d, owns (c : Thread nD τ) (ms2_2 t) fullShare ((dat V c).before 2 t d))
    ∗ (∃ d, owns (c : Thread nD τ) (ms2_3 t) fullShare ((dat V c).before 3 t d))
    ∗ (∃ d, owns (c : Thread nD τ) (ms2_4 t) fullShare ((dat V c).before 4 t d)))

/-- and what it returns. -/
def bodyPost (c : Dev nD) (t : Fin cfg2.N) : sProp 𝕄 :=
  iprop((dat V c).Φ t.succ ∗ (dat V c).owesAt () t.succ
    ∗ owns (c : Thread nD τ) (ms2_0 t) fullShare ((dat V c).after 0 t)
    ∗ owns (c : Thread nD τ) (ms2_1 t) fullShare ((dat V c).after 1 t)
    ∗ owns (c : Thread nD τ) (ms2_2 t) fullShare ((dat V c).after 2 t)
    ∗ owns (c : Thread nD τ) (ms2_3 t) fullShare ((dat V c).after 3 t)
    ∗ owns (c : Thread nD τ) (ms2_4 t) fullShare ((dat V c).after 4 t))

/-- The body at any point: the inputs' memrefs hold their blocks (`before2_W`); so the
    run applies; the invariant passes through unread; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3]
  rw [show (dat V c).Φ t.succ = (dat V c).Φ t.castSucc from rfl,
    show (dat V c).owesAt () t.succ = (dat V c).owesAt () t.castSucc from rfl,
    after2_0, after2_1, after2_2, after2_3, after2_4]
  unfold outsAt2
  unfold out2_A_4
  iintro ⟨HΦ, Ho, ⟨%d0, H0⟩, ⟨%d1, H1⟩, ⟨%d2, H2⟩, ⟨%d3, H3⟩, ⟨%d4, H4⟩⟩
  iapply ((kernelRun2_A c (grid2.coords t) _ _ _ _ _ _ _ _ _ _ (iblk V c 0 t) (iblk V c 1 t) (iblk V c 2 t) (iblk V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover2_A_4 c _ _ _ _ _ _ _ _ _ _ _ _ _ _ _)

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.Whole.R2

end
-- ==== Proof.RawWholeRun.lean ====
/-
  The three calls run one after another, at any floats: each starts from the arrays as the one before left
  them.  The run ends, every counter ends at zero, and every array ends at what `W3` names: the launch contents with
  each call's result arrays replaced by what that call computes.
-/
module

public import proofs.«01_k».proof.Proof.RawStatsFrame
public import proofs.«01_k».proof.Proof.RawDgradFrame
public import proofs.«01_k».proof.Proof.RawWgradFrame
public import Idealize.ShloMosaic.Lib.Pipeline.Regions
public import Idealize.ShloMosaic.Lib.Pipeline.RegionArraysS

@[expose] public section

set_option maxRecDepth 16384

noncomputable section

namespace Cert.Whole.Run

open Cert.Whole.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg afterRegion ucRefs)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the arrays hold between the calls -/

/-- What core `c`'s arrays hold at launch, -/
def W0 (c : Dev nD) : Valuation τ sig (Elt F) := fun b => m (c, b)
/-- as the first call finds them, -/
def U0 (c : Dev nD) (b : Ref sig .tc) : Buf (Elt F) ((c : Thread nD τ).loc b) := W0 m c b
/-- after the statistics call, -/
def W1 (c : Dev nD) : Valuation τ sig (Elt F) := afterRegion (R0.dat (U0 m) c) (W0 m c)
/-- as the second call finds them, -/
def U1 (c : Dev nD) (b : Ref sig .tc) : Buf (Elt F) ((c : Thread nD τ).loc b) := W1 m c b
/-- after the input gradient call, -/
def W2 (c : Dev nD) : Valuation τ sig (Elt F) := afterRegion (R1.dat (U1 m) c) (W1 m c)
/-- as the third call finds them, -/
def U2 (c : Dev nD) (b : Ref sig .tc) : Buf (Elt F) ((c : Thread nD τ).loc b) := W2 m c b
/-- after the weight gradient call. -/
def W3 (c : Dev nD) : Valuation τ sig (Elt F) := afterRegion (R2.dat (U2 m) c) (W2 m c)

/-- The prefetched tables: none. -/
abbrev adm : (p : Fin 3) → (pcfgs (F := F) p).Adm := fun p => (cfgs p).toPCfg_adm

/-- The three calls' proof data. -/
def pdats : (p : Fin 3) → (c : Dev nD) → Dat τ (Elt F) Unit ℕ (UR sig nD τ) ℕ (cfgs p) c
  | 0 => fun c => R0.dat (U0 m) c
  | 1 => fun c => R1.dat (U1 m) c
  | 2 => fun c => R2.dat (U2 m) c
  | ⟨_ + 3, h⟩ => absurd h (by omega)

/-- The core's own counters are the ones the library watches. -/
def L (g : GSem nD τ sig) : Finset Unit := if g.1.2 = .tc then Finset.univ else ∅
abbrev lv (_ : GSem nD τ sig) (_ : Unit) : ℕ := 0
abbrev EP : Emb (UR sig nD τ) 𝕄 := emb₁

/-- The generator's register, beside the arrays throughout. -/
abbrev X (c : Dev nD) : sProp 𝕄 := iprop(∃ r, prngReg c r)
abbrev R (_ : Dev nD) : sProp 𝕄 := iprop(emp)

theorem hL (g : GSem nD τ sig) (h : g.1.2 ≠ .tc) : L g = ∅ := if_neg h

theorem cut (p : Fin 3) : Pipeline.LevelCut (pcfgs (F := F)) adm () L lv p (fun _ => 0) (fun _ => 0) where
  hι c w s := by unfold L; rw [if_pos rfl]; exact Finset.mem_univ _
  hιb c w s := le_rfl
  hD c g i h := absurd h (by simp)

/-! ## The calls as segments -/

def reg0 : RegionSeg (pcfgs (F := F)) adm (pdats m) () defs₀ Variants.none L lv 0 :=
  RegionSeg.ofHeldIn (pcfgs (F := F)) adm (pdats m) () defs₀ Variants.none L lv 0 (fun _ => 0) (ucRefs τ sig) X X launch0.toP rfl
    (fun c => (R0.body_obligation (U0 m) c).loose) (fun _ _ => rfl) (fun _ => rfl)
    (fun c => (R0.dat (U0 m) c).share_full fun _ => rfl) (fun c => R0.hin (U0 m) c) (fun c => R0.hout (U0 m) c)
    (fun _ => 0) (cut 0) R (W0 m) (fun c w => R0.A_eq (U0 m) c w)

def reg1 : RegionSeg (pcfgs (F := F)) adm (pdats m) () defs₀ Variants.none L lv 1 :=
  RegionSeg.ofHeldIn (pcfgs (F := F)) adm (pdats m) () defs₀ Variants.none L lv 1 (fun _ => 0) (ucRefs τ sig) X X launch1.toP rfl
    (fun c => (R1.body_obligation (U1 m) c).loose) (fun _ _ => rfl) (fun _ => rfl)
    (fun c => (R1.dat (U1 m) c).share_full fun _ => rfl) (fun c => R1.hin (U1 m) c) (fun c => R1.hout (U1 m) c)
    (fun _ => 0) (cut 1) R (W1 m) (fun c w => R1.A_eq (U1 m) c w)

def reg2 : RegionSeg (pcfgs (F := F)) adm (pdats m) () defs₀ Variants.none L lv 2 :=
  RegionSeg.ofHeldIn (pcfgs (F := F)) adm (pdats m) () defs₀ Variants.none L lv 2 (fun _ => 0) (ucRefs τ sig) X X launch2.toP rfl
    (fun c => (R2.body_obligation (U2 m) c).loose) (fun _ _ => rfl) (fun _ => rfl)
    (fun c => (R2.dat (U2 m) c).share_full fun _ => rfl) (fun _ => .rfl) (fun _ => .rfl)
    (fun _ => 0) (cut 2) R (W2 m) (fun c w => R2.A_eq (U2 m) c w)

/-- What a core holds between the calls, its arrays at `W`. -/
abbrev St (W : Dev nD → Valuation τ sig (Elt F)) (c : Dev nD) : sProp 𝕄 :=
  iprop(StableHlo.held (c : Thread nD τ) (ucRefs τ sig) (W c) ∗ ((∃ Wd, owes (c : Thread nD τ) (0 : CellTallies nD τ sig Unit) Wd) ∗ X c ∗ R c))

theorem pre0 (c : Dev nD) : St (W0 m) c ⊢ (reg0 m).pre c := by
  show _ ⊢ iprop(StableHlo.held (c : Thread nD τ) (Pipeline.arrRefs spec0) (W0 m c) ∗ X c
    ∗ (StableHlo.held (c : Thread nD τ) (ucRefs τ sig \ Pipeline.arrRefs spec0) (W0 m c) ∗ R c) ∗ ∃ Wd, owes (c : Thread nD τ) (0 : CellTallies nD τ sig Unit) Wd)
  rw [St, StableHlo.held_sub_split (c : Thread nD τ) (Pipeline.arrRefs_sub_ucRefs _ winFacts0.arr_unscoped) (W0 m c)]
  iintro ⟨⟨Ha, Hu⟩, HO, HX, HR⟩
  isplitl [Ha]; · iexact Ha
  isplitl [HX]; · iexact HX
  isplitl [Hu HR]
  · isplitl [Hu]; · iexact Hu
    iexact HR
  iexact HO
theorem post0 (c : Dev nD) : (reg0 m).post c ⊢ St (W1 m) c := RegionSeg.ofHeldIn_post (Pipeline.arrRefs_sub_ucRefs _ winFacts0.arr_unscoped) c
theorem pre1 (c : Dev nD) : St (W1 m) c ⊢ (reg1 m).pre c := by
  show _ ⊢ iprop(StableHlo.held (c : Thread nD τ) (Pipeline.arrRefs spec1) (W1 m c) ∗ X c
    ∗ (StableHlo.held (c : Thread nD τ) (ucRefs τ sig \ Pipeline.arrRefs spec1) (W1 m c) ∗ R c) ∗ ∃ Wd, owes (c : Thread nD τ) (0 : CellTallies nD τ sig Unit) Wd)
  rw [St, StableHlo.held_sub_split (c : Thread nD τ) (Pipeline.arrRefs_sub_ucRefs _ winFacts1.arr_unscoped) (W1 m c)]
  iintro ⟨⟨Ha, Hu⟩, HO, HX, HR⟩
  isplitl [Ha]; · iexact Ha
  isplitl [HX]; · iexact HX
  isplitl [Hu HR]
  · isplitl [Hu]; · iexact Hu
    iexact HR
  iexact HO
theorem post1 (c : Dev nD) : (reg1 m).post c ⊢ St (W2 m) c := RegionSeg.ofHeldIn_post (Pipeline.arrRefs_sub_ucRefs _ winFacts1.arr_unscoped) c
theorem pre2 (c : Dev nD) : St (W2 m) c ⊢ (reg2 m).pre c := by
  show _ ⊢ iprop(StableHlo.held (c : Thread nD τ) (Pipeline.arrRefs spec2) (W2 m c) ∗ X c
    ∗ (StableHlo.held (c : Thread nD τ) (ucRefs τ sig \ Pipeline.arrRefs spec2) (W2 m c) ∗ R c) ∗ ∃ Wd, owes (c : Thread nD τ) (0 : CellTallies nD τ sig Unit) Wd)
  rw [St, StableHlo.held_sub_split (c : Thread nD τ) (Pipeline.arrRefs_sub_ucRefs _ winFacts2.arr_unscoped) (W2 m c)]
  iintro ⟨⟨Ha, Hu⟩, HO, HX, HR⟩
  isplitl [Ha]; · iexact Ha
  isplitl [HX]; · iexact HX
  isplitl [Hu HR]
  · isplitl [Hu]; · iexact Hu
    iexact HR
  iexact HO
theorem post2 (c : Dev nD) : (reg2 m).post c ⊢ St (W3 m) c := RegionSeg.ofHeldIn_post (Pipeline.arrRefs_sub_ucRefs _ winFacts2.arr_unscoped) c

/-- The whole program as the list of its calls. -/
abbrev segs (_ : Dev nD) : List (Seg (pcfgs (F := F)) adm (pdats m) () defs₀ Variants.none L lv) :=
  [.region (reg0 m), .region (reg1 m), .region (reg2 m)]

theorem no_unscoped : ∀ sm : SemLoc sig, sm.isScoped .tc = true := by decide

-- the library theorem's implicit arguments are found by unifying its conclusion with this one, which takes unfolding
-- plain definitions in a metavariable's type
set_option backward.isDefEq.respectTransparency.types false in
/-- From any memory with zero counters the run ends, with every array at `W3` and every counter at zero. -/
theorem run_main : θ_run defs (onTc (τ := τ) (main (F := F))) ⟨m, fun _ => 0, ρ⟩ (fun r => (∀ c : Dev nD,
      ∀ b ∈ ucRefs τ sig, r.2.mem ((c : Thread nD τ).1, b) = W3 m c b) ∧ r.2.sem = fun _ => 0) := by
  refine Pipeline.θ_run_regions_kit_dev_sems (pcfgs (F := F)) adm (pdats m) () cellOf_inj EP defs₀ Variants.none L lv m ρ main
    (segs m)
    (fun c Q => by
      rewrite [main_chain c, Seg.run_eq_chain,
        show (segs m c).map Seg.prog = [
          Prog.lift (.customCall (Pipeline.entry 0) ()),
          Prog.lift (.customCall (Pipeline.entry 1) ()),
          Prog.lift (.customCall (Pipeline.entry 2) ()) ] from rfl]
      dsimp (config := { failIfUnchanged := false }) only
      exact .rfl)
    (fun c => by simp only [segs, Seg.pipes_host, Seg.pipes_region, Seg.pipes_nil]; decide) (O₀ := 0) hL
    (G := fun _ => iprop(emp)) (u₀ := initOf (Pipeline.cells cfgs cellOf_inj) (Pipeline.launchToks cfgs cellOf_inj))
    (hu₀ := by
      iintro Hu
      imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := St (W0 m))
    (Tₙ := fun c => StableHlo.held (c : Thread nD τ) (ucRefs τ sig) (W3 m c))
    (hch := fun c => ⟨pre0 m c, (post0 m c).trans (pre1 m c), (post1 m c).trans (pre2 m c), (post2 m c).trans (sep_mono .rfl (by
      iintro ⟨HO, -⟩; iexact HO))⟩)
    (hinit := ?_) (QY := fun c s => ∀ b ∈ ucRefs τ sig, s.mem ((c : Thread nD τ).1, b) = W3 m c b)
    (hfin := fun c s' => ?_) (hQ := fun _ h hz => ⟨h, funext fun g => hz g (.inr (no_unscoped g.2))⟩)
  · refine Pipeline.initEach L lv fun c => ?_
    rw [show unscopedBufs c (fun b => m ((c : Thread nD τ).loc b)) = StableHlo.held (c : Thread nD τ) (ucRefs τ sig) (W0 m c)
      from Pipeline.unscopedBufs_held (Ix := Unit) (Name := ℕ) (U := UR sig nD τ) (Lvl := ℕ) c (W0 m c)]
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (ucRefs τ sig) (fun b => ((c : Thread nD τ).1, b)) (W3 m c) s') $$ [Hh HSI]
    · isplitl [Hh] <;> iassumption
    icases Hr with ⟨%h, HSI⟩
    imodintro
    isplitr
    · ipureintro; exact h
    · iexact HSI

/-! ## What each array holds in the end -/

theorem W1_keeps (c : Dev nD) (r : Ref sig .tc) (h : ∀ w, Pipeline.arrRef spec0 w = r → (cfg0.win w).isOut = false) :
    W1 m c r = W0 m c r := Pipeline.afterRegion_keeps _ _ launch0.win.arr_inj (fun w => R0.A_eq (U0 m) c w) r h
theorem W2_keeps (c : Dev nD) (r : Ref sig .tc) (h : ∀ w, Pipeline.arrRef spec1 w = r → (cfg1.win w).isOut = false) :
    W2 m c r = W1 m c r := Pipeline.afterRegion_keeps _ _ launch1.win.arr_inj (fun w => R1.A_eq (U1 m) c w) r h
theorem W3_keeps (c : Dev nD) (r : Ref sig .tc) (h : ∀ w, Pipeline.arrRef spec2 w = r → (cfg2.win w).isOut = false) :
    W3 m c r = W2 m c r := Pipeline.afterRegion_keeps _ _ launch2.win.arr_inj (fun w => R2.A_eq (U2 m) c w) r h

theorem W1_out (c : Dev nD) (w : Fin cfg0.W) : W1 m c (Pipeline.arrRef spec0 w) = (R0.dat (U0 m) c).arrAt w cfg0.N :=
  Pipeline.afterRegion_arr _ _ launch0.win.arr_inj w
theorem W2_out (c : Dev nD) (w : Fin cfg1.W) : W2 m c (Pipeline.arrRef spec1 w) = (R1.dat (U1 m) c).arrAt w cfg1.N :=
  Pipeline.afterRegion_arr _ _ launch1.win.arr_inj w
theorem W3_out (c : Dev nD) (w : Fin cfg2.W) : W3 m c (Pipeline.arrRef spec2 w) = (R2.dat (U2 m) c).arrAt w cfg2.N :=
  Pipeline.afterRegion_arr _ _ launch2.win.arr_inj w

/-- No call writes an argument. -/
theorem args_kept (c : Dev nD) : W3 m c main_arg0 = m ((c : Thread nD τ).loc main_arg0) ∧ W3 m c main_arg1 = m ((c : Thread nD τ).loc main_arg1)
    ∧ W3 m c main_arg2 = m ((c : Thread nD τ).loc main_arg2) ∧ W3 m c main_arg3 = m ((c : Thread nD τ).loc main_arg3)
    ∧ W3 m c main_arg4 = m ((c : Thread nD τ).loc main_arg4) := by
  refine ⟨?_, ?_, ?_, ?_, ?_⟩ <;>
    exact (W3_keeps m c _ (by decide)).trans ((W2_keeps m c _ (by decide)).trans ((W1_keeps m c _ (by decide)).trans rfl))

theorem read (c : Dev nD) {s : MemSt nD τ sig (Elt F)} (h : ∀ b ∈ ucRefs τ sig, s.mem ((c : Thread nD τ).1, b) = W3 m c b)
    (r : Ref sig .tc) (hr : (Proc.devRef .tc r : DevRef τ sig) ∈ ucRefs τ sig) :
    s.mem ((c : Thread nD τ).loc r) = W3 m c r := h _ hr

theorem mem_uc (r : Ref sig .tc) (h : (Proc.devRef .tc r : DevRef τ sig).isScoped = false) :
    (Proc.devRef .tc r : DevRef τ sig) ∈ ucRefs τ sig := Finset.mem_filter.mpr ⟨StableHlo.devRef_mem_tcRefs r, by rw [h]; exact Bool.false_ne_true⟩

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine θ_run_mono (run_main m ρ) fun r h => ⟨fun c => ?_, h.2⟩
  obtain ⟨a0, a1, a2, a3, a4⟩ := args_kept m c
  exact ⟨(read m c (h.1 c) main_arg0 (mem_uc _ (by decide))).trans a0, (read m c (h.1 c) main_arg1 (mem_uc _ (by decide))).trans a1,
    (read m c (h.1 c) main_arg2 (mem_uc _ (by decide))).trans a2, (read m c (h.1 c) main_arg3 (mem_uc _ (by decide))).trans a3,
    (read m c (h.1 c) main_arg4 (mem_uc _ (by decide))).trans a4⟩

end Cert.Whole.Run

end
-- ==== Proof.StatsRuns.lean ====
/-
  What the module on the running of the statistics call starts from: the blocks its windows stage, read off the arrays
  as the call finds them (`V`, whatever they hold), when the conditions on the grid point hold, and the buffers
  it is handed.
-/
module

public import proofs.«01_k».proof.Proof.Gen.WholeIdeal.Launch
public import proofs.«01_k».proof.Proof.Gen.WholeIdeal.Skeleton
public import proofs.«01_k».proof.Proof.Gen.WholeIdeal.Loops
public import proofs.«01_k».proof.Proof.Gen.WholeIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.WholeIdeal.R0

open Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 6 = 0 :=
  (fun t => by
    have ht : t.val < 6 := Nat.lt_of_lt_of_eq t.isLt N_0
    have e0 : (grid0.coords t 0).val = t.val / 1 % 6 := Pipeline.Grid.coords_val t 0 (by decide) rfl
    simp only [cond0_0, e0]
    word_cmp
   : ∀ t : Fin grid0.N, cond0_0 (grid0.coords t) ↔ t.val % 6 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 6 = 5 :=
  (fun t => by
    have ht : t.val < 6 := Nat.lt_of_lt_of_eq t.isLt N_0
    have e0 : (grid0.coords t 0).val = t.val / 1 % 6 := Pipeline.Grid.coords_val t 0 (by decide) rfl
    simp only [cond0_1, k0_cond2, e0]
    word_cmp
   : ∀ t : Fin grid0.N, cond0_1 (grid0.coords t) ↔ t.val % 6 = 5)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an output stored at every point, under no condition). -/
theorem liveAt0_3 : ∀ t : Fin cfg0.N, cfg0.idle 3 (grid0.coords t) = false := fun _ => rfl
/-- At the points of case A the printed configuration (`Cfg.idle`) calls output 4 idle: the case stores nothing into it. -/
theorem idleAt0_4_A : ∀ t : Fin cfg0.N, cond0_0 (grid0.coords t) → ¬cond0_1 (grid0.coords t) → cfg0.idle 4 (grid0.coords t) = true := by decide +kernel
/-- At the points of case A the pipeline does not write output 4's block back. -/
theorem noFlush0_4_A : ∀ t : Fin cfg0.N, cond0_0 (grid0.coords t) → ¬cond0_1 (grid0.coords t) → (cfg0.win 4).flush t = false := by decide +kernel
/-- At the points of case B the printed configuration (`Cfg.idle`) calls output 4 idle: the case stores nothing into it. -/
theorem idleAt0_4_B : ∀ t : Fin cfg0.N, ¬cond0_0 (grid0.coords t) → ¬cond0_1 (grid0.coords t) → cfg0.idle 4 (grid0.coords t) = true := by decide +kernel
/-- At the points of case B the pipeline does not write output 4's block back. -/
theorem noFlush0_4_B : ∀ t : Fin cfg0.N, ¬cond0_0 (grid0.coords t) → ¬cond0_1 (grid0.coords t) → (cfg0.win 4).flush t = false := by decide +kernel
/-- At the points of case C the printed configuration (`Cfg.idle`) calls output 4 live: the case stores into it. -/
theorem liveAt0_4_C : ∀ t : Fin cfg0.N, ¬cond0_0 (grid0.coords t) → cond0_1 (grid0.coords t) → cfg0.idle 4 (grid0.coords t) = false := by decide +kernel
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel
/-- At the points of case A the printed configuration (`Cfg.idle`) calls output 7 idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cfg0.idle 7 (grid0.coords t) = false := by decide +kernel

/-! ## The kernel body on any staging memrefs: a subtype the run finds -/

abbrev VO0_3 : View sig .tc .vmem S256x128 .f32 := (Memref.whole cc0_stg3_0 : Memref sig .tc .vmem S256x128 .f32).view
abbrev VO0_4 : View sig .tc .smem S1 .f32 := (Memref.whole cc0_stg4_0 : Memref sig .tc .smem S1 .f32).view
abbrev VO0_5 : View sig .tc .smem S1 .f32 := (Memref.whole cc0_stg5_0 : Memref sig .tc .smem S1 .f32).view
abbrev VO0_6 : View sig .tc .smem S1 .f32 := (Memref.whole cc0_stg6_0 : Memref sig .tc .smem S1 .f32).view
abbrev VO0_7 : View sig .tc .smem S1 .f32 := (Memref.whole cc0_stg7_0 : Memref sig .tc .smem S1 .f32).view
/-- Each window's current staging memref at point `t`, spelled as the pipeline passes it (`bodyAt0`), and its wholeness. -/
abbrev ms0_0 (t : Fin cfg0.N) : Memref sig .tc .vmem S256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x7168 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2304 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S8x7168 .f32 := Memref.whole cc0_scratch0
abbrev scM0_1 : Memref sig .tc .vmem S8x2304 .f32 := Memref.whole cc0_scratch1
/-- The scratch `arg9` the kernel carries between points, as a view: what it holds is stated through it. -/
abbrev VS0_0 : View sig .tc .vmem S8x7168 .f32 := scM0_0.view
/-- The scratch `arg10` the kernel carries between points, as a view: what it holds is stated through it. -/
abbrev VS0_1 : View sig .tc .vmem S8x2304 .f32 := scM0_1.view

/-- What the call never looks at: every other scoped buffer, and the generator's register. -/
def restG (c : Dev nD) : sProp 𝕄 :=
  iprop(Pipeline.scopedRestBut (Ix := Unit) (Name := ℕ) (U := UR sig nD τ) (Lvl := ℕ) (Val := Elt F) spec0 c [cc0_scratch0, cc0_scratch1] ∗ (∃ r, prngReg c r))

/-- What the call is handed between points: its two scratch buffers at some contents, and the rest. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ restG c) := by
  unfold Pipeline.ΦA restG
  rw [Pipeline.scopedRest_split_of_list spec0 c [cc0_scratch0, cc0_scratch1] (by decide) (by decide)]
  simp only [scM0_0, scM0_1, owns_whole]
  exact equiv_iff.mp ⟨Idealize.SL.BI.sep_assoc, Idealize.SL.BI.sep_assoc'⟩

end Cert.WholeIdeal.R0

end
-- ==== Proof.StatsTrip.lean ====
/-
  What one grid point of the idealized statistics call leaves in its buffers: the loop over the sixteen
  row tiles, as a function of the blocks read.
-/
module

public import proofs.«01_k».proof.Proof.StatsRuns
public import Idealize.ShloMosaic.Lib.Pipeline.Value
public import Idealize.ShloMosaic.Lib.VecWindow
public import Idealize.ShloMosaic.Lib.Pipeline.ValueKit
public import Idealize.ShloMosaic.Lib.Pointwise

@[expose] public section

set_option maxRecDepth 16384

noncomputable section

namespace Cert.WholeIdeal.R0

open Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Row tiles -/

/-- The matrix whose row tiles of height 16 are `W`. -/
def tiled {C n : ℕ} {e : EltTy} (hn : n = 16) (W : Fin n → (⟨2, ![16, C]⟩ : Shape).Idx → Elt F e) :
    (⟨2, ![256, C]⟩ : Shape).Idx → Elt F e := fun i =>
  W ⟨(i 0 : ℕ) / 16, by have h : (i 0 : ℕ) < 256 := (i 0).isLt; omega⟩
    (ix2 ⟨(i 0 : ℕ) % 16, Nat.mod_lt _ (by decide)⟩ (i 1))

/-- Tiles stored one after the other: after `k` of them the first `16 * k` rows are the tiles', the rest as found. -/
theorem read_tiles {C n : ℕ} {e : EltTy} {κ : Kind} {sp : Space} (hn : n = 16) (v : View sig κ sp ⟨2, ![256, C]⟩ e)
    (G : v.ty.Contents (Elt F)) (off : Fin n → Fin 2 → ℕ) (hoff : ∀ k, off k = ![16 * k.val, 0])
    (inb : ∀ k (a : Fin 2), off k a + (![16, C] : Fin 2 → ℕ) a ≤ (⟨2, ![256, C]⟩ : Shape).size a)
    (W : Fin n → (⟨2, ![16, C]⟩ : Shape).Idx → Elt F e) (P : ℕ → List (View.Piece (Elt F) ⟨2, ![256, C]⟩ e)) (h0 : P 0 = [])
    (hs : ∀ k : Fin n, P (k.val + 1) = (⟨Rect.unit (s := ⟨2, ![256, C]⟩) (off k) ![16, C] (inb k), W k⟩ : View.Piece (Elt F) ⟨2, ![256, C]⟩ e) :: P k.val) :
    ∀ k ≤ n, ∀ i, v.read (Elt F) (v.writes (Elt F) G (P k)) i
      = if (i 0 : ℕ) < 16 * k then tiled hn W i else v.read (Elt F) G i := by
  intro k
  induction k with
  | zero => intro _ i; rw [h0, if_neg (by omega)]; rfl
  | succ k ih =>
    intro hk i
    have hk' : k < n := hk
    have ih := ih (le_of_lt hk')
    have e := hs ⟨k, hk'⟩
    simp only at e
    rw [e]
    have hi0 : (i 1 : ℕ) < C := (i 1).isLt
    by_cases hlt : (i 0 : ℕ) < 16 * k
    · rw [View.read_writes_cons_unit_of_not_mem v G (inb ⟨k, hk'⟩) _ _ i (hoff _) 0 (Or.inl (by show (i 0 : ℕ) < 16 * k; exact hlt)),
        ih i, if_pos hlt, if_pos (by omega)]
    · by_cases hlt2 : (i 0 : ℕ) < 16 * (k + 1)
      · rw [if_pos hlt2]
        have hd : (i 0 : ℕ) / 16 = k := by omega
        rw [View.read_writes_cons_unit_of_mem v G (inb ⟨k, hk'⟩) _ _ i
          (ix2 ⟨(i 0 : ℕ) % 16, Nat.mod_lt _ (by decide)⟩ (i 1)) (hoff _) (fun a => by
            match a with
            | ⟨0, _⟩ => show (i 0 : ℕ) = 16 * k + (i 0 : ℕ) % 16; omega
            | ⟨1, _⟩ => show (i 1 : ℕ) = 0 + (i 1 : ℕ); omega)]
        unfold tiled
        exact congrFun (congrArg W (Fin.ext hd.symm)) _
      · rw [View.read_writes_cons_unit_of_not_mem v G (inb ⟨k, hk'⟩) _ _ i (hoff _) 0
          (Or.inr (by show 16 * k + 16 ≤ (i 0 : ℕ); omega)), ih i, if_neg hlt, if_neg hlt2]

/-- All the tiles stored: the whole matrix. -/
theorem read_tiles_all {C n : ℕ} {e : EltTy} {κ : Kind} {sp : Space} (hn : n = 16) (v : View sig κ sp ⟨2, ![256, C]⟩ e)
    (G : v.ty.Contents (Elt F)) (off : Fin n → Fin 2 → ℕ) (hoff : ∀ k, off k = ![16 * k.val, 0])
    (inb : ∀ k (a : Fin 2), off k a + (![16, C] : Fin 2 → ℕ) a ≤ (⟨2, ![256, C]⟩ : Shape).size a)
    (W : Fin n → (⟨2, ![16, C]⟩ : Shape).Idx → Elt F e) (P : ℕ → List (View.Piece (Elt F) ⟨2, ![256, C]⟩ e)) (h0 : P 0 = [])
    (hs : ∀ k : Fin n, P (k.val + 1) = (⟨Rect.unit (s := ⟨2, ![256, C]⟩) (off k) ![16, C] (inb k), W k⟩ : View.Piece (Elt F) ⟨2, ![256, C]⟩ e) :: P k.val) :
    v.read (Elt F) (v.writes (Elt F) G (P n)) = tiled hn W := by
  funext i
  rw [read_tiles hn v G off hoff inb W P h0 hs n le_rfl i, if_pos]
  have h : (i 0 : ℕ) < 256 := (i 0).isLt
  omega

theorem trips1 : k0_t1_loop.trips = 16 := by decide +kernel

/-! ## What a point computes, from its blocks -/

/-- The tiles a trip loads. -/
def xT (x : Vec F S256x7168 .bf16) (k : Fin k0_t1_loop.trips) : Vec F S16x7168 .bf16 :=
  View.ld x (Rect.unit (s := S256x7168) (k0_off1 k) S16x7168.size (k0_off1_inb k))
def yT (y : Vec F S256x2304 .bf16) (k : Fin k0_t1_loop.trips) : Vec F S16x2304 .bf16 :=
  View.ld y (Rect.unit (s := S256x2304) (k0_off3 k) S16x2304.size (k0_off3_inb k))

/-- The inverse root mean squares of the point's rows. -/
def rB (x : Vec F S256x7168 .bf16) : Vec F S256x128 .f32 := tiled trips1 fun k => k0_pay5 (xT x k)

/-- The running maxima after `n` tiles. -/
def cmN (x : Vec F S256x7168 .bf16) (s : Vec F S8x7168 .f32) : ℕ → Vec F S8x7168 .f32
  | 0 => s
  | n + 1 => if h : n < k0_t1_loop.trips then k0_pay6 (xT x ⟨n, h⟩) (cmN x s n) else cmN x s n
def dmN (y : Vec F S256x2304 .bf16) (s : Vec F S8x2304 .f32) : ℕ → Vec F S8x2304 .f32
  | 0 => s
  | n + 1 => if h : n < k0_t1_loop.trips then k0_pay7 (yT y ⟨n, h⟩) (dmN y s n) else dmN y s n
def cmB (x : Vec F S256x7168 .bf16) (s : Vec F S8x7168 .f32) : Vec F S8x7168 .f32 := cmN x s k0_t1_loop.trips
def dmB (y : Vec F S256x2304 .bf16) (s : Vec F S8x2304 .f32) : Vec F S8x2304 .f32 := dmN y s k0_t1_loop.trips

/-- The four numbers the last point leaves. -/
def axB (cm : Vec F S8x7168 .f32) (g : Vec F S1x7168 .f32) : Vec F S1 .f32 := fun _ => k0_pay8 cm g
def ayB (dm : Vec F S8x2304 .f32) : Vec F S1 .f32 := fun _ => k0_pay9 dm
def sxB (cm : Vec F S8x7168 .f32) (g : Vec F S1x7168 .f32) : Vec F S1 .f32 := fun _ =>
  k0_pay16 (k0_pay14 (k0_pay10 cm g) (k0_pay11 cm g) (k0_pay12 cm g) k0_pay13) k0_pay15
def syB (dm : Vec F S8x2304 .f32) : Vec F S1 .f32 := fun _ =>
  k0_pay20 (k0_pay17 (k0_pay9 dm)) (k0_pay18 (k0_pay9 dm)) k0_pay19

/-! ## The loop leaves these -/

theorem hz2 : (![0, 0] : Fin 2 → Nat) = fun _ => 0 := funext fun a => by fin_cases a <;> rfl

section
variable (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S256x2304 .bf16) (harg3 : arg3.IsWhole) (arg4 : Memref sig .tc .vmem S256x128 .f32) (harg4 : arg4.IsWhole) (arg5 : Memref sig .tc .smem S1 .f32) (harg5 : arg5.IsWhole) (arg6 : Memref sig .tc .smem S1 .f32) (harg6 : arg6.IsWhole) (arg7 : Memref sig .tc .smem S1 .f32) (harg7 : arg7.IsWhole) (arg8 : Memref sig .tc .smem S1 .f32) (harg8 : arg8.IsWhole) (arg9 : Memref sig .tc .vmem S8x7168 .f32) (harg9 : arg9.IsWhole) (arg10 : Memref sig .tc .vmem S8x2304 .f32) (harg10 : arg10.IsWhole)
  (X1 : BufTy.Contents (Elt F) arg1.view.ty) (X3 : BufTy.Contents (Elt F) arg3.view.ty)

theorem tripL_eq (k : Fin k0_t1_loop.trips) (f4) (f9) (f10) :
    tripL_k0_t1 (F := F) Variants.none c none i arg1 harg1 arg2 harg2 arg3 harg3 arg4 harg4 arg5 harg5 arg6 harg6 arg7 harg7 arg8 harg8 arg9 harg9 arg10 harg10 X1 X3 k f4 f9 f10
      = ([⟨Rect.unit (s := S256x128) (k0_off2 k) ![16, 128] (k0_off2_inb k), k0_pay5 (xT (arg1.view.read (Elt F) X1) k)⟩],
         [⟨Rect.unit (s := S8x7168) ![0, 0] S8x7168.size inb_S8x7168_S8x7168_0_0, k0_pay6 (xT (arg1.view.read (Elt F) X1) k) (View.ld (arg9.view.read (Elt F) f9) (Rect.unit (s := S8x7168) ![0, 0] S8x7168.size inb_S8x7168_S8x7168_0_0))⟩],
         [⟨Rect.unit (s := S8x2304) ![0, 0] S8x2304.size inb_S8x2304_S8x2304_0_0, k0_pay7 (yT (arg3.view.read (Elt F) X3) k) (View.ld (arg10.view.read (Elt F) f10) (Rect.unit (s := S8x2304) ![0, 0] S8x2304.size inb_S8x2304_S8x2304_0_0))⟩]) := by
  unfold tripL_k0_t1 trip_k0_t1
  rfl

variable (G4 : BufTy.Contents (Elt F) arg4.view.ty) (G9 : BufTy.Contents (Elt F) arg9.view.ty) (G10 : BufTy.Contents (Elt F) arg10.view.ty)

theorem pb_r : arg4.view.read (Elt F) (arg4.view.writes (Elt F) G4 (pb_k0_t1 (F := F) Variants.none c none i arg1 harg1 arg2 harg2 arg3 harg3 arg4 harg4 arg5 harg5 arg6 harg6 arg7 harg7 arg8 harg8 arg9 harg9 arg10 harg10 X1 X3 G4 G9 G10 k0_t1_loop.trips).1)
      = rB (arg1.view.read (Elt F) X1) := by
  refine read_tiles_all trips1 arg4.view G4 k0_off2 k0_off2_eq k0_off2_inb _ (fun k => (pb_k0_t1 (F := F) Variants.none c none i arg1 harg1 arg2 harg2 arg3 harg3 arg4 harg4 arg5 harg5 arg6 harg6 arg7 harg7 arg8 harg8 arg9 harg9 arg10 harg10 X1 X3 G4 G9 G10 k).1) rfl fun k => ?_
  dsimp only
  rw [pb_k0_t1_succ, tripL_eq]
  rfl

theorem pb_cm (s : Vec F S8x7168 .f32) (h9 : arg9.view.read (Elt F) G9 = s) : ∀ k ≤ k0_t1_loop.trips,
    arg9.view.read (Elt F) (arg9.view.writes (Elt F) G9 (pb_k0_t1 (F := F) Variants.none c none i arg1 harg1 arg2 harg2 arg3 harg3 arg4 harg4 arg5 harg5 arg6 harg6 arg7 harg7 arg8 harg8 arg9 harg9 arg10 harg10 X1 X3 G4 G9 G10 k).2.1)
      = cmN (arg1.view.read (Elt F) X1) s k := by
  intro k
  induction k with
  | zero => intro _; exact h9
  | succ k ih =>
    intro hk
    rw [show k + 1 = (⟨k, hk⟩ : Fin k0_t1_loop.trips).val + 1 from rfl, pb_k0_t1_succ, tripL_eq]
    dsimp only [List.cons_append, List.nil_append]
    rw [View.read_writes_full, View.ld_unit_zero (S := S8x7168) hz2, ih (Nat.le_of_succ_le hk)]
    conv_rhs => unfold cmN
    rw [dif_pos (Nat.lt_of_succ_le hk)]

theorem pb_dm (s : Vec F S8x2304 .f32) (h10 : arg10.view.read (Elt F) G10 = s) : ∀ k ≤ k0_t1_loop.trips,
    arg10.view.read (Elt F) (arg10.view.writes (Elt F) G10 (pb_k0_t1 (F := F) Variants.none c none i arg1 harg1 arg2 harg2 arg3 harg3 arg4 harg4 arg5 harg5 arg6 harg6 arg7 harg7 arg8 harg8 arg9 harg9 arg10 harg10 X1 X3 G4 G9 G10 k).2.2)
      = dmN (arg3.view.read (Elt F) X3) s k := by
  intro k
  induction k with
  | zero => intro _; exact h10
  | succ k ih =>
    intro hk
    rw [show k + 1 = (⟨k, hk⟩ : Fin k0_t1_loop.trips).val + 1 from rfl, pb_k0_t1_succ, tripL_eq]
    dsimp only [List.cons_append, List.nil_append]
    rw [View.read_writes_full, View.ld_unit_zero (S := S8x2304) hz2, ih (Nat.le_of_succ_le hk)]
    conv_rhs => unfold dmN
    rw [dif_pos (Nat.lt_of_succ_le hk)]

/-- The maxima after the loop. -/
theorem cm_all (s : Vec F S8x7168 .f32) (h9 : arg9.view.read (Elt F) G9 = s) :
    arg9.view.read (Elt F) (arg9.view.writes (Elt F) G9 (pb_k0_t1 (F := F) Variants.none c none i arg1 harg1 arg2 harg2 arg3 harg3 arg4 harg4 arg5 harg5 arg6 harg6 arg7 harg7 arg8 harg8 arg9 harg9 arg10 harg10 X1 X3 G4 G9 G10 k0_t1_loop.trips).2.1)
      = cmB (arg1.view.read (Elt F) X1) s := pb_cm c i arg1 harg1 arg2 harg2 arg3 harg3 arg4 harg4 arg5 harg5 arg6 harg6 arg7 harg7 arg8 harg8 arg9 harg9 arg10 harg10 X1 X3 G4 G9 G10 s h9 _ le_rfl
theorem dm_all (s : Vec F S8x2304 .f32) (h10 : arg10.view.read (Elt F) G10 = s) :
    arg10.view.read (Elt F) (arg10.view.writes (Elt F) G10 (pb_k0_t1 (F := F) Variants.none c none i arg1 harg1 arg2 harg2 arg3 harg3 arg4 harg4 arg5 harg5 arg6 harg6 arg7 harg7 arg8 harg8 arg9 harg9 arg10 harg10 X1 X3 G4 G9 G10 k0_t1_loop.trips).2.2)
      = dmB (arg3.view.read (Elt F) X3) s := pb_dm c i arg1 harg1 arg2 harg2 arg3 harg3 arg4 harg4 arg5 harg5 arg6 harg6 arg7 harg7 arg8 harg8 arg9 harg9 arg10 harg10 X1 X3 G4 G9 G10 s h10 _ le_rfl
end

end Cert.WholeIdeal.R0

end
-- ==== Proof.StatsBody.lean ====
/-
  The body of the idealized statistics call at any grid point and any floats: from what its buffers hold when it
  starts to what they hold when it ends, in the terms of the module on the loop.
-/
module

public import proofs.«01_k».proof.Proof.StatsTrip

@[expose] public section

set_option maxRecDepth 16384

noncomputable section

namespace Cert.WholeIdeal.R0

open Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A whole store. -/
theorem whole9 {κ : Kind} {sp : Space} (v : View sig κ sp S8x7168 .f32) (f : v.ty.Contents (Elt F)) :
    v.read (Elt F) (v.writes (Elt F) f [⟨Rect.unit (s := S8x7168) ![0, 0] S8x7168.size inb_S8x7168_S8x7168_0_0, k0_pay1 (F := F)⟩]) = k0_pay1 :=
  View.read_writes_full _ _ _ _ _

theorem whole10 {κ : Kind} {sp : Space} (v : View sig κ sp S8x2304 .f32) (f : v.ty.Contents (Elt F)) :
    v.read (Elt F) (v.writes (Elt F) f [⟨Rect.unit (s := S8x2304) ![0, 0] S8x2304.size inb_S8x2304_S8x2304_0_0, k0_pay2 (F := F)⟩]) = k0_pay2 :=
  View.read_writes_full _ _ _ _ _

/-- The four numbers are of whole buffers. -/
theorem ax_of (u : Vec F S8x7168 .f32) (g : Vec F S1x7168 .f32) (U : Vec F S8x7168 .f32) (h : u = U) :
    axB (View.ld u (Rect.unit (s := S8x7168) ![0, 0] S8x7168.size inb_S8x7168_S8x7168_0_0)) (View.ld g (Rect.unit (s := S1x7168) ![0, 0] S1x7168.size inb_S1x7168_S1x7168_0_0)) = axB U g := by
  rw [View.ld_unit_zero (S := S8x7168) hz2, View.ld_unit_zero (S := S1x7168) hz2, h]
theorem sx_of (u : Vec F S8x7168 .f32) (g : Vec F S1x7168 .f32) (U : Vec F S8x7168 .f32) (h : u = U) :
    sxB (View.ld u (Rect.unit (s := S8x7168) ![0, 0] S8x7168.size inb_S8x7168_S8x7168_0_0)) (View.ld g (Rect.unit (s := S1x7168) ![0, 0] S1x7168.size inb_S1x7168_S1x7168_0_0)) = sxB U g := by
  rw [View.ld_unit_zero (S := S8x7168) hz2, View.ld_unit_zero (S := S1x7168) hz2, h]
theorem ay_of (u : Vec F S8x2304 .f32) (U : Vec F S8x2304 .f32) (h : u = U) :
    ayB (View.ld u (Rect.unit (s := S8x2304) ![0, 0] S8x2304.size inb_S8x2304_S8x2304_0_0)) = ayB U := by
  rw [View.ld_unit_zero (S := S8x2304) hz2, h]
theorem sy_of (u : Vec F S8x2304 .f32) (U : Vec F S8x2304 .f32) (h : u = U) :
    syB (View.ld u (Rect.unit (s := S8x2304) ![0, 0] S8x2304.size inb_S8x2304_S8x2304_0_0)) = syB U := by
  rw [View.ld_unit_zero (S := S8x2304) hz2, h]

set_option maxHeartbeats 4000000 in
theorem body (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S256x2304 .bf16) (harg3 : arg3.IsWhole) (arg4 : Memref sig .tc .vmem S256x128 .f32) (harg4 : arg4.IsWhole) (arg5 : Memref sig .tc .smem S1 .f32) (harg5 : arg5.IsWhole) (arg6 : Memref sig .tc .smem S1 .f32) (harg6 : arg6.IsWhole) (arg7 : Memref sig .tc .smem S1 .f32) (harg7 : arg7.IsWhole) (arg8 : Memref sig .tc .smem S1 .f32) (harg8 : arg8.IsWhole) (arg9 : Memref sig .tc .vmem S8x7168 .f32) (harg9 : arg9.IsWhole) (arg10 : Memref sig .tc .vmem S8x2304 .f32) (harg10 : arg10.IsWhole)
    (x0 : Vec F S256x7168 .bf16) (x1 : Vec F S1x7168 .f32) (x2 : Vec F S256x2304 .bf16) (y5 y6 y7 y8 : Vec F S1 .f32) (s : Vec F S8x7168 .f32) (s' : Vec F S8x2304 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare s ∗ owns (c : Thread nD τ) arg10 fullShare s' ∗ (iprop(owns (c : Thread nD τ) arg1 fullShare x0 ∗ owns (c : Thread nD τ) arg2 fullShare x1 ∗ owns (c : Thread nD τ) arg3 fullShare x2 ∗ owns (c : Thread nD τ) arg4 fullShare (rB x0) ∗ owns (c : Thread nD τ) arg5 fullShare (if cond0_1 i then axB (cmB x0 (if cond0_0 i then k0_pay1 else s)) x1 else y5) ∗ owns (c : Thread nD τ) arg6 fullShare (if cond0_1 i then ayB (dmB x2 (if cond0_0 i then k0_pay2 else s')) else y6) ∗ owns (c : Thread nD τ) arg7 fullShare (if cond0_1 i then sxB (cmB x0 (if cond0_0 i then k0_pay1 else s)) x1 else y7) ∗ owns (c : Thread nD τ) arg8 fullShare (if cond0_1 i then syB (dmB x2 (if cond0_0 i then k0_pay2 else s')) else y8) ∗ owns (c : Thread nD τ) arg9 fullShare (cmB x0 (if cond0_0 i then k0_pay1 else s)) ∗ owns (c : Thread nD τ) arg10 fullShare (dmB x2 (if cond0_0 i then k0_pay2 else s'))) -∗ K ⟨⟩))
      ⊢ wp frame (wpE (defs₀ (F := F)) Variants.none c none) E (cc0_stats i arg1 harg1 arg2 harg2 arg3 harg3 arg4 harg4 arg5 harg5 arg6 harg6 arg7 harg7 arg8 harg8 arg9 harg9 arg10 harg10) K := by
  by_cases hc0 : cond0_0 i <;> by_cases hc1 : cond0_1 i
  · simp only [if_pos hc0, if_pos hc1]
    simp only [cc0_stats_eq_skeleton]; unfold cc0_stats_skel
    simp only [k0_part4_eq_skeleton]
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    subst hf1 hf2 hf3 hf5 hf6 hf7 hf8 hf9 hf10
    sl_exec (disch := first | sl_exact hc0 | sl_exact hc1)
    sl_step
    iapply Hk
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; exact pb_r c i arg1 harg1 arg2 harg2 arg3 harg3 arg4 harg4 arg5 harg5 arg6 harg6 arg7 harg7 arg8 harg8 arg9 harg9 arg10 harg10 _ _ _ _ _
    isplitl [H5]
    · iexists _; isplitr; swap; · iexact H5
      ipureintro; exact (View.read_writes_full _ _ _ _ _).trans (ax_of _ _ _ (by rw [View.writes_append]; exact cm_all c i arg1 harg1 arg2 harg2 arg3 harg3 arg4 harg4 arg5 harg5 arg6 harg6 arg7 harg7 arg8 harg8 arg9 harg9 arg10 harg10 _ _ _ _ _ k0_pay1 (whole9 _ _)))
    isplitl [H6]
    · iexists _; isplitr; swap; · iexact H6
      ipureintro; exact (View.read_writes_full _ _ _ _ _).trans (ay_of _ _ (by rw [View.writes_append]; exact dm_all c i arg1 harg1 arg2 harg2 arg3 harg3 arg4 harg4 arg5 harg5 arg6 harg6 arg7 harg7 arg8 harg8 arg9 harg9 arg10 harg10 _ _ _ _ _ k0_pay2 (whole10 _ _)))
    isplitl [H7]
    · iexists _; isplitr; swap; · iexact H7
      ipureintro; exact (View.read_writes_full _ _ _ _ _).trans (sx_of _ _ _ (by rw [View.writes_append]; exact cm_all c i arg1 harg1 arg2 harg2 arg3 harg3 arg4 harg4 arg5 harg5 arg6 harg6 arg7 harg7 arg8 harg8 arg9 harg9 arg10 harg10 _ _ _ _ _ k0_pay1 (whole9 _ _)))
    isplitl [H8]
    · iexists _; isplitr; swap; · iexact H8
      ipureintro; exact (View.read_writes_full _ _ _ _ _).trans (sy_of _ _ (by rw [View.writes_append]; exact dm_all c i arg1 harg1 arg2 harg2 arg3 harg3 arg4 harg4 arg5 harg5 arg6 harg6 arg7 harg7 arg8 harg8 arg9 harg9 arg10 harg10 _ _ _ _ _ k0_pay2 (whole10 _ _)))
    isplitl [H9]
    · iexists _; isplitr; swap; · iexact H9
      ipureintro; exact (by rw [View.writes_append]; exact cm_all c i arg1 harg1 arg2 harg2 arg3 harg3 arg4 harg4 arg5 harg5 arg6 harg6 arg7 harg7 arg8 harg8 arg9 harg9 arg10 harg10 _ _ _ _ _ k0_pay1 (whole9 _ _))
    iexists _; isplitr; swap; · iexact H10
    ipureintro; exact (by rw [View.writes_append]; exact dm_all c i arg1 harg1 arg2 harg2 arg3 harg3 arg4 harg4 arg5 harg5 arg6 harg6 arg7 harg7 arg8 harg8 arg9 harg9 arg10 harg10 _ _ _ _ _ k0_pay2 (whole10 _ _))
  · simp only [if_pos hc0, if_neg hc1]
    simp only [cc0_stats_eq_skeleton]; unfold cc0_stats_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    subst hf1 hf2 hf3 hf5 hf6 hf7 hf8 hf9 hf10
    sl_exec (disch := first | sl_exact hc0 | sl_exact hc1)
    sl_step
    iapply Hk
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; exact pb_r c i arg1 harg1 arg2 harg2 arg3 harg3 arg4 harg4 arg5 harg5 arg6 harg6 arg7 harg7 arg8 harg8 arg9 harg9 arg10 harg10 _ _ _ _ _
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact (by rw [View.writes_append]; exact cm_all c i arg1 harg1 arg2 harg2 arg3 harg3 arg4 harg4 arg5 harg5 arg6 harg6 arg7 harg7 arg8 harg8 arg9 harg9 arg10 harg10 _ _ _ _ _ k0_pay1 (whole9 _ _))
    iexists _; isplitr; swap; · iexact H10
    ipureintro; exact (by rw [View.writes_append]; exact dm_all c i arg1 harg1 arg2 harg2 arg3 harg3 arg4 harg4 arg5 harg5 arg6 harg6 arg7 harg7 arg8 harg8 arg9 harg9 arg10 harg10 _ _ _ _ _ k0_pay2 (whole10 _ _))
  · simp only [if_neg hc0, if_pos hc1]
    simp only [cc0_stats_eq_skeleton]; unfold cc0_stats_skel
    simp only [k0_part4_eq_skeleton]
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    subst hf1 hf2 hf3 hf5 hf6 hf7 hf8 hf9 hf10
    sl_exec (disch := first | sl_exact hc0 | sl_exact hc1)
    sl_step
    iapply Hk
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; exact pb_r c i arg1 harg1 arg2 harg2 arg3 harg3 arg4 harg4 arg5 harg5 arg6 harg6 arg7 harg7 arg8 harg8 arg9 harg9 arg10 harg10 _ _ _ _ _
    isplitl [H5]
    · iexists _; isplitr; swap; · iexact H5
      ipureintro; exact (View.read_writes_full _ _ _ _ _).trans (ax_of _ _ _ (cm_all c i arg1 harg1 arg2 harg2 arg3 harg3 arg4 harg4 arg5 harg5 arg6 harg6 arg7 harg7 arg8 harg8 arg9 harg9 arg10 harg10 _ _ _ _ _ _ rfl))
    isplitl [H6]
    · iexists _; isplitr; swap; · iexact H6
      ipureintro; exact (View.read_writes_full _ _ _ _ _).trans (ay_of _ _ (dm_all c i arg1 harg1 arg2 harg2 arg3 harg3 arg4 harg4 arg5 harg5 arg6 harg6 arg7 harg7 arg8 harg8 arg9 harg9 arg10 harg10 _ _ _ _ _ _ rfl))
    isplitl [H7]
    · iexists _; isplitr; swap; · iexact H7
      ipureintro; exact (View.read_writes_full _ _ _ _ _).trans (sx_of _ _ _ (cm_all c i arg1 harg1 arg2 harg2 arg3 harg3 arg4 harg4 arg5 harg5 arg6 harg6 arg7 harg7 arg8 harg8 arg9 harg9 arg10 harg10 _ _ _ _ _ _ rfl))
    isplitl [H8]
    · iexists _; isplitr; swap; · iexact H8
      ipureintro; exact (View.read_writes_full _ _ _ _ _).trans (sy_of _ _ (dm_all c i arg1 harg1 arg2 harg2 arg3 harg3 arg4 harg4 arg5 harg5 arg6 harg6 arg7 harg7 arg8 harg8 arg9 harg9 arg10 harg10 _ _ _ _ _ _ rfl))
    isplitl [H9]
    · iexists _; isplitr; swap; · iexact H9
      ipureintro; exact (cm_all c i arg1 harg1 arg2 harg2 arg3 harg3 arg4 harg4 arg5 harg5 arg6 harg6 arg7 harg7 arg8 harg8 arg9 harg9 arg10 harg10 _ _ _ _ _ _ rfl)
    iexists _; isplitr; swap; · iexact H10
    ipureintro; exact (dm_all c i arg1 harg1 arg2 harg2 arg3 harg3 arg4 harg4 arg5 harg5 arg6 harg6 arg7 harg7 arg8 harg8 arg9 harg9 arg10 harg10 _ _ _ _ _ _ rfl)
  · simp only [if_neg hc0, if_neg hc1]
    simp only [cc0_stats_eq_skeleton]; unfold cc0_stats_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    subst hf1 hf2 hf3 hf5 hf6 hf7 hf8 hf9 hf10
    sl_exec (disch := first | sl_exact hc0 | sl_exact hc1)
    sl_step
    iapply Hk
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; exact pb_r c i arg1 harg1 arg2 harg2 arg3 harg3 arg4 harg4 arg5 harg5 arg6 harg6 arg7 harg7 arg8 harg8 arg9 harg9 arg10 harg10 _ _ _ _ _
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact (cm_all c i arg1 harg1 arg2 harg2 arg3 harg3 arg4 harg4 arg5 harg5 arg6 harg6 arg7 harg7 arg8 harg8 arg9 harg9 arg10 harg10 _ _ _ _ _ _ rfl)
    iexists _; isplitr; swap; · iexact H10
    ipureintro; exact (dm_all c i arg1 harg1 arg2 harg2 arg3 harg3 arg4 harg4 arg5 harg5 arg6 harg6 arg7 harg7 arg8 harg8 arg9 harg9 arg10 harg10 _ _ _ _ _ _ rfl)

end Cert.WholeIdeal.R0

end
-- ==== Proof.StatsFrame.lean ====
/-
The running of the statistics call point by point, at any floats: what every buffer holds after each of
the six grid points, that the call ends, that its argument arrays are left alone, and what its five result
arrays hold in the end.  The running maxima are carried from one point to the next;
`sAt` names them.
-/
module

public import proofs.«01_k».proof.Proof.StatsBody
public import Idealize.ShloMosaic.Lib.Claim

@[expose] public section

set_option maxRecDepth 16384

noncomputable section

namespace Cert.WholeIdeal.R0

open Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The running maxima after point `n`. -/
def sAt (c : Dev nD) : (n : ℕ) → n < cfg0.N → Vec F S8x7168 .f32 × Vec F S8x2304 .f32
  | 0, hn => (cmB (iblk V c 0 ⟨0, hn⟩) k0_pay1, dmB (iblk V c 2 ⟨0, hn⟩) k0_pay2)
  | n + 1, hn => (cmB (iblk V c 0 ⟨n + 1, hn⟩) (sAt c n (Nat.lt_of_succ_lt hn)).1, dmB (iblk V c 2 ⟨n + 1, hn⟩) (sAt c n (Nat.lt_of_succ_lt hn)).2)

theorem sAt_zero (c : Dev nD) (t : Fin cfg0.N) (hz : t.val = 0) :
    sAt V c t.val t.isLt = (cmB (iblk V c 0 t) k0_pay1, dmB (iblk V c 2 t) k0_pay2) := by
  obtain ⟨n, hn⟩ := t
  cases n with
  | zero => rfl
  | succ n => exact absurd hz (Nat.succ_ne_zero n)

theorem sAt_pos (c : Dev nD) (t : Fin cfg0.N) (hz : t.val ≠ 0) :
    sAt V c t.val t.isLt = (cmB (iblk V c 0 t) (sAt V c (t.val - 1) (lt_of_le_of_lt (Nat.sub_le _ _) t.isLt)).1, dmB (iblk V c 2 t) (sAt V c (t.val - 1) (lt_of_le_of_lt (Nat.sub_le _ _) t.isLt)).2) := by
  obtain ⟨n, hn⟩ := t
  cases n with
  | zero => exact absurd rfl hz
  | succ n => rfl

/-- What is known between points: the carried maxima after the first point, anything before it. -/
def PhiS (c : Dev nD) : (n : ℕ) → n ≤ cfg0.N → sProp 𝕄
  | 0, _ => Pipeline.ΦA spec0 c
  | n + 1, hn => iprop(iprop(owns (c : Thread nD τ) scM0_0 fullShare (sAt V c n hn).1 ∗ owns (c : Thread nD τ) scM0_1 fullShare (sAt V c n hn).2) ∗ restG c)

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (sAt V c n hn).1 ∗ owns (c : Thread nD τ) scM0_1 fullShare (sAt V c n hn).2) ∗ restG c) := rfl

theorem PhiS_pos (c : Dev nD) (n : ℕ) (h : n ≤ cfg0.N) (hz : n ≠ 0) :
    PhiS V c n h = iprop(iprop(owns (c : Thread nD τ) scM0_0 fullShare (sAt V c (n - 1) (by omega)).1 ∗ owns (c : Thread nD τ) scM0_1 fullShare (sAt V c (n - 1) (by omega)).2) ∗ restG c) := by
  cases n with
  | zero => exact absurd rfl hz
  | succ n => rfl

/-- What each buffer holds after the body at each point. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => rB (iblk V c 0 t)
    | ⟨4, _⟩ => axB (sAt V c t.val t.isLt).1 (iblk V c 1 t)
    | ⟨5, _⟩ => ayB (sAt V c t.val t.isLt).2
    | ⟨6, _⟩ => sxB (sAt V c t.val t.isLt).1 (iblk V c 1 t)
    | ⟨7, _⟩ => syB (sAt V c t.val t.isLt).2
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; exact Pipeline.Dat.Φ_castSucc (PhiS V c) t

theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = rB (iblk V c 0 t) := by dsimp only [dat]
theorem after0_4 (c : Dev nD) (t : Fin cfg0.N) : (dat V c).after 4 t = axB (sAt V c t.val t.isLt).1 (iblk V c 1 t) := by dsimp only [dat]
theorem after0_5 (c : Dev nD) (t : Fin cfg0.N) : (dat V c).after 5 t = ayB (sAt V c t.val t.isLt).2 := by dsimp only [dat]
theorem after0_6 (c : Dev nD) (t : Fin cfg0.N) : (dat V c).after 6 t = sxB (sAt V c t.val t.isLt).1 (iblk V c 1 t) := by dsimp only [dat]
theorem after0_7 (c : Dev nD) (t : Fin cfg0.N) : (dat V c).after 7 t = syB (sAt V c t.val t.isLt).2 := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4000000 in
/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat V c).owesAt () t.succ = (dat V c).owesAt () t.castSucc from rfl]
  rw [show (dat V c).Φ t.succ = PhiS V c (t.val + 1) t.isLt from rfl, PhiS_succ]
  have hN : t.val < 6 := lt_of_lt_of_eq t.isLt (show cfg0.N = 6 from N_0)
  rw [show (dat V c).leavesExact 0 t = owns (c : Thread nD τ) (ms0_0 t) fullShare ((dat V c).after 0 t) from by
    unfold Dat.leavesExact; rw [liveAt0_0 t], after0_0]
  rw [show (dat V c).leavesExact 1 t = owns (c : Thread nD τ) (ms0_1 t) fullShare ((dat V c).after 1 t) from by
    unfold Dat.leavesExact; rw [liveAt0_1 t], after0_1]
  rw [show (dat V c).leavesExact 2 t = owns (c : Thread nD τ) (ms0_2 t) fullShare ((dat V c).after 2 t) from by
    unfold Dat.leavesExact; rw [liveAt0_2 t], after0_2]
  rw [show (dat V c).leavesExact 3 t = owns (c : Thread nD τ) (ms0_3 t) fullShare ((dat V c).after 3 t) from by
    unfold Dat.leavesExact; rw [liveAt0_3 t], after0_3]
  by_cases hz : t.val = 0
  · have h0 : t.val % 6 = 0 := by omega
    have h1 : ¬ t.val % 6 = 5 := by omega
    rw [PhiS_castSucc V c t, PhiS_zero V c _ _ hz, PhiA0_eq, sAt_zero V c t hz]
    have hc0 := (hcond0_0 t).mpr h0
    have hc1 : ¬ cond0_1 (grid0.coords t) := fun h => h1 ((hcond0_1 t).mp h)
    rw [Dat.leavesExact_idle (dat V c) 4 t (idleAt0_4_A t hc0 hc1) (noFlush0_4_A t hc0 hc1)]
    rw [Dat.leavesExact_idle (dat V c) 5 t (idleAt0_5_A t hc0 hc1) (noFlush0_5_A t hc0 hc1)]
    rw [Dat.leavesExact_idle (dat V c) 6 t (idleAt0_6_A t hc0 hc1) (noFlush0_6_A t hc0 hc1)]
    rw [Dat.leavesExact_idle (dat V c) 7 t (idleAt0_7_A t hc0 hc1) (noFlush0_7_A t hc0 hc1)]
    dsimp only
    iintro ⟨⟨⟨⟨%es0, HS0⟩, ⟨%es1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body c (grid0.coords t) _ _ _ _ _ _ _ _ _ _ _ _ _ _ _ _ _ _ _ _ (iblk V c 0 t) (iblk V c 1 t) (iblk V c 2 t) _ _ _ _ _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [H6]; · iexact H6
    isplitl [H7]; · iexact H7
    isplitl [HS0]; · iexact HS0
    isplitl [HS1]; · iexact HS1
    simp only [if_pos hc0, if_neg hc1]
    iintro ⟨H0, H1, H2, H3, H4, H5, H6, H7, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iexists _; iexact H7
  · have h0 : ¬ t.val % 6 = 0 := by omega
    by_cases h1 : t.val % 6 = 5
    · skip
      rw [PhiS_castSucc V c t, PhiS_pos V c _ _ hz, sAt_pos V c t hz]
      have hc0 : ¬ cond0_0 (grid0.coords t) := fun h => h0 ((hcond0_0 t).mp h)
      have hc1 : cond0_1 (grid0.coords t) := (hcond0_1 t).mpr h1
      rw [show (dat V c).leavesExact 4 t = owns (c : Thread nD τ) (ms0_4 t) fullShare ((dat V c).after 4 t) from by
        unfold Dat.leavesExact; rw [liveAt0_4_C t hc0 hc1], after0_4, sAt_pos V c t hz]
      rw [show (dat V c).leavesExact 5 t = owns (c : Thread nD τ) (ms0_5 t) fullShare ((dat V c).after 5 t) from by
        unfold Dat.leavesExact; rw [liveAt0_5_C t hc0 hc1], after0_5, sAt_pos V c t hz]
      rw [show (dat V c).leavesExact 6 t = owns (c : Thread nD τ) (ms0_6 t) fullShare ((dat V c).after 6 t) from by
        unfold Dat.leavesExact; rw [liveAt0_6_C t hc0 hc1], after0_6, sAt_pos V c t hz]
      rw [show (dat V c).leavesExact 7 t = owns (c : Thread nD τ) (ms0_7 t) fullShare ((dat V c).after 7 t) from by
        unfold Dat.leavesExact; rw [liveAt0_7_C t hc0 hc1], after0_7, sAt_pos V c t hz]
      dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body c (grid0.coords t) _ _ _ _ _ _ _ _ _ _ _ _ _ _ _ _ _ _ _ _ (iblk V c 0 t) (iblk V c 1 t) (iblk V c 2 t) _ _ _ _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [H6]; · iexact H6
      isplitl [H7]; · iexact H7
      isplitl [HS0]; · iexact HS0
      isplitl [HS1]; · iexact HS1
      simp only [if_neg hc0, if_pos hc1]
      iintro ⟨H0, H1, H2, H3, H4, H5, H6, H7, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · skip
      rw [PhiS_castSucc V c t, PhiS_pos V c _ _ hz, sAt_pos V c t hz]
      have hc0 : ¬ cond0_0 (grid0.coords t) := fun h => h0 ((hcond0_0 t).mp h)
      have hc1 : ¬ cond0_1 (grid0.coords t) := fun h => h1 ((hcond0_1 t).mp h)
      rw [Dat.leavesExact_idle (dat V c) 4 t (idleAt0_4_B t hc0 hc1) (noFlush0_4_B t hc0 hc1)]
      rw [Dat.leavesExact_idle (dat V c) 5 t (idleAt0_5_B t hc0 hc1) (noFlush0_5_B t hc0 hc1)]
      rw [Dat.leavesExact_idle (dat V c) 6 t (idleAt0_6_B t hc0 hc1) (noFlush0_6_B t hc0 hc1)]
      rw [Dat.leavesExact_idle (dat V c) 7 t (idleAt0_7_B t hc0 hc1) (noFlush0_7_B t hc0 hc1)]
      dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body c (grid0.coords t) _ _ _ _ _ _ _ _ _ _ _ _ _ _ _ _ _ _ _ _ (iblk V c 0 t) (iblk V c 1 t) (iblk V c 2 t) _ _ _ _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [H6]; · iexact H6
      isplitl [H7]; · iexact H7
      isplitl [HS0]; · iexact HS0
      isplitl [HS1]; · iexact HS1
      simp only [if_neg hc0, if_neg hc1]
      iintro ⟨H0, H1, H2, H3, H4, H5, H6, H7, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      iexists _; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the launch hands the region (`ΦA`) is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dat V c).Φ (Fin.last cfg0.N) ⊢ Pipeline.ΦA spec0 c :=
  Phi_out V c _ (by rw [Fin.val_last]; have : cfg0.N = 6 := N_0; omega)

end Cert.WholeIdeal.R0

end
-- ==== Proof.DgradRuns.lean ====
/-
  What the module on the running of the input gradient call starts from: the blocks its windows stage, read off the arrays
  as the call finds them (`V`, whatever they hold), when the conditions on the grid point hold, and the buffers
  it is handed.
-/
module

public import proofs.«01_k».proof.Proof.Gen.WholeIdeal.Launch
public import proofs.«01_k».proof.Proof.Gen.WholeIdeal.Skeleton
public import proofs.«01_k».proof.Proof.Gen.WholeIdeal.Loops
public import proofs.«01_k».proof.Proof.Gen.WholeIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.WholeIdeal.R1

open Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 6 = 0 :=
  (fun t => by
    have ht : t.val < 6 := Nat.lt_of_lt_of_eq t.isLt N_1
    have e0 : (grid1.coords t 0).val = t.val / 1 % 6 := Pipeline.Grid.coords_val t 0 (by decide) rfl
    simp only [cond1_0, e0]
    word_cmp
   : ∀ t : Fin grid1.N, cond1_0 (grid1.coords t) ↔ t.val % 6 = 0)

/-- The condition of the body's `scf.if` 1 (`k1_h2`), from the grid coordinates (the skeleton's scalar
    chain substituted). -/
abbrev cond1_1 (i : grid1.Coords) : Prop := k1_cond2 i = 1#1
/-- It holds at the last point only — by arithmetic of the point. -/
theorem hcond1_1 : ∀ t : Fin cfg1.N, cond1_1 (grid1.coords t) ↔ t.val % 6 = 5 :=
  (fun t => by
    have ht : t.val < 6 := Nat.lt_of_lt_of_eq t.isLt N_1
    have e0 : (grid1.coords t 0).val = t.val / 1 % 6 := Pipeline.Grid.coords_val t 0 (by decide) rfl
    simp only [cond1_1, k1_cond2, e0]
    word_cmp
   : ∀ t : Fin grid1.N, cond1_1 (grid1.coords t) ↔ t.val % 6 = 5)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an input). -/
theorem liveAt1_6 : ∀ t : Fin cfg1.N, cfg1.idle 6 (grid1.coords t) = false := fun _ => rfl
/-- Window 7 is never idle (an input). -/
theorem liveAt1_7 : ∀ t : Fin cfg1.N, cfg1.idle 7 (grid1.coords t) = false := fun _ => rfl
/-- Window 8 is never idle (an input). -/
theorem liveAt1_8 : ∀ t : Fin cfg1.N, cfg1.idle 8 (grid1.coords t) = false := fun _ => rfl
/-- Window 9 is never idle (an output stored at every point, under no condition). -/
theorem liveAt1_9 : ∀ t : Fin cfg1.N, cfg1.idle 9 (grid1.coords t) = false := fun _ => rfl
/-- Window 11 is never idle (an output stored at every point, under no condition). -/
theorem liveAt1_11 : ∀ t : Fin cfg1.N, cfg1.idle 11 (grid1.coords t) = false := fun _ => rfl
/-- Window 12 is never idle (an output stored at every point, under no condition). -/
theorem liveAt1_12 : ∀ t : Fin cfg1.N, cfg1.idle 12 (grid1.coords t) = false := fun _ => rfl
/-- At the points of case A the printed configuration (`Cfg.idle`) calls output 10 idle: the case stores nothing into it. -/
theorem idleAt1_10_A : ∀ t : Fin cfg1.N, cond1_0 (grid1.coords t) → ¬cond1_1 (grid1.coords t) → cfg1.idle 10 (grid1.coords t) = true := by decide +kernel
/-- At the points of case A the pipeline does not write output 10's block back. -/
theorem noFlush1_10_A : ∀ t : Fin cfg1.N, cond1_0 (grid1.coords t) → ¬cond1_1 (grid1.coords t) → (cfg1.win 10).flush t = false := by decide +kernel
/-- At the points of case B the printed configuration (`Cfg.idle`) calls output 10 idle: the case stores nothing into it. -/
theorem idleAt1_10_B : ∀ t : Fin cfg1.N, ¬cond1_0 (grid1.coords t) → ¬cond1_1 (grid1.coords t) → cfg1.idle 10 (grid1.coords t) = true := by decide +kernel
/-- At the points of case B the pipeline does not write output 10's block back. -/
theorem noFlush1_10_B : ∀ t : Fin cfg1.N, ¬cond1_0 (grid1.coords t) → ¬cond1_1 (grid1.coords t) → (cfg1.win 10).flush t = false := by decide +kernel
/-- At the points of case C the printed configuration (`Cfg.idle`) calls output 10 live: the case stores into it. -/
theorem liveAt1_10_C : ∀ t : Fin cfg1.N, ¬cond1_0 (grid1.coords t) → cond1_1 (grid1.coords t) → cfg1.idle 10 (grid1.coords t) = false := by decide +kernel

/-! ## The kernel body on any staging memrefs: a subtype the run finds -/

abbrev VO1_9 : View sig .tc .vmem S256x7168 .bf16 := (Memref.whole cc1_stg9_0 : Memref sig .tc .vmem S256x7168 .bf16).view
abbrev VO1_10 : View sig .tc .vmem S1x7168 .f32 := (Memref.whole cc1_stg10_0 : Memref sig .tc .vmem S1x7168 .f32).view
abbrev VO1_11 : View sig .tc .vmem S256x7168 .fp8e4m3 := (Memref.whole cc1_stg11_0 : Memref sig .tc .vmem S256x7168 .fp8e4m3).view
abbrev VO1_12 : View sig .tc .vmem S256x2304 .fp8e5m2 := (Memref.whole cc1_stg12_0 : Memref sig .tc .vmem S256x2304 .fp8e5m2).view
/-- Each window's current staging memref at point `t`, spelled as the pipeline passes it (`bodyAt1`), and its wholeness. -/
abbrev ms1_0 (t : Fin cfg1.N) : Memref sig .tc .smem S1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .smem S1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .smem S1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .smem S1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x7168 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x7168 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x2304 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S7168x2304 .fp8e4m3 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S256x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S256x7168 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x7168 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S256x7168 .fp8e4m3 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S256x2304 .fp8e5m2 := win1_12.stage (cfg1.slots t 12)
abbrev hs1_12 (t : Fin cfg1.N) : (ms1_12 t).IsWhole := hstage1_12 ((cfg1.slots t 12).cast nbuf1_12)
/-- The scratch operands: whole scoped buffers of the kernel's own, passed beside the windows. -/
abbrev scM1_0 : Memref sig .tc .vmem S256x7168 .f32 := Memref.whole cc1_scratch0
abbrev scM1_1 : Memref sig .tc .vmem S8x7168 .f32 := Memref.whole cc1_scratch1
/-- The scratch `arg15` the kernel carries between points, as a view: what it holds is stated through it. -/
abbrev VS1_1 : View sig .tc .vmem S8x7168 .f32 := scM1_1.view

/-- What the call never looks at: every other scoped buffer, and the generator's register. -/
def restG (c : Dev nD) : sProp 𝕄 :=
  iprop(Pipeline.scopedRestBut (Ix := Unit) (Name := ℕ) (U := UR sig nD τ) (Lvl := ℕ) (Val := Elt F) spec1 c [cc1_scratch0, cc1_scratch1] ∗ (∃ r, prngReg c r))

/-- What the call is handed between points: its two scratch buffers at some contents, and the rest. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d)) ∗ restG c) := by
  unfold Pipeline.ΦA restG
  rw [Pipeline.scopedRest_split_of_list spec1 c [cc1_scratch0, cc1_scratch1] (by decide) (by decide)]
  simp only [scM1_0, scM1_1, owns_whole]
  exact equiv_iff.mp ⟨Idealize.SL.BI.sep_assoc, Idealize.SL.BI.sep_assoc'⟩

end Cert.WholeIdeal.R1

end
-- ==== Proof.DgradTrip.lean ====
/-
  What one grid point of the idealized input gradient call leaves in its buffers: the two loops over the fourteen
  column tiles, as functions of the blocks read.
-/
module

public import proofs.«01_k».proof.Proof.DgradRuns
public import Idealize.ShloMosaic.Lib.Pipeline.Value
public import Idealize.ShloMosaic.Lib.VecWindow
public import Idealize.ShloMosaic.Lib.Pipeline.ValueKit
public import Idealize.ShloMosaic.Lib.Pointwise

@[expose] public section

set_option maxRecDepth 16384

noncomputable section

namespace Cert.WholeIdeal.R1

open Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Column tiles -/

/-- The matrix whose column tiles of width 512 are `W`. -/
def tiled {R n : ℕ} {e : EltTy} (hn : n = 14) (W : Fin n → (⟨2, ![R, 512]⟩ : Shape).Idx → Elt F e) :
    (⟨2, ![R, 7168]⟩ : Shape).Idx → Elt F e := fun i =>
  W ⟨(i 1 : ℕ) / 512, by have h : (i 1 : ℕ) < 7168 := (i 1).isLt; omega⟩
    (ix2 (i 0) ⟨(i 1 : ℕ) % 512, Nat.mod_lt _ (by decide)⟩)

/-- Tiles stored one after the other: after `k` of them the first `512 * k` columns are the tiles', the rest as found. -/
theorem read_tiles {R n : ℕ} {e : EltTy} {κ : Kind} {sp : Space} (hn : n = 14) (v : View sig κ sp ⟨2, ![R, 7168]⟩ e)
    (G : v.ty.Contents (Elt F)) (off : Fin n → Fin 2 → ℕ) (hoff : ∀ k, off k = ![0, 512 * k.val])
    (inb : ∀ k (a : Fin 2), off k a + (![R, 512] : Fin 2 → ℕ) a ≤ (⟨2, ![R, 7168]⟩ : Shape).size a)
    (W : Fin n → (⟨2, ![R, 512]⟩ : Shape).Idx → Elt F e) (P : ℕ → List (View.Piece (Elt F) ⟨2, ![R, 7168]⟩ e)) (h0 : P 0 = [])
    (hs : ∀ k : Fin n, (∀ i, 512 * k.val ≤ (i 1 : ℕ) → v.read (Elt F) (v.writes (Elt F) G (P k.val)) i = v.read (Elt F) G i) →
      P (k.val + 1) = (⟨Rect.unit (s := ⟨2, ![R, 7168]⟩) (off k) ![R, 512] (inb k), W k⟩ : View.Piece (Elt F) ⟨2, ![R, 7168]⟩ e) :: P k.val) :
    ∀ k ≤ n, ∀ i, v.read (Elt F) (v.writes (Elt F) G (P k)) i
      = if (i 1 : ℕ) < 512 * k then tiled hn W i else v.read (Elt F) G i := by
  intro k
  induction k with
  | zero => intro _ i; rw [h0, if_neg (by omega)]; rfl
  | succ k ih =>
    intro hk i
    have hk' : k < n := hk
    have ih := ih (le_of_lt hk')
    have e := hs ⟨k, hk'⟩ (fun i hi => by rw [ih i, if_neg (by simp only at hi; omega)])
    simp only at e
    rw [e]
    have hi0 : (i 0 : ℕ) < R := (i 0).isLt
    by_cases hlt : (i 1 : ℕ) < 512 * k
    · rw [View.read_writes_cons_unit_of_not_mem v G (inb ⟨k, hk'⟩) _ _ i (hoff _) 1 (Or.inl (by show (i 1 : ℕ) < 512 * k; exact hlt)),
        ih i, if_pos hlt, if_pos (by omega)]
    · by_cases hlt2 : (i 1 : ℕ) < 512 * (k + 1)
      · rw [if_pos hlt2]
        have hd : (i 1 : ℕ) / 512 = k := by omega
        rw [View.read_writes_cons_unit_of_mem v G (inb ⟨k, hk'⟩) _ _ i
          (ix2 (i 0) ⟨(i 1 : ℕ) % 512, Nat.mod_lt _ (by decide)⟩) (hoff _) (fun a => by
            match a with
            | ⟨0, _⟩ => show (i 0 : ℕ) = 0 + (i 0 : ℕ); omega
            | ⟨1, _⟩ => show (i 1 : ℕ) = 512 * k + (i 1 : ℕ) % 512; omega)]
        unfold tiled
        exact congrFun (congrArg W (Fin.ext hd.symm)) _
      · rw [View.read_writes_cons_unit_of_not_mem v G (inb ⟨k, hk'⟩) _ _ i (hoff _) 1
          (Or.inr (by show 512 * k + 512 ≤ (i 1 : ℕ); omega)), ih i, if_neg hlt, if_neg hlt2]

/-- All the tiles stored: the whole matrix. -/
theorem read_tiles_all {R n : ℕ} {e : EltTy} {κ : Kind} {sp : Space} (hn : n = 14) (v : View sig κ sp ⟨2, ![R, 7168]⟩ e)
    (G : v.ty.Contents (Elt F)) (off : Fin n → Fin 2 → ℕ) (hoff : ∀ k, off k = ![0, 512 * k.val])
    (inb : ∀ k (a : Fin 2), off k a + (![R, 512] : Fin 2 → ℕ) a ≤ (⟨2, ![R, 7168]⟩ : Shape).size a)
    (W : Fin n → (⟨2, ![R, 512]⟩ : Shape).Idx → Elt F e) (P : ℕ → List (View.Piece (Elt F) ⟨2, ![R, 7168]⟩ e)) (h0 : P 0 = [])
    (hs : ∀ k : Fin n, (∀ i, 512 * k.val ≤ (i 1 : ℕ) → v.read (Elt F) (v.writes (Elt F) G (P k.val)) i = v.read (Elt F) G i) →
      P (k.val + 1) = (⟨Rect.unit (s := ⟨2, ![R, 7168]⟩) (off k) ![R, 512] (inb k), W k⟩ : View.Piece (Elt F) ⟨2, ![R, 7168]⟩ e) :: P k.val) :
    v.read (Elt F) (v.writes (Elt F) G (P n)) = tiled hn W := by
  funext i
  rw [read_tiles hn v G off hoff inb W P h0 hs n le_rfl i, if_pos]
  have h : (i 1 : ℕ) < 7168 := (i 1).isLt
  omega

theorem trips1 : k1_t1_loop.trips = 14 := by decide +kernel
theorem trips2 : k1_t2_loop.trips = 14 := by decide +kernel

/-! ## What a point computes, from its blocks -/

/-- The number in a one-element buffer. -/
def scal (x : Vec F S1 .f32) : Elt F .f32 := View.ld x (Rect.unit (s := S1) ![0] S1.size inb_S1_S1_0) (Shape.Idx.first (numel1_S1.symm ▸ Nat.one_pos))

/-- The step of the input's codes, and the codes of the output gradient. -/
def vDown (a : Elt F .f32) : FVec F S1x1 .f32 := k1_pay15 (k1_pay11 a) (k1_pay12 a) (k1_pay13 a) (k1_pay14 a)
def dyB (a : Elt F .f32) (dy : Vec F S256x2304 .bf16) : Vec F S256x2304 .fp8e5m2 :=
  k1_pay23 (k1_pay16 a) (k1_pay19 (k1_pay16 a) k1_pay17 k1_pay18) (k1_pay20 (k1_pay16 a) k1_pay17 k1_pay18) (k1_pay21 (k1_pay16 a) k1_pay17 k1_pay18) dy

/-- The tiles a trip loads. -/
def wT (w : Vec F S7168x2304 .fp8e4m3) (k : Fin k1_t1_loop.trips) : Vec F S512x2304 .fp8e4m3 :=
  View.ld w (Rect.unit (s := S7168x2304) (k1_off1 k) S512x2304.size (k1_off1_inb k))
def xT (x : Vec F S256x7168 .bf16) (k : Fin k1_t1_loop.trips) : Vec F S256x512 .bf16 :=
  View.ld x (Rect.unit (s := S256x7168) (k1_off2 k) S256x512.size (k1_off2_inb k))
def gT (g : Vec F S1x7168 .f32) (k : Fin k1_t1_loop.trips) : Vec F S1x512 .f32 :=
  View.ld g (Rect.unit (s := S1x7168) (k1_off3 k) S1x512.size (k1_off3_inb k))
def sT (s : Vec F S8x7168 .f32) (k : Fin k1_t1_loop.trips) : Vec F S8x512 .f32 :=
  View.ld s (Rect.unit (s := S8x7168) (k1_off4 k) S8x512.size (k1_off4_inb k))
def xT2 (x : Vec F S256x7168 .bf16) (k : Fin k1_t2_loop.trips) : Vec F S256x512 .bf16 :=
  View.ld x (Rect.unit (s := S256x7168) (k1_off5 k) S256x512.size (k1_off5_inb k))
def rT2 (x : Vec F S256x7168 .f32) (k : Fin k1_t2_loop.trips) : Vec F S256x512 .f32 :=
  View.ld x (Rect.unit (s := S256x7168) (k1_off5 k) S256x512.size (k1_off5_inb k))

section
variable (x0 x1 x2 x3 : Vec F S1 .f32) (x4 : Vec F S256x7168 .bf16) (x5 : Vec F S1x7168 .f32) (x6 : Vec F S256x2304 .bf16) (x7 : Vec F S7168x2304 .fp8e4m3) (x8 : Vec F S256x128 .f32)

/-- The input's codes, the weighted gradient kept for the second loop, and the partial sums of gamma's gradient. -/
def xcB : Vec F S256x7168 .fp8e4m3 := tiled trips1 fun k => k1_pay6 (vDown (scal x0)) (k1_pay24 x8) (xT x4 k) (gT x5 k)
def rawB : Vec F S256x7168 .f32 := tiled trips1 fun k => k1_pay9 (k1_pay22 (scal x2) (scal x3)) (dyB (scal x1) x6) (wT x7 k) (gT x5 k)
def sumB (s : Vec F S8x7168 .f32) : Vec F S8x7168 .f32 := tiled trips1 fun k =>
  k1_pay7 (k1_pay22 (scal x2) (scal x3)) (k1_pay24 x8) (dyB (scal x1) x6) (wT x7 k) (xT x4 k) (sT s k)

/-- The row sums after `n` tiles, lane by lane. -/
def laneB : ℕ → FVec F S256x128 .f32
  | 0 => k1_pay25
  | n + 1 => if h : n < k1_t1_loop.trips then
      k1_pay1 (laneB n) (k1_pay5 (k1_pay24 x8) (xT x4 ⟨n, h⟩)) (k1_pay8 (k1_pay22 (scal x2) (scal x3)) (dyB (scal x1) x6) (wT x7 ⟨n, h⟩) (gT x5 ⟨n, h⟩))
    else laneB n

/-- The input gradient. -/
def dxB : Vec F S256x7168 .bf16 := tiled trips2 fun k =>
  k1_pay2 (k1_pay24 x8) (laneB x1 x2 x3 x4 x5 x6 x7 x8 k1_t1_loop.trips) (xT2 x4 k) (rT2 (rawB x1 x2 x3 x5 x6 x7) k)
end

/-! ## The loops leave these -/

section
variable (c : Dev nD) (i : grid1.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S256x7168 .bf16) (harg5 : arg5.IsWhole) (arg6 : Memref sig .tc .vmem S1x7168 .f32) (harg6 : arg6.IsWhole) (arg7 : Memref sig .tc .vmem S256x2304 .bf16) (harg7 : arg7.IsWhole) (arg8 : Memref sig .tc .vmem S7168x2304 .fp8e4m3) (harg8 : arg8.IsWhole) (arg9 : Memref sig .tc .vmem S256x128 .f32) (harg9 : arg9.IsWhole) (arg10 : Memref sig .tc .vmem S256x7168 .bf16) (harg10 : arg10.IsWhole) (arg11 : Memref sig .tc .vmem S1x7168 .f32) (harg11 : arg11.IsWhole) (arg12 : Memref sig .tc .vmem S256x7168 .fp8e4m3) (harg12 : arg12.IsWhole) (arg13 : Memref sig .tc .vmem S256x2304 .fp8e5m2) (harg13 : arg13.IsWhole) (arg14 : Memref sig .tc .vmem S256x7168 .f32) (harg14 : arg14.IsWhole) (arg15 : Memref sig .tc .vmem S8x7168 .f32) (harg15 : arg15.IsWhole)

theorem tripR_eq (v77 : FVec F S1x1 .f32) (v155 : F .f32) (v168 : FVec F S256x1 .f32) (ca cb : BitVec 32)
    (X5 : BufTy.Contents (Elt F) arg5.view.ty) (X6 : BufTy.Contents (Elt F) arg6.view.ty) (X8 : BufTy.Contents (Elt F) arg8.view.ty) (X13 : BufTy.Contents (Elt F) arg13.view.ty) (k : Fin k1_t1_loop.trips) (acc) (f12) (f14) (f15) :
    tripR_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v155 v168 ca cb X5 X6 X8 X13 k acc f12 f14 f15
      = k1_pay1 acc (k1_pay5 v168 (xT (arg5.view.read (Elt F) X5) k))
          (k1_pay8 v155 (View.ld (arg13.view.read (Elt F) X13) (Rect.unit (s := S256x2304) ![0, 0] S256x2304.size inb_S256x2304_S256x2304_0_0)) (wT (arg8.view.read (Elt F) X8) k) (gT (arg6.view.read (Elt F) X6) k)) := by
  unfold tripR_k1_t1 trip_k1_t1
  rfl

theorem tripL_eq (v77 : FVec F S1x1 .f32) (v155 : F .f32) (v168 : FVec F S256x1 .f32) (ca cb : BitVec 32)
    (X5 : BufTy.Contents (Elt F) arg5.view.ty) (X6 : BufTy.Contents (Elt F) arg6.view.ty) (X8 : BufTy.Contents (Elt F) arg8.view.ty) (X13 : BufTy.Contents (Elt F) arg13.view.ty) (k : Fin k1_t1_loop.trips) (acc) (f12) (f14) (f15) :
    tripL_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v155 v168 ca cb X5 X6 X8 X13 k acc f12 f14 f15
      = ([⟨Rect.unit (s := S256x7168) (k1_off2 k) ![256, 512] (k1_off2_inb k), k1_pay6 v77 v168 (xT (arg5.view.read (Elt F) X5) k) (gT (arg6.view.read (Elt F) X6) k)⟩],
         [⟨Rect.unit (s := S256x7168) (k1_off2 k) ![256, 512] (k1_off2_inb k), k1_pay9 v155 (View.ld (arg13.view.read (Elt F) X13) (Rect.unit (s := S256x2304) ![0, 0] S256x2304.size inb_S256x2304_S256x2304_0_0)) (wT (arg8.view.read (Elt F) X8) k) (gT (arg6.view.read (Elt F) X6) k)⟩],
         [⟨Rect.unit (s := S8x7168) (k1_off4 k) ![8, 512] (k1_off4_inb k), k1_pay7 v155 v168 (View.ld (arg13.view.read (Elt F) X13) (Rect.unit (s := S256x2304) ![0, 0] S256x2304.size inb_S256x2304_S256x2304_0_0)) (wT (arg8.view.read (Elt F) X8) k) (xT (arg5.view.read (Elt F) X5) k) (sT (arg15.view.read (Elt F) f15) k)⟩]) := by
  unfold tripL_k1_t1 trip_k1_t1
  rfl

theorem tripL2_eq (v167) (v170) (X5 : BufTy.Contents (Elt F) arg5.view.ty) (X14 : BufTy.Contents (Elt F) arg14.view.ty) (k : Fin k1_t2_loop.trips) :
    tripL_k1_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v167 v170 X5 X14 k
      = [⟨Rect.unit (s := S256x7168) (k1_off5 k) ![256, 512] (k1_off5_inb k), k1_pay2 v167 v170 (xT2 (arg5.view.read (Elt F) X5) k) (rT2 (arg14.view.read (Elt F) X14) k)⟩] := by
  unfold tripL_k1_t2 trip_k1_t2
  rfl

theorem hz2 : (![0, 0] : Fin 2 → Nat) = fun _ => 0 := funext fun a => by fin_cases a <;> rfl

theorem pb_dx (x4 : Vec F S256x7168 .bf16) (raw : Vec F S256x7168 .f32) (v167) (v170) (X5 : BufTy.Contents (Elt F) arg5.view.ty) (X14 : BufTy.Contents (Elt F) arg14.view.ty) (G10 : BufTy.Contents (Elt F) arg10.view.ty)
    (h5 : arg5.view.read (Elt F) X5 = x4) (h14 : arg14.view.read (Elt F) X14 = raw) :
    arg10.view.read (Elt F) (arg10.view.writes (Elt F) G10 (pb_k1_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v167 v170 X5 X14 k1_t2_loop.trips))
      = tiled trips2 fun k => k1_pay2 v167 v170 (xT2 x4 k) (rT2 raw k) := by
  refine read_tiles_all trips2 arg10.view G10 k1_off5 k1_off5_eq k1_off5_inb _ (fun k => pb_k1_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v167 v170 X5 X14 k) rfl fun k _ => ?_
  dsimp only
  rw [pb_k1_t2_succ, tripL2_eq, h5, h14]
  rfl
section
variable (x0 x1 x2 x3 : Vec F S1 .f32) (x4 : Vec F S256x7168 .bf16) (x5 : Vec F S1x7168 .f32) (x6 : Vec F S256x2304 .bf16) (x7 : Vec F S7168x2304 .fp8e4m3) (x8 : Vec F S256x128 .f32) (s : Vec F S8x7168 .f32)
  (v77 : FVec F S1x1 .f32) (v155 : F .f32) (v168 : FVec F S256x1 .f32) (ca cb : BitVec 32)
  (X5 : BufTy.Contents (Elt F) arg5.view.ty) (X6 : BufTy.Contents (Elt F) arg6.view.ty) (X8 : BufTy.Contents (Elt F) arg8.view.ty) (X13 : BufTy.Contents (Elt F) arg13.view.ty)
  (G12 : BufTy.Contents (Elt F) arg12.view.ty) (G14 : BufTy.Contents (Elt F) arg14.view.ty) (G15 : BufTy.Contents (Elt F) arg15.view.ty)
  (e77 : v77 = vDown (scal x0)) (e155 : v155 = k1_pay22 (scal x2) (scal x3)) (e168 : v168 = k1_pay24 x8)
  (h5 : arg5.view.read (Elt F) X5 = x4) (h6 : arg6.view.read (Elt F) X6 = x5) (h8 : arg8.view.read (Elt F) X8 = x7) (h13 : arg13.view.read (Elt F) X13 = dyB (scal x1) x6)

include e77 e155 e168 h5 h6 h8 h13

theorem st_lane : ∀ k ≤ k1_t1_loop.trips, (st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v155 v168 ca cb X5 X6 X8 X13 G12 G14 G15 k1_pay25 k).1 = laneB x1 x2 x3 x4 x5 x6 x7 x8 k := by
  intro k
  induction k with
  | zero => intro _; rfl
  | succ k ih =>
    intro hk
    have e := st_k1_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v155 v168 ca cb X5 X6 X8 X13 G12 G14 G15 k1_pay25 ⟨k, hk⟩
    simp only at e
    rw [e, tripR_eq]
    dsimp only
    rw [ih (Nat.le_of_succ_le hk), e155, e168, h5, h6, h8, h13, View.ld_unit_zero (S := S256x2304) hz2]
    conv_rhs => unfold laneB
    rw [dif_pos (Nat.lt_of_succ_le hk)]

theorem st_xc : arg12.view.read (Elt F) (arg12.view.writes (Elt F) G12 (st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v155 v168 ca cb X5 X6 X8 X13 G12 G14 G15 k1_pay25 k1_t1_loop.trips).2.1) = xcB x0 x4 x5 x8 := by
  refine read_tiles_all trips1 arg12.view G12 k1_off2 k1_off2_eq k1_off2_inb _ (fun k => (st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v155 v168 ca cb X5 X6 X8 X13 G12 G14 G15 k1_pay25 k).2.1) rfl fun k _ => ?_
  dsimp only
  rw [st_k1_t1_succ, tripL_eq, h5, h6]
  dsimp only [List.cons_append, List.nil_append]
  rw [e77, e168]

theorem st_raw : arg14.view.read (Elt F) (arg14.view.writes (Elt F) G14 (st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v155 v168 ca cb X5 X6 X8 X13 G12 G14 G15 k1_pay25 k1_t1_loop.trips).2.2.1) = rawB x1 x2 x3 x5 x6 x7 := by
  refine read_tiles_all trips1 arg14.view G14 k1_off2 k1_off2_eq k1_off2_inb _ (fun k => (st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v155 v168 ca cb X5 X6 X8 X13 G12 G14 G15 k1_pay25 k).2.2.1) rfl fun k _ => ?_
  dsimp only
  rw [st_k1_t1_succ, tripL_eq, h6, h8, h13, View.ld_unit_zero (S := S256x2304) hz2]
  dsimp only [List.cons_append, List.nil_append]
  rw [e155]

theorem st_sum (h15 : arg15.view.read (Elt F) G15 = s) : arg15.view.read (Elt F) (arg15.view.writes (Elt F) G15 (st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v155 v168 ca cb X5 X6 X8 X13 G12 G14 G15 k1_pay25 k1_t1_loop.trips).2.2.2) = sumB x1 x2 x3 x4 x6 x7 x8 s := by
  refine read_tiles_all trips1 arg15.view G15 k1_off4 k1_off4_eq k1_off4_inb _ (fun k => (st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v155 v168 ca cb X5 X6 X8 X13 G12 G14 G15 k1_pay25 k).2.2.2) rfl fun k hk => ?_
  dsimp only at hk ⊢
  rw [st_k1_t1_succ, tripL_eq, h5, h8, h13, View.ld_unit_zero (S := S256x2304) hz2]
  have e : sT (arg15.view.read (Elt F) (arg15.view.writes (Elt F) G15 (st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v155 v168 ca cb X5 X6 X8 X13 G12 G14 G15 k1_pay25 k.val).2.2.2)) k = sT s k := by
    funext j
    refine (hk _ ?_).trans (by rw [h15]; rfl)
    refine Nat.le_trans ?_ (Nat.le_of_eq (Rect.idx_unit_val (s := S8x7168) (k1_off4 k) S8x512.size (k1_off4_inb k) j 1).symm)
    exact Nat.le_trans (Nat.le_of_eq (congrFun (k1_off4_eq k) 1).symm) (Nat.le_add_right _ _)
  rw [e]
  dsimp only [List.cons_append, List.nil_append]
  rw [e155, e168]

theorem dx_all (G10 : BufTy.Contents (Elt F) arg10.view.ty) (v167) (v170) (e167 : v167 = v168)
    (e170 : v170 = (st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v155 v168 ca cb X5 X6 X8 X13 G12 G14 G15 k1_pay25 k1_t1_loop.trips).1) :
    arg10.view.read (Elt F) (arg10.view.writes (Elt F) G10 (pb_k1_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v167 v170 X5 (arg14.view.writes (Elt F) G14 (st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v155 v168 ca cb X5 X6 X8 X13 G12 G14 G15 k1_pay25 k1_t1_loop.trips).2.2.1) k1_t2_loop.trips))
      = dxB x1 x2 x3 x4 x5 x6 x7 x8 := by
  rw [e167, e170]
  rw [pb_dx c i arg1 harg1 arg2 harg2 arg3 harg3 arg4 harg4 arg5 harg5 arg6 harg6 arg7 harg7 arg8 harg8 arg9 harg9 arg10 harg10 arg11 harg11 arg12 harg12 arg13 harg13 arg14 harg14 arg15 harg15 x4 (rawB x1 x2 x3 x5 x6 x7) _ _ X5 _ G10 h5
    (st_raw c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 v77 v155 v168 ca cb X5 X6 X8 X13 G12 G14 G15 e77 e155 e168 h5 h6 h8 h13),
    st_lane c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 v77 v155 v168 ca cb X5 X6 X8 X13 G12 G14 G15 e77 e155 e168 h5 h6 h8 h13 _ le_rfl, e168]
  rfl
end

end

end Cert.WholeIdeal.R1

end
-- ==== Proof.DgradBody.lean ====
/-
  The body of the idealized input gradient call at any grid point and any floats: from what its buffers hold when it
  starts to what they hold when it ends, in the terms of the module on the loops.
-/
module

public import proofs.«01_k».proof.Proof.DgradTrip

@[expose] public section

set_option maxRecDepth 16384

noncomputable section

namespace Cert.WholeIdeal.R1

open Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Loads and stores of a whole buffer. -/
theorem whole9 {κ : Kind} {sp : Space} (v : View sig κ sp S256x128 .f32) (f : v.ty.Contents (Elt F)) :
    v.readAt (Elt F) (Rect.unit (s := S256x128) ![0, 0] S256x128.size inb_S256x128_S256x128_0_0).toLoadRect f = v.read (Elt F) f :=
  View.ld_unit_zero (S := S256x128) hz2 _ _

theorem whole13 {κ κ' : Kind} {sp sp' : Space} (v : View sig κ sp S256x2304 .fp8e5m2) (f : v.ty.Contents (Elt F)) (v' : View sig κ' sp' S256x2304 .bf16) (f' : v'.ty.Contents (Elt F)) (a : Elt F .f32) :
    v.read (Elt F) (v.writes (Elt F) f [⟨Rect.unit (s := S256x2304) ![0, 0] S256x2304.size inb_S256x2304_S256x2304_0_0,
      dyB a (v'.readAt (Elt F) (Rect.unit (s := S256x2304) ![0, 0] S256x2304.size inb_S256x2304_S256x2304_0_0).toLoadRect f')⟩]) = dyB a (v'.read (Elt F) f') :=
  (View.read_writes_full _ _ _ _ _).trans (congrArg (dyB a) (View.ld_unit_zero (S := S256x2304) hz2 _ _))

theorem whole15 {κ : Kind} {sp : Space} (v : View sig κ sp S8x7168 .f32) (f : v.ty.Contents (Elt F)) :
    v.read (Elt F) (v.writes (Elt F) f [⟨Rect.unit (s := S8x7168) ![0, 0] S8x7168.size inb_S8x7168_S8x7168_0_0, k1_pay10 (F := F)⟩]) = k1_pay10 :=
  View.read_writes_full _ _ _ _ _

set_option maxHeartbeats 4000000 in
theorem body (c : Dev nD) (i : grid1.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S256x7168 .bf16) (harg5 : arg5.IsWhole) (arg6 : Memref sig .tc .vmem S1x7168 .f32) (harg6 : arg6.IsWhole) (arg7 : Memref sig .tc .vmem S256x2304 .bf16) (harg7 : arg7.IsWhole) (arg8 : Memref sig .tc .vmem S7168x2304 .fp8e4m3) (harg8 : arg8.IsWhole) (arg9 : Memref sig .tc .vmem S256x128 .f32) (harg9 : arg9.IsWhole) (arg10 : Memref sig .tc .vmem S256x7168 .bf16) (harg10 : arg10.IsWhole) (arg11 : Memref sig .tc .vmem S1x7168 .f32) (harg11 : arg11.IsWhole) (arg12 : Memref sig .tc .vmem S256x7168 .fp8e4m3) (harg12 : arg12.IsWhole) (arg13 : Memref sig .tc .vmem S256x2304 .fp8e5m2) (harg13 : arg13.IsWhole) (arg14 : Memref sig .tc .vmem S256x7168 .f32) (harg14 : arg14.IsWhole) (arg15 : Memref sig .tc .vmem S8x7168 .f32) (harg15 : arg15.IsWhole)
    (x0 x1 x2 x3 : Vec F S1 .f32) (x4 : Vec F S256x7168 .bf16) (x5 : Vec F S1x7168 .f32) (x6 : Vec F S256x2304 .bf16) (x7 : Vec F S7168x2304 .fp8e4m3) (x8 : Vec F S256x128 .f32) (xi : Vec F S1x7168 .f32) (s : Vec F S8x7168 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi ∗ (∃ d, owns (c : Thread nD τ) arg12 fullShare d) ∗ (∃ d, owns (c : Thread nD τ) arg13 fullShare d) ∗ (∃ d, owns (c : Thread nD τ) arg14 fullShare d) ∗ owns (c : Thread nD τ) arg15 fullShare s ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (dxB x1 x2 x3 x4 x5 x6 x7 x8) ∗ owns (c : Thread nD τ) arg11 fullShare (if cond1_1 i then k1_pay3 (sumB x1 x2 x3 x4 x6 x7 x8 (if cond1_0 i then k1_pay10 else s)) else xi) ∗ owns (c : Thread nD τ) arg12 fullShare (xcB x0 x4 x5 x8) ∗ owns (c : Thread nD τ) arg13 fullShare (dyB (scal x1) x6) ∗ (∃ d, owns (c : Thread nD τ) arg14 fullShare d) ∗ owns (c : Thread nD τ) arg15 fullShare (sumB x1 x2 x3 x4 x6 x7 x8 (if cond1_0 i then k1_pay10 else s))) -∗ K ⟨⟩))
      ⊢ wp frame (wpE (defs₀ (F := F)) Variants.none c none) E (cc1_dgrad i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  by_cases hc0 : cond1_0 i <;> by_cases hc1 : cond1_1 i
  · simp only [if_pos hc0, if_pos hc1]
    simp only [cc1_dgrad_eq_skeleton]; unfold cc1_dgrad_skel
    simp only [k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%ds0, %fs0, -, HS0⟩, ⟨%fs1, %hfs1, HS1⟩, Hk⟩
    subst hf0 hf1 hf2 hf3 hf4 hf5 hf6 hf7 hf8 hf10 hfs1
    sl_exec (disch := first | sl_exact hc0 | sl_exact hc1)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact dx_all c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ rfl rfl (congrArg k1_pay24 (whole9 _ _)) rfl rfl rfl (whole13 _ _ _ _ _) _ _ _ rfl rfl
    isplitl [H10]
    · iexists _; isplitr; swap; · iexact H10
      ipureintro; exact (View.read_writes_full _ _ _ _ _).trans (congrArg k1_pay3 ((View.ld_unit_zero (S := S8x7168) hz2 _ _).trans (by rw [View.writes_append]; exact st_sum c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) k1_pay10 _ _ _ _ _ _ _ _ _ _ _ _ rfl rfl (congrArg k1_pay24 (whole9 _ _)) rfl rfl rfl (whole13 _ _ _ _ _) (whole15 _ _))))
    isplitl [H11]
    · iexists _; isplitr; swap; · iexact H11
      ipureintro; exact st_xc c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ rfl rfl (congrArg k1_pay24 (whole9 _ _)) rfl rfl rfl (whole13 _ _ _ _ _)
    isplitl [H12]
    · iexists _; isplitr; swap; · iexact H12
      ipureintro; exact whole13 _ _ _ _ _
    isplitl [HS0]
    · iexists _, _; isplitr; swap; · iexact HS0
      ipureintro; rfl
    iexists _; isplitr; swap; · iexact HS1
    ipureintro; exact by rw [View.writes_append]; exact st_sum c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) k1_pay10 _ _ _ _ _ _ _ _ _ _ _ _ rfl rfl (congrArg k1_pay24 (whole9 _ _)) rfl rfl rfl (whole13 _ _ _ _ _) (whole15 _ _)
  · simp only [if_pos hc0, if_neg hc1]
    simp only [cc1_dgrad_eq_skeleton]; unfold cc1_dgrad_skel
    simp only [k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%ds0, %fs0, -, HS0⟩, ⟨%fs1, %hfs1, HS1⟩, Hk⟩
    subst hf0 hf1 hf2 hf3 hf4 hf5 hf6 hf7 hf8 hf10 hfs1
    sl_exec (disch := first | sl_exact hc0 | sl_exact hc1)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact dx_all c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ rfl rfl (congrArg k1_pay24 (whole9 _ _)) rfl rfl rfl (whole13 _ _ _ _ _) _ _ _ rfl rfl
    isplitl [H10]
    · iexists _; isplitr; swap; · iexact H10
      ipureintro; rfl
    isplitl [H11]
    · iexists _; isplitr; swap; · iexact H11
      ipureintro; exact st_xc c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ rfl rfl (congrArg k1_pay24 (whole9 _ _)) rfl rfl rfl (whole13 _ _ _ _ _)
    isplitl [H12]
    · iexists _; isplitr; swap; · iexact H12
      ipureintro; exact whole13 _ _ _ _ _
    isplitl [HS0]
    · iexists _, _; isplitr; swap; · iexact HS0
      ipureintro; rfl
    iexists _; isplitr; swap; · iexact HS1
    ipureintro; exact by rw [View.writes_append]; exact st_sum c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) k1_pay10 _ _ _ _ _ _ _ _ _ _ _ _ rfl rfl (congrArg k1_pay24 (whole9 _ _)) rfl rfl rfl (whole13 _ _ _ _ _) (whole15 _ _)
  · simp only [if_neg hc0, if_pos hc1]
    simp only [cc1_dgrad_eq_skeleton]; unfold cc1_dgrad_skel
    simp only [k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%ds0, %fs0, -, HS0⟩, ⟨%fs1, %hfs1, HS1⟩, Hk⟩
    subst hf0 hf1 hf2 hf3 hf4 hf5 hf6 hf7 hf8 hf10 hfs1
    sl_exec (disch := first | sl_exact hc0 | sl_exact hc1)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact dx_all c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ rfl rfl (congrArg k1_pay24 (whole9 _ _)) rfl rfl rfl (whole13 _ _ _ _ _) _ _ _ rfl rfl
    isplitl [H10]
    · iexists _; isplitr; swap; · iexact H10
      ipureintro; exact (View.read_writes_full _ _ _ _ _).trans (congrArg k1_pay3 ((View.ld_unit_zero (S := S8x7168) hz2 _ _).trans (by exact st_sum c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) (arg15.view.read (Elt F) fs1) _ _ _ _ _ _ _ _ _ _ _ _ rfl rfl (congrArg k1_pay24 (whole9 _ _)) rfl rfl rfl (whole13 _ _ _ _ _) rfl)))
    isplitl [H11]
    · iexists _; isplitr; swap; · iexact H11
      ipureintro; exact st_xc c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ rfl rfl (congrArg k1_pay24 (whole9 _ _)) rfl rfl rfl (whole13 _ _ _ _ _)
    isplitl [H12]
    · iexists _; isplitr; swap; · iexact H12
      ipureintro; exact whole13 _ _ _ _ _
    isplitl [HS0]
    · iexists _, _; isplitr; swap; · iexact HS0
      ipureintro; rfl
    iexists _; isplitr; swap; · iexact HS1
    ipureintro; exact by exact st_sum c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) (arg15.view.read (Elt F) fs1) _ _ _ _ _ _ _ _ _ _ _ _ rfl rfl (congrArg k1_pay24 (whole9 _ _)) rfl rfl rfl (whole13 _ _ _ _ _) rfl
  · simp only [if_neg hc0, if_neg hc1]
    simp only [cc1_dgrad_eq_skeleton]; unfold cc1_dgrad_skel
    simp only [k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%ds0, %fs0, -, HS0⟩, ⟨%fs1, %hfs1, HS1⟩, Hk⟩
    subst hf0 hf1 hf2 hf3 hf4 hf5 hf6 hf7 hf8 hf10 hfs1
    sl_exec (disch := first | sl_exact hc0 | sl_exact hc1)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact dx_all c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ rfl rfl (congrArg k1_pay24 (whole9 _ _)) rfl rfl rfl (whole13 _ _ _ _ _) _ _ _ rfl rfl
    isplitl [H10]
    · iexists _; isplitr; swap; · iexact H10
      ipureintro; rfl
    isplitl [H11]
    · iexists _; isplitr; swap; · iexact H11
      ipureintro; exact st_xc c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ rfl rfl (congrArg k1_pay24 (whole9 _ _)) rfl rfl rfl (whole13 _ _ _ _ _)
    isplitl [H12]
    · iexists _; isplitr; swap; · iexact H12
      ipureintro; exact whole13 _ _ _ _ _
    isplitl [HS0]
    · iexists _, _; isplitr; swap; · iexact HS0
      ipureintro; rfl
    iexists _; isplitr; swap; · iexact HS1
    ipureintro; exact by exact st_sum c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) (arg15.view.read (Elt F) fs1) _ _ _ _ _ _ _ _ _ _ _ _ rfl rfl (congrArg k1_pay24 (whole9 _ _)) rfl rfl rfl (whole13 _ _ _ _ _) rfl

end Cert.WholeIdeal.R1

end
-- ==== Proof.DgradFrame.lean ====
/-
The running of the input gradient call point by point, at any floats: what every buffer holds after each of
the six grid points, that the call ends, that its argument arrays are left alone, and what its four result
arrays hold in the end.  The running sums for the gamma gradient are carried from one point to the next;
`sAt` names them.
-/
module

public import proofs.«01_k».proof.Proof.DgradBody
public import Idealize.ShloMosaic.Lib.Claim

@[expose] public section

set_option maxRecDepth 16384

noncomputable section

namespace Cert.WholeIdeal.R1

open Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The running sums after point `n`. -/
def sAt (c : Dev nD) : (n : ℕ) → n < cfg1.N → Vec F S8x7168 .f32
  | 0, hn => sumB (iblk V c 1 ⟨0, hn⟩) (iblk V c 2 ⟨0, hn⟩) (iblk V c 3 ⟨0, hn⟩) (iblk V c 4 ⟨0, hn⟩) (iblk V c 6 ⟨0, hn⟩) (iblk V c 7 ⟨0, hn⟩) (iblk V c 8 ⟨0, hn⟩) k1_pay10
  | n + 1, hn => sumB (iblk V c 1 ⟨n + 1, hn⟩) (iblk V c 2 ⟨n + 1, hn⟩) (iblk V c 3 ⟨n + 1, hn⟩) (iblk V c 4 ⟨n + 1, hn⟩) (iblk V c 6 ⟨n + 1, hn⟩) (iblk V c 7 ⟨n + 1, hn⟩) (iblk V c 8 ⟨n + 1, hn⟩) (sAt c n (Nat.lt_of_succ_lt hn))

theorem sAt_zero (c : Dev nD) (t : Fin cfg1.N) (hz : t.val = 0) :
    sAt V c t.val t.isLt = sumB (iblk V c 1 t) (iblk V c 2 t) (iblk V c 3 t) (iblk V c 4 t) (iblk V c 6 t) (iblk V c 7 t) (iblk V c 8 t) k1_pay10 := by
  obtain ⟨n, hn⟩ := t
  cases n with
  | zero => rfl
  | succ n => exact absurd hz (Nat.succ_ne_zero n)

theorem sAt_pos (c : Dev nD) (t : Fin cfg1.N) (hz : t.val ≠ 0) :
    sAt V c t.val t.isLt = sumB (iblk V c 1 t) (iblk V c 2 t) (iblk V c 3 t) (iblk V c 4 t) (iblk V c 6 t) (iblk V c 7 t) (iblk V c 8 t) (sAt V c (t.val - 1) (lt_of_le_of_lt (Nat.sub_le _ _) t.isLt)) := by
  obtain ⟨n, hn⟩ := t
  cases n with
  | zero => exact absurd rfl hz
  | succ n => rfl

/-- What is known between points: the carried sums after the first point, anything before it. -/
def PhiS (c : Dev nD) : (n : ℕ) → n ≤ cfg1.N → sProp 𝕄
  | 0, _ => Pipeline.ΦA spec1 c
  | n + 1, hn => iprop(iprop((∃ d, owns (c : Thread nD τ) scM1_0 fullShare d) ∗ owns (c : Thread nD τ) scM1_1 fullShare (sAt V c n hn)) ∗ restG c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ d, owns (c : Thread nD τ) scM1_0 fullShare d) ∗ owns (c : Thread nD τ) scM1_1 fullShare (sAt V c n hn)) ∗ restG c) := rfl

theorem PhiS_pos (c : Dev nD) (n : ℕ) (h : n ≤ cfg1.N) (hz : n ≠ 0) :
    PhiS V c n h = iprop(iprop((∃ d, owns (c : Thread nD τ) scM1_0 fullShare d) ∗ owns (c : Thread nD τ) scM1_1 fullShare (sAt V c (n - 1) (by omega))) ∗ restG c) := by
  cases n with
  | zero => exact absurd rfl hz
  | succ n => rfl

/-- What each buffer holds after the body at each point. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => dxB (iblk V c 1 t) (iblk V c 2 t) (iblk V c 3 t) (iblk V c 4 t) (iblk V c 5 t) (iblk V c 6 t) (iblk V c 7 t) (iblk V c 8 t)
    | ⟨10, _⟩ => k1_pay3 (sAt V c t.val t.isLt)
    | ⟨11, _⟩ => xcB (iblk V c 0 t) (iblk V c 4 t) (iblk V c 5 t) (iblk V c 8 t)
    | ⟨12, _⟩ => dyB (scal (iblk V c 1 t)) (iblk V c 6 t)
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; exact Pipeline.Dat.Φ_castSucc (PhiS V c) t

theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = iblk V c 4 t := by dsimp only [dat]
theorem after1_5 (c : Dev nD) (t : Fin cfg1.N) : (dat V c).after 5 t = iblk V c 5 t := by dsimp only [dat]
theorem after1_6 (c : Dev nD) (t : Fin cfg1.N) : (dat V c).after 6 t = iblk V c 6 t := by dsimp only [dat]
theorem after1_7 (c : Dev nD) (t : Fin cfg1.N) : (dat V c).after 7 t = iblk V c 7 t := by dsimp only [dat]
theorem after1_8 (c : Dev nD) (t : Fin cfg1.N) : (dat V c).after 8 t = iblk V c 8 t := by dsimp only [dat]
theorem after1_9 (c : Dev nD) (t : Fin cfg1.N) : (dat V c).after 9 t = dxB (iblk V c 1 t) (iblk V c 2 t) (iblk V c 3 t) (iblk V c 4 t) (iblk V c 5 t) (iblk V c 6 t) (iblk V c 7 t) (iblk V c 8 t) := by dsimp only [dat]
theorem after1_10 (c : Dev nD) (t : Fin cfg1.N) : (dat V c).after 10 t = k1_pay3 (sAt V c t.val t.isLt) := by dsimp only [dat]
theorem after1_11 (c : Dev nD) (t : Fin cfg1.N) : (dat V c).after 11 t = xcB (iblk V c 0 t) (iblk V c 4 t) (iblk V c 5 t) (iblk V c 8 t) := by dsimp only [dat]
theorem after1_12 (c : Dev nD) (t : Fin cfg1.N) : (dat V c).after 12 t = dyB (scal (iblk V c 1 t)) (iblk V c 6 t) := by dsimp only [dat]

/-- Each input's current staging buffer holds its block at every point, fetched there or not (`beforeK_W_of`). -/
theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d
theorem before1_4 (c : Dev nD) (t : Fin cfg1.N) (d) : (dat V c).before 4 t d = iblk V c 4 t :=
  before1_4_of V (dat V c) (A_eq V c 4) (after1_4 V c) t d
theorem before1_5 (c : Dev nD) (t : Fin cfg1.N) (d) : (dat V c).before 5 t d = iblk V c 5 t :=
  before1_5_of V (dat V c) (A_eq V c 5) (after1_5 V c) t d
theorem before1_6 (c : Dev nD) (t : Fin cfg1.N) (d) : (dat V c).before 6 t d = iblk V c 6 t :=
  before1_6_of V (dat V c) (A_eq V c 6) (after1_6 V c) t d
theorem before1_7 (c : Dev nD) (t : Fin cfg1.N) (d) : (dat V c).before 7 t d = iblk V c 7 t :=
  before1_7_of V (dat V c) (A_eq V c 7) (after1_7 V c) t d
theorem before1_8 (c : Dev nD) (t : Fin cfg1.N) (d) : (dat V c).before 8 t d = iblk V c 8 t :=
  before1_8_of V (dat V c) (A_eq V c 8) (after1_8 V c) t d

/-! ## The body obligation, at a generic point -/

/-- What the body is called with at point `t` (Lib/Pipeline.lean `BodyObligation`'s precondition, the windows one by one), -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d))
    ∗ (∃ d, owns (c : Thread nD τ) (ms1_7 t) fullShare ((dat V c).before 7 t d))
    ∗ (∃ d, owns (c : Thread nD τ) (ms1_8 t) fullShare ((dat V c).before 8 t d))
    ∗ (∃ d, owns (c : Thread nD τ) (ms1_9 t) fullShare ((dat V c).before 9 t d))
    ∗ (∃ d, owns (c : Thread nD τ) (ms1_10 t) fullShare ((dat V c).before 10 t d))
    ∗ (∃ d, owns (c : Thread nD τ) (ms1_11 t) fullShare ((dat V c).before 11 t d))
    ∗ (∃ d, owns (c : Thread nD τ) (ms1_12 t) fullShare ((dat V c).before 12 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t)

set_option maxHeartbeats 4000000 in
/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6, before1_7, before1_8]
  rw [show (dat V c).owesAt () t.succ = (dat V c).owesAt () t.castSucc from rfl]
  rw [show (dat V c).Φ t.succ = PhiS V c (t.val + 1) t.isLt from rfl, PhiS_succ]
  have hN : t.val < 6 := lt_of_lt_of_eq t.isLt (show cfg1.N = 6 from N_1)
  rw [show (dat V c).leavesExact 0 t = owns (c : Thread nD τ) (ms1_0 t) fullShare ((dat V c).after 0 t) from by
    unfold Dat.leavesExact; rw [liveAt1_0 t], after1_0]
  rw [show (dat V c).leavesExact 1 t = owns (c : Thread nD τ) (ms1_1 t) fullShare ((dat V c).after 1 t) from by
    unfold Dat.leavesExact; rw [liveAt1_1 t], after1_1]
  rw [show (dat V c).leavesExact 2 t = owns (c : Thread nD τ) (ms1_2 t) fullShare ((dat V c).after 2 t) from by
    unfold Dat.leavesExact; rw [liveAt1_2 t], after1_2]
  rw [show (dat V c).leavesExact 3 t = owns (c : Thread nD τ) (ms1_3 t) fullShare ((dat V c).after 3 t) from by
    unfold Dat.leavesExact; rw [liveAt1_3 t], after1_3]
  rw [show (dat V c).leavesExact 4 t = owns (c : Thread nD τ) (ms1_4 t) fullShare ((dat V c).after 4 t) from by
    unfold Dat.leavesExact; rw [liveAt1_4 t], after1_4]
  rw [show (dat V c).leavesExact 5 t = owns (c : Thread nD τ) (ms1_5 t) fullShare ((dat V c).after 5 t) from by
    unfold Dat.leavesExact; rw [liveAt1_5 t], after1_5]
  rw [show (dat V c).leavesExact 6 t = owns (c : Thread nD τ) (ms1_6 t) fullShare ((dat V c).after 6 t) from by
    unfold Dat.leavesExact; rw [liveAt1_6 t], after1_6]
  rw [show (dat V c).leavesExact 7 t = owns (c : Thread nD τ) (ms1_7 t) fullShare ((dat V c).after 7 t) from by
    unfold Dat.leavesExact; rw [liveAt1_7 t], after1_7]
  rw [show (dat V c).leavesExact 8 t = owns (c : Thread nD τ) (ms1_8 t) fullShare ((dat V c).after 8 t) from by
    unfold Dat.leavesExact; rw [liveAt1_8 t], after1_8]
  rw [show (dat V c).leavesExact 9 t = owns (c : Thread nD τ) (ms1_9 t) fullShare ((dat V c).after 9 t) from by
    unfold Dat.leavesExact; rw [liveAt1_9 t], after1_9]
  rw [show (dat V c).leavesExact 11 t = owns (c : Thread nD τ) (ms1_11 t) fullShare ((dat V c).after 11 t) from by
    unfold Dat.leavesExact; rw [liveAt1_11 t], after1_11]
  rw [show (dat V c).leavesExact 12 t = owns (c : Thread nD τ) (ms1_12 t) fullShare ((dat V c).after 12 t) from by
    unfold Dat.leavesExact; rw [liveAt1_12 t], after1_12]
  by_cases hz : t.val = 0
  · have h0 : t.val % 6 = 0 := by omega
    have h1 : ¬ t.val % 6 = 5 := by omega
    rw [PhiS_castSucc V c t, PhiS_zero V c _ _ hz, PhiA1_eq, sAt_zero V c t hz]
    have hc0 := (hcond1_0 t).mpr h0
    have hc1 : ¬ cond1_1 (grid1.coords t) := fun h => h1 ((hcond1_1 t).mp h)
    rw [Dat.leavesExact_idle (dat V c) 10 t (idleAt1_10_A t hc0 hc1) (noFlush1_10_A t hc0 hc1)]
    iintro ⟨⟨⟨HS0, ⟨%s, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (body c (grid1.coords t) _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexists _; iexact H11
    isplitl [H12]; · iexists _; iexact H12
    isplitl [HS0]; · iexact HS0
    isplitl [HS1]; · iexact HS1
    simp only [if_pos hc0, if_neg hc1]
    iintro ⟨H0, H1, H2, H3, H4, H5, H6, H7, H8, H9, H10, H11, H12, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    iexact H12
  · have h0 : ¬ t.val % 6 = 0 := by omega
    by_cases h1 : t.val % 6 = 5
    · skip
      rw [PhiS_castSucc V c t, PhiS_pos V c _ _ hz, sAt_pos V c t hz]
      have hc0 : ¬ cond1_0 (grid1.coords t) := fun h => h0 ((hcond1_0 t).mp h)
      have hc1 : cond1_1 (grid1.coords t) := (hcond1_1 t).mpr h1
      rw [show (dat V c).leavesExact 10 t = owns (c : Thread nD τ) (ms1_10 t) fullShare ((dat V c).after 10 t) from by
        unfold Dat.leavesExact; rw [liveAt1_10_C t hc0 hc1], after1_10, sAt_pos V c t hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body c (grid1.coords t) _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexists _; iexact H11
      isplitl [H12]; · iexists _; iexact H12
      isplitl [HS0]; · iexact HS0
      isplitl [HS1]; · iexact HS1
      simp only [if_neg hc0, if_pos hc1]
      iintro ⟨H0, H1, H2, H3, H4, H5, H6, H7, H8, H9, H10, H11, H12, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · skip
      rw [PhiS_castSucc V c t, PhiS_pos V c _ _ hz, sAt_pos V c t hz]
      have hc0 : ¬ cond1_0 (grid1.coords t) := fun h => h0 ((hcond1_0 t).mp h)
      have hc1 : ¬ cond1_1 (grid1.coords t) := fun h => h1 ((hcond1_1 t).mp h)
      rw [Dat.leavesExact_idle (dat V c) 10 t (idleAt1_10_B t hc0 hc1) (noFlush1_10_B t hc0 hc1)]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body c (grid1.coords t) _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexists _; iexact H11
      isplitl [H12]; · iexists _; iexact H12
      isplitl [HS0]; · iexact HS0
      isplitl [HS1]; · iexact HS1
      simp only [if_neg hc0, if_neg hc1]
      iintro ⟨H0, H1, H2, H3, H4, H5, H6, H7, H8, H9, H10, H11, H12, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      iexact H12

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- What the launch hands the region (`ΦA`) is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA1_eq]
  iintro ⟨⟨HS0, HS1⟩, Hg⟩
  isplitl [HS0 HS1]
  · isplitl [HS0]
    · iexact HS0
    iexists _; iexact HS1
  iexact Hg

/-- The same after the last point. -/
theorem hout (c : Dev nD) : (dat V c).Φ (Fin.last cfg1.N) ⊢ Pipeline.ΦA spec1 c :=
  Phi_out V c _ (by rw [Fin.val_last]; have : cfg1.N = 6 := N_1; omega)

end Cert.WholeIdeal.R1

end
-- ==== Proof.WgradRuns.lean ====
/-
  What the module on the running of the weight gradient call starts from: the blocks its windows stage, read off the arrays
  as the call finds them (`V`, whatever they hold), when the conditions on the grid point hold, and the buffers
  it is handed.
-/
module

public import proofs.«01_k».proof.Proof.Gen.WholeIdeal.Launch
public import proofs.«01_k».proof.Proof.Gen.WholeIdeal.Skeleton
public import proofs.«01_k».proof.Proof.Gen.WholeIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.WholeIdeal.R2

open Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

abbrev VO2_4 : View sig .tc .vmem S256x2304 .f32 := (Memref.whole cc2_stg4_0 : Memref sig .tc .vmem S256x2304 .f32).view
/-- Each window's current staging memref at point `t`, spelled as the pipeline passes it (`bodyAt2`), and its wholeness. -/
abbrev ms2_0 (t : Fin cfg2.N) : Memref sig .tc .smem S1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .smem S1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1536x256 .fp8e4m3 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1536x2304 .fp8e5m2 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256x2304 .f32 := win2_4.stage (cfg2.slots t 4)
abbrev hs2_4 (t : Fin cfg2.N) : (ms2_4 t).IsWhole := hstage2_4 ((cfg2.slots t 4).cast nbuf2_4)

end Cert.WholeIdeal.R2

end
-- ==== Proof.WgradFrame.lean ====
/-
  The running of the idealized weight gradient call point by point, at any floats, from arrays holding anything: the body's
  stores, what every buffer holds after each of the twenty-eight grid points, and that the body does what is said.
-/
module

public import proofs.«01_k».proof.Proof.WgradRuns
public import Idealize.ShloMosaic.Lib.Claim

@[expose] public section

set_option maxRecDepth 16384

noncomputable section

namespace Cert.WholeIdeal.R2

open Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg1 : Memref sig .tc .smem S1 .f32) (harg1 : arg1.IsWhole) (arg2 : Memref sig .tc .smem S1 .f32) (harg2 : arg2.IsWhole) (arg3 : Memref sig .tc .vmem S1536x256 .fp8e4m3) (harg3 : arg3.IsWhole) (arg4 : Memref sig .tc .vmem S1536x2304 .fp8e5m2) (harg4 : arg4.IsWhole) (arg5 : Memref sig .tc .vmem S256x2304 .f32) (harg5 : arg5.IsWhole)
    (x0 : Vec F S1 .f32) (x1 : Vec F S1 .f32) (x2 : Vec F S1536x256 .fp8e4m3) (x3 : Vec F S1536x2304 .fp8e5m2) :
    { L4 : List (View.Piece (Elt F) S256x2304 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc2_wgrad i arg1 harg1 arg2 harg2 arg3 harg3 arg4 harg4 arg5 harg5) K } := by
  refine ⟨?_, fun E K => ?run⟩
  case run =>
    simp only [cc2_wgrad_eq_skeleton]; unfold cc2_wgrad_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

/-- The run's pieces for output 4 tile its block (1 store of `S256x2304`, checked by the kernel's evaluation: Lib/Ring.lean `Piece.tiledL`, linear in the pieces, through a loop's `@[irreducible]` trip theorem too), so they cover it. -/
theorem cover2_A_4 (c : Dev nD) (i : grid2.Coords) (arg1 : Memref sig .tc .smem S1 .f32) (harg1 : arg1.IsWhole) (arg2 : Memref sig .tc .smem S1 .f32) (harg2 : arg2.IsWhole) (arg3 : Memref sig .tc .vmem S1536x256 .fp8e4m3) (harg3 : arg3.IsWhole) (arg4 : Memref sig .tc .vmem S1536x2304 .fp8e5m2) (harg4 : arg4.IsWhole) (arg5 : Memref sig .tc .vmem S256x2304 .f32) (harg5 : arg5.IsWhole)
    (x0 : Vec F S1 .f32) (x1 : Vec F S1 .f32) (x2 : Vec F S1536x256 .fp8e4m3) (x3 : Vec F S1536x2304 .fp8e5m2) (y : S256x2304.Idx) :
    ∃ pc ∈ (kernelRun2_A c i arg1 harg1 arg2 harg2 arg3 harg3 arg4 harg4 arg5 harg5 x0 x1 x2 x3).1, y ∈ pc.1.set :=
  View.cover_of_tiledL (kernelRun2_A c i arg1 harg1 arg2 harg2 arg3 harg3 arg4 harg4 arg5 harg5 x0 x1 x2 x3).1 S256x2304.size (by sl_kernel_rfl) y

/-- What the run leaves in output 4's staging buffer: its pieces read back over junk. -/
def out2_A_4 (c : Dev nD) (i : grid2.Coords) (arg1 : Memref sig .tc .smem S1 .f32) (harg1 : arg1.IsWhole) (arg2 : Memref sig .tc .smem S1 .f32) (harg2 : arg2.IsWhole) (arg3 : Memref sig .tc .vmem S1536x256 .fp8e4m3) (harg3 : arg3.IsWhole) (arg4 : Memref sig .tc .vmem S1536x2304 .fp8e5m2) (harg4 : arg4.IsWhole) (arg5 : Memref sig .tc .vmem S256x2304 .f32) (harg5 : arg5.IsWhole)
    (x0 : Vec F S1 .f32) (x1 : Vec F S1 .f32) (x2 : Vec F S1536x256 .fp8e4m3) (x3 : Vec F S1536x2304 .fp8e5m2) : Vec F S256x2304 .f32 :=
  VO2_4.read (Elt F) (VO2_4.writes (Elt F) VO2_4.junk (kernelRun2_A c i arg1 harg1 arg2 harg2 arg3 harg3 arg4 harg4 arg5 harg5 x0 x1 x2 x3).1)

/-! ## What the outputs hold after each point -/

/-- What the outputs' staging buffers hold after the body at point `t`: the run's contents at
    the point's memrefs and input blocks. -/
def outsAt2 (c : Dev nD) (t : Fin cfg2.N) : Vec F S256x2304 .f32 :=
  out2_A_4 c (grid2.coords t) (ms2_0 t) (hs2_0 t) (ms2_1 t) (hs2_1 t) (ms2_2 t) (hs2_2 t) (ms2_3 t) (hs2_3 t) (ms2_4 t) (hs2_4 t) (iblk V c 0 t) (iblk V c 1 t) (iblk V c 2 t) (iblk V c 3 t)

/-! ## The pipeline's proof data -/

/-- The proof data of the one pipeline on core `c`: the arrays as the region finds them (`V`); after the body at
    point `t` each input's buffer at its block and the outputs' at `outsAt2`; the invariant the class's
    (Lib/Pipeline/Frame.lean `ΦA`: the scoped rest and the generator register); nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt2 V c t)
  Φ _ := Pipeline.ΦA spec2 c
  q _ := fullShare
  owed _ := 0

/-- The proof data's arrays are the region-entry contents: the proof data's definition projected (`dsimp`), so that
    `V` — a fold over @main's host prefix, long for some programs — is never unfolded to check it. -/
theorem A_eq (c : Dev nD) (w : Fin cfg2.W) : (dat V c).A w = V c (Pipeline.arrRef spec2 w) := by
  dsimp only [dat]

/-- What the body leaves, window by window (the proof data's `match` reduced by `dsimp`). -/
theorem after2_0 (c : Dev nD) (t : Fin cfg2.N) : (dat V c).after 0 t = iblk V c 0 t := by dsimp only [dat]
theorem after2_1 (c : Dev nD) (t : Fin cfg2.N) : (dat V c).after 1 t = iblk V c 1 t := by dsimp only [dat]
theorem after2_2 (c : Dev nD) (t : Fin cfg2.N) : (dat V c).after 2 t = iblk V c 2 t := by dsimp only [dat]
theorem after2_3 (c : Dev nD) (t : Fin cfg2.N) : (dat V c).after 3 t = iblk V c 3 t := by dsimp only [dat]
theorem after2_4 (c : Dev nD) (t : Fin cfg2.N) : (dat V c).after 4 t = (outsAt2 V c t) := by dsimp only [dat]

/-- Each input's current staging buffer holds its block at every point, fetched there or not (`beforeK_W_of`). -/
theorem before2_0 (c : Dev nD) (t : Fin cfg2.N) (d) : (dat V c).before 0 t d = iblk V c 0 t :=
  before2_0_of V (dat V c) (A_eq V c 0) (after2_0 V c) t d
theorem before2_1 (c : Dev nD) (t : Fin cfg2.N) (d) : (dat V c).before 1 t d = iblk V c 1 t :=
  before2_1_of V (dat V c) (A_eq V c 1) (after2_1 V c) t d
theorem before2_2 (c : Dev nD) (t : Fin cfg2.N) (d) : (dat V c).before 2 t d = iblk V c 2 t :=
  before2_2_of V (dat V c) (A_eq V c 2) (after2_2 V c) t d
theorem before2_3 (c : Dev nD) (t : Fin cfg2.N) (d) : (dat V c).before 3 t d = iblk V c 3 t :=
  before2_3_of V (dat V c) (A_eq V c 3) (after2_3 V c) t d

/-! ## The body obligation, at a generic point -/

/-- What the body is called with at point `t` (Lib/Pipeline.lean `BodyObligation`'s precondition, the windows one by one), -/
def bodyPre (c : Dev nD) (t : Fin cfg2.N) : sProp 𝕄 :=
  iprop((dat V c).Φ t.castSucc ∗ (dat V c).owesAt () t.castSucc
    ∗ (∃ d, owns (c : Thread nD τ) (ms2_0 t) fullShare ((dat V c).before 0 t d))
    ∗ (∃ d, owns (c : Thread nD τ) (ms2_1 t) fullShare ((dat V c).before 1 t d))
    ∗ (∃ d, owns (c : Thread nD τ) (ms2_2 t) fullShare ((dat V c).before 2 t d))
    ∗ (∃ d, owns (c : Thread nD τ) (ms2_3 t) fullShare ((dat V c).before 3 t d))
    ∗ (∃ d, owns (c : Thread nD τ) (ms2_4 t) fullShare ((dat V c).before 4 t d)))

/-- and what it returns. -/
def bodyPost (c : Dev nD) (t : Fin cfg2.N) : sProp 𝕄 :=
  iprop((dat V c).Φ t.succ ∗ (dat V c).owesAt () t.succ
    ∗ owns (c : Thread nD τ) (ms2_0 t) fullShare ((dat V c).after 0 t)
    ∗ owns (c : Thread nD τ) (ms2_1 t) fullShare ((dat V c).after 1 t)
    ∗ owns (c : Thread nD τ) (ms2_2 t) fullShare ((dat V c).after 2 t)
    ∗ owns (c : Thread nD τ) (ms2_3 t) fullShare ((dat V c).after 3 t)
    ∗ owns (c : Thread nD τ) (ms2_4 t) fullShare ((dat V c).after 4 t))

/-- The body at any point: the inputs' memrefs hold their blocks (`before2_W`); so the
    run applies; the invariant passes through unread; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3]
  rw [show (dat V c).Φ t.succ = (dat V c).Φ t.castSucc from rfl,
    show (dat V c).owesAt () t.succ = (dat V c).owesAt () t.castSucc from rfl,
    after2_0, after2_1, after2_2, after2_3, after2_4]
  unfold outsAt2
  unfold out2_A_4
  iintro ⟨HΦ, Ho, ⟨%d0, H0⟩, ⟨%d1, H1⟩, ⟨%d2, H2⟩, ⟨%d3, H3⟩, ⟨%d4, H4⟩⟩
  iapply ((kernelRun2_A c (grid2.coords t) _ _ _ _ _ _ _ _ _ _ (iblk V c 0 t) (iblk V c 1 t) (iblk V c 2 t) (iblk V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover2_A_4 c _ _ _ _ _ _ _ _ _ _ _ _ _ _ _)

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.WholeIdeal.R2

end
-- ==== Proof.WholeRun.lean ====
/-
  The three calls run one after another, at any floats: each starts from the arrays as the one before left
  them.  The run ends, every counter ends at zero, and every array ends at what `W3` names: the launch contents with
  each call's result arrays replaced by what that call computes.
-/
module

public import proofs.«01_k».proof.Proof.StatsFrame
public import proofs.«01_k».proof.Proof.DgradFrame
public import proofs.«01_k».proof.Proof.WgradFrame
public import Idealize.ShloMosaic.Lib.Pipeline.Regions
public import Idealize.ShloMosaic.Lib.Pipeline.RegionArraysS

@[expose] public section

set_option maxRecDepth 16384

noncomputable section

namespace Cert.WholeIdeal.Run

open Cert.WholeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg afterRegion ucRefs)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the arrays hold between the calls -/

/-- What core `c`'s arrays hold at launch, -/
def W0 (c : Dev nD) : Valuation τ sig (Elt F) := fun b => m (c, b)
/-- as the first call finds them, -/
def U0 (c : Dev nD) (b : Ref sig .tc) : Buf (Elt F) ((c : Thread nD τ).loc b) := W0 m c b
/-- after the statistics call, -/
def W1 (c : Dev nD) : Valuation τ sig (Elt F) := afterRegion (R0.dat (U0 m) c) (W0 m c)
/-- as the second call finds them, -/
def U1 (c : Dev nD) (b : Ref sig .tc) : Buf (Elt F) ((c : Thread nD τ).loc b) := W1 m c b
/-- after the input gradient call, -/
def W2 (c : Dev nD) : Valuation τ sig (Elt F) := afterRegion (R1.dat (U1 m) c) (W1 m c)
/-- as the third call finds them, -/
def U2 (c : Dev nD) (b : Ref sig .tc) : Buf (Elt F) ((c : Thread nD τ).loc b) := W2 m c b
/-- after the weight gradient call. -/
def W3 (c : Dev nD) : Valuation τ sig (Elt F) := afterRegion (R2.dat (U2 m) c) (W2 m c)

/-- The prefetched tables: none. -/
abbrev adm : (p : Fin 3) → (pcfgs (F := F) p).Adm := fun p => (cfgs p).toPCfg_adm

/-- The three calls' proof data. -/
def pdats : (p : Fin 3) → (c : Dev nD) → Dat τ (Elt F) Unit ℕ (UR sig nD τ) ℕ (cfgs p) c
  | 0 => fun c => R0.dat (U0 m) c
  | 1 => fun c => R1.dat (U1 m) c
  | 2 => fun c => R2.dat (U2 m) c
  | ⟨_ + 3, h⟩ => absurd h (by omega)

/-- The core's own counters are the ones the library watches. -/
def L (g : GSem nD τ sig) : Finset Unit := if g.1.2 = .tc then Finset.univ else ∅
abbrev lv (_ : GSem nD τ sig) (_ : Unit) : ℕ := 0
abbrev EP : Emb (UR sig nD τ) 𝕄 := emb₁

/-- The generator's register, beside the arrays throughout. -/
abbrev X (c : Dev nD) : sProp 𝕄 := iprop(∃ r, prngReg c r)
abbrev R (_ : Dev nD) : sProp 𝕄 := iprop(emp)

theorem hL (g : GSem nD τ sig) (h : g.1.2 ≠ .tc) : L g = ∅ := if_neg h

theorem cut (p : Fin 3) : Pipeline.LevelCut (pcfgs (F := F)) adm () L lv p (fun _ => 0) (fun _ => 0) where
  hι c w s := by unfold L; rw [if_pos rfl]; exact Finset.mem_univ _
  hιb c w s := le_rfl
  hD c g i h := absurd h (by simp)

/-! ## The calls as segments -/

def reg0 : RegionSeg (pcfgs (F := F)) adm (pdats m) () defs₀ Variants.none L lv 0 :=
  RegionSeg.ofHeldIn (pcfgs (F := F)) adm (pdats m) () defs₀ Variants.none L lv 0 (fun _ => 0) (ucRefs τ sig) X X launch0.toP rfl
    (fun c => (R0.body_obligation (U0 m) c).loose) (fun _ _ => rfl) (fun _ => rfl)
    (fun c => (R0.dat (U0 m) c).share_full fun _ => rfl) (fun c => R0.hin (U0 m) c) (fun c => R0.hout (U0 m) c)
    (fun _ => 0) (cut 0) R (W0 m) (fun c w => R0.A_eq (U0 m) c w)

def reg1 : RegionSeg (pcfgs (F := F)) adm (pdats m) () defs₀ Variants.none L lv 1 :=
  RegionSeg.ofHeldIn (pcfgs (F := F)) adm (pdats m) () defs₀ Variants.none L lv 1 (fun _ => 0) (ucRefs τ sig) X X launch1.toP rfl
    (fun c => (R1.body_obligation (U1 m) c).loose) (fun _ _ => rfl) (fun _ => rfl)
    (fun c => (R1.dat (U1 m) c).share_full fun _ => rfl) (fun c => R1.hin (U1 m) c) (fun c => R1.hout (U1 m) c)
    (fun _ => 0) (cut 1) R (W1 m) (fun c w => R1.A_eq (U1 m) c w)

def reg2 : RegionSeg (pcfgs (F := F)) adm (pdats m) () defs₀ Variants.none L lv 2 :=
  RegionSeg.ofHeldIn (pcfgs (F := F)) adm (pdats m) () defs₀ Variants.none L lv 2 (fun _ => 0) (ucRefs τ sig) X X launch2.toP rfl
    (fun c => (R2.body_obligation (U2 m) c).loose) (fun _ _ => rfl) (fun _ => rfl)
    (fun c => (R2.dat (U2 m) c).share_full fun _ => rfl) (fun _ => .rfl) (fun _ => .rfl)
    (fun _ => 0) (cut 2) R (W2 m) (fun c w => R2.A_eq (U2 m) c w)

/-- What a core holds between the calls, its arrays at `W`. -/
abbrev St (W : Dev nD → Valuation τ sig (Elt F)) (c : Dev nD) : sProp 𝕄 :=
  iprop(StableHlo.held (c : Thread nD τ) (ucRefs τ sig) (W c) ∗ ((∃ Wd, owes (c : Thread nD τ) (0 : CellTallies nD τ sig Unit) Wd) ∗ X c ∗ R c))

theorem pre0 (c : Dev nD) : St (W0 m) c ⊢ (reg0 m).pre c := by
  show _ ⊢ iprop(StableHlo.held (c : Thread nD τ) (Pipeline.arrRefs spec0) (W0 m c) ∗ X c
    ∗ (StableHlo.held (c : Thread nD τ) (ucRefs τ sig \ Pipeline.arrRefs spec0) (W0 m c) ∗ R c) ∗ ∃ Wd, owes (c : Thread nD τ) (0 : CellTallies nD τ sig Unit) Wd)
  rw [St, StableHlo.held_sub_split (c : Thread nD τ) (Pipeline.arrRefs_sub_ucRefs _ winFacts0.arr_unscoped) (W0 m c)]
  iintro ⟨⟨Ha, Hu⟩, HO, HX, HR⟩
  isplitl [Ha]; · iexact Ha
  isplitl [HX]; · iexact HX
  isplitl [Hu HR]
  · isplitl [Hu]; · iexact Hu
    iexact HR
  iexact HO
theorem post0 (c : Dev nD) : (reg0 m).post c ⊢ St (W1 m) c := RegionSeg.ofHeldIn_post (Pipeline.arrRefs_sub_ucRefs _ winFacts0.arr_unscoped) c
theorem pre1 (c : Dev nD) : St (W1 m) c ⊢ (reg1 m).pre c := by
  show _ ⊢ iprop(StableHlo.held (c : Thread nD τ) (Pipeline.arrRefs spec1) (W1 m c) ∗ X c
    ∗ (StableHlo.held (c : Thread nD τ) (ucRefs τ sig \ Pipeline.arrRefs spec1) (W1 m c) ∗ R c) ∗ ∃ Wd, owes (c : Thread nD τ) (0 : CellTallies nD τ sig Unit) Wd)
  rw [St, StableHlo.held_sub_split (c : Thread nD τ) (Pipeline.arrRefs_sub_ucRefs _ winFacts1.arr_unscoped) (W1 m c)]
  iintro ⟨⟨Ha, Hu⟩, HO, HX, HR⟩
  isplitl [Ha]; · iexact Ha
  isplitl [HX]; · iexact HX
  isplitl [Hu HR]
  · isplitl [Hu]; · iexact Hu
    iexact HR
  iexact HO
theorem post1 (c : Dev nD) : (reg1 m).post c ⊢ St (W2 m) c := RegionSeg.ofHeldIn_post (Pipeline.arrRefs_sub_ucRefs _ winFacts1.arr_unscoped) c
theorem pre2 (c : Dev nD) : St (W2 m) c ⊢ (reg2 m).pre c := by
  show _ ⊢ iprop(StableHlo.held (c : Thread nD τ) (Pipeline.arrRefs spec2) (W2 m c) ∗ X c
    ∗ (StableHlo.held (c : Thread nD τ) (ucRefs τ sig \ Pipeline.arrRefs spec2) (W2 m c) ∗ R c) ∗ ∃ Wd, owes (c : Thread nD τ) (0 : CellTallies nD τ sig Unit) Wd)
  rw [St, StableHlo.held_sub_split (c : Thread nD τ) (Pipeline.arrRefs_sub_ucRefs _ winFacts2.arr_unscoped) (W2 m c)]
  iintro ⟨⟨Ha, Hu⟩, HO, HX, HR⟩
  isplitl [Ha]; · iexact Ha
  isplitl [HX]; · iexact HX
  isplitl [Hu HR]
  · isplitl [Hu]; · iexact Hu
    iexact HR
  iexact HO
theorem post2 (c : Dev nD) : (reg2 m).post c ⊢ St (W3 m) c := RegionSeg.ofHeldIn_post (Pipeline.arrRefs_sub_ucRefs _ winFacts2.arr_unscoped) c

/-- The whole program as the list of its calls. -/
abbrev segs (_ : Dev nD) : List (Seg (pcfgs (F := F)) adm (pdats m) () defs₀ Variants.none L lv) :=
  [.region (reg0 m), .region (reg1 m), .region (reg2 m)]

theorem no_unscoped : ∀ sm : SemLoc sig, sm.isScoped .tc = true := by decide

-- the library theorem's implicit arguments are found by unifying its conclusion with this one, which takes unfolding
-- plain definitions in a metavariable's type
set_option backward.isDefEq.respectTransparency.types false in
/-- From any memory with zero counters the run ends, with every array at `W3` and every counter at zero. -/
theorem run_main : θ_run defs (onTc (τ := τ) (main (F := F))) ⟨m, fun _ => 0, ρ⟩ (fun r => (∀ c : Dev nD,
      ∀ b ∈ ucRefs τ sig, r.2.mem ((c : Thread nD τ).1, b) = W3 m c b) ∧ r.2.sem = fun _ => 0) := by
  refine Pipeline.θ_run_regions_kit_dev_sems (pcfgs (F := F)) adm (pdats m) () cellOf_inj EP defs₀ Variants.none L lv m ρ main
    (segs m)
    (fun c Q => by
      rewrite [main_chain c, Seg.run_eq_chain,
        show (segs m c).map Seg.prog = [
          Prog.lift (.customCall (Pipeline.entry 0) ()),
          Prog.lift (.customCall (Pipeline.entry 1) ()),
          Prog.lift (.customCall (Pipeline.entry 2) ()) ] from rfl]
      dsimp (config := { failIfUnchanged := false }) only
      exact .rfl)
    (fun c => by simp only [segs, Seg.pipes_host, Seg.pipes_region, Seg.pipes_nil]; decide) (O₀ := 0) hL
    (G := fun _ => iprop(emp)) (u₀ := initOf (Pipeline.cells cfgs cellOf_inj) (Pipeline.launchToks cfgs cellOf_inj))
    (hu₀ := by
      iintro Hu
      imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := St (W0 m))
    (Tₙ := fun c => StableHlo.held (c : Thread nD τ) (ucRefs τ sig) (W3 m c))
    (hch := fun c => ⟨pre0 m c, (post0 m c).trans (pre1 m c), (post1 m c).trans (pre2 m c), (post2 m c).trans (sep_mono .rfl (by
      iintro ⟨HO, -⟩; iexact HO))⟩)
    (hinit := ?_) (QY := fun c s => ∀ b ∈ ucRefs τ sig, s.mem ((c : Thread nD τ).1, b) = W3 m c b)
    (hfin := fun c s' => ?_) (hQ := fun _ h hz => ⟨h, funext fun g => hz g (.inr (no_unscoped g.2))⟩)
  · refine Pipeline.initEach L lv fun c => ?_
    rw [show unscopedBufs c (fun b => m ((c : Thread nD τ).loc b)) = StableHlo.held (c : Thread nD τ) (ucRefs τ sig) (W0 m c)
      from Pipeline.unscopedBufs_held (Ix := Unit) (Name := ℕ) (U := UR sig nD τ) (Lvl := ℕ) c (W0 m c)]
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (ucRefs τ sig) (fun b => ((c : Thread nD τ).1, b)) (W3 m c) s') $$ [Hh HSI]
    · isplitl [Hh] <;> iassumption
    icases Hr with ⟨%h, HSI⟩
    imodintro
    isplitr
    · ipureintro; exact h
    · iexact HSI

/-! ## What each array holds in the end -/

theorem W1_keeps (c : Dev nD) (r : Ref sig .tc) (h : ∀ w, Pipeline.arrRef spec0 w = r → (cfg0.win w).isOut = false) :
    W1 m c r = W0 m c r := Pipeline.afterRegion_keeps _ _ launch0.win.arr_inj (fun w => R0.A_eq (U0 m) c w) r h
theorem W2_keeps (c : Dev nD) (r : Ref sig .tc) (h : ∀ w, Pipeline.arrRef spec1 w = r → (cfg1.win w).isOut = false) :
    W2 m c r = W1 m c r := Pipeline.afterRegion_keeps _ _ launch1.win.arr_inj (fun w => R1.A_eq (U1 m) c w) r h
theorem W3_keeps (c : Dev nD) (r : Ref sig .tc) (h : ∀ w, Pipeline.arrRef spec2 w = r → (cfg2.win w).isOut = false) :
    W3 m c r = W2 m c r := Pipeline.afterRegion_keeps _ _ launch2.win.arr_inj (fun w => R2.A_eq (U2 m) c w) r h

theorem W1_out (c : Dev nD) (w : Fin cfg0.W) : W1 m c (Pipeline.arrRef spec0 w) = (R0.dat (U0 m) c).arrAt w cfg0.N :=
  Pipeline.afterRegion_arr _ _ launch0.win.arr_inj w
theorem W2_out (c : Dev nD) (w : Fin cfg1.W) : W2 m c (Pipeline.arrRef spec1 w) = (R1.dat (U1 m) c).arrAt w cfg1.N :=
  Pipeline.afterRegion_arr _ _ launch1.win.arr_inj w
theorem W3_out (c : Dev nD) (w : Fin cfg2.W) : W3 m c (Pipeline.arrRef spec2 w) = (R2.dat (U2 m) c).arrAt w cfg2.N :=
  Pipeline.afterRegion_arr _ _ launch2.win.arr_inj w

/-- No call writes an argument. -/
theorem args_kept (c : Dev nD) : W3 m c main_arg0 = m ((c : Thread nD τ).loc main_arg0) ∧ W3 m c main_arg1 = m ((c : Thread nD τ).loc main_arg1)
    ∧ W3 m c main_arg2 = m ((c : Thread nD τ).loc main_arg2) ∧ W3 m c main_arg3 = m ((c : Thread nD τ).loc main_arg3)
    ∧ W3 m c main_arg4 = m ((c : Thread nD τ).loc main_arg4) := by
  refine ⟨?_, ?_, ?_, ?_, ?_⟩ <;>
    exact (W3_keeps m c _ (by decide)).trans ((W2_keeps m c _ (by decide)).trans ((W1_keeps m c _ (by decide)).trans rfl))

theorem read (c : Dev nD) {s : MemSt nD τ sig (Elt F)} (h : ∀ b ∈ ucRefs τ sig, s.mem ((c : Thread nD τ).1, b) = W3 m c b)
    (r : Ref sig .tc) (hr : (Proc.devRef .tc r : DevRef τ sig) ∈ ucRefs τ sig) :
    s.mem ((c : Thread nD τ).loc r) = W3 m c r := h _ hr

theorem mem_uc (r : Ref sig .tc) (h : (Proc.devRef .tc r : DevRef τ sig).isScoped = false) :
    (Proc.devRef .tc r : DevRef τ sig) ∈ ucRefs τ sig := Finset.mem_filter.mpr ⟨StableHlo.devRef_mem_tcRefs r, by rw [h]; exact Bool.false_ne_true⟩

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine θ_run_mono (run_main m ρ) fun r h => ⟨fun c => ?_, h.2⟩
  obtain ⟨a0, a1, a2, a3, a4⟩ := args_kept m c
  exact ⟨(read m c (h.1 c) main_arg0 (mem_uc _ (by decide))).trans a0, (read m c (h.1 c) main_arg1 (mem_uc _ (by decide))).trans a1,
    (read m c (h.1 c) main_arg2 (mem_uc _ (by decide))).trans a2, (read m c (h.1 c) main_arg3 (mem_uc _ (by decide))).trans a3,
    (read m c (h.1 c) main_arg4 (mem_uc _ (by decide))).trans a4⟩

end Cert.WholeIdeal.Run

end
-- ==== Proof.Scale.lean ====
/-
  The power-of-two scale of a quantiser, over the extended reals.  The reference counts the powers of two that do not
  exceed `v = amax / max`; the kernel finds the exponent field of `v` by a binary search over its eight bits.  Both give
  the same exponent, for every `v` (an infinite one too: both then stop at the largest exponent a scale may have).
-/
module

public import Idealize.ShloMosaic.PureOps.Ideal
public import Idealize.ShloMosaic.Lib.Pointwise

@[expose] public section

noncomputable section

namespace Cert.Math

open Idealize.ShloMosaic
open scoped BigOperators

/-! ### The reference: a count -/

/-- Whether the power of two number `k` counts: one of the 252 that are looked at, and not above `v`. -/
def counts (v : EReal) (k : Nat) : Prop := k < 252 ∧ (((2 : ℝ) ^ ((k : ℤ) - 126) : ℝ) : EReal) ≤ v

open Classical in
/-- The number of powers of two, from `2 ^ -126` to `2 ^ 125`, that do not exceed `v`. -/
def count (v : EReal) : EReal := ∑ k : Fin 256, if counts v k then 1 else 0

open Classical in
/-- The exponent of the scale: 0 when no power of two counts. -/
def expo (v : EReal) : EReal := if count v = 0 then 0 else count v - ((126 : ℝ) : EReal)

/-- The scale and its inverse. -/
def up (v : EReal) : EReal := Ideal.exp2 (expo v)
def down (v : EReal) : EReal := Ideal.exp2 (0 - expo v)

/-! ### The kernel: a search -/

/-- One step of the search: the bit `b` stays in the field when the number whose exponent field is `f + b` is at most `v`. -/
def stepW (v : EReal) (f b : BitVec 32) : BitVec 32 :=
  Scalar.select (FloatOps.cmpf (F := Ideal) (φ := .f32) .oge v
    (FloatOps.ofBits (F := Ideal) .f32 (IntOp.shli .vector (IntOp.addi f b) 23#32))) (IntOp.addi f b) f

/-- The exponent field of `v`, bit by bit. -/
def fieldW (v : EReal) : BitVec 32 :=
  stepW v (stepW v (stepW v (stepW v (stepW v (stepW v (stepW v (stepW v 0#32 128#32) 64#32) 32#32) 16#32) 8#32) 4#32) 2#32) 1#32

/-- The exponent of the scale, from the field. -/
def expW (f : BitVec 32) : BitVec 32 := Scalar.select (IntOp.cmpi .eq f 0#32) 0#32 (IntOp.subi f 126#32)

/-- `v` as the search reads it: at most `2 ^ 125`. -/
def cap (v : EReal) : EReal := min v (Ideal.ofBits .f32 0x7E000000#32)

/-- The kernel's scale and its inverse: the numbers with the exponent fields `e + 127` and `127 - e`. -/
def upW (v : EReal) : EReal :=
  FloatOps.ofBits (F := Ideal) .f32 (IntOp.shli .vector (IntOp.addi (expW (fieldW (cap v))) 127#32) 23#32)
def downW (v : EReal) : EReal :=
  FloatOps.ofBits (F := Ideal) .f32 (IntOp.shli .vector (IntOp.subi 127#32 (expW (fieldW (cap v)))) 23#32)

/-! ### The numbers with a zero fraction -/

theorem bits_facts : ∀ m : Fin 256, IntOp.shli .vector (BitVec.ofNat 32 m) 23#32 = BitVec.ofNat 32 (m * 2 ^ 23)
    ∧ ((BitVec.ofNat 32 (m * 2 ^ 23)).extractLsb' 31 1 == 1#1) = false
    ∧ ((BitVec.ofNat 32 (m * 2 ^ 23)).extractLsb' 23 8).toNat = m
    ∧ ((BitVec.ofNat 32 (m * 2 ^ 23)).extractLsb' 0 23).toNat = 0 := by
  decide +kernel

/-- The number whose exponent field is `m`, neither 0 nor 255, is `2 ^ (m - 127)`. -/
theorem ofBits_field (m : Nat) (h0 : 1 ≤ m) (h1 : m ≤ 254) :
    Ideal.ofBits .f32 (IntOp.shli .vector (BitVec.ofNat 32 m) 23#32) = (((2 : ℝ) ^ ((m : ℤ) - 127) : ℝ) : EReal) := by
  obtain ⟨e, a, b, d⟩ := bits_facts ⟨m, by omega⟩
  dsimp only at e a b d
  rw [e]
  show Ideal.ieee 8 23 _ = _
  unfold Ideal.ieee
  simp only [a, b, d, show (8 + 23 : Nat) = 31 from rfl]
  rw [if_neg (by omega), if_neg (by omega)]
  congr 1
  have h2 : (2 : ℝ) ≠ 0 := by norm_num
  rw [show ((m : ℤ) - 127 : ℤ) = 23 + ((m : ℤ) - (2 ^ (8 - 1) - 1) - (23 : ℕ)) by push_cast; norm_num, zpow_add₀ h2]
  norm_num

/-- The exponent field of all ones is infinity. -/
theorem ofBits_255 : Ideal.ofBits .f32 (IntOp.shli .vector (BitVec.ofNat 32 255) 23#32) = ⊤ := by
  rw [show IntOp.shli .vector (BitVec.ofNat 32 255) 23#32 = 0x7F800000#32 by decide]
  simp [Ideal.ofBits, Ideal.ieee]

theorem ofBits_cap : Ideal.ofBits .f32 0x7E000000#32 = (((2 : ℝ) ^ (125 : ℤ) : ℝ) : EReal) := by
  have h := ofBits_field 252 (by omega) (by omega)
  rwa [show IntOp.shli .vector (BitVec.ofNat 32 252) 23#32 = 0x7E000000#32 by decide] at h

/-! ### The threshold -/

theorem pow_mono {a b : ℤ} (h : a ≤ b) : (((2 : ℝ) ^ a : ℝ) : EReal) ≤ (((2 : ℝ) ^ b : ℝ) : EReal) :=
  EReal.coe_le_coe_iff.2 (zpow_le_zpow_right₀ (by norm_num) h)

/-- A property that passes to smaller numbers holds exactly below some bound. -/
theorem threshold (Q : Nat → Prop) (hQ : ∀ j k, j ≤ k → Q k → Q j) (N : Nat) : ∃ n ≤ N, ∀ k < N, Q k ↔ k < n := by
  induction N with
  | zero => exact ⟨0, le_rfl, fun k hk => absurd hk (by omega)⟩
  | succ N ih =>
    by_cases h : Q N
    · exact ⟨N + 1, le_rfl, fun k hk => ⟨fun _ => hk, fun _ => hQ k N (by omega) h⟩⟩
    · obtain ⟨n, hn, hk⟩ := ih
      refine ⟨n, by omega, fun k hkN => ?_⟩
      rcases Nat.lt_or_ge k N with h' | h'
      · exact hk k h'
      · have : k = N := by omega
        subst this
        exact ⟨fun q => absurd q h, fun q => absurd q (by omega)⟩

/-- There is one number `n ≤ 252` that the count is equal to and that the search compares with. -/
theorem exists_count (v : EReal) : ∃ n : Nat, n ≤ 252 ∧ count v = ((n : ℝ) : EReal)
    ∧ ∀ m, 1 ≤ m → m ≤ 255 → (Ideal.ofBits .f32 (IntOp.shli .vector (BitVec.ofNat 32 m) 23#32) ≤ cap v ↔ m ≤ n) := by
  classical
  obtain ⟨n, hn, hk⟩ := threshold (fun k => (((2 : ℝ) ^ ((k : ℤ) - 126) : ℝ) : EReal) ≤ v)
    (fun j k h hv => (pow_mono (by omega)).trans hv) 252
  refine ⟨n, hn, ?_, fun m h0 h1 => ?_⟩
  · have h (k : Fin 256) : (if counts v k then (1 : EReal) else 0) = if (k : Nat) < n then 1 else 0 := by
      refine if_congr ⟨fun h => (hk k h.1).1 h.2, fun h => ⟨by omega, (hk k (by omega)).2 h⟩⟩ rfl rfl
    unfold count
    rw [Finset.sum_congr rfl fun k _ => h k]
    rw [Fin.sum_univ_eq_sum_range (fun k => if k < n then (1 : EReal) else 0) 256, Finset.sum_ite, Finset.sum_const_zero, add_zero,
      Finset.sum_const, show (Finset.range 256).filter (fun k => k < n) = Finset.range n from ?_, Finset.card_range, nsmul_one]
    · rfl
    · ext k; simp only [Finset.mem_filter, Finset.mem_range]; omega
  · unfold cap
    rw [ofBits_cap]
    rcases Nat.lt_or_ge 254 m with h | h
    · obtain rfl : m = 255 := by omega
      rw [ofBits_255]
      refine ⟨fun h => ?_, fun h => absurd h (by omega)⟩
      exact absurd (top_le_iff.1 (h.trans (min_le_right _ _))) (EReal.coe_ne_top _)
    · rw [ofBits_field m h0 h, le_min_iff]
      rcases Nat.lt_or_ge 252 m with h' | h'
      · refine ⟨fun h => ?_, fun h => absurd h (by omega)⟩
        have := (zpow_le_zpow_iff_right₀ (by norm_num : (1 : ℝ) < 2)).1 (EReal.coe_le_coe_iff.1 h.2)
        omega
      · have := hk (m - 1) (by omega)
        rw [show (((m - 1 : Nat) : ℤ) - 126) = (m : ℤ) - 127 by omega] at this
        rw [this]
        exact ⟨fun h => by omega, fun h => ⟨by omega, pow_mono (by omega)⟩⟩

theorem cmpf_oge (v x : EReal) : FloatOps.cmpf (F := Ideal) (φ := .f32) .oge v x = BitVec.ofBool (decide (x ≤ v)) := by
  show Ideal.cmp .oge v x = _
  simp [Ideal.cmp]

/-- One step of the search narrows the field to the half in which the threshold lies. -/
theorem stepW_spec (v : EReal) (n : Nat)
    (hn : ∀ m, 1 ≤ m → m ≤ 255 → (Ideal.ofBits .f32 (IntOp.shli .vector (BitVec.ofNat 32 m) 23#32) ≤ v ↔ m ≤ n))
    (f b : Nat) (hb : 1 ≤ b) (h : f + b ≤ 255) (hf : f ≤ n ∧ n < f + 2 * b) :
    ∃ g, stepW v (BitVec.ofNat 32 f) (BitVec.ofNat 32 b) = BitVec.ofNat 32 g ∧ (g ≤ n ∧ n < g + b) ∧ (g = f ∨ g = f + b) := by
  have e : IntOp.addi (BitVec.ofNat 32 f) (BitVec.ofNat 32 b) = BitVec.ofNat 32 (f + b) := by
    show BitVec.ofNat 32 f + BitVec.ofNat 32 b = _
    rw [BitVec.ofNat_add]
  unfold stepW
  rw [e]
  by_cases hc : f + b ≤ n
  · refine ⟨f + b, ?_, ⟨hc, by omega⟩, Or.inr rfl⟩
    have := (hn (f + b) (by omega) h).2 hc
    rw [cmpf_oge]; simp [Scalar.select, this]
  · refine ⟨f, ?_, ⟨hf.1, by omega⟩, Or.inl rfl⟩
    have := mt (hn (f + b) (by omega) h).1 hc
    rw [cmpf_oge]; simp [Scalar.select, this]

/-- The search ends at the count. -/
theorem fieldW_eq (v : EReal) (n : Nat) (h : n ≤ 252)
    (hn : ∀ m, 1 ≤ m → m ≤ 255 → (Ideal.ofBits .f32 (IntOp.shli .vector (BitVec.ofNat 32 m) 23#32) ≤ v ↔ m ≤ n)) :
    fieldW v = BitVec.ofNat 32 n := by
  obtain ⟨a, ea, ha, oa⟩ := stepW_spec v n hn 0 128 (by omega) (by omega) (by omega)
  obtain ⟨b, eb, hb, ob⟩ := stepW_spec v n hn a 64 (by omega) (by omega) (by omega)
  obtain ⟨c, ec, hc, oc⟩ := stepW_spec v n hn b 32 (by omega) (by omega) (by omega)
  obtain ⟨d, ed, hd, od⟩ := stepW_spec v n hn c 16 (by omega) (by omega) (by omega)
  obtain ⟨e, ee, he, oe⟩ := stepW_spec v n hn d 8 (by omega) (by omega) (by omega)
  obtain ⟨f, ef, hf, of⟩ := stepW_spec v n hn e 4 (by omega) (by omega) (by omega)
  obtain ⟨g, eg, hg, og⟩ := stepW_spec v n hn f 2 (by omega) (by omega) (by omega)
  obtain ⟨i, ei, hi, oi⟩ := stepW_spec v n hn g 1 (by omega) (by omega) (by omega)
  unfold fieldW
  rw [ea, eb, ec, ed, ee, ef, eg, ei]
  congr 1; omega

/-- The words of the two exponent fields, for every count. -/
theorem exp_fields : ∀ n : Fin 253,
    IntOp.addi (expW (BitVec.ofNat 32 n)) 127#32 = BitVec.ofNat 32 (if n.val = 0 then 127 else n + 1)
    ∧ IntOp.subi 127#32 (expW (BitVec.ofNat 32 n)) = BitVec.ofNat 32 (if n.val = 0 then 127 else 253 - n) := by
  decide +kernel

theorem exp2_int (z : ℤ) (r : ℝ) (h : r = z) : Ideal.exp2 ((r : ℝ) : EReal) = (((2 : ℝ) ^ z : ℝ) : EReal) := by
  rw [Ideal.exp2_coe, h]
  exact congrArg _ (Real.rpow_intCast 2 z)

theorem upW_eq (v : EReal) : upW v = up v := by
  obtain ⟨n, h, hc, hn⟩ := exists_count v
  unfold upW up expo
  rw [fieldW_eq (cap v) n h hn, (exp_fields ⟨n, by omega⟩).1, hc]
  dsimp only
  by_cases h0 : n = 0
  · subst h0
    rw [if_pos rfl, if_pos (by simp)]
    refine (ofBits_field 127 (by omega) (by omega)).trans ?_
    exact (exp2_int 0 0 (by simp)).symm
  · rw [if_neg h0, if_neg (by rw [EReal.coe_eq_zero, Nat.cast_eq_zero]; exact h0)]
    refine (ofBits_field (n + 1) (by omega) (by omega)).trans ?_
    rw [← EReal.coe_sub, exp2_int ((n : ℤ) - 126) _ (by push_cast; ring)]
    congr 2; push_cast; ring

theorem downW_eq (v : EReal) : downW v = down v := by
  obtain ⟨n, h, hc, hn⟩ := exists_count v
  unfold downW down expo
  rw [fieldW_eq (cap v) n h hn, (exp_fields ⟨n, by omega⟩).2, hc]
  dsimp only
  by_cases h0 : n = 0
  · subst h0
    rw [if_pos rfl, if_pos (by simp)]
    refine (ofBits_field 127 (by omega) (by omega)).trans ?_
    rw [sub_zero]
    exact (exp2_int 0 0 (by simp)).symm
  · rw [if_neg h0, if_neg (by rw [EReal.coe_eq_zero, Nat.cast_eq_zero]; exact h0)]
    refine (ofBits_field (253 - n) (by omega) (by omega)).trans ?_
    rw [← EReal.coe_sub, ← EReal.coe_zero, ← EReal.coe_sub, exp2_int (126 - (n : ℤ)) _ (by push_cast; ring)]
    congr 2; omega

end Cert.Math

end
-- ==== Proof.Arith.lean ====
/-
  The mathematics the claims are about, over plain arrays of extended reals and with no program in sight:
  the input gradient with the quantised operands, and the weight gradient as one sum over the 1536 tokens.
-/
module

public import proofs.«01_k».proof.Proof.Scale
public import Idealize.ShloMosaic.PureOps.Ideal
public import Idealize.ShloMosaic.Lib.Pointwise

@[expose] public section

noncomputable section

namespace Cert.Math

open Idealize.ShloMosaic
open scoped BigOperators

/-- A vector of one element, a matrix: what the arguments of the programs are at the ideal instance. -/
abbrev One := (⟨1, ![1]⟩ : Shape).Idx → EReal
abbrev Mat (a b : Nat) := (⟨2, ![a, b]⟩ : Shape).Idx → EReal

/-- The weight gradient: element `(i, j)` is the sum over the tokens of the products of the codes, times the product of
    the two scales. -/
def wgrad (sx sdy : One) (xc : Mat 1536 7168) (dyc : Mat 1536 2304) : Mat 7168 2304 := fun i =>
  (∑ k : Fin 1536, xc (ix2 k (i 0)) * dyc (ix2 k (i 1))) * (sx (ix1 0) * sdy (ix1 0))

/-! ### The input gradient

  `ax`, `ady` are the largest absolute values of the normalised input and of the output gradient, `sdy` and `ws` the scales
  of the output gradient's codes and of the weights' codes, `r` the inverse root mean square of each row (in column 0). -/

/-- `1 / 448` and `1 / 57344` as the programs read them. -/
def inv448 : EReal := Ideal.ofBits .f32 0x3B124925#32
def inv57344 : EReal := Ideal.ofBits .f32 0x37924925#32

/-- Clipping to the largest number of the format. -/
def clip448 (v : EReal) : EReal := min (Ideal.ofBits .f32 0x43E00000#32) (max (Ideal.ofBits .f32 0xC3E00000#32) v)
def clip57344 (v : EReal) : EReal := min (Ideal.ofBits .f32 0x47600000#32) (max (Ideal.ofBits .f32 0xC7600000#32) v)

/-- The codes of the output gradient. -/
def dyCode (ady : EReal) (dy : EReal) : EReal := clip57344 (dy * down (ady * inv57344))

/-- The codes of the normalised input `x * r * gamma`. -/
def xCode (ax x r gamma : EReal) : EReal := clip448 (x * r * gamma * down (ax * inv448))

/-- The gradient of the normalised input: row `a` of the output gradient's codes times row `b` of the weights' codes, and the scales. -/
def dxn (dyr wr : Fin 2304 → EReal) (ady s : EReal) : EReal := (∑ k : Fin 2304, dyCode ady (dyr k) * wr k) * s

/-- The mean over a row of `g * xhat`: its sum divided by 7168. -/
def meanRow (p : Fin 7168 → EReal) : EReal := Ideal.div (∑ j : Fin 7168, p j) (Ideal.ofBits .f32 0x45E00000#32)

/-- One element of the input gradient. -/
def dxAt (r g xhat c : EReal) : EReal := r * (g - xhat * c)

section
variable (ax ady sdy ws : One) (x : Mat 1536 7168) (gamma : Mat 1 7168) (dy : Mat 1536 2304) (w : Mat 7168 2304) (r : Mat 1536 128)

def dyCodes : Mat 1536 2304 := fun i => dyCode (ady (ix1 0)) (dy i)

def xCodes : Mat 1536 7168 := fun i => xCode (ax (ix1 0)) (x i) (r (ix2 (i 0) 0)) (gamma (ix2 0 (i 1)))

/-- `dxn` and `xhat` at row `a`, column `b`. -/
def dxnAt (a : Fin 1536) (b : Fin 7168) : EReal :=
  dxn (fun k => dy (ix2 a k)) (fun k => w (ix2 b k)) (ady (ix1 0)) (sdy (ix1 0) * ws (ix1 0))
def xhatAt (a : Fin 1536) (b : Fin 7168) : EReal := x (ix2 a b) * r (ix2 a 0)
def gAt (a : Fin 1536) (b : Fin 7168) : EReal := dxnAt ady sdy ws dy w a b * gamma (ix2 0 b)

/-- The input gradient. -/
def dx : Mat 1536 7168 := fun i =>
  dxAt (r (ix2 (i 0) 0)) (gAt ady sdy ws gamma dy w (i 0) (i 1)) (xhatAt x r (i 0) (i 1))
    (meanRow fun j => gAt ady sdy ws gamma dy w (i 0) j * xhatAt x r (i 0) j)

/-- The gradient of gamma: the sum over the tokens of `dxn * xhat`. -/
def dgamma : Mat 1 7168 := fun i => ∑ a : Fin 1536, dxnAt ady sdy ws dy w a (i 1) * xhatAt x r a (i 1)
end

end Cert.Math

end
-- ==== Proof.StatsArith.lean ====
/-
  The mathematics of the statistics, over plain arrays of extended reals and with no program in sight: the inverse root mean
  square of each row, the two largest absolute values and the scales they give.
-/
module

public import proofs.«01_k».proof.Proof.Arith

@[expose] public section

noncomputable section

namespace Cert.Math

open Idealize.ShloMosaic
open scoped BigOperators

/-- The absolute value. -/
def mag (v : EReal) : EReal := max v (-v)

theorem mag_neg (v : EReal) : mag (-v) = mag v := by
  unfold mag; rw [neg_neg, max_comm]

theorem mag_of_nonneg {v : EReal} (h : 0 ≤ v) : mag v = v :=
  max_eq_left ((EReal.neg_le.1 (by simpa using h) : -v ≤ 0).trans h)

theorem mag_nonneg (v : EReal) : 0 ≤ mag v := by
  rcases le_total 0 v with h | h
  · rw [mag_of_nonneg h]; exact h
  · have h' : 0 ≤ -v := EReal.le_neg.1 (by simpa using h)
    rw [← mag_neg, mag_of_nonneg h']; exact h'

theorem mag_mul (a b : EReal) : mag (a * b) = mag a * mag b := by
  rcases le_total 0 a with ha | ha <;> rcases le_total 0 b with hb | hb
  · rw [mag_of_nonneg ha, mag_of_nonneg hb, mag_of_nonneg (mul_nonneg ha hb)]
  · have hb' : 0 ≤ -b := EReal.le_neg.1 (by simpa using hb)
    rw [← mag_neg, ← mul_neg, ← mag_neg b, mag_of_nonneg ha, mag_of_nonneg hb', mag_of_nonneg (mul_nonneg ha hb')]
  · have ha' : 0 ≤ -a := EReal.le_neg.1 (by simpa using ha)
    rw [← mag_neg, ← neg_mul, ← mag_neg a, mag_of_nonneg ha', mag_of_nonneg hb, mag_of_nonneg (mul_nonneg ha' hb)]
  · have ha' : 0 ≤ -a := EReal.le_neg.1 (by simpa using ha)
    have hb' : 0 ≤ -b := EReal.le_neg.1 (by simpa using hb)
    rw [← neg_mul_neg, ← mag_neg a, ← mag_neg b, mag_of_nonneg ha', mag_of_nonneg hb', mag_of_nonneg (mul_nonneg ha' hb')]

/-- A maximum times a number that is not negative. -/
theorem max_mul_le (p q g t : EReal) (h : 0 ≤ g) : max p q * g ≤ t ↔ p * g ≤ t ∧ q * g ≤ t := by
  constructor
  · intro e
    exact ⟨(mul_le_mul_of_nonneg_right (le_max_left p q) h).trans e, (mul_le_mul_of_nonneg_right (le_max_right p q) h).trans e⟩
  · rintro ⟨e1, e2⟩
    rcases max_choice p q with e | e <;> rw [e] <;> assumption

/-- A maximum taken by a fold that starts at minus infinity. -/
theorem fold_max_le {ι : Type} (s : Finset ι) (f : ι → EReal) (t : EReal) : s.fold max ⊥ f ≤ t ↔ ∀ i ∈ s, f i ≤ t := by
  rw [Finset.fold_max_le]
  simp

/-- The inverse root mean square of a row. -/
def rInv (p : Fin 7168 → EReal) : EReal :=
  Ideal.rsqrt (Ideal.div (∑ j : Fin 7168, p j * p j) (Ideal.ofBits .f32 0x45E00000#32) + Ideal.ofBits .f32 0x358637BD#32)

/-- The inverse root mean squares, each in all the 128 columns. -/
def invRms (x : Mat 1536 7168) : Mat 1536 128 := fun i => rInv fun j => x (ix2 (i 0) j)

/-- The largest absolute values of the normalised input and of the output gradient. -/
def amaxX (x : Mat 1536 7168) (gamma : Mat 1 7168) : EReal :=
  ⨆ a : Fin 1536, ⨆ b : Fin 7168, mag (x (ix2 a b) * rInv (fun j => x (ix2 a j)) * gamma (ix2 0 b))
def amaxDy (dy : Mat 1536 2304) : EReal := ⨆ a : Fin 1536, ⨆ b : Fin 2304, mag (dy (ix2 a b))

def statAx (x : Mat 1536 7168) (gamma : Mat 1 7168) : One := fun _ => amaxX x gamma
def statAdy (dy : Mat 1536 2304) : One := fun _ => amaxDy dy

/-- The scales. -/
def statSx (x : Mat 1536 7168) (gamma : Mat 1 7168) : One := fun _ => up (amaxX x gamma * inv448)
def statSdy (dy : Mat 1536 2304) : One := fun _ => up (amaxDy dy * inv57344)

end Cert.Math

end
-- ==== Proof.StatsPay.lean ====
/-
  What one grid point of the idealized statistics call computes, element by element: the rows of the inverse root mean
  squares, and the running maxima, characterised by the numbers that are not below them.
-/
module

public import proofs.«01_k».proof.Proof.StatsArith
public import proofs.«01_k».proof.Proof.StatsTrip

@[expose] public section

set_option maxRecDepth 16384

noncomputable section

namespace Cert.Proof.StatsPay

open Cert.WholeIdeal Cert.WholeIdeal.Gen Cert.WholeIdeal.R0 Idealize.ShloMosaic Idealize.ShloMosaic.TcCoe Idealize.SL.Sem
open scoped BigOperators

theorem ofBits_negInf : Ideal.ofBits .f32 0xFF800000#32 = ⊥ := by
  simp [Ideal.ofBits, Ideal.ieee]

/-- A row's inverse root mean square, and the absolute values of its normalised entries. -/
def rAt {n : ℕ} (x : (⟨2, ![n, 7168]⟩ : Shape).Idx → EReal) (a : Fin n) : EReal := Math.rInv fun j => x (ix2 a j)
def xe {n : ℕ} (x : (⟨2, ![n, 7168]⟩ : Shape).Idx → EReal) (a : Fin n) (b : Fin 7168) : EReal := Math.mag (x (ix2 a b) * rAt x a)
def ye {n : ℕ} (y : (⟨2, ![n, 2304]⟩ : Shape).Idx → EReal) (a : Fin n) (b : Fin 2304) : EReal := Math.mag (y (ix2 a b))

/-! ### The payloads -/

theorem pay8_le (cm : Vec Ideal S8x7168 .f32) (g : Vec Ideal S1x7168 .f32) (t : EReal) :
    (k0_pay8 cm g : EReal) ≤ t ↔ ∀ (u : Fin 8) (b : Fin 7168), (cm (ix2 u b) : EReal) * Math.mag (g (ix2 0 b)) ≤ t := by
  unfold k0_pay8
  simp only [pointwise]
  rw [ofBits_negInf, Math.fold_max_le]
  constructor
  · intro h u b
    exact h (u, b) (Finset.mem_univ _)
  · intro h i _
    exact h i.1 i.2

theorem pay9_le (dm : Vec Ideal S8x2304 .f32) (t : EReal) :
    (k0_pay9 dm : EReal) ≤ t ↔ ∀ (u : Fin 8) (b : Fin 2304), (dm (ix2 u b) : EReal) ≤ t := by
  unfold k0_pay9
  simp only [pointwise]
  rw [ofBits_negInf, Math.fold_max_le]
  constructor
  · intro h u b
    exact h (u, b) (Finset.mem_univ _)
  · intro h i _
    exact h i.1 i.2

/-- The maximum of an array that is the same everywhere. -/
theorem fold_const (f : Fin 8 × Fin 128 → EReal) (v : EReal) (h : ∀ i, f i = v) :
    Finset.fold max (Ideal.ofBits .f32 0xFF800000#32) f Finset.univ = v := by
  refine eq_of_forall_ge_iff fun t => ?_
  rw [ofBits_negInf, Math.fold_max_le]
  constructor
  · intro e
    rw [← h (0, 0)]; exact e _ (Finset.mem_univ _)
  · intro e i _
    rw [h i]; exact e

/-- The words of the exponent search, step by step. -/
theorem pay10_eq (cm : Vec Ideal S8x7168 .f32) (g : Vec Ideal S1x7168 .f32) (w : EReal) (h : k0_pay8 cm g = w) :
    k0_pay10 cm g = fun _ => Math.cap (w * Math.inv448) := by
  unfold k0_pay10
  rw [h]
  rfl
theorem pay11_eq (cm : Vec Ideal S8x7168 .f32) (g : Vec Ideal S1x7168 .f32) (w : EReal) (h : k0_pay8 cm g = w) :
    k0_pay11 cm g = fun _ => Math.stepW (Math.cap (w * Math.inv448)) (Math.stepW (Math.cap (w * Math.inv448)) 0#32 128#32) 64#32 := by
  unfold k0_pay11
  rw [pay10_eq cm g w h]
  rfl
theorem pay12_eq (cm : Vec Ideal S8x7168 .f32) (g : Vec Ideal S1x7168 .f32) :
    k0_pay12 cm g = fun i => IntOp.addi (k0_pay11 cm g i) 32#32 := rfl
theorem pay14_eq (v : EReal) (f : BitVec 32) (i : S8x128.Idx) :
    k0_pay14 (F := Ideal) (fun _ => v) (fun _ => f) (fun _ => IntOp.addi f 32#32) k0_pay13 i
      = Math.expW (Math.stepW v (Math.stepW v (Math.stepW v (Math.stepW v (Math.stepW v (Math.stepW v f 32#32) 16#32) 8#32) 4#32) 2#32) 1#32) := rfl

theorem pay16_const (w : BitVec 32) : k0_pay16 (F := Ideal) (fun _ => w) k0_pay15 = Ideal.ofBits .f32 (IntOp.shli .vector (IntOp.addi w 127#32) 23#32) := by
  unfold k0_pay16
  simp only [pointwise]
  exact fold_const _ _ fun k => rfl

theorem sx_apply (cm : Vec Ideal S8x7168 .f32) (g : Vec Ideal S1x7168 .f32) (i : S1.Idx) :
    sxB cm g i = Math.up ((k0_pay8 cm g : EReal) * Math.inv448) := by
  obtain ⟨w, h⟩ : ∃ w : EReal, k0_pay8 cm g = w := ⟨_, rfl⟩
  unfold sxB
  rw [h, ← Math.upW_eq, pay12_eq, pay11_eq cm g w h, pay10_eq cm g w h]
  unfold Math.upW Math.fieldW
  generalize Math.cap (w * Math.inv448) = v
  rw [funext (pay14_eq v _)]
  exact pay16_const _

theorem pay17_eq (v : EReal) : k0_pay17 (F := Ideal) v = fun _ => Math.cap (v * Math.inv57344) := rfl
theorem pay18_eq (v : EReal) : k0_pay18 (F := Ideal) v = fun _ =>
    Math.stepW (Math.cap (v * Math.inv57344)) (Math.stepW (Math.cap (v * Math.inv57344)) (Math.stepW (Math.cap (v * Math.inv57344)) (Math.stepW (Math.cap (v * Math.inv57344)) 0#32 128#32) 64#32) 32#32) 16#32 := by
  unfold k0_pay18
  rw [pay17_eq]
  generalize Math.cap (v * Math.inv57344) = w
  rfl
theorem pay20_eq (v : EReal) (f : BitVec 32) :
    k0_pay20 (F := Ideal) (fun _ => v) (fun _ => f) k0_pay19
      = Ideal.ofBits .f32 (IntOp.shli .vector (IntOp.addi (Math.expW (Math.stepW v (Math.stepW v (Math.stepW v (Math.stepW v f 8#32) 4#32) 2#32) 1#32)) 127#32) 23#32) := by
  rw [← pay16_const]
  rfl

theorem sy_apply (dm : Vec Ideal S8x2304 .f32) (i : S1.Idx) :
    syB dm i = Math.up ((k0_pay9 dm : EReal) * Math.inv57344) := by
  unfold syB
  generalize k0_pay9 dm = w
  rw [← Math.upW_eq, pay18_eq, pay17_eq, pay20_eq]
  rfl

theorem pay1_apply (i : S8x7168.Idx) : (k0_pay1 (F := Ideal) i : EReal) = 0 := by
  unfold k0_pay1
  simp only [pointwise]
theorem pay2_apply (i : S8x2304.Idx) : (k0_pay2 (F := Ideal) i : EReal) = 0 := by
  unfold k0_pay2
  simp only [pointwise]

theorem pay5_apply (x : Vec Ideal S16x7168 .bf16) (u : Fin 16) (b : Fin 128) : k0_pay5 x (ix2 u b) = rAt x u := by
  unfold k0_pay5 k0_pay4 k0_pay3
  simp only [pointwise]
  rfl

theorem pay6_apply (x : Vec Ideal S16x7168 .bf16) (cm : Vec Ideal S8x7168 .f32) (u : Fin 8) (b : Fin 7168) (p q : Fin 16)
    (hp : p.val = u.val) (hq : q.val = 8 + u.val) : k0_pay6 x cm (ix2 u b) = max (cm (ix2 u b)) (max (xe x p b) (xe x q b)) := by
  obtain ⟨p, hp'⟩ := p
  obtain ⟨q, hq'⟩ := q
  dsimp only at hp hq
  subst hp hq
  unfold k0_pay6 k0_pay4 k0_pay3
  simp only [pointwise]
  simp only [Matrix.cons_val_zero, Matrix.cons_val_one, Nat.zero_add]
  rfl

theorem pay7_apply (y : Vec Ideal S16x2304 .bf16) (dm : Vec Ideal S8x2304 .f32) (u : Fin 8) (b : Fin 2304) (p q : Fin 16)
    (hp : p.val = u.val) (hq : q.val = 8 + u.val) : k0_pay7 y dm (ix2 u b) = max (dm (ix2 u b)) (max (ye y p b) (ye y q b)) := by
  obtain ⟨p, hp'⟩ := p
  obtain ⟨q, hq'⟩ := q
  dsimp only at hp hq
  subst hp hq
  unfold k0_pay7
  simp only [pointwise]
  simp only [Matrix.cons_val_zero, Matrix.cons_val_one, Nat.zero_add]
  rfl

/-! ### The tiles loaded -/

theorem xT_apply (x : Vec Ideal S256x7168 .bf16) (k : Fin k0_t1_loop.trips) (a : Fin 16) (b : Fin 7168) (h : 16 * k.val + a.val < 256) :
    xT x k (ix2 a b) = x (ix2 ⟨16 * k.val + a.val, h⟩ b) := by
  refine View.ld_unit_apply_of x _ _ _ _ _ fun i => ?_
  have e := k0_off1_eq k
  match i with
  | ⟨0, _⟩ => exact congrArg (· + a.val) (congrFun e 0).symm
  | ⟨1, _⟩ => exact (Nat.zero_add _).symm.trans (congrArg (· + b.val) (congrFun e 1).symm)
theorem yT_apply (y : Vec Ideal S256x2304 .bf16) (k : Fin k0_t1_loop.trips) (a : Fin 16) (b : Fin 2304) (h : 16 * k.val + a.val < 256) :
    yT y k (ix2 a b) = y (ix2 ⟨16 * k.val + a.val, h⟩ b) := by
  refine View.ld_unit_apply_of y _ _ _ _ _ fun i => ?_
  have e := k0_off3_eq k
  match i with
  | ⟨0, _⟩ => exact congrArg (· + a.val) (congrFun e 0).symm
  | ⟨1, _⟩ => exact (Nat.zero_add _).symm.trans (congrArg (· + b.val) (congrFun e 1).symm)

theorem trip_lt (k : Fin k0_t1_loop.trips) (a : Fin 16) : 16 * k.val + a.val < 256 := by
  have h := k.isLt
  have e : k0_t1_loop.trips = 16 := trips1
  omega

theorem rAt_tile (x : Vec Ideal S256x7168 .bf16) (k : Fin k0_t1_loop.trips) (a : Fin 16) :
    rAt (xT x k) a = rAt x ⟨16 * k.val + a.val, trip_lt k a⟩ := by
  unfold rAt
  simp only [xT_apply x k a _ (trip_lt k a)]
theorem xe_tile (x : Vec Ideal S256x7168 .bf16) (k : Fin k0_t1_loop.trips) (a : Fin 16) (b : Fin 7168) :
    xe (xT x k) a b = xe x ⟨16 * k.val + a.val, trip_lt k a⟩ b := by
  unfold xe
  rw [rAt_tile, xT_apply x k a b (trip_lt k a)]
theorem ye_tile (y : Vec Ideal S256x2304 .bf16) (k : Fin k0_t1_loop.trips) (a : Fin 16) (b : Fin 2304) :
    ye (yT y k) a b = ye y ⟨16 * k.val + a.val, trip_lt k a⟩ b := by
  unfold ye
  rw [yT_apply y k a b (trip_lt k a)]

/-! ### One point -/

theorem rB_apply (x : Vec Ideal S256x7168 .bf16) (a : Fin 256) (b : Fin 128) : rB x (ix2 a b) = rAt x a := by
  unfold rB tiled
  refine (pay5_apply _ _ _).trans ((rAt_tile x _ _).trans (congrArg (rAt x) (Fin.ext ?_)))
  show 16 * (a.val / 16) + a.val % 16 = a.val
  omega

/-- The rows taken by the first `n` trips whose number leaves `u` on division by eight. -/
theorem rows_step (u : Fin 8) (n : ℕ) (h : n < k0_t1_loop.trips) (P : Fin 256 → Prop) :
    (∀ r : Fin 256, r.val < 16 * (n + 1) → r.val % 8 = u.val → P r)
      ↔ (∀ r : Fin 256, r.val < 16 * n → r.val % 8 = u.val → P r)
        ∧ P ⟨16 * n + u.val, trip_lt ⟨n, h⟩ ⟨u.val, by omega⟩⟩ ∧ P ⟨16 * n + (8 + u.val), trip_lt ⟨n, h⟩ ⟨8 + u.val, by omega⟩⟩ := by
  constructor
  · intro e
    refine ⟨fun r hr hu => e r (by omega) hu, e _ ?_ ?_, e _ ?_ ?_⟩
    · show 16 * n + u.val < 16 * (n + 1); omega
    · show (16 * n + u.val) % 8 = u.val; omega
    · show 16 * n + (8 + u.val) < 16 * (n + 1); omega
    · show (16 * n + (8 + u.val)) % 8 = u.val; omega
  · rintro ⟨e1, e2, e3⟩ r hr hu
    by_cases c1 : r.val < 16 * n
    · exact e1 r c1 hu
    by_cases c2 : r.val < 16 * n + 8
    · have er : r = ⟨16 * n + u.val, trip_lt ⟨n, h⟩ ⟨u.val, by omega⟩⟩ := Fin.ext (by show r.val = 16 * n + u.val; omega)
      rw [er]; exact e2
    · have er : r = ⟨16 * n + (8 + u.val), trip_lt ⟨n, h⟩ ⟨8 + u.val, by omega⟩⟩ := Fin.ext (by show r.val = 16 * n + (8 + u.val); omega)
      rw [er]; exact e3

theorem cmN_le (x : Vec Ideal S256x7168 .bf16) (s : Vec Ideal S8x7168 .f32) (u : Fin 8) (b : Fin 7168) (g t : EReal) (hg : 0 ≤ g) :
    ∀ n, n ≤ k0_t1_loop.trips → ((cmN x s n (ix2 u b) : EReal) * g ≤ t
      ↔ (s (ix2 u b) : EReal) * g ≤ t ∧ ∀ r : Fin 256, r.val < 16 * n → r.val % 8 = u.val → xe x r b * g ≤ t) := by
  intro n
  induction n with
  | zero =>
    intro _
    exact ⟨fun h => ⟨h, fun r hr _ => absurd hr (by omega)⟩, fun h => h.1⟩
  | succ n ih =>
    intro hn
    rw [rows_step u n hn, ← and_assoc, ← ih (Nat.le_of_succ_le hn)]
    have e : cmN x s (n + 1) (ix2 u b) = max (cmN x s n (ix2 u b)) (max (xe x ⟨16 * n + u.val, trip_lt ⟨n, hn⟩ ⟨u.val, by omega⟩⟩ b) (xe x ⟨16 * n + (8 + u.val), trip_lt ⟨n, hn⟩ ⟨8 + u.val, by omega⟩⟩ b)) := by
      rw [← xe_tile x ⟨n, hn⟩ ⟨u.val, by omega⟩ b, ← xe_tile x ⟨n, hn⟩ ⟨8 + u.val, by omega⟩ b, ← pay6_apply (xT x ⟨n, hn⟩) (cmN x s n) u b _ _ rfl rfl]
      exact congrFun (dif_pos hn) _
    rw [e, Math.max_mul_le _ _ _ _ hg, Math.max_mul_le _ _ _ _ hg]

theorem dmN_le (y : Vec Ideal S256x2304 .bf16) (s : Vec Ideal S8x2304 .f32) (u : Fin 8) (b : Fin 2304) (t : EReal) :
    ∀ n, n ≤ k0_t1_loop.trips → ((dmN y s n (ix2 u b) : EReal) ≤ t
      ↔ (s (ix2 u b) : EReal) ≤ t ∧ ∀ r : Fin 256, r.val < 16 * n → r.val % 8 = u.val → ye y r b ≤ t) := by
  intro n
  induction n with
  | zero =>
    intro _
    exact ⟨fun h => ⟨h, fun r hr _ => absurd hr (by omega)⟩, fun h => h.1⟩
  | succ n ih =>
    intro hn
    rw [rows_step u n hn, ← and_assoc, ← ih (Nat.le_of_succ_le hn)]
    have e : dmN y s (n + 1) (ix2 u b) = max (dmN y s n (ix2 u b)) (max (ye y ⟨16 * n + u.val, trip_lt ⟨n, hn⟩ ⟨u.val, by omega⟩⟩ b) (ye y ⟨16 * n + (8 + u.val), trip_lt ⟨n, hn⟩ ⟨8 + u.val, by omega⟩⟩ b)) := by
      rw [← ye_tile y ⟨n, hn⟩ ⟨u.val, by omega⟩ b, ← ye_tile y ⟨n, hn⟩ ⟨8 + u.val, by omega⟩ b, ← pay7_apply (yT y ⟨n, hn⟩) (dmN y s n) u b _ _ rfl rfl]
      exact congrFun (dif_pos hn) _
    rw [e]
    exact max_le_iff.trans (and_congr_right fun _ => max_le_iff)

/-- A point's 256 rows. -/
theorem cmB_le (x : Vec Ideal S256x7168 .bf16) (s : Vec Ideal S8x7168 .f32) (u : Fin 8) (b : Fin 7168) (g t : EReal) (hg : 0 ≤ g) :
    (cmB x s (ix2 u b) : EReal) * g ≤ t ↔ (s (ix2 u b) : EReal) * g ≤ t ∧ ∀ r : Fin 256, r.val % 8 = u.val → xe x r b * g ≤ t := by
  refine (cmN_le x s u b g t hg _ le_rfl).trans (and_congr_right fun _ => forall_congr' fun r => ?_)
  have e : k0_t1_loop.trips = 16 := trips1
  have h := r.isLt
  exact ⟨fun k => k (by omega), fun k _ => k⟩
theorem dmB_le (y : Vec Ideal S256x2304 .bf16) (s : Vec Ideal S8x2304 .f32) (u : Fin 8) (b : Fin 2304) (t : EReal) :
    (dmB y s (ix2 u b) : EReal) ≤ t ↔ (s (ix2 u b) : EReal) ≤ t ∧ ∀ r : Fin 256, r.val % 8 = u.val → ye y r b ≤ t := by
  refine (dmN_le y s u b t _ le_rfl).trans (and_congr_right fun _ => forall_congr' fun r => ?_)
  have e : k0_t1_loop.trips = 16 := trips1
  have h := r.isLt
  exact ⟨fun k => k (by omega), fun k _ => k⟩

end Cert.Proof.StatsPay

end
-- ==== Proof.StatsKernel.lean ====
/-
  What the idealized statistics call leaves in its results: at every grid point 256 rows of the inverse root mean squares,
  and after the last point the two maxima over all the rows and the two scales.
-/
module

public import proofs.«01_k».proof.Proof.StatsPay
public import proofs.«01_k».proof.Proof.StatsFrame

@[expose] public section

set_option maxRecDepth 16384

noncomputable section

namespace Cert.Proof.StatsKernel

open Cert.WholeIdeal Cert.WholeIdeal.Gen Cert.WholeIdeal.R0 Cert.Proof.StatsPay
open Idealize.ShloMosaic Idealize.ShloMosaic.TcCoe Idealize.SL.Sem
open Idealize.ShloMosaic.Pipeline (Dat)
open scoped BigOperators

variable (V : (c : Dev nD) → (b : Ref sig .tc) → Buf (Elt Ideal) ((c : Thread nD τ).loc b))

/-- The block indices: the row strips are the point's own, everything else is whole. -/
theorem index_facts : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ win0_4.index t 0 = 0 ∧ win0_5.index t 0 = 0 ∧ win0_6.index t 0 = 0 ∧ win0_7.index t 0 = 0 := by
  decide +kernel

/-- A point's row in the whole arrays. -/
def row (t : Fin cfg0.N) (a : Fin 256) : Fin 1536 := ⟨256 * t.val + a.val, by have h := t.isLt; have hN : cfg0.N = 6 := N_0; omega⟩

/-! ### The blocks -/

theorem blk0 (c : Dev nD) (t : Fin cfg0.N) (a : Fin 256) (b : Fin 7168) : iblk V c 0 t (ix2 a b) = V c main_arg0 (ix2 (row t a) b) := by
  obtain ⟨e0, e1⟩ := (index_facts t).1
  refine congrArg (V c main_arg0) (Shape.idx_ext₂ ?_ ?_)
  · refine (win0_0.rect_emb_val t (ix2 a b) 0).trans ?_
    rw [e0]
    show t.val * 256 + a.val = 256 * t.val + a.val
    omega
  · refine (win0_0.rect_emb_val t (ix2 a b) 1).trans ?_
    rw [e1]
    show 0 * 7168 + b.val = b.val
    omega
theorem blk1 (c : Dev nD) (t : Fin cfg0.N) : iblk V c 1 t = V c main_arg1 := by
  funext y
  refine congrArg (V c main_arg1) (Shape.idx_ext₂ ?_ ?_)
  · exact win0_1.rect_emb_val_of_index_zero t 0 (index_facts t).2.1.1 y
  · exact win0_1.rect_emb_val_of_index_zero t 1 (index_facts t).2.1.2 y
theorem blk2 (c : Dev nD) (t : Fin cfg0.N) (a : Fin 256) (b : Fin 2304) : iblk V c 2 t (ix2 a b) = V c main_arg4 (ix2 (row t a) b) := by
  obtain ⟨e0, e1⟩ := (index_facts t).2.2.1
  refine congrArg (V c main_arg4) (Shape.idx_ext₂ ?_ ?_)
  · refine (win0_2.rect_emb_val t (ix2 a b) 0).trans ?_
    rw [e0]
    show t.val * 256 + a.val = 256 * t.val + a.val
    omega
  · refine (win0_2.rect_emb_val t (ix2 a b) 1).trans ?_
    rw [e1]
    show 0 * 2304 + b.val = b.val
    omega

theorem rAt_blk (c : Dev nD) (t : Fin cfg0.N) (a : Fin 256) :
    rAt (n := 256) (iblk V c 0 t) a = rAt (n := 1536) (V c main_arg0) (row t a) := by
  unfold rAt
  simp only [blk0]
theorem xe_blk (c : Dev nD) (t : Fin cfg0.N) (a : Fin 256) (b : Fin 7168) :
    xe (n := 256) (iblk V c 0 t) a b = xe (n := 1536) (V c main_arg0) (row t a) b := by
  unfold xe
  rw [rAt_blk, blk0]
theorem ye_blk (c : Dev nD) (t : Fin cfg0.N) (a : Fin 256) (b : Fin 2304) :
    ye (n := 256) (iblk V c 2 t) a b = ye (n := 1536) (V c main_arg4) (row t a) b := by
  unfold ye
  rw [blk2]

/-! ### The maxima over the points -/

/-- The rows of the first `n + 1` points are those of the first `n` and the last one's. -/
theorem points_step (u : Fin 8) (n : ℕ) (h : n < cfg0.N) (P : Fin 1536 → Prop) :
    (∀ r : Fin 1536, r.val < 256 * (n + 1) → r.val % 8 = u.val → P r)
      ↔ (∀ r : Fin 1536, r.val < 256 * n → r.val % 8 = u.val → P r)
        ∧ ∀ a : Fin 256, a.val % 8 = u.val → P (row ⟨n, h⟩ a) := by
  constructor
  · intro e
    refine ⟨fun r hr hu => e r (by omega) hu, fun a ha => e _ ?_ ?_⟩
    · show 256 * n + a.val < 256 * (n + 1); omega
    · show (256 * n + a.val) % 8 = u.val; omega
  · rintro ⟨e1, e2⟩ r hr hu
    by_cases c1 : r.val < 256 * n
    · exact e1 r c1 hu
    have er : r = row ⟨n, h⟩ ⟨r.val - 256 * n, by omega⟩ := Fin.ext (by show r.val = 256 * n + (r.val - 256 * n); omega)
    rw [er]
    refine e2 _ ?_
    show (r.val - 256 * n) % 8 = u.val
    omega

theorem cm_le (c : Dev nD) (u : Fin 8) (b : Fin 7168) (g t : EReal) (hg : 0 ≤ g) : ∀ (n : ℕ) (hn : n < cfg0.N),
    ((sAt V c n hn).1 (ix2 u b) : EReal) * g ≤ t
      ↔ 0 * g ≤ t ∧ ∀ r : Fin 1536, r.val < 256 * (n + 1) → r.val % 8 = u.val → xe (n := 1536) (V c main_arg0) r b * g ≤ t := by
  intro n
  induction n with
  | zero =>
    intro hn
    refine (cmB_le (iblk V c 0 ⟨0, hn⟩) (k0_pay1 (F := Ideal)) u b g t hg).trans ?_
    rw [pay1_apply, points_step u 0 hn]
    simp only [xe_blk]
    exact and_congr_right fun _ => ⟨fun k => ⟨fun r hr => absurd hr (by omega), k⟩, fun k => k.2⟩
  | succ n ih =>
    intro hn
    refine (cmB_le (iblk V c 0 ⟨n + 1, hn⟩) (sAt V c n (Nat.lt_of_succ_lt hn)).1 u b g t hg).trans ?_
    rw [ih (Nat.lt_of_succ_lt hn), points_step u (n + 1) hn, and_assoc]
    simp only [xe_blk]

theorem dm_le (c : Dev nD) (u : Fin 8) (b : Fin 2304) (t : EReal) : ∀ (n : ℕ) (hn : n < cfg0.N),
    ((sAt V c n hn).2 (ix2 u b) : EReal) ≤ t
      ↔ 0 ≤ t ∧ ∀ r : Fin 1536, r.val < 256 * (n + 1) → r.val % 8 = u.val → ye (n := 1536) (V c main_arg4) r b ≤ t := by
  intro n
  induction n with
  | zero =>
    intro hn
    refine (dmB_le (iblk V c 2 ⟨0, hn⟩) (k0_pay2 (F := Ideal)) u b t).trans ?_
    rw [pay2_apply, points_step u 0 hn]
    simp only [ye_blk]
    exact and_congr_right fun _ => ⟨fun k => ⟨fun r hr => absurd hr (by omega), k⟩, fun k => k.2⟩
  | succ n ih =>
    intro hn
    refine (dmB_le (iblk V c 2 ⟨n + 1, hn⟩) (sAt V c n (Nat.lt_of_succ_lt hn)).2 u b t).trans ?_
    rw [ih (Nat.lt_of_succ_lt hn), points_step u (n + 1) hn, and_assoc]
    simp only [ye_blk]

/-- The largest absolute value of the normalised input, after the last point. -/
theorem ax_eq (c : Dev nD) (n : ℕ) (hn : n < cfg0.N) (h5 : n + 1 = 6) :
    (k0_pay8 (sAt V c n hn).1 (V c main_arg1) : EReal) = Math.amaxX (V c main_arg0) (V c main_arg1) := by
  refine eq_of_forall_ge_iff fun t => ?_
  rw [pay8_le]
  unfold Math.amaxX
  simp only [iSup_le_iff, Math.mag_mul _ (V c main_arg1 _)]
  simp only [cm_le V c _ _ _ t (Math.mag_nonneg _), h5]
  constructor
  · intro h a b
    exact (h ⟨a.val % 8, Nat.mod_lt _ (by decide)⟩ b).2 a a.isLt rfl
  · intro h u b
    refine ⟨?_, fun r _ _ => h r b⟩
    rw [zero_mul]
    exact (mul_nonneg (Math.mag_nonneg _) (Math.mag_nonneg _)).trans (h 0 b)

/-- The largest absolute value of the output gradient, after the last point. -/
theorem ay_eq (c : Dev nD) (n : ℕ) (hn : n < cfg0.N) (h5 : n + 1 = 6) :
    (k0_pay9 (sAt V c n hn).2 : EReal) = Math.amaxDy (V c main_arg4) := by
  refine eq_of_forall_ge_iff fun t => ?_
  rw [pay9_le]
  unfold Math.amaxDy
  simp only [iSup_le_iff]
  simp only [dm_le V c _ _ t, h5]
  constructor
  · intro h a b
    exact (h ⟨a.val % 8, Nat.mod_lt _ (by decide)⟩ b).2 a a.isLt rfl
  · intro h u b
    exact ⟨(Math.mag_nonneg _).trans (h 0 b), fun r _ _ => h r b⟩

/-! ### The result arrays -/

theorem out3 (c : Dev nD) (t : Fin cfg0.N) (a : Fin 256) (b : Fin 128) :
    (dat V c).after 3 t (ix2 a b) = Math.invRms (V c main_arg0) (ix2 (row t a) b) := by
  rw [after0_3, rB_apply, rAt_blk]
  rfl

theorem final3 (c : Dev nD) : (dat V c).arrAt 3 cfg0.N = Math.invRms (V c main_arg0) := by
  refine (dat V c).arrAt_eq_of_cover 3 _ (fun t _ => ?_) fun i => ?_
  · obtain ⟨e0, e1⟩ := (index_facts t).2.2.2.1
    funext j
    show (dat V c).after 3 t j = _
    have ej : j = ix2 (j 0) (j 1) := Shape.idx_ext₂ rfl rfl
    refine (congrArg ((dat V c).after 3 t) ej).trans ((out3 V c t (j 0) (j 1)).trans ?_)
    refine congrArg (Math.invRms (V c main_arg0)) (Shape.idx_ext₂ ?_ ?_)
    · refine Eq.trans ?_ (win0_3.rect_emb_val t j 0).symm
      rw [e0]
      show 256 * t.val + (j 0 : Nat) = t.val * 256 + (j 0 : Nat)
      omega
    · refine Eq.trans ?_ (win0_3.rect_emb_val t j 1).symm
      rw [e1]
      show (j 1 : Nat) = 0 * 128 + (j 1 : Nat)
      omega
  · have h0 : (i 0 : Nat) < 1536 := (i 0).isLt
    have h1 : (i 1 : Nat) < 128 := (i 1).isLt
    have hN : cfg0.N = 6 := N_0
    have ht : (i 0 : Nat) / 256 < cfg0.N := by rw [hN]; omega
    refine ⟨⟨(i 0 : Nat) / 256, ht⟩, flush0_3 _, ?_⟩
    obtain ⟨e0, e1⟩ := (index_facts ⟨(i 0 : Nat) / 256, ht⟩).2.2.2.1
    show i ∈ ((View.whole main_v0_0).slice (win0_3.rect ⟨(i 0 : Nat) / 256, ht⟩)).set
    rw [View.set_slice_whole, Rect.mem_set_unit]
    intro a
    match a with
    | ⟨0, _⟩ =>
      show win0_3.index _ 0 * 256 ≤ (i 0 : Nat) ∧ (i 0 : Nat) < win0_3.index _ 0 * 256 + 256
      rw [e0]; dsimp only; omega
    | ⟨1, _⟩ =>
      show win0_3.index _ 1 * 128 ≤ (i 1 : Nat) ∧ (i 1 : Nat) < win0_3.index _ 1 * 128 + 128
      rw [e1]; omega

theorem final4 (c : Dev nD) : (dat V c).arrAt 4 cfg0.N = Math.statAx (V c main_arg0) (V c main_arg1) := by
  refine (dat V c).arrAt_eq_of_cover 4 _ (fun t hf => ?_) fun i => ?_
  · have h5 := (flush0_4 t).mp hf
    have hN : t.val < 6 := lt_of_lt_of_eq t.isLt (show cfg0.N = 6 from N_0)
    funext j
    show (dat V c).after 4 t j = _
    rw [after0_4, blk1]
    exact ax_eq V c t.val t.isLt (by omega)
  · have hN : 5 < cfg0.N := lt_of_lt_of_eq (by decide) N_0.symm
    refine ⟨⟨5, hN⟩, (flush0_4 _).mpr rfl, ?_⟩
    have e0 := (index_facts ⟨5, hN⟩).2.2.2.2.1
    show i ∈ ((View.whole main_v0_1).slice (win0_4.rect ⟨5, hN⟩)).set
    rw [View.set_slice_whole, Rect.mem_set_unit]
    have h0 : (i 0 : Nat) < 1 := (i 0).isLt
    intro a
    match a with
    | ⟨0, _⟩ =>
      show win0_4.index _ 0 * 1 ≤ (i 0 : Nat) ∧ (i 0 : Nat) < win0_4.index _ 0 * 1 + 1
      rw [e0]; omega

theorem final5 (c : Dev nD) : (dat V c).arrAt 5 cfg0.N = Math.statAdy (V c main_arg4) := by
  refine (dat V c).arrAt_eq_of_cover 5 _ (fun t hf => ?_) fun i => ?_
  · have h5 := (flush0_5 t).mp hf
    have hN : t.val < 6 := lt_of_lt_of_eq t.isLt (show cfg0.N = 6 from N_0)
    funext j
    show (dat V c).after 5 t j = _
    rw [after0_5]
    exact ay_eq V c t.val t.isLt (by omega)
  · have hN : 5 < cfg0.N := lt_of_lt_of_eq (by decide) N_0.symm
    refine ⟨⟨5, hN⟩, (flush0_5 _).mpr rfl, ?_⟩
    have e0 := (index_facts ⟨5, hN⟩).2.2.2.2.2.1
    show i ∈ ((View.whole main_v0_2).slice (win0_5.rect ⟨5, hN⟩)).set
    rw [View.set_slice_whole, Rect.mem_set_unit]
    have h0 : (i 0 : Nat) < 1 := (i 0).isLt
    intro a
    match a with
    | ⟨0, _⟩ =>
      show win0_5.index _ 0 * 1 ≤ (i 0 : Nat) ∧ (i 0 : Nat) < win0_5.index _ 0 * 1 + 1
      rw [e0]; omega

theorem final6 (c : Dev nD) : (dat V c).arrAt 6 cfg0.N = Math.statSx (V c main_arg0) (V c main_arg1) := by
  refine (dat V c).arrAt_eq_of_cover 6 _ (fun t hf => ?_) fun i => ?_
  · have h5 := (flush0_6 t).mp hf
    have hN : t.val < 6 := lt_of_lt_of_eq t.isLt (show cfg0.N = 6 from N_0)
    funext j
    show (dat V c).after 6 t j = _
    rw [after0_6, blk1]
    rw [sx_apply, ax_eq V c t.val t.isLt (by omega)]
    rfl
  · have hN : 5 < cfg0.N := lt_of_lt_of_eq (by decide) N_0.symm
    refine ⟨⟨5, hN⟩, (flush0_6 _).mpr rfl, ?_⟩
    have e0 := (index_facts ⟨5, hN⟩).2.2.2.2.2.2.1
    show i ∈ ((View.whole main_v0_3).slice (win0_6.rect ⟨5, hN⟩)).set
    rw [View.set_slice_whole, Rect.mem_set_unit]
    have h0 : (i 0 : Nat) < 1 := (i 0).isLt
    intro a
    match a with
    | ⟨0, _⟩ =>
      show win0_6.index _ 0 * 1 ≤ (i 0 : Nat) ∧ (i 0 : Nat) < win0_6.index _ 0 * 1 + 1
      rw [e0]; omega

theorem final7 (c : Dev nD) : (dat V c).arrAt 7 cfg0.N = Math.statSdy (V c main_arg4) := by
  refine (dat V c).arrAt_eq_of_cover 7 _ (fun t hf => ?_) fun i => ?_
  · have h5 := (flush0_7 t).mp hf
    have hN : t.val < 6 := lt_of_lt_of_eq t.isLt (show cfg0.N = 6 from N_0)
    funext j
    show (dat V c).after 7 t j = _
    rw [after0_7]
    rw [sy_apply, ay_eq V c t.val t.isLt (by omega)]
    rfl
  · have hN : 5 < cfg0.N := lt_of_lt_of_eq (by decide) N_0.symm
    refine ⟨⟨5, hN⟩, (flush0_7 _).mpr rfl, ?_⟩
    have e0 := (index_facts ⟨5, hN⟩).2.2.2.2.2.2.2
    show i ∈ ((View.whole main_v0_4).slice (win0_7.rect ⟨5, hN⟩)).set
    rw [View.set_slice_whole, Rect.mem_set_unit]
    have h0 : (i 0 : Nat) < 1 := (i 0).isLt
    intro a
    match a with
    | ⟨0, _⟩ =>
      show win0_7.index _ 0 * 1 ≤ (i 0 : Nat) ∧ (i 0 : Nat) < win0_7.index _ 0 * 1 + 1
      rw [e0]; omega

end Cert.Proof.StatsKernel

end
-- ==== Proof.DgradPay.lean ====
/-
  What one grid point of the idealized input gradient call computes, element by element: its tiles put together are the
  mathematics of `Arith` on the point's 256 rows.
-/
module

public import proofs.«01_k».proof.Proof.Arith
public import proofs.«01_k».proof.Proof.DgradTrip

@[expose] public section

set_option maxRecDepth 16384

noncomputable section

namespace Cert.Proof.DgradPay

open Cert.WholeIdeal Cert.WholeIdeal.Gen Cert.WholeIdeal.R1 Idealize.ShloMosaic Idealize.ShloMosaic.TcCoe Idealize.SL.Sem
open scoped BigOperators

/-! ### Sums over consecutive numbers -/

/-- A family over the first `n` numbers, zero beyond. -/
def pad {n : ℕ} (g : Fin n → EReal) : ℕ → EReal := fun j => if h : j < n then g ⟨j, h⟩ else 0

theorem pad_of {n : ℕ} (g : Fin n → EReal) (j : Fin n) : pad g j.val = g j := dif_pos j.isLt

theorem sum_pad {n : ℕ} (g : Fin n → EReal) : ∑ j : Fin n, g j = ∑ j ∈ Finset.range n, pad g j := by
  rw [Finset.sum_range]
  exact Finset.sum_congr rfl fun j _ => (pad_of g j).symm

/-- Four groups of 128 lanes. -/
theorem lanes (f : ℕ → EReal) : ∑ l ∈ Finset.range 128, (f l + f (128 + l) + f (256 + l) + f (384 + l)) = ∑ j ∈ Finset.range 512, f j := by
  rw [show (512 : ℕ) = 128 + 128 + 128 + 128 from rfl, Finset.sum_range_add, Finset.sum_range_add, Finset.sum_range_add]
  simp only [Finset.sum_add_distrib]

/-- Rows taken eight apart. -/
theorem rows8 (f : ℕ → EReal) (n : ℕ) : ∑ u ∈ Finset.range 8, ∑ v ∈ Finset.range n, f (8 * v + u) = ∑ j ∈ Finset.range (8 * n), f j := by
  induction n with
  | zero => simp
  | succ n ih =>
    simp only [Finset.sum_range_succ _ n, Finset.sum_add_distrib]
    rw [ih, Nat.mul_succ, Finset.sum_range_add]

/-! ### The tiles loaded -/

theorem wT_apply (w : Vec Ideal S7168x2304 .fp8e4m3) (k : Fin k1_t1_loop.trips) (b : Fin 512) (q : Fin 2304) (h : 512 * k.val + b.val < 7168) :
    wT w k (ix2 b q) = w (ix2 ⟨512 * k.val + b.val, h⟩ q) := by
  refine View.ld_unit_apply_of w _ _ _ _ _ fun a => ?_
  have e := k1_off1_eq k
  match a with
  | ⟨0, _⟩ => exact congrArg (· + b.val) (congrFun e 0).symm
  | ⟨1, _⟩ => exact (Nat.zero_add _).symm.trans (congrArg (· + q.val) (congrFun e 1).symm)
theorem xT_apply (x : Vec Ideal S256x7168 .bf16) (k : Fin k1_t1_loop.trips) (a : Fin 256) (b : Fin 512) (h : 512 * k.val + b.val < 7168) :
    xT x k (ix2 a b) = x (ix2 a ⟨512 * k.val + b.val, h⟩) := by
  refine View.ld_unit_apply_of x _ _ _ _ _ fun i => ?_
  have e := k1_off2_eq k
  match i with
  | ⟨0, _⟩ => exact (Nat.zero_add _).symm.trans (congrArg (· + a.val) (congrFun e 0).symm)
  | ⟨1, _⟩ => exact congrArg (· + b.val) (congrFun e 1).symm
theorem gT_apply (x : Vec Ideal S1x7168 .f32) (k : Fin k1_t1_loop.trips) (b : Fin 512) (h : 512 * k.val + b.val < 7168) :
    gT x k (ix2 0 b) = x (ix2 0 ⟨512 * k.val + b.val, h⟩) := by
  refine View.ld_unit_apply_of x _ _ _ _ _ fun i => ?_
  have e := k1_off3_eq k
  match i with
  | ⟨0, _⟩ => exact (Nat.zero_add _).symm.trans (congrArg (· + 0) (congrFun e 0).symm)
  | ⟨1, _⟩ => exact congrArg (· + b.val) (congrFun e 1).symm
theorem sT_apply (x : Vec Ideal S8x7168 .f32) (k : Fin k1_t1_loop.trips) (a : Fin 8) (b : Fin 512) (h : 512 * k.val + b.val < 7168) :
    sT x k (ix2 a b) = x (ix2 a ⟨512 * k.val + b.val, h⟩) := by
  refine View.ld_unit_apply_of x _ _ _ _ _ fun i => ?_
  have e := k1_off4_eq k
  match i with
  | ⟨0, _⟩ => exact (Nat.zero_add _).symm.trans (congrArg (· + a.val) (congrFun e 0).symm)
  | ⟨1, _⟩ => exact congrArg (· + b.val) (congrFun e 1).symm
theorem xT2_apply (x : Vec Ideal S256x7168 .bf16) (k : Fin k1_t2_loop.trips) (a : Fin 256) (b : Fin 512) (h : 512 * k.val + b.val < 7168) :
    xT2 x k (ix2 a b) = x (ix2 a ⟨512 * k.val + b.val, h⟩) := by
  refine View.ld_unit_apply_of x _ _ _ _ _ fun i => ?_
  have e := k1_off5_eq k
  match i with
  | ⟨0, _⟩ => exact (Nat.zero_add _).symm.trans (congrArg (· + a.val) (congrFun e 0).symm)
  | ⟨1, _⟩ => exact congrArg (· + b.val) (congrFun e 1).symm
theorem rT2_apply (x : Vec Ideal S256x7168 .f32) (k : Fin k1_t2_loop.trips) (a : Fin 256) (b : Fin 512) (h : 512 * k.val + b.val < 7168) :
    rT2 x k (ix2 a b) = x (ix2 a ⟨512 * k.val + b.val, h⟩) := by
  refine View.ld_unit_apply_of x _ _ _ _ _ fun i => ?_
  have e := k1_off5_eq k
  match i with
  | ⟨0, _⟩ => exact (Nat.zero_add _).symm.trans (congrArg (· + a.val) (congrFun e 0).symm)
  | ⟨1, _⟩ => exact congrArg (· + b.val) (congrFun e 1).symm

/-! ### The payloads -/

/-- The column of `r` in use. -/
theorem pay23_apply (r : Vec Ideal S256x128 .f32) (i : S256x1.Idx) : k1_pay24 r i = r (ix2 (i 0) 0) := by
  unfold k1_pay24
  simp only [pointwise]
  simp only [Matrix.cons_val_zero, zero_add]
  rfl

theorem pay23_col (r : Vec Ideal S256x128 .f32) : k1_pay24 r = fun i => r (ix2 (i 0) 0) := funext (pay23_apply r)

theorem vDown_apply (v : Elt Ideal .f32) (i : S1x1.Idx) : vDown (F := Ideal) v i = Math.down (v * Math.inv448) := by
  rw [← Math.downW_eq]; rfl

theorem dyB_apply (v : Elt Ideal .f32) (y : Vec Ideal S256x2304 .bf16) (i : S256x2304.Idx) : dyB v y i = Math.dyCode v (y i) := by
  unfold Math.dyCode
  rw [← Math.downW_eq]; rfl

theorem pay3_apply (s : Elt Ideal .f32) (v : Elt Ideal .f32) (y : Vec Ideal S256x2304 .bf16) (z : Vec Ideal S512x2304 .fp8e4m3) (i : S256x512.Idx) :
    k1_pay4 s (dyB v y) z i = Math.dxn (fun k => y (ix2 (i 0) k)) (fun k => z (ix2 (i 1) k)) v s := by
  unfold k1_pay4
  simp only [pointwise]
  simp only [dyB_apply]
  simp
  rfl

theorem pay4_apply (r : Vec Ideal S256x128 .f32) (x : Vec Ideal S256x512 .bf16) (i : S256x512.Idx) :
    k1_pay5 (k1_pay24 r) x i = x i * r (ix2 (i 0) 0) := by
  unfold k1_pay5
  simp only [pointwise]
  rw [pay23_apply]
  rfl

theorem pay5_apply (v : Elt Ideal .f32) (r : Vec Ideal S256x128 .f32) (x : Vec Ideal S256x512 .bf16) (g : Vec Ideal S1x512 .f32) (i : S256x512.Idx) :
    k1_pay6 (vDown v) (k1_pay24 r) x g i = Math.xCode v (x i) (r (ix2 (i 0) 0)) (g (ix2 0 (i 1))) := by
  unfold k1_pay6
  simp only [pointwise]
  rw [pay4_apply, vDown_apply]
  rfl

theorem pay7_apply (s v : Elt Ideal .f32) (y : Vec Ideal S256x2304 .bf16) (z : Vec Ideal S512x2304 .fp8e4m3) (g : Vec Ideal S1x512 .f32) (i : S256x512.Idx) :
    k1_pay8 s (dyB v y) z g i = Math.dxn (fun k => y (ix2 (i 0) k)) (fun k => z (ix2 (i 1) k)) v s * g (ix2 0 (i 1)) := by
  unfold k1_pay8
  simp only [pointwise]
  rw [pay3_apply]
  rfl

theorem pay8_apply (s v : Elt Ideal .f32) (y : Vec Ideal S256x2304 .bf16) (z : Vec Ideal S512x2304 .fp8e4m3) (g : Vec Ideal S1x512 .f32) (i : S256x512.Idx) :
    k1_pay9 s (dyB v y) z g i = Math.dxn (fun k => y (ix2 (i 0) k)) (fun k => z (ix2 (i 1) k)) v s * g (ix2 0 (i 1)) := by
  unfold k1_pay9
  simp only [pointwise]
  rw [pay7_apply]

theorem pay6_apply (s v : Elt Ideal .f32) (r : Vec Ideal S256x128 .f32) (y : Vec Ideal S256x2304 .bf16) (z : Vec Ideal S512x2304 .fp8e4m3)
    (x : Vec Ideal S256x512 .bf16) (o : Vec Ideal S8x512 .f32) (u : Fin 8) (b : Fin 512) :
    k1_pay7 s (k1_pay24 r) (dyB v y) z x o (ix2 u b)
      = o (ix2 u b) + ∑ w : Fin 32, Math.dxn (fun k => y (ix2 ⟨8 * w.val + u.val, by omega⟩ k)) (fun k => z (ix2 b k)) v s
          * (x (ix2 ⟨8 * w.val + u.val, by omega⟩ b) * r (ix2 ⟨8 * w.val + u.val, by omega⟩ 0)) := by
  unfold k1_pay7
  simp only [pointwise]
  congr 1
  refine Finset.sum_congr rfl fun w _ => ?_
  rw [pay3_apply, pay4_apply]
  have e : (⟨w.val * 8 + u.val, by omega⟩ : Fin 256) = ⟨8 * w.val + u.val, by omega⟩ := Fin.ext (by dsimp only; omega)
  simp only [← e]
  rfl

theorem pay2_apply (s : Vec Ideal S8x7168 .f32) (i : S1x7168.Idx) : k1_pay3 s i = ∑ u : Fin 8, s (ix2 u (i 1)) := by
  unfold k1_pay3
  simp only [pointwise]

theorem pay9_apply (i : S8x7168.Idx) : k1_pay10 (F := Ideal) i = 0 := by
  unfold k1_pay10
  simp only [pointwise]

theorem pay24_apply (i : S256x128.Idx) : k1_pay25 (F := Ideal) i = 0 := by
  unfold k1_pay25
  simp only [pointwise]

theorem pay25_apply (o : FVec Ideal S256x128 .f32) (x g : FVec Ideal S256x512 .f32) (a : Fin 256) (l : Fin 128) :
    k1_pay1 o x g (ix2 a l) = o (ix2 a l) + (g (ix2 a ⟨l.val, by omega⟩) * x (ix2 a ⟨l.val, by omega⟩) + g (ix2 a ⟨128 + l.val, by omega⟩) * x (ix2 a ⟨128 + l.val, by omega⟩)
      + g (ix2 a ⟨256 + l.val, by omega⟩) * x (ix2 a ⟨256 + l.val, by omega⟩) + g (ix2 a ⟨384 + l.val, by omega⟩) * x (ix2 a ⟨384 + l.val, by omega⟩)) := by
  unfold k1_pay1
  simp only [pointwise]
  simp only [add_assoc, Matrix.cons_val_zero, Matrix.cons_val_one, zero_add]

theorem pay1_apply (r : Vec Ideal S256x128 .f32) (o : FVec Ideal S256x128 .f32) (x : Vec Ideal S256x512 .bf16) (g : Vec Ideal S256x512 .f32) (i : S256x512.Idx) :
    k1_pay2 (k1_pay24 r) o x g i = Math.dxAt (r (ix2 (i 0) 0)) (g i) (x i * r (ix2 (i 0) 0))
      (Ideal.div (∑ l : Fin 128, o (ix2 (i 0) l)) (Ideal.ofBits .f32 0x45E00000#32)) := by
  unfold k1_pay2
  simp only [pointwise]
  simp only [pay23_apply]
  rfl

/-! ### The point's results -/

/-- Every column is a column of a tile. -/
theorem split_col (b : Fin 7168) : ∃ (k : ℕ) (q : Fin 512) (hk : k < 14), 512 * k + q.val = b.val ∧ b.val / 512 = k ∧ b.val % 512 = q.val :=
  ⟨b.val / 512, ⟨b.val % 512, Nat.mod_lt _ (by decide)⟩, by omega, Nat.div_add_mod _ _, rfl, rfl⟩

/-- An element of a matrix made of column tiles. -/
theorem tiled_apply {R n : ℕ} {e : EltTy} (hn : n = 14) (W : Fin n → (⟨2, ![R, 512]⟩ : Shape).Idx → Elt Ideal e) (a : Fin R) (b : Fin 7168) :
    tiled hn W (ix2 a b) = W ⟨b.val / 512, by omega⟩ (ix2 a ⟨b.val % 512, Nat.mod_lt _ (by decide)⟩) := rfl

theorem col_lt {n : ℕ} (hn : n = 14) (k : Fin n) (q : Fin 512) : 512 * k.val + q.val < 7168 := by omega

theorem col_eq (b : Fin 7168) (h : 512 * (b.val / 512) + b.val % 512 < 7168) : (⟨512 * (b.val / 512) + b.val % 512, h⟩ : Fin 7168) = b :=
  Fin.ext (Nat.div_add_mod _ _)

section
variable (x0 x1 x2 x3 : Vec Ideal S1 .f32) (x4 : Vec Ideal S256x7168 .bf16) (x5 : Vec Ideal S1x7168 .f32) (x6 : Vec Ideal S256x2304 .bf16) (x7 : Vec Ideal S7168x2304 .fp8e4m3) (x8 : Vec Ideal S256x128 .f32)

/-- The gradient of the normalised input, and the normalised input, on the point's rows. -/
def dxnL (a : Fin 256) (b : Fin 7168) : EReal :=
  Math.dxn (fun k => x6 (ix2 a k)) (fun k => x7 (ix2 b k)) (scal (F := Ideal) x1) ((scal (F := Ideal) x2 : EReal) * scal (F := Ideal) x3)
def xhatL (a : Fin 256) (b : Fin 7168) : EReal := (x4 (ix2 a b) : EReal) * x8 (ix2 a 0)
def gL (a : Fin 256) (b : Fin 7168) : EReal := dxnL x1 x2 x3 x6 x7 a b * x5 (ix2 0 b)

theorem xcB_apply (a : Fin 256) (b : Fin 7168) :
    xcB x0 x4 x5 x8 (ix2 a b) = Math.xCode (scal (F := Ideal) x0) (x4 (ix2 a b)) (x8 (ix2 a 0)) (x5 (ix2 0 b)) := by
  unfold xcB
  rw [tiled_apply, pay5_apply]
  rw [xT_apply x4 _ a _ (by dsimp only; omega)]
  have eg := gT_apply x5 ⟨b.val / 512, by rw [trips1]; omega⟩ ⟨b.val % 512, Nat.mod_lt _ (by decide)⟩ (by dsimp only; omega)
  have eb := col_eq b (by omega)
  refine congrArg₂ (fun p q => Math.xCode (scal (F := Ideal) x0) p (x8 (ix2 a 0)) q) ?_ ?_
  · exact congrArg (fun b => x4 (ix2 a b)) eb
  · exact eg.trans (congrArg (fun b => x5 (ix2 0 b)) eb)

/-- A tile's part of `dxn`. -/
theorem dxn_tile (k : Fin k1_t1_loop.trips) (a : Fin 256) (q : Fin 512) :
    Math.dxn (fun j => x6 (ix2 a j)) (fun j => wT x7 k (ix2 q j)) (scal (F := Ideal) x1) (k1_pay22 (scal x2) (scal x3))
      = dxnL x1 x2 x3 x6 x7 a ⟨512 * k.val + q.val, col_lt trips1 k q⟩ := by
  unfold dxnL
  simp only [wT_apply x7 k q _ (col_lt trips1 k q)]
  rfl

theorem g_tile (k : Fin k1_t1_loop.trips) (a : Fin 256) (q : Fin 512) :
    k1_pay8 (k1_pay22 (scal x2) (scal x3)) (dyB (scal x1) x6) (wT x7 k) (gT x5 k) (ix2 a q)
      = gL x1 x2 x3 x5 x6 x7 a ⟨512 * k.val + q.val, col_lt trips1 k q⟩ := by
  rw [pay7_apply]
  exact congrArg₂ (fun p q : EReal => p * q) (dxn_tile x1 x2 x3 x6 x7 k a q) (gT_apply x5 k q (col_lt trips1 k q))

theorem xhat_tile (k : Fin k1_t1_loop.trips) (a : Fin 256) (q : Fin 512) :
    k1_pay5 (k1_pay24 x8) (xT x4 k) (ix2 a q) = xhatL x4 x8 a ⟨512 * k.val + q.val, col_lt trips1 k q⟩ := by
  rw [pay4_apply, xT_apply x4 k a q (col_lt trips1 k q)]
  rfl

/-- The weighted gradient kept for the second loop. -/
theorem rawB_apply (a : Fin 256) (b : Fin 7168) : rawB x1 x2 x3 x5 x6 x7 (ix2 a b) = gL x1 x2 x3 x5 x6 x7 a b := by
  unfold rawB
  rw [tiled_apply, pay8_apply]
  refine Eq.trans ?_ (congrArg (gL x1 x2 x3 x5 x6 x7 a) (col_eq b (by omega)))
  exact (pay7_apply _ _ _ _ _ _).symm.trans (g_tile x1 x2 x3 x5 x6 x7 _ a _)

/-- The partial sums of gamma's gradient. -/
theorem sumB_apply (s : Vec Ideal S8x7168 .f32) (u : Fin 8) (b : Fin 7168) :
    sumB x1 x2 x3 x4 x6 x7 x8 s (ix2 u b)
      = s (ix2 u b) + ∑ w : Fin 32, dxnL x1 x2 x3 x6 x7 ⟨8 * w.val + u.val, by omega⟩ b * xhatL x4 x8 ⟨8 * w.val + u.val, by omega⟩ b := by
  unfold sumB
  rw [tiled_apply, pay6_apply]
  have eb := col_eq b (by omega)
  refine congrArg₂ (fun p q : EReal => p + q) ?_ (Finset.sum_congr rfl fun w _ => congrArg₂ (fun p q : EReal => p * q) ?_ ?_)
  · exact (sT_apply s _ u _ (by dsimp only; omega)).trans (congrArg (fun b => s (ix2 u b)) eb)
  · exact (dxn_tile x1 x2 x3 x6 x7 _ _ _).trans (congrArg (dxnL x1 x2 x3 x6 x7 _) eb)
  · exact (pay4_apply x8 _ (ix2 _ _)).symm.trans ((xhat_tile x4 x8 _ _ _).trans (congrArg (xhatL x4 x8 _) eb))

/-- The row sums lane by lane after `n` tiles. -/
theorem laneB_apply (a : Fin 256) (l : Fin 128) : ∀ n ≤ 14, laneB x1 x2 x3 x4 x5 x6 x7 x8 n (ix2 a l)
    = ∑ k ∈ Finset.range n, (fun f : ℕ → EReal => f (512 * k + l.val) + f (512 * k + (128 + l.val)) + f (512 * k + (256 + l.val)) + f (512 * k + (384 + l.val)))
        (pad fun j => gL x1 x2 x3 x5 x6 x7 a j * xhatL x4 x8 a j) := by
  intro n
  induction n with
  | zero => intro _; rw [Finset.range_zero, Finset.sum_empty]; exact pay24_apply _
  | succ n ih =>
    intro hn
    have h : n < k1_t1_loop.trips := by rw [trips1]; omega
    rw [Finset.sum_range_succ, ← ih (by omega)]
    conv_lhs => unfold laneB
    rw [dif_pos h, pay25_apply]
    simp only [g_tile, xhat_tile]
    have e (q : Fin 512) := pad_of (fun j => gL x1 x2 x3 x5 x6 x7 a j * xhatL x4 x8 a j) ⟨512 * n + q.val, by omega⟩
    have e0 := e ⟨l.val, by omega⟩
    have e1 := e ⟨128 + l.val, by omega⟩
    have e2 := e ⟨256 + l.val, by omega⟩
    have e3 := e ⟨384 + l.val, by omega⟩
    dsimp only at e0 e1 e2 e3 ⊢
    rw [e0, e1, e2, e3]

theorem lane_total (a : Fin 256) : ∑ l : Fin 128, laneB x1 x2 x3 x4 x5 x6 x7 x8 k1_t1_loop.trips (ix2 a l)
    = ∑ j : Fin 7168, gL x1 x2 x3 x5 x6 x7 a j * xhatL x4 x8 a j := by
  rw [sum_pad (n := 7168)]
  simp only [trips1, laneB_apply x1 x2 x3 x4 x5 x6 x7 x8 a _ 14 le_rfl]
  generalize (pad fun j => gL x1 x2 x3 x5 x6 x7 a j * xhatL x4 x8 a j) = f
  rw [Finset.sum_comm]
  have e (k : ℕ) : ∑ l : Fin 128, (f (512 * k + l.val) + f (512 * k + (128 + l.val)) + f (512 * k + (256 + l.val)) + f (512 * k + (384 + l.val)))
      = ∑ j ∈ Finset.range 512, f (512 * k + j) := by
    rw [← lanes fun j => f (512 * k + j), Finset.sum_range]
  simp only [e]
  have key (n : ℕ) : ∑ k ∈ Finset.range n, ∑ j ∈ Finset.range 512, f (512 * k + j) = ∑ j ∈ Finset.range (512 * n), f j := by
    induction n with
    | zero => simp
    | succ n ih => rw [Finset.sum_range_succ, ih, Nat.mul_succ, Finset.sum_range_add]
  exact key 14

/-- The input gradient. -/
theorem dxB_apply (a : Fin 256) (b : Fin 7168) : dxB x1 x2 x3 x4 x5 x6 x7 x8 (ix2 a b)
    = Math.dxAt (x8 (ix2 a 0)) (gL x1 x2 x3 x5 x6 x7 a b) (xhatL x4 x8 a b) (Math.meanRow fun j => gL x1 x2 x3 x5 x6 x7 a j * xhatL x4 x8 a j) := by
  unfold dxB
  rw [tiled_apply, pay1_apply]
  have eb := col_eq b (by omega)
  have e1 := (rT2_apply (rawB x1 x2 x3 x5 x6 x7) ⟨b.val / 512, by rw [trips2]; omega⟩ a ⟨b.val % 512, Nat.mod_lt _ (by decide)⟩ (by dsimp only; omega)).trans
    ((congrArg (fun b => rawB x1 x2 x3 x5 x6 x7 (ix2 a b)) eb).trans (rawB_apply x1 x2 x3 x5 x6 x7 a b))
  have e2 := (xT2_apply x4 ⟨b.val / 512, by rw [trips2]; omega⟩ a ⟨b.val % 512, Nat.mod_lt _ (by decide)⟩ (by dsimp only; omega)).trans
    (congrArg (fun b => x4 (ix2 a b)) eb)
  rw [e1, e2]
  unfold Math.meanRow
  rw [← lane_total x1 x2 x3 x4 x5 x6 x7 x8 a]
  rfl
end

end Cert.Proof.DgradPay

end
-- ==== Proof.DgradKernel.lean ====
/-
  What the idealized input gradient call leaves in its results: at every grid point 256 rows of the input gradient and of
  the two arrays of codes, and after the last point the gradient of gamma, summed over all the rows.
-/
module

public import proofs.«01_k».proof.Proof.DgradPay
public import proofs.«01_k».proof.Proof.DgradFrame

@[expose] public section

set_option maxRecDepth 16384

noncomputable section

namespace Cert.Proof.DgradKernel

open Cert.WholeIdeal Cert.WholeIdeal.Gen Cert.WholeIdeal.R1 Cert.Proof.DgradPay
open Idealize.ShloMosaic Idealize.ShloMosaic.TcCoe Idealize.SL.Sem
open Idealize.ShloMosaic.Pipeline (Dat)
open scoped BigOperators

variable (V : (c : Dev nD) → (b : Ref sig .tc) → Buf (Elt Ideal) ((c : Thread nD τ).loc b))

/-- The one-element shape has one index. -/
theorem eq_one (i : S1.Idx) : i = ix1 0 := by
  funext a; match a with | ⟨0, _⟩ => exact Fin.ext (by have := (i 0).isLt; change (i 0 : Nat) < 1 at this; show (i 0 : Nat) = 0; omega)

/-- The block indices: the row strips are the point's own, everything else is whole. -/
theorem index_facts : ∀ t : Fin grid1.N,
    (win1_4.index t 0 = t.val ∧ win1_4.index t 1 = 0) ∧ (win1_5.index t 0 = 0 ∧ win1_5.index t 1 = 0)
    ∧ (win1_6.index t 0 = t.val ∧ win1_6.index t 1 = 0) ∧ (win1_7.index t 0 = 0 ∧ win1_7.index t 1 = 0)
    ∧ (win1_8.index t 0 = t.val ∧ win1_8.index t 1 = 0) ∧ (win1_9.index t 0 = t.val ∧ win1_9.index t 1 = 0)
    ∧ (win1_10.index t 0 = 0 ∧ win1_10.index t 1 = 0) ∧ (win1_11.index t 0 = t.val ∧ win1_11.index t 1 = 0)
    ∧ (win1_12.index t 0 = t.val ∧ win1_12.index t 1 = 0) := by
  decide +kernel

/-- A point's row in the whole arrays. -/
def row (t : Fin cfg1.N) (a : Fin 256) : Fin 1536 := ⟨256 * t.val + a.val, by have h := t.isLt; have hN : cfg1.N = 6 := N_1; omega⟩

/-! ### The blocks -/

theorem blk0 (c : Dev nD) (t : Fin cfg1.N) : scal (F := Ideal) (iblk V c 0 t) = V c main_v0_1 (ix1 0) :=
  congrArg (V c main_v0_1) (eq_one _)
theorem blk1 (c : Dev nD) (t : Fin cfg1.N) : scal (F := Ideal) (iblk V c 1 t) = V c main_v0_2 (ix1 0) :=
  congrArg (V c main_v0_2) (eq_one _)
theorem blk2 (c : Dev nD) (t : Fin cfg1.N) : scal (F := Ideal) (iblk V c 2 t) = V c main_v0_4 (ix1 0) :=
  congrArg (V c main_v0_4) (eq_one _)
theorem blk3 (c : Dev nD) (t : Fin cfg1.N) : scal (F := Ideal) (iblk V c 3 t) = V c main_arg2 (ix1 0) :=
  congrArg (V c main_arg2) (eq_one _)
theorem blk4 (c : Dev nD) (t : Fin cfg1.N) (a : Fin 256) (b : Fin 7168) : iblk V c 4 t (ix2 a b) = V c main_arg0 (ix2 (row t a) b) := by
  obtain ⟨e0, e1⟩ := (index_facts t).1
  refine congrArg (V c main_arg0) (Shape.idx_ext₂ ?_ ?_)
  · refine (win1_4.rect_emb_val t (ix2 a b) 0).trans ?_
    rw [e0]
    show t.val * 256 + a.val = 256 * t.val + a.val
    omega
  · refine (win1_4.rect_emb_val t (ix2 a b) 1).trans ?_
    rw [e1]
    show 0 * 7168 + b.val = b.val
    omega
theorem blk6 (c : Dev nD) (t : Fin cfg1.N) (a : Fin 256) (b : Fin 2304) : iblk V c 6 t (ix2 a b) = V c main_arg4 (ix2 (row t a) b) := by
  obtain ⟨e0, e1⟩ := (index_facts t).2.2.1
  refine congrArg (V c main_arg4) (Shape.idx_ext₂ ?_ ?_)
  · refine (win1_6.rect_emb_val t (ix2 a b) 0).trans ?_
    rw [e0]
    show t.val * 256 + a.val = 256 * t.val + a.val
    omega
  · refine (win1_6.rect_emb_val t (ix2 a b) 1).trans ?_
    rw [e1]
    show 0 * 2304 + b.val = b.val
    omega
theorem blk8 (c : Dev nD) (t : Fin cfg1.N) (a : Fin 256) (b : Fin 128) : iblk V c 8 t (ix2 a b) = V c main_v0_0 (ix2 (row t a) b) := by
  obtain ⟨e0, e1⟩ := (index_facts t).2.2.2.2.1
  refine congrArg (V c main_v0_0) (Shape.idx_ext₂ ?_ ?_)
  · refine (win1_8.rect_emb_val t (ix2 a b) 0).trans ?_
    rw [e0]
    show t.val * 256 + a.val = 256 * t.val + a.val
    omega
  · refine (win1_8.rect_emb_val t (ix2 a b) 1).trans ?_
    rw [e1]
    show 0 * 128 + b.val = b.val
    omega
theorem blk5 (c : Dev nD) (t : Fin cfg1.N) : iblk V c 5 t = V c main_arg1 := by
  funext y
  refine congrArg (V c main_arg1) (Shape.idx_ext₂ ?_ ?_)
  · exact win1_5.rect_emb_val_of_index_zero t 0 (index_facts t).2.1.1 y
  · exact win1_5.rect_emb_val_of_index_zero t 1 (index_facts t).2.1.2 y
theorem blk7 (c : Dev nD) (t : Fin cfg1.N) : iblk V c 7 t = V c main_arg3 := by
  funext y
  refine congrArg (V c main_arg3) (Shape.idx_ext₂ ?_ ?_)
  · exact win1_7.rect_emb_val_of_index_zero t 0 (index_facts t).2.2.2.1.1 y
  · exact win1_7.rect_emb_val_of_index_zero t 1 (index_facts t).2.2.2.1.2 y

/-! ### The point's rows of the whole -/

theorem dxnL_eq (c : Dev nD) (t : Fin cfg1.N) (a : Fin 256) (b : Fin 7168) :
    dxnL (iblk V c 1 t) (iblk V c 2 t) (iblk V c 3 t) (iblk V c 6 t) (iblk V c 7 t) a b
      = Math.dxnAt (V c main_v0_2) (V c main_v0_4) (V c main_arg2) (V c main_arg4) (V c main_arg3) (row t a) b := by
  unfold dxnL Math.dxnAt
  simp only [blk1, blk2, blk3, blk6, blk7]

theorem xhatL_eq (c : Dev nD) (t : Fin cfg1.N) (a : Fin 256) (b : Fin 7168) :
    xhatL (iblk V c 4 t) (iblk V c 8 t) a b = Math.xhatAt (V c main_arg0) (V c main_v0_0) (row t a) b := by
  unfold xhatL Math.xhatAt
  rw [blk4, blk8]

theorem gL_eq (c : Dev nD) (t : Fin cfg1.N) (a : Fin 256) (b : Fin 7168) :
    gL (iblk V c 1 t) (iblk V c 2 t) (iblk V c 3 t) (iblk V c 5 t) (iblk V c 6 t) (iblk V c 7 t) a b
      = Math.gAt (V c main_v0_2) (V c main_v0_4) (V c main_arg2) (V c main_arg1) (V c main_arg4) (V c main_arg3) (row t a) b := by
  unfold gL Math.gAt
  rw [dxnL_eq, blk5]

theorem out9 (c : Dev nD) (t : Fin cfg1.N) (a : Fin 256) (b : Fin 7168) :
    (dat V c).after 9 t (ix2 a b) = Math.dx (V c main_v0_2) (V c main_v0_4) (V c main_arg2) (V c main_arg0) (V c main_arg1) (V c main_arg4) (V c main_arg3) (V c main_v0_0) (ix2 (row t a) b) := by
  rw [after1_9, dxB_apply]
  simp only [gL_eq, xhatL_eq]
  rw [blk8]
  rfl

theorem out11 (c : Dev nD) (t : Fin cfg1.N) (a : Fin 256) (b : Fin 7168) :
    (dat V c).after 11 t (ix2 a b) = Math.xCodes (V c main_v0_1) (V c main_arg0) (V c main_arg1) (V c main_v0_0) (ix2 (row t a) b) := by
  rw [after1_11, xcB_apply, blk0, blk4, blk5, blk8]
  rfl

theorem out12 (c : Dev nD) (t : Fin cfg1.N) (a : Fin 256) (b : Fin 2304) :
    (dat V c).after 12 t (ix2 a b) = Math.dyCodes (V c main_v0_2) (V c main_arg4) (ix2 (row t a) b) := by
  rw [after1_12, dyB_apply, blk1, blk6]
  rfl

/-- What a row adds to the gradient of gamma. -/
abbrev term (c : Dev nD) (b : Fin 7168) (a : Fin 1536) : EReal :=
  Math.dxnAt (V c main_v0_2) (V c main_v0_4) (V c main_arg2) (V c main_arg4) (V c main_arg3) a b * Math.xhatAt (V c main_arg0) (V c main_v0_0) a b

/-- One point adds its rows, eight apart, to the running sums. -/
theorem step_apply (c : Dev nD) (t : Fin cfg1.N) (s : Vec Ideal S8x7168 .f32) (u : Fin 8) (b : Fin 7168) :
    sumB (iblk V c 1 t) (iblk V c 2 t) (iblk V c 3 t) (iblk V c 4 t) (iblk V c 6 t) (iblk V c 7 t) (iblk V c 8 t) s (ix2 u b)
      = s (ix2 u b) + ∑ w ∈ Finset.range 32, pad (term V c b) (256 * t.val + (8 * w + u.val)) := by
  rw [sumB_apply, Finset.sum_range]
  refine congrArg (s (ix2 u b) + ·) (Finset.sum_congr rfl fun w _ => ?_)
  rw [dxnL_eq, xhatL_eq]
  exact (pad_of (term V c b) (row t ⟨8 * w.val + u.val, by omega⟩)).symm

/-- The running sums after point `n`. -/
theorem sAt_apply (c : Dev nD) (u : Fin 8) (b : Fin 7168) : ∀ (n : ℕ) (hn : n < cfg1.N),
    sAt V c n hn (ix2 u b) = ∑ t ∈ Finset.range (n + 1), ∑ w ∈ Finset.range 32, pad (term V c b) (256 * t + (8 * w + u.val)) := by
  intro n
  induction n with
  | zero =>
    intro hn
    rw [Finset.sum_range_one]
    exact (step_apply V c ⟨0, hn⟩ (k1_pay10 (F := Ideal)) u b).trans (by rw [pay9_apply, zero_add])
  | succ n ih =>
    intro hn
    rw [Finset.sum_range_succ, ← ih (Nat.lt_of_succ_lt hn)]
    exact step_apply V c ⟨n + 1, hn⟩ _ u b

theorem sAt_total (c : Dev nD) (b : Fin 7168) (n : ℕ) (hn : n < cfg1.N) (h5 : n + 1 = 6) :
    ∑ u : Fin 8, sAt V c n hn (ix2 u b) = ∑ a : Fin 1536, term V c b a := by
  rw [sum_pad (n := 1536)]
  refine (Finset.sum_congr rfl fun u _ => (sAt_apply V c u b n hn).trans (by rw [h5])).trans ?_
  generalize pad (term V c b) = f
  rw [Finset.sum_comm]
  have e (t : ℕ) : ∑ u : Fin 8, ∑ w ∈ Finset.range 32, f (256 * t + (8 * w + u.val)) = ∑ j ∈ Finset.range 256, f (256 * t + j) := by
    rw [← rows8 (fun j => f (256 * t + j)) 32]
    exact (Finset.sum_range (n := 8) fun u => ∑ w ∈ Finset.range 32, f (256 * t + (8 * w + u))).symm
  simp only [e]
  have key (n : ℕ) : ∑ k ∈ Finset.range n, ∑ j ∈ Finset.range 256, f (256 * k + j) = ∑ j ∈ Finset.range (256 * n), f j := by
    induction n with
    | zero => simp
    | succ n ih => rw [Finset.sum_range_succ, ih, Nat.mul_succ, Finset.sum_range_add]
  exact key 6

/-- The gradient of gamma after the last point. -/
theorem out10 (c : Dev nD) (t : Fin cfg1.N) (ht : t.val % 6 = 5) (i : S1x7168.Idx) :
    (dat V c).after 10 t i = Math.dgamma (V c main_v0_2) (V c main_v0_4) (V c main_arg2) (V c main_arg0) (V c main_arg4) (V c main_arg3) (V c main_v0_0) i := by
  have hN : t.val < 6 := lt_of_lt_of_eq t.isLt (show cfg1.N = 6 from N_1)
  rw [after1_10, pay2_apply]
  exact sAt_total V c (i 1) t.val t.isLt (by omega)

/-! ### The result arrays -/

theorem final9 (c : Dev nD) : (dat V c).arrAt 9 cfg1.N = Math.dx (V c main_v0_2) (V c main_v0_4) (V c main_arg2) (V c main_arg0) (V c main_arg1) (V c main_arg4) (V c main_arg3) (V c main_v0_0) := by
  refine (dat V c).arrAt_eq_of_cover 9 _ (fun t _ => ?_) fun i => ?_
  · obtain ⟨e0, e1⟩ := (index_facts t).2.2.2.2.2.1
    funext j
    show (dat V c).after 9 t j = _
    have ej : j = ix2 (j 0) (j 1) := Shape.idx_ext₂ rfl rfl
    refine (congrArg ((dat V c).after 9 t) ej).trans ((out9 V c t (j 0) (j 1)).trans ?_)
    refine congrArg (Math.dx (V c main_v0_2) (V c main_v0_4) (V c main_arg2) (V c main_arg0) (V c main_arg1) (V c main_arg4) (V c main_arg3) (V c main_v0_0)) (Shape.idx_ext₂ ?_ ?_)
    · refine Eq.trans ?_ (win1_9.rect_emb_val t j 0).symm
      rw [e0]
      show 256 * t.val + (j 0 : Nat) = t.val * 256 + (j 0 : Nat)
      omega
    · refine Eq.trans ?_ (win1_9.rect_emb_val t j 1).symm
      rw [e1]
      show (j 1 : Nat) = 0 * 7168 + (j 1 : Nat)
      omega
  · have h0 : (i 0 : Nat) < 1536 := (i 0).isLt
    have h1 : (i 1 : Nat) < 7168 := (i 1).isLt
    have hN : cfg1.N = 6 := N_1
    have ht : (i 0 : Nat) / 256 < cfg1.N := by rw [hN]; omega
    refine ⟨⟨(i 0 : Nat) / 256, ht⟩, flush1_9 _, ?_⟩
    obtain ⟨e0, e1⟩ := (index_facts ⟨(i 0 : Nat) / 256, ht⟩).2.2.2.2.2.1
    show i ∈ ((View.whole main_v1_0).slice (win1_9.rect ⟨(i 0 : Nat) / 256, ht⟩)).set
    rw [View.set_slice_whole, Rect.mem_set_unit]
    intro a
    match a with
    | ⟨0, _⟩ =>
      show win1_9.index _ 0 * 256 ≤ (i 0 : Nat) ∧ (i 0 : Nat) < win1_9.index _ 0 * 256 + 256
      rw [e0]; dsimp only; omega
    | ⟨1, _⟩ =>
      show win1_9.index _ 1 * 7168 ≤ (i 1 : Nat) ∧ (i 1 : Nat) < win1_9.index _ 1 * 7168 + 7168
      rw [e1]; omega

theorem final11 (c : Dev nD) : (dat V c).arrAt 11 cfg1.N = Math.xCodes (V c main_v0_1) (V c main_arg0) (V c main_arg1) (V c main_v0_0) := by
  refine (dat V c).arrAt_eq_of_cover 11 _ (fun t _ => ?_) fun i => ?_
  · obtain ⟨e0, e1⟩ := (index_facts t).2.2.2.2.2.2.2.1
    funext j
    show (dat V c).after 11 t j = _
    have ej : j = ix2 (j 0) (j 1) := Shape.idx_ext₂ rfl rfl
    refine (congrArg ((dat V c).after 11 t) ej).trans ((out11 V c t (j 0) (j 1)).trans ?_)
    refine congrArg (Math.xCodes (V c main_v0_1) (V c main_arg0) (V c main_arg1) (V c main_v0_0)) (Shape.idx_ext₂ ?_ ?_)
    · refine Eq.trans ?_ (win1_11.rect_emb_val t j 0).symm
      rw [e0]
      show 256 * t.val + (j 0 : Nat) = t.val * 256 + (j 0 : Nat)
      omega
    · refine Eq.trans ?_ (win1_11.rect_emb_val t j 1).symm
      rw [e1]
      show (j 1 : Nat) = 0 * 7168 + (j 1 : Nat)
      omega
  · have h0 : (i 0 : Nat) < 1536 := (i 0).isLt
    have h1 : (i 1 : Nat) < 7168 := (i 1).isLt
    have hN : cfg1.N = 6 := N_1
    have ht : (i 0 : Nat) / 256 < cfg1.N := by rw [hN]; omega
    refine ⟨⟨(i 0 : Nat) / 256, ht⟩, flush1_11 _, ?_⟩
    obtain ⟨e0, e1⟩ := (index_facts ⟨(i 0 : Nat) / 256, ht⟩).2.2.2.2.2.2.2.1
    show i ∈ ((View.whole main_v1_2).slice (win1_11.rect ⟨(i 0 : Nat) / 256, ht⟩)).set
    rw [View.set_slice_whole, Rect.mem_set_unit]
    intro a
    match a with
    | ⟨0, _⟩ =>
      show win1_11.index _ 0 * 256 ≤ (i 0 : Nat) ∧ (i 0 : Nat) < win1_11.index _ 0 * 256 + 256
      rw [e0]; dsimp only; omega
    | ⟨1, _⟩ =>
      show win1_11.index _ 1 * 7168 ≤ (i 1 : Nat) ∧ (i 1 : Nat) < win1_11.index _ 1 * 7168 + 7168
      rw [e1]; omega

theorem final12 (c : Dev nD) : (dat V c).arrAt 12 cfg1.N = Math.dyCodes (V c main_v0_2) (V c main_arg4) := by
  refine (dat V c).arrAt_eq_of_cover 12 _ (fun t _ => ?_) fun i => ?_
  · obtain ⟨e0, e1⟩ := (index_facts t).2.2.2.2.2.2.2.2
    funext j
    show (dat V c).after 12 t j = _
    have ej : j = ix2 (j 0) (j 1) := Shape.idx_ext₂ rfl rfl
    refine (congrArg ((dat V c).after 12 t) ej).trans ((out12 V c t (j 0) (j 1)).trans ?_)
    refine congrArg (Math.dyCodes (V c main_v0_2) (V c main_arg4)) (Shape.idx_ext₂ ?_ ?_)
    · refine Eq.trans ?_ (win1_12.rect_emb_val t j 0).symm
      rw [e0]
      show 256 * t.val + (j 0 : Nat) = t.val * 256 + (j 0 : Nat)
      omega
    · refine Eq.trans ?_ (win1_12.rect_emb_val t j 1).symm
      rw [e1]
      show (j 1 : Nat) = 0 * 2304 + (j 1 : Nat)
      omega
  · have h0 : (i 0 : Nat) < 1536 := (i 0).isLt
    have h1 : (i 1 : Nat) < 2304 := (i 1).isLt
    have hN : cfg1.N = 6 := N_1
    have ht : (i 0 : Nat) / 256 < cfg1.N := by rw [hN]; omega
    refine ⟨⟨(i 0 : Nat) / 256, ht⟩, flush1_12 _, ?_⟩
    obtain ⟨e0, e1⟩ := (index_facts ⟨(i 0 : Nat) / 256, ht⟩).2.2.2.2.2.2.2.2
    show i ∈ ((View.whole main_v1_3).slice (win1_12.rect ⟨(i 0 : Nat) / 256, ht⟩)).set
    rw [View.set_slice_whole, Rect.mem_set_unit]
    intro a
    match a with
    | ⟨0, _⟩ =>
      show win1_12.index _ 0 * 256 ≤ (i 0 : Nat) ∧ (i 0 : Nat) < win1_12.index _ 0 * 256 + 256
      rw [e0]; dsimp only; omega
    | ⟨1, _⟩ =>
      show win1_12.index _ 1 * 2304 ≤ (i 1 : Nat) ∧ (i 1 : Nat) < win1_12.index _ 1 * 2304 + 2304
      rw [e1]; omega

theorem final10 (c : Dev nD) : (dat V c).arrAt 10 cfg1.N = Math.dgamma (V c main_v0_2) (V c main_v0_4) (V c main_arg2) (V c main_arg0) (V c main_arg4) (V c main_arg3) (V c main_v0_0) := by
  refine (dat V c).arrAt_eq_of_cover 10 _ (fun t hf => ?_) fun i => ?_
  · funext j
    show (dat V c).after 10 t j = _
    rw [out10 V c t ((flush1_10 t).mp hf)]
    refine congrArg (Math.dgamma (V c main_v0_2) (V c main_v0_4) (V c main_arg2) (V c main_arg0) (V c main_arg4) (V c main_arg3) (V c main_v0_0)) (Shape.idx_ext₂ ?_ ?_)
    · exact (win1_10.rect_emb_val_of_index_zero t 0 (index_facts t).2.2.2.2.2.2.1.1 j).symm
    · exact (win1_10.rect_emb_val_of_index_zero t 1 (index_facts t).2.2.2.2.2.2.1.2 j).symm
  · have hN : 5 < cfg1.N := lt_of_lt_of_eq (by decide) N_1.symm
    refine ⟨⟨5, hN⟩, (flush1_10 _).mpr rfl, ?_⟩
    obtain ⟨e0, e1⟩ := (index_facts ⟨5, hN⟩).2.2.2.2.2.2.1
    show i ∈ ((View.whole main_v1_1).slice (win1_10.rect ⟨5, hN⟩)).set
    rw [View.set_slice_whole, Rect.mem_set_unit]
    have h0 : (i 0 : Nat) < 1 := (i 0).isLt
    have h1 : (i 1 : Nat) < 7168 := (i 1).isLt
    intro a
    match a with
    | ⟨0, _⟩ =>
      show win1_10.index _ 0 * 1 ≤ (i 0 : Nat) ∧ (i 0 : Nat) < win1_10.index _ 0 * 1 + 1
      rw [e0]; omega
    | ⟨1, _⟩ =>
      show win1_10.index _ 1 * 7168 ≤ (i 1 : Nat) ∧ (i 1 : Nat) < win1_10.index _ 1 * 7168 + 7168
      rw [e1]; omega

end Cert.Proof.DgradKernel

end
-- ==== Proof.WgradKernel.lean ====
/-
  What the idealized weight gradient call leaves in its result: at every grid point a strip of 256 rows of the product,
  so in the whole array `Cert.Math.wgrad` of the four arguments.
-/
module

public import proofs.«01_k».proof.Proof.Arith
public import proofs.«01_k».proof.Proof.WgradFrame
public import Idealize.ShloMosaic.Lib.Pointwise

@[expose] public section

noncomputable section

namespace Cert.Proof.WgradKernel

open Cert.WholeIdeal Cert.WholeIdeal.Gen Cert.WholeIdeal.R2 Idealize.ShloMosaic Idealize.ShloMosaic.TcCoe Idealize.SL.Sem
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The one-element shape has one index. -/
theorem eq_one (i : S1.Idx) : i = ix1 0 := by
  funext a; match a with | ⟨0, _⟩ => exact Fin.ext (by have := (i 0).isLt; change (i 0 : Nat) < 1 at this; show (i 0 : Nat) = 0; omega)

/-- The block indices of the windows at every grid point: the codes' column strip and the result's row strip are the
    point's own, everything else is whole. -/
theorem index_facts : ∀ t : Fin grid2.N,
    win2_0.index t 0 = 0 ∧ win2_1.index t 0 = 0 ∧ win2_2.index t 0 = 0 ∧ win2_2.index t 1 = t.val
    ∧ win2_3.index t 0 = 0 ∧ win2_3.index t 1 = 0 ∧ win2_4.index t 0 = t.val ∧ win2_4.index t 1 = 0 := by
  decide +kernel

/-- The body's payload at an index: the sum over the tokens, times the product of the scales. -/
theorem pay_apply (a b : Elt Ideal .f32) (x : Vec Ideal S1536x256 .fp8e4m3) (y : Vec Ideal S1536x2304 .fp8e5m2) (j : S256x2304.Idx) :
    k2_pay1 a b x y j = (∑ k : Fin 1536, x (ix2 k (j 0)) * y (ix2 k (j 1))) * (a * b) := by
  unfold k2_pay1
  simp only [pointwise]
  simp

/-- What a point leaves in the result's staging buffer is the payload of the blocks it was given. -/
theorem outs_eq (c : Dev nD) (t : Fin cfg2.N) (j : S256x2304.Idx) :
    outsAt2 V c t j = k2_pay1 (iblk V c 0 t (ix1 0)) (iblk V c 1 t (ix1 0)) (iblk V c 2 t) (iblk V c 3 t) j := by
  unfold outsAt2 out2_A_4
  rw [View.read_writes_eq_canon _ _ _ (cover2_A_4 c (grid2.coords t) (ms2_0 t) (hs2_0 t) (ms2_1 t) (hs2_1 t) (ms2_2 t) (hs2_2 t) (ms2_3 t) (hs2_3 t) (ms2_4 t) (hs2_4 t) (iblk V c 0 t) (iblk V c 1 t) (iblk V c 2 t) (iblk V c 3 t))]
  unfold kernelRun2_A
  dsimp only
  sl_unfold_words
  simp only [View.readAt_eq_ld, (hs2_0 t).read_unread, (hs2_1 t).read_unread, (hs2_2 t).read_unread, (hs2_3 t).read_unread]
  rw [View.canon_unit_zero hz2]
  simp only [View.ld_unit_zero (S := S1536x256) hz2, View.ld_unit_zero (S := S1536x2304) hz2]
  have e0 : View.ld (iblk V c 0 t) (Rect.unit ![0] S1.size inb_S1_S1_0) = iblk V c 0 t := View.ld_unit_zero (S := S1) hz1 _ _
  have e1 : View.ld (iblk V c 1 t) (Rect.unit ![0] S1.size inb_S1_S1_0) = iblk V c 1 t := View.ld_unit_zero (S := S1) hz1 _ _
  rw [show (Shape.Idx.first _ : S1.Idx) = ix1 0 from eq_one _]
  erw [e0, e1]

/-- The result of the call. -/
abbrev G (c : Dev nD) : Math.Mat 7168 2304 :=
  Math.wgrad (V c main_v0_3) (V c main_v0_4) (V c main_v1_2) (V c main_v1_3)

/-- What point `t` writes back is the strip of `G` it is written to. -/
theorem flushed_eq (c : Dev nD) (t : Fin cfg2.N) :
    (dat V c).flushed 4 t = ((cfg2.win 4).blk t).view.read (Elt Ideal) (G V c) := by
  obtain ⟨e0, e1, e20, e21, e30, e31, e40, e41⟩ := index_facts t
  funext j
  show (dat V c).after 4 t j = _
  rw [after2_4]
  show outsAt2 V c t j = G V c ((win2_4.rect t).emb j)
  rw [outs_eq, pay_apply]
  unfold G Math.wgrad
  have h0 : iblk V c 0 t (ix1 0) = V c main_v0_3 (ix1 0) := congrArg (V c main_v0_3) (eq_one _)
  have h1 : iblk V c 1 t (ix1 0) = V c main_v0_4 (ix1 0) := congrArg (V c main_v0_4) (eq_one _)
  have h2 (k : Fin 1536) : iblk V c 2 t (ix2 k (j 0)) = V c main_v1_2 (ix2 k ((win2_4.rect t).emb j 0)) := by
    refine congrArg (V c main_v1_2) (Shape.idx_ext₂ ?_ ?_)
    · refine (win2_2.rect_emb_val t (ix2 k (j 0)) 0).trans ?_
      rw [e20]; simp
    · refine (win2_2.rect_emb_val t (ix2 k (j 0)) 1).trans (Eq.trans ?_ (win2_4.rect_emb_val t j 0).symm)
      rw [e21, e40]; rfl
  have h3 (k : Fin 1536) : iblk V c 3 t (ix2 k (j 1)) = V c main_v1_3 (ix2 k ((win2_4.rect t).emb j 1)) := by
    refine congrArg (V c main_v1_3) (Shape.idx_ext₂ ?_ ?_)
    · refine (win2_3.rect_emb_val t (ix2 k (j 1)) 0).trans ?_
      rw [e30]; simp
    · refine (win2_3.rect_emb_val t (ix2 k (j 1)) 1).trans (Eq.trans ?_ (win2_4.rect_emb_val t j 1).symm)
      rw [e31, e41]; rfl
  simp only [h0, h1, h2, h3]

/-- The strips cover the result. -/
theorem cover (i : S7168x2304.Idx) : ∃ t : Fin cfg2.N, (cfg2.win 4).flush t = true ∧ i ∈ ((cfg2.win 4).blk t).view.set := by
  have h0 : (i 0 : Nat) < 7168 := (i 0).isLt
  have h1 : (i 1 : Nat) < 2304 := (i 1).isLt
  have hN : cfg2.N = 28 := N_2
  have ht : (i 0 : Nat) / 256 < cfg2.N := by rw [hN]; omega
  refine ⟨⟨(i 0 : Nat) / 256, ht⟩, flush2_4 _, ?_⟩
  obtain ⟨-, -, -, -, -, -, e40, e41⟩ := index_facts ⟨(i 0 : Nat) / 256, ht⟩
  show i ∈ ((View.whole main_v2).slice (win2_4.rect ⟨(i 0 : Nat) / 256, ht⟩)).set
  rw [View.set_slice_whole, Rect.mem_set_unit]
  intro a
  match a with
  | ⟨0, _⟩ =>
    show win2_4.index _ 0 * 256 ≤ (i 0 : Nat) ∧ (i 0 : Nat) < win2_4.index _ 0 * 256 + 256
    rw [e40]; dsimp only; omega
  | ⟨1, _⟩ =>
    show win2_4.index _ 1 * 2304 ≤ (i 1 : Nat) ∧ (i 1 : Nat) < win2_4.index _ 1 * 2304 + 2304
    rw [e41]; omega

/-- So the result array ends at `G`. -/
theorem final (c : Dev nD) : (dat V c).arrAt 4 cfg2.N = G V c :=
  (dat V c).arrAt_eq_of_cover 4 (G V c) (fun t _ => flushed_eq V c t) cover

end Cert.Proof.WgradKernel

end
-- ==== Proof.WholeValue.lean ====
/-
  What the chained calls leave in the seven results, in terms of the launch contents of the five arguments alone: each
  call's results are rewritten with what the calls before it left in its inputs.
-/
module

public import proofs.«01_k».proof.Proof.WholeRun
public import proofs.«01_k».proof.Proof.StatsKernel
public import proofs.«01_k».proof.Proof.DgradKernel
public import proofs.«01_k».proof.Proof.WgradKernel

@[expose] public section

set_option maxRecDepth 16384

noncomputable section

namespace Cert.Proof.WholeValue

open Cert.WholeIdeal Cert.WholeIdeal.Gen Cert.WholeIdeal.Run Idealize.ShloMosaic Idealize.ShloMosaic.TcCoe Idealize.SL.Sem
open Idealize.ShloMosaic.Pipeline (Dat)

variable (m : (ℓ : Loc nD τ sig) → Buf (Elt Ideal) ℓ) (c : Dev nD)

/-- The arguments as the launch finds them. -/
def A (r : Ref sig .tc) : Buf (Elt Ideal) ((c : Thread nD τ).loc r) := m ((c : Thread nD τ).loc r)

/-! ### After the statistics call -/

theorem s_r : W1 m c main_v0_0 = Math.invRms (A m c main_arg0) := (W1_out m c 3).trans (StatsKernel.final3 (U0 m) c)
theorem s_ax : W1 m c main_v0_1 = Math.statAx (A m c main_arg0) (A m c main_arg1) := (W1_out m c 4).trans (StatsKernel.final4 (U0 m) c)
theorem s_ady : W1 m c main_v0_2 = Math.statAdy (A m c main_arg4) := (W1_out m c 5).trans (StatsKernel.final5 (U0 m) c)
theorem s_sx : W1 m c main_v0_3 = Math.statSx (A m c main_arg0) (A m c main_arg1) := (W1_out m c 6).trans (StatsKernel.final6 (U0 m) c)
theorem s_sdy : W1 m c main_v0_4 = Math.statSdy (A m c main_arg4) := (W1_out m c 7).trans (StatsKernel.final7 (U0 m) c)
theorem s_0 : W1 m c main_arg0 = A m c main_arg0 := W1_keeps m c main_arg0 (by decide)
theorem s_1 : W1 m c main_arg1 = A m c main_arg1 := W1_keeps m c main_arg1 (by decide)
theorem s_2 : W1 m c main_arg2 = A m c main_arg2 := W1_keeps m c main_arg2 (by decide)
theorem s_3 : W1 m c main_arg3 = A m c main_arg3 := W1_keeps m c main_arg3 (by decide)
theorem s_4 : W1 m c main_arg4 = A m c main_arg4 := W1_keeps m c main_arg4 (by decide)

/-! ### After the input gradient call -/

theorem d_dx : W2 m c main_v1_0 = Math.dx (Math.statAdy (A m c main_arg4)) (Math.statSdy (A m c main_arg4)) (A m c main_arg2) (A m c main_arg0) (A m c main_arg1) (A m c main_arg4) (A m c main_arg3) (Math.invRms (A m c main_arg0)) :=
  (W2_out m c 9).trans ((DgradKernel.final9 (U1 m) c).trans
    (congr (congr (congr (congr (congr (congr (congr (congrArg Math.dx (s_ady m c)) (s_sdy m c)) (s_2 m c)) (s_0 m c)) (s_1 m c)) (s_4 m c)) (s_3 m c)) (s_r m c)))
theorem d_dg : W2 m c main_v1_1 = Math.dgamma (Math.statAdy (A m c main_arg4)) (Math.statSdy (A m c main_arg4)) (A m c main_arg2) (A m c main_arg0) (A m c main_arg4) (A m c main_arg3) (Math.invRms (A m c main_arg0)) :=
  (W2_out m c 10).trans ((DgradKernel.final10 (U1 m) c).trans
    (congr (congr (congr (congr (congr (congr (congrArg Math.dgamma (s_ady m c)) (s_sdy m c)) (s_2 m c)) (s_0 m c)) (s_4 m c)) (s_3 m c)) (s_r m c)))
theorem d_xc : W2 m c main_v1_2 = Math.xCodes (Math.statAx (A m c main_arg0) (A m c main_arg1)) (A m c main_arg0) (A m c main_arg1) (Math.invRms (A m c main_arg0)) :=
  (W2_out m c 11).trans ((DgradKernel.final11 (U1 m) c).trans
    (congr (congr (congr (congrArg Math.xCodes (s_ax m c)) (s_0 m c)) (s_1 m c)) (s_r m c)))
theorem d_dyc : W2 m c main_v1_3 = Math.dyCodes (Math.statAdy (A m c main_arg4)) (A m c main_arg4) :=
  (W2_out m c 12).trans ((DgradKernel.final12 (U1 m) c).trans (congr (congrArg Math.dyCodes (s_ady m c)) (s_4 m c)))
theorem d_sx : W2 m c main_v0_3 = Math.statSx (A m c main_arg0) (A m c main_arg1) := (W2_keeps m c main_v0_3 (by decide)).trans (s_sx m c)
theorem d_sdy : W2 m c main_v0_4 = Math.statSdy (A m c main_arg4) := (W2_keeps m c main_v0_4 (by decide)).trans (s_sdy m c)

/-! ### After the weight gradient call -/

theorem w_dx : W3 m c main_v1_0 = Math.dx (Math.statAdy (A m c main_arg4)) (Math.statSdy (A m c main_arg4)) (A m c main_arg2) (A m c main_arg0) (A m c main_arg1) (A m c main_arg4) (A m c main_arg3) (Math.invRms (A m c main_arg0)) :=
  (W3_keeps m c main_v1_0 (by decide)).trans (d_dx m c)
theorem w_dw : W3 m c main_v2 = Math.wgrad (Math.statSx (A m c main_arg0) (A m c main_arg1)) (Math.statSdy (A m c main_arg4)) (Math.xCodes (Math.statAx (A m c main_arg0) (A m c main_arg1)) (A m c main_arg0) (A m c main_arg1) (Math.invRms (A m c main_arg0))) (Math.dyCodes (Math.statAdy (A m c main_arg4)) (A m c main_arg4)) :=
  (W3_out m c 4).trans ((WgradKernel.final (U2 m) c).trans
    (congr (congr (congr (congrArg Math.wgrad (d_sx m c)) (d_sdy m c)) (d_xc m c)) (d_dyc m c)))
theorem w_dg : W3 m c main_v1_1 = Math.dgamma (Math.statAdy (A m c main_arg4)) (Math.statSdy (A m c main_arg4)) (A m c main_arg2) (A m c main_arg0) (A m c main_arg4) (A m c main_arg3) (Math.invRms (A m c main_arg0)) :=
  (W3_keeps m c main_v1_1 (by decide)).trans (d_dg m c)
theorem w_xc : W3 m c main_v1_2 = Math.xCodes (Math.statAx (A m c main_arg0) (A m c main_arg1)) (A m c main_arg0) (A m c main_arg1) (Math.invRms (A m c main_arg0)) :=
  (W3_keeps m c main_v1_2 (by decide)).trans (d_xc m c)
theorem w_sx : W3 m c main_v0_3 = Math.statSx (A m c main_arg0) (A m c main_arg1) := (W3_keeps m c main_v0_3 (by decide)).trans (d_sx m c)
theorem w_dyc : W3 m c main_v1_3 = Math.dyCodes (Math.statAdy (A m c main_arg4)) (A m c main_arg4) :=
  (W3_keeps m c main_v1_3 (by decide)).trans (d_dyc m c)
theorem w_sdy : W3 m c main_v0_4 = Math.statSdy (A m c main_arg4) := (W3_keeps m c main_v0_4 (by decide)).trans (d_sdy m c)

end Cert.Proof.WholeValue

end
-- ==== Proof.WholeRefPay.lean ====
/-
  The idealized whole reference's payloads at an index: what each pure value of its body is, in terms of the arguments.
-/
module

public import proofs.«01_k».proof.Proof.StatsArith
public import proofs.«01_k».proof.Proof.Gen.WholeRefIdeal.Frame
public import Idealize.ShloMosaic.Lib.Pointwise

@[expose] public section

set_option maxRecDepth 16384

noncomputable section

namespace Cert.Proof.WholeRef

open Cert.WholeRefIdeal Cert.WholeRefIdeal.Gen Idealize.ShloMosaic Idealize.ShloMosaic.TcCoe Idealize.SL.Sem
open Idealize.ShloMosaic.Pipeline (Dat)
open scoped BigOperators

/-! ### The scale -/

/-- A lane's number, as the iota of the count gives it. -/
theorem iota_apply (k : Fin 256) : List.foldl (fun n a => n * (![1, 256] : Fin 2 → Nat) a + ((ix2 (0 : Fin 1) k : (S1x256).Idx) a : Nat)) 0 [1] = k := by
  simp

/-- The numbers of the lanes as words. -/
theorem word_facts : ∀ k : Fin 256, (IntOp.subi (BitVec.ofNat 32 k) 126#32).toInt = (k : ℤ) - 126
    ∧ (IntOp.cmpi .slt (BitVec.ofNat 32 k) 252#32 = if k.val < 252 then 1#1 else 0#1) := by decide +kernel

/-- The power of two a lane compares with. -/
theorem sitofp_word (k : Fin 256) : FloatOps.exp2 (F := Ideal) (φ := .f32) (FloatOps.sitofp (F := Ideal) .f32 (IntOp.subi (BitVec.ofNat 32 k) 126#32))
    = (((2 : ℝ) ^ ((k : ℤ) - 126) : ℝ) : EReal) := by
  refine (Math.exp2_int ((k : ℤ) - 126) _ ?_)
  rw [(word_facts k).1]

/-- What a lane adds to the count. -/
theorem summand (v : EReal) (k : Fin 256) :
    Scalar.select (IntOp.andi (IntOp.cmpi .slt (BitVec.ofNat 32 k) 252#32) (BitVec.ofBool (decide (FloatOps.exp2 (F := Ideal) (φ := .f32) (FloatOps.sitofp (F := Ideal) .f32 (IntOp.subi (BitVec.ofNat 32 k) 126#32)) ≤ v)))) (1 : EReal) 0 = (open Classical in if Math.counts v k then 1 else 0) := by
  rw [sitofp_word, (word_facts k).2]
  unfold Math.counts
  by_cases h : k.val < 252
  · by_cases h' : (((2 : ℝ) ^ ((k : ℤ) - 126) : ℝ) : EReal) ≤ v
    · simp [h, h', Scalar.select, IntOp.andi]
    · simp [h, h', Scalar.select, IntOp.andi]
  · simp [h, Scalar.select, IntOp.andi]

theorem ofBits_126 : Ideal.ofBits .f32 0x42FC0000#32 = ((126 : ℝ) : EReal) := by
  simp [Ideal.ofBits, Ideal.ieee, -EReal.coe_mul]; norm_num

theorem ofBits_negInf : Ideal.ofBits .f32 0xFF800000#32 = ⊥ := by
  simp [Ideal.ofBits, Ideal.ieee]

/-- The count of the powers of two not above `v`, as the body takes it, and the exponent it gives. -/
def cnt (v22 : Ideal .f32) : FVec Ideal S1x1 .f32 :=
  have v23 : IVec S1x256 32 := iota .tc S1x256 32 [1] iota_S1x256_d1_w32
  have v25 : IVec S1x256 1 := cmpi .slt v23 (broadcast S1x256 252#32)
  have v28 : FVec Ideal S1x256 .f32 := sitofp .f32 (subi v23 (broadcast S1x256 126#32))
  have v31 : IVec S1x256 1 := cmpf .oge (broadcast S1x256 v22) (exp2 v28)
  have v35 : FVec Ideal S1x256 .f32 := select (andi v25 v31) (broadcast S1x256 (Scalar.ofBits .f32 0x3F800000#32)) (broadcast S1x256 (Scalar.ofBits .f32 0x00000000#32))
  shapeCast S1x1 (multiReduction .add [1] S1 v35 0x00000000#32 reduces_S1x256_S1 (.inl rfl) rfl) shapeCasts_S1_S1x1
def ex (v37 : FVec Ideal S1x1 .f32) : FVec Ideal S1x1 .f32 :=
  select (cmpf .oeq v37 (broadcast S1x1 (Scalar.ofBits .f32 0x00000000#32))) (broadcast S1x1 (Scalar.ofBits .f32 0x00000000#32))
    (subf v37 (broadcast S1x1 (Scalar.ofBits .f32 0x42FC0000#32)))

theorem ex_apply (v : Elt Ideal .f32) (i : S1x1.Idx) : ex (cnt v) i = Math.expo v := by
  unfold ex cnt
  simp only [pointwise]
  simp only [iota_apply, summand, ofBits_126]
  rfl

/-! ### The normalised input -/

variable (x : Vec Ideal S1536x7168 .bf16) (g : Vec Ideal S1x7168 .f32) (y : Vec Ideal S1536x2304 .bf16)
variable (z : Vec Ideal S7168x2304 .fp8e4m3) (w : Elt Ideal .f32)

theorem r_apply (i : S1536x1.Idx) : k0_pay5 x i = Math.rInv fun j => x (ix2 (i 0) j) := by
  unfold k0_pay5 k0_pay3
  simp only [pointwise]
  rfl

theorem xhat_apply (i : S1536x7168.Idx) : k0_pay6 x i = x i * Math.rInv fun j => x (ix2 (i 0) j) := by
  unfold k0_pay6 k0_pay3
  simp only [pointwise]
  rw [r_apply]
  rfl

theorem xn_apply (i : S1536x7168.Idx) : k0_pay7 x g i = x i * (Math.rInv fun j => x (ix2 (i 0) j)) * g (ix2 0 (i 1)) := by
  unfold k0_pay7
  simp only [pointwise]
  rw [xhat_apply]
  rfl

/-! ### The two maxima -/

def amx : Ideal .f32 :=
  extractAt ![0, 0, 0] (shapeCast S1x1x1 (multiReduction .maximumf [1, 2] S1 (shapeCast S1x1536x7168 (absf (k0_pay7 x g)) shapeCasts_S1536x7168_S1x1536x7168) 0xFF800000#32 reduces_S1x1536x7168_S1 (.inl rfl) rfl) shapeCasts_S1_S1x1x1) inpos_S1x1x1_p0_0_0
def amd (v4 : FVec Ideal S1536x2304 .f32) : Ideal .f32 :=
  extractAt ![0, 0, 0] (shapeCast S1x1x1 (multiReduction .maximumf [1, 2] S1 (shapeCast S1x1536x2304 (absf v4) shapeCasts_S1536x2304_S1x1536x2304) 0xFF800000#32 reduces_S1x1536x2304_S1 (.inl rfl) rfl) shapeCasts_S1_S1x1x1) inpos_S1x1x1_p0_0_0

theorem amx_eq : amx x g = Math.amaxX x g := by
  unfold amx
  simp only [pointwise]
  refine eq_of_forall_ge_iff fun t => ?_
  rw [ofBits_negInf, Math.fold_max_le]
  unfold Math.amaxX
  simp only [iSup_le_iff]
  constructor
  · intro h a b
    have := h (a, b) (Finset.mem_univ _)
    rw [xn_apply] at this
    exact this
  · intro h i _
    rw [xn_apply]
    exact h i.1 i.2
theorem amd_eq : amd (k0_pay4 y) = Math.amaxDy y := by
  unfold amd k0_pay4
  simp only [pointwise]
  refine eq_of_forall_ge_iff fun t => ?_
  rw [ofBits_negInf, Math.fold_max_le]
  unfold Math.amaxDy
  simp only [iSup_le_iff]
  constructor
  · intro h a b
    exact h (a, b) (Finset.mem_univ _)
  · intro h i _
    exact h i.1 i.2

/-! ### The exponents, scales and codes -/

theorem mul_448 (a : Elt Ideal .f32) : Scalar.mulf (F := Ideal) a (Scalar.ofBits .f32 0x3B124925#32) = a * Math.inv448 := rfl
theorem mul_57344 (a : Elt Ideal .f32) : Scalar.mulf (F := Ideal) a (Scalar.ofBits .f32 0x37924925#32) = a * Math.inv57344 := rfl
theorem pay8_eq : k0_pay8 x g = cnt (Scalar.mulf (F := Ideal) (amx x g) (Scalar.ofBits .f32 0x3B124925#32)) := rfl
theorem pay11_eq : k0_pay11 (k0_pay9 x g) (k0_pay10 x g) = ex (k0_pay8 x g) := rfl
theorem pay13_eq (v : FVec Ideal S1536x2304 .f32) : k0_pay13 v = ex (cnt (Scalar.mulf (F := Ideal) (amd v) (Scalar.ofBits .f32 0x37924925#32))) := rfl

theorem expo_x (i : S1x1.Idx) : k0_pay11 (k0_pay9 x g) (k0_pay10 x g) i = Math.expo (Math.amaxX x g * Math.inv448) := by
  rw [pay11_eq, pay8_eq, ex_apply, mul_448, amx_eq]
theorem expo_dy (i : S1x1.Idx) : k0_pay13 (k0_pay4 y) i = Math.expo (Math.amaxDy y * Math.inv57344) := by
  rw [pay13_eq, ex_apply, mul_57344, amd_eq]

theorem up_x (i : S1x1.Idx) : k0_pay12 (k0_pay9 x g) (k0_pay10 x g) i = Math.up (Math.amaxX x g * Math.inv448) := by
  unfold k0_pay12
  simp only [pointwise]
  rw [expo_x]
  rfl
theorem up_dy (i : S1x1.Idx) : k0_pay14 (k0_pay4 y) i = Math.up (Math.amaxDy y * Math.inv57344) := by
  unfold k0_pay14
  simp only [pointwise]
  rw [expo_dy]
  rfl
theorem sx_eq : k0_pay1 (k0_pay12 (k0_pay9 x g) (k0_pay10 x g)) = Math.up (Math.amaxX x g * Math.inv448) := up_x x g _
theorem sdy_eq : k0_pay2 (k0_pay14 (k0_pay4 y)) = Math.up (Math.amaxDy y * Math.inv57344) := up_dy y _

/-! ### The payloads over values given as variables -/

theorem pay15_apply (v16 : FVec Ideal S1536x7168 .f32) (v39 : IVec S1x1 1) (v41 : FVec Ideal S1x1 .f32) (e : EReal) (h : ∀ i, k0_pay11 v39 v41 i = e) (i : S1536x7168.Idx) :
    k0_pay15 v16 v39 v41 i = Math.clip448 (v16 i * Ideal.exp2 (0 - e)) := by
  unfold k0_pay15
  generalize k0_pay11 v39 v41 = p at h ⊢
  simp only [pointwise, h, Ideal.ofBits_zero]
  rfl

theorem down_apply (p : FVec Ideal S1x1 .f32) (e : EReal) (h : ∀ i, p i = e) (i : S1536x2304.Idx) :
    broadcastTo S1536x2304 (exp2 (subf (broadcast S1x1 (Scalar.ofBits (F := Ideal) .f32 0x00000000#32)) p)) broadcasts_S1x1_S1536x2304 i = Ideal.exp2 (0 - e) := by
  simp only [pointwise, h, Ideal.ofBits_zero]
  try rfl

theorem pay16_apply (v4 : FVec Ideal S1536x2304 .f32) (e : EReal) (h : ∀ i, k0_pay13 v4 i = e) (i : S1536x2304.Idx) :
    k0_pay16 v4 i = Ideal.exp2 (0 - e) := by
  exact down_apply (k0_pay13 v4) e h i

theorem pay17_apply (v4 v86 : FVec Ideal S1536x2304 .f32) (i : S1536x2304.Idx) :
    k0_pay17 v4 v86 i = Math.clip57344 (v4 i * v86 i) := by
  unfold k0_pay17
  simp only [pointwise]
  rfl

theorem pay18_apply (v4 v86 : FVec Ideal S1536x2304 .f32) (i : S1536x2304.Idx) :
    k0_pay18 v4 v86 i = k0_pay17 v4 v86 i := rfl

theorem pay19_apply (v4 : FVec Ideal S1536x2304 .f32) (v75 : FVec Ideal S1x1 .f32) (v86 : FVec Ideal S1536x2304 .f32) (v94 : Vec Ideal S7168x2304 .fp8e4m3) (v98 : Elt Ideal .f32) (i : S1536x7168.Idx) :
    k0_pay19 v4 v75 v86 v94 v98 i = (∑ k : Fin 2304, k0_pay17 v4 v86 (ix2 (i 0) k) * v94 (ix2 (i 1) k)) * (v75 (ix2 0 0) * v98) := by
  unfold k0_pay19 k0_pay18
  generalize k0_pay17 v4 v86 = p
  simp only [pointwise]
  simp

theorem pay20_apply (v4 : FVec Ideal S1536x2304 .f32) (v44 v75 : FVec Ideal S1x1 .f32) (v85 : FVec Ideal S1536x7168 .fp8e4m3) (v86 : FVec Ideal S1536x2304 .f32) (j : S7168x2304.Idx) :
    k0_pay20 v4 v44 v75 v85 v86 j = (∑ k : Fin 1536, v85 (ix2 k (j 0)) * k0_pay17 v4 v86 (ix2 k (j 1))) * (v44 (ix2 0 0) * v75 (ix2 0 0)) := by
  unfold k0_pay20 k0_pay18
  generalize k0_pay17 v4 v86 = p
  simp only [pointwise]
  simp

theorem pay21_apply (v2 : Vec Ideal S1x7168 .f32) (v4 : FVec Ideal S1536x2304 .f32) (v12 : FVec Ideal S1536x1 .f32) (v14 : FVec Ideal S1536x7168 .f32) (v75 : FVec Ideal S1x1 .f32) (v86 : FVec Ideal S1536x2304 .f32) (v94 : Vec Ideal S7168x2304 .fp8e4m3) (v98 : Elt Ideal .f32) (i : S1536x7168.Idx) :
    k0_pay21 v2 v4 v12 v14 v75 v86 v94 v98 i = Math.dxAt (v12 (ix2 (i 0) 0)) (k0_pay19 v4 v75 v86 v94 v98 i * v2 (ix2 0 (i 1))) (v14 i)
      (Math.meanRow fun j => k0_pay19 v4 v75 v86 v94 v98 (ix2 (i 0) j) * v2 (ix2 0 j) * v14 (ix2 (i 0) j)) := by
  unfold k0_pay21
  generalize k0_pay19 v4 v75 v86 v94 v98 = p
  simp only [pointwise]
  rfl

theorem pay22_apply (v4 : FVec Ideal S1536x2304 .f32) (v14 : FVec Ideal S1536x7168 .f32) (v75 : FVec Ideal S1x1 .f32) (v86 : FVec Ideal S1536x2304 .f32) (v94 : Vec Ideal S7168x2304 .fp8e4m3) (v98 : Elt Ideal .f32) (i : S1x7168.Idx) :
    k0_pay22 v4 v14 v75 v86 v94 v98 i = ∑ a : Fin 1536, k0_pay19 v4 v75 v86 v94 v98 (ix2 a (i 1)) * v14 (ix2 a (i 1)) := by
  unfold k0_pay22
  generalize k0_pay19 v4 v75 v86 v94 v98 = p
  simp only [pointwise]

/-! ### The codes -/

theorem xcodes_apply (i : S1536x7168.Idx) : k0_pay15 (k0_pay7 x g) (k0_pay9 x g) (k0_pay10 x g) i
    = Math.xCode (Math.amaxX x g) (x i) (Math.rInv fun j => x (ix2 (i 0) j)) (g (ix2 0 (i 1))) := by
  rw [pay15_apply _ _ _ _ (expo_x x g), xn_apply]
  unfold Math.xCode Math.down
  rfl

theorem dycodes_apply (i : S1536x2304.Idx) : k0_pay17 (k0_pay4 y) (k0_pay16 (k0_pay4 y)) i = Math.dyCode (Math.amaxDy y) (y i) := by
  rw [pay17_apply, pay16_apply _ _ (expo_dy y)]
  unfold Math.dyCode Math.down
  rfl

/-! ### The gradients -/

theorem dxn_apply (i : S1536x7168.Idx) : k0_pay19 (k0_pay4 y) (k0_pay14 (k0_pay4 y)) (k0_pay16 (k0_pay4 y)) z w i
    = Math.dxn (fun k => y (ix2 (i 0) k)) (fun k => z (ix2 (i 1) k)) (Math.amaxDy y) (Math.up (Math.amaxDy y * Math.inv57344) * w) := by
  rw [pay19_apply, up_dy]
  unfold Math.dxn
  refine congrArg (· * _) (Finset.sum_congr rfl fun k _ => ?_)
  rw [dycodes_apply]

theorem dw_apply (j : S7168x2304.Idx) : k0_pay20 (k0_pay4 y) (k0_pay12 (k0_pay9 x g) (k0_pay10 x g)) (k0_pay14 (k0_pay4 y)) (k0_pay15 (k0_pay7 x g) (k0_pay9 x g) (k0_pay10 x g)) (k0_pay16 (k0_pay4 y)) j
    = (∑ k : Fin 1536, Math.xCode (Math.amaxX x g) (x (ix2 k (j 0))) (Math.rInv fun l => x (ix2 k l)) (g (ix2 0 (j 0))) * Math.dyCode (Math.amaxDy y) (y (ix2 k (j 1))))
      * (Math.up (Math.amaxX x g * Math.inv448) * Math.up (Math.amaxDy y * Math.inv57344)) := by
  rw [pay20_apply, up_x, up_dy]
  refine congrArg (· * _) (Finset.sum_congr rfl fun k _ => ?_)
  exact congrArg₂ (· * ·) (xcodes_apply x g (ix2 k (j 0))) (dycodes_apply y (ix2 k (j 1)))

/-- A row of the gradient of the normalised input. -/
def dxnOf (a : Fin 1536) (b : Fin 7168) : EReal :=
  Math.dxn (fun k => y (ix2 a k)) (fun k => z (ix2 b k)) (Math.amaxDy y) (Math.up (Math.amaxDy y * Math.inv57344) * w)
def rOf (a : Fin 1536) : EReal := Math.rInv fun j => x (ix2 a j)

theorem dxn_of (i : S1536x7168.Idx) : k0_pay19 (k0_pay4 y) (k0_pay14 (k0_pay4 y)) (k0_pay16 (k0_pay4 y)) z w i = dxnOf y z w (i 0) (i 1) := dxn_apply y z w i
theorem xhat_of (i : S1536x7168.Idx) : k0_pay6 x i = x i * rOf x (i 0) := xhat_apply x i
theorem r_of (i : S1536x1.Idx) : k0_pay5 x i = rOf x (i 0) := r_apply x i

theorem dx_of (i : S1536x7168.Idx) : k0_pay21 g (k0_pay4 y) (k0_pay5 x) (k0_pay6 x) (k0_pay14 (k0_pay4 y)) (k0_pay16 (k0_pay4 y)) z w i
    = Math.dxAt (rOf x (i 0)) (dxnOf y z w (i 0) (i 1) * g (ix2 0 (i 1))) (x i * rOf x (i 0))
        (Math.meanRow fun j => dxnOf y z w (i 0) j * g (ix2 0 j) * (x (ix2 (i 0) j) * rOf x (i 0))) := by
  rw [pay21_apply, dxn_of, xhat_of, r_of]
  refine congrArg (Math.dxAt _ _ _) (congrArg Math.meanRow (funext fun j => ?_))
  rw [dxn_of, xhat_of]
  rfl

theorem dx_apply (i : S1536x7168.Idx) : k0_pay21 g (k0_pay4 y) (k0_pay5 x) (k0_pay6 x) (k0_pay14 (k0_pay4 y)) (k0_pay16 (k0_pay4 y)) z w i
    = Math.dxAt (Math.rInv fun j => x (ix2 (i 0) j))
        (Math.dxn (fun k => y (ix2 (i 0) k)) (fun k => z (ix2 (i 1) k)) (Math.amaxDy y) (Math.up (Math.amaxDy y * Math.inv57344) * w) * g (ix2 0 (i 1)))
        (x i * Math.rInv fun j => x (ix2 (i 0) j))
        (Math.meanRow fun j => Math.dxn (fun k => y (ix2 (i 0) k)) (fun k => z (ix2 j k)) (Math.amaxDy y) (Math.up (Math.amaxDy y * Math.inv57344) * w) * g (ix2 0 j)
          * (x (ix2 (i 0) j) * Math.rInv fun l => x (ix2 (i 0) l))) := by
  rw [dx_of]
  unfold dxnOf rOf
  rfl

theorem dgamma_apply (i : S1x7168.Idx) : k0_pay22 (k0_pay4 y) (k0_pay6 x) (k0_pay14 (k0_pay4 y)) (k0_pay16 (k0_pay4 y)) z w i
    = ∑ a : Fin 1536, Math.dxn (fun k => y (ix2 a k)) (fun k => z (ix2 (i 1) k)) (Math.amaxDy y) (Math.up (Math.amaxDy y * Math.inv57344) * w)
        * (x (ix2 a (i 1)) * Math.rInv fun l => x (ix2 a l)) := by
  rw [pay22_apply]
  refine (Finset.sum_congr rfl fun a _ => ?_)
  exact congrArg₂ (· * ·) (dxn_of y z w (ix2 a (i 1))) (xhat_of x (ix2 a (i 1)))

end Cert.Proof.WholeRef

end
-- ==== Proof.WholeRef.lean ====
/-
  What the idealized whole reference leaves in its seven results, in terms of its arguments alone, and its run with those
  results named.
-/
module

public import proofs.«01_k».proof.Proof.WholeRefPay
public import Idealize.ShloMosaic.Lib.Pipeline.Value

@[expose] public section

set_option maxRecDepth 16384

noncomputable section

namespace Cert.Proof.WholeRef

open Cert.WholeRefIdeal Cert.WholeRefIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The one point's blocks are the whole arrays. -/
theorem index_facts : ∀ t : Fin grid0.N,
    (win0_0.index t 0 = 0 ∧ win0_0.index t 1 = 0) ∧ (win0_1.index t 0 = 0 ∧ win0_1.index t 1 = 0) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = 0 ∧ win0_8.index t 1 = 0) ∧ (win0_9.index t 0 = 0) ∧ (win0_10.index t 0 = 0 ∧ win0_10.index t 1 = 0) ∧ (win0_11.index t 0 = 0) := by
  decide +kernel

theorem eq_one (i : S1.Idx) : i = ix1 0 := by
  funext a; match a with | ⟨0, _⟩ => exact Fin.ext (by have := (i 0).isLt; change (i 0 : Nat) < 1 at this; show (i 0 : Nat) = 0; omega)

theorem blk2 (c : Dev nD) (t : Fin cfg0.N) (i : S1.Idx) : View.ld (iblk m c 2 t) (Rect.unit ![0] S1.size inb_S1_S1_0) i = V m c main_arg2 (ix1 0) :=
  congrArg (V m c main_arg2) (eq_one _)
theorem blk0 (c : Dev nD) (t : Fin cfg0.N) : iblk m c 0 t = V m c main_arg0 := by
  funext y
  refine congrArg (V m c main_arg0) (Shape.idx_ext₂ ?_ ?_)
  · exact win0_0.rect_emb_val_of_index_zero t 0 (index_facts t).1.1 y
  · exact win0_0.rect_emb_val_of_index_zero t 1 (index_facts t).1.2 y
theorem blk1 (c : Dev nD) (t : Fin cfg0.N) : iblk m c 1 t = V m c main_arg1 := by
  funext y
  refine congrArg (V m c main_arg1) (Shape.idx_ext₂ ?_ ?_)
  · exact win0_1.rect_emb_val_of_index_zero t 0 (index_facts t).2.1.1 y
  · exact win0_1.rect_emb_val_of_index_zero t 1 (index_facts t).2.1.2 y
theorem blk3 (c : Dev nD) (t : Fin cfg0.N) : iblk m c 3 t = V m c main_arg3 := by
  funext y
  refine congrArg (V m c main_arg3) (Shape.idx_ext₂ ?_ ?_)
  · exact win0_3.rect_emb_val_of_index_zero t 0 (index_facts t).2.2.1.1 y
  · exact win0_3.rect_emb_val_of_index_zero t 1 (index_facts t).2.2.1.2 y
theorem blk4 (c : Dev nD) (t : Fin cfg0.N) : iblk m c 4 t = V m c main_arg4 := by
  funext y
  refine congrArg (V m c main_arg4) (Shape.idx_ext₂ ?_ ?_)
  · exact win0_4.rect_emb_val_of_index_zero t 0 (index_facts t).2.2.2.1.1 y
  · exact win0_4.rect_emb_val_of_index_zero t 1 (index_facts t).2.2.2.1.2 y

theorem out5 (c : Dev nD) (t : Fin cfg0.N) : (outsAt0 m c t).1 = Math.dx (Math.statAdy (V m c main_arg4)) (Math.statSdy (V m c main_arg4)) (V m c main_arg2) (V m c main_arg0) (V m c main_arg1) (V m c main_arg4) (V m c main_arg3) (Math.invRms (V m c main_arg0)) := by
  unfold outsAt0 out0_A_5
  dsimp only
  rw [View.read_writes_eq_canon _ _ _ (cover0_A_5 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread]
  rw [View.canon_unit_zero hz2]
  simp only [View.ld_unit_zero (S := S1536x7168) hz2, View.ld_unit_zero (S := S1x7168) hz2, View.ld_unit_zero (S := S1536x2304) hz2, View.ld_unit_zero (S := S7168x2304) hz2]
  rw [blk0, blk1, blk3, blk4]
  funext j
  rw [dx_apply, blk2]
  have e : V m c main_arg0 j = V m c main_arg0 (ix2 (j 0) (j 1)) := congrArg (V m c main_arg0) (Shape.idx_ext₂ rfl rfl)
  rw [e]
  rfl

theorem out6 (c : Dev nD) (t : Fin cfg0.N) : (outsAt0 m c t).2.1 = Math.wgrad (Math.statSx (V m c main_arg0) (V m c main_arg1)) (Math.statSdy (V m c main_arg4)) (Math.xCodes (Math.statAx (V m c main_arg0) (V m c main_arg1)) (V m c main_arg0) (V m c main_arg1) (Math.invRms (V m c main_arg0))) (Math.dyCodes (Math.statAdy (V m c main_arg4)) (V m c main_arg4)) := by
  unfold outsAt0 out0_A_6
  dsimp only
  rw [View.read_writes_eq_canon _ _ _ (cover0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread]
  rw [View.canon_unit_zero hz2]
  simp only [View.ld_unit_zero (S := S1536x7168) hz2, View.ld_unit_zero (S := S1x7168) hz2, View.ld_unit_zero (S := S1536x2304) hz2, View.ld_unit_zero (S := S7168x2304) hz2]
  rw [blk0, blk1, blk4]
  funext j
  rw [dw_apply]
  rfl

theorem out7 (c : Dev nD) (t : Fin cfg0.N) : (outsAt0 m c t).2.2.1 = Math.dgamma (Math.statAdy (V m c main_arg4)) (Math.statSdy (V m c main_arg4)) (V m c main_arg2) (V m c main_arg0) (V m c main_arg4) (V m c main_arg3) (Math.invRms (V m c main_arg0)) := by
  unfold outsAt0 out0_A_7
  dsimp only
  rw [View.read_writes_eq_canon _ _ _ (cover0_A_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread]
  rw [View.canon_unit_zero hz2]
  simp only [View.ld_unit_zero (S := S1536x7168) hz2, View.ld_unit_zero (S := S1x7168) hz2, View.ld_unit_zero (S := S1536x2304) hz2, View.ld_unit_zero (S := S7168x2304) hz2]
  rw [blk0, blk3, blk4]
  funext j
  rw [dgamma_apply, blk2]
  rfl

theorem out8 (c : Dev nD) (t : Fin cfg0.N) : (outsAt0 m c t).2.2.2.1 = Math.xCodes (Math.statAx (V m c main_arg0) (V m c main_arg1)) (V m c main_arg0) (V m c main_arg1) (Math.invRms (V m c main_arg0)) := by
  unfold outsAt0 out0_A_8
  dsimp only
  rw [View.read_writes_eq_canon _ _ _ (cover0_A_8 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread]
  rw [View.canon_unit_zero hz2]
  simp only [View.ld_unit_zero (S := S1536x7168) hz2, View.ld_unit_zero (S := S1x7168) hz2, View.ld_unit_zero (S := S1536x2304) hz2, View.ld_unit_zero (S := S7168x2304) hz2]
  rw [blk0, blk1]
  funext j
  rw [xcodes_apply]
  rfl

theorem out9 (c : Dev nD) (t : Fin cfg0.N) : (outsAt0 m c t).2.2.2.2.1 = Math.statSx (V m c main_arg0) (V m c main_arg1) := by
  unfold outsAt0 out0_A_9
  dsimp only
  rw [View.read_writes_eq_canon _ _ _ (cover0_A_9 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread]
  rw [View.canon_unit_zero hz1]
  simp only [View.ld_unit_zero (S := S1536x7168) hz2, View.ld_unit_zero (S := S1x7168) hz2, View.ld_unit_zero (S := S1536x2304) hz2, View.ld_unit_zero (S := S7168x2304) hz2]
  rw [blk0, blk1]
  exact funext fun _ => sx_eq _ _

theorem out10 (c : Dev nD) (t : Fin cfg0.N) : (outsAt0 m c t).2.2.2.2.2.1 = Math.dyCodes (Math.statAdy (V m c main_arg4)) (V m c main_arg4) := by
  unfold outsAt0 out0_A_10
  dsimp only
  rw [View.read_writes_eq_canon _ _ _ (cover0_A_10 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread]
  rw [View.canon_unit_zero hz2]
  simp only [View.ld_unit_zero (S := S1536x7168) hz2, View.ld_unit_zero (S := S1x7168) hz2, View.ld_unit_zero (S := S1536x2304) hz2, View.ld_unit_zero (S := S7168x2304) hz2]
  rw [blk4]
  funext j
  rw [dycodes_apply]
  rfl

theorem out11 (c : Dev nD) (t : Fin cfg0.N) : (outsAt0 m c t).2.2.2.2.2.2 = Math.statSdy (V m c main_arg4) := by
  unfold outsAt0 out0_A_11
  dsimp only
  rw [View.read_writes_eq_canon _ _ _ (cover0_A_11 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread]
  rw [View.canon_unit_zero hz1]
  simp only [View.ld_unit_zero (S := S1536x7168) hz2, View.ld_unit_zero (S := S1x7168) hz2, View.ld_unit_zero (S := S1536x2304) hz2, View.ld_unit_zero (S := S7168x2304) hz2]
  rw [blk4]
  exact funext fun _ => sdy_eq _

/-! ### The result arrays -/

theorem final5 (c : Dev nD) : (dats m 0 c).arrAt 5 cfg0.N = Math.dx (Math.statAdy (V m c main_arg4)) (Math.statSdy (V m c main_arg4)) (V m c main_arg2) (V m c main_arg0) (V m c main_arg1) (V m c main_arg4) (V m c main_arg3) (Math.invRms (V m c main_arg0)) := by
  refine (dats m 0 c).arrAt_eq_of_cover 5 _ (fun t _ => ?_) fun i => ?_
  · show (cfg0.win 5).cut (grid0.coords t) ((dats m 0 c).after 5 t) = _
    rw [after0_5]
    funext j
    show (outsAt0 m c t).1 j = _
    rw [out5]
    refine congrArg (Math.dx (Math.statAdy (V m c main_arg4)) (Math.statSdy (V m c main_arg4)) (V m c main_arg2) (V m c main_arg0) (V m c main_arg1) (V m c main_arg4) (V m c main_arg3) (Math.invRms (V m c main_arg0))) (Shape.idx_ext₂ ?_ ?_)
    · exact (win0_5.rect_emb_val_of_index_zero t 0 (index_facts t).2.2.2.2.1.1 j).symm
    · exact (win0_5.rect_emb_val_of_index_zero t 1 (index_facts t).2.2.2.2.1.2 j).symm
  · refine ⟨t0_0, flush0_5 _, ?_⟩
    have ee := (index_facts t0_0).2.2.2.2.1
    show i ∈ ((View.whole main_v0_0).slice (win0_5.rect t0_0)).set
    rw [View.set_slice_whole, Rect.mem_set_unit]
    have h0 : (i 0 : Nat) < 1536 := (i 0).isLt
    have h1 : (i 1 : Nat) < 7168 := (i 1).isLt
    intro a
    match a with
    | ⟨0, _⟩ =>
      show win0_5.index _ 0 * 1536 ≤ (i 0 : Nat) ∧ (i 0 : Nat) < win0_5.index _ 0 * 1536 + 1536
      rw [ee.1]; omega
    | ⟨1, _⟩ =>
      show win0_5.index _ 1 * 7168 ≤ (i 1 : Nat) ∧ (i 1 : Nat) < win0_5.index _ 1 * 7168 + 7168
      rw [ee.2]; omega

theorem final6 (c : Dev nD) : (dats m 0 c).arrAt 6 cfg0.N = Math.wgrad (Math.statSx (V m c main_arg0) (V m c main_arg1)) (Math.statSdy (V m c main_arg4)) (Math.xCodes (Math.statAx (V m c main_arg0) (V m c main_arg1)) (V m c main_arg0) (V m c main_arg1) (Math.invRms (V m c main_arg0))) (Math.dyCodes (Math.statAdy (V m c main_arg4)) (V m c main_arg4)) := by
  refine (dats m 0 c).arrAt_eq_of_cover 6 _ (fun t _ => ?_) fun i => ?_
  · show (cfg0.win 6).cut (grid0.coords t) ((dats m 0 c).after 6 t) = _
    rw [after0_6]
    funext j
    show (outsAt0 m c t).2.1 j = _
    rw [out6]
    refine congrArg (Math.wgrad (Math.statSx (V m c main_arg0) (V m c main_arg1)) (Math.statSdy (V m c main_arg4)) (Math.xCodes (Math.statAx (V m c main_arg0) (V m c main_arg1)) (V m c main_arg0) (V m c main_arg1) (Math.invRms (V m c main_arg0))) (Math.dyCodes (Math.statAdy (V m c main_arg4)) (V m c main_arg4))) (Shape.idx_ext₂ ?_ ?_)
    · exact (win0_6.rect_emb_val_of_index_zero t 0 (index_facts t).2.2.2.2.2.1.1 j).symm
    · exact (win0_6.rect_emb_val_of_index_zero t 1 (index_facts t).2.2.2.2.2.1.2 j).symm
  · refine ⟨t0_0, flush0_6 _, ?_⟩
    have ee := (index_facts t0_0).2.2.2.2.2.1
    show i ∈ ((View.whole main_v0_1).slice (win0_6.rect t0_0)).set
    rw [View.set_slice_whole, Rect.mem_set_unit]
    have h0 : (i 0 : Nat) < 7168 := (i 0).isLt
    have h1 : (i 1 : Nat) < 2304 := (i 1).isLt
    intro a
    match a with
    | ⟨0, _⟩ =>
      show win0_6.index _ 0 * 7168 ≤ (i 0 : Nat) ∧ (i 0 : Nat) < win0_6.index _ 0 * 7168 + 7168
      rw [ee.1]; omega
    | ⟨1, _⟩ =>
      show win0_6.index _ 1 * 2304 ≤ (i 1 : Nat) ∧ (i 1 : Nat) < win0_6.index _ 1 * 2304 + 2304
      rw [ee.2]; omega

theorem final7 (c : Dev nD) : (dats m 0 c).arrAt 7 cfg0.N = Math.dgamma (Math.statAdy (V m c main_arg4)) (Math.statSdy (V m c main_arg4)) (V m c main_arg2) (V m c main_arg0) (V m c main_arg4) (V m c main_arg3) (Math.invRms (V m c main_arg0)) := by
  refine (dats m 0 c).arrAt_eq_of_cover 7 _ (fun t _ => ?_) fun i => ?_
  · show (cfg0.win 7).cut (grid0.coords t) ((dats m 0 c).after 7 t) = _
    rw [after0_7]
    funext j
    show (outsAt0 m c t).2.2.1 j = _
    rw [out7]
    refine congrArg (Math.dgamma (Math.statAdy (V m c main_arg4)) (Math.statSdy (V m c main_arg4)) (V m c main_arg2) (V m c main_arg0) (V m c main_arg4) (V m c main_arg3) (Math.invRms (V m c main_arg0))) (Shape.idx_ext₂ ?_ ?_)
    · exact (win0_7.rect_emb_val_of_index_zero t 0 (index_facts t).2.2.2.2.2.2.1.1 j).symm
    · exact (win0_7.rect_emb_val_of_index_zero t 1 (index_facts t).2.2.2.2.2.2.1.2 j).symm
  · refine ⟨t0_0, flush0_7 _, ?_⟩
    have ee := (index_facts t0_0).2.2.2.2.2.2.1
    show i ∈ ((View.whole main_v0_2).slice (win0_7.rect t0_0)).set
    rw [View.set_slice_whole, Rect.mem_set_unit]
    have h0 : (i 0 : Nat) < 1 := (i 0).isLt
    have h1 : (i 1 : Nat) < 7168 := (i 1).isLt
    intro a
    match a with
    | ⟨0, _⟩ =>
      show win0_7.index _ 0 * 1 ≤ (i 0 : Nat) ∧ (i 0 : Nat) < win0_7.index _ 0 * 1 + 1
      rw [ee.1]; omega
    | ⟨1, _⟩ =>
      show win0_7.index _ 1 * 7168 ≤ (i 1 : Nat) ∧ (i 1 : Nat) < win0_7.index _ 1 * 7168 + 7168
      rw [ee.2]; omega

theorem final8 (c : Dev nD) : (dats m 0 c).arrAt 8 cfg0.N = Math.xCodes (Math.statAx (V m c main_arg0) (V m c main_arg1)) (V m c main_arg0) (V m c main_arg1) (Math.invRms (V m c main_arg0)) := by
  refine (dats m 0 c).arrAt_eq_of_cover 8 _ (fun t _ => ?_) fun i => ?_
  · show (cfg0.win 8).cut (grid0.coords t) ((dats m 0 c).after 8 t) = _
    rw [after0_8]
    funext j
    show (outsAt0 m c t).2.2.2.1 j = _
    rw [out8]
    refine congrArg (Math.xCodes (Math.statAx (V m c main_arg0) (V m c main_arg1)) (V m c main_arg0) (V m c main_arg1) (Math.invRms (V m c main_arg0))) (Shape.idx_ext₂ ?_ ?_)
    · exact (win0_8.rect_emb_val_of_index_zero t 0 (index_facts t).2.2.2.2.2.2.2.1.1 j).symm
    · exact (win0_8.rect_emb_val_of_index_zero t 1 (index_facts t).2.2.2.2.2.2.2.1.2 j).symm
  · refine ⟨t0_0, flush0_8 _, ?_⟩
    have ee := (index_facts t0_0).2.2.2.2.2.2.2.1
    show i ∈ ((View.whole main_v0_3).slice (win0_8.rect t0_0)).set
    rw [View.set_slice_whole, Rect.mem_set_unit]
    have h0 : (i 0 : Nat) < 1536 := (i 0).isLt
    have h1 : (i 1 : Nat) < 7168 := (i 1).isLt
    intro a
    match a with
    | ⟨0, _⟩ =>
      show win0_8.index _ 0 * 1536 ≤ (i 0 : Nat) ∧ (i 0 : Nat) < win0_8.index _ 0 * 1536 + 1536
      rw [ee.1]; omega
    | ⟨1, _⟩ =>
      show win0_8.index _ 1 * 7168 ≤ (i 1 : Nat) ∧ (i 1 : Nat) < win0_8.index _ 1 * 7168 + 7168
      rw [ee.2]; omega

theorem final9 (c : Dev nD) : (dats m 0 c).arrAt 9 cfg0.N = Math.statSx (V m c main_arg0) (V m c main_arg1) := by
  refine (dats m 0 c).arrAt_eq_of_cover 9 _ (fun t _ => ?_) fun i => ?_
  · show (cfg0.win 9).cut (grid0.coords t) ((dats m 0 c).after 9 t) = _
    rw [after0_9]
    funext j
    show (outsAt0 m c t).2.2.2.2.1 j = _
    rw [out9]
    rfl
  · refine ⟨t0_0, flush0_9 _, ?_⟩
    have ee := (index_facts t0_0).2.2.2.2.2.2.2.2.1
    show i ∈ ((View.whole main_v0_4).slice (win0_9.rect t0_0)).set
    rw [View.set_slice_whole, Rect.mem_set_unit]
    have h0 : (i 0 : Nat) < 1 := (i 0).isLt
    intro a
    match a with
    | ⟨0, _⟩ =>
      show win0_9.index _ 0 * 1 ≤ (i 0 : Nat) ∧ (i 0 : Nat) < win0_9.index _ 0 * 1 + 1
      rw [ee]; omega

theorem final10 (c : Dev nD) : (dats m 0 c).arrAt 10 cfg0.N = Math.dyCodes (Math.statAdy (V m c main_arg4)) (V m c main_arg4) := by
  refine (dats m 0 c).arrAt_eq_of_cover 10 _ (fun t _ => ?_) fun i => ?_
  · show (cfg0.win 10).cut (grid0.coords t) ((dats m 0 c).after 10 t) = _
    rw [after0_10]
    funext j
    show (outsAt0 m c t).2.2.2.2.2.1 j = _
    rw [out10]
    refine congrArg (Math.dyCodes (Math.statAdy (V m c main_arg4)) (V m c main_arg4)) (Shape.idx_ext₂ ?_ ?_)
    · exact (win0_10.rect_emb_val_of_index_zero t 0 (index_facts t).2.2.2.2.2.2.2.2.2.1.1 j).symm
    · exact (win0_10.rect_emb_val_of_index_zero t 1 (index_facts t).2.2.2.2.2.2.2.2.2.1.2 j).symm
  · refine ⟨t0_0, flush0_10 _, ?_⟩
    have ee := (index_facts t0_0).2.2.2.2.2.2.2.2.2.1
    show i ∈ ((View.whole main_v0_5).slice (win0_10.rect t0_0)).set
    rw [View.set_slice_whole, Rect.mem_set_unit]
    have h0 : (i 0 : Nat) < 1536 := (i 0).isLt
    have h1 : (i 1 : Nat) < 2304 := (i 1).isLt
    intro a
    match a with
    | ⟨0, _⟩ =>
      show win0_10.index _ 0 * 1536 ≤ (i 0 : Nat) ∧ (i 0 : Nat) < win0_10.index _ 0 * 1536 + 1536
      rw [ee.1]; omega
    | ⟨1, _⟩ =>
      show win0_10.index _ 1 * 2304 ≤ (i 1 : Nat) ∧ (i 1 : Nat) < win0_10.index _ 1 * 2304 + 2304
      rw [ee.2]; omega

theorem final11 (c : Dev nD) : (dats m 0 c).arrAt 11 cfg0.N = Math.statSdy (V m c main_arg4) := by
  refine (dats m 0 c).arrAt_eq_of_cover 11 _ (fun t _ => ?_) fun i => ?_
  · show (cfg0.win 11).cut (grid0.coords t) ((dats m 0 c).after 11 t) = _
    rw [after0_11]
    funext j
    show (outsAt0 m c t).2.2.2.2.2.2 j = _
    rw [out11]
    rfl
  · refine ⟨t0_0, flush0_11 _, ?_⟩
    have ee := (index_facts t0_0).2.2.2.2.2.2.2.2.2.2
    show i ∈ ((View.whole main_v0_6).slice (win0_11.rect t0_0)).set
    rw [View.set_slice_whole, Rect.mem_set_unit]
    have h0 : (i 0 : Nat) < 1 := (i 0).isLt
    intro a
    match a with
    | ⟨0, _⟩ =>
      show win0_11.index _ 0 * 1 ≤ (i 0 : Nat) ∧ (i 0 : Nat) < win0_11.index _ 0 * 1 + 1
      rw [ee]; omega

theorem kept (r : PUnit × MemSt nD τ sig (Elt Ideal)) (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩

/-- The reference's run, its results named, the arguments unchanged. -/
theorem run : θ_run defs (onTc (τ := τ) (main (F := Ideal))) ⟨m, fun _ => 0, ρ⟩ fun r => ∀ c : Dev nD,
    r.2.mem ((c : Thread nD τ).loc main_v0_0) = Math.dx (Math.statAdy (V m c main_arg4)) (Math.statSdy (V m c main_arg4)) (V m c main_arg2) (V m c main_arg0) (V m c main_arg1) (V m c main_arg4) (V m c main_arg3) (Math.invRms (V m c main_arg0))
    ∧ r.2.mem ((c : Thread nD τ).loc main_v0_1) = Math.wgrad (Math.statSx (V m c main_arg0) (V m c main_arg1)) (Math.statSdy (V m c main_arg4)) (Math.xCodes (Math.statAx (V m c main_arg0) (V m c main_arg1)) (V m c main_arg0) (V m c main_arg1) (Math.invRms (V m c main_arg0))) (Math.dyCodes (Math.statAdy (V m c main_arg4)) (V m c main_arg4))
    ∧ r.2.mem ((c : Thread nD τ).loc main_v0_2) = Math.dgamma (Math.statAdy (V m c main_arg4)) (Math.statSdy (V m c main_arg4)) (V m c main_arg2) (V m c main_arg0) (V m c main_arg4) (V m c main_arg3) (Math.invRms (V m c main_arg0))
    ∧ r.2.mem ((c : Thread nD τ).loc main_v0_3) = Math.xCodes (Math.statAx (V m c main_arg0) (V m c main_arg1)) (V m c main_arg0) (V m c main_arg1) (Math.invRms (V m c main_arg0))
    ∧ r.2.mem ((c : Thread nD τ).loc main_v0_4) = Math.statSx (V m c main_arg0) (V m c main_arg1)
    ∧ r.2.mem ((c : Thread nD τ).loc main_v0_5) = Math.dyCodes (Math.statAdy (V m c main_arg4)) (V m c main_arg4)
    ∧ r.2.mem ((c : Thread nD τ).loc main_v0_6) = Math.statSdy (V m c main_arg4)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c => ⟨((h c).1 5).trans (final5 m c), ((h c).1 6).trans (final6 m c), ((h c).1 7).trans (final7 m c), ((h c).1 8).trans (final8 m c), ((h c).1 9).trans (final9 m c), ((h c).1 10).trans (final10 m c), ((h c).1 11).trans (final11 m c), kept m r h c⟩)
    (run_main m ρ)

end Cert.Proof.WholeRef

end
-- ==== Proof.WholeClaim.lean ====
/-
  The chained calls and the whole reference leave the same seven results on the same five arguments.
-/
module

public import proofs.«01_k».proof.Defs
public import proofs.«01_k».proof.Proof.WholeValue
public import proofs.«01_k».proof.Proof.WholeRef
public import proofs.«01_k».proof.Proof.Gen.WholeIdeal
public import proofs.«01_k».proof.Proof.Gen.WholeRefIdeal

@[expose] public section

noncomputable section

namespace Cert.Proof.WholeClaim

open Cert.WholeIdeal Cert.WholeIdeal.Run Cert.Proof.WholeValue
open Idealize.ShloMosaic Idealize.ShloMosaic.TcCoe Idealize.SL.Sem

theorem algebraic : Cert.algebraic_WholeIdeal_WholeRefIdeal := by
  intro m ρ m' ρ' _ hagree
  refine ⟨fun c => Math.dx (Math.statAdy (A m c main_arg4)) (Math.statSdy (A m c main_arg4)) (A m c main_arg2) (A m c main_arg0) (A m c main_arg1) (A m c main_arg4) (A m c main_arg3) (Math.invRms (A m c main_arg0)),
    fun c => Math.wgrad (Math.statSx (A m c main_arg0) (A m c main_arg1)) (Math.statSdy (A m c main_arg4)) (Math.xCodes (Math.statAx (A m c main_arg0) (A m c main_arg1)) (A m c main_arg0) (A m c main_arg1) (Math.invRms (A m c main_arg0))) (Math.dyCodes (Math.statAdy (A m c main_arg4)) (A m c main_arg4)),
    fun c => Math.dgamma (Math.statAdy (A m c main_arg4)) (Math.statSdy (A m c main_arg4)) (A m c main_arg2) (A m c main_arg0) (A m c main_arg4) (A m c main_arg3) (Math.invRms (A m c main_arg0)),
    fun c => Math.xCodes (Math.statAx (A m c main_arg0) (A m c main_arg1)) (A m c main_arg0) (A m c main_arg1) (Math.invRms (A m c main_arg0)),
    fun c => Math.statSx (A m c main_arg0) (A m c main_arg1),
    fun c => Math.dyCodes (Math.statAdy (A m c main_arg4)) (A m c main_arg4),
    fun c => Math.statSdy (A m c main_arg4), ?_, ?_⟩
  · refine (θ_run Cert.WholeIdeal.defs _ _).mono (fun r h c => ?_) (Cert.WholeIdeal.Run.run_main (F := Ideal) m ρ)
    obtain ⟨k0, k1, k2, k3, k4⟩ := args_kept m c
    exact ⟨(read m c (h.1 c) main_v1_0 (mem_uc _ (by decide))).trans (w_dx m c),
      (read m c (h.1 c) main_v2 (mem_uc _ (by decide))).trans (w_dw m c),
      (read m c (h.1 c) main_v1_1 (mem_uc _ (by decide))).trans (w_dg m c),
      (read m c (h.1 c) main_v1_2 (mem_uc _ (by decide))).trans (w_xc m c),
      (read m c (h.1 c) main_v0_3 (mem_uc _ (by decide))).trans (w_sx m c),
      (read m c (h.1 c) main_v1_3 (mem_uc _ (by decide))).trans (w_dyc m c),
      (read m c (h.1 c) main_v0_4 (mem_uc _ (by decide))).trans (w_sdy m c),
      (read m c (h.1 c) main_arg0 (mem_uc _ (by decide))).trans k0,
      (read m c (h.1 c) main_arg1 (mem_uc _ (by decide))).trans k1,
      (read m c (h.1 c) main_arg2 (mem_uc _ (by decide))).trans k2,
      (read m c (h.1 c) main_arg3 (mem_uc _ (by decide))).trans k3,
      (read m c (h.1 c) main_arg4 (mem_uc _ (by decide))).trans k4⟩
  · refine (θ_run Cert.WholeRefIdeal.defs _ _).mono (fun r h c => ?_) (WholeRef.run m' ρ')
    obtain ⟨e0, e1, e2, e3, e4⟩ := hagree c
    have ax := congr (congrArg Math.statAx e0) e1
    have sx := congr (congrArg Math.statSx e0) e1
    have ady := congrArg Math.statAdy e4
    have sdy := congrArg Math.statSdy e4
    have ir := congrArg Math.invRms e0
    have xc := congr (congr (congr (congrArg Math.xCodes ax) e0) e1) ir
    have dyc := congr (congrArg Math.dyCodes ady) e4
    refine ⟨(h c).1.trans ?_, (h c).2.1.trans ?_, (h c).2.2.1.trans ?_, (h c).2.2.2.1.trans ?_, (h c).2.2.2.2.1.trans ?_,
      (h c).2.2.2.2.2.1.trans ?_, (h c).2.2.2.2.2.2.1.trans ?_, (h c).2.2.2.2.2.2.2⟩
    · exact congr (congr (congr (congr (congr (congr (congr (congrArg Math.dx ady) sdy) e2) e0) e1) e4) e3) ir
    · exact congr (congr (congr (congrArg Math.wgrad sx) sdy) xc) dyc
    · exact congr (congr (congr (congr (congr (congr (congrArg Math.dgamma ady) sdy) e2) e0) e4) e3) ir
    · exact xc
    · exact sx
    · exact dyc
    · exact sdy

end Cert.Proof.WholeClaim

end
-- ==== Proof.OneRawStatsTrip.lean ====
/-
  What one grid point of the statistics call leaves in its buffers: the loop over the sixteen
  row tiles, as a function of the blocks read.
-/
module

public import proofs.«01_k».proof.Proof.Gen.Stats.Frame.Runs
public import Idealize.ShloMosaic.Lib.Pipeline.Value
public import Idealize.ShloMosaic.Lib.VecWindow
public import Idealize.ShloMosaic.Lib.Pipeline.ValueKit
public import Idealize.ShloMosaic.Lib.Pointwise

@[expose] public section

set_option maxRecDepth 16384

noncomputable section

namespace Cert.Stats.Hand

open Cert.Stats.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Row tiles -/

/-- The matrix whose row tiles of height 16 are `W`. -/
def tiled {C n : ℕ} {e : EltTy} (hn : n = 16) (W : Fin n → (⟨2, ![16, C]⟩ : Shape).Idx → Elt F e) :
    (⟨2, ![256, C]⟩ : Shape).Idx → Elt F e := fun i =>
  W ⟨(i 0 : ℕ) / 16, by have h : (i 0 : ℕ) < 256 := (i 0).isLt; omega⟩
    (ix2 ⟨(i 0 : ℕ) % 16, Nat.mod_lt _ (by decide)⟩ (i 1))

/-- Tiles stored one after the other: after `k` of them the first `16 * k` rows are the tiles', the rest as found. -/
theorem read_tiles {C n : ℕ} {e : EltTy} {κ : Kind} {sp : Space} (hn : n = 16) (v : View sig κ sp ⟨2, ![256, C]⟩ e)
    (G : v.ty.Contents (Elt F)) (off : Fin n → Fin 2 → ℕ) (hoff : ∀ k, off k = ![16 * k.val, 0])
    (inb : ∀ k (a : Fin 2), off k a + (![16, C] : Fin 2 → ℕ) a ≤ (⟨2, ![256, C]⟩ : Shape).size a)
    (W : Fin n → (⟨2, ![16, C]⟩ : Shape).Idx → Elt F e) (P : ℕ → List (View.Piece (Elt F) ⟨2, ![256, C]⟩ e)) (h0 : P 0 = [])
    (hs : ∀ k : Fin n, P (k.val + 1) = (⟨Rect.unit (s := ⟨2, ![256, C]⟩) (off k) ![16, C] (inb k), W k⟩ : View.Piece (Elt F) ⟨2, ![256, C]⟩ e) :: P k.val) :
    ∀ k ≤ n, ∀ i, v.read (Elt F) (v.writes (Elt F) G (P k)) i
      = if (i 0 : ℕ) < 16 * k then tiled hn W i else v.read (Elt F) G i := by
  intro k
  induction k with
  | zero => intro _ i; rw [h0, if_neg (by omega)]; rfl
  | succ k ih =>
    intro hk i
    have hk' : k < n := hk
    have ih := ih (le_of_lt hk')
    have e := hs ⟨k, hk'⟩
    simp only at e
    rw [e]
    have hi0 : (i 1 : ℕ) < C := (i 1).isLt
    by_cases hlt : (i 0 : ℕ) < 16 * k
    · rw [View.read_writes_cons_unit_of_not_mem v G (inb ⟨k, hk'⟩) _ _ i (hoff _) 0 (Or.inl (by show (i 0 : ℕ) < 16 * k; exact hlt)),
        ih i, if_pos hlt, if_pos (by omega)]
    · by_cases hlt2 : (i 0 : ℕ) < 16 * (k + 1)
      · rw [if_pos hlt2]
        have hd : (i 0 : ℕ) / 16 = k := by omega
        rw [View.read_writes_cons_unit_of_mem v G (inb ⟨k, hk'⟩) _ _ i
          (ix2 ⟨(i 0 : ℕ) % 16, Nat.mod_lt _ (by decide)⟩ (i 1)) (hoff _) (fun a => by
            match a with
            | ⟨0, _⟩ => show (i 0 : ℕ) = 16 * k + (i 0 : ℕ) % 16; omega
            | ⟨1, _⟩ => show (i 1 : ℕ) = 0 + (i 1 : ℕ); omega)]
        unfold tiled
        exact congrFun (congrArg W (Fin.ext hd.symm)) _
      · rw [View.read_writes_cons_unit_of_not_mem v G (inb ⟨k, hk'⟩) _ _ i (hoff _) 0
          (Or.inr (by show 16 * k + 16 ≤ (i 0 : ℕ); omega)), ih i, if_neg hlt, if_neg hlt2]

/-- All the tiles stored: the whole matrix. -/
theorem read_tiles_all {C n : ℕ} {e : EltTy} {κ : Kind} {sp : Space} (hn : n = 16) (v : View sig κ sp ⟨2, ![256, C]⟩ e)
    (G : v.ty.Contents (Elt F)) (off : Fin n → Fin 2 → ℕ) (hoff : ∀ k, off k = ![16 * k.val, 0])
    (inb : ∀ k (a : Fin 2), off k a + (![16, C] : Fin 2 → ℕ) a ≤ (⟨2, ![256, C]⟩ : Shape).size a)
    (W : Fin n → (⟨2, ![16, C]⟩ : Shape).Idx → Elt F e) (P : ℕ → List (View.Piece (Elt F) ⟨2, ![256, C]⟩ e)) (h0 : P 0 = [])
    (hs : ∀ k : Fin n, P (k.val + 1) = (⟨Rect.unit (s := ⟨2, ![256, C]⟩) (off k) ![16, C] (inb k), W k⟩ : View.Piece (Elt F) ⟨2, ![256, C]⟩ e) :: P k.val) :
    v.read (Elt F) (v.writes (Elt F) G (P n)) = tiled hn W := by
  funext i
  rw [read_tiles hn v G off hoff inb W P h0 hs n le_rfl i, if_pos]
  have h : (i 0 : ℕ) < 256 := (i 0).isLt
  omega

theorem trips1 : k0_t1_loop.trips = 16 := by decide +kernel

/-! ## What a point computes, from its blocks -/

/-- The tiles a trip loads. -/
def xT (x : Vec F S256x7168 .bf16) (k : Fin k0_t1_loop.trips) : Vec F S16x7168 .bf16 :=
  View.ld x (Rect.unit (s := S256x7168) (k0_off1 k) S16x7168.size (k0_off1_inb k))
def yT (y : Vec F S256x2304 .bf16) (k : Fin k0_t1_loop.trips) : Vec F S16x2304 .bf16 :=
  View.ld y (Rect.unit (s := S256x2304) (k0_off3 k) S16x2304.size (k0_off3_inb k))

/-- The inverse root mean squares of the point's rows. -/
def rB (x : Vec F S256x7168 .bf16) : Vec F S256x128 .f32 := tiled trips1 fun k => k0_pay5 (xT x k)

/-- The running maxima after `n` tiles. -/
def cmN (x : Vec F S256x7168 .bf16) (s : Vec F S8x7168 .f32) : ℕ → Vec F S8x7168 .f32
  | 0 => s
  | n + 1 => if h : n < k0_t1_loop.trips then k0_pay6 (xT x ⟨n, h⟩) (cmN x s n) else cmN x s n
def dmN (y : Vec F S256x2304 .bf16) (s : Vec F S8x2304 .f32) : ℕ → Vec F S8x2304 .f32
  | 0 => s
  | n + 1 => if h : n < k0_t1_loop.trips then k0_pay7 (yT y ⟨n, h⟩) (dmN y s n) else dmN y s n
def cmB (x : Vec F S256x7168 .bf16) (s : Vec F S8x7168 .f32) : Vec F S8x7168 .f32 := cmN x s k0_t1_loop.trips
def dmB (y : Vec F S256x2304 .bf16) (s : Vec F S8x2304 .f32) : Vec F S8x2304 .f32 := dmN y s k0_t1_loop.trips

/-- The four numbers the last point leaves. -/
def axB (cm : Vec F S8x7168 .f32) (g : Vec F S1x7168 .f32) : Vec F S1 .f32 := fun _ => k0_pay8 cm g
def ayB (dm : Vec F S8x2304 .f32) : Vec F S1 .f32 := fun _ => k0_pay9 dm
def sxB (cm : Vec F S8x7168 .f32) (g : Vec F S1x7168 .f32) : Vec F S1 .f32 := fun _ =>
  k0_pay16 (k0_pay14 (k0_pay10 cm g) (k0_pay11 cm g) (k0_pay12 cm g) k0_pay13) k0_pay15
def syB (dm : Vec F S8x2304 .f32) : Vec F S1 .f32 := fun _ =>
  k0_pay20 (k0_pay17 (k0_pay9 dm)) (k0_pay18 (k0_pay9 dm)) k0_pay19

/-! ## The loop leaves these -/

theorem hz2 : (![0, 0] : Fin 2 → Nat) = fun _ => 0 := funext fun a => by fin_cases a <;> rfl

section
variable (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S256x2304 .bf16) (harg3 : arg3.IsWhole) (arg4 : Memref sig .tc .vmem S256x128 .f32) (harg4 : arg4.IsWhole) (arg5 : Memref sig .tc .smem S1 .f32) (harg5 : arg5.IsWhole) (arg6 : Memref sig .tc .smem S1 .f32) (harg6 : arg6.IsWhole) (arg7 : Memref sig .tc .smem S1 .f32) (harg7 : arg7.IsWhole) (arg8 : Memref sig .tc .smem S1 .f32) (harg8 : arg8.IsWhole) (arg9 : Memref sig .tc .vmem S8x7168 .f32) (harg9 : arg9.IsWhole) (arg10 : Memref sig .tc .vmem S8x2304 .f32) (harg10 : arg10.IsWhole)
  (X1 : BufTy.Contents (Elt F) arg1.view.ty) (X3 : BufTy.Contents (Elt F) arg3.view.ty)

theorem tripL_eq (k : Fin k0_t1_loop.trips) (f4) (f9) (f10) :
    tripL_k0_t1 (F := F) Variants.none c none i arg1 harg1 arg2 harg2 arg3 harg3 arg4 harg4 arg5 harg5 arg6 harg6 arg7 harg7 arg8 harg8 arg9 harg9 arg10 harg10 X1 X3 k f4 f9 f10
      = ([⟨Rect.unit (s := S256x128) (k0_off2 k) ![16, 128] (k0_off2_inb k), k0_pay5 (xT (arg1.view.read (Elt F) X1) k)⟩],
         [⟨Rect.unit (s := S8x7168) ![0, 0] S8x7168.size inb_S8x7168_S8x7168_0_0, k0_pay6 (xT (arg1.view.read (Elt F) X1) k) (View.ld (arg9.view.read (Elt F) f9) (Rect.unit (s := S8x7168) ![0, 0] S8x7168.size inb_S8x7168_S8x7168_0_0))⟩],
         [⟨Rect.unit (s := S8x2304) ![0, 0] S8x2304.size inb_S8x2304_S8x2304_0_0, k0_pay7 (yT (arg3.view.read (Elt F) X3) k) (View.ld (arg10.view.read (Elt F) f10) (Rect.unit (s := S8x2304) ![0, 0] S8x2304.size inb_S8x2304_S8x2304_0_0))⟩]) := by
  unfold tripL_k0_t1 trip_k0_t1
  rfl

variable (G4 : BufTy.Contents (Elt F) arg4.view.ty) (G9 : BufTy.Contents (Elt F) arg9.view.ty) (G10 : BufTy.Contents (Elt F) arg10.view.ty)

theorem pb_r : arg4.view.read (Elt F) (arg4.view.writes (Elt F) G4 (pb_k0_t1 (F := F) Variants.none c none i arg1 harg1 arg2 harg2 arg3 harg3 arg4 harg4 arg5 harg5 arg6 harg6 arg7 harg7 arg8 harg8 arg9 harg9 arg10 harg10 X1 X3 G4 G9 G10 k0_t1_loop.trips).1)
      = rB (arg1.view.read (Elt F) X1) := by
  refine read_tiles_all trips1 arg4.view G4 k0_off2 k0_off2_eq k0_off2_inb _ (fun k => (pb_k0_t1 (F := F) Variants.none c none i arg1 harg1 arg2 harg2 arg3 harg3 arg4 harg4 arg5 harg5 arg6 harg6 arg7 harg7 arg8 harg8 arg9 harg9 arg10 harg10 X1 X3 G4 G9 G10 k).1) rfl fun k => ?_
  dsimp only
  rw [pb_k0_t1_succ, tripL_eq]
  rfl

theorem pb_cm (s : Vec F S8x7168 .f32) (h9 : arg9.view.read (Elt F) G9 = s) : ∀ k ≤ k0_t1_loop.trips,
    arg9.view.read (Elt F) (arg9.view.writes (Elt F) G9 (pb_k0_t1 (F := F) Variants.none c none i arg1 harg1 arg2 harg2 arg3 harg3 arg4 harg4 arg5 harg5 arg6 harg6 arg7 harg7 arg8 harg8 arg9 harg9 arg10 harg10 X1 X3 G4 G9 G10 k).2.1)
      = cmN (arg1.view.read (Elt F) X1) s k := by
  intro k
  induction k with
  | zero => intro _; exact h9
  | succ k ih =>
    intro hk
    rw [show k + 1 = (⟨k, hk⟩ : Fin k0_t1_loop.trips).val + 1 from rfl, pb_k0_t1_succ, tripL_eq]
    dsimp only [List.cons_append, List.nil_append]
    rw [View.read_writes_full, View.ld_unit_zero (S := S8x7168) hz2, ih (Nat.le_of_succ_le hk)]
    conv_rhs => unfold cmN
    rw [dif_pos (Nat.lt_of_succ_le hk)]

theorem pb_dm (s : Vec F S8x2304 .f32) (h10 : arg10.view.read (Elt F) G10 = s) : ∀ k ≤ k0_t1_loop.trips,
    arg10.view.read (Elt F) (arg10.view.writes (Elt F) G10 (pb_k0_t1 (F := F) Variants.none c none i arg1 harg1 arg2 harg2 arg3 harg3 arg4 harg4 arg5 harg5 arg6 harg6 arg7 harg7 arg8 harg8 arg9 harg9 arg10 harg10 X1 X3 G4 G9 G10 k).2.2)
      = dmN (arg3.view.read (Elt F) X3) s k := by
  intro k
  induction k with
  | zero => intro _; exact h10
  | succ k ih =>
    intro hk
    rw [show k + 1 = (⟨k, hk⟩ : Fin k0_t1_loop.trips).val + 1 from rfl, pb_k0_t1_succ, tripL_eq]
    dsimp only [List.cons_append, List.nil_append]
    rw [View.read_writes_full, View.ld_unit_zero (S := S8x2304) hz2, ih (Nat.le_of_succ_le hk)]
    conv_rhs => unfold dmN
    rw [dif_pos (Nat.lt_of_succ_le hk)]

/-- The maxima after the loop. -/
theorem cm_all (s : Vec F S8x7168 .f32) (h9 : arg9.view.read (Elt F) G9 = s) :
    arg9.view.read (Elt F) (arg9.view.writes (Elt F) G9 (pb_k0_t1 (F := F) Variants.none c none i arg1 harg1 arg2 harg2 arg3 harg3 arg4 harg4 arg5 harg5 arg6 harg6 arg7 harg7 arg8 harg8 arg9 harg9 arg10 harg10 X1 X3 G4 G9 G10 k0_t1_loop.trips).2.1)
      = cmB (arg1.view.read (Elt F) X1) s := pb_cm c i arg1 harg1 arg2 harg2 arg3 harg3 arg4 harg4 arg5 harg5 arg6 harg6 arg7 harg7 arg8 harg8 arg9 harg9 arg10 harg10 X1 X3 G4 G9 G10 s h9 _ le_rfl
theorem dm_all (s : Vec F S8x2304 .f32) (h10 : arg10.view.read (Elt F) G10 = s) :
    arg10.view.read (Elt F) (arg10.view.writes (Elt F) G10 (pb_k0_t1 (F := F) Variants.none c none i arg1 harg1 arg2 harg2 arg3 harg3 arg4 harg4 arg5 harg5 arg6 harg6 arg7 harg7 arg8 harg8 arg9 harg9 arg10 harg10 X1 X3 G4 G9 G10 k0_t1_loop.trips).2.2)
      = dmB (arg3.view.read (Elt F) X3) s := pb_dm c i arg1 harg1 arg2 harg2 arg3 harg3 arg4 harg4 arg5 harg5 arg6 harg6 arg7 harg7 arg8 harg8 arg9 harg9 arg10 harg10 X1 X3 G4 G9 G10 s h10 _ le_rfl
end

end Cert.Stats.Hand

end
-- ==== Proof.OneRawStatsBody.lean ====
/-
  The body of the statistics call at any grid point and any floats: from what its buffers hold when it
  starts to what they hold when it ends, in the terms of the module on the loop.
-/
module

public import proofs.«01_k».proof.Proof.OneRawStatsTrip

@[expose] public section

set_option maxRecDepth 16384

noncomputable section

namespace Cert.Stats.Hand

open Cert.Stats.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A whole store. -/
theorem whole9 {κ : Kind} {sp : Space} (v : View sig κ sp S8x7168 .f32) (f : v.ty.Contents (Elt F)) :
    v.read (Elt F) (v.writes (Elt F) f [⟨Rect.unit (s := S8x7168) ![0, 0] S8x7168.size inb_S8x7168_S8x7168_0_0, k0_pay1 (F := F)⟩]) = k0_pay1 :=
  View.read_writes_full _ _ _ _ _

theorem whole10 {κ : Kind} {sp : Space} (v : View sig κ sp S8x2304 .f32) (f : v.ty.Contents (Elt F)) :
    v.read (Elt F) (v.writes (Elt F) f [⟨Rect.unit (s := S8x2304) ![0, 0] S8x2304.size inb_S8x2304_S8x2304_0_0, k0_pay2 (F := F)⟩]) = k0_pay2 :=
  View.read_writes_full _ _ _ _ _

/-- The four numbers are of whole buffers. -/
theorem ax_of (u : Vec F S8x7168 .f32) (g : Vec F S1x7168 .f32) (U : Vec F S8x7168 .f32) (h : u = U) :
    axB (View.ld u (Rect.unit (s := S8x7168) ![0, 0] S8x7168.size inb_S8x7168_S8x7168_0_0)) (View.ld g (Rect.unit (s := S1x7168) ![0, 0] S1x7168.size inb_S1x7168_S1x7168_0_0)) = axB U g := by
  rw [View.ld_unit_zero (S := S8x7168) hz2, View.ld_unit_zero (S := S1x7168) hz2, h]
theorem sx_of (u : Vec F S8x7168 .f32) (g : Vec F S1x7168 .f32) (U : Vec F S8x7168 .f32) (h : u = U) :
    sxB (View.ld u (Rect.unit (s := S8x7168) ![0, 0] S8x7168.size inb_S8x7168_S8x7168_0_0)) (View.ld g (Rect.unit (s := S1x7168) ![0, 0] S1x7168.size inb_S1x7168_S1x7168_0_0)) = sxB U g := by
  rw [View.ld_unit_zero (S := S8x7168) hz2, View.ld_unit_zero (S := S1x7168) hz2, h]
theorem ay_of (u : Vec F S8x2304 .f32) (U : Vec F S8x2304 .f32) (h : u = U) :
    ayB (View.ld u (Rect.unit (s := S8x2304) ![0, 0] S8x2304.size inb_S8x2304_S8x2304_0_0)) = ayB U := by
  rw [View.ld_unit_zero (S := S8x2304) hz2, h]
theorem sy_of (u : Vec F S8x2304 .f32) (U : Vec F S8x2304 .f32) (h : u = U) :
    syB (View.ld u (Rect.unit (s := S8x2304) ![0, 0] S8x2304.size inb_S8x2304_S8x2304_0_0)) = syB U := by
  rw [View.ld_unit_zero (S := S8x2304) hz2, h]

set_option maxHeartbeats 4000000 in
theorem body (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S256x2304 .bf16) (harg3 : arg3.IsWhole) (arg4 : Memref sig .tc .vmem S256x128 .f32) (harg4 : arg4.IsWhole) (arg5 : Memref sig .tc .smem S1 .f32) (harg5 : arg5.IsWhole) (arg6 : Memref sig .tc .smem S1 .f32) (harg6 : arg6.IsWhole) (arg7 : Memref sig .tc .smem S1 .f32) (harg7 : arg7.IsWhole) (arg8 : Memref sig .tc .smem S1 .f32) (harg8 : arg8.IsWhole) (arg9 : Memref sig .tc .vmem S8x7168 .f32) (harg9 : arg9.IsWhole) (arg10 : Memref sig .tc .vmem S8x2304 .f32) (harg10 : arg10.IsWhole)
    (x0 : Vec F S256x7168 .bf16) (x1 : Vec F S1x7168 .f32) (x2 : Vec F S256x2304 .bf16) (y5 y6 y7 y8 : Vec F S1 .f32) (s : Vec F S8x7168 .f32) (s' : Vec F S8x2304 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare s ∗ owns (c : Thread nD τ) arg10 fullShare s' ∗ (iprop(owns (c : Thread nD τ) arg1 fullShare x0 ∗ owns (c : Thread nD τ) arg2 fullShare x1 ∗ owns (c : Thread nD τ) arg3 fullShare x2 ∗ owns (c : Thread nD τ) arg4 fullShare (rB x0) ∗ owns (c : Thread nD τ) arg5 fullShare (if cond0_1 i then axB (cmB x0 (if cond0_0 i then k0_pay1 else s)) x1 else y5) ∗ owns (c : Thread nD τ) arg6 fullShare (if cond0_1 i then ayB (dmB x2 (if cond0_0 i then k0_pay2 else s')) else y6) ∗ owns (c : Thread nD τ) arg7 fullShare (if cond0_1 i then sxB (cmB x0 (if cond0_0 i then k0_pay1 else s)) x1 else y7) ∗ owns (c : Thread nD τ) arg8 fullShare (if cond0_1 i then syB (dmB x2 (if cond0_0 i then k0_pay2 else s')) else y8) ∗ owns (c : Thread nD τ) arg9 fullShare (cmB x0 (if cond0_0 i then k0_pay1 else s)) ∗ owns (c : Thread nD τ) arg10 fullShare (dmB x2 (if cond0_0 i then k0_pay2 else s'))) -∗ K ⟨⟩))
      ⊢ wp frame (wpE (defs₀ (F := F)) Variants.none c none) E (cc0_stats i arg1 harg1 arg2 harg2 arg3 harg3 arg4 harg4 arg5 harg5 arg6 harg6 arg7 harg7 arg8 harg8 arg9 harg9 arg10 harg10) K := by
  by_cases hc0 : cond0_0 i <;> by_cases hc1 : cond0_1 i
  · simp only [if_pos hc0, if_pos hc1]
    simp only [cc0_stats_eq_skeleton]; unfold cc0_stats_skel
    simp only [k0_part4_eq_skeleton]
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    subst hf1 hf2 hf3 hf5 hf6 hf7 hf8 hf9 hf10
    sl_exec (disch := first | sl_exact hc0 | sl_exact hc1)
    sl_step
    iapply Hk
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; exact pb_r c i arg1 harg1 arg2 harg2 arg3 harg3 arg4 harg4 arg5 harg5 arg6 harg6 arg7 harg7 arg8 harg8 arg9 harg9 arg10 harg10 _ _ _ _ _
    isplitl [H5]
    · iexists _; isplitr; swap; · iexact H5
      ipureintro; exact (View.read_writes_full _ _ _ _ _).trans (ax_of _ _ _ (by rw [View.writes_append]; exact cm_all c i arg1 harg1 arg2 harg2 arg3 harg3 arg4 harg4 arg5 harg5 arg6 harg6 arg7 harg7 arg8 harg8 arg9 harg9 arg10 harg10 _ _ _ _ _ k0_pay1 (whole9 _ _)))
    isplitl [H6]
    · iexists _; isplitr; swap; · iexact H6
      ipureintro; exact (View.read_writes_full _ _ _ _ _).trans (ay_of _ _ (by rw [View.writes_append]; exact dm_all c i arg1 harg1 arg2 harg2 arg3 harg3 arg4 harg4 arg5 harg5 arg6 harg6 arg7 harg7 arg8 harg8 arg9 harg9 arg10 harg10 _ _ _ _ _ k0_pay2 (whole10 _ _)))
    isplitl [H7]
    · iexists _; isplitr; swap; · iexact H7
      ipureintro; exact (View.read_writes_full _ _ _ _ _).trans (sx_of _ _ _ (by rw [View.writes_append]; exact cm_all c i arg1 harg1 arg2 harg2 arg3 harg3 arg4 harg4 arg5 harg5 arg6 harg6 arg7 harg7 arg8 harg8 arg9 harg9 arg10 harg10 _ _ _ _ _ k0_pay1 (whole9 _ _)))
    isplitl [H8]
    · iexists _; isplitr; swap; · iexact H8
      ipureintro; exact (View.read_writes_full _ _ _ _ _).trans (sy_of _ _ (by rw [View.writes_append]; exact dm_all c i arg1 harg1 arg2 harg2 arg3 harg3 arg4 harg4 arg5 harg5 arg6 harg6 arg7 harg7 arg8 harg8 arg9 harg9 arg10 harg10 _ _ _ _ _ k0_pay2 (whole10 _ _)))
    isplitl [H9]
    · iexists _; isplitr; swap; · iexact H9
      ipureintro; exact (by rw [View.writes_append]; exact cm_all c i arg1 harg1 arg2 harg2 arg3 harg3 arg4 harg4 arg5 harg5 arg6 harg6 arg7 harg7 arg8 harg8 arg9 harg9 arg10 harg10 _ _ _ _ _ k0_pay1 (whole9 _ _))
    iexists _; isplitr; swap; · iexact H10
    ipureintro; exact (by rw [View.writes_append]; exact dm_all c i arg1 harg1 arg2 harg2 arg3 harg3 arg4 harg4 arg5 harg5 arg6 harg6 arg7 harg7 arg8 harg8 arg9 harg9 arg10 harg10 _ _ _ _ _ k0_pay2 (whole10 _ _))
  · simp only [if_pos hc0, if_neg hc1]
    simp only [cc0_stats_eq_skeleton]; unfold cc0_stats_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    subst hf1 hf2 hf3 hf5 hf6 hf7 hf8 hf9 hf10
    sl_exec (disch := first | sl_exact hc0 | sl_exact hc1)
    sl_step
    iapply Hk
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; exact pb_r c i arg1 harg1 arg2 harg2 arg3 harg3 arg4 harg4 arg5 harg5 arg6 harg6 arg7 harg7 arg8 harg8 arg9 harg9 arg10 harg10 _ _ _ _ _
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact (by rw [View.writes_append]; exact cm_all c i arg1 harg1 arg2 harg2 arg3 harg3 arg4 harg4 arg5 harg5 arg6 harg6 arg7 harg7 arg8 harg8 arg9 harg9 arg10 harg10 _ _ _ _ _ k0_pay1 (whole9 _ _))
    iexists _; isplitr; swap; · iexact H10
    ipureintro; exact (by rw [View.writes_append]; exact dm_all c i arg1 harg1 arg2 harg2 arg3 harg3 arg4 harg4 arg5 harg5 arg6 harg6 arg7 harg7 arg8 harg8 arg9 harg9 arg10 harg10 _ _ _ _ _ k0_pay2 (whole10 _ _))
  · simp only [if_neg hc0, if_pos hc1]
    simp only [cc0_stats_eq_skeleton]; unfold cc0_stats_skel
    simp only [k0_part4_eq_skeleton]
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    subst hf1 hf2 hf3 hf5 hf6 hf7 hf8 hf9 hf10
    sl_exec (disch := first | sl_exact hc0 | sl_exact hc1)
    sl_step
    iapply Hk
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; exact pb_r c i arg1 harg1 arg2 harg2 arg3 harg3 arg4 harg4 arg5 harg5 arg6 harg6 arg7 harg7 arg8 harg8 arg9 harg9 arg10 harg10 _ _ _ _ _
    isplitl [H5]
    · iexists _; isplitr; swap; · iexact H5
      ipureintro; exact (View.read_writes_full _ _ _ _ _).trans (ax_of _ _ _ (cm_all c i arg1 harg1 arg2 harg2 arg3 harg3 arg4 harg4 arg5 harg5 arg6 harg6 arg7 harg7 arg8 harg8 arg9 harg9 arg10 harg10 _ _ _ _ _ _ rfl))
    isplitl [H6]
    · iexists _; isplitr; swap; · iexact H6
      ipureintro; exact (View.read_writes_full _ _ _ _ _).trans (ay_of _ _ (dm_all c i arg1 harg1 arg2 harg2 arg3 harg3 arg4 harg4 arg5 harg5 arg6 harg6 arg7 harg7 arg8 harg8 arg9 harg9 arg10 harg10 _ _ _ _ _ _ rfl))
    isplitl [H7]
    · iexists _; isplitr; swap; · iexact H7
      ipureintro; exact (View.read_writes_full _ _ _ _ _).trans (sx_of _ _ _ (cm_all c i arg1 harg1 arg2 harg2 arg3 harg3 arg4 harg4 arg5 harg5 arg6 harg6 arg7 harg7 arg8 harg8 arg9 harg9 arg10 harg10 _ _ _ _ _ _ rfl))
    isplitl [H8]
    · iexists _; isplitr; swap; · iexact H8
      ipureintro; exact (View.read_writes_full _ _ _ _ _).trans (sy_of _ _ (dm_all c i arg1 harg1 arg2 harg2 arg3 harg3 arg4 harg4 arg5 harg5 arg6 harg6 arg7 harg7 arg8 harg8 arg9 harg9 arg10 harg10 _ _ _ _ _ _ rfl))
    isplitl [H9]
    · iexists _; isplitr; swap; · iexact H9
      ipureintro; exact (cm_all c i arg1 harg1 arg2 harg2 arg3 harg3 arg4 harg4 arg5 harg5 arg6 harg6 arg7 harg7 arg8 harg8 arg9 harg9 arg10 harg10 _ _ _ _ _ _ rfl)
    iexists _; isplitr; swap; · iexact H10
    ipureintro; exact (dm_all c i arg1 harg1 arg2 harg2 arg3 harg3 arg4 harg4 arg5 harg5 arg6 harg6 arg7 harg7 arg8 harg8 arg9 harg9 arg10 harg10 _ _ _ _ _ _ rfl)
  · simp only [if_neg hc0, if_neg hc1]
    simp only [cc0_stats_eq_skeleton]; unfold cc0_stats_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    subst hf1 hf2 hf3 hf5 hf6 hf7 hf8 hf9 hf10
    sl_exec (disch := first | sl_exact hc0 | sl_exact hc1)
    sl_step
    iapply Hk
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; exact pb_r c i arg1 harg1 arg2 harg2 arg3 harg3 arg4 harg4 arg5 harg5 arg6 harg6 arg7 harg7 arg8 harg8 arg9 harg9 arg10 harg10 _ _ _ _ _
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact (cm_all c i arg1 harg1 arg2 harg2 arg3 harg3 arg4 harg4 arg5 harg5 arg6 harg6 arg7 harg7 arg8 harg8 arg9 harg9 arg10 harg10 _ _ _ _ _ _ rfl)
    iexists _; isplitr; swap; · iexact H10
    ipureintro; exact (dm_all c i arg1 harg1 arg2 harg2 arg3 harg3 arg4 harg4 arg5 harg5 arg6 harg6 arg7 harg7 arg8 harg8 arg9 harg9 arg10 harg10 _ _ _ _ _ _ rfl)

end Cert.Stats.Hand

end
-- ==== Proof.OneRawStatsFrame.lean ====
/-
The running of the statistics call point by point, at any floats: what every buffer holds after each of
the six grid points, that the call ends, that its argument arrays are left alone, and what its five result
arrays hold in the end.  The running maxima are carried from one point to the next;
`sAt` names them.
-/
module

public import proofs.«01_k».proof.Proof.OneRawStatsBody
public import Idealize.ShloMosaic.Lib.Claim

@[expose] public section

set_option maxRecDepth 16384

noncomputable section

namespace Cert.Stats.Hand

open Cert.Stats.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The running maxima after point `n`. -/
def sAt (c : Dev nD) : (n : ℕ) → n < cfg0.N → Vec F S8x7168 .f32 × Vec F S8x2304 .f32
  | 0, hn => (cmB (iblk m c 0 ⟨0, hn⟩) k0_pay1, dmB (iblk m c 2 ⟨0, hn⟩) k0_pay2)
  | n + 1, hn => (cmB (iblk m c 0 ⟨n + 1, hn⟩) (sAt c n (Nat.lt_of_succ_lt hn)).1, dmB (iblk m c 2 ⟨n + 1, hn⟩) (sAt c n (Nat.lt_of_succ_lt hn)).2)

theorem sAt_zero (c : Dev nD) (t : Fin cfg0.N) (hz : t.val = 0) :
    sAt m c t.val t.isLt = (cmB (iblk m c 0 t) k0_pay1, dmB (iblk m c 2 t) k0_pay2) := by
  obtain ⟨n, hn⟩ := t
  cases n with
  | zero => rfl
  | succ n => exact absurd hz (Nat.succ_ne_zero n)

theorem sAt_pos (c : Dev nD) (t : Fin cfg0.N) (hz : t.val ≠ 0) :
    sAt m c t.val t.isLt = (cmB (iblk m c 0 t) (sAt m c (t.val - 1) (lt_of_le_of_lt (Nat.sub_le _ _) t.isLt)).1, dmB (iblk m c 2 t) (sAt m c (t.val - 1) (lt_of_le_of_lt (Nat.sub_le _ _) t.isLt)).2) := by
  obtain ⟨n, hn⟩ := t
  cases n with
  | zero => exact absurd rfl hz
  | succ n => rfl

/-- What is known between points: the carried maxima after the first point, anything before it. -/
def PhiS (c : Dev nD) : (n : ℕ) → n ≤ cfg0.N → sProp 𝕄
  | 0, _ => Pipeline.ΦA spec0 c
  | n + 1, hn => iprop(iprop(owns (c : Thread nD τ) scM0_0 fullShare (sAt m c n hn).1 ∗ owns (c : Thread nD τ) scM0_1 fullShare (sAt m c n hn).2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (sAt m c n hn).1 ∗ owns (c : Thread nD τ) scM0_1 fullShare (sAt m c n hn).2) ∗ (∃ r, prngReg c r)) := rfl

theorem PhiS_pos (c : Dev nD) (n : ℕ) (h : n ≤ cfg0.N) (hz : n ≠ 0) :
    PhiS m c n h = iprop(iprop(owns (c : Thread nD τ) scM0_0 fullShare (sAt m c (n - 1) (by omega)).1 ∗ owns (c : Thread nD τ) scM0_1 fullShare (sAt m c (n - 1) (by omega)).2) ∗ (∃ r, prngReg c r)) := by
  cases n with
  | zero => exact absurd rfl hz
  | succ n => rfl

/-- What each buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rB (iblk m c 0 t)
    | ⟨4, _⟩ => axB (sAt m c t.val t.isLt).1 (iblk m c 1 t)
    | ⟨5, _⟩ => ayB (sAt m c t.val t.isLt).2
    | ⟨6, _⟩ => sxB (sAt m c t.val t.isLt).1 (iblk m c 1 t)
    | ⟨7, _⟩ => syB (sAt m c t.val t.isLt).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = rB (iblk m c 0 t) := by dsimp only [dats]
theorem after0_4 (c : Dev nD) (t : Fin cfg0.N) : (dats m 0 c).after 4 t = axB (sAt m c t.val t.isLt).1 (iblk m c 1 t) := by dsimp only [dats]
theorem after0_5 (c : Dev nD) (t : Fin cfg0.N) : (dats m 0 c).after 5 t = ayB (sAt m c t.val t.isLt).2 := by dsimp only [dats]
theorem after0_6 (c : Dev nD) (t : Fin cfg0.N) : (dats m 0 c).after 6 t = sxB (sAt m c t.val t.isLt).1 (iblk m c 1 t) := by dsimp only [dats]
theorem after0_7 (c : Dev nD) (t : Fin cfg0.N) : (dats m 0 c).after 7 t = syB (sAt m c t.val t.isLt).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 6 := lt_of_lt_of_eq t.isLt (show cfg0.N = 6 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases hz : t.val = 0
  · have h0 : t.val % 6 = 0 := by omega
    have h1 : ¬ t.val % 6 = 5 := by omega
    rw [PhiS_castSucc m c t, PhiS_zero m c _ _ hz, PhiA0_eq, sAt_zero m c t hz]
    have hc0 := (hcond0_0 t).mpr h0
    have hc1 : ¬ cond0_1 (grid0.coords t) := fun h => h1 ((hcond0_1 t).mp h)
    rw [Dat.leavesExact_idle (dats m 0 c) 4 t (idleAt0_4_A t hc0 hc1) (noFlush0_4_A t hc0 hc1)]
    rw [Dat.leavesExact_idle (dats m 0 c) 5 t (idleAt0_5_A t hc0 hc1) (noFlush0_5_A t hc0 hc1)]
    rw [Dat.leavesExact_idle (dats m 0 c) 6 t (idleAt0_6_A t hc0 hc1) (noFlush0_6_A t hc0 hc1)]
    rw [Dat.leavesExact_idle (dats m 0 c) 7 t (idleAt0_7_A t hc0 hc1) (noFlush0_7_A t hc0 hc1)]
    dsimp only
    iintro ⟨⟨⟨⟨%es0, HS0⟩, ⟨%es1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body c (grid0.coords t) _ _ _ _ _ _ _ _ _ _ _ _ _ _ _ _ _ _ _ _ (iblk m c 0 t) (iblk m c 1 t) (iblk m c 2 t) _ _ _ _ _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [H6]; · iexact H6
    isplitl [H7]; · iexact H7
    isplitl [HS0]; · iexact HS0
    isplitl [HS1]; · iexact HS1
    simp only [if_pos hc0, if_neg hc1]
    iintro ⟨H0, H1, H2, H3, H4, H5, H6, H7, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iexists _; iexact H7
  · have h0 : ¬ t.val % 6 = 0 := by omega
    by_cases h1 : t.val % 6 = 5
    · skip
      rw [PhiS_castSucc m c t, PhiS_pos m c _ _ hz, sAt_pos m c t hz]
      have hc0 : ¬ cond0_0 (grid0.coords t) := fun h => h0 ((hcond0_0 t).mp h)
      have hc1 : cond0_1 (grid0.coords t) := (hcond0_1 t).mpr h1
      rw [show (dats m 0 c).leavesExact 4 t = owns (c : Thread nD τ) (ms0_4 t) fullShare ((dats m 0 c).after 4 t) from by
        unfold Dat.leavesExact; rw [liveAt0_4_C t hc0 hc1], after0_4, sAt_pos m c t hz]
      rw [show (dats m 0 c).leavesExact 5 t = owns (c : Thread nD τ) (ms0_5 t) fullShare ((dats m 0 c).after 5 t) from by
        unfold Dat.leavesExact; rw [liveAt0_5_C t hc0 hc1], after0_5, sAt_pos m c t hz]
      rw [show (dats m 0 c).leavesExact 6 t = owns (c : Thread nD τ) (ms0_6 t) fullShare ((dats m 0 c).after 6 t) from by
        unfold Dat.leavesExact; rw [liveAt0_6_C t hc0 hc1], after0_6, sAt_pos m c t hz]
      rw [show (dats m 0 c).leavesExact 7 t = owns (c : Thread nD τ) (ms0_7 t) fullShare ((dats m 0 c).after 7 t) from by
        unfold Dat.leavesExact; rw [liveAt0_7_C t hc0 hc1], after0_7, sAt_pos m c t hz]
      dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body c (grid0.coords t) _ _ _ _ _ _ _ _ _ _ _ _ _ _ _ _ _ _ _ _ (iblk m c 0 t) (iblk m c 1 t) (iblk m c 2 t) _ _ _ _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [H6]; · iexact H6
      isplitl [H7]; · iexact H7
      isplitl [HS0]; · iexact HS0
      isplitl [HS1]; · iexact HS1
      simp only [if_neg hc0, if_pos hc1]
      iintro ⟨H0, H1, H2, H3, H4, H5, H6, H7, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · skip
      rw [PhiS_castSucc m c t, PhiS_pos m c _ _ hz, sAt_pos m c t hz]
      have hc0 : ¬ cond0_0 (grid0.coords t) := fun h => h0 ((hcond0_0 t).mp h)
      have hc1 : ¬ cond0_1 (grid0.coords t) := fun h => h1 ((hcond0_1 t).mp h)
      rw [Dat.leavesExact_idle (dats m 0 c) 4 t (idleAt0_4_B t hc0 hc1) (noFlush0_4_B t hc0 hc1)]
      rw [Dat.leavesExact_idle (dats m 0 c) 5 t (idleAt0_5_B t hc0 hc1) (noFlush0_5_B t hc0 hc1)]
      rw [Dat.leavesExact_idle (dats m 0 c) 6 t (idleAt0_6_B t hc0 hc1) (noFlush0_6_B t hc0 hc1)]
      rw [Dat.leavesExact_idle (dats m 0 c) 7 t (idleAt0_7_B t hc0 hc1) (noFlush0_7_B t hc0 hc1)]
      dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body c (grid0.coords t) _ _ _ _ _ _ _ _ _ _ _ _ _ _ _ _ _ _ _ _ (iblk m c 0 t) (iblk m c 1 t) (iblk m c 2 t) _ _ _ _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [H6]; · iexact H6
      isplitl [H7]; · iexact H7
      isplitl [HS0]; · iexact HS0
      isplitl [HS1]; · iexact HS1
      simp only [if_neg hc0, if_neg hc1]
      iintro ⟨H0, H1, H2, H3, H4, H5, H6, H7, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      iexists _; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 6 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The arrays passed in end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Stats.Hand

end
-- ==== Proof.OneStatsTrip.lean ====
/-
  What one grid point of the idealized statistics call leaves in its buffers: the loop over the sixteen
  row tiles, as a function of the blocks read.
-/
module

public import proofs.«01_k».proof.Proof.Gen.StatsIdeal.Frame.Runs
public import Idealize.ShloMosaic.Lib.Pipeline.Value
public import Idealize.ShloMosaic.Lib.VecWindow
public import Idealize.ShloMosaic.Lib.Pipeline.ValueKit
public import Idealize.ShloMosaic.Lib.Pointwise

@[expose] public section

set_option maxRecDepth 16384

noncomputable section

namespace Cert.StatsIdeal.Hand

open Cert.StatsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Row tiles -/

/-- The matrix whose row tiles of height 16 are `W`. -/
def tiled {C n : ℕ} {e : EltTy} (hn : n = 16) (W : Fin n → (⟨2, ![16, C]⟩ : Shape).Idx → Elt F e) :
    (⟨2, ![256, C]⟩ : Shape).Idx → Elt F e := fun i =>
  W ⟨(i 0 : ℕ) / 16, by have h : (i 0 : ℕ) < 256 := (i 0).isLt; omega⟩
    (ix2 ⟨(i 0 : ℕ) % 16, Nat.mod_lt _ (by decide)⟩ (i 1))

/-- Tiles stored one after the other: after `k` of them the first `16 * k` rows are the tiles', the rest as found. -/
theorem read_tiles {C n : ℕ} {e : EltTy} {κ : Kind} {sp : Space} (hn : n = 16) (v : View sig κ sp ⟨2, ![256, C]⟩ e)
    (G : v.ty.Contents (Elt F)) (off : Fin n → Fin 2 → ℕ) (hoff : ∀ k, off k = ![16 * k.val, 0])
    (inb : ∀ k (a : Fin 2), off k a + (![16, C] : Fin 2 → ℕ) a ≤ (⟨2, ![256, C]⟩ : Shape).size a)
    (W : Fin n → (⟨2, ![16, C]⟩ : Shape).Idx → Elt F e) (P : ℕ → List (View.Piece (Elt F) ⟨2, ![256, C]⟩ e)) (h0 : P 0 = [])
    (hs : ∀ k : Fin n, P (k.val + 1) = (⟨Rect.unit (s := ⟨2, ![256, C]⟩) (off k) ![16, C] (inb k), W k⟩ : View.Piece (Elt F) ⟨2, ![256, C]⟩ e) :: P k.val) :
    ∀ k ≤ n, ∀ i, v.read (Elt F) (v.writes (Elt F) G (P k)) i
      = if (i 0 : ℕ) < 16 * k then tiled hn W i else v.read (Elt F) G i := by
  intro k
  induction k with
  | zero => intro _ i; rw [h0, if_neg (by omega)]; rfl
  | succ k ih =>
    intro hk i
    have hk' : k < n := hk
    have ih := ih (le_of_lt hk')
    have e := hs ⟨k, hk'⟩
    simp only at e
    rw [e]
    have hi0 : (i 1 : ℕ) < C := (i 1).isLt
    by_cases hlt : (i 0 : ℕ) < 16 * k
    · rw [View.read_writes_cons_unit_of_not_mem v G (inb ⟨k, hk'⟩) _ _ i (hoff _) 0 (Or.inl (by show (i 0 : ℕ) < 16 * k; exact hlt)),
        ih i, if_pos hlt, if_pos (by omega)]
    · by_cases hlt2 : (i 0 : ℕ) < 16 * (k + 1)
      · rw [if_pos hlt2]
        have hd : (i 0 : ℕ) / 16 = k := by omega
        rw [View.read_writes_cons_unit_of_mem v G (inb ⟨k, hk'⟩) _ _ i
          (ix2 ⟨(i 0 : ℕ) % 16, Nat.mod_lt _ (by decide)⟩ (i 1)) (hoff _) (fun a => by
            match a with
            | ⟨0, _⟩ => show (i 0 : ℕ) = 16 * k + (i 0 : ℕ) % 16; omega
            | ⟨1, _⟩ => show (i 1 : ℕ) = 0 + (i 1 : ℕ); omega)]
        unfold tiled
        exact congrFun (congrArg W (Fin.ext hd.symm)) _
      · rw [View.read_writes_cons_unit_of_not_mem v G (inb ⟨k, hk'⟩) _ _ i (hoff _) 0
          (Or.inr (by show 16 * k + 16 ≤ (i 0 : ℕ); omega)), ih i, if_neg hlt, if_neg hlt2]

/-- All the tiles stored: the whole matrix. -/
theorem read_tiles_all {C n : ℕ} {e : EltTy} {κ : Kind} {sp : Space} (hn : n = 16) (v : View sig κ sp ⟨2, ![256, C]⟩ e)
    (G : v.ty.Contents (Elt F)) (off : Fin n → Fin 2 → ℕ) (hoff : ∀ k, off k = ![16 * k.val, 0])
    (inb : ∀ k (a : Fin 2), off k a + (![16, C] : Fin 2 → ℕ) a ≤ (⟨2, ![256, C]⟩ : Shape).size a)
    (W : Fin n → (⟨2, ![16, C]⟩ : Shape).Idx → Elt F e) (P : ℕ → List (View.Piece (Elt F) ⟨2, ![256, C]⟩ e)) (h0 : P 0 = [])
    (hs : ∀ k : Fin n, P (k.val + 1) = (⟨Rect.unit (s := ⟨2, ![256, C]⟩) (off k) ![16, C] (inb k), W k⟩ : View.Piece (Elt F) ⟨2, ![256, C]⟩ e) :: P k.val) :
    v.read (Elt F) (v.writes (Elt F) G (P n)) = tiled hn W := by
  funext i
  rw [read_tiles hn v G off hoff inb W P h0 hs n le_rfl i, if_pos]
  have h : (i 0 : ℕ) < 256 := (i 0).isLt
  omega

theorem trips1 : k0_t1_loop.trips = 16 := by decide +kernel

/-! ## What a point computes, from its blocks -/

/-- The tiles a trip loads. -/
def xT (x : Vec F S256x7168 .bf16) (k : Fin k0_t1_loop.trips) : Vec F S16x7168 .bf16 :=
  View.ld x (Rect.unit (s := S256x7168) (k0_off1 k) S16x7168.size (k0_off1_inb k))
def yT (y : Vec F S256x2304 .bf16) (k : Fin k0_t1_loop.trips) : Vec F S16x2304 .bf16 :=
  View.ld y (Rect.unit (s := S256x2304) (k0_off3 k) S16x2304.size (k0_off3_inb k))

/-- The inverse root mean squares of the point's rows. -/
def rB (x : Vec F S256x7168 .bf16) : Vec F S256x128 .f32 := tiled trips1 fun k => k0_pay5 (xT x k)

/-- The running maxima after `n` tiles. -/
def cmN (x : Vec F S256x7168 .bf16) (s : Vec F S8x7168 .f32) : ℕ → Vec F S8x7168 .f32
  | 0 => s
  | n + 1 => if h : n < k0_t1_loop.trips then k0_pay6 (xT x ⟨n, h⟩) (cmN x s n) else cmN x s n
def dmN (y : Vec F S256x2304 .bf16) (s : Vec F S8x2304 .f32) : ℕ → Vec F S8x2304 .f32
  | 0 => s
  | n + 1 => if h : n < k0_t1_loop.trips then k0_pay7 (yT y ⟨n, h⟩) (dmN y s n) else dmN y s n
def cmB (x : Vec F S256x7168 .bf16) (s : Vec F S8x7168 .f32) : Vec F S8x7168 .f32 := cmN x s k0_t1_loop.trips
def dmB (y : Vec F S256x2304 .bf16) (s : Vec F S8x2304 .f32) : Vec F S8x2304 .f32 := dmN y s k0_t1_loop.trips

/-- The four numbers the last point leaves. -/
def axB (cm : Vec F S8x7168 .f32) (g : Vec F S1x7168 .f32) : Vec F S1 .f32 := fun _ => k0_pay8 cm g
def ayB (dm : Vec F S8x2304 .f32) : Vec F S1 .f32 := fun _ => k0_pay9 dm
def sxB (cm : Vec F S8x7168 .f32) (g : Vec F S1x7168 .f32) : Vec F S1 .f32 := fun _ =>
  k0_pay16 (k0_pay14 (k0_pay10 cm g) (k0_pay11 cm g) (k0_pay12 cm g) k0_pay13) k0_pay15
def syB (dm : Vec F S8x2304 .f32) : Vec F S1 .f32 := fun _ =>
  k0_pay20 (k0_pay17 (k0_pay9 dm)) (k0_pay18 (k0_pay9 dm)) k0_pay19

/-! ## The loop leaves these -/

theorem hz2 : (![0, 0] : Fin 2 → Nat) = fun _ => 0 := funext fun a => by fin_cases a <;> rfl

section
variable (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S256x2304 .bf16) (harg3 : arg3.IsWhole) (arg4 : Memref sig .tc .vmem S256x128 .f32) (harg4 : arg4.IsWhole) (arg5 : Memref sig .tc .smem S1 .f32) (harg5 : arg5.IsWhole) (arg6 : Memref sig .tc .smem S1 .f32) (harg6 : arg6.IsWhole) (arg7 : Memref sig .tc .smem S1 .f32) (harg7 : arg7.IsWhole) (arg8 : Memref sig .tc .smem S1 .f32) (harg8 : arg8.IsWhole) (arg9 : Memref sig .tc .vmem S8x7168 .f32) (harg9 : arg9.IsWhole) (arg10 : Memref sig .tc .vmem S8x2304 .f32) (harg10 : arg10.IsWhole)
  (X1 : BufTy.Contents (Elt F) arg1.view.ty) (X3 : BufTy.Contents (Elt F) arg3.view.ty)

theorem tripL_eq (k : Fin k0_t1_loop.trips) (f4) (f9) (f10) :
    tripL_k0_t1 (F := F) Variants.none c none i arg1 harg1 arg2 harg2 arg3 harg3 arg4 harg4 arg5 harg5 arg6 harg6 arg7 harg7 arg8 harg8 arg9 harg9 arg10 harg10 X1 X3 k f4 f9 f10
      = ([⟨Rect.unit (s := S256x128) (k0_off2 k) ![16, 128] (k0_off2_inb k), k0_pay5 (xT (arg1.view.read (Elt F) X1) k)⟩],
         [⟨Rect.unit (s := S8x7168) ![0, 0] S8x7168.size inb_S8x7168_S8x7168_0_0, k0_pay6 (xT (arg1.view.read (Elt F) X1) k) (View.ld (arg9.view.read (Elt F) f9) (Rect.unit (s := S8x7168) ![0, 0] S8x7168.size inb_S8x7168_S8x7168_0_0))⟩],
         [⟨Rect.unit (s := S8x2304) ![0, 0] S8x2304.size inb_S8x2304_S8x2304_0_0, k0_pay7 (yT (arg3.view.read (Elt F) X3) k) (View.ld (arg10.view.read (Elt F) f10) (Rect.unit (s := S8x2304) ![0, 0] S8x2304.size inb_S8x2304_S8x2304_0_0))⟩]) := by
  unfold tripL_k0_t1 trip_k0_t1
  rfl

variable (G4 : BufTy.Contents (Elt F) arg4.view.ty) (G9 : BufTy.Contents (Elt F) arg9.view.ty) (G10 : BufTy.Contents (Elt F) arg10.view.ty)

theorem pb_r : arg4.view.read (Elt F) (arg4.view.writes (Elt F) G4 (pb_k0_t1 (F := F) Variants.none c none i arg1 harg1 arg2 harg2 arg3 harg3 arg4 harg4 arg5 harg5 arg6 harg6 arg7 harg7 arg8 harg8 arg9 harg9 arg10 harg10 X1 X3 G4 G9 G10 k0_t1_loop.trips).1)
      = rB (arg1.view.read (Elt F) X1) := by
  refine read_tiles_all trips1 arg4.view G4 k0_off2 k0_off2_eq k0_off2_inb _ (fun k => (pb_k0_t1 (F := F) Variants.none c none i arg1 harg1 arg2 harg2 arg3 harg3 arg4 harg4 arg5 harg5 arg6 harg6 arg7 harg7 arg8 harg8 arg9 harg9 arg10 harg10 X1 X3 G4 G9 G10 k).1) rfl fun k => ?_
  dsimp only
  rw [pb_k0_t1_succ, tripL_eq]
  rfl

theorem pb_cm (s : Vec F S8x7168 .f32) (h9 : arg9.view.read (Elt F) G9 = s) : ∀ k ≤ k0_t1_loop.trips,
    arg9.view.read (Elt F) (arg9.view.writes (Elt F) G9 (pb_k0_t1 (F := F) Variants.none c none i arg1 harg1 arg2 harg2 arg3 harg3 arg4 harg4 arg5 harg5 arg6 harg6 arg7 harg7 arg8 harg8 arg9 harg9 arg10 harg10 X1 X3 G4 G9 G10 k).2.1)
      = cmN (arg1.view.read (Elt F) X1) s k := by
  intro k
  induction k with
  | zero => intro _; exact h9
  | succ k ih =>
    intro hk
    rw [show k + 1 = (⟨k, hk⟩ : Fin k0_t1_loop.trips).val + 1 from rfl, pb_k0_t1_succ, tripL_eq]
    dsimp only [List.cons_append, List.nil_append]
    rw [View.read_writes_full, View.ld_unit_zero (S := S8x7168) hz2, ih (Nat.le_of_succ_le hk)]
    conv_rhs => unfold cmN
    rw [dif_pos (Nat.lt_of_succ_le hk)]

theorem pb_dm (s : Vec F S8x2304 .f32) (h10 : arg10.view.read (Elt F) G10 = s) : ∀ k ≤ k0_t1_loop.trips,
    arg10.view.read (Elt F) (arg10.view.writes (Elt F) G10 (pb_k0_t1 (F := F) Variants.none c none i arg1 harg1 arg2 harg2 arg3 harg3 arg4 harg4 arg5 harg5 arg6 harg6 arg7 harg7 arg8 harg8 arg9 harg9 arg10 harg10 X1 X3 G4 G9 G10 k).2.2)
      = dmN (arg3.view.read (Elt F) X3) s k := by
  intro k
  induction k with
  | zero => intro _; exact h10
  | succ k ih =>
    intro hk
    rw [show k + 1 = (⟨k, hk⟩ : Fin k0_t1_loop.trips).val + 1 from rfl, pb_k0_t1_succ, tripL_eq]
    dsimp only [List.cons_append, List.nil_append]
    rw [View.read_writes_full, View.ld_unit_zero (S := S8x2304) hz2, ih (Nat.le_of_succ_le hk)]
    conv_rhs => unfold dmN
    rw [dif_pos (Nat.lt_of_succ_le hk)]

/-- The maxima after the loop. -/
theorem cm_all (s : Vec F S8x7168 .f32) (h9 : arg9.view.read (Elt F) G9 = s) :
    arg9.view.read (Elt F) (arg9.view.writes (Elt F) G9 (pb_k0_t1 (F := F) Variants.none c none i arg1 harg1 arg2 harg2 arg3 harg3 arg4 harg4 arg5 harg5 arg6 harg6 arg7 harg7 arg8 harg8 arg9 harg9 arg10 harg10 X1 X3 G4 G9 G10 k0_t1_loop.trips).2.1)
      = cmB (arg1.view.read (Elt F) X1) s := pb_cm c i arg1 harg1 arg2 harg2 arg3 harg3 arg4 harg4 arg5 harg5 arg6 harg6 arg7 harg7 arg8 harg8 arg9 harg9 arg10 harg10 X1 X3 G4 G9 G10 s h9 _ le_rfl
theorem dm_all (s : Vec F S8x2304 .f32) (h10 : arg10.view.read (Elt F) G10 = s) :
    arg10.view.read (Elt F) (arg10.view.writes (Elt F) G10 (pb_k0_t1 (F := F) Variants.none c none i arg1 harg1 arg2 harg2 arg3 harg3 arg4 harg4 arg5 harg5 arg6 harg6 arg7 harg7 arg8 harg8 arg9 harg9 arg10 harg10 X1 X3 G4 G9 G10 k0_t1_loop.trips).2.2)
      = dmB (arg3.view.read (Elt F) X3) s := pb_dm c i arg1 harg1 arg2 harg2 arg3 harg3 arg4 harg4 arg5 harg5 arg6 harg6 arg7 harg7 arg8 harg8 arg9 harg9 arg10 harg10 X1 X3 G4 G9 G10 s h10 _ le_rfl
end

end Cert.StatsIdeal.Hand

end
-- ==== Proof.OneStatsBody.lean ====
/-
  The body of the idealized statistics call at any grid point and any floats: from what its buffers hold when it
  starts to what they hold when it ends, in the terms of the module on the loop.
-/
module

public import proofs.«01_k».proof.Proof.OneStatsTrip

@[expose] public section

set_option maxRecDepth 16384

noncomputable section

namespace Cert.StatsIdeal.Hand

open Cert.StatsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A whole store. -/
theorem whole9 {κ : Kind} {sp : Space} (v : View sig κ sp S8x7168 .f32) (f : v.ty.Contents (Elt F)) :
    v.read (Elt F) (v.writes (Elt F) f [⟨Rect.unit (s := S8x7168) ![0, 0] S8x7168.size inb_S8x7168_S8x7168_0_0, k0_pay1 (F := F)⟩]) = k0_pay1 :=
  View.read_writes_full _ _ _ _ _

theorem whole10 {κ : Kind} {sp : Space} (v : View sig κ sp S8x2304 .f32) (f : v.ty.Contents (Elt F)) :
    v.read (Elt F) (v.writes (Elt F) f [⟨Rect.unit (s := S8x2304) ![0, 0] S8x2304.size inb_S8x2304_S8x2304_0_0, k0_pay2 (F := F)⟩]) = k0_pay2 :=
  View.read_writes_full _ _ _ _ _

/-- The four numbers are of whole buffers. -/
theorem ax_of (u : Vec F S8x7168 .f32) (g : Vec F S1x7168 .f32) (U : Vec F S8x7168 .f32) (h : u = U) :
    axB (View.ld u (Rect.unit (s := S8x7168) ![0, 0] S8x7168.size inb_S8x7168_S8x7168_0_0)) (View.ld g (Rect.unit (s := S1x7168) ![0, 0] S1x7168.size inb_S1x7168_S1x7168_0_0)) = axB U g := by
  rw [View.ld_unit_zero (S := S8x7168) hz2, View.ld_unit_zero (S := S1x7168) hz2, h]
theorem sx_of (u : Vec F S8x7168 .f32) (g : Vec F S1x7168 .f32) (U : Vec F S8x7168 .f32) (h : u = U) :
    sxB (View.ld u (Rect.unit (s := S8x7168) ![0, 0] S8x7168.size inb_S8x7168_S8x7168_0_0)) (View.ld g (Rect.unit (s := S1x7168) ![0, 0] S1x7168.size inb_S1x7168_S1x7168_0_0)) = sxB U g := by
  rw [View.ld_unit_zero (S := S8x7168) hz2, View.ld_unit_zero (S := S1x7168) hz2, h]
theorem ay_of (u : Vec F S8x2304 .f32) (U : Vec F S8x2304 .f32) (h : u = U) :
    ayB (View.ld u (Rect.unit (s := S8x2304) ![0, 0] S8x2304.size inb_S8x2304_S8x2304_0_0)) = ayB U := by
  rw [View.ld_unit_zero (S := S8x2304) hz2, h]
theorem sy_of (u : Vec F S8x2304 .f32) (U : Vec F S8x2304 .f32) (h : u = U) :
    syB (View.ld u (Rect.unit (s := S8x2304) ![0, 0] S8x2304.size inb_S8x2304_S8x2304_0_0)) = syB U := by
  rw [View.ld_unit_zero (S := S8x2304) hz2, h]

set_option maxHeartbeats 4000000 in
theorem body (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S256x2304 .bf16) (harg3 : arg3.IsWhole) (arg4 : Memref sig .tc .vmem S256x128 .f32) (harg4 : arg4.IsWhole) (arg5 : Memref sig .tc .smem S1 .f32) (harg5 : arg5.IsWhole) (arg6 : Memref sig .tc .smem S1 .f32) (harg6 : arg6.IsWhole) (arg7 : Memref sig .tc .smem S1 .f32) (harg7 : arg7.IsWhole) (arg8 : Memref sig .tc .smem S1 .f32) (harg8 : arg8.IsWhole) (arg9 : Memref sig .tc .vmem S8x7168 .f32) (harg9 : arg9.IsWhole) (arg10 : Memref sig .tc .vmem S8x2304 .f32) (harg10 : arg10.IsWhole)
    (x0 : Vec F S256x7168 .bf16) (x1 : Vec F S1x7168 .f32) (x2 : Vec F S256x2304 .bf16) (y5 y6 y7 y8 : Vec F S1 .f32) (s : Vec F S8x7168 .f32) (s' : Vec F S8x2304 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare s ∗ owns (c : Thread nD τ) arg10 fullShare s' ∗ (iprop(owns (c : Thread nD τ) arg1 fullShare x0 ∗ owns (c : Thread nD τ) arg2 fullShare x1 ∗ owns (c : Thread nD τ) arg3 fullShare x2 ∗ owns (c : Thread nD τ) arg4 fullShare (rB x0) ∗ owns (c : Thread nD τ) arg5 fullShare (if cond0_1 i then axB (cmB x0 (if cond0_0 i then k0_pay1 else s)) x1 else y5) ∗ owns (c : Thread nD τ) arg6 fullShare (if cond0_1 i then ayB (dmB x2 (if cond0_0 i then k0_pay2 else s')) else y6) ∗ owns (c : Thread nD τ) arg7 fullShare (if cond0_1 i then sxB (cmB x0 (if cond0_0 i then k0_pay1 else s)) x1 else y7) ∗ owns (c : Thread nD τ) arg8 fullShare (if cond0_1 i then syB (dmB x2 (if cond0_0 i then k0_pay2 else s')) else y8) ∗ owns (c : Thread nD τ) arg9 fullShare (cmB x0 (if cond0_0 i then k0_pay1 else s)) ∗ owns (c : Thread nD τ) arg10 fullShare (dmB x2 (if cond0_0 i then k0_pay2 else s'))) -∗ K ⟨⟩))
      ⊢ wp frame (wpE (defs₀ (F := F)) Variants.none c none) E (cc0_stats i arg1 harg1 arg2 harg2 arg3 harg3 arg4 harg4 arg5 harg5 arg6 harg6 arg7 harg7 arg8 harg8 arg9 harg9 arg10 harg10) K := by
  by_cases hc0 : cond0_0 i <;> by_cases hc1 : cond0_1 i
  · simp only [if_pos hc0, if_pos hc1]
    simp only [cc0_stats_eq_skeleton]; unfold cc0_stats_skel
    simp only [k0_part4_eq_skeleton]
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    subst hf1 hf2 hf3 hf5 hf6 hf7 hf8 hf9 hf10
    sl_exec (disch := first | sl_exact hc0 | sl_exact hc1)
    sl_step
    iapply Hk
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; exact pb_r c i arg1 harg1 arg2 harg2 arg3 harg3 arg4 harg4 arg5 harg5 arg6 harg6 arg7 harg7 arg8 harg8 arg9 harg9 arg10 harg10 _ _ _ _ _
    isplitl [H5]
    · iexists _; isplitr; swap; · iexact H5
      ipureintro; exact (View.read_writes_full _ _ _ _ _).trans (ax_of _ _ _ (by rw [View.writes_append]; exact cm_all c i arg1 harg1 arg2 harg2 arg3 harg3 arg4 harg4 arg5 harg5 arg6 harg6 arg7 harg7 arg8 harg8 arg9 harg9 arg10 harg10 _ _ _ _ _ k0_pay1 (whole9 _ _)))
    isplitl [H6]
    · iexists _; isplitr; swap; · iexact H6
      ipureintro; exact (View.read_writes_full _ _ _ _ _).trans (ay_of _ _ (by rw [View.writes_append]; exact dm_all c i arg1 harg1 arg2 harg2 arg3 harg3 arg4 harg4 arg5 harg5 arg6 harg6 arg7 harg7 arg8 harg8 arg9 harg9 arg10 harg10 _ _ _ _ _ k0_pay2 (whole10 _ _)))
    isplitl [H7]
    · iexists _; isplitr; swap; · iexact H7
      ipureintro; exact (View.read_writes_full _ _ _ _ _).trans (sx_of _ _ _ (by rw [View.writes_append]; exact cm_all c i arg1 harg1 arg2 harg2 arg3 harg3 arg4 harg4 arg5 harg5 arg6 harg6 arg7 harg7 arg8 harg8 arg9 harg9 arg10 harg10 _ _ _ _ _ k0_pay1 (whole9 _ _)))
    isplitl [H8]
    · iexists _; isplitr; swap; · iexact H8
      ipureintro; exact (View.read_writes_full _ _ _ _ _).trans (sy_of _ _ (by rw [View.writes_append]; exact dm_all c i arg1 harg1 arg2 harg2 arg3 harg3 arg4 harg4 arg5 harg5 arg6 harg6 arg7 harg7 arg8 harg8 arg9 harg9 arg10 harg10 _ _ _ _ _ k0_pay2 (whole10 _ _)))
    isplitl [H9]
    · iexists _; isplitr; swap; · iexact H9
      ipureintro; exact (by rw [View.writes_append]; exact cm_all c i arg1 harg1 arg2 harg2 arg3 harg3 arg4 harg4 arg5 harg5 arg6 harg6 arg7 harg7 arg8 harg8 arg9 harg9 arg10 harg10 _ _ _ _ _ k0_pay1 (whole9 _ _))
    iexists _; isplitr; swap; · iexact H10
    ipureintro; exact (by rw [View.writes_append]; exact dm_all c i arg1 harg1 arg2 harg2 arg3 harg3 arg4 harg4 arg5 harg5 arg6 harg6 arg7 harg7 arg8 harg8 arg9 harg9 arg10 harg10 _ _ _ _ _ k0_pay2 (whole10 _ _))
  · simp only [if_pos hc0, if_neg hc1]
    simp only [cc0_stats_eq_skeleton]; unfold cc0_stats_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    subst hf1 hf2 hf3 hf5 hf6 hf7 hf8 hf9 hf10
    sl_exec (disch := first | sl_exact hc0 | sl_exact hc1)
    sl_step
    iapply Hk
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; exact pb_r c i arg1 harg1 arg2 harg2 arg3 harg3 arg4 harg4 arg5 harg5 arg6 harg6 arg7 harg7 arg8 harg8 arg9 harg9 arg10 harg10 _ _ _ _ _
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact (by rw [View.writes_append]; exact cm_all c i arg1 harg1 arg2 harg2 arg3 harg3 arg4 harg4 arg5 harg5 arg6 harg6 arg7 harg7 arg8 harg8 arg9 harg9 arg10 harg10 _ _ _ _ _ k0_pay1 (whole9 _ _))
    iexists _; isplitr; swap; · iexact H10
    ipureintro; exact (by rw [View.writes_append]; exact dm_all c i arg1 harg1 arg2 harg2 arg3 harg3 arg4 harg4 arg5 harg5 arg6 harg6 arg7 harg7 arg8 harg8 arg9 harg9 arg10 harg10 _ _ _ _ _ k0_pay2 (whole10 _ _))
  · simp only [if_neg hc0, if_pos hc1]
    simp only [cc0_stats_eq_skeleton]; unfold cc0_stats_skel
    simp only [k0_part4_eq_skeleton]
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    subst hf1 hf2 hf3 hf5 hf6 hf7 hf8 hf9 hf10
    sl_exec (disch := first | sl_exact hc0 | sl_exact hc1)
    sl_step
    iapply Hk
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; exact pb_r c i arg1 harg1 arg2 harg2 arg3 harg3 arg4 harg4 arg5 harg5 arg6 harg6 arg7 harg7 arg8 harg8 arg9 harg9 arg10 harg10 _ _ _ _ _
    isplitl [H5]
    · iexists _; isplitr; swap; · iexact H5
      ipureintro; exact (View.read_writes_full _ _ _ _ _).trans (ax_of _ _ _ (cm_all c i arg1 harg1 arg2 harg2 arg3 harg3 arg4 harg4 arg5 harg5 arg6 harg6 arg7 harg7 arg8 harg8 arg9 harg9 arg10 harg10 _ _ _ _ _ _ rfl))
    isplitl [H6]
    · iexists _; isplitr; swap; · iexact H6
      ipureintro; exact (View.read_writes_full _ _ _ _ _).trans (ay_of _ _ (dm_all c i arg1 harg1 arg2 harg2 arg3 harg3 arg4 harg4 arg5 harg5 arg6 harg6 arg7 harg7 arg8 harg8 arg9 harg9 arg10 harg10 _ _ _ _ _ _ rfl))
    isplitl [H7]
    · iexists _; isplitr; swap; · iexact H7
      ipureintro; exact (View.read_writes_full _ _ _ _ _).trans (sx_of _ _ _ (cm_all c i arg1 harg1 arg2 harg2 arg3 harg3 arg4 harg4 arg5 harg5 arg6 harg6 arg7 harg7 arg8 harg8 arg9 harg9 arg10 harg10 _ _ _ _ _ _ rfl))
    isplitl [H8]
    · iexists _; isplitr; swap; · iexact H8
      ipureintro; exact (View.read_writes_full _ _ _ _ _).trans (sy_of _ _ (dm_all c i arg1 harg1 arg2 harg2 arg3 harg3 arg4 harg4 arg5 harg5 arg6 harg6 arg7 harg7 arg8 harg8 arg9 harg9 arg10 harg10 _ _ _ _ _ _ rfl))
    isplitl [H9]
    · iexists _; isplitr; swap; · iexact H9
      ipureintro; exact (cm_all c i arg1 harg1 arg2 harg2 arg3 harg3 arg4 harg4 arg5 harg5 arg6 harg6 arg7 harg7 arg8 harg8 arg9 harg9 arg10 harg10 _ _ _ _ _ _ rfl)
    iexists _; isplitr; swap; · iexact H10
    ipureintro; exact (dm_all c i arg1 harg1 arg2 harg2 arg3 harg3 arg4 harg4 arg5 harg5 arg6 harg6 arg7 harg7 arg8 harg8 arg9 harg9 arg10 harg10 _ _ _ _ _ _ rfl)
  · simp only [if_neg hc0, if_neg hc1]
    simp only [cc0_stats_eq_skeleton]; unfold cc0_stats_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    subst hf1 hf2 hf3 hf5 hf6 hf7 hf8 hf9 hf10
    sl_exec (disch := first | sl_exact hc0 | sl_exact hc1)
    sl_step
    iapply Hk
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; exact pb_r c i arg1 harg1 arg2 harg2 arg3 harg3 arg4 harg4 arg5 harg5 arg6 harg6 arg7 harg7 arg8 harg8 arg9 harg9 arg10 harg10 _ _ _ _ _
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact (cm_all c i arg1 harg1 arg2 harg2 arg3 harg3 arg4 harg4 arg5 harg5 arg6 harg6 arg7 harg7 arg8 harg8 arg9 harg9 arg10 harg10 _ _ _ _ _ _ rfl)
    iexists _; isplitr; swap; · iexact H10
    ipureintro; exact (dm_all c i arg1 harg1 arg2 harg2 arg3 harg3 arg4 harg4 arg5 harg5 arg6 harg6 arg7 harg7 arg8 harg8 arg9 harg9 arg10 harg10 _ _ _ _ _ _ rfl)

end Cert.StatsIdeal.Hand

end
-- ==== Proof.OneStatsFrame.lean ====
/-
The running of the statistics call point by point, at any floats: what every buffer holds after each of
the six grid points, that the call ends, that its argument arrays are left alone, and what its five result
arrays hold in the end.  The running maxima are carried from one point to the next;
`sAt` names them.
-/
module

public import proofs.«01_k».proof.Proof.OneStatsBody
public import Idealize.ShloMosaic.Lib.Claim

@[expose] public section

set_option maxRecDepth 16384

noncomputable section

namespace Cert.StatsIdeal.Hand

open Cert.StatsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The running maxima after point `n`. -/
def sAt (c : Dev nD) : (n : ℕ) → n < cfg0.N → Vec F S8x7168 .f32 × Vec F S8x2304 .f32
  | 0, hn => (cmB (iblk m c 0 ⟨0, hn⟩) k0_pay1, dmB (iblk m c 2 ⟨0, hn⟩) k0_pay2)
  | n + 1, hn => (cmB (iblk m c 0 ⟨n + 1, hn⟩) (sAt c n (Nat.lt_of_succ_lt hn)).1, dmB (iblk m c 2 ⟨n + 1, hn⟩) (sAt c n (Nat.lt_of_succ_lt hn)).2)

theorem sAt_zero (c : Dev nD) (t : Fin cfg0.N) (hz : t.val = 0) :
    sAt m c t.val t.isLt = (cmB (iblk m c 0 t) k0_pay1, dmB (iblk m c 2 t) k0_pay2) := by
  obtain ⟨n, hn⟩ := t
  cases n with
  | zero => rfl
  | succ n => exact absurd hz (Nat.succ_ne_zero n)

theorem sAt_pos (c : Dev nD) (t : Fin cfg0.N) (hz : t.val ≠ 0) :
    sAt m c t.val t.isLt = (cmB (iblk m c 0 t) (sAt m c (t.val - 1) (lt_of_le_of_lt (Nat.sub_le _ _) t.isLt)).1, dmB (iblk m c 2 t) (sAt m c (t.val - 1) (lt_of_le_of_lt (Nat.sub_le _ _) t.isLt)).2) := by
  obtain ⟨n, hn⟩ := t
  cases n with
  | zero => exact absurd rfl hz
  | succ n => rfl

/-- What is known between points: the carried maxima after the first point, anything before it. -/
def PhiS (c : Dev nD) : (n : ℕ) → n ≤ cfg0.N → sProp 𝕄
  | 0, _ => Pipeline.ΦA spec0 c
  | n + 1, hn => iprop(iprop(owns (c : Thread nD τ) scM0_0 fullShare (sAt m c n hn).1 ∗ owns (c : Thread nD τ) scM0_1 fullShare (sAt m c n hn).2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (sAt m c n hn).1 ∗ owns (c : Thread nD τ) scM0_1 fullShare (sAt m c n hn).2) ∗ (∃ r, prngReg c r)) := rfl

theorem PhiS_pos (c : Dev nD) (n : ℕ) (h : n ≤ cfg0.N) (hz : n ≠ 0) :
    PhiS m c n h = iprop(iprop(owns (c : Thread nD τ) scM0_0 fullShare (sAt m c (n - 1) (by omega)).1 ∗ owns (c : Thread nD τ) scM0_1 fullShare (sAt m c (n - 1) (by omega)).2) ∗ (∃ r, prngReg c r)) := by
  cases n with
  | zero => exact absurd rfl hz
  | succ n => rfl

/-- What each buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rB (iblk m c 0 t)
    | ⟨4, _⟩ => axB (sAt m c t.val t.isLt).1 (iblk m c 1 t)
    | ⟨5, _⟩ => ayB (sAt m c t.val t.isLt).2
    | ⟨6, _⟩ => sxB (sAt m c t.val t.isLt).1 (iblk m c 1 t)
    | ⟨7, _⟩ => syB (sAt m c t.val t.isLt).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = rB (iblk m c 0 t) := by dsimp only [dats]
theorem after0_4 (c : Dev nD) (t : Fin cfg0.N) : (dats m 0 c).after 4 t = axB (sAt m c t.val t.isLt).1 (iblk m c 1 t) := by dsimp only [dats]
theorem after0_5 (c : Dev nD) (t : Fin cfg0.N) : (dats m 0 c).after 5 t = ayB (sAt m c t.val t.isLt).2 := by dsimp only [dats]
theorem after0_6 (c : Dev nD) (t : Fin cfg0.N) : (dats m 0 c).after 6 t = sxB (sAt m c t.val t.isLt).1 (iblk m c 1 t) := by dsimp only [dats]
theorem after0_7 (c : Dev nD) (t : Fin cfg0.N) : (dats m 0 c).after 7 t = syB (sAt m c t.val t.isLt).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 6 := lt_of_lt_of_eq t.isLt (show cfg0.N = 6 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases hz : t.val = 0
  · have h0 : t.val % 6 = 0 := by omega
    have h1 : ¬ t.val % 6 = 5 := by omega
    rw [PhiS_castSucc m c t, PhiS_zero m c _ _ hz, PhiA0_eq, sAt_zero m c t hz]
    have hc0 := (hcond0_0 t).mpr h0
    have hc1 : ¬ cond0_1 (grid0.coords t) := fun h => h1 ((hcond0_1 t).mp h)
    rw [Dat.leavesExact_idle (dats m 0 c) 4 t (idleAt0_4_A t hc0 hc1) (noFlush0_4_A t hc0 hc1)]
    rw [Dat.leavesExact_idle (dats m 0 c) 5 t (idleAt0_5_A t hc0 hc1) (noFlush0_5_A t hc0 hc1)]
    rw [Dat.leavesExact_idle (dats m 0 c) 6 t (idleAt0_6_A t hc0 hc1) (noFlush0_6_A t hc0 hc1)]
    rw [Dat.leavesExact_idle (dats m 0 c) 7 t (idleAt0_7_A t hc0 hc1) (noFlush0_7_A t hc0 hc1)]
    dsimp only
    iintro ⟨⟨⟨⟨%es0, HS0⟩, ⟨%es1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body c (grid0.coords t) _ _ _ _ _ _ _ _ _ _ _ _ _ _ _ _ _ _ _ _ (iblk m c 0 t) (iblk m c 1 t) (iblk m c 2 t) _ _ _ _ _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [H6]; · iexact H6
    isplitl [H7]; · iexact H7
    isplitl [HS0]; · iexact HS0
    isplitl [HS1]; · iexact HS1
    simp only [if_pos hc0, if_neg hc1]
    iintro ⟨H0, H1, H2, H3, H4, H5, H6, H7, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iexists _; iexact H7
  · have h0 : ¬ t.val % 6 = 0 := by omega
    by_cases h1 : t.val % 6 = 5
    · skip
      rw [PhiS_castSucc m c t, PhiS_pos m c _ _ hz, sAt_pos m c t hz]
      have hc0 : ¬ cond0_0 (grid0.coords t) := fun h => h0 ((hcond0_0 t).mp h)
      have hc1 : cond0_1 (grid0.coords t) := (hcond0_1 t).mpr h1
      rw [show (dats m 0 c).leavesExact 4 t = owns (c : Thread nD τ) (ms0_4 t) fullShare ((dats m 0 c).after 4 t) from by
        unfold Dat.leavesExact; rw [liveAt0_4_C t hc0 hc1], after0_4, sAt_pos m c t hz]
      rw [show (dats m 0 c).leavesExact 5 t = owns (c : Thread nD τ) (ms0_5 t) fullShare ((dats m 0 c).after 5 t) from by
        unfold Dat.leavesExact; rw [liveAt0_5_C t hc0 hc1], after0_5, sAt_pos m c t hz]
      rw [show (dats m 0 c).leavesExact 6 t = owns (c : Thread nD τ) (ms0_6 t) fullShare ((dats m 0 c).after 6 t) from by
        unfold Dat.leavesExact; rw [liveAt0_6_C t hc0 hc1], after0_6, sAt_pos m c t hz]
      rw [show (dats m 0 c).leavesExact 7 t = owns (c : Thread nD τ) (ms0_7 t) fullShare ((dats m 0 c).after 7 t) from by
        unfold Dat.leavesExact; rw [liveAt0_7_C t hc0 hc1], after0_7, sAt_pos m c t hz]
      dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body c (grid0.coords t) _ _ _ _ _ _ _ _ _ _ _ _ _ _ _ _ _ _ _ _ (iblk m c 0 t) (iblk m c 1 t) (iblk m c 2 t) _ _ _ _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [H6]; · iexact H6
      isplitl [H7]; · iexact H7
      isplitl [HS0]; · iexact HS0
      isplitl [HS1]; · iexact HS1
      simp only [if_neg hc0, if_pos hc1]
      iintro ⟨H0, H1, H2, H3, H4, H5, H6, H7, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · skip
      rw [PhiS_castSucc m c t, PhiS_pos m c _ _ hz, sAt_pos m c t hz]
      have hc0 : ¬ cond0_0 (grid0.coords t) := fun h => h0 ((hcond0_0 t).mp h)
      have hc1 : ¬ cond0_1 (grid0.coords t) := fun h => h1 ((hcond0_1 t).mp h)
      rw [Dat.leavesExact_idle (dats m 0 c) 4 t (idleAt0_4_B t hc0 hc1) (noFlush0_4_B t hc0 hc1)]
      rw [Dat.leavesExact_idle (dats m 0 c) 5 t (idleAt0_5_B t hc0 hc1) (noFlush0_5_B t hc0 hc1)]
      rw [Dat.leavesExact_idle (dats m 0 c) 6 t (idleAt0_6_B t hc0 hc1) (noFlush0_6_B t hc0 hc1)]
      rw [Dat.leavesExact_idle (dats m 0 c) 7 t (idleAt0_7_B t hc0 hc1) (noFlush0_7_B t hc0 hc1)]
      dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body c (grid0.coords t) _ _ _ _ _ _ _ _ _ _ _ _ _ _ _ _ _ _ _ _ (iblk m c 0 t) (iblk m c 1 t) (iblk m c 2 t) _ _ _ _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [H6]; · iexact H6
      isplitl [H7]; · iexact H7
      isplitl [HS0]; · iexact HS0
      isplitl [HS1]; · iexact HS1
      simp only [if_neg hc0, if_neg hc1]
      iintro ⟨H0, H1, H2, H3, H4, H5, H6, H7, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      iexists _; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 6 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The arrays passed in end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-! ## The result arrays -/

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_2) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_3) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_4) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The frame run with each output array after the run NAMED,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_v0_2) = (dats m 0 c).arrAt 5 cfg0.N
      ∧ r.2.mem ((c : Thread nD τ).loc main_v0_3) = (dats m 0 c).arrAt 6 cfg0.N
      ∧ r.2.mem ((c : Thread nD τ).loc main_v0_4) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      post4 m r h c,
      post5 m r h c,
      post6 m r h c,
      post7 m r h c,
      kept_main_arg0 m r h c,
      kept_main_arg1 m r h c,
      kept_main_arg2 m r h c⟩)
    (run_main m ρ)

end Cert.StatsIdeal.Hand

end
-- ==== Proof.OneStatsPay.lean ====
/-
  What one grid point of the idealized statistics call computes, element by element: the rows of the inverse root mean
  squares, and the running maxima, characterised by the numbers that are not below them.
-/
module

public import proofs.«01_k».proof.Proof.StatsArith
public import proofs.«01_k».proof.Proof.OneStatsTrip

@[expose] public section

set_option maxRecDepth 16384

noncomputable section

namespace Cert.Proof.One.StatsPay

open Cert.StatsIdeal Cert.StatsIdeal.Gen Cert.StatsIdeal.Hand Idealize.ShloMosaic Idealize.ShloMosaic.TcCoe Idealize.SL.Sem
open scoped BigOperators

theorem ofBits_negInf : Ideal.ofBits .f32 0xFF800000#32 = ⊥ := by
  simp [Ideal.ofBits, Ideal.ieee]

/-- A row's inverse root mean square, and the absolute values of its normalised entries. -/
def rAt {n : ℕ} (x : (⟨2, ![n, 7168]⟩ : Shape).Idx → EReal) (a : Fin n) : EReal := Math.rInv fun j => x (ix2 a j)
def xe {n : ℕ} (x : (⟨2, ![n, 7168]⟩ : Shape).Idx → EReal) (a : Fin n) (b : Fin 7168) : EReal := Math.mag (x (ix2 a b) * rAt x a)
def ye {n : ℕ} (y : (⟨2, ![n, 2304]⟩ : Shape).Idx → EReal) (a : Fin n) (b : Fin 2304) : EReal := Math.mag (y (ix2 a b))

/-! ### The payloads -/

theorem pay8_le (cm : Vec Ideal S8x7168 .f32) (g : Vec Ideal S1x7168 .f32) (t : EReal) :
    (k0_pay8 cm g : EReal) ≤ t ↔ ∀ (u : Fin 8) (b : Fin 7168), (cm (ix2 u b) : EReal) * Math.mag (g (ix2 0 b)) ≤ t := by
  unfold k0_pay8
  simp only [pointwise]
  rw [ofBits_negInf, Math.fold_max_le]
  constructor
  · intro h u b
    exact h (u, b) (Finset.mem_univ _)
  · intro h i _
    exact h i.1 i.2

theorem pay9_le (dm : Vec Ideal S8x2304 .f32) (t : EReal) :
    (k0_pay9 dm : EReal) ≤ t ↔ ∀ (u : Fin 8) (b : Fin 2304), (dm (ix2 u b) : EReal) ≤ t := by
  unfold k0_pay9
  simp only [pointwise]
  rw [ofBits_negInf, Math.fold_max_le]
  constructor
  · intro h u b
    exact h (u, b) (Finset.mem_univ _)
  · intro h i _
    exact h i.1 i.2

/-- The maximum of an array that is the same everywhere. -/
theorem fold_const (f : Fin 8 × Fin 128 → EReal) (v : EReal) (h : ∀ i, f i = v) :
    Finset.fold max (Ideal.ofBits .f32 0xFF800000#32) f Finset.univ = v := by
  refine eq_of_forall_ge_iff fun t => ?_
  rw [ofBits_negInf, Math.fold_max_le]
  constructor
  · intro e
    rw [← h (0, 0)]; exact e _ (Finset.mem_univ _)
  · intro e i _
    rw [h i]; exact e

/-- The words of the exponent search, step by step. -/
theorem pay10_eq (cm : Vec Ideal S8x7168 .f32) (g : Vec Ideal S1x7168 .f32) (w : EReal) (h : k0_pay8 cm g = w) :
    k0_pay10 cm g = fun _ => Math.cap (w * Math.inv448) := by
  unfold k0_pay10
  rw [h]
  rfl
theorem pay11_eq (cm : Vec Ideal S8x7168 .f32) (g : Vec Ideal S1x7168 .f32) (w : EReal) (h : k0_pay8 cm g = w) :
    k0_pay11 cm g = fun _ => Math.stepW (Math.cap (w * Math.inv448)) (Math.stepW (Math.cap (w * Math.inv448)) 0#32 128#32) 64#32 := by
  unfold k0_pay11
  rw [pay10_eq cm g w h]
  rfl
theorem pay12_eq (cm : Vec Ideal S8x7168 .f32) (g : Vec Ideal S1x7168 .f32) :
    k0_pay12 cm g = fun i => IntOp.addi (k0_pay11 cm g i) 32#32 := rfl
theorem pay14_eq (v : EReal) (f : BitVec 32) (i : S8x128.Idx) :
    k0_pay14 (F := Ideal) (fun _ => v) (fun _ => f) (fun _ => IntOp.addi f 32#32) k0_pay13 i
      = Math.expW (Math.stepW v (Math.stepW v (Math.stepW v (Math.stepW v (Math.stepW v (Math.stepW v f 32#32) 16#32) 8#32) 4#32) 2#32) 1#32) := rfl

theorem pay16_const (w : BitVec 32) : k0_pay16 (F := Ideal) (fun _ => w) k0_pay15 = Ideal.ofBits .f32 (IntOp.shli .vector (IntOp.addi w 127#32) 23#32) := by
  unfold k0_pay16
  simp only [pointwise]
  exact fold_const _ _ fun k => rfl

theorem sx_apply (cm : Vec Ideal S8x7168 .f32) (g : Vec Ideal S1x7168 .f32) (i : S1.Idx) :
    sxB cm g i = Math.up ((k0_pay8 cm g : EReal) * Math.inv448) := by
  obtain ⟨w, h⟩ : ∃ w : EReal, k0_pay8 cm g = w := ⟨_, rfl⟩
  unfold sxB
  rw [h, ← Math.upW_eq, pay12_eq, pay11_eq cm g w h, pay10_eq cm g w h]
  unfold Math.upW Math.fieldW
  generalize Math.cap (w * Math.inv448) = v
  rw [funext (pay14_eq v _)]
  exact pay16_const _

theorem pay17_eq (v : EReal) : k0_pay17 (F := Ideal) v = fun _ => Math.cap (v * Math.inv57344) := rfl
theorem pay18_eq (v : EReal) : k0_pay18 (F := Ideal) v = fun _ =>
    Math.stepW (Math.cap (v * Math.inv57344)) (Math.stepW (Math.cap (v * Math.inv57344)) (Math.stepW (Math.cap (v * Math.inv57344)) (Math.stepW (Math.cap (v * Math.inv57344)) 0#32 128#32) 64#32) 32#32) 16#32 := by
  unfold k0_pay18
  rw [pay17_eq]
  generalize Math.cap (v * Math.inv57344) = w
  rfl
theorem pay20_eq (v : EReal) (f : BitVec 32) :
    k0_pay20 (F := Ideal) (fun _ => v) (fun _ => f) k0_pay19
      = Ideal.ofBits .f32 (IntOp.shli .vector (IntOp.addi (Math.expW (Math.stepW v (Math.stepW v (Math.stepW v (Math.stepW v f 8#32) 4#32) 2#32) 1#32)) 127#32) 23#32) := by
  rw [← pay16_const]
  rfl

theorem sy_apply (dm : Vec Ideal S8x2304 .f32) (i : S1.Idx) :
    syB dm i = Math.up ((k0_pay9 dm : EReal) * Math.inv57344) := by
  unfold syB
  generalize k0_pay9 dm = w
  rw [← Math.upW_eq, pay18_eq, pay17_eq, pay20_eq]
  rfl

theorem pay1_apply (i : S8x7168.Idx) : (k0_pay1 (F := Ideal) i : EReal) = 0 := by
  unfold k0_pay1
  simp only [pointwise]
theorem pay2_apply (i : S8x2304.Idx) : (k0_pay2 (F := Ideal) i : EReal) = 0 := by
  unfold k0_pay2
  simp only [pointwise]

theorem pay5_apply (x : Vec Ideal S16x7168 .bf16) (u : Fin 16) (b : Fin 128) : k0_pay5 x (ix2 u b) = rAt x u := by
  unfold k0_pay5 k0_pay4 k0_pay3
  simp only [pointwise]
  rfl

theorem pay6_apply (x : Vec Ideal S16x7168 .bf16) (cm : Vec Ideal S8x7168 .f32) (u : Fin 8) (b : Fin 7168) (p q : Fin 16)
    (hp : p.val = u.val) (hq : q.val = 8 + u.val) : k0_pay6 x cm (ix2 u b) = max (cm (ix2 u b)) (max (xe x p b) (xe x q b)) := by
  obtain ⟨p, hp'⟩ := p
  obtain ⟨q, hq'⟩ := q
  dsimp only at hp hq
  subst hp hq
  unfold k0_pay6 k0_pay4 k0_pay3
  simp only [pointwise]
  simp only [Matrix.cons_val_zero, Matrix.cons_val_one, Nat.zero_add]
  rfl

theorem pay7_apply (y : Vec Ideal S16x2304 .bf16) (dm : Vec Ideal S8x2304 .f32) (u : Fin 8) (b : Fin 2304) (p q : Fin 16)
    (hp : p.val = u.val) (hq : q.val = 8 + u.val) : k0_pay7 y dm (ix2 u b) = max (dm (ix2 u b)) (max (ye y p b) (ye y q b)) := by
  obtain ⟨p, hp'⟩ := p
  obtain ⟨q, hq'⟩ := q
  dsimp only at hp hq
  subst hp hq
  unfold k0_pay7
  simp only [pointwise]
  simp only [Matrix.cons_val_zero, Matrix.cons_val_one, Nat.zero_add]
  rfl

/-! ### The tiles loaded -/

theorem xT_apply (x : Vec Ideal S256x7168 .bf16) (k : Fin k0_t1_loop.trips) (a : Fin 16) (b : Fin 7168) (h : 16 * k.val + a.val < 256) :
    xT x k (ix2 a b) = x (ix2 ⟨16 * k.val + a.val, h⟩ b) := by
  refine View.ld_unit_apply_of x _ _ _ _ _ fun i => ?_
  have e := k0_off1_eq k
  match i with
  | ⟨0, _⟩ => exact congrArg (· + a.val) (congrFun e 0).symm
  | ⟨1, _⟩ => exact (Nat.zero_add _).symm.trans (congrArg (· + b.val) (congrFun e 1).symm)
theorem yT_apply (y : Vec Ideal S256x2304 .bf16) (k : Fin k0_t1_loop.trips) (a : Fin 16) (b : Fin 2304) (h : 16 * k.val + a.val < 256) :
    yT y k (ix2 a b) = y (ix2 ⟨16 * k.val + a.val, h⟩ b) := by
  refine View.ld_unit_apply_of y _ _ _ _ _ fun i => ?_
  have e := k0_off3_eq k
  match i with
  | ⟨0, _⟩ => exact congrArg (· + a.val) (congrFun e 0).symm
  | ⟨1, _⟩ => exact (Nat.zero_add _).symm.trans (congrArg (· + b.val) (congrFun e 1).symm)

theorem trip_lt (k : Fin k0_t1_loop.trips) (a : Fin 16) : 16 * k.val + a.val < 256 := by
  have h := k.isLt
  have e : k0_t1_loop.trips = 16 := trips1
  omega

theorem rAt_tile (x : Vec Ideal S256x7168 .bf16) (k : Fin k0_t1_loop.trips) (a : Fin 16) :
    rAt (xT x k) a = rAt x ⟨16 * k.val + a.val, trip_lt k a⟩ := by
  unfold rAt
  simp only [xT_apply x k a _ (trip_lt k a)]
theorem xe_tile (x : Vec Ideal S256x7168 .bf16) (k : Fin k0_t1_loop.trips) (a : Fin 16) (b : Fin 7168) :
    xe (xT x k) a b = xe x ⟨16 * k.val + a.val, trip_lt k a⟩ b := by
  unfold xe
  rw [rAt_tile, xT_apply x k a b (trip_lt k a)]
theorem ye_tile (y : Vec Ideal S256x2304 .bf16) (k : Fin k0_t1_loop.trips) (a : Fin 16) (b : Fin 2304) :
    ye (yT y k) a b = ye y ⟨16 * k.val + a.val, trip_lt k a⟩ b := by
  unfold ye
  rw [yT_apply y k a b (trip_lt k a)]

/-! ### One point -/

theorem rB_apply (x : Vec Ideal S256x7168 .bf16) (a : Fin 256) (b : Fin 128) : rB x (ix2 a b) = rAt x a := by
  unfold rB tiled
  refine (pay5_apply _ _ _).trans ((rAt_tile x _ _).trans (congrArg (rAt x) (Fin.ext ?_)))
  show 16 * (a.val / 16) + a.val % 16 = a.val
  omega

/-- The rows taken by the first `n` trips whose number leaves `u` on division by eight. -/
theorem rows_step (u : Fin 8) (n : ℕ) (h : n < k0_t1_loop.trips) (P : Fin 256 → Prop) :
    (∀ r : Fin 256, r.val < 16 * (n + 1) → r.val % 8 = u.val → P r)
      ↔ (∀ r : Fin 256, r.val < 16 * n → r.val % 8 = u.val → P r)
        ∧ P ⟨16 * n + u.val, trip_lt ⟨n, h⟩ ⟨u.val, by omega⟩⟩ ∧ P ⟨16 * n + (8 + u.val), trip_lt ⟨n, h⟩ ⟨8 + u.val, by omega⟩⟩ := by
  constructor
  · intro e
    refine ⟨fun r hr hu => e r (by omega) hu, e _ ?_ ?_, e _ ?_ ?_⟩
    · show 16 * n + u.val < 16 * (n + 1); omega
    · show (16 * n + u.val) % 8 = u.val; omega
    · show 16 * n + (8 + u.val) < 16 * (n + 1); omega
    · show (16 * n + (8 + u.val)) % 8 = u.val; omega
  · rintro ⟨e1, e2, e3⟩ r hr hu
    by_cases c1 : r.val < 16 * n
    · exact e1 r c1 hu
    by_cases c2 : r.val < 16 * n + 8
    · have er : r = ⟨16 * n + u.val, trip_lt ⟨n, h⟩ ⟨u.val, by omega⟩⟩ := Fin.ext (by show r.val = 16 * n + u.val; omega)
      rw [er]; exact e2
    · have er : r = ⟨16 * n + (8 + u.val), trip_lt ⟨n, h⟩ ⟨8 + u.val, by omega⟩⟩ := Fin.ext (by show r.val = 16 * n + (8 + u.val); omega)
      rw [er]; exact e3

theorem cmN_le (x : Vec Ideal S256x7168 .bf16) (s : Vec Ideal S8x7168 .f32) (u : Fin 8) (b : Fin 7168) (g t : EReal) (hg : 0 ≤ g) :
    ∀ n, n ≤ k0_t1_loop.trips → ((cmN x s n (ix2 u b) : EReal) * g ≤ t
      ↔ (s (ix2 u b) : EReal) * g ≤ t ∧ ∀ r : Fin 256, r.val < 16 * n → r.val % 8 = u.val → xe x r b * g ≤ t) := by
  intro n
  induction n with
  | zero =>
    intro _
    exact ⟨fun h => ⟨h, fun r hr _ => absurd hr (by omega)⟩, fun h => h.1⟩
  | succ n ih =>
    intro hn
    rw [rows_step u n hn, ← and_assoc, ← ih (Nat.le_of_succ_le hn)]
    have e : cmN x s (n + 1) (ix2 u b) = max (cmN x s n (ix2 u b)) (max (xe x ⟨16 * n + u.val, trip_lt ⟨n, hn⟩ ⟨u.val, by omega⟩⟩ b) (xe x ⟨16 * n + (8 + u.val), trip_lt ⟨n, hn⟩ ⟨8 + u.val, by omega⟩⟩ b)) := by
      rw [← xe_tile x ⟨n, hn⟩ ⟨u.val, by omega⟩ b, ← xe_tile x ⟨n, hn⟩ ⟨8 + u.val, by omega⟩ b, ← pay6_apply (xT x ⟨n, hn⟩) (cmN x s n) u b _ _ rfl rfl]
      exact congrFun (dif_pos hn) _
    rw [e, Math.max_mul_le _ _ _ _ hg, Math.max_mul_le _ _ _ _ hg]

theorem dmN_le (y : Vec Ideal S256x2304 .bf16) (s : Vec Ideal S8x2304 .f32) (u : Fin 8) (b : Fin 2304) (t : EReal) :
    ∀ n, n ≤ k0_t1_loop.trips → ((dmN y s n (ix2 u b) : EReal) ≤ t
      ↔ (s (ix2 u b) : EReal) ≤ t ∧ ∀ r : Fin 256, r.val < 16 * n → r.val % 8 = u.val → ye y r b ≤ t) := by
  intro n
  induction n with
  | zero =>
    intro _
    exact ⟨fun h => ⟨h, fun r hr _ => absurd hr (by omega)⟩, fun h => h.1⟩
  | succ n ih =>
    intro hn
    rw [rows_step u n hn, ← and_assoc, ← ih (Nat.le_of_succ_le hn)]
    have e : dmN y s (n + 1) (ix2 u b) = max (dmN y s n (ix2 u b)) (max (ye y ⟨16 * n + u.val, trip_lt ⟨n, hn⟩ ⟨u.val, by omega⟩⟩ b) (ye y ⟨16 * n + (8 + u.val), trip_lt ⟨n, hn⟩ ⟨8 + u.val, by omega⟩⟩ b)) := by
      rw [← ye_tile y ⟨n, hn⟩ ⟨u.val, by omega⟩ b, ← ye_tile y ⟨n, hn⟩ ⟨8 + u.val, by omega⟩ b, ← pay7_apply (yT y ⟨n, hn⟩) (dmN y s n) u b _ _ rfl rfl]
      exact congrFun (dif_pos hn) _
    rw [e]
    exact max_le_iff.trans (and_congr_right fun _ => max_le_iff)

/-- A point's 256 rows. -/
theorem cmB_le (x : Vec Ideal S256x7168 .bf16) (s : Vec Ideal S8x7168 .f32) (u : Fin 8) (b : Fin 7168) (g t : EReal) (hg : 0 ≤ g) :
    (cmB x s (ix2 u b) : EReal) * g ≤ t ↔ (s (ix2 u b) : EReal) * g ≤ t ∧ ∀ r : Fin 256, r.val % 8 = u.val → xe x r b * g ≤ t := by
  refine (cmN_le x s u b g t hg _ le_rfl).trans (and_congr_right fun _ => forall_congr' fun r => ?_)
  have e : k0_t1_loop.trips = 16 := trips1
  have h := r.isLt
  exact ⟨fun k => k (by omega), fun k _ => k⟩
theorem dmB_le (y : Vec Ideal S256x2304 .bf16) (s : Vec Ideal S8x2304 .f32) (u : Fin 8) (b : Fin 2304) (t : EReal) :
    (dmB y s (ix2 u b) : EReal) ≤ t ↔ (s (ix2 u b) : EReal) ≤ t ∧ ∀ r : Fin 256, r.val % 8 = u.val → ye y r b ≤ t := by
  refine (dmN_le y s u b t _ le_rfl).trans (and_congr_right fun _ => forall_congr' fun r => ?_)
  have e : k0_t1_loop.trips = 16 := trips1
  have h := r.isLt
  exact ⟨fun k => k (by omega), fun k _ => k⟩

end Cert.Proof.One.StatsPay

end
-- ==== Proof.OneStatsKernel.lean ====
/-
  What the idealized statistics call leaves in its results: at every grid point 256 rows of the inverse root mean squares,
  and after the last point the two maxima over all the rows and the two scales.
-/
module

public import proofs.«01_k».proof.Proof.OneStatsPay
public import proofs.«01_k».proof.Proof.OneStatsFrame

@[expose] public section

set_option maxRecDepth 16384

noncomputable section

namespace Cert.Proof.One.StatsKernel

open Cert.StatsIdeal Cert.StatsIdeal.Gen Cert.StatsIdeal.Hand Cert.Proof.One.StatsPay
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The block indices: the row strips are the point's own, everything else is whole. -/
theorem index_facts : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ win0_4.index t 0 = 0 ∧ win0_5.index t 0 = 0 ∧ win0_6.index t 0 = 0 ∧ win0_7.index t 0 = 0 := by
  decide +kernel

/-- A point's row in the whole arrays. -/
def row (t : Fin cfg0.N) (a : Fin 256) : Fin 1536 := ⟨256 * t.val + a.val, by have h := t.isLt; have hN : cfg0.N = 6 := N_0; omega⟩

/-! ### The blocks -/

theorem blk0 (c : Dev nD) (t : Fin cfg0.N) (a : Fin 256) (b : Fin 7168) : iblk m c 0 t (ix2 a b) = V m c main_arg0 (ix2 (row t a) b) := by
  obtain ⟨e0, e1⟩ := (index_facts t).1
  refine congrArg (V m c main_arg0) (Shape.idx_ext₂ ?_ ?_)
  · refine (win0_0.rect_emb_val t (ix2 a b) 0).trans ?_
    rw [e0]
    show t.val * 256 + a.val = 256 * t.val + a.val
    omega
  · refine (win0_0.rect_emb_val t (ix2 a b) 1).trans ?_
    rw [e1]
    show 0 * 7168 + b.val = b.val
    omega
theorem blk1 (c : Dev nD) (t : Fin cfg0.N) : iblk m c 1 t = V m c main_arg1 := by
  funext y
  refine congrArg (V m c main_arg1) (Shape.idx_ext₂ ?_ ?_)
  · exact win0_1.rect_emb_val_of_index_zero t 0 (index_facts t).2.1.1 y
  · exact win0_1.rect_emb_val_of_index_zero t 1 (index_facts t).2.1.2 y
theorem blk2 (c : Dev nD) (t : Fin cfg0.N) (a : Fin 256) (b : Fin 2304) : iblk m c 2 t (ix2 a b) = V m c main_arg2 (ix2 (row t a) b) := by
  obtain ⟨e0, e1⟩ := (index_facts t).2.2.1
  refine congrArg (V m c main_arg2) (Shape.idx_ext₂ ?_ ?_)
  · refine (win0_2.rect_emb_val t (ix2 a b) 0).trans ?_
    rw [e0]
    show t.val * 256 + a.val = 256 * t.val + a.val
    omega
  · refine (win0_2.rect_emb_val t (ix2 a b) 1).trans ?_
    rw [e1]
    show 0 * 2304 + b.val = b.val
    omega

theorem rAt_blk (c : Dev nD) (t : Fin cfg0.N) (a : Fin 256) :
    rAt (n := 256) (iblk m c 0 t) a = rAt (n := 1536) (V m c main_arg0) (row t a) := by
  unfold rAt
  simp only [blk0]
theorem xe_blk (c : Dev nD) (t : Fin cfg0.N) (a : Fin 256) (b : Fin 7168) :
    xe (n := 256) (iblk m c 0 t) a b = xe (n := 1536) (V m c main_arg0) (row t a) b := by
  unfold xe
  rw [rAt_blk, blk0]
theorem ye_blk (c : Dev nD) (t : Fin cfg0.N) (a : Fin 256) (b : Fin 2304) :
    ye (n := 256) (iblk m c 2 t) a b = ye (n := 1536) (V m c main_arg2) (row t a) b := by
  unfold ye
  rw [blk2]

/-! ### The maxima over the points -/

/-- The rows of the first `n + 1` points are those of the first `n` and the last one's. -/
theorem points_step (u : Fin 8) (n : ℕ) (h : n < cfg0.N) (P : Fin 1536 → Prop) :
    (∀ r : Fin 1536, r.val < 256 * (n + 1) → r.val % 8 = u.val → P r)
      ↔ (∀ r : Fin 1536, r.val < 256 * n → r.val % 8 = u.val → P r)
        ∧ ∀ a : Fin 256, a.val % 8 = u.val → P (row ⟨n, h⟩ a) := by
  constructor
  · intro e
    refine ⟨fun r hr hu => e r (by omega) hu, fun a ha => e _ ?_ ?_⟩
    · show 256 * n + a.val < 256 * (n + 1); omega
    · show (256 * n + a.val) % 8 = u.val; omega
  · rintro ⟨e1, e2⟩ r hr hu
    by_cases c1 : r.val < 256 * n
    · exact e1 r c1 hu
    have er : r = row ⟨n, h⟩ ⟨r.val - 256 * n, by omega⟩ := Fin.ext (by show r.val = 256 * n + (r.val - 256 * n); omega)
    rw [er]
    refine e2 _ ?_
    show (r.val - 256 * n) % 8 = u.val
    omega

theorem cm_le (c : Dev nD) (u : Fin 8) (b : Fin 7168) (g t : EReal) (hg : 0 ≤ g) : ∀ (n : ℕ) (hn : n < cfg0.N),
    ((sAt m c n hn).1 (ix2 u b) : EReal) * g ≤ t
      ↔ 0 * g ≤ t ∧ ∀ r : Fin 1536, r.val < 256 * (n + 1) → r.val % 8 = u.val → xe (n := 1536) (V m c main_arg0) r b * g ≤ t := by
  intro n
  induction n with
  | zero =>
    intro hn
    refine (cmB_le (iblk m c 0 ⟨0, hn⟩) (k0_pay1 (F := Ideal)) u b g t hg).trans ?_
    rw [pay1_apply, points_step u 0 hn]
    simp only [xe_blk]
    exact and_congr_right fun _ => ⟨fun k => ⟨fun r hr => absurd hr (by omega), k⟩, fun k => k.2⟩
  | succ n ih =>
    intro hn
    refine (cmB_le (iblk m c 0 ⟨n + 1, hn⟩) (sAt m c n (Nat.lt_of_succ_lt hn)).1 u b g t hg).trans ?_
    rw [ih (Nat.lt_of_succ_lt hn), points_step u (n + 1) hn, and_assoc]
    simp only [xe_blk]

theorem dm_le (c : Dev nD) (u : Fin 8) (b : Fin 2304) (t : EReal) : ∀ (n : ℕ) (hn : n < cfg0.N),
    ((sAt m c n hn).2 (ix2 u b) : EReal) ≤ t
      ↔ 0 ≤ t ∧ ∀ r : Fin 1536, r.val < 256 * (n + 1) → r.val % 8 = u.val → ye (n := 1536) (V m c main_arg2) r b ≤ t := by
  intro n
  induction n with
  | zero =>
    intro hn
    refine (dmB_le (iblk m c 2 ⟨0, hn⟩) (k0_pay2 (F := Ideal)) u b t).trans ?_
    rw [pay2_apply, points_step u 0 hn]
    simp only [ye_blk]
    exact and_congr_right fun _ => ⟨fun k => ⟨fun r hr => absurd hr (by omega), k⟩, fun k => k.2⟩
  | succ n ih =>
    intro hn
    refine (dmB_le (iblk m c 2 ⟨n + 1, hn⟩) (sAt m c n (Nat.lt_of_succ_lt hn)).2 u b t).trans ?_
    rw [ih (Nat.lt_of_succ_lt hn), points_step u (n + 1) hn, and_assoc]
    simp only [ye_blk]

/-- The largest absolute value of the normalised input, after the last point. -/
theorem ax_eq (c : Dev nD) (n : ℕ) (hn : n < cfg0.N) (h5 : n + 1 = 6) :
    (k0_pay8 (sAt m c n hn).1 (V m c main_arg1) : EReal) = Math.amaxX (V m c main_arg0) (V m c main_arg1) := by
  refine eq_of_forall_ge_iff fun t => ?_
  rw [pay8_le]
  unfold Math.amaxX
  simp only [iSup_le_iff, Math.mag_mul _ (V m c main_arg1 _)]
  simp only [cm_le m c _ _ _ t (Math.mag_nonneg _), h5]
  constructor
  · intro h a b
    exact (h ⟨a.val % 8, Nat.mod_lt _ (by decide)⟩ b).2 a a.isLt rfl
  · intro h u b
    refine ⟨?_, fun r _ _ => h r b⟩
    rw [zero_mul]
    exact (mul_nonneg (Math.mag_nonneg _) (Math.mag_nonneg _)).trans (h 0 b)

/-- The largest absolute value of the output gradient, after the last point. -/
theorem ay_eq (c : Dev nD) (n : ℕ) (hn : n < cfg0.N) (h5 : n + 1 = 6) :
    (k0_pay9 (sAt m c n hn).2 : EReal) = Math.amaxDy (V m c main_arg2) := by
  refine eq_of_forall_ge_iff fun t => ?_
  rw [pay9_le]
  unfold Math.amaxDy
  simp only [iSup_le_iff]
  simp only [dm_le m c _ _ t, h5]
  constructor
  · intro h a b
    exact (h ⟨a.val % 8, Nat.mod_lt _ (by decide)⟩ b).2 a a.isLt rfl
  · intro h u b
    exact ⟨(Math.mag_nonneg _).trans (h 0 b), fun r _ _ => h r b⟩

/-! ### The result arrays -/

theorem out3 (c : Dev nD) (t : Fin cfg0.N) (a : Fin 256) (b : Fin 128) :
    (dats m 0 c).after 3 t (ix2 a b) = Math.invRms (V m c main_arg0) (ix2 (row t a) b) := by
  rw [after0_3, rB_apply, rAt_blk]
  rfl

theorem final3 (c : Dev nD) : (dats m 0 c).arrAt 3 cfg0.N = Math.invRms (V m c main_arg0) := by
  refine (dats m 0 c).arrAt_eq_of_cover 3 _ (fun t _ => ?_) fun i => ?_
  · obtain ⟨e0, e1⟩ := (index_facts t).2.2.2.1
    funext j
    show (dats m 0 c).after 3 t j = _
    have ej : j = ix2 (j 0) (j 1) := Shape.idx_ext₂ rfl rfl
    refine (congrArg ((dats m 0 c).after 3 t) ej).trans ((out3 m c t (j 0) (j 1)).trans ?_)
    refine congrArg (Math.invRms (V m c main_arg0)) (Shape.idx_ext₂ ?_ ?_)
    · refine Eq.trans ?_ (win0_3.rect_emb_val t j 0).symm
      rw [e0]
      show 256 * t.val + (j 0 : Nat) = t.val * 256 + (j 0 : Nat)
      omega
    · refine Eq.trans ?_ (win0_3.rect_emb_val t j 1).symm
      rw [e1]
      show (j 1 : Nat) = 0 * 128 + (j 1 : Nat)
      omega
  · have h0 : (i 0 : Nat) < 1536 := (i 0).isLt
    have h1 : (i 1 : Nat) < 128 := (i 1).isLt
    have hN : cfg0.N = 6 := N_0
    have ht : (i 0 : Nat) / 256 < cfg0.N := by rw [hN]; omega
    refine ⟨⟨(i 0 : Nat) / 256, ht⟩, flush0_3 _, ?_⟩
    obtain ⟨e0, e1⟩ := (index_facts ⟨(i 0 : Nat) / 256, ht⟩).2.2.2.1
    show i ∈ ((View.whole main_v0_0).slice (win0_3.rect ⟨(i 0 : Nat) / 256, ht⟩)).set
    rw [View.set_slice_whole, Rect.mem_set_unit]
    intro a
    match a with
    | ⟨0, _⟩ =>
      show win0_3.index _ 0 * 256 ≤ (i 0 : Nat) ∧ (i 0 : Nat) < win0_3.index _ 0 * 256 + 256
      rw [e0]; dsimp only; omega
    | ⟨1, _⟩ =>
      show win0_3.index _ 1 * 128 ≤ (i 1 : Nat) ∧ (i 1 : Nat) < win0_3.index _ 1 * 128 + 128
      rw [e1]; omega

theorem final4 (c : Dev nD) : (dats m 0 c).arrAt 4 cfg0.N = Math.statAx (V m c main_arg0) (V m c main_arg1) := by
  refine (dats m 0 c).arrAt_eq_of_cover 4 _ (fun t hf => ?_) fun i => ?_
  · have h5 := (flush0_4 t).mp hf
    have hN : t.val < 6 := lt_of_lt_of_eq t.isLt (show cfg0.N = 6 from N_0)
    funext j
    show (dats m 0 c).after 4 t j = _
    rw [after0_4, blk1]
    exact ax_eq m c t.val t.isLt (by omega)
  · have hN : 5 < cfg0.N := lt_of_lt_of_eq (by decide) N_0.symm
    refine ⟨⟨5, hN⟩, (flush0_4 _).mpr rfl, ?_⟩
    have e0 := (index_facts ⟨5, hN⟩).2.2.2.2.1
    show i ∈ ((View.whole main_v0_1).slice (win0_4.rect ⟨5, hN⟩)).set
    rw [View.set_slice_whole, Rect.mem_set_unit]
    have h0 : (i 0 : Nat) < 1 := (i 0).isLt
    intro a
    match a with
    | ⟨0, _⟩ =>
      show win0_4.index _ 0 * 1 ≤ (i 0 : Nat) ∧ (i 0 : Nat) < win0_4.index _ 0 * 1 + 1
      rw [e0]; omega

theorem final5 (c : Dev nD) : (dats m 0 c).arrAt 5 cfg0.N = Math.statAdy (V m c main_arg2) := by
  refine (dats m 0 c).arrAt_eq_of_cover 5 _ (fun t hf => ?_) fun i => ?_
  · have h5 := (flush0_5 t).mp hf
    have hN : t.val < 6 := lt_of_lt_of_eq t.isLt (show cfg0.N = 6 from N_0)
    funext j
    show (dats m 0 c).after 5 t j = _
    rw [after0_5]
    exact ay_eq m c t.val t.isLt (by omega)
  · have hN : 5 < cfg0.N := lt_of_lt_of_eq (by decide) N_0.symm
    refine ⟨⟨5, hN⟩, (flush0_5 _).mpr rfl, ?_⟩
    have e0 := (index_facts ⟨5, hN⟩).2.2.2.2.2.1
    show i ∈ ((View.whole main_v0_2).slice (win0_5.rect ⟨5, hN⟩)).set
    rw [View.set_slice_whole, Rect.mem_set_unit]
    have h0 : (i 0 : Nat) < 1 := (i 0).isLt
    intro a
    match a with
    | ⟨0, _⟩ =>
      show win0_5.index _ 0 * 1 ≤ (i 0 : Nat) ∧ (i 0 : Nat) < win0_5.index _ 0 * 1 + 1
      rw [e0]; omega

theorem final6 (c : Dev nD) : (dats m 0 c).arrAt 6 cfg0.N = Math.statSx (V m c main_arg0) (V m c main_arg1) := by
  refine (dats m 0 c).arrAt_eq_of_cover 6 _ (fun t hf => ?_) fun i => ?_
  · have h5 := (flush0_6 t).mp hf
    have hN : t.val < 6 := lt_of_lt_of_eq t.isLt (show cfg0.N = 6 from N_0)
    funext j
    show (dats m 0 c).after 6 t j = _
    rw [after0_6, blk1]
    rw [sx_apply, ax_eq m c t.val t.isLt (by omega)]
    rfl
  · have hN : 5 < cfg0.N := lt_of_lt_of_eq (by decide) N_0.symm
    refine ⟨⟨5, hN⟩, (flush0_6 _).mpr rfl, ?_⟩
    have e0 := (index_facts ⟨5, hN⟩).2.2.2.2.2.2.1
    show i ∈ ((View.whole main_v0_3).slice (win0_6.rect ⟨5, hN⟩)).set
    rw [View.set_slice_whole, Rect.mem_set_unit]
    have h0 : (i 0 : Nat) < 1 := (i 0).isLt
    intro a
    match a with
    | ⟨0, _⟩ =>
      show win0_6.index _ 0 * 1 ≤ (i 0 : Nat) ∧ (i 0 : Nat) < win0_6.index _ 0 * 1 + 1
      rw [e0]; omega

theorem final7 (c : Dev nD) : (dats m 0 c).arrAt 7 cfg0.N = Math.statSdy (V m c main_arg2) := by
  refine (dats m 0 c).arrAt_eq_of_cover 7 _ (fun t hf => ?_) fun i => ?_
  · have h5 := (flush0_7 t).mp hf
    have hN : t.val < 6 := lt_of_lt_of_eq t.isLt (show cfg0.N = 6 from N_0)
    funext j
    show (dats m 0 c).after 7 t j = _
    rw [after0_7]
    rw [sy_apply, ay_eq m c t.val t.isLt (by omega)]
    rfl
  · have hN : 5 < cfg0.N := lt_of_lt_of_eq (by decide) N_0.symm
    refine ⟨⟨5, hN⟩, (flush0_7 _).mpr rfl, ?_⟩
    have e0 := (index_facts ⟨5, hN⟩).2.2.2.2.2.2.2
    show i ∈ ((View.whole main_v0_4).slice (win0_7.rect ⟨5, hN⟩)).set
    rw [View.set_slice_whole, Rect.mem_set_unit]
    have h0 : (i 0 : Nat) < 1 := (i 0).isLt
    intro a
    match a with
    | ⟨0, _⟩ =>
      show win0_7.index _ 0 * 1 ≤ (i 0 : Nat) ∧ (i 0 : Nat) < win0_7.index _ 0 * 1 + 1
      rw [e0]; omega

end Cert.Proof.One.StatsKernel

end
-- ==== Proof.OneStatsRef.lean ====
/-
  What the idealized statistics reference leaves in its five results, in terms of its arguments alone.
-/
module

public import proofs.«01_k».proof.Proof.StatsArith
public import proofs.«01_k».proof.Proof.Gen.StatsRefIdeal.Value
public import Idealize.ShloMosaic.Lib.Pointwise

@[expose] public section

set_option maxRecDepth 16384

noncomputable section

namespace Cert.Proof.One.StatsRef

open Cert.StatsRefIdeal Cert.StatsRefIdeal.Gen Idealize.ShloMosaic Idealize.ShloMosaic.TcCoe Idealize.SL.Sem
open Idealize.ShloMosaic.Pipeline (Dat)
open scoped BigOperators

/-! ### The body's payloads at an index -/

/-- A lane's number, as the iota of the count gives it. -/
theorem iota_apply (k : Fin 256) : List.foldl (fun n a => n * (![1, 256] : Fin 2 → Nat) a + ((ix2 (0 : Fin 1) k : (S1x256).Idx) a : Nat)) 0 [1] = k := by
  simp

/-- The numbers of the lanes as words. -/
theorem word_facts : ∀ k : Fin 256, (IntOp.subi (BitVec.ofNat 32 k) 126#32).toInt = (k : ℤ) - 126
    ∧ (IntOp.cmpi .slt (BitVec.ofNat 32 k) 252#32 = if k.val < 252 then 1#1 else 0#1) := by decide +kernel

/-- The power of two a lane compares with. -/
theorem sitofp_word (k : Fin 256) : FloatOps.exp2 (F := Ideal) (φ := .f32) (FloatOps.sitofp (F := Ideal) .f32 (IntOp.subi (BitVec.ofNat 32 k) 126#32))
    = (((2 : ℝ) ^ ((k : ℤ) - 126) : ℝ) : EReal) := by
  refine (Math.exp2_int ((k : ℤ) - 126) _ ?_)
  rw [(word_facts k).1]

/-- What a lane adds to the count. -/
theorem summand (v : EReal) (k : Fin 256) :
    Scalar.select (IntOp.andi (IntOp.cmpi .slt (BitVec.ofNat 32 k) 252#32) (BitVec.ofBool (decide (FloatOps.exp2 (F := Ideal) (φ := .f32) (FloatOps.sitofp (F := Ideal) .f32 (IntOp.subi (BitVec.ofNat 32 k) 126#32)) ≤ v)))) (1 : EReal) 0 = (open Classical in if Math.counts v k then 1 else 0) := by
  rw [sitofp_word, (word_facts k).2]
  unfold Math.counts
  by_cases h : k.val < 252
  · by_cases h' : (((2 : ℝ) ^ ((k : ℤ) - 126) : ℝ) : EReal) ≤ v
    · simp [h, h', Scalar.select, IntOp.andi]
    · simp [h, h', Scalar.select, IntOp.andi]
  · simp [h, Scalar.select, IntOp.andi]

theorem ofBits_126 : Ideal.ofBits .f32 0x42FC0000#32 = ((126 : ℝ) : EReal) := by
  simp [Ideal.ofBits, Ideal.ieee, -EReal.coe_mul]; norm_num

theorem ofBits_negInf : Ideal.ofBits .f32 0xFF800000#32 = ⊥ := by
  simp [Ideal.ofBits, Ideal.ieee]

/-- The two scales. -/
theorem sx_apply (v : Elt Ideal .f32) : k0_pay9 (F := Ideal) v k0_pay7 k0_pay8 = Math.up v := by
  unfold k0_pay9 k0_pay7 k0_pay8
  simp only [pointwise]
  simp only [iota_apply, summand, ofBits_126]
  rfl
theorem sdy_apply (v : Elt Ideal .f32) : k0_pay10 (F := Ideal) v = Math.up (v * Math.inv57344) := by
  unfold k0_pay10
  simp only [pointwise]
  simp only [iota_apply, summand, ofBits_126]
  rfl

/-- The inverse root mean squares. -/
theorem r_apply (x : Vec Ideal S1536x7168 .bf16) : k0_pay5 x = Math.invRms x := by
  funext i
  unfold k0_pay5 k0_pay2 k0_pay1
  simp only [pointwise]
  rfl

/-- The two maxima. -/
theorem ax_apply (x : Vec Ideal S1536x7168 .bf16) (g : Vec Ideal S1x7168 .f32) : k0_pay3 x g = Math.amaxX x g := by
  unfold k0_pay3 k0_pay2 k0_pay1
  simp only [pointwise]
  refine eq_of_forall_ge_iff fun t => ?_
  rw [ofBits_negInf, Math.fold_max_le]
  unfold Math.amaxX
  simp only [iSup_le_iff]
  constructor
  · intro h a b
    exact h (a, b) (Finset.mem_univ _)
  · intro h i _
    exact h i.1 i.2
theorem ady_apply (y : Vec Ideal S1536x2304 .bf16) : k0_pay4 y = Math.amaxDy y := by
  unfold k0_pay4
  simp only [pointwise]
  refine eq_of_forall_ge_iff fun t => ?_
  rw [ofBits_negInf, Math.fold_max_le]
  unfold Math.amaxDy
  simp only [iSup_le_iff]
  constructor
  · intro h a b
    exact h (a, b) (Finset.mem_univ _)
  · intro h i _
    exact h i.1 i.2
theorem ax6_apply (x : Vec Ideal S1536x7168 .bf16) (g : Vec Ideal S1x7168 .f32) : k0_pay6 x g = Math.amaxX x g * Math.inv448 := by
  unfold k0_pay6
  rw [ax_apply]
  rfl

/-! ### The blocks and the results -/

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The one point's blocks are the whole arrays. -/
theorem index_facts : ∀ t : Fin grid0.N,
    (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ win0_4.index t 0 = 0 ∧ win0_5.index t 0 = 0 ∧ win0_6.index t 0 = 0 ∧ win0_7.index t 0 = 0 := by
  decide +kernel

theorem blk0 (c : Dev nD) (t : Fin cfg0.N) : iblk m c 0 t = V m c main_arg0 := by
  funext y
  refine congrArg (V m c main_arg0) (Shape.idx_ext₂ ?_ ?_)
  · exact win0_0.rect_emb_val_of_index_zero t 0 (index_facts t).1.1 y
  · exact win0_0.rect_emb_val_of_index_zero t 1 (index_facts t).1.2 y
theorem blk1 (c : Dev nD) (t : Fin cfg0.N) : iblk m c 1 t = V m c main_arg1 := by
  funext y
  refine congrArg (V m c main_arg1) (Shape.idx_ext₂ ?_ ?_)
  · exact win0_1.rect_emb_val_of_index_zero t 0 (index_facts t).2.1.1 y
  · exact win0_1.rect_emb_val_of_index_zero t 1 (index_facts t).2.1.2 y
theorem blk2 (c : Dev nD) (t : Fin cfg0.N) : iblk m c 2 t = V m c main_arg2 := by
  funext y
  refine congrArg (V m c main_arg2) (Shape.idx_ext₂ ?_ ?_)
  · exact win0_2.rect_emb_val_of_index_zero t 0 (index_facts t).2.2.1.1 y
  · exact win0_2.rect_emb_val_of_index_zero t 1 (index_facts t).2.2.1.2 y

theorem out3 (c : Dev nD) (t : Fin cfg0.N) : (outsAt0 m c t).1 = Math.invRms (V m c main_arg0) := by
  unfold outsAt0 out0_A_3
  dsimp only
  rw [View.read_writes_eq_canon _ _ _ (cover0_A_3 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  rw [View.canon_unit_zero hz2]
  simp only [View.ld_unit_zero (S := S1536x7168) hz2, View.ld_unit_zero (S := S1x7168) hz2, View.ld_unit_zero (S := S1536x2304) hz2]
  rw [blk0]
  exact r_apply _

theorem out4 (c : Dev nD) (t : Fin cfg0.N) : (outsAt0 m c t).2.1 = Math.statAx (V m c main_arg0) (V m c main_arg1) := by
  unfold outsAt0 out0_A_4
  dsimp only
  rw [View.read_writes_eq_canon _ _ _ (cover0_A_4 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  rw [View.canon_unit_zero hz1]
  simp only [View.ld_unit_zero (S := S1536x7168) hz2, View.ld_unit_zero (S := S1x7168) hz2, View.ld_unit_zero (S := S1536x2304) hz2]
  rw [blk0, blk1]
  exact funext fun _ => ax_apply _ _

theorem out5 (c : Dev nD) (t : Fin cfg0.N) : (outsAt0 m c t).2.2.1 = Math.statAdy (V m c main_arg2) := by
  unfold outsAt0 out0_A_5
  dsimp only
  rw [View.read_writes_eq_canon _ _ _ (cover0_A_5 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  rw [View.canon_unit_zero hz1]
  simp only [View.ld_unit_zero (S := S1536x7168) hz2, View.ld_unit_zero (S := S1x7168) hz2, View.ld_unit_zero (S := S1536x2304) hz2]
  rw [blk2]
  exact funext fun _ => ady_apply _

theorem out6 (c : Dev nD) (t : Fin cfg0.N) : (outsAt0 m c t).2.2.2.1 = Math.statSx (V m c main_arg0) (V m c main_arg1) := by
  unfold outsAt0 out0_A_6
  dsimp only
  rw [View.read_writes_eq_canon _ _ _ (cover0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  rw [View.canon_unit_zero hz1]
  simp only [View.ld_unit_zero (S := S1536x7168) hz2, View.ld_unit_zero (S := S1x7168) hz2, View.ld_unit_zero (S := S1536x2304) hz2]
  rw [blk0, blk1]
  funext j
  show k0_pay9 (k0_pay6 _ _) k0_pay7 k0_pay8 = _
  rw [ax6_apply, sx_apply]
  rfl

theorem out7 (c : Dev nD) (t : Fin cfg0.N) : (outsAt0 m c t).2.2.2.2 = Math.statSdy (V m c main_arg2) := by
  unfold outsAt0 out0_A_7
  dsimp only
  rw [View.read_writes_eq_canon _ _ _ (cover0_A_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  rw [View.canon_unit_zero hz1]
  simp only [View.ld_unit_zero (S := S1536x7168) hz2, View.ld_unit_zero (S := S1x7168) hz2, View.ld_unit_zero (S := S1536x2304) hz2]
  rw [blk2]
  funext j
  show k0_pay10 (k0_pay4 _) = _
  rw [ady_apply, sdy_apply]
  rfl

theorem final3 (c : Dev nD) : (dats m 0 c).arrAt 3 cfg0.N = Math.invRms (V m c main_arg0) := by
  refine (dats m 0 c).arrAt_eq_of_cover 3 _ (fun t _ => ?_) fun i => ?_
  · rw [Value.flushed3]
    funext j
    show (outsAt0 m c t).1 j = _
    rw [out3]
    refine congrArg (Math.invRms (V m c main_arg0)) (Shape.idx_ext₂ ?_ ?_)
    · exact (win0_3.rect_emb_val_of_index_zero t 0 (index_facts t).2.2.2.1.1 j).symm
    · exact (win0_3.rect_emb_val_of_index_zero t 1 (index_facts t).2.2.2.1.2 j).symm
  · refine ⟨t0_0, flush0_3 _, ?_⟩
    obtain ⟨e0, e1⟩ := (index_facts t0_0).2.2.2.1
    show i ∈ ((View.whole main_v0_0).slice (win0_3.rect t0_0)).set
    rw [View.set_slice_whole, Rect.mem_set_unit]
    have h0 : (i 0 : Nat) < 1536 := (i 0).isLt
    have h1 : (i 1 : Nat) < 128 := (i 1).isLt
    intro a
    match a with
    | ⟨0, _⟩ =>
      show win0_3.index _ 0 * 1536 ≤ (i 0 : Nat) ∧ (i 0 : Nat) < win0_3.index _ 0 * 1536 + 1536
      rw [e0]; omega
    | ⟨1, _⟩ =>
      show win0_3.index _ 1 * 128 ≤ (i 1 : Nat) ∧ (i 1 : Nat) < win0_3.index _ 1 * 128 + 128
      rw [e1]; omega

theorem final4 (c : Dev nD) : (dats m 0 c).arrAt 4 cfg0.N = Math.statAx (V m c main_arg0) (V m c main_arg1) := by
  refine (dats m 0 c).arrAt_eq_of_cover 4 _ (fun t _ => ?_) fun i => ?_
  · rw [Value.flushed4]
    funext j
    show (outsAt0 m c t).2.1 j = _
    rw [out4]
    rfl
  · refine ⟨t0_0, flush0_4 _, ?_⟩
    have e0 := (index_facts t0_0).2.2.2.2.1
    show i ∈ ((View.whole main_v0_1).slice (win0_4.rect t0_0)).set
    rw [View.set_slice_whole, Rect.mem_set_unit]
    have h0 : (i 0 : Nat) < 1 := (i 0).isLt
    intro a
    match a with
    | ⟨0, _⟩ =>
      show win0_4.index _ 0 * 1 ≤ (i 0 : Nat) ∧ (i 0 : Nat) < win0_4.index _ 0 * 1 + 1
      rw [e0]; omega

theorem final5 (c : Dev nD) : (dats m 0 c).arrAt 5 cfg0.N = Math.statAdy (V m c main_arg2) := by
  refine (dats m 0 c).arrAt_eq_of_cover 5 _ (fun t _ => ?_) fun i => ?_
  · rw [Value.flushed5]
    funext j
    show (outsAt0 m c t).2.2.1 j = _
    rw [out5]
    rfl
  · refine ⟨t0_0, flush0_5 _, ?_⟩
    have e0 := (index_facts t0_0).2.2.2.2.2.1
    show i ∈ ((View.whole main_v0_2).slice (win0_5.rect t0_0)).set
    rw [View.set_slice_whole, Rect.mem_set_unit]
    have h0 : (i 0 : Nat) < 1 := (i 0).isLt
    intro a
    match a with
    | ⟨0, _⟩ =>
      show win0_5.index _ 0 * 1 ≤ (i 0 : Nat) ∧ (i 0 : Nat) < win0_5.index _ 0 * 1 + 1
      rw [e0]; omega

theorem final6 (c : Dev nD) : (dats m 0 c).arrAt 6 cfg0.N = Math.statSx (V m c main_arg0) (V m c main_arg1) := by
  refine (dats m 0 c).arrAt_eq_of_cover 6 _ (fun t _ => ?_) fun i => ?_
  · rw [Value.flushed6]
    funext j
    show (outsAt0 m c t).2.2.2.1 j = _
    rw [out6]
    rfl
  · refine ⟨t0_0, flush0_6 _, ?_⟩
    have e0 := (index_facts t0_0).2.2.2.2.2.2.1
    show i ∈ ((View.whole main_v0_3).slice (win0_6.rect t0_0)).set
    rw [View.set_slice_whole, Rect.mem_set_unit]
    have h0 : (i 0 : Nat) < 1 := (i 0).isLt
    intro a
    match a with
    | ⟨0, _⟩ =>
      show win0_6.index _ 0 * 1 ≤ (i 0 : Nat) ∧ (i 0 : Nat) < win0_6.index _ 0 * 1 + 1
      rw [e0]; omega

theorem final7 (c : Dev nD) : (dats m 0 c).arrAt 7 cfg0.N = Math.statSdy (V m c main_arg2) := by
  refine (dats m 0 c).arrAt_eq_of_cover 7 _ (fun t _ => ?_) fun i => ?_
  · rw [Value.flushed7]
    funext j
    show (outsAt0 m c t).2.2.2.2 j = _
    rw [out7]
    rfl
  · refine ⟨t0_0, flush0_7 _, ?_⟩
    have e0 := (index_facts t0_0).2.2.2.2.2.2.2
    show i ∈ ((View.whole main_v0_4).slice (win0_7.rect t0_0)).set
    rw [View.set_slice_whole, Rect.mem_set_unit]
    have h0 : (i 0 : Nat) < 1 := (i 0).isLt
    intro a
    match a with
    | ⟨0, _⟩ =>
      show win0_7.index _ 0 * 1 ≤ (i 0 : Nat) ∧ (i 0 : Nat) < win0_7.index _ 0 * 1 + 1
      rw [e0]; omega

end Cert.Proof.One.StatsRef

end
-- ==== Proof.OneStatsClaim.lean ====
/-
  The statistics call and its reference leave the same results on the same arguments.
-/
module

public import proofs.«01_k».proof.Defs
public import proofs.«01_k».proof.Proof.OneStatsKernel
public import proofs.«01_k».proof.Proof.OneStatsRef
public import proofs.«01_k».proof.Proof.Gen.StatsIdeal
public import proofs.«01_k».proof.Proof.Gen.StatsRefIdeal

@[expose] public section

noncomputable section

namespace Cert.Proof.One.StatsClaim

open Idealize.ShloMosaic Idealize.ShloMosaic.TcCoe Idealize.SL.Sem

theorem algebraic : Cert.algebraic_StatsIdeal_StatsRefIdeal := by
  intro m ρ m' ρ' _ hagree
  refine ⟨fun c => Math.invRms (Cert.StatsIdeal.Gen.V m c Cert.StatsIdeal.main_arg0),
    fun c => Math.statAx (Cert.StatsIdeal.Gen.V m c Cert.StatsIdeal.main_arg0) (Cert.StatsIdeal.Gen.V m c Cert.StatsIdeal.main_arg1),
    fun c => Math.statAdy (Cert.StatsIdeal.Gen.V m c Cert.StatsIdeal.main_arg2),
    fun c => Math.statSx (Cert.StatsIdeal.Gen.V m c Cert.StatsIdeal.main_arg0) (Cert.StatsIdeal.Gen.V m c Cert.StatsIdeal.main_arg1),
    fun c => Math.statSdy (Cert.StatsIdeal.Gen.V m c Cert.StatsIdeal.main_arg2), ?_, ?_⟩
  · exact (θ_run Cert.StatsIdeal.defs _ _).mono (fun _ h c => ⟨(h c).1.trans (StatsKernel.final3 m c), (h c).2.1.trans (StatsKernel.final4 m c),
      (h c).2.2.1.trans (StatsKernel.final5 m c), (h c).2.2.2.1.trans (StatsKernel.final6 m c), (h c).2.2.2.2.1.trans (StatsKernel.final7 m c), (h c).2.2.2.2.2⟩)
      (Cert.StatsIdeal.Hand.run_blocks (F := Ideal) m ρ)
  · refine (θ_run Cert.StatsRefIdeal.defs _ _).mono (fun _ h c => ?_) (Cert.StatsRefIdeal.Value.run_blocks (F := Ideal) m' ρ')
    obtain ⟨e0, e1, e2⟩ := hagree c
    refine ⟨(h c).1.trans ((StatsRef.final3 m' c).trans ?_), (h c).2.1.trans ((StatsRef.final4 m' c).trans ?_),
      (h c).2.2.1.trans ((StatsRef.final5 m' c).trans ?_), (h c).2.2.2.1.trans ((StatsRef.final6 m' c).trans ?_),
      (h c).2.2.2.2.1.trans ((StatsRef.final7 m' c).trans ?_), (h c).2.2.2.2.2⟩
    · exact congrArg Math.invRms e0
    · exact congr (congrArg Math.statAx e0) e1
    · exact congrArg Math.statAdy e2
    · exact congr (congrArg Math.statSx e0) e1
    · exact congrArg Math.statSdy e2

end Cert.Proof.One.StatsClaim

end
-- ==== Proof.OneRawTrip.lean ====
/-
  What one grid point of the input gradient call leaves in its buffers: the two loops over the fourteen
  column tiles, as functions of the blocks read.
-/
module

public import proofs.«01_k».proof.Proof.Gen.Dgrad.Frame.Runs
public import Idealize.ShloMosaic.Lib.Pipeline.Value
public import Idealize.ShloMosaic.Lib.VecWindow
public import Idealize.ShloMosaic.Lib.Pipeline.ValueKit
public import Idealize.ShloMosaic.Lib.Pointwise

@[expose] public section

set_option maxRecDepth 16384

noncomputable section

namespace Cert.Dgrad.Hand

open Cert.Dgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Column tiles -/

/-- The matrix whose column tiles of width 512 are `W`. -/
def tiled {R n : ℕ} {e : EltTy} (hn : n = 14) (W : Fin n → (⟨2, ![R, 512]⟩ : Shape).Idx → Elt F e) :
    (⟨2, ![R, 7168]⟩ : Shape).Idx → Elt F e := fun i =>
  W ⟨(i 1 : ℕ) / 512, by have h : (i 1 : ℕ) < 7168 := (i 1).isLt; omega⟩
    (ix2 (i 0) ⟨(i 1 : ℕ) % 512, Nat.mod_lt _ (by decide)⟩)

/-- Tiles stored one after the other: after `k` of them the first `512 * k` columns are the tiles', the rest as found. -/
theorem read_tiles {R n : ℕ} {e : EltTy} {κ : Kind} {sp : Space} (hn : n = 14) (v : View sig κ sp ⟨2, ![R, 7168]⟩ e)
    (G : v.ty.Contents (Elt F)) (off : Fin n → Fin 2 → ℕ) (hoff : ∀ k, off k = ![0, 512 * k.val])
    (inb : ∀ k (a : Fin 2), off k a + (![R, 512] : Fin 2 → ℕ) a ≤ (⟨2, ![R, 7168]⟩ : Shape).size a)
    (W : Fin n → (⟨2, ![R, 512]⟩ : Shape).Idx → Elt F e) (P : ℕ → List (View.Piece (Elt F) ⟨2, ![R, 7168]⟩ e)) (h0 : P 0 = [])
    (hs : ∀ k : Fin n, (∀ i, 512 * k.val ≤ (i 1 : ℕ) → v.read (Elt F) (v.writes (Elt F) G (P k.val)) i = v.read (Elt F) G i) →
      P (k.val + 1) = (⟨Rect.unit (s := ⟨2, ![R, 7168]⟩) (off k) ![R, 512] (inb k), W k⟩ : View.Piece (Elt F) ⟨2, ![R, 7168]⟩ e) :: P k.val) :
    ∀ k ≤ n, ∀ i, v.read (Elt F) (v.writes (Elt F) G (P k)) i
      = if (i 1 : ℕ) < 512 * k then tiled hn W i else v.read (Elt F) G i := by
  intro k
  induction k with
  | zero => intro _ i; rw [h0, if_neg (by omega)]; rfl
  | succ k ih =>
    intro hk i
    have hk' : k < n := hk
    have ih := ih (le_of_lt hk')
    have e := hs ⟨k, hk'⟩ (fun i hi => by rw [ih i, if_neg (by simp only at hi; omega)])
    simp only at e
    rw [e]
    have hi0 : (i 0 : ℕ) < R := (i 0).isLt
    by_cases hlt : (i 1 : ℕ) < 512 * k
    · rw [View.read_writes_cons_unit_of_not_mem v G (inb ⟨k, hk'⟩) _ _ i (hoff _) 1 (Or.inl (by show (i 1 : ℕ) < 512 * k; exact hlt)),
        ih i, if_pos hlt, if_pos (by omega)]
    · by_cases hlt2 : (i 1 : ℕ) < 512 * (k + 1)
      · rw [if_pos hlt2]
        have hd : (i 1 : ℕ) / 512 = k := by omega
        rw [View.read_writes_cons_unit_of_mem v G (inb ⟨k, hk'⟩) _ _ i
          (ix2 (i 0) ⟨(i 1 : ℕ) % 512, Nat.mod_lt _ (by decide)⟩) (hoff _) (fun a => by
            match a with
            | ⟨0, _⟩ => show (i 0 : ℕ) = 0 + (i 0 : ℕ); omega
            | ⟨1, _⟩ => show (i 1 : ℕ) = 512 * k + (i 1 : ℕ) % 512; omega)]
        unfold tiled
        exact congrFun (congrArg W (Fin.ext hd.symm)) _
      · rw [View.read_writes_cons_unit_of_not_mem v G (inb ⟨k, hk'⟩) _ _ i (hoff _) 1
          (Or.inr (by show 512 * k + 512 ≤ (i 1 : ℕ); omega)), ih i, if_neg hlt, if_neg hlt2]

/-- All the tiles stored: the whole matrix. -/
theorem read_tiles_all {R n : ℕ} {e : EltTy} {κ : Kind} {sp : Space} (hn : n = 14) (v : View sig κ sp ⟨2, ![R, 7168]⟩ e)
    (G : v.ty.Contents (Elt F)) (off : Fin n → Fin 2 → ℕ) (hoff : ∀ k, off k = ![0, 512 * k.val])
    (inb : ∀ k (a : Fin 2), off k a + (![R, 512] : Fin 2 → ℕ) a ≤ (⟨2, ![R, 7168]⟩ : Shape).size a)
    (W : Fin n → (⟨2, ![R, 512]⟩ : Shape).Idx → Elt F e) (P : ℕ → List (View.Piece (Elt F) ⟨2, ![R, 7168]⟩ e)) (h0 : P 0 = [])
    (hs : ∀ k : Fin n, (∀ i, 512 * k.val ≤ (i 1 : ℕ) → v.read (Elt F) (v.writes (Elt F) G (P k.val)) i = v.read (Elt F) G i) →
      P (k.val + 1) = (⟨Rect.unit (s := ⟨2, ![R, 7168]⟩) (off k) ![R, 512] (inb k), W k⟩ : View.Piece (Elt F) ⟨2, ![R, 7168]⟩ e) :: P k.val) :
    v.read (Elt F) (v.writes (Elt F) G (P n)) = tiled hn W := by
  funext i
  rw [read_tiles hn v G off hoff inb W P h0 hs n le_rfl i, if_pos]
  have h : (i 1 : ℕ) < 7168 := (i 1).isLt
  omega

theorem trips1 : k0_t1_loop.trips = 14 := by decide +kernel
theorem trips2 : k0_t2_loop.trips = 14 := by decide +kernel

/-! ## What a point computes, from its blocks -/

/-- The number in a one-element buffer. -/
def scal (x : Vec F S1 .f32) : Elt F .f32 := View.ld x (Rect.unit (s := S1) ![0] S1.size inb_S1_S1_0) (Shape.Idx.first (numel1_S1.symm ▸ Nat.one_pos))

/-- The step of the input's codes, and the codes of the output gradient. -/
def vDown (a : Elt F .f32) : FVec F S1x1 .f32 := k0_pay14 (k0_pay10 a) (k0_pay11 a) (k0_pay12 a) (k0_pay13 a)
def dyB (a : Elt F .f32) (dy : Vec F S256x2304 .bf16) : Vec F S256x2304 .fp8e5m2 :=
  k0_pay22 (k0_pay15 a) (k0_pay18 (k0_pay15 a) k0_pay16 k0_pay17) (k0_pay19 (k0_pay15 a) k0_pay16 k0_pay17) (k0_pay20 (k0_pay15 a) k0_pay16 k0_pay17) dy

/-- The tiles a trip loads. -/
def wT (w : Vec F S7168x2304 .fp8e4m3) (k : Fin k0_t1_loop.trips) : Vec F S512x2304 .fp8e4m3 :=
  View.ld w (Rect.unit (s := S7168x2304) (k0_off1 k) S512x2304.size (k0_off1_inb k))
def xT (x : Vec F S256x7168 .bf16) (k : Fin k0_t1_loop.trips) : Vec F S256x512 .bf16 :=
  View.ld x (Rect.unit (s := S256x7168) (k0_off2 k) S256x512.size (k0_off2_inb k))
def gT (g : Vec F S1x7168 .f32) (k : Fin k0_t1_loop.trips) : Vec F S1x512 .f32 :=
  View.ld g (Rect.unit (s := S1x7168) (k0_off3 k) S1x512.size (k0_off3_inb k))
def sT (s : Vec F S8x7168 .f32) (k : Fin k0_t1_loop.trips) : Vec F S8x512 .f32 :=
  View.ld s (Rect.unit (s := S8x7168) (k0_off4 k) S8x512.size (k0_off4_inb k))
def xT2 (x : Vec F S256x7168 .bf16) (k : Fin k0_t2_loop.trips) : Vec F S256x512 .bf16 :=
  View.ld x (Rect.unit (s := S256x7168) (k0_off5 k) S256x512.size (k0_off5_inb k))
def rT2 (x : Vec F S256x7168 .f32) (k : Fin k0_t2_loop.trips) : Vec F S256x512 .f32 :=
  View.ld x (Rect.unit (s := S256x7168) (k0_off5 k) S256x512.size (k0_off5_inb k))

section
variable (x0 x1 x2 x3 : Vec F S1 .f32) (x4 : Vec F S256x7168 .bf16) (x5 : Vec F S1x7168 .f32) (x6 : Vec F S256x2304 .bf16) (x7 : Vec F S7168x2304 .fp8e4m3) (x8 : Vec F S256x128 .f32)

/-- The input's codes, the weighted gradient kept for the second loop, and the partial sums of gamma's gradient. -/
def xcB : Vec F S256x7168 .fp8e4m3 := tiled trips1 fun k => k0_pay5 (vDown (scal x0)) (k0_pay23 x8) (xT x4 k) (gT x5 k)
def rawB : Vec F S256x7168 .f32 := tiled trips1 fun k => k0_pay8 (k0_pay21 (scal x2) (scal x3)) (dyB (scal x1) x6) (wT x7 k) (gT x5 k)
def sumB (s : Vec F S8x7168 .f32) : Vec F S8x7168 .f32 := tiled trips1 fun k =>
  k0_pay6 (k0_pay21 (scal x2) (scal x3)) (k0_pay23 x8) (dyB (scal x1) x6) (wT x7 k) (xT x4 k) (sT s k)

/-- The row sums after `n` tiles, lane by lane. -/
def laneB : ℕ → FVec F S256x128 .f32
  | 0 => k0_pay24
  | n + 1 => if h : n < k0_t1_loop.trips then
      k0_pay25 (laneB n) (k0_pay4 (k0_pay23 x8) (xT x4 ⟨n, h⟩)) (k0_pay7 (k0_pay21 (scal x2) (scal x3)) (dyB (scal x1) x6) (wT x7 ⟨n, h⟩) (gT x5 ⟨n, h⟩))
    else laneB n

/-- The input gradient. -/
def dxB : Vec F S256x7168 .bf16 := tiled trips2 fun k =>
  k0_pay1 (k0_pay23 x8) (laneB x1 x2 x3 x4 x5 x6 x7 x8 k0_t1_loop.trips) (xT2 x4 k) (rT2 (rawB x1 x2 x3 x5 x6 x7) k)
end

/-! ## The loops leave these -/

section
variable (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S256x7168 .bf16) (harg5 : arg5.IsWhole) (arg6 : Memref sig .tc .vmem S1x7168 .f32) (harg6 : arg6.IsWhole) (arg7 : Memref sig .tc .vmem S256x2304 .bf16) (harg7 : arg7.IsWhole) (arg8 : Memref sig .tc .vmem S7168x2304 .fp8e4m3) (harg8 : arg8.IsWhole) (arg9 : Memref sig .tc .vmem S256x128 .f32) (harg9 : arg9.IsWhole) (arg10 : Memref sig .tc .vmem S256x7168 .bf16) (harg10 : arg10.IsWhole) (arg11 : Memref sig .tc .vmem S1x7168 .f32) (harg11 : arg11.IsWhole) (arg12 : Memref sig .tc .vmem S256x7168 .fp8e4m3) (harg12 : arg12.IsWhole) (arg13 : Memref sig .tc .vmem S256x2304 .fp8e5m2) (harg13 : arg13.IsWhole) (arg14 : Memref sig .tc .vmem S256x7168 .f32) (harg14 : arg14.IsWhole) (arg15 : Memref sig .tc .vmem S8x7168 .f32) (harg15 : arg15.IsWhole)

theorem tripR_eq (v77 : FVec F S1x1 .f32) (v83 : FVec F S8x128 .f32) (v126 : IVec S8x128 32) (v128 : IVec S8x128 32) (v132 : IVec S8x128 1) (v153 : Elt F .f32) (v154 : Elt F .f32) (v166 : Vec F S256x128 .f32)
    (X5 : BufTy.Contents (Elt F) arg5.view.ty) (X6 : BufTy.Contents (Elt F) arg6.view.ty) (X8 : BufTy.Contents (Elt F) arg8.view.ty) (X13 : BufTy.Contents (Elt F) arg13.view.ty) (k : Fin k0_t1_loop.trips) (acc) (f12) (f14) (f15) :
    tripR_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v83 v126 v128 v132 v153 v154 v166 X5 X6 X8 X13 k acc f12 f14 f15
      = k0_pay25 acc (k0_pay4 (k0_pay23 v166) (xT (arg5.view.read (Elt F) X5) k))
          (k0_pay7 (k0_pay21 v153 v154) (View.ld (arg13.view.read (Elt F) X13) (Rect.unit (s := S256x2304) ![0, 0] S256x2304.size inb_S256x2304_S256x2304_0_0)) (wT (arg8.view.read (Elt F) X8) k) (gT (arg6.view.read (Elt F) X6) k)) := by
  unfold tripR_k0_t1 trip_k0_t1
  rfl

theorem tripL_eq (v77 : FVec F S1x1 .f32) (v83 : FVec F S8x128 .f32) (v126 : IVec S8x128 32) (v128 : IVec S8x128 32) (v132 : IVec S8x128 1) (v153 : Elt F .f32) (v154 : Elt F .f32) (v166 : Vec F S256x128 .f32)
    (X5 : BufTy.Contents (Elt F) arg5.view.ty) (X6 : BufTy.Contents (Elt F) arg6.view.ty) (X8 : BufTy.Contents (Elt F) arg8.view.ty) (X13 : BufTy.Contents (Elt F) arg13.view.ty) (k : Fin k0_t1_loop.trips) (acc) (f12) (f14) (f15) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v83 v126 v128 v132 v153 v154 v166 X5 X6 X8 X13 k acc f12 f14 f15
      = ([⟨Rect.unit (s := S256x7168) (k0_off2 k) ![256, 512] (k0_off2_inb k), k0_pay5 v77 (k0_pay23 v166) (xT (arg5.view.read (Elt F) X5) k) (gT (arg6.view.read (Elt F) X6) k)⟩],
         [⟨Rect.unit (s := S256x7168) (k0_off2 k) ![256, 512] (k0_off2_inb k), k0_pay8 (k0_pay21 v153 v154) (View.ld (arg13.view.read (Elt F) X13) (Rect.unit (s := S256x2304) ![0, 0] S256x2304.size inb_S256x2304_S256x2304_0_0)) (wT (arg8.view.read (Elt F) X8) k) (gT (arg6.view.read (Elt F) X6) k)⟩],
         [⟨Rect.unit (s := S8x7168) (k0_off4 k) ![8, 512] (k0_off4_inb k), k0_pay6 (k0_pay21 v153 v154) (k0_pay23 v166) (View.ld (arg13.view.read (Elt F) X13) (Rect.unit (s := S256x2304) ![0, 0] S256x2304.size inb_S256x2304_S256x2304_0_0)) (wT (arg8.view.read (Elt F) X8) k) (xT (arg5.view.read (Elt F) X5) k) (sT (arg15.view.read (Elt F) f15) k)⟩]) := by
  unfold tripL_k0_t1 trip_k0_t1
  rfl

theorem tripL2_eq (v167) (v170) (X5 : BufTy.Contents (Elt F) arg5.view.ty) (X14 : BufTy.Contents (Elt F) arg14.view.ty) (k : Fin k0_t2_loop.trips) :
    tripL_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v167 v170 X5 X14 k
      = [⟨Rect.unit (s := S256x7168) (k0_off5 k) ![256, 512] (k0_off5_inb k), k0_pay1 v167 v170 (xT2 (arg5.view.read (Elt F) X5) k) (rT2 (arg14.view.read (Elt F) X14) k)⟩] := by
  unfold tripL_k0_t2 trip_k0_t2
  rfl

theorem hz2 : (![0, 0] : Fin 2 → Nat) = fun _ => 0 := funext fun a => by fin_cases a <;> rfl

theorem pb_dx (x4 : Vec F S256x7168 .bf16) (raw : Vec F S256x7168 .f32) (v167) (v170) (X5 : BufTy.Contents (Elt F) arg5.view.ty) (X14 : BufTy.Contents (Elt F) arg14.view.ty) (G10 : BufTy.Contents (Elt F) arg10.view.ty)
    (h5 : arg5.view.read (Elt F) X5 = x4) (h14 : arg14.view.read (Elt F) X14 = raw) :
    arg10.view.read (Elt F) (arg10.view.writes (Elt F) G10 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v167 v170 X5 X14 k0_t2_loop.trips))
      = tiled trips2 fun k => k0_pay1 v167 v170 (xT2 x4 k) (rT2 raw k) := by
  refine read_tiles_all trips2 arg10.view G10 k0_off5 k0_off5_eq k0_off5_inb _ (fun k => pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v167 v170 X5 X14 k) rfl fun k _ => ?_
  dsimp only
  rw [pb_k0_t2_succ, tripL2_eq, h5, h14]
  rfl
section
variable (x0 x1 x2 x3 : Vec F S1 .f32) (x4 : Vec F S256x7168 .bf16) (x5 : Vec F S1x7168 .f32) (x6 : Vec F S256x2304 .bf16) (x7 : Vec F S7168x2304 .fp8e4m3) (x8 : Vec F S256x128 .f32) (s : Vec F S8x7168 .f32)
  (v77 : FVec F S1x1 .f32) (v83 : FVec F S8x128 .f32) (v126 : IVec S8x128 32) (v128 : IVec S8x128 32) (v132 : IVec S8x128 1) (v153 : Elt F .f32) (v154 : Elt F .f32) (v166 : Vec F S256x128 .f32)
  (X5 : BufTy.Contents (Elt F) arg5.view.ty) (X6 : BufTy.Contents (Elt F) arg6.view.ty) (X8 : BufTy.Contents (Elt F) arg8.view.ty) (X13 : BufTy.Contents (Elt F) arg13.view.ty)
  (G12 : BufTy.Contents (Elt F) arg12.view.ty) (G14 : BufTy.Contents (Elt F) arg14.view.ty) (G15 : BufTy.Contents (Elt F) arg15.view.ty)
  (e77 : v77 = vDown (scal x0)) (e153 : v153 = scal x2) (e154 : v154 = scal x3) (e166 : v166 = x8)
  (h5 : arg5.view.read (Elt F) X5 = x4) (h6 : arg6.view.read (Elt F) X6 = x5) (h8 : arg8.view.read (Elt F) X8 = x7) (h13 : arg13.view.read (Elt F) X13 = dyB (scal x1) x6)

include e77 e153 e154 e166 h5 h6 h8 h13

theorem st_lane : ∀ k ≤ k0_t1_loop.trips, (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v83 v126 v128 v132 v153 v154 v166 X5 X6 X8 X13 G12 G14 G15 k0_pay24 k).1 = laneB x1 x2 x3 x4 x5 x6 x7 x8 k := by
  intro k
  induction k with
  | zero => intro _; rfl
  | succ k ih =>
    intro hk
    have e := st_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v83 v126 v128 v132 v153 v154 v166 X5 X6 X8 X13 G12 G14 G15 k0_pay24 ⟨k, hk⟩
    simp only at e
    rw [e, tripR_eq]
    dsimp only
    rw [ih (Nat.le_of_succ_le hk), e153, e154, e166, h5, h6, h8, h13, View.ld_unit_zero (S := S256x2304) hz2]
    conv_rhs => unfold laneB
    rw [dif_pos (Nat.lt_of_succ_le hk)]

theorem st_xc : arg12.view.read (Elt F) (arg12.view.writes (Elt F) G12 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v83 v126 v128 v132 v153 v154 v166 X5 X6 X8 X13 G12 G14 G15 k0_pay24 k0_t1_loop.trips).2.1) = xcB x0 x4 x5 x8 := by
  refine read_tiles_all trips1 arg12.view G12 k0_off2 k0_off2_eq k0_off2_inb _ (fun k => (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v83 v126 v128 v132 v153 v154 v166 X5 X6 X8 X13 G12 G14 G15 k0_pay24 k).2.1) rfl fun k _ => ?_
  dsimp only
  rw [st_k0_t1_succ, tripL_eq, h5, h6]
  dsimp only [List.cons_append, List.nil_append]
  rw [e77, e166]

theorem st_raw : arg14.view.read (Elt F) (arg14.view.writes (Elt F) G14 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v83 v126 v128 v132 v153 v154 v166 X5 X6 X8 X13 G12 G14 G15 k0_pay24 k0_t1_loop.trips).2.2.1) = rawB x1 x2 x3 x5 x6 x7 := by
  refine read_tiles_all trips1 arg14.view G14 k0_off2 k0_off2_eq k0_off2_inb _ (fun k => (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v83 v126 v128 v132 v153 v154 v166 X5 X6 X8 X13 G12 G14 G15 k0_pay24 k).2.2.1) rfl fun k _ => ?_
  dsimp only
  rw [st_k0_t1_succ, tripL_eq, h6, h8, h13, View.ld_unit_zero (S := S256x2304) hz2]
  dsimp only [List.cons_append, List.nil_append]
  rw [e153, e154]

theorem st_sum (h15 : arg15.view.read (Elt F) G15 = s) : arg15.view.read (Elt F) (arg15.view.writes (Elt F) G15 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v83 v126 v128 v132 v153 v154 v166 X5 X6 X8 X13 G12 G14 G15 k0_pay24 k0_t1_loop.trips).2.2.2) = sumB x1 x2 x3 x4 x6 x7 x8 s := by
  refine read_tiles_all trips1 arg15.view G15 k0_off4 k0_off4_eq k0_off4_inb _ (fun k => (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v83 v126 v128 v132 v153 v154 v166 X5 X6 X8 X13 G12 G14 G15 k0_pay24 k).2.2.2) rfl fun k hk => ?_
  dsimp only at hk ⊢
  rw [st_k0_t1_succ, tripL_eq, h5, h8, h13, View.ld_unit_zero (S := S256x2304) hz2]
  have e : sT (arg15.view.read (Elt F) (arg15.view.writes (Elt F) G15 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v83 v126 v128 v132 v153 v154 v166 X5 X6 X8 X13 G12 G14 G15 k0_pay24 k.val).2.2.2)) k = sT s k := by
    funext j
    refine (hk _ ?_).trans (by rw [h15]; rfl)
    refine Nat.le_trans ?_ (Nat.le_of_eq (Rect.idx_unit_val (s := S8x7168) (k0_off4 k) S8x512.size (k0_off4_inb k) j 1).symm)
    exact Nat.le_trans (Nat.le_of_eq (congrFun (k0_off4_eq k) 1).symm) (Nat.le_add_right _ _)
  rw [e]
  dsimp only [List.cons_append, List.nil_append]
  rw [e153, e154, e166]

theorem dx_all (G10 : BufTy.Contents (Elt F) arg10.view.ty) (v167) (v170) (e167 : v167 = k0_pay23 v166)
    (e170 : v170 = (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v83 v126 v128 v132 v153 v154 v166 X5 X6 X8 X13 G12 G14 G15 k0_pay24 k0_t1_loop.trips).1) :
    arg10.view.read (Elt F) (arg10.view.writes (Elt F) G10 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v167 v170 X5 (arg14.view.writes (Elt F) G14 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v83 v126 v128 v132 v153 v154 v166 X5 X6 X8 X13 G12 G14 G15 k0_pay24 k0_t1_loop.trips).2.2.1) k0_t2_loop.trips))
      = dxB x1 x2 x3 x4 x5 x6 x7 x8 := by
  subst e167 e170
  rw [pb_dx c i arg1 harg1 arg2 harg2 arg3 harg3 arg4 harg4 arg5 harg5 arg6 harg6 arg7 harg7 arg8 harg8 arg9 harg9 arg10 harg10 arg11 harg11 arg12 harg12 arg13 harg13 arg14 harg14 arg15 harg15 x4 (rawB x1 x2 x3 x5 x6 x7) _ _ X5 _ G10 h5
    (st_raw c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 v77 v83 v126 v128 v132 v153 v154 v166 X5 X6 X8 X13 G12 G14 G15 e77 e153 e154 e166 h5 h6 h8 h13),
    st_lane c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 v77 v83 v126 v128 v132 v153 v154 v166 X5 X6 X8 X13 G12 G14 G15 e77 e153 e154 e166 h5 h6 h8 h13 _ le_rfl, e166]
  rfl
end

end

end Cert.Dgrad.Hand

end
-- ==== Proof.OneRawBody.lean ====
/-
  The body of the input gradient call at any grid point and any floats: from what its buffers hold when it
  starts to what they hold when it ends, in the terms of the module on the loops.
-/
module

public import proofs.«01_k».proof.Proof.OneRawTrip

@[expose] public section

set_option maxRecDepth 16384

noncomputable section

namespace Cert.Dgrad.Hand

open Cert.Dgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Loads and stores of a whole buffer. -/
theorem whole9 {κ : Kind} {sp : Space} (v : View sig κ sp S256x128 .f32) (f : v.ty.Contents (Elt F)) :
    v.readAt (Elt F) (Rect.unit (s := S256x128) ![0, 0] S256x128.size inb_S256x128_S256x128_0_0).toLoadRect f = v.read (Elt F) f :=
  View.ld_unit_zero (S := S256x128) hz2 _ _

theorem whole13 {κ κ' : Kind} {sp sp' : Space} (v : View sig κ sp S256x2304 .fp8e5m2) (f : v.ty.Contents (Elt F)) (v' : View sig κ' sp' S256x2304 .bf16) (f' : v'.ty.Contents (Elt F)) (a : Elt F .f32) :
    v.read (Elt F) (v.writes (Elt F) f [⟨Rect.unit (s := S256x2304) ![0, 0] S256x2304.size inb_S256x2304_S256x2304_0_0,
      dyB a (v'.readAt (Elt F) (Rect.unit (s := S256x2304) ![0, 0] S256x2304.size inb_S256x2304_S256x2304_0_0).toLoadRect f')⟩]) = dyB a (v'.read (Elt F) f') :=
  (View.read_writes_full _ _ _ _ _).trans (congrArg (dyB a) (View.ld_unit_zero (S := S256x2304) hz2 _ _))

theorem whole15 {κ : Kind} {sp : Space} (v : View sig κ sp S8x7168 .f32) (f : v.ty.Contents (Elt F)) :
    v.read (Elt F) (v.writes (Elt F) f [⟨Rect.unit (s := S8x7168) ![0, 0] S8x7168.size inb_S8x7168_S8x7168_0_0, k0_pay9 (F := F)⟩]) = k0_pay9 :=
  View.read_writes_full _ _ _ _ _

set_option maxHeartbeats 4000000 in
theorem body (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S256x7168 .bf16) (harg5 : arg5.IsWhole) (arg6 : Memref sig .tc .vmem S1x7168 .f32) (harg6 : arg6.IsWhole) (arg7 : Memref sig .tc .vmem S256x2304 .bf16) (harg7 : arg7.IsWhole) (arg8 : Memref sig .tc .vmem S7168x2304 .fp8e4m3) (harg8 : arg8.IsWhole) (arg9 : Memref sig .tc .vmem S256x128 .f32) (harg9 : arg9.IsWhole) (arg10 : Memref sig .tc .vmem S256x7168 .bf16) (harg10 : arg10.IsWhole) (arg11 : Memref sig .tc .vmem S1x7168 .f32) (harg11 : arg11.IsWhole) (arg12 : Memref sig .tc .vmem S256x7168 .fp8e4m3) (harg12 : arg12.IsWhole) (arg13 : Memref sig .tc .vmem S256x2304 .fp8e5m2) (harg13 : arg13.IsWhole) (arg14 : Memref sig .tc .vmem S256x7168 .f32) (harg14 : arg14.IsWhole) (arg15 : Memref sig .tc .vmem S8x7168 .f32) (harg15 : arg15.IsWhole)
    (x0 x1 x2 x3 : Vec F S1 .f32) (x4 : Vec F S256x7168 .bf16) (x5 : Vec F S1x7168 .f32) (x6 : Vec F S256x2304 .bf16) (x7 : Vec F S7168x2304 .fp8e4m3) (x8 : Vec F S256x128 .f32) (xi : Vec F S1x7168 .f32) (s : Vec F S8x7168 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi ∗ (∃ d, owns (c : Thread nD τ) arg12 fullShare d) ∗ (∃ d, owns (c : Thread nD τ) arg13 fullShare d) ∗ (∃ d, owns (c : Thread nD τ) arg14 fullShare d) ∗ owns (c : Thread nD τ) arg15 fullShare s ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (dxB x1 x2 x3 x4 x5 x6 x7 x8) ∗ owns (c : Thread nD τ) arg11 fullShare (if cond0_1 i then k0_pay2 (sumB x1 x2 x3 x4 x6 x7 x8 (if cond0_0 i then k0_pay9 else s)) else xi) ∗ owns (c : Thread nD τ) arg12 fullShare (xcB x0 x4 x5 x8) ∗ owns (c : Thread nD τ) arg13 fullShare (dyB (scal x1) x6) ∗ (∃ d, owns (c : Thread nD τ) arg14 fullShare d) ∗ owns (c : Thread nD τ) arg15 fullShare (sumB x1 x2 x3 x4 x6 x7 x8 (if cond0_0 i then k0_pay9 else s))) -∗ K ⟨⟩))
      ⊢ wp frame (wpE (defs₀ (F := F)) Variants.none c none) E (cc0_dgrad i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  by_cases hc0 : cond0_0 i <;> by_cases hc1 : cond0_1 i
  · simp only [if_pos hc0, if_pos hc1]
    simp only [cc0_dgrad_eq_skeleton]; unfold cc0_dgrad_skel
    simp only [k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%ds0, %fs0, -, HS0⟩, ⟨%fs1, %hfs1, HS1⟩, Hk⟩
    subst hf0 hf1 hf2 hf3 hf4 hf5 hf6 hf7 hf8 hf10 hfs1
    sl_exec (disch := first | sl_exact hc0 | sl_exact hc1)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact dx_all c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ _ _ _ rfl rfl rfl (whole9 _ _) rfl rfl rfl (whole13 _ _ _ _ _) _ _ _ rfl rfl
    isplitl [H10]
    · iexists _; isplitr; swap; · iexact H10
      ipureintro; exact (View.read_writes_full _ _ _ _ _).trans (congrArg k0_pay2 ((View.ld_unit_zero (S := S8x7168) hz2 _ _).trans (by rw [View.writes_append]; exact st_sum c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) k0_pay9 _ _ _ _ _ _ _ _ _ _ _ _ _ _ _ rfl rfl rfl (whole9 _ _) rfl rfl rfl (whole13 _ _ _ _ _) (whole15 _ _))))
    isplitl [H11]
    · iexists _; isplitr; swap; · iexact H11
      ipureintro; exact st_xc c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ _ _ _ rfl rfl rfl (whole9 _ _) rfl rfl rfl (whole13 _ _ _ _ _)
    isplitl [H12]
    · iexists _; isplitr; swap; · iexact H12
      ipureintro; exact whole13 _ _ _ _ _
    isplitl [HS0]
    · iexists _, _; isplitr; swap; · iexact HS0
      ipureintro; rfl
    iexists _; isplitr; swap; · iexact HS1
    ipureintro; exact by rw [View.writes_append]; exact st_sum c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) k0_pay9 _ _ _ _ _ _ _ _ _ _ _ _ _ _ _ rfl rfl rfl (whole9 _ _) rfl rfl rfl (whole13 _ _ _ _ _) (whole15 _ _)
  · simp only [if_pos hc0, if_neg hc1]
    simp only [cc0_dgrad_eq_skeleton]; unfold cc0_dgrad_skel
    simp only [k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%ds0, %fs0, -, HS0⟩, ⟨%fs1, %hfs1, HS1⟩, Hk⟩
    subst hf0 hf1 hf2 hf3 hf4 hf5 hf6 hf7 hf8 hf10 hfs1
    sl_exec (disch := first | sl_exact hc0 | sl_exact hc1)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact dx_all c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ _ _ _ rfl rfl rfl (whole9 _ _) rfl rfl rfl (whole13 _ _ _ _ _) _ _ _ rfl rfl
    isplitl [H10]
    · iexists _; isplitr; swap; · iexact H10
      ipureintro; rfl
    isplitl [H11]
    · iexists _; isplitr; swap; · iexact H11
      ipureintro; exact st_xc c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ _ _ _ rfl rfl rfl (whole9 _ _) rfl rfl rfl (whole13 _ _ _ _ _)
    isplitl [H12]
    · iexists _; isplitr; swap; · iexact H12
      ipureintro; exact whole13 _ _ _ _ _
    isplitl [HS0]
    · iexists _, _; isplitr; swap; · iexact HS0
      ipureintro; rfl
    iexists _; isplitr; swap; · iexact HS1
    ipureintro; exact by rw [View.writes_append]; exact st_sum c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) k0_pay9 _ _ _ _ _ _ _ _ _ _ _ _ _ _ _ rfl rfl rfl (whole9 _ _) rfl rfl rfl (whole13 _ _ _ _ _) (whole15 _ _)
  · simp only [if_neg hc0, if_pos hc1]
    simp only [cc0_dgrad_eq_skeleton]; unfold cc0_dgrad_skel
    simp only [k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%ds0, %fs0, -, HS0⟩, ⟨%fs1, %hfs1, HS1⟩, Hk⟩
    subst hf0 hf1 hf2 hf3 hf4 hf5 hf6 hf7 hf8 hf10 hfs1
    sl_exec (disch := first | sl_exact hc0 | sl_exact hc1)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact dx_all c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ _ _ _ rfl rfl rfl (whole9 _ _) rfl rfl rfl (whole13 _ _ _ _ _) _ _ _ rfl rfl
    isplitl [H10]
    · iexists _; isplitr; swap; · iexact H10
      ipureintro; exact (View.read_writes_full _ _ _ _ _).trans (congrArg k0_pay2 ((View.ld_unit_zero (S := S8x7168) hz2 _ _).trans (by exact st_sum c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) (arg15.view.read (Elt F) fs1) _ _ _ _ _ _ _ _ _ _ _ _ _ _ _ rfl rfl rfl (whole9 _ _) rfl rfl rfl (whole13 _ _ _ _ _) rfl)))
    isplitl [H11]
    · iexists _; isplitr; swap; · iexact H11
      ipureintro; exact st_xc c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ _ _ _ rfl rfl rfl (whole9 _ _) rfl rfl rfl (whole13 _ _ _ _ _)
    isplitl [H12]
    · iexists _; isplitr; swap; · iexact H12
      ipureintro; exact whole13 _ _ _ _ _
    isplitl [HS0]
    · iexists _, _; isplitr; swap; · iexact HS0
      ipureintro; rfl
    iexists _; isplitr; swap; · iexact HS1
    ipureintro; exact by exact st_sum c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) (arg15.view.read (Elt F) fs1) _ _ _ _ _ _ _ _ _ _ _ _ _ _ _ rfl rfl rfl (whole9 _ _) rfl rfl rfl (whole13 _ _ _ _ _) rfl
  · simp only [if_neg hc0, if_neg hc1]
    simp only [cc0_dgrad_eq_skeleton]; unfold cc0_dgrad_skel
    simp only [k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%ds0, %fs0, -, HS0⟩, ⟨%fs1, %hfs1, HS1⟩, Hk⟩
    subst hf0 hf1 hf2 hf3 hf4 hf5 hf6 hf7 hf8 hf10 hfs1
    sl_exec (disch := first | sl_exact hc0 | sl_exact hc1)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact dx_all c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ _ _ _ rfl rfl rfl (whole9 _ _) rfl rfl rfl (whole13 _ _ _ _ _) _ _ _ rfl rfl
    isplitl [H10]
    · iexists _; isplitr; swap; · iexact H10
      ipureintro; rfl
    isplitl [H11]
    · iexists _; isplitr; swap; · iexact H11
      ipureintro; exact st_xc c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ _ _ _ rfl rfl rfl (whole9 _ _) rfl rfl rfl (whole13 _ _ _ _ _)
    isplitl [H12]
    · iexists _; isplitr; swap; · iexact H12
      ipureintro; exact whole13 _ _ _ _ _
    isplitl [HS0]
    · iexists _, _; isplitr; swap; · iexact HS0
      ipureintro; rfl
    iexists _; isplitr; swap; · iexact HS1
    ipureintro; exact by exact st_sum c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) (arg15.view.read (Elt F) fs1) _ _ _ _ _ _ _ _ _ _ _ _ _ _ _ rfl rfl rfl (whole9 _ _) rfl rfl rfl (whole13 _ _ _ _ _) rfl

end Cert.Dgrad.Hand

end
-- ==== Proof.OneRawFrame.lean ====
/-
The running of the input gradient call point by point, at any floats: what every buffer holds after each of
the six grid points, that the call ends, that its argument arrays are left alone, and what its four result
arrays hold in the end.  The running sums for the gamma gradient are carried from one point to the next;
`sAt` names them.
-/
module

public import proofs.«01_k».proof.Proof.OneRawBody
public import Idealize.ShloMosaic.Lib.Claim

@[expose] public section

set_option maxRecDepth 16384

noncomputable section

namespace Cert.Dgrad.Hand

open Cert.Dgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The running sums after point `n`. -/
def sAt (c : Dev nD) : (n : ℕ) → n < cfg0.N → Vec F S8x7168 .f32
  | 0, hn => sumB (iblk m c 1 ⟨0, hn⟩) (iblk m c 2 ⟨0, hn⟩) (iblk m c 3 ⟨0, hn⟩) (iblk m c 4 ⟨0, hn⟩) (iblk m c 6 ⟨0, hn⟩) (iblk m c 7 ⟨0, hn⟩) (iblk m c 8 ⟨0, hn⟩) k0_pay9
  | n + 1, hn => sumB (iblk m c 1 ⟨n + 1, hn⟩) (iblk m c 2 ⟨n + 1, hn⟩) (iblk m c 3 ⟨n + 1, hn⟩) (iblk m c 4 ⟨n + 1, hn⟩) (iblk m c 6 ⟨n + 1, hn⟩) (iblk m c 7 ⟨n + 1, hn⟩) (iblk m c 8 ⟨n + 1, hn⟩) (sAt c n (Nat.lt_of_succ_lt hn))

theorem sAt_zero (c : Dev nD) (t : Fin cfg0.N) (hz : t.val = 0) :
    sAt m c t.val t.isLt = sumB (iblk m c 1 t) (iblk m c 2 t) (iblk m c 3 t) (iblk m c 4 t) (iblk m c 6 t) (iblk m c 7 t) (iblk m c 8 t) k0_pay9 := by
  obtain ⟨n, hn⟩ := t
  cases n with
  | zero => rfl
  | succ n => exact absurd hz (Nat.succ_ne_zero n)

theorem sAt_pos (c : Dev nD) (t : Fin cfg0.N) (hz : t.val ≠ 0) :
    sAt m c t.val t.isLt = sumB (iblk m c 1 t) (iblk m c 2 t) (iblk m c 3 t) (iblk m c 4 t) (iblk m c 6 t) (iblk m c 7 t) (iblk m c 8 t) (sAt m c (t.val - 1) (lt_of_le_of_lt (Nat.sub_le _ _) t.isLt)) := by
  obtain ⟨n, hn⟩ := t
  cases n with
  | zero => exact absurd rfl hz
  | succ n => rfl

/-- What is known between points: the carried sums after the first point, anything before it. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (sAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ owns (c : Thread nD τ) scM0_1 fullShare (sAt m c n hn)) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (sAt m c (n - 1) (by omega))) ∗ (∃ r, prngReg c r)) := by
  cases n with
  | zero => exact absurd rfl hz
  | succ n => rfl

/-- What each buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dxB (iblk m c 1 t) (iblk m c 2 t) (iblk m c 3 t) (iblk m c 4 t) (iblk m c 5 t) (iblk m c 6 t) (iblk m c 7 t) (iblk m c 8 t)
    | ⟨10, _⟩ => k0_pay2 (sAt m c t.val t.isLt)
    | ⟨11, _⟩ => xcB (iblk m c 0 t) (iblk m c 4 t) (iblk m c 5 t) (iblk m c 8 t)
    | ⟨12, _⟩ => dyB (scal (iblk m c 1 t)) (iblk m c 6 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = dxB (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = k0_pay2 (sAt m c t.val t.isLt) := by dsimp only [dats]
theorem after0_11 (c : Dev nD) (t : Fin cfg0.N) : (dats m 0 c).after 11 t = xcB (iblk m c 0 t) (iblk m c 4 t) (iblk m c 5 t) (iblk m c 8 t) := by dsimp only [dats]
theorem after0_12 (c : Dev nD) (t : Fin cfg0.N) : (dats m 0 c).after 12 t = dyB (scal (iblk m c 1 t)) (iblk m c 6 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 6 := lt_of_lt_of_eq t.isLt (show cfg0.N = 6 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  by_cases hz : t.val = 0
  · have h0 : t.val % 6 = 0 := by omega
    have h1 : ¬ t.val % 6 = 5 := by omega
    rw [PhiS_castSucc m c t, PhiS_zero m c _ _ hz, PhiA0_eq, sAt_zero m c t hz]
    have hc0 := (hcond0_0 t).mpr h0
    have hc1 : ¬ cond0_1 (grid0.coords t) := fun h => h1 ((hcond0_1 t).mp h)
    rw [Dat.leavesExact_idle (dats m 0 c) 10 t (idleAt0_10_A t hc0 hc1) (noFlush0_10_A t hc0 hc1)]
    iintro ⟨⟨⟨HS0, ⟨%s, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (body c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexists _; iexact H11
    isplitl [H12]; · iexists _; iexact H12
    isplitl [HS0]; · iexact HS0
    isplitl [HS1]; · iexact HS1
    simp only [if_pos hc0, if_neg hc1]
    iintro ⟨H0, H1, H2, H3, H4, H5, H6, H7, H8, H9, H10, H11, H12, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    iexact H12
  · have h0 : ¬ t.val % 6 = 0 := by omega
    by_cases h1 : t.val % 6 = 5
    · skip
      rw [PhiS_castSucc m c t, PhiS_pos m c _ _ hz, sAt_pos m c t hz]
      have hc0 : ¬ cond0_0 (grid0.coords t) := fun h => h0 ((hcond0_0 t).mp h)
      have hc1 : cond0_1 (grid0.coords t) := (hcond0_1 t).mpr h1
      rw [show (dats m 0 c).leavesExact 10 t = owns (c : Thread nD τ) (ms0_10 t) fullShare ((dats m 0 c).after 10 t) from by
        unfold Dat.leavesExact; rw [liveAt0_10_C t hc0 hc1], after0_10, sAt_pos m c t hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexists _; iexact H11
      isplitl [H12]; · iexists _; iexact H12
      isplitl [HS0]; · iexact HS0
      isplitl [HS1]; · iexact HS1
      simp only [if_neg hc0, if_pos hc1]
      iintro ⟨H0, H1, H2, H3, H4, H5, H6, H7, H8, H9, H10, H11, H12, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · skip
      rw [PhiS_castSucc m c t, PhiS_pos m c _ _ hz, sAt_pos m c t hz]
      have hc0 : ¬ cond0_0 (grid0.coords t) := fun h => h0 ((hcond0_0 t).mp h)
      have hc1 : ¬ cond0_1 (grid0.coords t) := fun h => h1 ((hcond0_1 t).mp h)
      rw [Dat.leavesExact_idle (dats m 0 c) 10 t (idleAt0_10_B t hc0 hc1) (noFlush0_10_B t hc0 hc1)]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexists _; iexact H11
      isplitl [H12]; · iexists _; iexact H12
      isplitl [HS0]; · iexact HS0
      isplitl [HS1]; · iexact HS1
      simp only [if_neg hc0, if_neg hc1]
      iintro ⟨H0, H1, H2, H3, H4, H5, H6, H7, H8, H9, H10, H11, H12, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 6 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The arrays passed in end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Dgrad.Hand

end
-- ==== Proof.OneDgradTrip.lean ====
/-
  What one grid point of the idealized input gradient call leaves in its buffers: the two loops over the fourteen
  column tiles, as functions of the blocks read.
-/
module

public import proofs.«01_k».proof.Proof.Gen.DgradIdeal.Frame.Runs
public import Idealize.ShloMosaic.Lib.Pipeline.Value
public import Idealize.ShloMosaic.Lib.VecWindow
public import Idealize.ShloMosaic.Lib.Pipeline.ValueKit
public import Idealize.ShloMosaic.Lib.Pointwise

@[expose] public section

set_option maxRecDepth 16384

noncomputable section

namespace Cert.DgradIdeal.Hand

open Cert.DgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Column tiles -/

/-- The matrix whose column tiles of width 512 are `W`. -/
def tiled {R n : ℕ} {e : EltTy} (hn : n = 14) (W : Fin n → (⟨2, ![R, 512]⟩ : Shape).Idx → Elt F e) :
    (⟨2, ![R, 7168]⟩ : Shape).Idx → Elt F e := fun i =>
  W ⟨(i 1 : ℕ) / 512, by have h : (i 1 : ℕ) < 7168 := (i 1).isLt; omega⟩
    (ix2 (i 0) ⟨(i 1 : ℕ) % 512, Nat.mod_lt _ (by decide)⟩)

/-- Tiles stored one after the other: after `k` of them the first `512 * k` columns are the tiles', the rest as found. -/
theorem read_tiles {R n : ℕ} {e : EltTy} {κ : Kind} {sp : Space} (hn : n = 14) (v : View sig κ sp ⟨2, ![R, 7168]⟩ e)
    (G : v.ty.Contents (Elt F)) (off : Fin n → Fin 2 → ℕ) (hoff : ∀ k, off k = ![0, 512 * k.val])
    (inb : ∀ k (a : Fin 2), off k a + (![R, 512] : Fin 2 → ℕ) a ≤ (⟨2, ![R, 7168]⟩ : Shape).size a)
    (W : Fin n → (⟨2, ![R, 512]⟩ : Shape).Idx → Elt F e) (P : ℕ → List (View.Piece (Elt F) ⟨2, ![R, 7168]⟩ e)) (h0 : P 0 = [])
    (hs : ∀ k : Fin n, (∀ i, 512 * k.val ≤ (i 1 : ℕ) → v.read (Elt F) (v.writes (Elt F) G (P k.val)) i = v.read (Elt F) G i) →
      P (k.val + 1) = (⟨Rect.unit (s := ⟨2, ![R, 7168]⟩) (off k) ![R, 512] (inb k), W k⟩ : View.Piece (Elt F) ⟨2, ![R, 7168]⟩ e) :: P k.val) :
    ∀ k ≤ n, ∀ i, v.read (Elt F) (v.writes (Elt F) G (P k)) i
      = if (i 1 : ℕ) < 512 * k then tiled hn W i else v.read (Elt F) G i := by
  intro k
  induction k with
  | zero => intro _ i; rw [h0, if_neg (by omega)]; rfl
  | succ k ih =>
    intro hk i
    have hk' : k < n := hk
    have ih := ih (le_of_lt hk')
    have e := hs ⟨k, hk'⟩ (fun i hi => by rw [ih i, if_neg (by simp only at hi; omega)])
    simp only at e
    rw [e]
    have hi0 : (i 0 : ℕ) < R := (i 0).isLt
    by_cases hlt : (i 1 : ℕ) < 512 * k
    · rw [View.read_writes_cons_unit_of_not_mem v G (inb ⟨k, hk'⟩) _ _ i (hoff _) 1 (Or.inl (by show (i 1 : ℕ) < 512 * k; exact hlt)),
        ih i, if_pos hlt, if_pos (by omega)]
    · by_cases hlt2 : (i 1 : ℕ) < 512 * (k + 1)
      · rw [if_pos hlt2]
        have hd : (i 1 : ℕ) / 512 = k := by omega
        rw [View.read_writes_cons_unit_of_mem v G (inb ⟨k, hk'⟩) _ _ i
          (ix2 (i 0) ⟨(i 1 : ℕ) % 512, Nat.mod_lt _ (by decide)⟩) (hoff _) (fun a => by
            match a with
            | ⟨0, _⟩ => show (i 0 : ℕ) = 0 + (i 0 : ℕ); omega
            | ⟨1, _⟩ => show (i 1 : ℕ) = 512 * k + (i 1 : ℕ) % 512; omega)]
        unfold tiled
        exact congrFun (congrArg W (Fin.ext hd.symm)) _
      · rw [View.read_writes_cons_unit_of_not_mem v G (inb ⟨k, hk'⟩) _ _ i (hoff _) 1
          (Or.inr (by show 512 * k + 512 ≤ (i 1 : ℕ); omega)), ih i, if_neg hlt, if_neg hlt2]

/-- All the tiles stored: the whole matrix. -/
theorem read_tiles_all {R n : ℕ} {e : EltTy} {κ : Kind} {sp : Space} (hn : n = 14) (v : View sig κ sp ⟨2, ![R, 7168]⟩ e)
    (G : v.ty.Contents (Elt F)) (off : Fin n → Fin 2 → ℕ) (hoff : ∀ k, off k = ![0, 512 * k.val])
    (inb : ∀ k (a : Fin 2), off k a + (![R, 512] : Fin 2 → ℕ) a ≤ (⟨2, ![R, 7168]⟩ : Shape).size a)
    (W : Fin n → (⟨2, ![R, 512]⟩ : Shape).Idx → Elt F e) (P : ℕ → List (View.Piece (Elt F) ⟨2, ![R, 7168]⟩ e)) (h0 : P 0 = [])
    (hs : ∀ k : Fin n, (∀ i, 512 * k.val ≤ (i 1 : ℕ) → v.read (Elt F) (v.writes (Elt F) G (P k.val)) i = v.read (Elt F) G i) →
      P (k.val + 1) = (⟨Rect.unit (s := ⟨2, ![R, 7168]⟩) (off k) ![R, 512] (inb k), W k⟩ : View.Piece (Elt F) ⟨2, ![R, 7168]⟩ e) :: P k.val) :
    v.read (Elt F) (v.writes (Elt F) G (P n)) = tiled hn W := by
  funext i
  rw [read_tiles hn v G off hoff inb W P h0 hs n le_rfl i, if_pos]
  have h : (i 1 : ℕ) < 7168 := (i 1).isLt
  omega

theorem trips1 : k0_t1_loop.trips = 14 := by decide +kernel
theorem trips2 : k0_t2_loop.trips = 14 := by decide +kernel

/-! ## What a point computes, from its blocks -/

/-- The number in a one-element buffer. -/
def scal (x : Vec F S1 .f32) : Elt F .f32 := View.ld x (Rect.unit (s := S1) ![0] S1.size inb_S1_S1_0) (Shape.Idx.first (numel1_S1.symm ▸ Nat.one_pos))

/-- The step of the input's codes, and the codes of the output gradient. -/
def vDown (a : Elt F .f32) : FVec F S1x1 .f32 := k0_pay14 (k0_pay10 a) (k0_pay11 a) (k0_pay12 a) (k0_pay13 a)
def dyB (a : Elt F .f32) (dy : Vec F S256x2304 .bf16) : Vec F S256x2304 .fp8e5m2 :=
  k0_pay22 (k0_pay15 a) (k0_pay18 (k0_pay15 a) k0_pay16 k0_pay17) (k0_pay19 (k0_pay15 a) k0_pay16 k0_pay17) (k0_pay20 (k0_pay15 a) k0_pay16 k0_pay17) dy

/-- The tiles a trip loads. -/
def wT (w : Vec F S7168x2304 .fp8e4m3) (k : Fin k0_t1_loop.trips) : Vec F S512x2304 .fp8e4m3 :=
  View.ld w (Rect.unit (s := S7168x2304) (k0_off1 k) S512x2304.size (k0_off1_inb k))
def xT (x : Vec F S256x7168 .bf16) (k : Fin k0_t1_loop.trips) : Vec F S256x512 .bf16 :=
  View.ld x (Rect.unit (s := S256x7168) (k0_off2 k) S256x512.size (k0_off2_inb k))
def gT (g : Vec F S1x7168 .f32) (k : Fin k0_t1_loop.trips) : Vec F S1x512 .f32 :=
  View.ld g (Rect.unit (s := S1x7168) (k0_off3 k) S1x512.size (k0_off3_inb k))
def sT (s : Vec F S8x7168 .f32) (k : Fin k0_t1_loop.trips) : Vec F S8x512 .f32 :=
  View.ld s (Rect.unit (s := S8x7168) (k0_off4 k) S8x512.size (k0_off4_inb k))
def xT2 (x : Vec F S256x7168 .bf16) (k : Fin k0_t2_loop.trips) : Vec F S256x512 .bf16 :=
  View.ld x (Rect.unit (s := S256x7168) (k0_off5 k) S256x512.size (k0_off5_inb k))
def rT2 (x : Vec F S256x7168 .f32) (k : Fin k0_t2_loop.trips) : Vec F S256x512 .f32 :=
  View.ld x (Rect.unit (s := S256x7168) (k0_off5 k) S256x512.size (k0_off5_inb k))

section
variable (x0 x1 x2 x3 : Vec F S1 .f32) (x4 : Vec F S256x7168 .bf16) (x5 : Vec F S1x7168 .f32) (x6 : Vec F S256x2304 .bf16) (x7 : Vec F S7168x2304 .fp8e4m3) (x8 : Vec F S256x128 .f32)

/-- The input's codes, the weighted gradient kept for the second loop, and the partial sums of gamma's gradient. -/
def xcB : Vec F S256x7168 .fp8e4m3 := tiled trips1 fun k => k0_pay5 (vDown (scal x0)) (k0_pay23 x8) (xT x4 k) (gT x5 k)
def rawB : Vec F S256x7168 .f32 := tiled trips1 fun k => k0_pay8 (k0_pay21 (scal x2) (scal x3)) (dyB (scal x1) x6) (wT x7 k) (gT x5 k)
def sumB (s : Vec F S8x7168 .f32) : Vec F S8x7168 .f32 := tiled trips1 fun k =>
  k0_pay6 (k0_pay21 (scal x2) (scal x3)) (k0_pay23 x8) (dyB (scal x1) x6) (wT x7 k) (xT x4 k) (sT s k)

/-- The row sums after `n` tiles, lane by lane. -/
def laneB : ℕ → FVec F S256x128 .f32
  | 0 => k0_pay24
  | n + 1 => if h : n < k0_t1_loop.trips then
      k0_pay25 (laneB n) (k0_pay4 (k0_pay23 x8) (xT x4 ⟨n, h⟩)) (k0_pay7 (k0_pay21 (scal x2) (scal x3)) (dyB (scal x1) x6) (wT x7 ⟨n, h⟩) (gT x5 ⟨n, h⟩))
    else laneB n

/-- The input gradient. -/
def dxB : Vec F S256x7168 .bf16 := tiled trips2 fun k =>
  k0_pay1 (k0_pay23 x8) (laneB x1 x2 x3 x4 x5 x6 x7 x8 k0_t1_loop.trips) (xT2 x4 k) (rT2 (rawB x1 x2 x3 x5 x6 x7) k)
end

/-! ## The loops leave these -/

section
variable (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S256x7168 .bf16) (harg5 : arg5.IsWhole) (arg6 : Memref sig .tc .vmem S1x7168 .f32) (harg6 : arg6.IsWhole) (arg7 : Memref sig .tc .vmem S256x2304 .bf16) (harg7 : arg7.IsWhole) (arg8 : Memref sig .tc .vmem S7168x2304 .fp8e4m3) (harg8 : arg8.IsWhole) (arg9 : Memref sig .tc .vmem S256x128 .f32) (harg9 : arg9.IsWhole) (arg10 : Memref sig .tc .vmem S256x7168 .bf16) (harg10 : arg10.IsWhole) (arg11 : Memref sig .tc .vmem S1x7168 .f32) (harg11 : arg11.IsWhole) (arg12 : Memref sig .tc .vmem S256x7168 .fp8e4m3) (harg12 : arg12.IsWhole) (arg13 : Memref sig .tc .vmem S256x2304 .fp8e5m2) (harg13 : arg13.IsWhole) (arg14 : Memref sig .tc .vmem S256x7168 .f32) (harg14 : arg14.IsWhole) (arg15 : Memref sig .tc .vmem S8x7168 .f32) (harg15 : arg15.IsWhole)

theorem tripR_eq (v77 : FVec F S1x1 .f32) (v83 : FVec F S8x128 .f32) (v126 : IVec S8x128 32) (v128 : IVec S8x128 32) (v132 : IVec S8x128 1) (v153 : Elt F .f32) (v154 : Elt F .f32) (v166 : Vec F S256x128 .f32)
    (X5 : BufTy.Contents (Elt F) arg5.view.ty) (X6 : BufTy.Contents (Elt F) arg6.view.ty) (X8 : BufTy.Contents (Elt F) arg8.view.ty) (X13 : BufTy.Contents (Elt F) arg13.view.ty) (k : Fin k0_t1_loop.trips) (acc) (f12) (f14) (f15) :
    tripR_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v83 v126 v128 v132 v153 v154 v166 X5 X6 X8 X13 k acc f12 f14 f15
      = k0_pay25 acc (k0_pay4 (k0_pay23 v166) (xT (arg5.view.read (Elt F) X5) k))
          (k0_pay7 (k0_pay21 v153 v154) (View.ld (arg13.view.read (Elt F) X13) (Rect.unit (s := S256x2304) ![0, 0] S256x2304.size inb_S256x2304_S256x2304_0_0)) (wT (arg8.view.read (Elt F) X8) k) (gT (arg6.view.read (Elt F) X6) k)) := by
  unfold tripR_k0_t1 trip_k0_t1
  rfl

theorem tripL_eq (v77 : FVec F S1x1 .f32) (v83 : FVec F S8x128 .f32) (v126 : IVec S8x128 32) (v128 : IVec S8x128 32) (v132 : IVec S8x128 1) (v153 : Elt F .f32) (v154 : Elt F .f32) (v166 : Vec F S256x128 .f32)
    (X5 : BufTy.Contents (Elt F) arg5.view.ty) (X6 : BufTy.Contents (Elt F) arg6.view.ty) (X8 : BufTy.Contents (Elt F) arg8.view.ty) (X13 : BufTy.Contents (Elt F) arg13.view.ty) (k : Fin k0_t1_loop.trips) (acc) (f12) (f14) (f15) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v83 v126 v128 v132 v153 v154 v166 X5 X6 X8 X13 k acc f12 f14 f15
      = ([⟨Rect.unit (s := S256x7168) (k0_off2 k) ![256, 512] (k0_off2_inb k), k0_pay5 v77 (k0_pay23 v166) (xT (arg5.view.read (Elt F) X5) k) (gT (arg6.view.read (Elt F) X6) k)⟩],
         [⟨Rect.unit (s := S256x7168) (k0_off2 k) ![256, 512] (k0_off2_inb k), k0_pay8 (k0_pay21 v153 v154) (View.ld (arg13.view.read (Elt F) X13) (Rect.unit (s := S256x2304) ![0, 0] S256x2304.size inb_S256x2304_S256x2304_0_0)) (wT (arg8.view.read (Elt F) X8) k) (gT (arg6.view.read (Elt F) X6) k)⟩],
         [⟨Rect.unit (s := S8x7168) (k0_off4 k) ![8, 512] (k0_off4_inb k), k0_pay6 (k0_pay21 v153 v154) (k0_pay23 v166) (View.ld (arg13.view.read (Elt F) X13) (Rect.unit (s := S256x2304) ![0, 0] S256x2304.size inb_S256x2304_S256x2304_0_0)) (wT (arg8.view.read (Elt F) X8) k) (xT (arg5.view.read (Elt F) X5) k) (sT (arg15.view.read (Elt F) f15) k)⟩]) := by
  unfold tripL_k0_t1 trip_k0_t1
  rfl

theorem tripL2_eq (v167) (v170) (X5 : BufTy.Contents (Elt F) arg5.view.ty) (X14 : BufTy.Contents (Elt F) arg14.view.ty) (k : Fin k0_t2_loop.trips) :
    tripL_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v167 v170 X5 X14 k
      = [⟨Rect.unit (s := S256x7168) (k0_off5 k) ![256, 512] (k0_off5_inb k), k0_pay1 v167 v170 (xT2 (arg5.view.read (Elt F) X5) k) (rT2 (arg14.view.read (Elt F) X14) k)⟩] := by
  unfold tripL_k0_t2 trip_k0_t2
  rfl

theorem hz2 : (![0, 0] : Fin 2 → Nat) = fun _ => 0 := funext fun a => by fin_cases a <;> rfl

theorem pb_dx (x4 : Vec F S256x7168 .bf16) (raw : Vec F S256x7168 .f32) (v167) (v170) (X5 : BufTy.Contents (Elt F) arg5.view.ty) (X14 : BufTy.Contents (Elt F) arg14.view.ty) (G10 : BufTy.Contents (Elt F) arg10.view.ty)
    (h5 : arg5.view.read (Elt F) X5 = x4) (h14 : arg14.view.read (Elt F) X14 = raw) :
    arg10.view.read (Elt F) (arg10.view.writes (Elt F) G10 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v167 v170 X5 X14 k0_t2_loop.trips))
      = tiled trips2 fun k => k0_pay1 v167 v170 (xT2 x4 k) (rT2 raw k) := by
  refine read_tiles_all trips2 arg10.view G10 k0_off5 k0_off5_eq k0_off5_inb _ (fun k => pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v167 v170 X5 X14 k) rfl fun k _ => ?_
  dsimp only
  rw [pb_k0_t2_succ, tripL2_eq, h5, h14]
  rfl
section
variable (x0 x1 x2 x3 : Vec F S1 .f32) (x4 : Vec F S256x7168 .bf16) (x5 : Vec F S1x7168 .f32) (x6 : Vec F S256x2304 .bf16) (x7 : Vec F S7168x2304 .fp8e4m3) (x8 : Vec F S256x128 .f32) (s : Vec F S8x7168 .f32)
  (v77 : FVec F S1x1 .f32) (v83 : FVec F S8x128 .f32) (v126 : IVec S8x128 32) (v128 : IVec S8x128 32) (v132 : IVec S8x128 1) (v153 : Elt F .f32) (v154 : Elt F .f32) (v166 : Vec F S256x128 .f32)
  (X5 : BufTy.Contents (Elt F) arg5.view.ty) (X6 : BufTy.Contents (Elt F) arg6.view.ty) (X8 : BufTy.Contents (Elt F) arg8.view.ty) (X13 : BufTy.Contents (Elt F) arg13.view.ty)
  (G12 : BufTy.Contents (Elt F) arg12.view.ty) (G14 : BufTy.Contents (Elt F) arg14.view.ty) (G15 : BufTy.Contents (Elt F) arg15.view.ty)
  (e77 : v77 = vDown (scal x0)) (e153 : v153 = scal x2) (e154 : v154 = scal x3) (e166 : v166 = x8)
  (h5 : arg5.view.read (Elt F) X5 = x4) (h6 : arg6.view.read (Elt F) X6 = x5) (h8 : arg8.view.read (Elt F) X8 = x7) (h13 : arg13.view.read (Elt F) X13 = dyB (scal x1) x6)

include e77 e153 e154 e166 h5 h6 h8 h13

theorem st_lane : ∀ k ≤ k0_t1_loop.trips, (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v83 v126 v128 v132 v153 v154 v166 X5 X6 X8 X13 G12 G14 G15 k0_pay24 k).1 = laneB x1 x2 x3 x4 x5 x6 x7 x8 k := by
  intro k
  induction k with
  | zero => intro _; rfl
  | succ k ih =>
    intro hk
    have e := st_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v83 v126 v128 v132 v153 v154 v166 X5 X6 X8 X13 G12 G14 G15 k0_pay24 ⟨k, hk⟩
    simp only at e
    rw [e, tripR_eq]
    dsimp only
    rw [ih (Nat.le_of_succ_le hk), e153, e154, e166, h5, h6, h8, h13, View.ld_unit_zero (S := S256x2304) hz2]
    conv_rhs => unfold laneB
    rw [dif_pos (Nat.lt_of_succ_le hk)]

theorem st_xc : arg12.view.read (Elt F) (arg12.view.writes (Elt F) G12 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v83 v126 v128 v132 v153 v154 v166 X5 X6 X8 X13 G12 G14 G15 k0_pay24 k0_t1_loop.trips).2.1) = xcB x0 x4 x5 x8 := by
  refine read_tiles_all trips1 arg12.view G12 k0_off2 k0_off2_eq k0_off2_inb _ (fun k => (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v83 v126 v128 v132 v153 v154 v166 X5 X6 X8 X13 G12 G14 G15 k0_pay24 k).2.1) rfl fun k _ => ?_
  dsimp only
  rw [st_k0_t1_succ, tripL_eq, h5, h6]
  dsimp only [List.cons_append, List.nil_append]
  rw [e77, e166]

theorem st_raw : arg14.view.read (Elt F) (arg14.view.writes (Elt F) G14 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v83 v126 v128 v132 v153 v154 v166 X5 X6 X8 X13 G12 G14 G15 k0_pay24 k0_t1_loop.trips).2.2.1) = rawB x1 x2 x3 x5 x6 x7 := by
  refine read_tiles_all trips1 arg14.view G14 k0_off2 k0_off2_eq k0_off2_inb _ (fun k => (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v83 v126 v128 v132 v153 v154 v166 X5 X6 X8 X13 G12 G14 G15 k0_pay24 k).2.2.1) rfl fun k _ => ?_
  dsimp only
  rw [st_k0_t1_succ, tripL_eq, h6, h8, h13, View.ld_unit_zero (S := S256x2304) hz2]
  dsimp only [List.cons_append, List.nil_append]
  rw [e153, e154]

theorem st_sum (h15 : arg15.view.read (Elt F) G15 = s) : arg15.view.read (Elt F) (arg15.view.writes (Elt F) G15 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v83 v126 v128 v132 v153 v154 v166 X5 X6 X8 X13 G12 G14 G15 k0_pay24 k0_t1_loop.trips).2.2.2) = sumB x1 x2 x3 x4 x6 x7 x8 s := by
  refine read_tiles_all trips1 arg15.view G15 k0_off4 k0_off4_eq k0_off4_inb _ (fun k => (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v83 v126 v128 v132 v153 v154 v166 X5 X6 X8 X13 G12 G14 G15 k0_pay24 k).2.2.2) rfl fun k hk => ?_
  dsimp only at hk ⊢
  rw [st_k0_t1_succ, tripL_eq, h5, h8, h13, View.ld_unit_zero (S := S256x2304) hz2]
  have e : sT (arg15.view.read (Elt F) (arg15.view.writes (Elt F) G15 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v83 v126 v128 v132 v153 v154 v166 X5 X6 X8 X13 G12 G14 G15 k0_pay24 k.val).2.2.2)) k = sT s k := by
    funext j
    refine (hk _ ?_).trans (by rw [h15]; rfl)
    refine Nat.le_trans ?_ (Nat.le_of_eq (Rect.idx_unit_val (s := S8x7168) (k0_off4 k) S8x512.size (k0_off4_inb k) j 1).symm)
    exact Nat.le_trans (Nat.le_of_eq (congrFun (k0_off4_eq k) 1).symm) (Nat.le_add_right _ _)
  rw [e]
  dsimp only [List.cons_append, List.nil_append]
  rw [e153, e154, e166]

theorem dx_all (G10 : BufTy.Contents (Elt F) arg10.view.ty) (v167) (v170) (e167 : v167 = k0_pay23 v166)
    (e170 : v170 = (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v83 v126 v128 v132 v153 v154 v166 X5 X6 X8 X13 G12 G14 G15 k0_pay24 k0_t1_loop.trips).1) :
    arg10.view.read (Elt F) (arg10.view.writes (Elt F) G10 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v167 v170 X5 (arg14.view.writes (Elt F) G14 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v77 v83 v126 v128 v132 v153 v154 v166 X5 X6 X8 X13 G12 G14 G15 k0_pay24 k0_t1_loop.trips).2.2.1) k0_t2_loop.trips))
      = dxB x1 x2 x3 x4 x5 x6 x7 x8 := by
  subst e167 e170
  rw [pb_dx c i arg1 harg1 arg2 harg2 arg3 harg3 arg4 harg4 arg5 harg5 arg6 harg6 arg7 harg7 arg8 harg8 arg9 harg9 arg10 harg10 arg11 harg11 arg12 harg12 arg13 harg13 arg14 harg14 arg15 harg15 x4 (rawB x1 x2 x3 x5 x6 x7) _ _ X5 _ G10 h5
    (st_raw c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 v77 v83 v126 v128 v132 v153 v154 v166 X5 X6 X8 X13 G12 G14 G15 e77 e153 e154 e166 h5 h6 h8 h13),
    st_lane c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 v77 v83 v126 v128 v132 v153 v154 v166 X5 X6 X8 X13 G12 G14 G15 e77 e153 e154 e166 h5 h6 h8 h13 _ le_rfl, e166]
  rfl
end

end

end Cert.DgradIdeal.Hand

end
-- ==== Proof.OneDgradBody.lean ====
/-
  The body of the idealized input gradient call at any grid point and any floats: from what its buffers hold when it
  starts to what they hold when it ends, in the terms of the module on the loops.
-/
module

public import proofs.«01_k».proof.Proof.OneDgradTrip

@[expose] public section

set_option maxRecDepth 16384

noncomputable section

namespace Cert.DgradIdeal.Hand

open Cert.DgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Loads and stores of a whole buffer. -/
theorem whole9 {κ : Kind} {sp : Space} (v : View sig κ sp S256x128 .f32) (f : v.ty.Contents (Elt F)) :
    v.readAt (Elt F) (Rect.unit (s := S256x128) ![0, 0] S256x128.size inb_S256x128_S256x128_0_0).toLoadRect f = v.read (Elt F) f :=
  View.ld_unit_zero (S := S256x128) hz2 _ _

theorem whole13 {κ κ' : Kind} {sp sp' : Space} (v : View sig κ sp S256x2304 .fp8e5m2) (f : v.ty.Contents (Elt F)) (v' : View sig κ' sp' S256x2304 .bf16) (f' : v'.ty.Contents (Elt F)) (a : Elt F .f32) :
    v.read (Elt F) (v.writes (Elt F) f [⟨Rect.unit (s := S256x2304) ![0, 0] S256x2304.size inb_S256x2304_S256x2304_0_0,
      dyB a (v'.readAt (Elt F) (Rect.unit (s := S256x2304) ![0, 0] S256x2304.size inb_S256x2304_S256x2304_0_0).toLoadRect f')⟩]) = dyB a (v'.read (Elt F) f') :=
  (View.read_writes_full _ _ _ _ _).trans (congrArg (dyB a) (View.ld_unit_zero (S := S256x2304) hz2 _ _))

theorem whole15 {κ : Kind} {sp : Space} (v : View sig κ sp S8x7168 .f32) (f : v.ty.Contents (Elt F)) :
    v.read (Elt F) (v.writes (Elt F) f [⟨Rect.unit (s := S8x7168) ![0, 0] S8x7168.size inb_S8x7168_S8x7168_0_0, k0_pay9 (F := F)⟩]) = k0_pay9 :=
  View.read_writes_full _ _ _ _ _

set_option maxHeartbeats 4000000 in
theorem body (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S256x7168 .bf16) (harg5 : arg5.IsWhole) (arg6 : Memref sig .tc .vmem S1x7168 .f32) (harg6 : arg6.IsWhole) (arg7 : Memref sig .tc .vmem S256x2304 .bf16) (harg7 : arg7.IsWhole) (arg8 : Memref sig .tc .vmem S7168x2304 .fp8e4m3) (harg8 : arg8.IsWhole) (arg9 : Memref sig .tc .vmem S256x128 .f32) (harg9 : arg9.IsWhole) (arg10 : Memref sig .tc .vmem S256x7168 .bf16) (harg10 : arg10.IsWhole) (arg11 : Memref sig .tc .vmem S1x7168 .f32) (harg11 : arg11.IsWhole) (arg12 : Memref sig .tc .vmem S256x7168 .fp8e4m3) (harg12 : arg12.IsWhole) (arg13 : Memref sig .tc .vmem S256x2304 .fp8e5m2) (harg13 : arg13.IsWhole) (arg14 : Memref sig .tc .vmem S256x7168 .f32) (harg14 : arg14.IsWhole) (arg15 : Memref sig .tc .vmem S8x7168 .f32) (harg15 : arg15.IsWhole)
    (x0 x1 x2 x3 : Vec F S1 .f32) (x4 : Vec F S256x7168 .bf16) (x5 : Vec F S1x7168 .f32) (x6 : Vec F S256x2304 .bf16) (x7 : Vec F S7168x2304 .fp8e4m3) (x8 : Vec F S256x128 .f32) (xi : Vec F S1x7168 .f32) (s : Vec F S8x7168 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi ∗ (∃ d, owns (c : Thread nD τ) arg12 fullShare d) ∗ (∃ d, owns (c : Thread nD τ) arg13 fullShare d) ∗ (∃ d, owns (c : Thread nD τ) arg14 fullShare d) ∗ owns (c : Thread nD τ) arg15 fullShare s ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (dxB x1 x2 x3 x4 x5 x6 x7 x8) ∗ owns (c : Thread nD τ) arg11 fullShare (if cond0_1 i then k0_pay2 (sumB x1 x2 x3 x4 x6 x7 x8 (if cond0_0 i then k0_pay9 else s)) else xi) ∗ owns (c : Thread nD τ) arg12 fullShare (xcB x0 x4 x5 x8) ∗ owns (c : Thread nD τ) arg13 fullShare (dyB (scal x1) x6) ∗ (∃ d, owns (c : Thread nD τ) arg14 fullShare d) ∗ owns (c : Thread nD τ) arg15 fullShare (sumB x1 x2 x3 x4 x6 x7 x8 (if cond0_0 i then k0_pay9 else s))) -∗ K ⟨⟩))
      ⊢ wp frame (wpE (defs₀ (F := F)) Variants.none c none) E (cc0_dgrad i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  by_cases hc0 : cond0_0 i <;> by_cases hc1 : cond0_1 i
  · simp only [if_pos hc0, if_pos hc1]
    simp only [cc0_dgrad_eq_skeleton]; unfold cc0_dgrad_skel
    simp only [k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%ds0, %fs0, -, HS0⟩, ⟨%fs1, %hfs1, HS1⟩, Hk⟩
    subst hf0 hf1 hf2 hf3 hf4 hf5 hf6 hf7 hf8 hf10 hfs1
    sl_exec (disch := first | sl_exact hc0 | sl_exact hc1)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact dx_all c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ _ _ _ rfl rfl rfl (whole9 _ _) rfl rfl rfl (whole13 _ _ _ _ _) _ _ _ rfl rfl
    isplitl [H10]
    · iexists _; isplitr; swap; · iexact H10
      ipureintro; exact (View.read_writes_full _ _ _ _ _).trans (congrArg k0_pay2 ((View.ld_unit_zero (S := S8x7168) hz2 _ _).trans (by rw [View.writes_append]; exact st_sum c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) k0_pay9 _ _ _ _ _ _ _ _ _ _ _ _ _ _ _ rfl rfl rfl (whole9 _ _) rfl rfl rfl (whole13 _ _ _ _ _) (whole15 _ _))))
    isplitl [H11]
    · iexists _; isplitr; swap; · iexact H11
      ipureintro; exact st_xc c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ _ _ _ rfl rfl rfl (whole9 _ _) rfl rfl rfl (whole13 _ _ _ _ _)
    isplitl [H12]
    · iexists _; isplitr; swap; · iexact H12
      ipureintro; exact whole13 _ _ _ _ _
    isplitl [HS0]
    · iexists _, _; isplitr; swap; · iexact HS0
      ipureintro; rfl
    iexists _; isplitr; swap; · iexact HS1
    ipureintro; exact by rw [View.writes_append]; exact st_sum c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) k0_pay9 _ _ _ _ _ _ _ _ _ _ _ _ _ _ _ rfl rfl rfl (whole9 _ _) rfl rfl rfl (whole13 _ _ _ _ _) (whole15 _ _)
  · simp only [if_pos hc0, if_neg hc1]
    simp only [cc0_dgrad_eq_skeleton]; unfold cc0_dgrad_skel
    simp only [k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%ds0, %fs0, -, HS0⟩, ⟨%fs1, %hfs1, HS1⟩, Hk⟩
    subst hf0 hf1 hf2 hf3 hf4 hf5 hf6 hf7 hf8 hf10 hfs1
    sl_exec (disch := first | sl_exact hc0 | sl_exact hc1)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact dx_all c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ _ _ _ rfl rfl rfl (whole9 _ _) rfl rfl rfl (whole13 _ _ _ _ _) _ _ _ rfl rfl
    isplitl [H10]
    · iexists _; isplitr; swap; · iexact H10
      ipureintro; rfl
    isplitl [H11]
    · iexists _; isplitr; swap; · iexact H11
      ipureintro; exact st_xc c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ _ _ _ rfl rfl rfl (whole9 _ _) rfl rfl rfl (whole13 _ _ _ _ _)
    isplitl [H12]
    · iexists _; isplitr; swap; · iexact H12
      ipureintro; exact whole13 _ _ _ _ _
    isplitl [HS0]
    · iexists _, _; isplitr; swap; · iexact HS0
      ipureintro; rfl
    iexists _; isplitr; swap; · iexact HS1
    ipureintro; exact by rw [View.writes_append]; exact st_sum c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) k0_pay9 _ _ _ _ _ _ _ _ _ _ _ _ _ _ _ rfl rfl rfl (whole9 _ _) rfl rfl rfl (whole13 _ _ _ _ _) (whole15 _ _)
  · simp only [if_neg hc0, if_pos hc1]
    simp only [cc0_dgrad_eq_skeleton]; unfold cc0_dgrad_skel
    simp only [k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%ds0, %fs0, -, HS0⟩, ⟨%fs1, %hfs1, HS1⟩, Hk⟩
    subst hf0 hf1 hf2 hf3 hf4 hf5 hf6 hf7 hf8 hf10 hfs1
    sl_exec (disch := first | sl_exact hc0 | sl_exact hc1)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact dx_all c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ _ _ _ rfl rfl rfl (whole9 _ _) rfl rfl rfl (whole13 _ _ _ _ _) _ _ _ rfl rfl
    isplitl [H10]
    · iexists _; isplitr; swap; · iexact H10
      ipureintro; exact (View.read_writes_full _ _ _ _ _).trans (congrArg k0_pay2 ((View.ld_unit_zero (S := S8x7168) hz2 _ _).trans (by exact st_sum c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) (arg15.view.read (Elt F) fs1) _ _ _ _ _ _ _ _ _ _ _ _ _ _ _ rfl rfl rfl (whole9 _ _) rfl rfl rfl (whole13 _ _ _ _ _) rfl)))
    isplitl [H11]
    · iexists _; isplitr; swap; · iexact H11
      ipureintro; exact st_xc c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ _ _ _ rfl rfl rfl (whole9 _ _) rfl rfl rfl (whole13 _ _ _ _ _)
    isplitl [H12]
    · iexists _; isplitr; swap; · iexact H12
      ipureintro; exact whole13 _ _ _ _ _
    isplitl [HS0]
    · iexists _, _; isplitr; swap; · iexact HS0
      ipureintro; rfl
    iexists _; isplitr; swap; · iexact HS1
    ipureintro; exact by exact st_sum c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) (arg15.view.read (Elt F) fs1) _ _ _ _ _ _ _ _ _ _ _ _ _ _ _ rfl rfl rfl (whole9 _ _) rfl rfl rfl (whole13 _ _ _ _ _) rfl
  · simp only [if_neg hc0, if_neg hc1]
    simp only [cc0_dgrad_eq_skeleton]; unfold cc0_dgrad_skel
    simp only [k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%ds0, %fs0, -, HS0⟩, ⟨%fs1, %hfs1, HS1⟩, Hk⟩
    subst hf0 hf1 hf2 hf3 hf4 hf5 hf6 hf7 hf8 hf10 hfs1
    sl_exec (disch := first | sl_exact hc0 | sl_exact hc1)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact dx_all c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ _ _ _ rfl rfl rfl (whole9 _ _) rfl rfl rfl (whole13 _ _ _ _ _) _ _ _ rfl rfl
    isplitl [H10]
    · iexists _; isplitr; swap; · iexact H10
      ipureintro; rfl
    isplitl [H11]
    · iexists _; isplitr; swap; · iexact H11
      ipureintro; exact st_xc c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) _ _ _ _ _ _ _ _ _ _ _ _ _ _ _ rfl rfl rfl (whole9 _ _) rfl rfl rfl (whole13 _ _ _ _ _)
    isplitl [H12]
    · iexists _; isplitr; swap; · iexact H12
      ipureintro; exact whole13 _ _ _ _ _
    isplitl [HS0]
    · iexists _, _; isplitr; swap; · iexact HS0
      ipureintro; rfl
    iexists _; isplitr; swap; · iexact HS1
    ipureintro; exact by exact st_sum c i arg1 harg1 arg2 harg2 arg3 harg3 arg4 harg4 arg5 harg5 arg6 harg6 arg7 harg7 arg8 harg8 arg9 harg9 arg10 harg10 arg11 harg11 arg12 harg12 arg13 harg13 arg14 harg14 arg15 harg15 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) (arg15.view.read (Elt F) fs1) _ _ _ _ _ _ _ _ _ _ _ _ _ _ _ rfl rfl rfl (whole9 _ _) rfl rfl rfl (whole13 _ _ _ _ _) rfl

end Cert.DgradIdeal.Hand

end
-- ==== Proof.OneDgradFrame.lean ====
/-
The running of the input gradient call point by point, at any floats: what every buffer holds after each of
the six grid points, that the call ends, that its argument arrays are left alone, and what its four result
arrays hold in the end.  The running sums for the gamma gradient are carried from one point to the next;
`sAt` names them.
-/
module

public import proofs.«01_k».proof.Proof.OneDgradBody
public import Idealize.ShloMosaic.Lib.Claim

@[expose] public section

set_option maxRecDepth 16384

noncomputable section

namespace Cert.DgradIdeal.Hand

open Cert.DgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The running sums after point `n`. -/
def sAt (c : Dev nD) : (n : ℕ) → n < cfg0.N → Vec F S8x7168 .f32
  | 0, hn => sumB (iblk m c 1 ⟨0, hn⟩) (iblk m c 2 ⟨0, hn⟩) (iblk m c 3 ⟨0, hn⟩) (iblk m c 4 ⟨0, hn⟩) (iblk m c 6 ⟨0, hn⟩) (iblk m c 7 ⟨0, hn⟩) (iblk m c 8 ⟨0, hn⟩) k0_pay9
  | n + 1, hn => sumB (iblk m c 1 ⟨n + 1, hn⟩) (iblk m c 2 ⟨n + 1, hn⟩) (iblk m c 3 ⟨n + 1, hn⟩) (iblk m c 4 ⟨n + 1, hn⟩) (iblk m c 6 ⟨n + 1, hn⟩) (iblk m c 7 ⟨n + 1, hn⟩) (iblk m c 8 ⟨n + 1, hn⟩) (sAt c n (Nat.lt_of_succ_lt hn))

theorem sAt_zero (c : Dev nD) (t : Fin cfg0.N) (hz : t.val = 0) :
    sAt m c t.val t.isLt = sumB (iblk m c 1 t) (iblk m c 2 t) (iblk m c 3 t) (iblk m c 4 t) (iblk m c 6 t) (iblk m c 7 t) (iblk m c 8 t) k0_pay9 := by
  obtain ⟨n, hn⟩ := t
  cases n with
  | zero => rfl
  | succ n => exact absurd hz (Nat.succ_ne_zero n)

theorem sAt_pos (c : Dev nD) (t : Fin cfg0.N) (hz : t.val ≠ 0) :
    sAt m c t.val t.isLt = sumB (iblk m c 1 t) (iblk m c 2 t) (iblk m c 3 t) (iblk m c 4 t) (iblk m c 6 t) (iblk m c 7 t) (iblk m c 8 t) (sAt m c (t.val - 1) (lt_of_le_of_lt (Nat.sub_le _ _) t.isLt)) := by
  obtain ⟨n, hn⟩ := t
  cases n with
  | zero => exact absurd rfl hz
  | succ n => rfl

/-- What is known between points: the carried sums after the first point, anything before it. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (sAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ owns (c : Thread nD τ) scM0_1 fullShare (sAt m c n hn)) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (sAt m c (n - 1) (by omega))) ∗ (∃ r, prngReg c r)) := by
  cases n with
  | zero => exact absurd rfl hz
  | succ n => rfl

/-- What each buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dxB (iblk m c 1 t) (iblk m c 2 t) (iblk m c 3 t) (iblk m c 4 t) (iblk m c 5 t) (iblk m c 6 t) (iblk m c 7 t) (iblk m c 8 t)
    | ⟨10, _⟩ => k0_pay2 (sAt m c t.val t.isLt)
    | ⟨11, _⟩ => xcB (iblk m c 0 t) (iblk m c 4 t) (iblk m c 5 t) (iblk m c 8 t)
    | ⟨12, _⟩ => dyB (scal (iblk m c 1 t)) (iblk m c 6 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = dxB (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = k0_pay2 (sAt m c t.val t.isLt) := by dsimp only [dats]
theorem after0_11 (c : Dev nD) (t : Fin cfg0.N) : (dats m 0 c).after 11 t = xcB (iblk m c 0 t) (iblk m c 4 t) (iblk m c 5 t) (iblk m c 8 t) := by dsimp only [dats]
theorem after0_12 (c : Dev nD) (t : Fin cfg0.N) : (dats m 0 c).after 12 t = dyB (scal (iblk m c 1 t)) (iblk m c 6 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 6 := lt_of_lt_of_eq t.isLt (show cfg0.N = 6 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  by_cases hz : t.val = 0
  · have h0 : t.val % 6 = 0 := by omega
    have h1 : ¬ t.val % 6 = 5 := by omega
    rw [PhiS_castSucc m c t, PhiS_zero m c _ _ hz, PhiA0_eq, sAt_zero m c t hz]
    have hc0 := (hcond0_0 t).mpr h0
    have hc1 : ¬ cond0_1 (grid0.coords t) := fun h => h1 ((hcond0_1 t).mp h)
    rw [Dat.leavesExact_idle (dats m 0 c) 10 t (idleAt0_10_A t hc0 hc1) (noFlush0_10_A t hc0 hc1)]
    iintro ⟨⟨⟨HS0, ⟨%s, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (body c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexists _; iexact H11
    isplitl [H12]; · iexists _; iexact H12
    isplitl [HS0]; · iexact HS0
    isplitl [HS1]; · iexact HS1
    simp only [if_pos hc0, if_neg hc1]
    iintro ⟨H0, H1, H2, H3, H4, H5, H6, H7, H8, H9, H10, H11, H12, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    iexact H12
  · have h0 : ¬ t.val % 6 = 0 := by omega
    by_cases h1 : t.val % 6 = 5
    · skip
      rw [PhiS_castSucc m c t, PhiS_pos m c _ _ hz, sAt_pos m c t hz]
      have hc0 : ¬ cond0_0 (grid0.coords t) := fun h => h0 ((hcond0_0 t).mp h)
      have hc1 : cond0_1 (grid0.coords t) := (hcond0_1 t).mpr h1
      rw [show (dats m 0 c).leavesExact 10 t = owns (c : Thread nD τ) (ms0_10 t) fullShare ((dats m 0 c).after 10 t) from by
        unfold Dat.leavesExact; rw [liveAt0_10_C t hc0 hc1], after0_10, sAt_pos m c t hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexists _; iexact H11
      isplitl [H12]; · iexists _; iexact H12
      isplitl [HS0]; · iexact HS0
      isplitl [HS1]; · iexact HS1
      simp only [if_neg hc0, if_pos hc1]
      iintro ⟨H0, H1, H2, H3, H4, H5, H6, H7, H8, H9, H10, H11, H12, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · skip
      rw [PhiS_castSucc m c t, PhiS_pos m c _ _ hz, sAt_pos m c t hz]
      have hc0 : ¬ cond0_0 (grid0.coords t) := fun h => h0 ((hcond0_0 t).mp h)
      have hc1 : ¬ cond0_1 (grid0.coords t) := fun h => h1 ((hcond0_1 t).mp h)
      rw [Dat.leavesExact_idle (dats m 0 c) 10 t (idleAt0_10_B t hc0 hc1) (noFlush0_10_B t hc0 hc1)]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexists _; iexact H11
      isplitl [H12]; · iexists _; iexact H12
      isplitl [HS0]; · iexact HS0
      isplitl [HS1]; · iexact HS1
      simp only [if_neg hc0, if_neg hc1]
      iintro ⟨H0, H1, H2, H3, H4, H5, H6, H7, H8, H9, H10, H11, H12, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 6 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The arrays passed in end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

/-! ## The result arrays -/

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_0) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_1) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_2) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v0_3) = (dats m 0 c).arrAt 12 cfg0.N :=
  (h c).1 12

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- The frame run with each output array after the run NAMED,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 9 cfg0.N
      ∧ r.2.mem ((c : Thread nD τ).loc main_v0_1) = (dats m 0 c).arrAt 10 cfg0.N
      ∧ r.2.mem ((c : Thread nD τ).loc main_v0_2) = (dats m 0 c).arrAt 11 cfg0.N
      ∧ r.2.mem ((c : Thread nD τ).loc main_v0_3) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post9 m r h c,
      post10 m r h c,
      post11 m r h c,
      post12 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.DgradIdeal.Hand

end
-- ==== Proof.OneDgradPay.lean ====
/-
  What one grid point of the idealized input gradient call computes, element by element: its tiles put together are the
  mathematics of `Arith` on the point's 256 rows.
-/
module

public import proofs.«01_k».proof.Proof.Arith
public import proofs.«01_k».proof.Proof.OneDgradTrip

@[expose] public section

set_option maxRecDepth 16384

noncomputable section

namespace Cert.Proof.One.DgradPay

open Cert.DgradIdeal Cert.DgradIdeal.Gen Cert.DgradIdeal.Hand Idealize.ShloMosaic Idealize.ShloMosaic.TcCoe Idealize.SL.Sem
open scoped BigOperators

/-! ### Sums over consecutive numbers -/

/-- A family over the first `n` numbers, zero beyond. -/
def pad {n : ℕ} (g : Fin n → EReal) : ℕ → EReal := fun j => if h : j < n then g ⟨j, h⟩ else 0

theorem pad_of {n : ℕ} (g : Fin n → EReal) (j : Fin n) : pad g j.val = g j := dif_pos j.isLt

theorem sum_pad {n : ℕ} (g : Fin n → EReal) : ∑ j : Fin n, g j = ∑ j ∈ Finset.range n, pad g j := by
  rw [Finset.sum_range]
  exact Finset.sum_congr rfl fun j _ => (pad_of g j).symm

/-- Four groups of 128 lanes. -/
theorem lanes (f : ℕ → EReal) : ∑ l ∈ Finset.range 128, (f l + f (128 + l) + f (256 + l) + f (384 + l)) = ∑ j ∈ Finset.range 512, f j := by
  rw [show (512 : ℕ) = 128 + 128 + 128 + 128 from rfl, Finset.sum_range_add, Finset.sum_range_add, Finset.sum_range_add]
  simp only [Finset.sum_add_distrib]

/-- Rows taken eight apart. -/
theorem rows8 (f : ℕ → EReal) (n : ℕ) : ∑ u ∈ Finset.range 8, ∑ v ∈ Finset.range n, f (8 * v + u) = ∑ j ∈ Finset.range (8 * n), f j := by
  induction n with
  | zero => simp
  | succ n ih =>
    simp only [Finset.sum_range_succ _ n, Finset.sum_add_distrib]
    rw [ih, Nat.mul_succ, Finset.sum_range_add]

/-! ### The tiles loaded -/

theorem wT_apply (w : Vec Ideal S7168x2304 .fp8e4m3) (k : Fin k0_t1_loop.trips) (b : Fin 512) (q : Fin 2304) (h : 512 * k.val + b.val < 7168) :
    wT w k (ix2 b q) = w (ix2 ⟨512 * k.val + b.val, h⟩ q) := by
  refine View.ld_unit_apply_of w _ _ _ _ _ fun a => ?_
  have e := k0_off1_eq k
  match a with
  | ⟨0, _⟩ => exact congrArg (· + b.val) (congrFun e 0).symm
  | ⟨1, _⟩ => exact (Nat.zero_add _).symm.trans (congrArg (· + q.val) (congrFun e 1).symm)
theorem xT_apply (x : Vec Ideal S256x7168 .bf16) (k : Fin k0_t1_loop.trips) (a : Fin 256) (b : Fin 512) (h : 512 * k.val + b.val < 7168) :
    xT x k (ix2 a b) = x (ix2 a ⟨512 * k.val + b.val, h⟩) := by
  refine View.ld_unit_apply_of x _ _ _ _ _ fun i => ?_
  have e := k0_off2_eq k
  match i with
  | ⟨0, _⟩ => exact (Nat.zero_add _).symm.trans (congrArg (· + a.val) (congrFun e 0).symm)
  | ⟨1, _⟩ => exact congrArg (· + b.val) (congrFun e 1).symm
theorem gT_apply (x : Vec Ideal S1x7168 .f32) (k : Fin k0_t1_loop.trips) (b : Fin 512) (h : 512 * k.val + b.val < 7168) :
    gT x k (ix2 0 b) = x (ix2 0 ⟨512 * k.val + b.val, h⟩) := by
  refine View.ld_unit_apply_of x _ _ _ _ _ fun i => ?_
  have e := k0_off3_eq k
  match i with
  | ⟨0, _⟩ => exact (Nat.zero_add _).symm.trans (congrArg (· + 0) (congrFun e 0).symm)
  | ⟨1, _⟩ => exact congrArg (· + b.val) (congrFun e 1).symm
theorem sT_apply (x : Vec Ideal S8x7168 .f32) (k : Fin k0_t1_loop.trips) (a : Fin 8) (b : Fin 512) (h : 512 * k.val + b.val < 7168) :
    sT x k (ix2 a b) = x (ix2 a ⟨512 * k.val + b.val, h⟩) := by
  refine View.ld_unit_apply_of x _ _ _ _ _ fun i => ?_
  have e := k0_off4_eq k
  match i with
  | ⟨0, _⟩ => exact (Nat.zero_add _).symm.trans (congrArg (· + a.val) (congrFun e 0).symm)
  | ⟨1, _⟩ => exact congrArg (· + b.val) (congrFun e 1).symm
theorem xT2_apply (x : Vec Ideal S256x7168 .bf16) (k : Fin k0_t2_loop.trips) (a : Fin 256) (b : Fin 512) (h : 512 * k.val + b.val < 7168) :
    xT2 x k (ix2 a b) = x (ix2 a ⟨512 * k.val + b.val, h⟩) := by
  refine View.ld_unit_apply_of x _ _ _ _ _ fun i => ?_
  have e := k0_off5_eq k
  match i with
  | ⟨0, _⟩ => exact (Nat.zero_add _).symm.trans (congrArg (· + a.val) (congrFun e 0).symm)
  | ⟨1, _⟩ => exact congrArg (· + b.val) (congrFun e 1).symm
theorem rT2_apply (x : Vec Ideal S256x7168 .f32) (k : Fin k0_t2_loop.trips) (a : Fin 256) (b : Fin 512) (h : 512 * k.val + b.val < 7168) :
    rT2 x k (ix2 a b) = x (ix2 a ⟨512 * k.val + b.val, h⟩) := by
  refine View.ld_unit_apply_of x _ _ _ _ _ fun i => ?_
  have e := k0_off5_eq k
  match i with
  | ⟨0, _⟩ => exact (Nat.zero_add _).symm.trans (congrArg (· + a.val) (congrFun e 0).symm)
  | ⟨1, _⟩ => exact congrArg (· + b.val) (congrFun e 1).symm

/-! ### The payloads -/

/-- The column of `r` in use. -/
theorem pay23_apply (r : Vec Ideal S256x128 .f32) (i : S256x1.Idx) : k0_pay23 r i = r (ix2 (i 0) 0) := by
  unfold k0_pay23
  simp only [pointwise]
  simp only [Matrix.cons_val_zero, zero_add]
  rfl

theorem pay23_col (r : Vec Ideal S256x128 .f32) : k0_pay23 r = fun i => r (ix2 (i 0) 0) := funext (pay23_apply r)

theorem vDown_apply (v : Elt Ideal .f32) (i : S1x1.Idx) : vDown (F := Ideal) v i = Math.down (v * Math.inv448) := by
  rw [← Math.downW_eq]; rfl

theorem dyB_apply (v : Elt Ideal .f32) (y : Vec Ideal S256x2304 .bf16) (i : S256x2304.Idx) : dyB v y i = Math.dyCode v (y i) := by
  unfold Math.dyCode
  rw [← Math.downW_eq]; rfl

theorem pay3_apply (s : Elt Ideal .f32) (v : Elt Ideal .f32) (y : Vec Ideal S256x2304 .bf16) (z : Vec Ideal S512x2304 .fp8e4m3) (i : S256x512.Idx) :
    k0_pay3 s (dyB v y) z i = Math.dxn (fun k => y (ix2 (i 0) k)) (fun k => z (ix2 (i 1) k)) v s := by
  unfold k0_pay3
  simp only [pointwise]
  simp only [dyB_apply]
  simp
  rfl

theorem pay4_apply (r : Vec Ideal S256x128 .f32) (x : Vec Ideal S256x512 .bf16) (i : S256x512.Idx) :
    k0_pay4 (k0_pay23 r) x i = x i * r (ix2 (i 0) 0) := by
  unfold k0_pay4
  simp only [pointwise]
  rw [pay23_apply]
  rfl

theorem pay5_apply (v : Elt Ideal .f32) (r : Vec Ideal S256x128 .f32) (x : Vec Ideal S256x512 .bf16) (g : Vec Ideal S1x512 .f32) (i : S256x512.Idx) :
    k0_pay5 (vDown v) (k0_pay23 r) x g i = Math.xCode v (x i) (r (ix2 (i 0) 0)) (g (ix2 0 (i 1))) := by
  unfold k0_pay5
  simp only [pointwise]
  rw [pay4_apply, vDown_apply]
  rfl

theorem pay7_apply (s v : Elt Ideal .f32) (y : Vec Ideal S256x2304 .bf16) (z : Vec Ideal S512x2304 .fp8e4m3) (g : Vec Ideal S1x512 .f32) (i : S256x512.Idx) :
    k0_pay7 s (dyB v y) z g i = Math.dxn (fun k => y (ix2 (i 0) k)) (fun k => z (ix2 (i 1) k)) v s * g (ix2 0 (i 1)) := by
  unfold k0_pay7
  simp only [pointwise]
  rw [pay3_apply]
  rfl

theorem pay8_apply (s v : Elt Ideal .f32) (y : Vec Ideal S256x2304 .bf16) (z : Vec Ideal S512x2304 .fp8e4m3) (g : Vec Ideal S1x512 .f32) (i : S256x512.Idx) :
    k0_pay8 s (dyB v y) z g i = Math.dxn (fun k => y (ix2 (i 0) k)) (fun k => z (ix2 (i 1) k)) v s * g (ix2 0 (i 1)) := by
  unfold k0_pay8
  simp only [pointwise]
  rw [pay7_apply]

theorem pay6_apply (s v : Elt Ideal .f32) (r : Vec Ideal S256x128 .f32) (y : Vec Ideal S256x2304 .bf16) (z : Vec Ideal S512x2304 .fp8e4m3)
    (x : Vec Ideal S256x512 .bf16) (o : Vec Ideal S8x512 .f32) (u : Fin 8) (b : Fin 512) :
    k0_pay6 s (k0_pay23 r) (dyB v y) z x o (ix2 u b)
      = o (ix2 u b) + ∑ w : Fin 32, Math.dxn (fun k => y (ix2 ⟨8 * w.val + u.val, by omega⟩ k)) (fun k => z (ix2 b k)) v s
          * (x (ix2 ⟨8 * w.val + u.val, by omega⟩ b) * r (ix2 ⟨8 * w.val + u.val, by omega⟩ 0)) := by
  unfold k0_pay6
  simp only [pointwise]
  congr 1
  refine Finset.sum_congr rfl fun w _ => ?_
  rw [pay3_apply, pay4_apply]
  have e : (⟨w.val * 8 + u.val, by omega⟩ : Fin 256) = ⟨8 * w.val + u.val, by omega⟩ := Fin.ext (by dsimp only; omega)
  simp only [← e]
  rfl

theorem pay2_apply (s : Vec Ideal S8x7168 .f32) (i : S1x7168.Idx) : k0_pay2 s i = ∑ u : Fin 8, s (ix2 u (i 1)) := by
  unfold k0_pay2
  simp only [pointwise]

theorem pay9_apply (i : S8x7168.Idx) : k0_pay9 (F := Ideal) i = 0 := by
  unfold k0_pay9
  simp only [pointwise]

theorem pay24_apply (i : S256x128.Idx) : k0_pay24 (F := Ideal) i = 0 := by
  unfold k0_pay24
  simp only [pointwise]

theorem pay25_apply (o : FVec Ideal S256x128 .f32) (x g : FVec Ideal S256x512 .f32) (a : Fin 256) (l : Fin 128) :
    k0_pay25 o x g (ix2 a l) = o (ix2 a l) + (g (ix2 a ⟨l.val, by omega⟩) * x (ix2 a ⟨l.val, by omega⟩) + g (ix2 a ⟨128 + l.val, by omega⟩) * x (ix2 a ⟨128 + l.val, by omega⟩)
      + g (ix2 a ⟨256 + l.val, by omega⟩) * x (ix2 a ⟨256 + l.val, by omega⟩) + g (ix2 a ⟨384 + l.val, by omega⟩) * x (ix2 a ⟨384 + l.val, by omega⟩)) := by
  unfold k0_pay25
  simp only [pointwise]
  simp only [add_assoc, Matrix.cons_val_zero, Matrix.cons_val_one, zero_add]

theorem pay1_apply (r : Vec Ideal S256x128 .f32) (o : FVec Ideal S256x128 .f32) (x : Vec Ideal S256x512 .bf16) (g : Vec Ideal S256x512 .f32) (i : S256x512.Idx) :
    k0_pay1 (k0_pay23 r) o x g i = Math.dxAt (r (ix2 (i 0) 0)) (g i) (x i * r (ix2 (i 0) 0))
      (Ideal.div (∑ l : Fin 128, o (ix2 (i 0) l)) (Ideal.ofBits .f32 0x45E00000#32)) := by
  unfold k0_pay1
  simp only [pointwise]
  simp only [pay23_apply]
  rfl

/-! ### The point's results -/

/-- Every column is a column of a tile. -/
theorem split_col (b : Fin 7168) : ∃ (k : ℕ) (q : Fin 512) (hk : k < 14), 512 * k + q.val = b.val ∧ b.val / 512 = k ∧ b.val % 512 = q.val :=
  ⟨b.val / 512, ⟨b.val % 512, Nat.mod_lt _ (by decide)⟩, by omega, Nat.div_add_mod _ _, rfl, rfl⟩

/-- An element of a matrix made of column tiles. -/
theorem tiled_apply {R n : ℕ} {e : EltTy} (hn : n = 14) (W : Fin n → (⟨2, ![R, 512]⟩ : Shape).Idx → Elt Ideal e) (a : Fin R) (b : Fin 7168) :
    tiled hn W (ix2 a b) = W ⟨b.val / 512, by omega⟩ (ix2 a ⟨b.val % 512, Nat.mod_lt _ (by decide)⟩) := rfl

theorem col_lt {n : ℕ} (hn : n = 14) (k : Fin n) (q : Fin 512) : 512 * k.val + q.val < 7168 := by omega

theorem col_eq (b : Fin 7168) (h : 512 * (b.val / 512) + b.val % 512 < 7168) : (⟨512 * (b.val / 512) + b.val % 512, h⟩ : Fin 7168) = b :=
  Fin.ext (Nat.div_add_mod _ _)

section
variable (x0 x1 x2 x3 : Vec Ideal S1 .f32) (x4 : Vec Ideal S256x7168 .bf16) (x5 : Vec Ideal S1x7168 .f32) (x6 : Vec Ideal S256x2304 .bf16) (x7 : Vec Ideal S7168x2304 .fp8e4m3) (x8 : Vec Ideal S256x128 .f32)

/-- The gradient of the normalised input, and the normalised input, on the point's rows. -/
def dxnL (a : Fin 256) (b : Fin 7168) : EReal :=
  Math.dxn (fun k => x6 (ix2 a k)) (fun k => x7 (ix2 b k)) (scal (F := Ideal) x1) ((scal (F := Ideal) x2 : EReal) * scal (F := Ideal) x3)
def xhatL (a : Fin 256) (b : Fin 7168) : EReal := (x4 (ix2 a b) : EReal) * x8 (ix2 a 0)
def gL (a : Fin 256) (b : Fin 7168) : EReal := dxnL x1 x2 x3 x6 x7 a b * x5 (ix2 0 b)

theorem xcB_apply (a : Fin 256) (b : Fin 7168) :
    xcB x0 x4 x5 x8 (ix2 a b) = Math.xCode (scal (F := Ideal) x0) (x4 (ix2 a b)) (x8 (ix2 a 0)) (x5 (ix2 0 b)) := by
  unfold xcB
  rw [tiled_apply, pay5_apply]
  rw [xT_apply x4 _ a _ (by dsimp only; omega)]
  have eg := gT_apply x5 ⟨b.val / 512, by rw [trips1]; omega⟩ ⟨b.val % 512, Nat.mod_lt _ (by decide)⟩ (by dsimp only; omega)
  have eb := col_eq b (by omega)
  refine congrArg₂ (fun p q => Math.xCode (scal (F := Ideal) x0) p (x8 (ix2 a 0)) q) ?_ ?_
  · exact congrArg (fun b => x4 (ix2 a b)) eb
  · exact eg.trans (congrArg (fun b => x5 (ix2 0 b)) eb)

/-- A tile's part of `dxn`. -/
theorem dxn_tile (k : Fin k0_t1_loop.trips) (a : Fin 256) (q : Fin 512) :
    Math.dxn (fun j => x6 (ix2 a j)) (fun j => wT x7 k (ix2 q j)) (scal (F := Ideal) x1) (k0_pay21 (scal x2) (scal x3))
      = dxnL x1 x2 x3 x6 x7 a ⟨512 * k.val + q.val, col_lt trips1 k q⟩ := by
  unfold dxnL
  simp only [wT_apply x7 k q _ (col_lt trips1 k q)]
  rfl

theorem g_tile (k : Fin k0_t1_loop.trips) (a : Fin 256) (q : Fin 512) :
    k0_pay7 (k0_pay21 (scal x2) (scal x3)) (dyB (scal x1) x6) (wT x7 k) (gT x5 k) (ix2 a q)
      = gL x1 x2 x3 x5 x6 x7 a ⟨512 * k.val + q.val, col_lt trips1 k q⟩ := by
  rw [pay7_apply]
  exact congrArg₂ (fun p q : EReal => p * q) (dxn_tile x1 x2 x3 x6 x7 k a q) (gT_apply x5 k q (col_lt trips1 k q))

theorem xhat_tile (k : Fin k0_t1_loop.trips) (a : Fin 256) (q : Fin 512) :
    k0_pay4 (k0_pay23 x8) (xT x4 k) (ix2 a q) = xhatL x4 x8 a ⟨512 * k.val + q.val, col_lt trips1 k q⟩ := by
  rw [pay4_apply, xT_apply x4 k a q (col_lt trips1 k q)]
  rfl

/-- The weighted gradient kept for the second loop. -/
theorem rawB_apply (a : Fin 256) (b : Fin 7168) : rawB x1 x2 x3 x5 x6 x7 (ix2 a b) = gL x1 x2 x3 x5 x6 x7 a b := by
  unfold rawB
  rw [tiled_apply, pay8_apply]
  refine Eq.trans ?_ (congrArg (gL x1 x2 x3 x5 x6 x7 a) (col_eq b (by omega)))
  exact (pay7_apply _ _ _ _ _ _).symm.trans (g_tile x1 x2 x3 x5 x6 x7 _ a _)

/-- The partial sums of gamma's gradient. -/
theorem sumB_apply (s : Vec Ideal S8x7168 .f32) (u : Fin 8) (b : Fin 7168) :
    sumB x1 x2 x3 x4 x6 x7 x8 s (ix2 u b)
      = s (ix2 u b) + ∑ w : Fin 32, dxnL x1 x2 x3 x6 x7 ⟨8 * w.val + u.val, by omega⟩ b * xhatL x4 x8 ⟨8 * w.val + u.val, by omega⟩ b := by
  unfold sumB
  rw [tiled_apply, pay6_apply]
  have eb := col_eq b (by omega)
  refine congrArg₂ (fun p q : EReal => p + q) ?_ (Finset.sum_congr rfl fun w _ => congrArg₂ (fun p q : EReal => p * q) ?_ ?_)
  · exact (sT_apply s _ u _ (by dsimp only; omega)).trans (congrArg (fun b => s (ix2 u b)) eb)
  · exact (dxn_tile x1 x2 x3 x6 x7 _ _ _).trans (congrArg (dxnL x1 x2 x3 x6 x7 _) eb)
  · exact (pay4_apply x8 _ (ix2 _ _)).symm.trans ((xhat_tile x4 x8 _ _ _).trans (congrArg (xhatL x4 x8 _) eb))

/-- The row sums lane by lane after `n` tiles. -/
theorem laneB_apply (a : Fin 256) (l : Fin 128) : ∀ n ≤ 14, laneB x1 x2 x3 x4 x5 x6 x7 x8 n (ix2 a l)
    = ∑ k ∈ Finset.range n, (fun f : ℕ → EReal => f (512 * k + l.val) + f (512 * k + (128 + l.val)) + f (512 * k + (256 + l.val)) + f (512 * k + (384 + l.val)))
        (pad fun j => gL x1 x2 x3 x5 x6 x7 a j * xhatL x4 x8 a j) := by
  intro n
  induction n with
  | zero => intro _; rw [Finset.range_zero, Finset.sum_empty]; exact pay24_apply _
  | succ n ih =>
    intro hn
    have h : n < k0_t1_loop.trips := by rw [trips1]; omega
    rw [Finset.sum_range_succ, ← ih (by omega)]
    conv_lhs => unfold laneB
    rw [dif_pos h, pay25_apply]
    simp only [g_tile, xhat_tile]
    have e (q : Fin 512) := pad_of (fun j => gL x1 x2 x3 x5 x6 x7 a j * xhatL x4 x8 a j) ⟨512 * n + q.val, by omega⟩
    have e0 := e ⟨l.val, by omega⟩
    have e1 := e ⟨128 + l.val, by omega⟩
    have e2 := e ⟨256 + l.val, by omega⟩
    have e3 := e ⟨384 + l.val, by omega⟩
    dsimp only at e0 e1 e2 e3 ⊢
    rw [e0, e1, e2, e3]

theorem lane_total (a : Fin 256) : ∑ l : Fin 128, laneB x1 x2 x3 x4 x5 x6 x7 x8 k0_t1_loop.trips (ix2 a l)
    = ∑ j : Fin 7168, gL x1 x2 x3 x5 x6 x7 a j * xhatL x4 x8 a j := by
  rw [sum_pad (n := 7168)]
  simp only [trips1, laneB_apply x1 x2 x3 x4 x5 x6 x7 x8 a _ 14 le_rfl]
  generalize (pad fun j => gL x1 x2 x3 x5 x6 x7 a j * xhatL x4 x8 a j) = f
  rw [Finset.sum_comm]
  have e (k : ℕ) : ∑ l : Fin 128, (f (512 * k + l.val) + f (512 * k + (128 + l.val)) + f (512 * k + (256 + l.val)) + f (512 * k + (384 + l.val)))
      = ∑ j ∈ Finset.range 512, f (512 * k + j) := by
    rw [← lanes fun j => f (512 * k + j), Finset.sum_range]
  simp only [e]
  have key (n : ℕ) : ∑ k ∈ Finset.range n, ∑ j ∈ Finset.range 512, f (512 * k + j) = ∑ j ∈ Finset.range (512 * n), f j := by
    induction n with
    | zero => simp
    | succ n ih => rw [Finset.sum_range_succ, ih, Nat.mul_succ, Finset.sum_range_add]
  exact key 14

/-- The input gradient. -/
theorem dxB_apply (a : Fin 256) (b : Fin 7168) : dxB x1 x2 x3 x4 x5 x6 x7 x8 (ix2 a b)
    = Math.dxAt (x8 (ix2 a 0)) (gL x1 x2 x3 x5 x6 x7 a b) (xhatL x4 x8 a b) (Math.meanRow fun j => gL x1 x2 x3 x5 x6 x7 a j * xhatL x4 x8 a j) := by
  unfold dxB
  rw [tiled_apply, pay1_apply]
  have eb := col_eq b (by omega)
  have e1 := (rT2_apply (rawB x1 x2 x3 x5 x6 x7) ⟨b.val / 512, by rw [trips2]; omega⟩ a ⟨b.val % 512, Nat.mod_lt _ (by decide)⟩ (by dsimp only; omega)).trans
    ((congrArg (fun b => rawB x1 x2 x3 x5 x6 x7 (ix2 a b)) eb).trans (rawB_apply x1 x2 x3 x5 x6 x7 a b))
  have e2 := (xT2_apply x4 ⟨b.val / 512, by rw [trips2]; omega⟩ a ⟨b.val % 512, Nat.mod_lt _ (by decide)⟩ (by dsimp only; omega)).trans
    (congrArg (fun b => x4 (ix2 a b)) eb)
  rw [e1, e2]
  unfold Math.meanRow
  rw [← lane_total x1 x2 x3 x4 x5 x6 x7 x8 a]
  rfl
end

end Cert.Proof.One.DgradPay

end
-- ==== Proof.OneDgradKernel.lean ====
/-
  What the idealized input gradient call leaves in its results: at every grid point 256 rows of the input gradient and of
  the two arrays of codes, and after the last point the gradient of gamma, summed over all the rows.
-/
module

public import proofs.«01_k».proof.Proof.OneDgradPay
public import proofs.«01_k».proof.Proof.OneDgradFrame

@[expose] public section

set_option maxRecDepth 16384

noncomputable section

namespace Cert.Proof.One.DgradKernel

open Cert.DgradIdeal Cert.DgradIdeal.Gen Cert.DgradIdeal.Hand Cert.Proof.One.DgradPay
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The one-element shape has one index. -/
theorem eq_one (i : S1.Idx) : i = ix1 0 := by
  funext a; match a with | ⟨0, _⟩ => exact Fin.ext (by have := (i 0).isLt; change (i 0 : Nat) < 1 at this; show (i 0 : Nat) = 0; omega)

/-- The block indices: the row strips are the point's own, everything else is whole. -/
theorem index_facts : ∀ t : Fin grid0.N,
    (win0_4.index t 0 = t.val ∧ win0_4.index t 1 = 0) ∧ (win0_5.index t 0 = 0 ∧ win0_5.index t 1 = 0)
    ∧ (win0_6.index t 0 = t.val ∧ win0_6.index t 1 = 0) ∧ (win0_7.index t 0 = 0 ∧ win0_7.index t 1 = 0)
    ∧ (win0_8.index t 0 = t.val ∧ win0_8.index t 1 = 0) ∧ (win0_9.index t 0 = t.val ∧ win0_9.index t 1 = 0)
    ∧ (win0_10.index t 0 = 0 ∧ win0_10.index t 1 = 0) ∧ (win0_11.index t 0 = t.val ∧ win0_11.index t 1 = 0)
    ∧ (win0_12.index t 0 = t.val ∧ win0_12.index t 1 = 0) := by
  decide +kernel

/-- A point's row in the whole arrays. -/
def row (t : Fin cfg0.N) (a : Fin 256) : Fin 1536 := ⟨256 * t.val + a.val, by have h := t.isLt; have hN : cfg0.N = 6 := N_0; omega⟩

/-! ### The blocks -/

theorem blk0 (c : Dev nD) (t : Fin cfg0.N) : scal (F := Ideal) (iblk m c 0 t) = V m c main_arg0 (ix1 0) :=
  congrArg (V m c main_arg0) (eq_one _)
theorem blk1 (c : Dev nD) (t : Fin cfg0.N) : scal (F := Ideal) (iblk m c 1 t) = V m c main_arg1 (ix1 0) :=
  congrArg (V m c main_arg1) (eq_one _)
theorem blk2 (c : Dev nD) (t : Fin cfg0.N) : scal (F := Ideal) (iblk m c 2 t) = V m c main_arg2 (ix1 0) :=
  congrArg (V m c main_arg2) (eq_one _)
theorem blk3 (c : Dev nD) (t : Fin cfg0.N) : scal (F := Ideal) (iblk m c 3 t) = V m c main_arg3 (ix1 0) :=
  congrArg (V m c main_arg3) (eq_one _)
theorem blk4 (c : Dev nD) (t : Fin cfg0.N) (a : Fin 256) (b : Fin 7168) : iblk m c 4 t (ix2 a b) = V m c main_arg4 (ix2 (row t a) b) := by
  obtain ⟨e0, e1⟩ := (index_facts t).1
  refine congrArg (V m c main_arg4) (Shape.idx_ext₂ ?_ ?_)
  · refine (win0_4.rect_emb_val t (ix2 a b) 0).trans ?_
    rw [e0]
    show t.val * 256 + a.val = 256 * t.val + a.val
    omega
  · refine (win0_4.rect_emb_val t (ix2 a b) 1).trans ?_
    rw [e1]
    show 0 * 7168 + b.val = b.val
    omega
theorem blk6 (c : Dev nD) (t : Fin cfg0.N) (a : Fin 256) (b : Fin 2304) : iblk m c 6 t (ix2 a b) = V m c main_arg6 (ix2 (row t a) b) := by
  obtain ⟨e0, e1⟩ := (index_facts t).2.2.1
  refine congrArg (V m c main_arg6) (Shape.idx_ext₂ ?_ ?_)
  · refine (win0_6.rect_emb_val t (ix2 a b) 0).trans ?_
    rw [e0]
    show t.val * 256 + a.val = 256 * t.val + a.val
    omega
  · refine (win0_6.rect_emb_val t (ix2 a b) 1).trans ?_
    rw [e1]
    show 0 * 2304 + b.val = b.val
    omega
theorem blk8 (c : Dev nD) (t : Fin cfg0.N) (a : Fin 256) (b : Fin 128) : iblk m c 8 t (ix2 a b) = V m c main_arg8 (ix2 (row t a) b) := by
  obtain ⟨e0, e1⟩ := (index_facts t).2.2.2.2.1
  refine congrArg (V m c main_arg8) (Shape.idx_ext₂ ?_ ?_)
  · refine (win0_8.rect_emb_val t (ix2 a b) 0).trans ?_
    rw [e0]
    show t.val * 256 + a.val = 256 * t.val + a.val
    omega
  · refine (win0_8.rect_emb_val t (ix2 a b) 1).trans ?_
    rw [e1]
    show 0 * 128 + b.val = b.val
    omega
theorem blk5 (c : Dev nD) (t : Fin cfg0.N) : iblk m c 5 t = V m c main_arg5 := by
  funext y
  refine congrArg (V m c main_arg5) (Shape.idx_ext₂ ?_ ?_)
  · exact win0_5.rect_emb_val_of_index_zero t 0 (index_facts t).2.1.1 y
  · exact win0_5.rect_emb_val_of_index_zero t 1 (index_facts t).2.1.2 y
theorem blk7 (c : Dev nD) (t : Fin cfg0.N) : iblk m c 7 t = V m c main_arg7 := by
  funext y
  refine congrArg (V m c main_arg7) (Shape.idx_ext₂ ?_ ?_)
  · exact win0_7.rect_emb_val_of_index_zero t 0 (index_facts t).2.2.2.1.1 y
  · exact win0_7.rect_emb_val_of_index_zero t 1 (index_facts t).2.2.2.1.2 y

/-! ### The point's rows of the whole -/

theorem dxnL_eq (c : Dev nD) (t : Fin cfg0.N) (a : Fin 256) (b : Fin 7168) :
    dxnL (iblk m c 1 t) (iblk m c 2 t) (iblk m c 3 t) (iblk m c 6 t) (iblk m c 7 t) a b
      = Math.dxnAt (V m c main_arg1) (V m c main_arg2) (V m c main_arg3) (V m c main_arg6) (V m c main_arg7) (row t a) b := by
  unfold dxnL Math.dxnAt
  simp only [blk1, blk2, blk3, blk6, blk7]

theorem xhatL_eq (c : Dev nD) (t : Fin cfg0.N) (a : Fin 256) (b : Fin 7168) :
    xhatL (iblk m c 4 t) (iblk m c 8 t) a b = Math.xhatAt (V m c main_arg4) (V m c main_arg8) (row t a) b := by
  unfold xhatL Math.xhatAt
  rw [blk4, blk8]

theorem gL_eq (c : Dev nD) (t : Fin cfg0.N) (a : Fin 256) (b : Fin 7168) :
    gL (iblk m c 1 t) (iblk m c 2 t) (iblk m c 3 t) (iblk m c 5 t) (iblk m c 6 t) (iblk m c 7 t) a b
      = Math.gAt (V m c main_arg1) (V m c main_arg2) (V m c main_arg3) (V m c main_arg5) (V m c main_arg6) (V m c main_arg7) (row t a) b := by
  unfold gL Math.gAt
  rw [dxnL_eq, blk5]

theorem out9 (c : Dev nD) (t : Fin cfg0.N) (a : Fin 256) (b : Fin 7168) :
    (dats m 0 c).after 9 t (ix2 a b) = Math.dx (V m c main_arg1) (V m c main_arg2) (V m c main_arg3) (V m c main_arg4) (V m c main_arg5) (V m c main_arg6) (V m c main_arg7) (V m c main_arg8) (ix2 (row t a) b) := by
  rw [after0_9, dxB_apply]
  simp only [gL_eq, xhatL_eq]
  rw [blk8]
  rfl

theorem out11 (c : Dev nD) (t : Fin cfg0.N) (a : Fin 256) (b : Fin 7168) :
    (dats m 0 c).after 11 t (ix2 a b) = Math.xCodes (V m c main_arg0) (V m c main_arg4) (V m c main_arg5) (V m c main_arg8) (ix2 (row t a) b) := by
  rw [after0_11, xcB_apply, blk0, blk4, blk5, blk8]
  rfl

theorem out12 (c : Dev nD) (t : Fin cfg0.N) (a : Fin 256) (b : Fin 2304) :
    (dats m 0 c).after 12 t (ix2 a b) = Math.dyCodes (V m c main_arg1) (V m c main_arg6) (ix2 (row t a) b) := by
  rw [after0_12, dyB_apply, blk1, blk6]
  rfl

/-- What a row adds to the gradient of gamma. -/
abbrev term (c : Dev nD) (b : Fin 7168) (a : Fin 1536) : EReal :=
  Math.dxnAt (V m c main_arg1) (V m c main_arg2) (V m c main_arg3) (V m c main_arg6) (V m c main_arg7) a b * Math.xhatAt (V m c main_arg4) (V m c main_arg8) a b

/-- One point adds its rows, eight apart, to the running sums. -/
theorem step_apply (c : Dev nD) (t : Fin cfg0.N) (s : Vec Ideal S8x7168 .f32) (u : Fin 8) (b : Fin 7168) :
    sumB (iblk m c 1 t) (iblk m c 2 t) (iblk m c 3 t) (iblk m c 4 t) (iblk m c 6 t) (iblk m c 7 t) (iblk m c 8 t) s (ix2 u b)
      = s (ix2 u b) + ∑ w ∈ Finset.range 32, pad (term m c b) (256 * t.val + (8 * w + u.val)) := by
  rw [sumB_apply, Finset.sum_range]
  refine congrArg (s (ix2 u b) + ·) (Finset.sum_congr rfl fun w _ => ?_)
  rw [dxnL_eq, xhatL_eq]
  exact (pad_of (term m c b) (row t ⟨8 * w.val + u.val, by omega⟩)).symm

/-- The running sums after point `n`. -/
theorem sAt_apply (c : Dev nD) (u : Fin 8) (b : Fin 7168) : ∀ (n : ℕ) (hn : n < cfg0.N),
    sAt m c n hn (ix2 u b) = ∑ t ∈ Finset.range (n + 1), ∑ w ∈ Finset.range 32, pad (term m c b) (256 * t + (8 * w + u.val)) := by
  intro n
  induction n with
  | zero =>
    intro hn
    rw [Finset.sum_range_one]
    exact (step_apply m c ⟨0, hn⟩ (k0_pay9 (F := Ideal)) u b).trans (by rw [pay9_apply, zero_add])
  | succ n ih =>
    intro hn
    rw [Finset.sum_range_succ, ← ih (Nat.lt_of_succ_lt hn)]
    exact step_apply m c ⟨n + 1, hn⟩ _ u b

theorem sAt_total (c : Dev nD) (b : Fin 7168) (n : ℕ) (hn : n < cfg0.N) (h5 : n + 1 = 6) :
    ∑ u : Fin 8, sAt m c n hn (ix2 u b) = ∑ a : Fin 1536, term m c b a := by
  rw [sum_pad (n := 1536)]
  refine (Finset.sum_congr rfl fun u _ => (sAt_apply m c u b n hn).trans (by rw [h5])).trans ?_
  generalize pad (term m c b) = f
  rw [Finset.sum_comm]
  have e (t : ℕ) : ∑ u : Fin 8, ∑ w ∈ Finset.range 32, f (256 * t + (8 * w + u.val)) = ∑ j ∈ Finset.range 256, f (256 * t + j) := by
    rw [← rows8 (fun j => f (256 * t + j)) 32]
    exact (Finset.sum_range (n := 8) fun u => ∑ w ∈ Finset.range 32, f (256 * t + (8 * w + u))).symm
  simp only [e]
  have key (n : ℕ) : ∑ k ∈ Finset.range n, ∑ j ∈ Finset.range 256, f (256 * k + j) = ∑ j ∈ Finset.range (256 * n), f j := by
    induction n with
    | zero => simp
    | succ n ih => rw [Finset.sum_range_succ, ih, Nat.mul_succ, Finset.sum_range_add]
  exact key 6

/-- The gradient of gamma after the last point. -/
theorem out10 (c : Dev nD) (t : Fin cfg0.N) (ht : t.val % 6 = 5) (i : S1x7168.Idx) :
    (dats m 0 c).after 10 t i = Math.dgamma (V m c main_arg1) (V m c main_arg2) (V m c main_arg3) (V m c main_arg4) (V m c main_arg6) (V m c main_arg7) (V m c main_arg8) i := by
  have hN : t.val < 6 := lt_of_lt_of_eq t.isLt (show cfg0.N = 6 from N_0)
  rw [after0_10, pay2_apply]
  exact sAt_total m c (i 1) t.val t.isLt (by omega)

/-! ### The result arrays -/

theorem final9 (c : Dev nD) : (dats m 0 c).arrAt 9 cfg0.N = Math.dx (V m c main_arg1) (V m c main_arg2) (V m c main_arg3) (V m c main_arg4) (V m c main_arg5) (V m c main_arg6) (V m c main_arg7) (V m c main_arg8) := by
  refine (dats m 0 c).arrAt_eq_of_cover 9 _ (fun t _ => ?_) fun i => ?_
  · obtain ⟨e0, e1⟩ := (index_facts t).2.2.2.2.2.1
    funext j
    show (dats m 0 c).after 9 t j = _
    have ej : j = ix2 (j 0) (j 1) := Shape.idx_ext₂ rfl rfl
    refine (congrArg ((dats m 0 c).after 9 t) ej).trans ((out9 m c t (j 0) (j 1)).trans ?_)
    refine congrArg (Math.dx (V m c main_arg1) (V m c main_arg2) (V m c main_arg3) (V m c main_arg4) (V m c main_arg5) (V m c main_arg6) (V m c main_arg7) (V m c main_arg8)) (Shape.idx_ext₂ ?_ ?_)
    · refine Eq.trans ?_ (win0_9.rect_emb_val t j 0).symm
      rw [e0]
      show 256 * t.val + (j 0 : Nat) = t.val * 256 + (j 0 : Nat)
      omega
    · refine Eq.trans ?_ (win0_9.rect_emb_val t j 1).symm
      rw [e1]
      show (j 1 : Nat) = 0 * 7168 + (j 1 : Nat)
      omega
  · have h0 : (i 0 : Nat) < 1536 := (i 0).isLt
    have h1 : (i 1 : Nat) < 7168 := (i 1).isLt
    have hN : cfg0.N = 6 := N_0
    have ht : (i 0 : Nat) / 256 < cfg0.N := by rw [hN]; omega
    refine ⟨⟨(i 0 : Nat) / 256, ht⟩, flush0_9 _, ?_⟩
    obtain ⟨e0, e1⟩ := (index_facts ⟨(i 0 : Nat) / 256, ht⟩).2.2.2.2.2.1
    show i ∈ ((View.whole main_v0_0).slice (win0_9.rect ⟨(i 0 : Nat) / 256, ht⟩)).set
    rw [View.set_slice_whole, Rect.mem_set_unit]
    intro a
    match a with
    | ⟨0, _⟩ =>
      show win0_9.index _ 0 * 256 ≤ (i 0 : Nat) ∧ (i 0 : Nat) < win0_9.index _ 0 * 256 + 256
      rw [e0]; dsimp only; omega
    | ⟨1, _⟩ =>
      show win0_9.index _ 1 * 7168 ≤ (i 1 : Nat) ∧ (i 1 : Nat) < win0_9.index _ 1 * 7168 + 7168
      rw [e1]; omega

theorem final11 (c : Dev nD) : (dats m 0 c).arrAt 11 cfg0.N = Math.xCodes (V m c main_arg0) (V m c main_arg4) (V m c main_arg5) (V m c main_arg8) := by
  refine (dats m 0 c).arrAt_eq_of_cover 11 _ (fun t _ => ?_) fun i => ?_
  · obtain ⟨e0, e1⟩ := (index_facts t).2.2.2.2.2.2.2.1
    funext j
    show (dats m 0 c).after 11 t j = _
    have ej : j = ix2 (j 0) (j 1) := Shape.idx_ext₂ rfl rfl
    refine (congrArg ((dats m 0 c).after 11 t) ej).trans ((out11 m c t (j 0) (j 1)).trans ?_)
    refine congrArg (Math.xCodes (V m c main_arg0) (V m c main_arg4) (V m c main_arg5) (V m c main_arg8)) (Shape.idx_ext₂ ?_ ?_)
    · refine Eq.trans ?_ (win0_11.rect_emb_val t j 0).symm
      rw [e0]
      show 256 * t.val + (j 0 : Nat) = t.val * 256 + (j 0 : Nat)
      omega
    · refine Eq.trans ?_ (win0_11.rect_emb_val t j 1).symm
      rw [e1]
      show (j 1 : Nat) = 0 * 7168 + (j 1 : Nat)
      omega
  · have h0 : (i 0 : Nat) < 1536 := (i 0).isLt
    have h1 : (i 1 : Nat) < 7168 := (i 1).isLt
    have hN : cfg0.N = 6 := N_0
    have ht : (i 0 : Nat) / 256 < cfg0.N := by rw [hN]; omega
    refine ⟨⟨(i 0 : Nat) / 256, ht⟩, flush0_11 _, ?_⟩
    obtain ⟨e0, e1⟩ := (index_facts ⟨(i 0 : Nat) / 256, ht⟩).2.2.2.2.2.2.2.1
    show i ∈ ((View.whole main_v0_2).slice (win0_11.rect ⟨(i 0 : Nat) / 256, ht⟩)).set
    rw [View.set_slice_whole, Rect.mem_set_unit]
    intro a
    match a with
    | ⟨0, _⟩ =>
      show win0_11.index _ 0 * 256 ≤ (i 0 : Nat) ∧ (i 0 : Nat) < win0_11.index _ 0 * 256 + 256
      rw [e0]; dsimp only; omega
    | ⟨1, _⟩ =>
      show win0_11.index _ 1 * 7168 ≤ (i 1 : Nat) ∧ (i 1 : Nat) < win0_11.index _ 1 * 7168 + 7168
      rw [e1]; omega

theorem final12 (c : Dev nD) : (dats m 0 c).arrAt 12 cfg0.N = Math.dyCodes (V m c main_arg1) (V m c main_arg6) := by
  refine (dats m 0 c).arrAt_eq_of_cover 12 _ (fun t _ => ?_) fun i => ?_
  · obtain ⟨e0, e1⟩ := (index_facts t).2.2.2.2.2.2.2.2
    funext j
    show (dats m 0 c).after 12 t j = _
    have ej : j = ix2 (j 0) (j 1) := Shape.idx_ext₂ rfl rfl
    refine (congrArg ((dats m 0 c).after 12 t) ej).trans ((out12 m c t (j 0) (j 1)).trans ?_)
    refine congrArg (Math.dyCodes (V m c main_arg1) (V m c main_arg6)) (Shape.idx_ext₂ ?_ ?_)
    · refine Eq.trans ?_ (win0_12.rect_emb_val t j 0).symm
      rw [e0]
      show 256 * t.val + (j 0 : Nat) = t.val * 256 + (j 0 : Nat)
      omega
    · refine Eq.trans ?_ (win0_12.rect_emb_val t j 1).symm
      rw [e1]
      show (j 1 : Nat) = 0 * 2304 + (j 1 : Nat)
      omega
  · have h0 : (i 0 : Nat) < 1536 := (i 0).isLt
    have h1 : (i 1 : Nat) < 2304 := (i 1).isLt
    have hN : cfg0.N = 6 := N_0
    have ht : (i 0 : Nat) / 256 < cfg0.N := by rw [hN]; omega
    refine ⟨⟨(i 0 : Nat) / 256, ht⟩, flush0_12 _, ?_⟩
    obtain ⟨e0, e1⟩ := (index_facts ⟨(i 0 : Nat) / 256, ht⟩).2.2.2.2.2.2.2.2
    show i ∈ ((View.whole main_v0_3).slice (win0_12.rect ⟨(i 0 : Nat) / 256, ht⟩)).set
    rw [View.set_slice_whole, Rect.mem_set_unit]
    intro a
    match a with
    | ⟨0, _⟩ =>
      show win0_12.index _ 0 * 256 ≤ (i 0 : Nat) ∧ (i 0 : Nat) < win0_12.index _ 0 * 256 + 256
      rw [e0]; dsimp only; omega
    | ⟨1, _⟩ =>
      show win0_12.index _ 1 * 2304 ≤ (i 1 : Nat) ∧ (i 1 : Nat) < win0_12.index _ 1 * 2304 + 2304
      rw [e1]; omega

theorem final10 (c : Dev nD) : (dats m 0 c).arrAt 10 cfg0.N = Math.dgamma (V m c main_arg1) (V m c main_arg2) (V m c main_arg3) (V m c main_arg4) (V m c main_arg6) (V m c main_arg7) (V m c main_arg8) := by
  refine (dats m 0 c).arrAt_eq_of_cover 10 _ (fun t hf => ?_) fun i => ?_
  · funext j
    show (dats m 0 c).after 10 t j = _
    rw [out10 m c t ((flush0_10 t).mp hf)]
    refine congrArg (Math.dgamma (V m c main_arg1) (V m c main_arg2) (V m c main_arg3) (V m c main_arg4) (V m c main_arg6) (V m c main_arg7) (V m c main_arg8)) (Shape.idx_ext₂ ?_ ?_)
    · exact (win0_10.rect_emb_val_of_index_zero t 0 (index_facts t).2.2.2.2.2.2.1.1 j).symm
    · exact (win0_10.rect_emb_val_of_index_zero t 1 (index_facts t).2.2.2.2.2.2.1.2 j).symm
  · have hN : 5 < cfg0.N := lt_of_lt_of_eq (by decide) N_0.symm
    refine ⟨⟨5, hN⟩, (flush0_10 _).mpr rfl, ?_⟩
    obtain ⟨e0, e1⟩ := (index_facts ⟨5, hN⟩).2.2.2.2.2.2.1
    show i ∈ ((View.whole main_v0_1).slice (win0_10.rect ⟨5, hN⟩)).set
    rw [View.set_slice_whole, Rect.mem_set_unit]
    have h0 : (i 0 : Nat) < 1 := (i 0).isLt
    have h1 : (i 1 : Nat) < 7168 := (i 1).isLt
    intro a
    match a with
    | ⟨0, _⟩ =>
      show win0_10.index _ 0 * 1 ≤ (i 0 : Nat) ∧ (i 0 : Nat) < win0_10.index _ 0 * 1 + 1
      rw [e0]; omega
    | ⟨1, _⟩ =>
      show win0_10.index _ 1 * 7168 ≤ (i 1 : Nat) ∧ (i 1 : Nat) < win0_10.index _ 1 * 7168 + 7168
      rw [e1]; omega

end Cert.Proof.One.DgradKernel

end
-- ==== Proof.OneDgradRef.lean ====
/-
  What the idealized input gradient reference leaves in its four results, in terms of its arguments alone.
-/
module

public import proofs.«01_k».proof.Proof.Arith
public import proofs.«01_k».proof.Proof.Gen.DgradRefIdeal.Value
public import Idealize.ShloMosaic.Lib.Pointwise

@[expose] public section

noncomputable section

namespace Cert.Proof.One.DgradRef

open Cert.DgradRefIdeal Cert.DgradRefIdeal.Gen Idealize.ShloMosaic Idealize.ShloMosaic.TcCoe Idealize.SL.Sem
open Idealize.ShloMosaic.Pipeline (Dat)
open scoped BigOperators

/-! ### The body's payloads at an index -/

/-- A lane's number, as the iota of the count gives it. -/
theorem iota_apply (k : Fin 256) : List.foldl (fun n a => n * (![1, 256] : Fin 2 → Nat) a + ((ix2 (0 : Fin 1) k : (S1x256).Idx) a : Nat)) 0 [1] = k := by
  simp

/-- The numbers of the lanes as words. -/
theorem word_facts : ∀ k : Fin 256, (IntOp.subi (BitVec.ofNat 32 k) 126#32).toInt = (k : ℤ) - 126
    ∧ (IntOp.cmpi .slt (BitVec.ofNat 32 k) 252#32 = if k.val < 252 then 1#1 else 0#1) := by decide +kernel

/-- The power of two a lane compares with. -/
theorem sitofp_word (k : Fin 256) : FloatOps.exp2 (F := Ideal) (φ := .f32) (FloatOps.sitofp (F := Ideal) .f32 (IntOp.subi (BitVec.ofNat 32 k) 126#32))
    = (((2 : ℝ) ^ ((k : ℤ) - 126) : ℝ) : EReal) := by
  refine (Math.exp2_int ((k : ℤ) - 126) _ ?_)
  rw [(word_facts k).1]

/-- What a lane adds to the count. -/
theorem summand (v : EReal) (k : Fin 256) :
    Scalar.select (IntOp.andi (IntOp.cmpi .slt (BitVec.ofNat 32 k) 252#32) (BitVec.ofBool (decide (FloatOps.exp2 (F := Ideal) (φ := .f32) (FloatOps.sitofp (F := Ideal) .f32 (IntOp.subi (BitVec.ofNat 32 k) 126#32)) ≤ v)))) (1 : EReal) 0 = (open Classical in if Math.counts v k then 1 else 0) := by
  rw [sitofp_word, (word_facts k).2]
  unfold Math.counts
  by_cases h : k.val < 252
  · by_cases h' : (((2 : ℝ) ^ ((k : ℤ) - 126) : ℝ) : EReal) ≤ v
    · simp [h, h', Scalar.select, IntOp.andi]
    · simp [h, h', Scalar.select, IntOp.andi]
  · simp [h, Scalar.select, IntOp.andi]

theorem ofBits_126 : Ideal.ofBits .f32 0x42FC0000#32 = ((126 : ℝ) : EReal) := by
  simp [Ideal.ofBits, Ideal.ieee, -EReal.coe_mul]; norm_num

/-- The scale's inverse for the codes of the normalised input. -/
theorem scale_apply (v : Elt Ideal .f32) (i : S1x1.Idx) : k0_pay6 v i = Math.down (v * Math.inv448) := by
  unfold k0_pay6
  simp only [pointwise]
  simp only [iota_apply, summand, ofBits_126]
  rfl

/-- The codes of the output gradient. -/
theorem codes_apply (v : Elt Ideal .f32) (y : Vec Ideal S1536x2304 .bf16) (i : S1536x2304.Idx) :
    k0_pay9 (k0_pay7 v) (iota .tc S1x256 32 [1] iota_S1x256_d1_w32) k0_pay8 126#32 y i = Math.dyCode v (y i) := by
  unfold k0_pay9 k0_pay7 k0_pay8
  simp only [pointwise]
  simp only [iota_apply, summand, ofBits_126]
  rfl

/-- The normalised input before gamma. -/
theorem xn_apply (x : Vec Ideal S1536x7168 .bf16) (r : Vec Ideal S1536x1 .f32) (i : S1536x7168.Idx) :
    k0_pay4 x r i = x i * r (ix2 (i 0) 0) := by
  unfold k0_pay4
  simp only [pointwise]
  rfl

/-- The codes of the normalised input. -/
theorem xcodes_apply (v : Elt Ideal .f32) (x : Vec Ideal S1536x7168 .bf16) (r : Vec Ideal S1536x1 .f32) (g : Vec Ideal S1x7168 .f32) (i : S1536x7168.Idx) :
    k0_pay3 (k0_pay5 x r g) (k0_pay6 v) i = Math.xCode v (x i) (r (ix2 (i 0) 0)) (g (ix2 0 (i 1))) := by
  unfold k0_pay3 k0_pay5
  simp only [pointwise, scale_apply, xn_apply]
  rfl

/-- The gradient of the normalised input. -/
theorem dxn_apply (v s w : Elt Ideal .f32) (y : Vec Ideal S1536x2304 .bf16) (z : Vec Ideal S7168x2304 .fp8e4m3) (i : S1536x7168.Idx) :
    k0_pay10 (k0_pay7 v) (iota .tc S1x256 32 [1] iota_S1x256_d1_w32) k0_pay8 126#32 y z s w i = Math.dxn (fun k => y (ix2 (i 0) k)) (fun k => z (ix2 (i 1) k)) v (s * w) := by
  unfold k0_pay10
  simp only [pointwise]
  simp only [Finset.sum_congr rfl fun k (_ : k ∈ Finset.univ) => congrArg (· * z (ix2 (i 1) k)) (codes_apply v y (ix2 (i 0) k))]
  simp
  rfl

/-- The sum over a row of `g * xhat`. -/
theorem rowsum_apply (v s w : Elt Ideal .f32) (x : Vec Ideal S1536x7168 .bf16) (r : Vec Ideal S1536x1 .f32) (g : Vec Ideal S1x7168 .f32)
    (y : Vec Ideal S1536x2304 .bf16) (z : Vec Ideal S7168x2304 .fp8e4m3) (i : S1536.Idx) :
    k0_pay12 g (k0_pay4 x r) (k0_pay7 v) (iota .tc S1x256 32 [1] iota_S1x256_d1_w32) k0_pay8 126#32 y z s w i
      = ∑ j : Fin 7168, Math.dxn (fun k => y (ix2 (i 0) k)) (fun k => z (ix2 j k)) v (s * w) * g (ix2 0 j) * (x (ix2 (i 0) j) * r (ix2 (i 0) 0)) := by
  unfold k0_pay12 k0_pay11
  simp only [pointwise]
  refine (Finset.sum_congr rfl fun j _ => ?_)
  rw [dxn_apply, xn_apply]
  rfl

/-- The input gradient. -/
theorem dx_apply (v s w : Elt Ideal .f32) (x : Vec Ideal S1536x7168 .bf16) (r : Vec Ideal S1536x1 .f32) (g : Vec Ideal S1x7168 .f32)
    (y : Vec Ideal S1536x2304 .bf16) (z : Vec Ideal S7168x2304 .fp8e4m3) (i : S1536x7168.Idx) :
    k0_pay1 r (k0_pay4 x r) (k0_pay11 g (k0_pay7 v) (iota .tc S1x256 32 [1] iota_S1x256_d1_w32) k0_pay8 126#32 y z s w) (k0_pay12 g (k0_pay4 x r) (k0_pay7 v) (iota .tc S1x256 32 [1] iota_S1x256_d1_w32) k0_pay8 126#32 y z s w) i
      = Math.dxAt (r (ix2 (i 0) 0)) (Math.dxn (fun k => y (ix2 (i 0) k)) (fun k => z (ix2 (i 1) k)) v (s * w) * g (ix2 0 (i 1)))
          (x i * r (ix2 (i 0) 0)) (Math.meanRow fun j =>
            Math.dxn (fun k => y (ix2 (i 0) k)) (fun k => z (ix2 j k)) v (s * w) * g (ix2 0 j) * (x (ix2 (i 0) j) * r (ix2 (i 0) 0))) := by
  unfold k0_pay1 k0_pay11
  simp only [pointwise]
  rw [rowsum_apply, dxn_apply, xn_apply]
  rfl

/-- The gradient of gamma. -/
theorem dgamma_apply (v s w : Elt Ideal .f32) (x : Vec Ideal S1536x7168 .bf16) (r : Vec Ideal S1536x1 .f32)
    (y : Vec Ideal S1536x2304 .bf16) (z : Vec Ideal S7168x2304 .fp8e4m3) (i : S1x7168.Idx) :
    k0_pay2 (k0_pay4 x r) (k0_pay10 (k0_pay7 v) (iota .tc S1x256 32 [1] iota_S1x256_d1_w32) k0_pay8 126#32 y z s w) i
      = ∑ a : Fin 1536, Math.dxn (fun k => y (ix2 a k)) (fun k => z (ix2 (i 1) k)) v (s * w) * (x (ix2 a (i 1)) * r (ix2 a 0)) := by
  unfold k0_pay2
  simp only [pointwise]
  refine (Finset.sum_congr rfl fun a _ => ?_)
  rw [dxn_apply, xn_apply]
  rfl

/-! ### The blocks and the results -/

variable (m : (ℓ : Loc nD τ sig) → Buf (Elt Ideal) ℓ) (ρ : Dev nD → PrngReg)

theorem hz2 : (![0, 0] : Fin 2 → Nat) = fun _ => 0 := funext fun a => by fin_cases a <;> rfl

/-- The one point's blocks are the whole arrays. -/
theorem index_facts : ∀ t : Fin grid0.N,
    (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = 0 ∧ win0_10.index t 1 = 0) ∧ (win0_11.index t 0 = 0 ∧ win0_11.index t 1 = 0)
    ∧ (win0_12.index t 0 = 0 ∧ win0_12.index t 1 = 0) := by
  decide +kernel

theorem eq_one (i : S1.Idx) : i = ix1 0 := by
  funext a; match a with | ⟨0, _⟩ => exact Fin.ext (by have := (i 0).isLt; change (i 0 : Nat) < 1 at this; show (i 0 : Nat) = 0; omega)

theorem blk0 (c : Dev nD) (t : Fin cfg0.N) (i : S1.Idx) : View.ld (iblk m c 0 t) (Rect.unit ![0] S1.size inb_S1_S1_0) i = V m c main_arg0 (ix1 0) :=
  congrArg (V m c main_arg0) (eq_one _)
theorem blk1 (c : Dev nD) (t : Fin cfg0.N) (i : S1.Idx) : View.ld (iblk m c 1 t) (Rect.unit ![0] S1.size inb_S1_S1_0) i = V m c main_arg1 (ix1 0) :=
  congrArg (V m c main_arg1) (eq_one _)
theorem blk2 (c : Dev nD) (t : Fin cfg0.N) (i : S1.Idx) : View.ld (iblk m c 2 t) (Rect.unit ![0] S1.size inb_S1_S1_0) i = V m c main_arg2 (ix1 0) :=
  congrArg (V m c main_arg2) (eq_one _)
theorem blk3 (c : Dev nD) (t : Fin cfg0.N) (i : S1.Idx) : View.ld (iblk m c 3 t) (Rect.unit ![0] S1.size inb_S1_S1_0) i = V m c main_arg3 (ix1 0) :=
  congrArg (V m c main_arg3) (eq_one _)
theorem blk4 (c : Dev nD) (t : Fin cfg0.N) : iblk m c 4 t = V m c main_arg4 := by
  funext y
  refine congrArg (V m c main_arg4) (Shape.idx_ext₂ ?_ ?_)
  · exact win0_4.rect_emb_val_of_index_zero t 0 (index_facts t).1.1 y
  · exact win0_4.rect_emb_val_of_index_zero t 1 (index_facts t).1.2 y
theorem blk5 (c : Dev nD) (t : Fin cfg0.N) : iblk m c 5 t = V m c main_arg5 := by
  funext y
  refine congrArg (V m c main_arg5) (Shape.idx_ext₂ ?_ ?_)
  · exact win0_5.rect_emb_val_of_index_zero t 0 (index_facts t).2.1.1 y
  · exact win0_5.rect_emb_val_of_index_zero t 1 (index_facts t).2.1.2 y
theorem blk6 (c : Dev nD) (t : Fin cfg0.N) : iblk m c 6 t = V m c main_arg6 := by
  funext y
  refine congrArg (V m c main_arg6) (Shape.idx_ext₂ ?_ ?_)
  · exact win0_6.rect_emb_val_of_index_zero t 0 (index_facts t).2.2.1.1 y
  · exact win0_6.rect_emb_val_of_index_zero t 1 (index_facts t).2.2.1.2 y
theorem blk7 (c : Dev nD) (t : Fin cfg0.N) : iblk m c 7 t = V m c main_arg7 := by
  funext y
  refine congrArg (V m c main_arg7) (Shape.idx_ext₂ ?_ ?_)
  · exact win0_7.rect_emb_val_of_index_zero t 0 (index_facts t).2.2.2.1.1 y
  · exact win0_7.rect_emb_val_of_index_zero t 1 (index_facts t).2.2.2.1.2 y
theorem blk8 (c : Dev nD) (t : Fin cfg0.N) : iblk m c 8 t = V m c main_arg8 := by
  funext y
  refine congrArg (V m c main_arg8) (Shape.idx_ext₂ ?_ ?_)
  · exact win0_8.rect_emb_val_of_index_zero t 0 (index_facts t).2.2.2.2.1.1 y
  · exact win0_8.rect_emb_val_of_index_zero t 1 (index_facts t).2.2.2.2.1.2 y

/-- The column of `r` the body reads. -/
theorem col0 (r : Vec Ideal S1536x128 .f32) :
    View.ld r (Rect.unit ![0, 0] S1536x1.size inb_S1536x128_S1536x1_0_0) = fun i => r (ix2 (i 0) 0) := by
  funext i
  refine congrArg r (Shape.idx_ext₂ ?_ ?_)
  · show 0 + 1 * (i 0 : Nat) = (i 0 : Nat); omega
  · have h : (i 1 : Nat) < 1 := (i 1).isLt
    show 0 + 1 * (i 1 : Nat) = 0; omega

theorem out9 (c : Dev nD) (t : Fin cfg0.N) : (outsAt0 m c t).1 = Math.dx (V m c main_arg1) (V m c main_arg2) (V m c main_arg3) (V m c main_arg4) (V m c main_arg5) (V m c main_arg6) (V m c main_arg7) (V m c main_arg8) := by
  unfold outsAt0 out0_A_9
  dsimp only
  rw [View.read_writes_eq_canon _ _ _ (cover0_A_9 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  rw [View.canon_unit_zero hz2]
  simp only [View.ld_unit_zero (S := S1536x7168) hz2, View.ld_unit_zero (S := S1x7168) hz2, View.ld_unit_zero (S := S1536x2304) hz2, View.ld_unit_zero (S := S7168x2304) hz2]
  rw [blk4, blk5, blk6, blk7, blk8, col0]
  funext j
  rw [dx_apply]
  rw [blk1, blk2, blk3]
  have e : V m c main_arg4 j = V m c main_arg4 (ix2 (j 0) (j 1)) := congrArg (V m c main_arg4) (Shape.idx_ext₂ rfl rfl)
  rw [e]
  rfl

theorem out10 (c : Dev nD) (t : Fin cfg0.N) : (outsAt0 m c t).2.1 = Math.dgamma (V m c main_arg1) (V m c main_arg2) (V m c main_arg3) (V m c main_arg4) (V m c main_arg6) (V m c main_arg7) (V m c main_arg8) := by
  unfold outsAt0 out0_A_10
  dsimp only
  rw [View.read_writes_eq_canon _ _ _ (cover0_A_10 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  rw [View.canon_unit_zero hz2]
  simp only [View.ld_unit_zero (S := S1536x7168) hz2, View.ld_unit_zero (S := S1x7168) hz2, View.ld_unit_zero (S := S1536x2304) hz2, View.ld_unit_zero (S := S7168x2304) hz2]
  rw [blk4, blk6, blk7, blk8, col0]
  funext j
  rw [dgamma_apply]
  rw [blk1, blk2, blk3]
  rfl

theorem out11 (c : Dev nD) (t : Fin cfg0.N) : (outsAt0 m c t).2.2.1 = Math.xCodes (V m c main_arg0) (V m c main_arg4) (V m c main_arg5) (V m c main_arg8) := by
  unfold outsAt0 out0_A_11
  dsimp only
  rw [View.read_writes_eq_canon _ _ _ (cover0_A_11 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  rw [View.canon_unit_zero hz2]
  simp only [View.ld_unit_zero (S := S1536x7168) hz2, View.ld_unit_zero (S := S1x7168) hz2, View.ld_unit_zero (S := S1536x2304) hz2, View.ld_unit_zero (S := S7168x2304) hz2]
  rw [blk4, blk5, blk8, col0]
  funext j
  rw [xcodes_apply]
  rw [blk0]
  rfl

theorem out12 (c : Dev nD) (t : Fin cfg0.N) : (outsAt0 m c t).2.2.2 = Math.dyCodes (V m c main_arg1) (V m c main_arg6) := by
  unfold outsAt0 out0_A_12
  dsimp only
  rw [View.read_writes_eq_canon _ _ _ (cover0_A_12 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  rw [View.canon_unit_zero hz2]
  simp only [View.ld_unit_zero (S := S1536x7168) hz2, View.ld_unit_zero (S := S1x7168) hz2, View.ld_unit_zero (S := S1536x2304) hz2, View.ld_unit_zero (S := S7168x2304) hz2]
  rw [blk6]
  funext j
  rw [codes_apply]
  rw [blk1]
  rfl

/-! ### The result arrays -/

theorem final9 (c : Dev nD) : (dats m 0 c).arrAt 9 cfg0.N = Math.dx (V m c main_arg1) (V m c main_arg2) (V m c main_arg3) (V m c main_arg4) (V m c main_arg5) (V m c main_arg6) (V m c main_arg7) (V m c main_arg8) := by
  refine (dats m 0 c).arrAt_eq_of_cover 9 _ (fun t _ => ?_) fun i => ?_
  · rw [Value.flushed9]
    funext j
    show (outsAt0 m c t).1 j = _
    rw [out9]
    refine congrArg (Math.dx (V m c main_arg1) (V m c main_arg2) (V m c main_arg3) (V m c main_arg4) (V m c main_arg5) (V m c main_arg6) (V m c main_arg7) (V m c main_arg8)) (Shape.idx_ext₂ ?_ ?_)
    · exact (win0_9.rect_emb_val_of_index_zero t 0 (index_facts t).2.2.2.2.2.1.1 j).symm
    · exact (win0_9.rect_emb_val_of_index_zero t 1 (index_facts t).2.2.2.2.2.1.2 j).symm
  · refine ⟨t0_0, flush0_9 _, ?_⟩
    obtain ⟨e0, e1⟩ := (index_facts t0_0).2.2.2.2.2.1
    show i ∈ ((View.whole main_v0_0).slice (win0_9.rect t0_0)).set
    rw [View.set_slice_whole, Rect.mem_set_unit]
    have h0 : (i 0 : Nat) < 1536 := (i 0).isLt
    have h1 : (i 1 : Nat) < 7168 := (i 1).isLt
    intro a
    match a with
    | ⟨0, _⟩ =>
      show win0_9.index _ 0 * 1536 ≤ (i 0 : Nat) ∧ (i 0 : Nat) < win0_9.index _ 0 * 1536 + 1536
      rw [e0]; omega
    | ⟨1, _⟩ =>
      show win0_9.index _ 1 * 7168 ≤ (i 1 : Nat) ∧ (i 1 : Nat) < win0_9.index _ 1 * 7168 + 7168
      rw [e1]; omega

theorem final10 (c : Dev nD) : (dats m 0 c).arrAt 10 cfg0.N = Math.dgamma (V m c main_arg1) (V m c main_arg2) (V m c main_arg3) (V m c main_arg4) (V m c main_arg6) (V m c main_arg7) (V m c main_arg8) := by
  refine (dats m 0 c).arrAt_eq_of_cover 10 _ (fun t _ => ?_) fun i => ?_
  · rw [Value.flushed10]
    funext j
    show (outsAt0 m c t).2.1 j = _
    rw [out10]
    refine congrArg (Math.dgamma (V m c main_arg1) (V m c main_arg2) (V m c main_arg3) (V m c main_arg4) (V m c main_arg6) (V m c main_arg7) (V m c main_arg8)) (Shape.idx_ext₂ ?_ ?_)
    · exact (win0_10.rect_emb_val_of_index_zero t 0 (index_facts t).2.2.2.2.2.2.1.1 j).symm
    · exact (win0_10.rect_emb_val_of_index_zero t 1 (index_facts t).2.2.2.2.2.2.1.2 j).symm
  · refine ⟨t0_0, flush0_10 _, ?_⟩
    obtain ⟨e0, e1⟩ := (index_facts t0_0).2.2.2.2.2.2.1
    show i ∈ ((View.whole main_v0_1).slice (win0_10.rect t0_0)).set
    rw [View.set_slice_whole, Rect.mem_set_unit]
    have h0 : (i 0 : Nat) < 1 := (i 0).isLt
    have h1 : (i 1 : Nat) < 7168 := (i 1).isLt
    intro a
    match a with
    | ⟨0, _⟩ =>
      show win0_10.index _ 0 * 1 ≤ (i 0 : Nat) ∧ (i 0 : Nat) < win0_10.index _ 0 * 1 + 1
      rw [e0]; omega
    | ⟨1, _⟩ =>
      show win0_10.index _ 1 * 7168 ≤ (i 1 : Nat) ∧ (i 1 : Nat) < win0_10.index _ 1 * 7168 + 7168
      rw [e1]; omega

theorem final11 (c : Dev nD) : (dats m 0 c).arrAt 11 cfg0.N = Math.xCodes (V m c main_arg0) (V m c main_arg4) (V m c main_arg5) (V m c main_arg8) := by
  refine (dats m 0 c).arrAt_eq_of_cover 11 _ (fun t _ => ?_) fun i => ?_
  · rw [Value.flushed11]
    funext j
    show (outsAt0 m c t).2.2.1 j = _
    rw [out11]
    refine congrArg (Math.xCodes (V m c main_arg0) (V m c main_arg4) (V m c main_arg5) (V m c main_arg8)) (Shape.idx_ext₂ ?_ ?_)
    · exact (win0_11.rect_emb_val_of_index_zero t 0 (index_facts t).2.2.2.2.2.2.2.1.1 j).symm
    · exact (win0_11.rect_emb_val_of_index_zero t 1 (index_facts t).2.2.2.2.2.2.2.1.2 j).symm
  · refine ⟨t0_0, flush0_11 _, ?_⟩
    obtain ⟨e0, e1⟩ := (index_facts t0_0).2.2.2.2.2.2.2.1
    show i ∈ ((View.whole main_v0_2).slice (win0_11.rect t0_0)).set
    rw [View.set_slice_whole, Rect.mem_set_unit]
    have h0 : (i 0 : Nat) < 1536 := (i 0).isLt
    have h1 : (i 1 : Nat) < 7168 := (i 1).isLt
    intro a
    match a with
    | ⟨0, _⟩ =>
      show win0_11.index _ 0 * 1536 ≤ (i 0 : Nat) ∧ (i 0 : Nat) < win0_11.index _ 0 * 1536 + 1536
      rw [e0]; omega
    | ⟨1, _⟩ =>
      show win0_11.index _ 1 * 7168 ≤ (i 1 : Nat) ∧ (i 1 : Nat) < win0_11.index _ 1 * 7168 + 7168
      rw [e1]; omega

theorem final12 (c : Dev nD) : (dats m 0 c).arrAt 12 cfg0.N = Math.dyCodes (V m c main_arg1) (V m c main_arg6) := by
  refine (dats m 0 c).arrAt_eq_of_cover 12 _ (fun t _ => ?_) fun i => ?_
  · rw [Value.flushed12]
    funext j
    show (outsAt0 m c t).2.2.2 j = _
    rw [out12]
    refine congrArg (Math.dyCodes (V m c main_arg1) (V m c main_arg6)) (Shape.idx_ext₂ ?_ ?_)
    · exact (win0_12.rect_emb_val_of_index_zero t 0 (index_facts t).2.2.2.2.2.2.2.2.1 j).symm
    · exact (win0_12.rect_emb_val_of_index_zero t 1 (index_facts t).2.2.2.2.2.2.2.2.2 j).symm
  · refine ⟨t0_0, flush0_12 _, ?_⟩
    obtain ⟨e0, e1⟩ := (index_facts t0_0).2.2.2.2.2.2.2.2
    show i ∈ ((View.whole main_v0_3).slice (win0_12.rect t0_0)).set
    rw [View.set_slice_whole, Rect.mem_set_unit]
    have h0 : (i 0 : Nat) < 1536 := (i 0).isLt
    have h1 : (i 1 : Nat) < 2304 := (i 1).isLt
    intro a
    match a with
    | ⟨0, _⟩ =>
      show win0_12.index _ 0 * 1536 ≤ (i 0 : Nat) ∧ (i 0 : Nat) < win0_12.index _ 0 * 1536 + 1536
      rw [e0]; omega
    | ⟨1, _⟩ =>
      show win0_12.index _ 1 * 2304 ≤ (i 1 : Nat) ∧ (i 1 : Nat) < win0_12.index _ 1 * 2304 + 2304
      rw [e1]; omega

end Cert.Proof.One.DgradRef

end
-- ==== Proof.OneDgradClaim.lean ====
/-
  The input gradient call and its reference leave the same results on the same arguments.
-/
module

public import proofs.«01_k».proof.Defs
public import proofs.«01_k».proof.Proof.OneDgradKernel
public import proofs.«01_k».proof.Proof.OneDgradRef
public import proofs.«01_k».proof.Proof.Gen.DgradIdeal
public import proofs.«01_k».proof.Proof.Gen.DgradRefIdeal

@[expose] public section

noncomputable section

namespace Cert.Proof.One.DgradClaim

open Idealize.ShloMosaic Idealize.ShloMosaic.TcCoe Idealize.SL.Sem

theorem algebraic : Cert.algebraic_DgradIdeal_DgradRefIdeal := by
  intro m ρ m' ρ' _ hagree
  refine ⟨fun c => Math.dx (Cert.DgradIdeal.Gen.V m c Cert.DgradIdeal.main_arg1) (Cert.DgradIdeal.Gen.V m c Cert.DgradIdeal.main_arg2) (Cert.DgradIdeal.Gen.V m c Cert.DgradIdeal.main_arg3) (Cert.DgradIdeal.Gen.V m c Cert.DgradIdeal.main_arg4) (Cert.DgradIdeal.Gen.V m c Cert.DgradIdeal.main_arg5) (Cert.DgradIdeal.Gen.V m c Cert.DgradIdeal.main_arg6) (Cert.DgradIdeal.Gen.V m c Cert.DgradIdeal.main_arg7) (Cert.DgradIdeal.Gen.V m c Cert.DgradIdeal.main_arg8),
    fun c => Math.dgamma (Cert.DgradIdeal.Gen.V m c Cert.DgradIdeal.main_arg1) (Cert.DgradIdeal.Gen.V m c Cert.DgradIdeal.main_arg2) (Cert.DgradIdeal.Gen.V m c Cert.DgradIdeal.main_arg3) (Cert.DgradIdeal.Gen.V m c Cert.DgradIdeal.main_arg4) (Cert.DgradIdeal.Gen.V m c Cert.DgradIdeal.main_arg6) (Cert.DgradIdeal.Gen.V m c Cert.DgradIdeal.main_arg7) (Cert.DgradIdeal.Gen.V m c Cert.DgradIdeal.main_arg8),
    fun c => Math.xCodes (Cert.DgradIdeal.Gen.V m c Cert.DgradIdeal.main_arg0) (Cert.DgradIdeal.Gen.V m c Cert.DgradIdeal.main_arg4) (Cert.DgradIdeal.Gen.V m c Cert.DgradIdeal.main_arg5) (Cert.DgradIdeal.Gen.V m c Cert.DgradIdeal.main_arg8),
    fun c => Math.dyCodes (Cert.DgradIdeal.Gen.V m c Cert.DgradIdeal.main_arg1) (Cert.DgradIdeal.Gen.V m c Cert.DgradIdeal.main_arg6), ?_, ?_⟩
  · exact (θ_run Cert.DgradIdeal.defs _ _).mono (fun _ h c => ⟨(h c).1.trans (DgradKernel.final9 m c), (h c).2.1.trans (DgradKernel.final10 m c),
      (h c).2.2.1.trans (DgradKernel.final11 m c), (h c).2.2.2.1.trans (DgradKernel.final12 m c), (h c).2.2.2.2⟩)
      (Cert.DgradIdeal.Hand.run_blocks (F := Ideal) m ρ)
  · refine (θ_run Cert.DgradRefIdeal.defs _ _).mono (fun _ h c => ?_) (Cert.DgradRefIdeal.Value.run_blocks (F := Ideal) m' ρ')
    obtain ⟨e0, e1, e2, e3, e4, e5, e6, e7, e8⟩ := hagree c
    refine ⟨(h c).1.trans ((DgradRef.final9 m' c).trans ?_), (h c).2.1.trans ((DgradRef.final10 m' c).trans ?_),
      (h c).2.2.1.trans ((DgradRef.final11 m' c).trans ?_), (h c).2.2.2.1.trans ((DgradRef.final12 m' c).trans ?_), (h c).2.2.2.2⟩
    · exact congr (congr (congr (congr (congr (congr (congr (congrArg Math.dx e1) e2) e3) e4) e5) e6) e7) e8
    · exact congr (congr (congr (congr (congr (congr (congrArg Math.dgamma e1) e2) e3) e4) e6) e7) e8
    · exact congr (congr (congr (congrArg Math.xCodes e0) e4) e5) e8
    · exact congr (congrArg Math.dyCodes e1) e6

end Cert.Proof.One.DgradClaim

end
-- ==== Proof.OneWgradKernel.lean ====
/-
  What the idealized weight gradient call leaves in its result: at every grid point a strip of 256 rows of the product,
  so in the whole array `Cert.Math.wgrad` of the four arguments.
-/
module

public import proofs.«01_k».proof.Proof.Arith
public import proofs.«01_k».proof.Proof.Gen.WgradIdeal.Value
public import Idealize.ShloMosaic.Lib.Pointwise

@[expose] public section

noncomputable section

namespace Cert.Proof.One.WgradKernel

open Cert.WgradIdeal Cert.WgradIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The one-element shape has one index. -/
theorem eq_one (i : S1.Idx) : i = ix1 0 := by
  funext a; match a with | ⟨0, _⟩ => exact Fin.ext (by have := (i 0).isLt; change (i 0 : Nat) < 1 at this; show (i 0 : Nat) = 0; omega)

/-- The block indices of the windows at every grid point: the codes' column strip and the result's row strip are the
    point's own, everything else is whole. -/
theorem index_facts : ∀ t : Fin grid0.N,
    win0_0.index t 0 = 0 ∧ win0_1.index t 0 = 0 ∧ win0_2.index t 0 = 0 ∧ win0_2.index t 1 = t.val
    ∧ win0_3.index t 0 = 0 ∧ win0_3.index t 1 = 0 ∧ win0_4.index t 0 = t.val ∧ win0_4.index t 1 = 0 := by
  decide +kernel

/-- The body's payload at an index: the sum over the tokens, times the product of the scales. -/
theorem pay_apply (a b : Elt Ideal .f32) (x : Vec Ideal S1536x256 .fp8e4m3) (y : Vec Ideal S1536x2304 .fp8e5m2) (j : S256x2304.Idx) :
    k0_pay1 a b x y j = (∑ k : Fin 1536, x (ix2 k (j 0)) * y (ix2 k (j 1))) * (a * b) := by
  unfold k0_pay1
  simp only [pointwise]
  simp

/-- What a point leaves in the result's staging buffer is the payload of the blocks it was given. -/
theorem outs_eq (c : Dev nD) (t : Fin cfg0.N) (j : S256x2304.Idx) :
    outsAt0 m c t j = k0_pay1 (iblk m c 0 t (ix1 0)) (iblk m c 1 t (ix1 0)) (iblk m c 2 t) (iblk m c 3 t) j := by
  unfold outsAt0 out0_A_4
  rw [View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t))]
  unfold kernelRun0_A
  dsimp only
  sl_unfold_words
  simp only [View.readAt_eq_ld, (hs0_0 t).read_unread, (hs0_1 t).read_unread, (hs0_2 t).read_unread, (hs0_3 t).read_unread]
  rw [View.canon_unit_zero hz2]
  simp only [View.ld_unit_zero (S := S1536x256) hz2, View.ld_unit_zero (S := S1536x2304) hz2]
  have e0 : View.ld (iblk m c 0 t) (Rect.unit ![0] S1.size inb_S1_S1_0) = iblk m c 0 t := View.ld_unit_zero (S := S1) hz1 _ _
  have e1 : View.ld (iblk m c 1 t) (Rect.unit ![0] S1.size inb_S1_S1_0) = iblk m c 1 t := View.ld_unit_zero (S := S1) hz1 _ _
  rw [show (Shape.Idx.first _ : S1.Idx) = ix1 0 from eq_one _]
  erw [e0, e1]

/-- The result of the call. -/
abbrev G (c : Dev nD) : Math.Mat 7168 2304 :=
  Math.wgrad (V m c main_arg0) (V m c main_arg1) (V m c main_arg2) (V m c main_arg3)

/-- What point `t` writes back is the strip of `G` it is written to. -/
theorem flushed_eq (c : Dev nD) (t : Fin cfg0.N) :
    (dats m 0 c).flushed 4 t = ((cfg0.win 4).blk t).view.read (Elt Ideal) (G m c) := by
  rw [Value.flushed4]
  obtain ⟨e0, e1, e20, e21, e30, e31, e40, e41⟩ := index_facts t
  funext j
  show outsAt0 m c t j = G m c ((win0_4.rect t).emb j)
  rw [outs_eq, pay_apply]
  unfold G Math.wgrad
  have h0 : iblk m c 0 t (ix1 0) = V m c main_arg0 (ix1 0) := congrArg (V m c main_arg0) (eq_one _)
  have h1 : iblk m c 1 t (ix1 0) = V m c main_arg1 (ix1 0) := congrArg (V m c main_arg1) (eq_one _)
  have h2 (k : Fin 1536) : iblk m c 2 t (ix2 k (j 0)) = V m c main_arg2 (ix2 k ((win0_4.rect t).emb j 0)) := by
    refine congrArg (V m c main_arg2) (Shape.idx_ext₂ ?_ ?_)
    · refine (win0_2.rect_emb_val t (ix2 k (j 0)) 0).trans ?_
      rw [e20]; simp
    · refine (win0_2.rect_emb_val t (ix2 k (j 0)) 1).trans (Eq.trans ?_ (win0_4.rect_emb_val t j 0).symm)
      rw [e21, e40]; rfl
  have h3 (k : Fin 1536) : iblk m c 3 t (ix2 k (j 1)) = V m c main_arg3 (ix2 k ((win0_4.rect t).emb j 1)) := by
    refine congrArg (V m c main_arg3) (Shape.idx_ext₂ ?_ ?_)
    · refine (win0_3.rect_emb_val t (ix2 k (j 1)) 0).trans ?_
      rw [e30]; simp
    · refine (win0_3.rect_emb_val t (ix2 k (j 1)) 1).trans (Eq.trans ?_ (win0_4.rect_emb_val t j 1).symm)
      rw [e31, e41]; rfl
  simp only [h0, h1, h2, h3]

/-- The strips cover the result. -/
theorem cover (i : S7168x2304.Idx) : ∃ t : Fin cfg0.N, (cfg0.win 4).flush t = true ∧ i ∈ ((cfg0.win 4).blk t).view.set := by
  have h0 : (i 0 : Nat) < 7168 := (i 0).isLt
  have h1 : (i 1 : Nat) < 2304 := (i 1).isLt
  have hN : cfg0.N = 28 := N_0
  have ht : (i 0 : Nat) / 256 < cfg0.N := by rw [hN]; omega
  refine ⟨⟨(i 0 : Nat) / 256, ht⟩, flush0_4 _, ?_⟩
  obtain ⟨-, -, -, -, -, -, e40, e41⟩ := index_facts ⟨(i 0 : Nat) / 256, ht⟩
  show i ∈ ((View.whole main_v0).slice (win0_4.rect ⟨(i 0 : Nat) / 256, ht⟩)).set
  rw [View.set_slice_whole, Rect.mem_set_unit]
  intro a
  match a with
  | ⟨0, _⟩ =>
    show win0_4.index _ 0 * 256 ≤ (i 0 : Nat) ∧ (i 0 : Nat) < win0_4.index _ 0 * 256 + 256
    rw [e40]; dsimp only; omega
  | ⟨1, _⟩ =>
    show win0_4.index _ 1 * 2304 ≤ (i 1 : Nat) ∧ (i 1 : Nat) < win0_4.index _ 1 * 2304 + 2304
    rw [e41]; omega

/-- So the result array ends at `G`. -/
theorem final (c : Dev nD) : (dats m 0 c).arrAt 4 cfg0.N = G m c :=
  (dats m 0 c).arrAt_eq_of_cover 4 (G m c) (fun t _ => flushed_eq m c t) cover

end Cert.Proof.One.WgradKernel

end
-- ==== Proof.OneWgradRef.lean ====
/-
  What the idealized weight gradient reference leaves in its result: `Cert.Math.wgrad` of its four arguments.
-/
module

public import proofs.«01_k».proof.Proof.Arith
public import proofs.«01_k».proof.Proof.Gen.WgradRefIdeal.Value
public import Idealize.ShloMosaic.Lib.Pointwise

@[expose] public section

noncomputable section

namespace Cert.Proof.One.WgradRef

open Cert.WgradRefIdeal Cert.WgradRefIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The one point's blocks are the whole arrays. -/
theorem index_facts : ∀ t : Fin grid0.N,
    win0_0.index t 0 = 0 ∧ win0_1.index t 0 = 0 ∧ win0_2.index t 0 = 0 ∧ win0_2.index t 1 = 0
    ∧ win0_3.index t 0 = 0 ∧ win0_3.index t 1 = 0 ∧ win0_4.index t 0 = 0 ∧ win0_4.index t 1 = 0 := by
  decide +kernel

theorem blk2 (c : Dev nD) (t : Fin cfg0.N) : iblk m c 2 t = V m c main_arg2 := by
  funext y
  refine congrArg (V m c main_arg2) (Shape.idx_ext₂ ?_ ?_)
  · exact win0_2.rect_emb_val_of_index_zero t 0 (index_facts t).2.2.1 y
  · exact win0_2.rect_emb_val_of_index_zero t 1 (index_facts t).2.2.2.1 y
theorem blk3 (c : Dev nD) (t : Fin cfg0.N) : iblk m c 3 t = V m c main_arg3 := by
  funext y
  refine congrArg (V m c main_arg3) (Shape.idx_ext₂ ?_ ?_)
  · exact win0_3.rect_emb_val_of_index_zero t 0 (index_facts t).2.2.2.2.1 y
  · exact win0_3.rect_emb_val_of_index_zero t 1 (index_facts t).2.2.2.2.2.1 y

/-- The body's payload at an index: the sum over the tokens, times the product of the scales. -/
theorem pay_apply (a b : Elt Ideal .f32) (x : Vec Ideal S1536x7168 .fp8e4m3) (y : Vec Ideal S1536x2304 .fp8e5m2) (j : S7168x2304.Idx) :
    k0_pay1 x y a b j = (∑ k : Fin 1536, x (ix2 k (j 0)) * y (ix2 k (j 1))) * (a * b) := by
  unfold k0_pay1
  simp only [pointwise]
  simp

theorem hz2 : (![0, 0] : Fin 2 → Nat) = fun _ => 0 := funext fun a => by fin_cases a <;> rfl

/-- What the point leaves in the result's staging buffer is the payload of the arrays. -/
theorem outs_eq (c : Dev nD) (t : Fin cfg0.N) :
    outsAt0 m c t = Math.wgrad (V m c main_arg0) (V m c main_arg1) (V m c main_arg2) (V m c main_arg3) := by
  unfold outsAt0 out0_A_4
  rw [View.read_writes_eq_canon _ _ _ (cover0_A_4 c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t))]
  unfold kernelRun0_A
  dsimp only
  sl_unfold_words
  simp only [View.readAt_eq_ld, (hs0_0 t).read_unread, (hs0_1 t).read_unread, (hs0_2 t).read_unread, (hs0_3 t).read_unread]
  rw [View.canon_unit_zero hz2]
  simp only [View.ld_unit_zero (S := S1536x7168) hz2, View.ld_unit_zero (S := S1536x2304) hz2]
  funext j
  rw [pay_apply, blk2, blk3]
  have eq_one (i : S1.Idx) : i = ix1 0 := by
    funext a; match a with | ⟨0, _⟩ => exact Fin.ext (by have := (i 0).isLt; change (i 0 : Nat) < 1 at this; show (i 0 : Nat) = 0; omega)
  have h0 (i : S1.Idx) : iblk m c 0 t i = V m c main_arg0 (ix1 0) := congrArg (V m c main_arg0) (eq_one _)
  have h1 (i : S1.Idx) : iblk m c 1 t i = V m c main_arg1 (ix1 0) := congrArg (V m c main_arg1) (eq_one _)
  have h (i : S1.Idx) : View.ld (iblk m c 0 t) (Rect.unit ![0] S1.size inb_S1_S1_0) i = V m c main_arg0 (ix1 0) := h0 _
  have h' (i : S1.Idx) : View.ld (iblk m c 1 t) (Rect.unit ![0] S1.size inb_S1_S1_0) i = V m c main_arg1 (ix1 0) := h1 _
  exact congrArg (fun s : EReal => (_ : EReal) * s) (congrArg₂ (fun a b : EReal => a * b) (h _) (h' _))

/-- The result array ends at the weight gradient of the arguments. -/
theorem final (c : Dev nD) :
    (dats m 0 c).arrAt 4 cfg0.N = Math.wgrad (V m c main_arg0) (V m c main_arg1) (V m c main_arg2) (V m c main_arg3) := by
  refine (dats m 0 c).arrAt_eq_of_cover 4 _ (fun t _ => ?_) fun i => ?_
  · rw [Value.flushed4]
    funext j
    show outsAt0 m c t j = _
    rw [outs_eq]
    refine congrArg (Math.wgrad _ _ _ _) (Shape.idx_ext₂ ?_ ?_)
    · exact (win0_4.rect_emb_val_of_index_zero t 0 (index_facts t).2.2.2.2.2.2.1 j).symm
    · exact (win0_4.rect_emb_val_of_index_zero t 1 (index_facts t).2.2.2.2.2.2.2 j).symm
  · refine ⟨t0_0, flush0_4 _, ?_⟩
    obtain ⟨-, -, -, -, -, -, e40, e41⟩ := index_facts t0_0
    show i ∈ ((View.whole main_v0).slice (win0_4.rect t0_0)).set
    rw [View.set_slice_whole, Rect.mem_set_unit]
    have h0 : (i 0 : Nat) < 7168 := (i 0).isLt
    have h1 : (i 1 : Nat) < 2304 := (i 1).isLt
    intro a
    match a with
    | ⟨0, _⟩ =>
      show win0_4.index _ 0 * 7168 ≤ (i 0 : Nat) ∧ (i 0 : Nat) < win0_4.index _ 0 * 7168 + 7168
      rw [e40]; omega
    | ⟨1, _⟩ =>
      show win0_4.index _ 1 * 2304 ≤ (i 1 : Nat) ∧ (i 1 : Nat) < win0_4.index _ 1 * 2304 + 2304
      rw [e41]; omega

end Cert.Proof.One.WgradRef

end
-- ==== Proof.OneWgradClaim.lean ====
/-
  The weight gradient call and its reference leave the same result on the same arguments.
-/
module

public import proofs.«01_k».proof.Defs
public import proofs.«01_k».proof.Proof.OneWgradKernel
public import proofs.«01_k».proof.Proof.OneWgradRef
public import proofs.«01_k».proof.Proof.Gen.WgradIdeal
public import proofs.«01_k».proof.Proof.Gen.WgradRefIdeal

@[expose] public section

noncomputable section

namespace Cert.Proof.One.WgradClaim

open Idealize.ShloMosaic Idealize.ShloMosaic.TcCoe Idealize.SL.Sem

theorem algebraic : Cert.algebraic_WgradIdeal_WgradRefIdeal := by
  intro m ρ m' ρ' _ hagree
  refine ⟨fun c => WgradKernel.G m c, ?_, ?_⟩
  · exact (θ_run Cert.WgradIdeal.defs _ _).mono (fun _ h c => ⟨(h c).1.trans (WgradKernel.final m c), (h c).2⟩)
      (Cert.WgradIdeal.Value.run_blocks (F := Ideal) m ρ)
  · refine (θ_run Cert.WgradRefIdeal.defs _ _).mono (fun _ h c => ⟨(h c).1.trans ((WgradRef.final m' c).trans ?_), (h c).2⟩)
      (Cert.WgradRefIdeal.Value.run_blocks (F := Ideal) m' ρ')
    obtain ⟨e0, e1, e2, e3⟩ := hagree c
    exact congr (congr (congr (congrArg Math.wgrad e0) e1) e2) e3

end Cert.Proof.One.WgradClaim

end
-- ==== Proof.lean ====
/-
  The proof of `Cert.Claim`: of the whole program and of each of its three calls alone, the frames of the program as printed,
  of its idealization and of its reference, and that program and reference leave the same results.
-/
module

public import proofs.«01_k».proof.Defs
public import proofs.«01_k».proof.Proof.Gen.Whole
public import proofs.«01_k».proof.Proof.Gen.WholeIdeal
public import proofs.«01_k».proof.Proof.Gen.WholeRefIdeal
public import proofs.«01_k».proof.Proof.Gen.WholeRefIdeal.Frame
public import proofs.«01_k».proof.Proof.RawWholeRun
public import proofs.«01_k».proof.Proof.WholeRun
public import proofs.«01_k».proof.Proof.WholeClaim
public import proofs.«01_k».proof.Proof.Gen.Stats
public import proofs.«01_k».proof.Proof.Gen.StatsIdeal
public import proofs.«01_k».proof.Proof.Gen.StatsRefIdeal
public import proofs.«01_k».proof.Proof.Gen.StatsRefIdeal.Frame
public import proofs.«01_k».proof.Proof.Gen.Dgrad
public import proofs.«01_k».proof.Proof.Gen.DgradIdeal
public import proofs.«01_k».proof.Proof.Gen.DgradRefIdeal
public import proofs.«01_k».proof.Proof.Gen.DgradRefIdeal.Frame
public import proofs.«01_k».proof.Proof.Gen.Wgrad
public import proofs.«01_k».proof.Proof.Gen.Wgrad.Frame
public import proofs.«01_k».proof.Proof.Gen.WgradIdeal
public import proofs.«01_k».proof.Proof.Gen.WgradIdeal.Frame
public import proofs.«01_k».proof.Proof.Gen.WgradIdeal.Value
public import proofs.«01_k».proof.Proof.Gen.WgradRefIdeal
public import proofs.«01_k».proof.Proof.Gen.WgradRefIdeal.Frame
public import proofs.«01_k».proof.Proof.Gen.WgradRefIdeal.Value
public import proofs.«01_k».proof.Proof.OneRawStatsFrame
public import proofs.«01_k».proof.Proof.OneStatsFrame
public import proofs.«01_k».proof.Proof.OneStatsClaim
public import proofs.«01_k».proof.Proof.OneRawFrame
public import proofs.«01_k».proof.Proof.OneDgradFrame
public import proofs.«01_k».proof.Proof.OneDgradClaim
public import proofs.«01_k».proof.Proof.OneWgradClaim

@[expose] public section

noncomputable section

namespace Cert.Proof

theorem claim : Cert.Claim := ⟨Cert.Whole.Gen.facts, Cert.WholeIdeal.Gen.facts, Cert.WholeRefIdeal.Gen.facts,
  Cert.Stats.Gen.facts, Cert.StatsIdeal.Gen.facts, Cert.StatsRefIdeal.Gen.facts,
  Cert.Dgrad.Gen.facts, Cert.DgradIdeal.Gen.facts, Cert.DgradRefIdeal.Gen.facts,
  Cert.Wgrad.Gen.facts, Cert.WgradIdeal.Gen.facts, Cert.WgradRefIdeal.Gen.facts,
  fun m ρ _ => Cert.Whole.Run.frame m ρ,
  fun m ρ _ => Cert.WholeIdeal.Run.frame m ρ,
  fun m ρ _ => Cert.WholeRefIdeal.Gen.frame m ρ,
  fun m ρ _ => Cert.Stats.Hand.frame m ρ,
  fun m ρ _ => Cert.StatsIdeal.Hand.frame m ρ,
  fun m ρ _ => Cert.StatsRefIdeal.Gen.frame m ρ,
  fun m ρ _ => Cert.Dgrad.Hand.frame m ρ,
  fun m ρ _ => Cert.DgradIdeal.Hand.frame m ρ,
  fun m ρ _ => Cert.DgradRefIdeal.Gen.frame m ρ,
  fun m ρ _ => Cert.Wgrad.Gen.frame m ρ,
  fun m ρ _ => Cert.WgradIdeal.Gen.frame m ρ,
  fun m ρ _ => Cert.WgradRefIdeal.Gen.frame m ρ,
  trivial,
  WholeClaim.algebraic,
  trivial,
  One.StatsClaim.algebraic,
  trivial,
  One.DgradClaim.algebraic,
  trivial,
  One.WgradClaim.algebraic⟩

end Cert.Proof

end
